-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Experts [hPre_expert_range : Cert.Pre_expert_range.Facts] (m : (ℓ : Loc Cert.Experts.nD Cert.Experts.τ Cert.Experts.sig) → Buf (Elt Bits) ℓ) : Prop :=
  ∀ c : Dev Cert.Experts.nD,
    (Cert.Pre_expert_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_expert_range : Cert.Pre_expert_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_expert_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_PlainExpertsIdeal (m : (ℓ : Loc Cert.PlainExpertsIdeal.nD Cert.PlainExpertsIdeal.τ Cert.PlainExpertsIdeal.sig) → Buf (Elt Ideal) ℓ) : Prop :=
  True

def Pre_PlainExpertsIdeal_expert_range [hPre_expert_range : Cert.Pre_expert_range.Facts] (m : (ℓ : Loc Cert.PlainExpertsIdeal.nD Cert.PlainExpertsIdeal.τ Cert.PlainExpertsIdeal.sig) → Buf (Elt Ideal) ℓ) : Prop :=
  ∀ c : Dev Cert.PlainExpertsIdeal.nD,
    (Cert.Pre_expert_range.fn (F := Ideal) (m ((c.tc : Thread Cert.PlainExpertsIdeal.nD Cert.PlainExpertsIdeal.τ).loc Cert.PlainExpertsIdeal.main_arg0)) (m ((c.tc : Thread Cert.PlainExpertsIdeal.nD Cert.PlainExpertsIdeal.τ).loc Cert.PlainExpertsIdeal.main_arg1)) (m ((c.tc : Thread Cert.PlainExpertsIdeal.nD Cert.PlainExpertsIdeal.τ).loc Cert.PlainExpertsIdeal.main_arg2)) (m ((c.tc : Thread Cert.PlainExpertsIdeal.nD Cert.PlainExpertsIdeal.τ).loc Cert.PlainExpertsIdeal.main_arg3)) (m ((c.tc : Thread Cert.PlainExpertsIdeal.nD Cert.PlainExpertsIdeal.τ).loc Cert.PlainExpertsIdeal.main_arg4))) = (fun _ => 1#1)

def Pre_Context (m : (ℓ : Loc Cert.Context.nD Cert.Context.τ Cert.Context.sig) → Buf (Elt Bits) ℓ) : Prop :=
  True

def Pre_ContextIdeal (m : (ℓ : Loc Cert.ContextIdeal.nD Cert.ContextIdeal.τ Cert.ContextIdeal.sig) → Buf (Elt Ideal) ℓ) : Prop :=
  True

def Pre_ContextIdeal_context_finite [hPre_context_finite : Cert.Pre_context_finite.Facts] (m : (ℓ : Loc Cert.ContextIdeal.nD Cert.ContextIdeal.τ Cert.ContextIdeal.sig) → Buf (Elt Ideal) ℓ) : Prop :=
  ∀ c : Dev Cert.ContextIdeal.nD,
    (Cert.Pre_context_finite.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4)) (m ((c.tc : Thread Cert.ContextIdeal.nD Cert.ContextIdeal.τ).loc Cert.ContextIdeal.main_arg5)) (m ((c.tc : Thread Cert.ContextIdeal.nD Cert.ContextIdeal.τ).loc Cert.ContextIdeal.main_arg6)) (m ((c.tc : Thread Cert.ContextIdeal.nD Cert.ContextIdeal.τ).loc Cert.ContextIdeal.main_arg7)) (m ((c.tc : Thread Cert.ContextIdeal.nD Cert.ContextIdeal.τ).loc Cert.ContextIdeal.main_arg8)) (m ((c.tc : Thread Cert.ContextIdeal.nD Cert.ContextIdeal.τ).loc Cert.ContextIdeal.main_arg9)) (m ((c.tc : Thread Cert.ContextIdeal.nD Cert.ContextIdeal.τ).loc Cert.ContextIdeal.main_arg10)) (m ((c.tc : Thread Cert.ContextIdeal.nD Cert.ContextIdeal.τ).loc Cert.ContextIdeal.main_arg11)) (m ((c.tc : Thread Cert.ContextIdeal.nD Cert.ContextIdeal.τ).loc Cert.ContextIdeal.main_arg12)) (m ((c.tc : Thread Cert.ContextIdeal.nD Cert.ContextIdeal.τ).loc Cert.ContextIdeal.main_arg13)) (m ((c.tc : Thread Cert.ContextIdeal.nD Cert.ContextIdeal.τ).loc Cert.ContextIdeal.main_arg14)) (m ((c.tc : Thread Cert.ContextIdeal.nD Cert.ContextIdeal.τ).loc Cert.ContextIdeal.main_arg15))) = (fun _ => 1#1)

def Pre_PlainContextIdeal (m : (ℓ : Loc Cert.PlainContextIdeal.nD Cert.PlainContextIdeal.τ Cert.PlainContextIdeal.sig) → Buf (Elt Ideal) ℓ) : Prop :=
  True

def Pre_PlainContextIdeal_context_finite [hPre_context_finite : Cert.Pre_context_finite.Facts] (m : (ℓ : Loc Cert.PlainContextIdeal.nD Cert.PlainContextIdeal.τ Cert.PlainContextIdeal.sig) → Buf (Elt Ideal) ℓ) : Prop :=
  ∀ c : Dev Cert.PlainContextIdeal.nD,
    (Cert.Pre_context_finite.fn (F := Ideal) (m ((c.tc : Thread Cert.PlainContextIdeal.nD Cert.PlainContextIdeal.τ).loc Cert.PlainContextIdeal.main_arg0)) (m ((c.tc : Thread Cert.PlainContextIdeal.nD Cert.PlainContextIdeal.τ).loc Cert.PlainContextIdeal.main_arg1)) (m ((c.tc : Thread Cert.PlainContextIdeal.nD Cert.PlainContextIdeal.τ).loc Cert.PlainContextIdeal.main_arg2)) (m ((c.tc : Thread Cert.PlainContextIdeal.nD Cert.PlainContextIdeal.τ).loc Cert.PlainContextIdeal.main_arg3)) (m ((c.tc : Thread Cert.PlainContextIdeal.nD Cert.PlainContextIdeal.τ).loc Cert.PlainContextIdeal.main_arg4)) (m ((c.tc : Thread Cert.PlainContextIdeal.nD Cert.PlainContextIdeal.τ).loc Cert.PlainContextIdeal.main_arg5)) (m ((c.tc : Thread Cert.PlainContextIdeal.nD Cert.PlainContextIdeal.τ).loc Cert.PlainContextIdeal.main_arg6)) (m ((c.tc : Thread Cert.PlainContextIdeal.nD Cert.PlainContextIdeal.τ).loc Cert.PlainContextIdeal.main_arg7)) (m ((c.tc : Thread Cert.PlainContextIdeal.nD Cert.PlainContextIdeal.τ).loc Cert.PlainContextIdeal.main_arg8)) (m ((c.tc : Thread Cert.PlainContextIdeal.nD Cert.PlainContextIdeal.τ).loc Cert.PlainContextIdeal.main_arg9)) (m ((c.tc : Thread Cert.PlainContextIdeal.nD Cert.PlainContextIdeal.τ).loc Cert.PlainContextIdeal.main_arg10)) (m ((c.tc : Thread Cert.PlainContextIdeal.nD Cert.PlainContextIdeal.τ).loc Cert.PlainContextIdeal.main_arg11)) (m ((c.tc : Thread Cert.PlainContextIdeal.nD Cert.PlainContextIdeal.τ).loc Cert.PlainContextIdeal.main_arg12)) (m ((c.tc : Thread Cert.PlainContextIdeal.nD Cert.PlainContextIdeal.τ).loc Cert.PlainContextIdeal.main_arg13)) (m ((c.tc : Thread Cert.PlainContextIdeal.nD Cert.PlainContextIdeal.τ).loc Cert.PlainContextIdeal.main_arg14)) (m ((c.tc : Thread Cert.PlainContextIdeal.nD Cert.PlainContextIdeal.τ).loc Cert.PlainContextIdeal.main_arg15))) = (fun _ => 1#1)

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_PlainLatentIdeal (m : (ℓ : Loc Cert.PlainLatentIdeal.nD Cert.PlainLatentIdeal.τ Cert.PlainLatentIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_PlainProjectionIdeal (m : (ℓ : Loc Cert.PlainProjectionIdeal.nD Cert.PlainProjectionIdeal.τ Cert.PlainProjectionIdeal.sig) → Buf (Elt Ideal) ℓ) : Prop :=
  True

def Pre_Rotary (m : (ℓ : Loc Cert.Rotary.nD Cert.Rotary.τ Cert.Rotary.sig) → Buf (Elt Bits) ℓ) : Prop :=
  True

def Pre_RotaryIdeal (m : (ℓ : Loc Cert.RotaryIdeal.nD Cert.RotaryIdeal.τ Cert.RotaryIdeal.sig) → Buf (Elt Ideal) ℓ) : Prop :=
  True

def Pre_PlainRotaryIdeal (m : (ℓ : Loc Cert.PlainRotaryIdeal.nD Cert.PlainRotaryIdeal.τ Cert.PlainRotaryIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_PlainOutputIdeal (m : (ℓ : Loc Cert.PlainOutputIdeal.nD Cert.PlainOutputIdeal.τ Cert.PlainOutputIdeal.sig) → Buf (Elt Ideal) ℓ) : Prop :=
  True

def Pre_ContextOutput (m : (ℓ : Loc Cert.ContextOutput.nD Cert.ContextOutput.τ Cert.ContextOutput.sig) → Buf (Elt Bits) ℓ) : Prop :=
  True

def Pre_ContextOutputIdeal (m : (ℓ : Loc Cert.ContextOutputIdeal.nD Cert.ContextOutputIdeal.τ Cert.ContextOutputIdeal.sig) → Buf (Elt Ideal) ℓ) : Prop :=
  True

def Pre_PlainContextOutputIdeal (m : (ℓ : Loc Cert.PlainContextOutputIdeal.nD Cert.PlainContextOutputIdeal.τ Cert.PlainContextOutputIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] [hPre_expert_range : Cert.Pre_expert_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_expert_range : Cert.Pre_expert_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_PlainExpertsIdeal [hPlainExpertsIdeal : Cert.PlainExpertsIdeal.Facts] : Prop :=
  ∀ (m : (ℓ : Loc Cert.PlainExpertsIdeal.nD Cert.PlainExpertsIdeal.τ Cert.PlainExpertsIdeal.sig) → Buf (Elt Ideal) ℓ) (g : Dev Cert.PlainExpertsIdeal.nD → PrngReg), Pre_PlainExpertsIdeal m →
    θ_run (Cert.PlainExpertsIdeal.defs (F := Ideal)) (onTc (τ := Cert.PlainExpertsIdeal.τ) (Cert.PlainExpertsIdeal.main (F := Ideal))) ⟨m, fun _ => 0, g⟩ (fun r => (∀ c : Dev Cert.PlainExpertsIdeal.nD,
      r.2.mem ((c.tc : Thread Cert.PlainExpertsIdeal.nD Cert.PlainExpertsIdeal.τ).loc Cert.PlainExpertsIdeal.main_arg0) = m ((c.tc : Thread Cert.PlainExpertsIdeal.nD Cert.PlainExpertsIdeal.τ).loc Cert.PlainExpertsIdeal.main_arg0)
      ∧ r.2.mem ((c.tc : Thread Cert.PlainExpertsIdeal.nD Cert.PlainExpertsIdeal.τ).loc Cert.PlainExpertsIdeal.main_arg1) = m ((c.tc : Thread Cert.PlainExpertsIdeal.nD Cert.PlainExpertsIdeal.τ).loc Cert.PlainExpertsIdeal.main_arg1)
      ∧ r.2.mem ((c.tc : Thread Cert.PlainExpertsIdeal.nD Cert.PlainExpertsIdeal.τ).loc Cert.PlainExpertsIdeal.main_arg2) = m ((c.tc : Thread Cert.PlainExpertsIdeal.nD Cert.PlainExpertsIdeal.τ).loc Cert.PlainExpertsIdeal.main_arg2)
      ∧ r.2.mem ((c.tc : Thread Cert.PlainExpertsIdeal.nD Cert.PlainExpertsIdeal.τ).loc Cert.PlainExpertsIdeal.main_arg3) = m ((c.tc : Thread Cert.PlainExpertsIdeal.nD Cert.PlainExpertsIdeal.τ).loc Cert.PlainExpertsIdeal.main_arg3)
      ∧ r.2.mem ((c.tc : Thread Cert.PlainExpertsIdeal.nD Cert.PlainExpertsIdeal.τ).loc Cert.PlainExpertsIdeal.main_arg4) = m ((c.tc : Thread Cert.PlainExpertsIdeal.nD Cert.PlainExpertsIdeal.τ).loc Cert.PlainExpertsIdeal.main_arg4))
      ∧ r.2.sem = fun _ => 0)

def quiescent_PlainExpertsIdeal_pre_expert_range [hPlainExpertsIdeal : Cert.PlainExpertsIdeal.Facts] [hPre_expert_range : Cert.Pre_expert_range.Facts] : Prop :=
  ∀ (m : (ℓ : Loc Cert.PlainExpertsIdeal.nD Cert.PlainExpertsIdeal.τ Cert.PlainExpertsIdeal.sig) → Buf (Elt Ideal) ℓ) (g : Dev Cert.PlainExpertsIdeal.nD → PrngReg), Pre_PlainExpertsIdeal_expert_range m →
    θ_run (Cert.PlainExpertsIdeal.defs (F := Ideal)) (onTc (τ := Cert.PlainExpertsIdeal.τ) (Cert.PlainExpertsIdeal.main (F := Ideal))) ⟨m, fun _ => 0, g⟩ (fun r => (∀ c : Dev Cert.PlainExpertsIdeal.nD,
      r.2.mem ((c.tc : Thread Cert.PlainExpertsIdeal.nD Cert.PlainExpertsIdeal.τ).loc Cert.PlainExpertsIdeal.main_arg0) = m ((c.tc : Thread Cert.PlainExpertsIdeal.nD Cert.PlainExpertsIdeal.τ).loc Cert.PlainExpertsIdeal.main_arg0)
      ∧ r.2.mem ((c.tc : Thread Cert.PlainExpertsIdeal.nD Cert.PlainExpertsIdeal.τ).loc Cert.PlainExpertsIdeal.main_arg1) = m ((c.tc : Thread Cert.PlainExpertsIdeal.nD Cert.PlainExpertsIdeal.τ).loc Cert.PlainExpertsIdeal.main_arg1)
      ∧ r.2.mem ((c.tc : Thread Cert.PlainExpertsIdeal.nD Cert.PlainExpertsIdeal.τ).loc Cert.PlainExpertsIdeal.main_arg2) = m ((c.tc : Thread Cert.PlainExpertsIdeal.nD Cert.PlainExpertsIdeal.τ).loc Cert.PlainExpertsIdeal.main_arg2)
      ∧ r.2.mem ((c.tc : Thread Cert.PlainExpertsIdeal.nD Cert.PlainExpertsIdeal.τ).loc Cert.PlainExpertsIdeal.main_arg3) = m ((c.tc : Thread Cert.PlainExpertsIdeal.nD Cert.PlainExpertsIdeal.τ).loc Cert.PlainExpertsIdeal.main_arg3)
      ∧ r.2.mem ((c.tc : Thread Cert.PlainExpertsIdeal.nD Cert.PlainExpertsIdeal.τ).loc Cert.PlainExpertsIdeal.main_arg4) = m ((c.tc : Thread Cert.PlainExpertsIdeal.nD Cert.PlainExpertsIdeal.τ).loc Cert.PlainExpertsIdeal.main_arg4))
      ∧ r.2.sem = fun _ => 0)

def quiescent_Context [hContext : Cert.Context.Facts] : Prop :=
  ∀ (m : (ℓ : Loc Cert.Context.nD Cert.Context.τ Cert.Context.sig) → Buf (Elt Bits) ℓ) (g : Dev Cert.Context.nD → PrngReg), Pre_Context m →
    θ_run (Cert.Context.defs (F := Bits)) (onTc (τ := Cert.Context.τ) (Cert.Context.main (F := Bits))) ⟨m, fun _ => 0, g⟩ (fun r => (∀ c : Dev Cert.Context.nD,
      r.2.mem ((c.tc : Thread Cert.Context.nD Cert.Context.τ).loc Cert.Context.main_arg0) = m ((c.tc : Thread Cert.Context.nD Cert.Context.τ).loc Cert.Context.main_arg0)
      ∧ r.2.mem ((c.tc : Thread Cert.Context.nD Cert.Context.τ).loc Cert.Context.main_arg1) = m ((c.tc : Thread Cert.Context.nD Cert.Context.τ).loc Cert.Context.main_arg1)
      ∧ r.2.mem ((c.tc : Thread Cert.Context.nD Cert.Context.τ).loc Cert.Context.main_arg2) = m ((c.tc : Thread Cert.Context.nD Cert.Context.τ).loc Cert.Context.main_arg2)
      ∧ r.2.mem ((c.tc : Thread Cert.Context.nD Cert.Context.τ).loc Cert.Context.main_arg3) = m ((c.tc : Thread Cert.Context.nD Cert.Context.τ).loc Cert.Context.main_arg3)
      ∧ r.2.mem ((c.tc : Thread Cert.Context.nD Cert.Context.τ).loc Cert.Context.main_arg4) = m ((c.tc : Thread Cert.Context.nD Cert.Context.τ).loc Cert.Context.main_arg4)
      ∧ r.2.mem ((c.tc : Thread Cert.Context.nD Cert.Context.τ).loc Cert.Context.main_arg5) = m ((c.tc : Thread Cert.Context.nD Cert.Context.τ).loc Cert.Context.main_arg5)
      ∧ r.2.mem ((c.tc : Thread Cert.Context.nD Cert.Context.τ).loc Cert.Context.main_arg6) = m ((c.tc : Thread Cert.Context.nD Cert.Context.τ).loc Cert.Context.main_arg6)
      ∧ r.2.mem ((c.tc : Thread Cert.Context.nD Cert.Context.τ).loc Cert.Context.main_arg7) = m ((c.tc : Thread Cert.Context.nD Cert.Context.τ).loc Cert.Context.main_arg7)
      ∧ r.2.mem ((c.tc : Thread Cert.Context.nD Cert.Context.τ).loc Cert.Context.main_arg8) = m ((c.tc : Thread Cert.Context.nD Cert.Context.τ).loc Cert.Context.main_arg8)
      ∧ r.2.mem ((c.tc : Thread Cert.Context.nD Cert.Context.τ).loc Cert.Context.main_arg9) = m ((c.tc : Thread Cert.Context.nD Cert.Context.τ).loc Cert.Context.main_arg9)
      ∧ r.2.mem ((c.tc : Thread Cert.Context.nD Cert.Context.τ).loc Cert.Context.main_arg10) = m ((c.tc : Thread Cert.Context.nD Cert.Context.τ).loc Cert.Context.main_arg10)
      ∧ r.2.mem ((c.tc : Thread Cert.Context.nD Cert.Context.τ).loc Cert.Context.main_arg11) = m ((c.tc : Thread Cert.Context.nD Cert.Context.τ).loc Cert.Context.main_arg11)
      ∧ r.2.mem ((c.tc : Thread Cert.Context.nD Cert.Context.τ).loc Cert.Context.main_arg12) = m ((c.tc : Thread Cert.Context.nD Cert.Context.τ).loc Cert.Context.main_arg12)
      ∧ r.2.mem ((c.tc : Thread Cert.Context.nD Cert.Context.τ).loc Cert.Context.main_arg13) = m ((c.tc : Thread Cert.Context.nD Cert.Context.τ).loc Cert.Context.main_arg13)
      ∧ r.2.mem ((c.tc : Thread Cert.Context.nD Cert.Context.τ).loc Cert.Context.main_arg14) = m ((c.tc : Thread Cert.Context.nD Cert.Context.τ).loc Cert.Context.main_arg14)
      ∧ r.2.mem ((c.tc : Thread Cert.Context.nD Cert.Context.τ).loc Cert.Context.main_arg15) = m ((c.tc : Thread Cert.Context.nD Cert.Context.τ).loc Cert.Context.main_arg15))
      ∧ r.2.sem = fun _ => 0)

def quiescent_ContextIdeal [hContextIdeal : Cert.ContextIdeal.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
      ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
      ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4)
      ∧ r.2.mem ((c.tc : Thread Cert.ContextIdeal.nD Cert.ContextIdeal.τ).loc Cert.ContextIdeal.main_arg5) = m ((c.tc : Thread Cert.ContextIdeal.nD Cert.ContextIdeal.τ).loc Cert.ContextIdeal.main_arg5)
      ∧ r.2.mem ((c.tc : Thread Cert.ContextIdeal.nD Cert.ContextIdeal.τ).loc Cert.ContextIdeal.main_arg6) = m ((c.tc : Thread Cert.ContextIdeal.nD Cert.ContextIdeal.τ).loc Cert.ContextIdeal.main_arg6)
      ∧ r.2.mem ((c.tc : Thread Cert.ContextIdeal.nD Cert.ContextIdeal.τ).loc Cert.ContextIdeal.main_arg7) = m ((c.tc : Thread Cert.ContextIdeal.nD Cert.ContextIdeal.τ).loc Cert.ContextIdeal.main_arg7)
      ∧ r.2.mem ((c.tc : Thread Cert.ContextIdeal.nD Cert.ContextIdeal.τ).loc Cert.ContextIdeal.main_arg8) = m ((c.tc : Thread Cert.ContextIdeal.nD Cert.ContextIdeal.τ).loc Cert.ContextIdeal.main_arg8)
      ∧ r.2.mem ((c.tc : Thread Cert.ContextIdeal.nD Cert.ContextIdeal.τ).loc Cert.ContextIdeal.main_arg9) = m ((c.tc : Thread Cert.ContextIdeal.nD Cert.ContextIdeal.τ).loc Cert.ContextIdeal.main_arg9)
      ∧ r.2.mem ((c.tc : Thread Cert.ContextIdeal.nD Cert.ContextIdeal.τ).loc Cert.ContextIdeal.main_arg10) = m ((c.tc : Thread Cert.ContextIdeal.nD Cert.ContextIdeal.τ).loc Cert.ContextIdeal.main_arg10)
      ∧ r.2.mem ((c.tc : Thread Cert.ContextIdeal.nD Cert.ContextIdeal.τ).loc Cert.ContextIdeal.main_arg11) = m ((c.tc : Thread Cert.ContextIdeal.nD Cert.ContextIdeal.τ).loc Cert.ContextIdeal.main_arg11)
      ∧ r.2.mem ((c.tc : Thread Cert.ContextIdeal.nD Cert.ContextIdeal.τ).loc Cert.ContextIdeal.main_arg12) = m ((c.tc : Thread Cert.ContextIdeal.nD Cert.ContextIdeal.τ).loc Cert.ContextIdeal.main_arg12)
      ∧ r.2.mem ((c.tc : Thread Cert.ContextIdeal.nD Cert.ContextIdeal.τ).loc Cert.ContextIdeal.main_arg13) = m ((c.tc : Thread Cert.ContextIdeal.nD Cert.ContextIdeal.τ).loc Cert.ContextIdeal.main_arg13)
      ∧ r.2.mem ((c.tc : Thread Cert.ContextIdeal.nD Cert.ContextIdeal.τ).loc Cert.ContextIdeal.main_arg14) = m ((c.tc : Thread Cert.ContextIdeal.nD Cert.ContextIdeal.τ).loc Cert.ContextIdeal.main_arg14)
      ∧ r.2.mem ((c.tc : Thread Cert.ContextIdeal.nD Cert.ContextIdeal.τ).loc Cert.ContextIdeal.main_arg15) = m ((c.tc : Thread Cert.ContextIdeal.nD Cert.ContextIdeal.τ).loc Cert.ContextIdeal.main_arg15))
      ∧ r.2.sem = fun _ => 0)

def quiescent_ContextIdeal_pre_context_finite [hContextIdeal : Cert.ContextIdeal.Facts] [hPre_context_finite : Cert.Pre_context_finite.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal_context_finite m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
      ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
      ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4)
      ∧ r.2.mem ((c.tc : Thread Cert.ContextIdeal.nD Cert.ContextIdeal.τ).loc Cert.ContextIdeal.main_arg5) = m ((c.tc : Thread Cert.ContextIdeal.nD Cert.ContextIdeal.τ).loc Cert.ContextIdeal.main_arg5)
      ∧ r.2.mem ((c.tc : Thread Cert.ContextIdeal.nD Cert.ContextIdeal.τ).loc Cert.ContextIdeal.main_arg6) = m ((c.tc : Thread Cert.ContextIdeal.nD Cert.ContextIdeal.τ).loc Cert.ContextIdeal.main_arg6)
      ∧ r.2.mem ((c.tc : Thread Cert.ContextIdeal.nD Cert.ContextIdeal.τ).loc Cert.ContextIdeal.main_arg7) = m ((c.tc : Thread Cert.ContextIdeal.nD Cert.ContextIdeal.τ).loc Cert.ContextIdeal.main_arg7)
      ∧ r.2.mem ((c.tc : Thread Cert.ContextIdeal.nD Cert.ContextIdeal.τ).loc Cert.ContextIdeal.main_arg8) = m ((c.tc : Thread Cert.ContextIdeal.nD Cert.ContextIdeal.τ).loc Cert.ContextIdeal.main_arg8)
      ∧ r.2.mem ((c.tc : Thread Cert.ContextIdeal.nD Cert.ContextIdeal.τ).loc Cert.ContextIdeal.main_arg9) = m ((c.tc : Thread Cert.ContextIdeal.nD Cert.ContextIdeal.τ).loc Cert.ContextIdeal.main_arg9)
      ∧ r.2.mem ((c.tc : Thread Cert.ContextIdeal.nD Cert.ContextIdeal.τ).loc Cert.ContextIdeal.main_arg10) = m ((c.tc : Thread Cert.ContextIdeal.nD Cert.ContextIdeal.τ).loc Cert.ContextIdeal.main_arg10)
      ∧ r.2.mem ((c.tc : Thread Cert.ContextIdeal.nD Cert.ContextIdeal.τ).loc Cert.ContextIdeal.main_arg11) = m ((c.tc : Thread Cert.ContextIdeal.nD Cert.ContextIdeal.τ).loc Cert.ContextIdeal.main_arg11)
      ∧ r.2.mem ((c.tc : Thread Cert.ContextIdeal.nD Cert.ContextIdeal.τ).loc Cert.ContextIdeal.main_arg12) = m ((c.tc : Thread Cert.ContextIdeal.nD Cert.ContextIdeal.τ).loc Cert.ContextIdeal.main_arg12)
      ∧ r.2.mem ((c.tc : Thread Cert.ContextIdeal.nD Cert.ContextIdeal.τ).loc Cert.ContextIdeal.main_arg13) = m ((c.tc : Thread Cert.ContextIdeal.nD Cert.ContextIdeal.τ).loc Cert.ContextIdeal.main_arg13)
      ∧ r.2.mem ((c.tc : Thread Cert.ContextIdeal.nD Cert.ContextIdeal.τ).loc Cert.ContextIdeal.main_arg14) = m ((c.tc : Thread Cert.ContextIdeal.nD Cert.ContextIdeal.τ).loc Cert.ContextIdeal.main_arg14)
      ∧ r.2.mem ((c.tc : Thread Cert.ContextIdeal.nD Cert.ContextIdeal.τ).loc Cert.ContextIdeal.main_arg15) = m ((c.tc : Thread Cert.ContextIdeal.nD Cert.ContextIdeal.τ).loc Cert.ContextIdeal.main_arg15))
      ∧ r.2.sem = fun _ => 0)

def quiescent_PlainContextIdeal [hPlainContextIdeal : Cert.PlainContextIdeal.Facts] : Prop :=
  ∀ (m : (ℓ : Loc Cert.PlainContextIdeal.nD Cert.PlainContextIdeal.τ Cert.PlainContextIdeal.sig) → Buf (Elt Ideal) ℓ) (g : Dev Cert.PlainContextIdeal.nD → PrngReg), Pre_PlainContextIdeal m →
    θ_run (Cert.PlainContextIdeal.defs (F := Ideal)) (onTc (τ := Cert.PlainContextIdeal.τ) (Cert.PlainContextIdeal.main (F := Ideal))) ⟨m, fun _ => 0, g⟩ (fun r => (∀ c : Dev Cert.PlainContextIdeal.nD,
      r.2.mem ((c.tc : Thread Cert.PlainContextIdeal.nD Cert.PlainContextIdeal.τ).loc Cert.PlainContextIdeal.main_arg0) = m ((c.tc : Thread Cert.PlainContextIdeal.nD Cert.PlainContextIdeal.τ).loc Cert.PlainContextIdeal.main_arg0)
      ∧ r.2.mem ((c.tc : Thread Cert.PlainContextIdeal.nD Cert.PlainContextIdeal.τ).loc Cert.PlainContextIdeal.main_arg1) = m ((c.tc : Thread Cert.PlainContextIdeal.nD Cert.PlainContextIdeal.τ).loc Cert.PlainContextIdeal.main_arg1)
      ∧ r.2.mem ((c.tc : Thread Cert.PlainContextIdeal.nD Cert.PlainContextIdeal.τ).loc Cert.PlainContextIdeal.main_arg2) = m ((c.tc : Thread Cert.PlainContextIdeal.nD Cert.PlainContextIdeal.τ).loc Cert.PlainContextIdeal.main_arg2)
      ∧ r.2.mem ((c.tc : Thread Cert.PlainContextIdeal.nD Cert.PlainContextIdeal.τ).loc Cert.PlainContextIdeal.main_arg3) = m ((c.tc : Thread Cert.PlainContextIdeal.nD Cert.PlainContextIdeal.τ).loc Cert.PlainContextIdeal.main_arg3)
      ∧ r.2.mem ((c.tc : Thread Cert.PlainContextIdeal.nD Cert.PlainContextIdeal.τ).loc Cert.PlainContextIdeal.main_arg4) = m ((c.tc : Thread Cert.PlainContextIdeal.nD Cert.PlainContextIdeal.τ).loc Cert.PlainContextIdeal.main_arg4)
      ∧ r.2.mem ((c.tc : Thread Cert.PlainContextIdeal.nD Cert.PlainContextIdeal.τ).loc Cert.PlainContextIdeal.main_arg5) = m ((c.tc : Thread Cert.PlainContextIdeal.nD Cert.PlainContextIdeal.τ).loc Cert.PlainContextIdeal.main_arg5)
      ∧ r.2.mem ((c.tc : Thread Cert.PlainContextIdeal.nD Cert.PlainContextIdeal.τ).loc Cert.PlainContextIdeal.main_arg6) = m ((c.tc : Thread Cert.PlainContextIdeal.nD Cert.PlainContextIdeal.τ).loc Cert.PlainContextIdeal.main_arg6)
      ∧ r.2.mem ((c.tc : Thread Cert.PlainContextIdeal.nD Cert.PlainContextIdeal.τ).loc Cert.PlainContextIdeal.main_arg7) = m ((c.tc : Thread Cert.PlainContextIdeal.nD Cert.PlainContextIdeal.τ).loc Cert.PlainContextIdeal.main_arg7)
      ∧ r.2.mem ((c.tc : Thread Cert.PlainContextIdeal.nD Cert.PlainContextIdeal.τ).loc Cert.PlainContextIdeal.main_arg8) = m ((c.tc : Thread Cert.PlainContextIdeal.nD Cert.PlainContextIdeal.τ).loc Cert.PlainContextIdeal.main_arg8)
      ∧ r.2.mem ((c.tc : Thread Cert.PlainContextIdeal.nD Cert.PlainContextIdeal.τ).loc Cert.PlainContextIdeal.main_arg9) = m ((c.tc : Thread Cert.PlainContextIdeal.nD Cert.PlainContextIdeal.τ).loc Cert.PlainContextIdeal.main_arg9)
      ∧ r.2.mem ((c.tc : Thread Cert.PlainContextIdeal.nD Cert.PlainContextIdeal.τ).loc Cert.PlainContextIdeal.main_arg10) = m ((c.tc : Thread Cert.PlainContextIdeal.nD Cert.PlainContextIdeal.τ).loc Cert.PlainContextIdeal.main_arg10)
      ∧ r.2.mem ((c.tc : Thread Cert.PlainContextIdeal.nD Cert.PlainContextIdeal.τ).loc Cert.PlainContextIdeal.main_arg11) = m ((c.tc : Thread Cert.PlainContextIdeal.nD Cert.PlainContextIdeal.τ).loc Cert.PlainContextIdeal.main_arg11)
      ∧ r.2.mem ((c.tc : Thread Cert.PlainContextIdeal.nD Cert.PlainContextIdeal.τ).loc Cert.PlainContextIdeal.main_arg12) = m ((c.tc : Thread Cert.PlainContextIdeal.nD Cert.PlainContextIdeal.τ).loc Cert.PlainContextIdeal.main_arg12)
      ∧ r.2.mem ((c.tc : Thread Cert.PlainContextIdeal.nD Cert.PlainContextIdeal.τ).loc Cert.PlainContextIdeal.main_arg13) = m ((c.tc : Thread Cert.PlainContextIdeal.nD Cert.PlainContextIdeal.τ).loc Cert.PlainContextIdeal.main_arg13)
      ∧ r.2.mem ((c.tc : Thread Cert.PlainContextIdeal.nD Cert.PlainContextIdeal.τ).loc Cert.PlainContextIdeal.main_arg14) = m ((c.tc : Thread Cert.PlainContextIdeal.nD Cert.PlainContextIdeal.τ).loc Cert.PlainContextIdeal.main_arg14)
      ∧ r.2.mem ((c.tc : Thread Cert.PlainContextIdeal.nD Cert.PlainContextIdeal.τ).loc Cert.PlainContextIdeal.main_arg15) = m ((c.tc : Thread Cert.PlainContextIdeal.nD Cert.PlainContextIdeal.τ).loc Cert.PlainContextIdeal.main_arg15))
      ∧ r.2.sem = fun _ => 0)

def quiescent_PlainContextIdeal_pre_context_finite [hPlainContextIdeal : Cert.PlainContextIdeal.Facts] [hPre_context_finite : Cert.Pre_context_finite.Facts] : Prop :=
  ∀ (m : (ℓ : Loc Cert.PlainContextIdeal.nD Cert.PlainContextIdeal.τ Cert.PlainContextIdeal.sig) → Buf (Elt Ideal) ℓ) (g : Dev Cert.PlainContextIdeal.nD → PrngReg), Pre_PlainContextIdeal_context_finite m →
    θ_run (Cert.PlainContextIdeal.defs (F := Ideal)) (onTc (τ := Cert.PlainContextIdeal.τ) (Cert.PlainContextIdeal.main (F := Ideal))) ⟨m, fun _ => 0, g⟩ (fun r => (∀ c : Dev Cert.PlainContextIdeal.nD,
      r.2.mem ((c.tc : Thread Cert.PlainContextIdeal.nD Cert.PlainContextIdeal.τ).loc Cert.PlainContextIdeal.main_arg0) = m ((c.tc : Thread Cert.PlainContextIdeal.nD Cert.PlainContextIdeal.τ).loc Cert.PlainContextIdeal.main_arg0)
      ∧ r.2.mem ((c.tc : Thread Cert.PlainContextIdeal.nD Cert.PlainContextIdeal.τ).loc Cert.PlainContextIdeal.main_arg1) = m ((c.tc : Thread Cert.PlainContextIdeal.nD Cert.PlainContextIdeal.τ).loc Cert.PlainContextIdeal.main_arg1)
      ∧ r.2.mem ((c.tc : Thread Cert.PlainContextIdeal.nD Cert.PlainContextIdeal.τ).loc Cert.PlainContextIdeal.main_arg2) = m ((c.tc : Thread Cert.PlainContextIdeal.nD Cert.PlainContextIdeal.τ).loc Cert.PlainContextIdeal.main_arg2)
      ∧ r.2.mem ((c.tc : Thread Cert.PlainContextIdeal.nD Cert.PlainContextIdeal.τ).loc Cert.PlainContextIdeal.main_arg3) = m ((c.tc : Thread Cert.PlainContextIdeal.nD Cert.PlainContextIdeal.τ).loc Cert.PlainContextIdeal.main_arg3)
      ∧ r.2.mem ((c.tc : Thread Cert.PlainContextIdeal.nD Cert.PlainContextIdeal.τ).loc Cert.PlainContextIdeal.main_arg4) = m ((c.tc : Thread Cert.PlainContextIdeal.nD Cert.PlainContextIdeal.τ).loc Cert.PlainContextIdeal.main_arg4)
      ∧ r.2.mem ((c.tc : Thread Cert.PlainContextIdeal.nD Cert.PlainContextIdeal.τ).loc Cert.PlainContextIdeal.main_arg5) = m ((c.tc : Thread Cert.PlainContextIdeal.nD Cert.PlainContextIdeal.τ).loc Cert.PlainContextIdeal.main_arg5)
      ∧ r.2.mem ((c.tc : Thread Cert.PlainContextIdeal.nD Cert.PlainContextIdeal.τ).loc Cert.PlainContextIdeal.main_arg6) = m ((c.tc : Thread Cert.PlainContextIdeal.nD Cert.PlainContextIdeal.τ).loc Cert.PlainContextIdeal.main_arg6)
      ∧ r.2.mem ((c.tc : Thread Cert.PlainContextIdeal.nD Cert.PlainContextIdeal.τ).loc Cert.PlainContextIdeal.main_arg7) = m ((c.tc : Thread Cert.PlainContextIdeal.nD Cert.PlainContextIdeal.τ).loc Cert.PlainContextIdeal.main_arg7)
      ∧ r.2.mem ((c.tc : Thread Cert.PlainContextIdeal.nD Cert.PlainContextIdeal.τ).loc Cert.PlainContextIdeal.main_arg8) = m ((c.tc : Thread Cert.PlainContextIdeal.nD Cert.PlainContextIdeal.τ).loc Cert.PlainContextIdeal.main_arg8)
      ∧ r.2.mem ((c.tc : Thread Cert.PlainContextIdeal.nD Cert.PlainContextIdeal.τ).loc Cert.PlainContextIdeal.main_arg9) = m ((c.tc : Thread Cert.PlainContextIdeal.nD Cert.PlainContextIdeal.τ).loc Cert.PlainContextIdeal.main_arg9)
      ∧ r.2.mem ((c.tc : Thread Cert.PlainContextIdeal.nD Cert.PlainContextIdeal.τ).loc Cert.PlainContextIdeal.main_arg10) = m ((c.tc : Thread Cert.PlainContextIdeal.nD Cert.PlainContextIdeal.τ).loc Cert.PlainContextIdeal.main_arg10)
      ∧ r.2.mem ((c.tc : Thread Cert.PlainContextIdeal.nD Cert.PlainContextIdeal.τ).loc Cert.PlainContextIdeal.main_arg11) = m ((c.tc : Thread Cert.PlainContextIdeal.nD Cert.PlainContextIdeal.τ).loc Cert.PlainContextIdeal.main_arg11)
      ∧ r.2.mem ((c.tc : Thread Cert.PlainContextIdeal.nD Cert.PlainContextIdeal.τ).loc Cert.PlainContextIdeal.main_arg12) = m ((c.tc : Thread Cert.PlainContextIdeal.nD Cert.PlainContextIdeal.τ).loc Cert.PlainContextIdeal.main_arg12)
      ∧ r.2.mem ((c.tc : Thread Cert.PlainContextIdeal.nD Cert.PlainContextIdeal.τ).loc Cert.PlainContextIdeal.main_arg13) = m ((c.tc : Thread Cert.PlainContextIdeal.nD Cert.PlainContextIdeal.τ).loc Cert.PlainContextIdeal.main_arg13)
      ∧ r.2.mem ((c.tc : Thread Cert.PlainContextIdeal.nD Cert.PlainContextIdeal.τ).loc Cert.PlainContextIdeal.main_arg14) = m ((c.tc : Thread Cert.PlainContextIdeal.nD Cert.PlainContextIdeal.τ).loc Cert.PlainContextIdeal.main_arg14)
      ∧ r.2.mem ((c.tc : Thread Cert.PlainContextIdeal.nD Cert.PlainContextIdeal.τ).loc Cert.PlainContextIdeal.main_arg15) = m ((c.tc : Thread Cert.PlainContextIdeal.nD Cert.PlainContextIdeal.τ).loc Cert.PlainContextIdeal.main_arg15))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4)
      ∧ r.2.mem ((c.tc : Thread Cert.Latent.nD Cert.Latent.τ).loc Cert.Latent.main_arg5) = m ((c.tc : Thread Cert.Latent.nD Cert.Latent.τ).loc Cert.Latent.main_arg5)
      ∧ r.2.mem ((c.tc : Thread Cert.Latent.nD Cert.Latent.τ).loc Cert.Latent.main_arg6) = m ((c.tc : Thread Cert.Latent.nD Cert.Latent.τ).loc Cert.Latent.main_arg6)
      ∧ r.2.mem ((c.tc : Thread Cert.Latent.nD Cert.Latent.τ).loc Cert.Latent.main_arg7) = m ((c.tc : Thread Cert.Latent.nD Cert.Latent.τ).loc Cert.Latent.main_arg7)
      ∧ r.2.mem ((c.tc : Thread Cert.Latent.nD Cert.Latent.τ).loc Cert.Latent.main_arg8) = m ((c.tc : Thread Cert.Latent.nD Cert.Latent.τ).loc Cert.Latent.main_arg8)
      ∧ r.2.mem ((c.tc : Thread Cert.Latent.nD Cert.Latent.τ).loc Cert.Latent.main_arg9) = m ((c.tc : Thread Cert.Latent.nD Cert.Latent.τ).loc Cert.Latent.main_arg9))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
      ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
      ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6)
      ∧ r.2.mem ((c.tc : Thread Cert.LatentIdeal.nD Cert.LatentIdeal.τ).loc Cert.LatentIdeal.main_arg7) = m ((c.tc : Thread Cert.LatentIdeal.nD Cert.LatentIdeal.τ).loc Cert.LatentIdeal.main_arg7)
      ∧ r.2.mem ((c.tc : Thread Cert.LatentIdeal.nD Cert.LatentIdeal.τ).loc Cert.LatentIdeal.main_arg8) = m ((c.tc : Thread Cert.LatentIdeal.nD Cert.LatentIdeal.τ).loc Cert.LatentIdeal.main_arg8)
      ∧ r.2.mem ((c.tc : Thread Cert.LatentIdeal.nD Cert.LatentIdeal.τ).loc Cert.LatentIdeal.main_arg9) = m ((c.tc : Thread Cert.LatentIdeal.nD Cert.LatentIdeal.τ).loc Cert.LatentIdeal.main_arg9))
      ∧ r.2.sem = fun _ => 0)

def quiescent_PlainLatentIdeal [hPlainLatentIdeal : Cert.PlainLatentIdeal.Facts] : Prop :=
  ∀ (m : (ℓ : Loc Cert.PlainLatentIdeal.nD Cert.PlainLatentIdeal.τ Cert.PlainLatentIdeal.sig) → Buf (Elt Ideal) ℓ) (g : Dev Cert.PlainLatentIdeal.nD → PrngReg), Pre_PlainLatentIdeal m →
    θ_run (Cert.PlainLatentIdeal.defs (F := Ideal)) (onTc (τ := Cert.PlainLatentIdeal.τ) (Cert.PlainLatentIdeal.main (F := Ideal))) ⟨m, fun _ => 0, g⟩ (fun r => (∀ c : Dev Cert.PlainLatentIdeal.nD,
      r.2.mem ((c.tc : Thread Cert.PlainLatentIdeal.nD Cert.PlainLatentIdeal.τ).loc Cert.PlainLatentIdeal.main_arg0) = m ((c.tc : Thread Cert.PlainLatentIdeal.nD Cert.PlainLatentIdeal.τ).loc Cert.PlainLatentIdeal.main_arg0)
      ∧ r.2.mem ((c.tc : Thread Cert.PlainLatentIdeal.nD Cert.PlainLatentIdeal.τ).loc Cert.PlainLatentIdeal.main_arg1) = m ((c.tc : Thread Cert.PlainLatentIdeal.nD Cert.PlainLatentIdeal.τ).loc Cert.PlainLatentIdeal.main_arg1)
      ∧ r.2.mem ((c.tc : Thread Cert.PlainLatentIdeal.nD Cert.PlainLatentIdeal.τ).loc Cert.PlainLatentIdeal.main_arg2) = m ((c.tc : Thread Cert.PlainLatentIdeal.nD Cert.PlainLatentIdeal.τ).loc Cert.PlainLatentIdeal.main_arg2)
      ∧ r.2.mem ((c.tc : Thread Cert.PlainLatentIdeal.nD Cert.PlainLatentIdeal.τ).loc Cert.PlainLatentIdeal.main_arg3) = m ((c.tc : Thread Cert.PlainLatentIdeal.nD Cert.PlainLatentIdeal.τ).loc Cert.PlainLatentIdeal.main_arg3)
      ∧ r.2.mem ((c.tc : Thread Cert.PlainLatentIdeal.nD Cert.PlainLatentIdeal.τ).loc Cert.PlainLatentIdeal.main_arg4) = m ((c.tc : Thread Cert.PlainLatentIdeal.nD Cert.PlainLatentIdeal.τ).loc Cert.PlainLatentIdeal.main_arg4)
      ∧ r.2.mem ((c.tc : Thread Cert.PlainLatentIdeal.nD Cert.PlainLatentIdeal.τ).loc Cert.PlainLatentIdeal.main_arg5) = m ((c.tc : Thread Cert.PlainLatentIdeal.nD Cert.PlainLatentIdeal.τ).loc Cert.PlainLatentIdeal.main_arg5)
      ∧ r.2.mem ((c.tc : Thread Cert.PlainLatentIdeal.nD Cert.PlainLatentIdeal.τ).loc Cert.PlainLatentIdeal.main_arg6) = m ((c.tc : Thread Cert.PlainLatentIdeal.nD Cert.PlainLatentIdeal.τ).loc Cert.PlainLatentIdeal.main_arg6)
      ∧ r.2.mem ((c.tc : Thread Cert.PlainLatentIdeal.nD Cert.PlainLatentIdeal.τ).loc Cert.PlainLatentIdeal.main_arg7) = m ((c.tc : Thread Cert.PlainLatentIdeal.nD Cert.PlainLatentIdeal.τ).loc Cert.PlainLatentIdeal.main_arg7)
      ∧ r.2.mem ((c.tc : Thread Cert.PlainLatentIdeal.nD Cert.PlainLatentIdeal.τ).loc Cert.PlainLatentIdeal.main_arg8) = m ((c.tc : Thread Cert.PlainLatentIdeal.nD Cert.PlainLatentIdeal.τ).loc Cert.PlainLatentIdeal.main_arg8)
      ∧ r.2.mem ((c.tc : Thread Cert.PlainLatentIdeal.nD Cert.PlainLatentIdeal.τ).loc Cert.PlainLatentIdeal.main_arg9) = m ((c.tc : Thread Cert.PlainLatentIdeal.nD Cert.PlainLatentIdeal.τ).loc Cert.PlainLatentIdeal.main_arg9))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ r.2.sem = fun _ => 0)

def quiescent_PlainProjectionIdeal [hPlainProjectionIdeal : Cert.PlainProjectionIdeal.Facts] : Prop :=
  ∀ (m : (ℓ : Loc Cert.PlainProjectionIdeal.nD Cert.PlainProjectionIdeal.τ Cert.PlainProjectionIdeal.sig) → Buf (Elt Ideal) ℓ) (g : Dev Cert.PlainProjectionIdeal.nD → PrngReg), Pre_PlainProjectionIdeal m →
    θ_run (Cert.PlainProjectionIdeal.defs (F := Ideal)) (onTc (τ := Cert.PlainProjectionIdeal.τ) (Cert.PlainProjectionIdeal.main (F := Ideal))) ⟨m, fun _ => 0, g⟩ (fun r => (∀ c : Dev Cert.PlainProjectionIdeal.nD,
      r.2.mem ((c.tc : Thread Cert.PlainProjectionIdeal.nD Cert.PlainProjectionIdeal.τ).loc Cert.PlainProjectionIdeal.main_arg0) = m ((c.tc : Thread Cert.PlainProjectionIdeal.nD Cert.PlainProjectionIdeal.τ).loc Cert.PlainProjectionIdeal.main_arg0)
      ∧ r.2.mem ((c.tc : Thread Cert.PlainProjectionIdeal.nD Cert.PlainProjectionIdeal.τ).loc Cert.PlainProjectionIdeal.main_arg1) = m ((c.tc : Thread Cert.PlainProjectionIdeal.nD Cert.PlainProjectionIdeal.τ).loc Cert.PlainProjectionIdeal.main_arg1)
      ∧ r.2.mem ((c.tc : Thread Cert.PlainProjectionIdeal.nD Cert.PlainProjectionIdeal.τ).loc Cert.PlainProjectionIdeal.main_arg2) = m ((c.tc : Thread Cert.PlainProjectionIdeal.nD Cert.PlainProjectionIdeal.τ).loc Cert.PlainProjectionIdeal.main_arg2))
      ∧ r.2.sem = fun _ => 0)

def quiescent_Rotary [hRotary : Cert.Rotary.Facts] : Prop :=
  ∀ (m : (ℓ : Loc Cert.Rotary.nD Cert.Rotary.τ Cert.Rotary.sig) → Buf (Elt Bits) ℓ) (g : Dev Cert.Rotary.nD → PrngReg), Pre_Rotary m →
    θ_run (Cert.Rotary.defs (F := Bits)) (onTc (τ := Cert.Rotary.τ) (Cert.Rotary.main (F := Bits))) ⟨m, fun _ => 0, g⟩ (fun r => (∀ c : Dev Cert.Rotary.nD,
      r.2.mem ((c.tc : Thread Cert.Rotary.nD Cert.Rotary.τ).loc Cert.Rotary.main_arg0) = m ((c.tc : Thread Cert.Rotary.nD Cert.Rotary.τ).loc Cert.Rotary.main_arg0)
      ∧ r.2.mem ((c.tc : Thread Cert.Rotary.nD Cert.Rotary.τ).loc Cert.Rotary.main_arg1) = m ((c.tc : Thread Cert.Rotary.nD Cert.Rotary.τ).loc Cert.Rotary.main_arg1)
      ∧ r.2.mem ((c.tc : Thread Cert.Rotary.nD Cert.Rotary.τ).loc Cert.Rotary.main_arg2) = m ((c.tc : Thread Cert.Rotary.nD Cert.Rotary.τ).loc Cert.Rotary.main_arg2)
      ∧ r.2.mem ((c.tc : Thread Cert.Rotary.nD Cert.Rotary.τ).loc Cert.Rotary.main_arg3) = m ((c.tc : Thread Cert.Rotary.nD Cert.Rotary.τ).loc Cert.Rotary.main_arg3)
      ∧ r.2.mem ((c.tc : Thread Cert.Rotary.nD Cert.Rotary.τ).loc Cert.Rotary.main_arg4) = m ((c.tc : Thread Cert.Rotary.nD Cert.Rotary.τ).loc Cert.Rotary.main_arg4))
      ∧ r.2.sem = fun _ => 0)

def quiescent_RotaryIdeal [hRotaryIdeal : Cert.RotaryIdeal.Facts] : Prop :=
  ∀ (m : (ℓ : Loc Cert.RotaryIdeal.nD Cert.RotaryIdeal.τ Cert.RotaryIdeal.sig) → Buf (Elt Ideal) ℓ) (g : Dev Cert.RotaryIdeal.nD → PrngReg), Pre_RotaryIdeal m →
    θ_run (Cert.RotaryIdeal.defs (F := Ideal)) (onTc (τ := Cert.RotaryIdeal.τ) (Cert.RotaryIdeal.main (F := Ideal))) ⟨m, fun _ => 0, g⟩ (fun r => (∀ c : Dev Cert.RotaryIdeal.nD,
      r.2.mem ((c.tc : Thread Cert.RotaryIdeal.nD Cert.RotaryIdeal.τ).loc Cert.RotaryIdeal.main_arg0) = m ((c.tc : Thread Cert.RotaryIdeal.nD Cert.RotaryIdeal.τ).loc Cert.RotaryIdeal.main_arg0)
      ∧ r.2.mem ((c.tc : Thread Cert.RotaryIdeal.nD Cert.RotaryIdeal.τ).loc Cert.RotaryIdeal.main_arg1) = m ((c.tc : Thread Cert.RotaryIdeal.nD Cert.RotaryIdeal.τ).loc Cert.RotaryIdeal.main_arg1)
      ∧ r.2.mem ((c.tc : Thread Cert.RotaryIdeal.nD Cert.RotaryIdeal.τ).loc Cert.RotaryIdeal.main_arg2) = m ((c.tc : Thread Cert.RotaryIdeal.nD Cert.RotaryIdeal.τ).loc Cert.RotaryIdeal.main_arg2)
      ∧ r.2.mem ((c.tc : Thread Cert.RotaryIdeal.nD Cert.RotaryIdeal.τ).loc Cert.RotaryIdeal.main_arg3) = m ((c.tc : Thread Cert.RotaryIdeal.nD Cert.RotaryIdeal.τ).loc Cert.RotaryIdeal.main_arg3)
      ∧ r.2.mem ((c.tc : Thread Cert.RotaryIdeal.nD Cert.RotaryIdeal.τ).loc Cert.RotaryIdeal.main_arg4) = m ((c.tc : Thread Cert.RotaryIdeal.nD Cert.RotaryIdeal.τ).loc Cert.RotaryIdeal.main_arg4))
      ∧ r.2.sem = fun _ => 0)

def quiescent_PlainRotaryIdeal [hPlainRotaryIdeal : Cert.PlainRotaryIdeal.Facts] : Prop :=
  ∀ (m : (ℓ : Loc Cert.PlainRotaryIdeal.nD Cert.PlainRotaryIdeal.τ Cert.PlainRotaryIdeal.sig) → Buf (Elt Ideal) ℓ) (g : Dev Cert.PlainRotaryIdeal.nD → PrngReg), Pre_PlainRotaryIdeal m →
    θ_run (Cert.PlainRotaryIdeal.defs (F := Ideal)) (onTc (τ := Cert.PlainRotaryIdeal.τ) (Cert.PlainRotaryIdeal.main (F := Ideal))) ⟨m, fun _ => 0, g⟩ (fun r => (∀ c : Dev Cert.PlainRotaryIdeal.nD,
      r.2.mem ((c.tc : Thread Cert.PlainRotaryIdeal.nD Cert.PlainRotaryIdeal.τ).loc Cert.PlainRotaryIdeal.main_arg0) = m ((c.tc : Thread Cert.PlainRotaryIdeal.nD Cert.PlainRotaryIdeal.τ).loc Cert.PlainRotaryIdeal.main_arg0)
      ∧ r.2.mem ((c.tc : Thread Cert.PlainRotaryIdeal.nD Cert.PlainRotaryIdeal.τ).loc Cert.PlainRotaryIdeal.main_arg1) = m ((c.tc : Thread Cert.PlainRotaryIdeal.nD Cert.PlainRotaryIdeal.τ).loc Cert.PlainRotaryIdeal.main_arg1)
      ∧ r.2.mem ((c.tc : Thread Cert.PlainRotaryIdeal.nD Cert.PlainRotaryIdeal.τ).loc Cert.PlainRotaryIdeal.main_arg2) = m ((c.tc : Thread Cert.PlainRotaryIdeal.nD Cert.PlainRotaryIdeal.τ).loc Cert.PlainRotaryIdeal.main_arg2)
      ∧ r.2.mem ((c.tc : Thread Cert.PlainRotaryIdeal.nD Cert.PlainRotaryIdeal.τ).loc Cert.PlainRotaryIdeal.main_arg3) = m ((c.tc : Thread Cert.PlainRotaryIdeal.nD Cert.PlainRotaryIdeal.τ).loc Cert.PlainRotaryIdeal.main_arg3)
      ∧ r.2.mem ((c.tc : Thread Cert.PlainRotaryIdeal.nD Cert.PlainRotaryIdeal.τ).loc Cert.PlainRotaryIdeal.main_arg4) = m ((c.tc : Thread Cert.PlainRotaryIdeal.nD Cert.PlainRotaryIdeal.τ).loc Cert.PlainRotaryIdeal.main_arg4))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5))
      ∧ r.2.sem = fun _ => 0)

def quiescent_PlainOutputIdeal [hPlainOutputIdeal : Cert.PlainOutputIdeal.Facts] : Prop :=
  ∀ (m : (ℓ : Loc Cert.PlainOutputIdeal.nD Cert.PlainOutputIdeal.τ Cert.PlainOutputIdeal.sig) → Buf (Elt Ideal) ℓ) (g : Dev Cert.PlainOutputIdeal.nD → PrngReg), Pre_PlainOutputIdeal m →
    θ_run (Cert.PlainOutputIdeal.defs (F := Ideal)) (onTc (τ := Cert.PlainOutputIdeal.τ) (Cert.PlainOutputIdeal.main (F := Ideal))) ⟨m, fun _ => 0, g⟩ (fun r => (∀ c : Dev Cert.PlainOutputIdeal.nD,
      r.2.mem ((c.tc : Thread Cert.PlainOutputIdeal.nD Cert.PlainOutputIdeal.τ).loc Cert.PlainOutputIdeal.main_arg0) = m ((c.tc : Thread Cert.PlainOutputIdeal.nD Cert.PlainOutputIdeal.τ).loc Cert.PlainOutputIdeal.main_arg0)
      ∧ r.2.mem ((c.tc : Thread Cert.PlainOutputIdeal.nD Cert.PlainOutputIdeal.τ).loc Cert.PlainOutputIdeal.main_arg1) = m ((c.tc : Thread Cert.PlainOutputIdeal.nD Cert.PlainOutputIdeal.τ).loc Cert.PlainOutputIdeal.main_arg1)
      ∧ r.2.mem ((c.tc : Thread Cert.PlainOutputIdeal.nD Cert.PlainOutputIdeal.τ).loc Cert.PlainOutputIdeal.main_arg2) = m ((c.tc : Thread Cert.PlainOutputIdeal.nD Cert.PlainOutputIdeal.τ).loc Cert.PlainOutputIdeal.main_arg2)
      ∧ r.2.mem ((c.tc : Thread Cert.PlainOutputIdeal.nD Cert.PlainOutputIdeal.τ).loc Cert.PlainOutputIdeal.main_arg3) = m ((c.tc : Thread Cert.PlainOutputIdeal.nD Cert.PlainOutputIdeal.τ).loc Cert.PlainOutputIdeal.main_arg3)
      ∧ r.2.mem ((c.tc : Thread Cert.PlainOutputIdeal.nD Cert.PlainOutputIdeal.τ).loc Cert.PlainOutputIdeal.main_arg4) = m ((c.tc : Thread Cert.PlainOutputIdeal.nD Cert.PlainOutputIdeal.τ).loc Cert.PlainOutputIdeal.main_arg4)
      ∧ r.2.mem ((c.tc : Thread Cert.PlainOutputIdeal.nD Cert.PlainOutputIdeal.τ).loc Cert.PlainOutputIdeal.main_arg5) = m ((c.tc : Thread Cert.PlainOutputIdeal.nD Cert.PlainOutputIdeal.τ).loc Cert.PlainOutputIdeal.main_arg5))
      ∧ r.2.sem = fun _ => 0)

def quiescent_ContextOutput [hContextOutput : Cert.ContextOutput.Facts] : Prop :=
  ∀ (m : (ℓ : Loc Cert.ContextOutput.nD Cert.ContextOutput.τ Cert.ContextOutput.sig) → Buf (Elt Bits) ℓ) (g : Dev Cert.ContextOutput.nD → PrngReg), Pre_ContextOutput m →
    θ_run (Cert.ContextOutput.defs (F := Bits)) (onTc (τ := Cert.ContextOutput.τ) (Cert.ContextOutput.main (F := Bits))) ⟨m, fun _ => 0, g⟩ (fun r => (∀ c : Dev Cert.ContextOutput.nD,
      r.2.mem ((c.tc : Thread Cert.ContextOutput.nD Cert.ContextOutput.τ).loc Cert.ContextOutput.main_arg0) = m ((c.tc : Thread Cert.ContextOutput.nD Cert.ContextOutput.τ).loc Cert.ContextOutput.main_arg0)
      ∧ r.2.mem ((c.tc : Thread Cert.ContextOutput.nD Cert.ContextOutput.τ).loc Cert.ContextOutput.main_arg1) = m ((c.tc : Thread Cert.ContextOutput.nD Cert.ContextOutput.τ).loc Cert.ContextOutput.main_arg1)
      ∧ r.2.mem ((c.tc : Thread Cert.ContextOutput.nD Cert.ContextOutput.τ).loc Cert.ContextOutput.main_arg2) = m ((c.tc : Thread Cert.ContextOutput.nD Cert.ContextOutput.τ).loc Cert.ContextOutput.main_arg2)
      ∧ r.2.mem ((c.tc : Thread Cert.ContextOutput.nD Cert.ContextOutput.τ).loc Cert.ContextOutput.main_arg3) = m ((c.tc : Thread Cert.ContextOutput.nD Cert.ContextOutput.τ).loc Cert.ContextOutput.main_arg3)
      ∧ r.2.mem ((c.tc : Thread Cert.ContextOutput.nD Cert.ContextOutput.τ).loc Cert.ContextOutput.main_arg4) = m ((c.tc : Thread Cert.ContextOutput.nD Cert.ContextOutput.τ).loc Cert.ContextOutput.main_arg4)
      ∧ r.2.mem ((c.tc : Thread Cert.ContextOutput.nD Cert.ContextOutput.τ).loc Cert.ContextOutput.main_arg5) = m ((c.tc : Thread Cert.ContextOutput.nD Cert.ContextOutput.τ).loc Cert.ContextOutput.main_arg5))
      ∧ r.2.sem = fun _ => 0)

def quiescent_ContextOutputIdeal [hContextOutputIdeal : Cert.ContextOutputIdeal.Facts] : Prop :=
  ∀ (m : (ℓ : Loc Cert.ContextOutputIdeal.nD Cert.ContextOutputIdeal.τ Cert.ContextOutputIdeal.sig) → Buf (Elt Ideal) ℓ) (g : Dev Cert.ContextOutputIdeal.nD → PrngReg), Pre_ContextOutputIdeal m →
    θ_run (Cert.ContextOutputIdeal.defs (F := Ideal)) (onTc (τ := Cert.ContextOutputIdeal.τ) (Cert.ContextOutputIdeal.main (F := Ideal))) ⟨m, fun _ => 0, g⟩ (fun r => (∀ c : Dev Cert.ContextOutputIdeal.nD,
      r.2.mem ((c.tc : Thread Cert.ContextOutputIdeal.nD Cert.ContextOutputIdeal.τ).loc Cert.ContextOutputIdeal.main_arg0) = m ((c.tc : Thread Cert.ContextOutputIdeal.nD Cert.ContextOutputIdeal.τ).loc Cert.ContextOutputIdeal.main_arg0)
      ∧ r.2.mem ((c.tc : Thread Cert.ContextOutputIdeal.nD Cert.ContextOutputIdeal.τ).loc Cert.ContextOutputIdeal.main_arg1) = m ((c.tc : Thread Cert.ContextOutputIdeal.nD Cert.ContextOutputIdeal.τ).loc Cert.ContextOutputIdeal.main_arg1)
      ∧ r.2.mem ((c.tc : Thread Cert.ContextOutputIdeal.nD Cert.ContextOutputIdeal.τ).loc Cert.ContextOutputIdeal.main_arg2) = m ((c.tc : Thread Cert.ContextOutputIdeal.nD Cert.ContextOutputIdeal.τ).loc Cert.ContextOutputIdeal.main_arg2)
      ∧ r.2.mem ((c.tc : Thread Cert.ContextOutputIdeal.nD Cert.ContextOutputIdeal.τ).loc Cert.ContextOutputIdeal.main_arg3) = m ((c.tc : Thread Cert.ContextOutputIdeal.nD Cert.ContextOutputIdeal.τ).loc Cert.ContextOutputIdeal.main_arg3)
      ∧ r.2.mem ((c.tc : Thread Cert.ContextOutputIdeal.nD Cert.ContextOutputIdeal.τ).loc Cert.ContextOutputIdeal.main_arg4) = m ((c.tc : Thread Cert.ContextOutputIdeal.nD Cert.ContextOutputIdeal.τ).loc Cert.ContextOutputIdeal.main_arg4)
      ∧ r.2.mem ((c.tc : Thread Cert.ContextOutputIdeal.nD Cert.ContextOutputIdeal.τ).loc Cert.ContextOutputIdeal.main_arg5) = m ((c.tc : Thread Cert.ContextOutputIdeal.nD Cert.ContextOutputIdeal.τ).loc Cert.ContextOutputIdeal.main_arg5))
      ∧ r.2.sem = fun _ => 0)

def quiescent_PlainContextOutputIdeal [hPlainContextOutputIdeal : Cert.PlainContextOutputIdeal.Facts] : Prop :=
  ∀ (m : (ℓ : Loc Cert.PlainContextOutputIdeal.nD Cert.PlainContextOutputIdeal.τ Cert.PlainContextOutputIdeal.sig) → Buf (Elt Ideal) ℓ) (g : Dev Cert.PlainContextOutputIdeal.nD → PrngReg), Pre_PlainContextOutputIdeal m →
    θ_run (Cert.PlainContextOutputIdeal.defs (F := Ideal)) (onTc (τ := Cert.PlainContextOutputIdeal.τ) (Cert.PlainContextOutputIdeal.main (F := Ideal))) ⟨m, fun _ => 0, g⟩ (fun r => (∀ c : Dev Cert.PlainContextOutputIdeal.nD,
      r.2.mem ((c.tc : Thread Cert.PlainContextOutputIdeal.nD Cert.PlainContextOutputIdeal.τ).loc Cert.PlainContextOutputIdeal.main_arg0) = m ((c.tc : Thread Cert.PlainContextOutputIdeal.nD Cert.PlainContextOutputIdeal.τ).loc Cert.PlainContextOutputIdeal.main_arg0)
      ∧ r.2.mem ((c.tc : Thread Cert.PlainContextOutputIdeal.nD Cert.PlainContextOutputIdeal.τ).loc Cert.PlainContextOutputIdeal.main_arg1) = m ((c.tc : Thread Cert.PlainContextOutputIdeal.nD Cert.PlainContextOutputIdeal.τ).loc Cert.PlainContextOutputIdeal.main_arg1)
      ∧ r.2.mem ((c.tc : Thread Cert.PlainContextOutputIdeal.nD Cert.PlainContextOutputIdeal.τ).loc Cert.PlainContextOutputIdeal.main_arg2) = m ((c.tc : Thread Cert.PlainContextOutputIdeal.nD Cert.PlainContextOutputIdeal.τ).loc Cert.PlainContextOutputIdeal.main_arg2)
      ∧ r.2.mem ((c.tc : Thread Cert.PlainContextOutputIdeal.nD Cert.PlainContextOutputIdeal.τ).loc Cert.PlainContextOutputIdeal.main_arg3) = m ((c.tc : Thread Cert.PlainContextOutputIdeal.nD Cert.PlainContextOutputIdeal.τ).loc Cert.PlainContextOutputIdeal.main_arg3)
      ∧ r.2.mem ((c.tc : Thread Cert.PlainContextOutputIdeal.nD Cert.PlainContextOutputIdeal.τ).loc Cert.PlainContextOutputIdeal.main_arg4) = m ((c.tc : Thread Cert.PlainContextOutputIdeal.nD Cert.PlainContextOutputIdeal.τ).loc Cert.PlainContextOutputIdeal.main_arg4)
      ∧ r.2.mem ((c.tc : Thread Cert.PlainContextOutputIdeal.nD Cert.PlainContextOutputIdeal.τ).loc Cert.PlainContextOutputIdeal.main_arg5) = m ((c.tc : Thread Cert.PlainContextOutputIdeal.nD Cert.PlainContextOutputIdeal.τ).loc Cert.PlainContextOutputIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_PlainExpertsIdeal [hExpertsIdeal : Cert.ExpertsIdeal.Facts] [hPlainExpertsIdeal : Cert.PlainExpertsIdeal.Facts] [hPre_expert_range : Cert.Pre_expert_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.PlainExpertsIdeal.nD Cert.PlainExpertsIdeal.τ Cert.PlainExpertsIdeal.sig) → Buf (Elt Ideal) ℓ) (g' : Dev Cert.PlainExpertsIdeal.nD → PrngReg), Pre_ExpertsIdeal m →
    (∀ c : Dev Cert.ExpertsIdeal.nD,
      m' ((c.tc : Thread Cert.PlainExpertsIdeal.nD Cert.PlainExpertsIdeal.τ).loc Cert.PlainExpertsIdeal.main_arg0) = m ((c.tc : Thread Cert.ExpertsIdeal.nD Cert.ExpertsIdeal.τ).loc Cert.ExpertsIdeal.main_arg0)
      ∧ m' ((c.tc : Thread Cert.PlainExpertsIdeal.nD Cert.PlainExpertsIdeal.τ).loc Cert.PlainExpertsIdeal.main_arg1) = m ((c.tc : Thread Cert.ExpertsIdeal.nD Cert.ExpertsIdeal.τ).loc Cert.ExpertsIdeal.main_arg1)
      ∧ m' ((c.tc : Thread Cert.PlainExpertsIdeal.nD Cert.PlainExpertsIdeal.τ).loc Cert.PlainExpertsIdeal.main_arg2) = m ((c.tc : Thread Cert.ExpertsIdeal.nD Cert.ExpertsIdeal.τ).loc Cert.ExpertsIdeal.main_arg2)
      ∧ m' ((c.tc : Thread Cert.PlainExpertsIdeal.nD Cert.PlainExpertsIdeal.τ).loc Cert.PlainExpertsIdeal.main_arg3) = m ((c.tc : Thread Cert.ExpertsIdeal.nD Cert.ExpertsIdeal.τ).loc Cert.ExpertsIdeal.main_arg3)
      ∧ m' ((c.tc : Thread Cert.PlainExpertsIdeal.nD Cert.PlainExpertsIdeal.τ).loc Cert.PlainExpertsIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v4)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v4) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.PlainExpertsIdeal.defs (F := Ideal)) (onTc (τ := Cert.PlainExpertsIdeal.τ) (Cert.PlainExpertsIdeal.main (F := Ideal))) ⟨m', fun _ => 0, g'⟩ (fun r => ∀ c : Dev Cert.PlainExpertsIdeal.nD,
          r.2.mem ((c.tc : Thread Cert.PlainExpertsIdeal.nD Cert.PlainExpertsIdeal.τ).loc Cert.PlainExpertsIdeal.main_v124) = v0 c
          ∧ r.2.mem ((c.tc : Thread Cert.PlainExpertsIdeal.nD Cert.PlainExpertsIdeal.τ).loc Cert.PlainExpertsIdeal.main_arg0) = m' ((c.tc : Thread Cert.PlainExpertsIdeal.nD Cert.PlainExpertsIdeal.τ).loc Cert.PlainExpertsIdeal.main_arg0)
          ∧ r.2.mem ((c.tc : Thread Cert.PlainExpertsIdeal.nD Cert.PlainExpertsIdeal.τ).loc Cert.PlainExpertsIdeal.main_arg1) = m' ((c.tc : Thread Cert.PlainExpertsIdeal.nD Cert.PlainExpertsIdeal.τ).loc Cert.PlainExpertsIdeal.main_arg1)
          ∧ r.2.mem ((c.tc : Thread Cert.PlainExpertsIdeal.nD Cert.PlainExpertsIdeal.τ).loc Cert.PlainExpertsIdeal.main_arg2) = m' ((c.tc : Thread Cert.PlainExpertsIdeal.nD Cert.PlainExpertsIdeal.τ).loc Cert.PlainExpertsIdeal.main_arg2)
          ∧ r.2.mem ((c.tc : Thread Cert.PlainExpertsIdeal.nD Cert.PlainExpertsIdeal.τ).loc Cert.PlainExpertsIdeal.main_arg3) = m' ((c.tc : Thread Cert.PlainExpertsIdeal.nD Cert.PlainExpertsIdeal.τ).loc Cert.PlainExpertsIdeal.main_arg3)
          ∧ r.2.mem ((c.tc : Thread Cert.PlainExpertsIdeal.nD Cert.PlainExpertsIdeal.τ).loc Cert.PlainExpertsIdeal.main_arg4) = m' ((c.tc : Thread Cert.PlainExpertsIdeal.nD Cert.PlainExpertsIdeal.τ).loc Cert.PlainExpertsIdeal.main_arg4))

def preserves_Context_ContextIdeal : Prop :=
  True

def algebraic_ContextIdeal_PlainContextIdeal_pre_context_finite [hContextIdeal : Cert.ContextIdeal.Facts] [hPlainContextIdeal : Cert.PlainContextIdeal.Facts] [hPre_context_finite : Cert.Pre_context_finite.Facts] : Prop :=
  ∀ (m : (ℓ : Loc Cert.ContextIdeal.nD Cert.ContextIdeal.τ Cert.ContextIdeal.sig) → Buf (Elt Ideal) ℓ) (g : Dev Cert.ContextIdeal.nD → PrngReg)
    (m' : (ℓ : Loc Cert.PlainContextIdeal.nD Cert.PlainContextIdeal.τ Cert.PlainContextIdeal.sig) → Buf (Elt Ideal) ℓ) (g' : Dev Cert.PlainContextIdeal.nD → PrngReg), Pre_ContextIdeal_context_finite m →
    (∀ c : Dev Cert.ContextIdeal.nD,
      m' ((c.tc : Thread Cert.PlainContextIdeal.nD Cert.PlainContextIdeal.τ).loc Cert.PlainContextIdeal.main_arg0) = m ((c.tc : Thread Cert.ContextIdeal.nD Cert.ContextIdeal.τ).loc Cert.ContextIdeal.main_arg0)
      ∧ m' ((c.tc : Thread Cert.PlainContextIdeal.nD Cert.PlainContextIdeal.τ).loc Cert.PlainContextIdeal.main_arg1) = m ((c.tc : Thread Cert.ContextIdeal.nD Cert.ContextIdeal.τ).loc Cert.ContextIdeal.main_arg1)
      ∧ m' ((c.tc : Thread Cert.PlainContextIdeal.nD Cert.PlainContextIdeal.τ).loc Cert.PlainContextIdeal.main_arg2) = m ((c.tc : Thread Cert.ContextIdeal.nD Cert.ContextIdeal.τ).loc Cert.ContextIdeal.main_arg2)
      ∧ m' ((c.tc : Thread Cert.PlainContextIdeal.nD Cert.PlainContextIdeal.τ).loc Cert.PlainContextIdeal.main_arg3) = m ((c.tc : Thread Cert.ContextIdeal.nD Cert.ContextIdeal.τ).loc Cert.ContextIdeal.main_arg3)
      ∧ m' ((c.tc : Thread Cert.PlainContextIdeal.nD Cert.PlainContextIdeal.τ).loc Cert.PlainContextIdeal.main_arg4) = m ((c.tc : Thread Cert.ContextIdeal.nD Cert.ContextIdeal.τ).loc Cert.ContextIdeal.main_arg4)
      ∧ m' ((c.tc : Thread Cert.PlainContextIdeal.nD Cert.PlainContextIdeal.τ).loc Cert.PlainContextIdeal.main_arg5) = m ((c.tc : Thread Cert.ContextIdeal.nD Cert.ContextIdeal.τ).loc Cert.ContextIdeal.main_arg5)
      ∧ m' ((c.tc : Thread Cert.PlainContextIdeal.nD Cert.PlainContextIdeal.τ).loc Cert.PlainContextIdeal.main_arg6) = m ((c.tc : Thread Cert.ContextIdeal.nD Cert.ContextIdeal.τ).loc Cert.ContextIdeal.main_arg6)
      ∧ m' ((c.tc : Thread Cert.PlainContextIdeal.nD Cert.PlainContextIdeal.τ).loc Cert.PlainContextIdeal.main_arg7) = m ((c.tc : Thread Cert.ContextIdeal.nD Cert.ContextIdeal.τ).loc Cert.ContextIdeal.main_arg7)
      ∧ m' ((c.tc : Thread Cert.PlainContextIdeal.nD Cert.PlainContextIdeal.τ).loc Cert.PlainContextIdeal.main_arg8) = m ((c.tc : Thread Cert.ContextIdeal.nD Cert.ContextIdeal.τ).loc Cert.ContextIdeal.main_arg8)
      ∧ m' ((c.tc : Thread Cert.PlainContextIdeal.nD Cert.PlainContextIdeal.τ).loc Cert.PlainContextIdeal.main_arg9) = m ((c.tc : Thread Cert.ContextIdeal.nD Cert.ContextIdeal.τ).loc Cert.ContextIdeal.main_arg9)
      ∧ m' ((c.tc : Thread Cert.PlainContextIdeal.nD Cert.PlainContextIdeal.τ).loc Cert.PlainContextIdeal.main_arg10) = m ((c.tc : Thread Cert.ContextIdeal.nD Cert.ContextIdeal.τ).loc Cert.ContextIdeal.main_arg10)
      ∧ m' ((c.tc : Thread Cert.PlainContextIdeal.nD Cert.PlainContextIdeal.τ).loc Cert.PlainContextIdeal.main_arg11) = m ((c.tc : Thread Cert.ContextIdeal.nD Cert.ContextIdeal.τ).loc Cert.ContextIdeal.main_arg11)
      ∧ m' ((c.tc : Thread Cert.PlainContextIdeal.nD Cert.PlainContextIdeal.τ).loc Cert.PlainContextIdeal.main_arg12) = m ((c.tc : Thread Cert.ContextIdeal.nD Cert.ContextIdeal.τ).loc Cert.ContextIdeal.main_arg12)
      ∧ m' ((c.tc : Thread Cert.PlainContextIdeal.nD Cert.PlainContextIdeal.τ).loc Cert.PlainContextIdeal.main_arg13) = m ((c.tc : Thread Cert.ContextIdeal.nD Cert.ContextIdeal.τ).loc Cert.ContextIdeal.main_arg13)
      ∧ m' ((c.tc : Thread Cert.PlainContextIdeal.nD Cert.PlainContextIdeal.τ).loc Cert.PlainContextIdeal.main_arg14) = m ((c.tc : Thread Cert.ContextIdeal.nD Cert.ContextIdeal.τ).loc Cert.ContextIdeal.main_arg14)
      ∧ m' ((c.tc : Thread Cert.PlainContextIdeal.nD Cert.PlainContextIdeal.τ).loc Cert.PlainContextIdeal.main_arg15) = m ((c.tc : Thread Cert.ContextIdeal.nD Cert.ContextIdeal.τ).loc Cert.ContextIdeal.main_arg15)) →
    ∃ (v0 : (c : Dev Cert.ContextIdeal.nD) → Buf (Elt Ideal) ((c.tc : Thread Cert.ContextIdeal.nD Cert.ContextIdeal.τ).loc Cert.ContextIdeal.main_v30)) (v1 : (c : Dev Cert.ContextIdeal.nD) → Buf (Elt Ideal) ((c.tc : Thread Cert.ContextIdeal.nD Cert.ContextIdeal.τ).loc Cert.ContextIdeal.main_v31)) (v2 : (c : Dev Cert.ContextIdeal.nD) → Buf (Elt Ideal) ((c.tc : Thread Cert.ContextIdeal.nD Cert.ContextIdeal.τ).loc Cert.ContextIdeal.main_v63)) (v3 : (c : Dev Cert.ContextIdeal.nD) → Buf (Elt Ideal) ((c.tc : Thread Cert.ContextIdeal.nD Cert.ContextIdeal.τ).loc Cert.ContextIdeal.main_v64)),
      θ_run (Cert.ContextIdeal.defs (F := Ideal)) (onTc (τ := Cert.ContextIdeal.τ) (Cert.ContextIdeal.main (F := Ideal))) ⟨m, fun _ => 0, g⟩ (fun r => ∀ c : Dev Cert.ContextIdeal.nD,
          r.2.mem ((c.tc : Thread Cert.ContextIdeal.nD Cert.ContextIdeal.τ).loc Cert.ContextIdeal.main_v30) = v0 c
          ∧ r.2.mem ((c.tc : Thread Cert.ContextIdeal.nD Cert.ContextIdeal.τ).loc Cert.ContextIdeal.main_v31) = v1 c
          ∧ r.2.mem ((c.tc : Thread Cert.ContextIdeal.nD Cert.ContextIdeal.τ).loc Cert.ContextIdeal.main_v63) = v2 c
          ∧ r.2.mem ((c.tc : Thread Cert.ContextIdeal.nD Cert.ContextIdeal.τ).loc Cert.ContextIdeal.main_v64) = v3 c
          ∧ r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
          ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
          ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
          ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
          ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4)
          ∧ r.2.mem ((c.tc : Thread Cert.ContextIdeal.nD Cert.ContextIdeal.τ).loc Cert.ContextIdeal.main_arg5) = m ((c.tc : Thread Cert.ContextIdeal.nD Cert.ContextIdeal.τ).loc Cert.ContextIdeal.main_arg5)
          ∧ r.2.mem ((c.tc : Thread Cert.ContextIdeal.nD Cert.ContextIdeal.τ).loc Cert.ContextIdeal.main_arg6) = m ((c.tc : Thread Cert.ContextIdeal.nD Cert.ContextIdeal.τ).loc Cert.ContextIdeal.main_arg6)
          ∧ r.2.mem ((c.tc : Thread Cert.ContextIdeal.nD Cert.ContextIdeal.τ).loc Cert.ContextIdeal.main_arg7) = m ((c.tc : Thread Cert.ContextIdeal.nD Cert.ContextIdeal.τ).loc Cert.ContextIdeal.main_arg7)
          ∧ r.2.mem ((c.tc : Thread Cert.ContextIdeal.nD Cert.ContextIdeal.τ).loc Cert.ContextIdeal.main_arg8) = m ((c.tc : Thread Cert.ContextIdeal.nD Cert.ContextIdeal.τ).loc Cert.ContextIdeal.main_arg8)
          ∧ r.2.mem ((c.tc : Thread Cert.ContextIdeal.nD Cert.ContextIdeal.τ).loc Cert.ContextIdeal.main_arg9) = m ((c.tc : Thread Cert.ContextIdeal.nD Cert.ContextIdeal.τ).loc Cert.ContextIdeal.main_arg9)
          ∧ r.2.mem ((c.tc : Thread Cert.ContextIdeal.nD Cert.ContextIdeal.τ).loc Cert.ContextIdeal.main_arg10) = m ((c.tc : Thread Cert.ContextIdeal.nD Cert.ContextIdeal.τ).loc Cert.ContextIdeal.main_arg10)
          ∧ r.2.mem ((c.tc : Thread Cert.ContextIdeal.nD Cert.ContextIdeal.τ).loc Cert.ContextIdeal.main_arg11) = m ((c.tc : Thread Cert.ContextIdeal.nD Cert.ContextIdeal.τ).loc Cert.ContextIdeal.main_arg11)
          ∧ r.2.mem ((c.tc : Thread Cert.ContextIdeal.nD Cert.ContextIdeal.τ).loc Cert.ContextIdeal.main_arg12) = m ((c.tc : Thread Cert.ContextIdeal.nD Cert.ContextIdeal.τ).loc Cert.ContextIdeal.main_arg12)
          ∧ r.2.mem ((c.tc : Thread Cert.ContextIdeal.nD Cert.ContextIdeal.τ).loc Cert.ContextIdeal.main_arg13) = m ((c.tc : Thread Cert.ContextIdeal.nD Cert.ContextIdeal.τ).loc Cert.ContextIdeal.main_arg13)
          ∧ r.2.mem ((c.tc : Thread Cert.ContextIdeal.nD Cert.ContextIdeal.τ).loc Cert.ContextIdeal.main_arg14) = m ((c.tc : Thread Cert.ContextIdeal.nD Cert.ContextIdeal.τ).loc Cert.ContextIdeal.main_arg14)
          ∧ r.2.mem ((c.tc : Thread Cert.ContextIdeal.nD Cert.ContextIdeal.τ).loc Cert.ContextIdeal.main_arg15) = m ((c.tc : Thread Cert.ContextIdeal.nD Cert.ContextIdeal.τ).loc Cert.ContextIdeal.main_arg15))
      ∧ θ_run (Cert.PlainContextIdeal.defs (F := Ideal)) (onTc (τ := Cert.PlainContextIdeal.τ) (Cert.PlainContextIdeal.main (F := Ideal))) ⟨m', fun _ => 0, g'⟩ (fun r => ∀ c : Dev Cert.PlainContextIdeal.nD,
          r.2.mem ((c.tc : Thread Cert.PlainContextIdeal.nD Cert.PlainContextIdeal.τ).loc Cert.PlainContextIdeal.main_v187) = v0 c
          ∧ r.2.mem ((c.tc : Thread Cert.PlainContextIdeal.nD Cert.PlainContextIdeal.τ).loc Cert.PlainContextIdeal.main_v188) = v1 c
          ∧ r.2.mem ((c.tc : Thread Cert.PlainContextIdeal.nD Cert.PlainContextIdeal.τ).loc Cert.PlainContextIdeal.main_v189) = v2 c
          ∧ r.2.mem ((c.tc : Thread Cert.PlainContextIdeal.nD Cert.PlainContextIdeal.τ).loc Cert.PlainContextIdeal.main_v190) = v3 c
          ∧ r.2.mem ((c.tc : Thread Cert.PlainContextIdeal.nD Cert.PlainContextIdeal.τ).loc Cert.PlainContextIdeal.main_arg0) = m' ((c.tc : Thread Cert.PlainContextIdeal.nD Cert.PlainContextIdeal.τ).loc Cert.PlainContextIdeal.main_arg0)
          ∧ r.2.mem ((c.tc : Thread Cert.PlainContextIdeal.nD Cert.PlainContextIdeal.τ).loc Cert.PlainContextIdeal.main_arg1) = m' ((c.tc : Thread Cert.PlainContextIdeal.nD Cert.PlainContextIdeal.τ).loc Cert.PlainContextIdeal.main_arg1)
          ∧ r.2.mem ((c.tc : Thread Cert.PlainContextIdeal.nD Cert.PlainContextIdeal.τ).loc Cert.PlainContextIdeal.main_arg2) = m' ((c.tc : Thread Cert.PlainContextIdeal.nD Cert.PlainContextIdeal.τ).loc Cert.PlainContextIdeal.main_arg2)
          ∧ r.2.mem ((c.tc : Thread Cert.PlainContextIdeal.nD Cert.PlainContextIdeal.τ).loc Cert.PlainContextIdeal.main_arg3) = m' ((c.tc : Thread Cert.PlainContextIdeal.nD Cert.PlainContextIdeal.τ).loc Cert.PlainContextIdeal.main_arg3)
          ∧ r.2.mem ((c.tc : Thread Cert.PlainContextIdeal.nD Cert.PlainContextIdeal.τ).loc Cert.PlainContextIdeal.main_arg4) = m' ((c.tc : Thread Cert.PlainContextIdeal.nD Cert.PlainContextIdeal.τ).loc Cert.PlainContextIdeal.main_arg4)
          ∧ r.2.mem ((c.tc : Thread Cert.PlainContextIdeal.nD Cert.PlainContextIdeal.τ).loc Cert.PlainContextIdeal.main_arg5) = m' ((c.tc : Thread Cert.PlainContextIdeal.nD Cert.PlainContextIdeal.τ).loc Cert.PlainContextIdeal.main_arg5)
          ∧ r.2.mem ((c.tc : Thread Cert.PlainContextIdeal.nD Cert.PlainContextIdeal.τ).loc Cert.PlainContextIdeal.main_arg6) = m' ((c.tc : Thread Cert.PlainContextIdeal.nD Cert.PlainContextIdeal.τ).loc Cert.PlainContextIdeal.main_arg6)
          ∧ r.2.mem ((c.tc : Thread Cert.PlainContextIdeal.nD Cert.PlainContextIdeal.τ).loc Cert.PlainContextIdeal.main_arg7) = m' ((c.tc : Thread Cert.PlainContextIdeal.nD Cert.PlainContextIdeal.τ).loc Cert.PlainContextIdeal.main_arg7)
          ∧ r.2.mem ((c.tc : Thread Cert.PlainContextIdeal.nD Cert.PlainContextIdeal.τ).loc Cert.PlainContextIdeal.main_arg8) = m' ((c.tc : Thread Cert.PlainContextIdeal.nD Cert.PlainContextIdeal.τ).loc Cert.PlainContextIdeal.main_arg8)
          ∧ r.2.mem ((c.tc : Thread Cert.PlainContextIdeal.nD Cert.PlainContextIdeal.τ).loc Cert.PlainContextIdeal.main_arg9) = m' ((c.tc : Thread Cert.PlainContextIdeal.nD Cert.PlainContextIdeal.τ).loc Cert.PlainContextIdeal.main_arg9)
          ∧ r.2.mem ((c.tc : Thread Cert.PlainContextIdeal.nD Cert.PlainContextIdeal.τ).loc Cert.PlainContextIdeal.main_arg10) = m' ((c.tc : Thread Cert.PlainContextIdeal.nD Cert.PlainContextIdeal.τ).loc Cert.PlainContextIdeal.main_arg10)
          ∧ r.2.mem ((c.tc : Thread Cert.PlainContextIdeal.nD Cert.PlainContextIdeal.τ).loc Cert.PlainContextIdeal.main_arg11) = m' ((c.tc : Thread Cert.PlainContextIdeal.nD Cert.PlainContextIdeal.τ).loc Cert.PlainContextIdeal.main_arg11)
          ∧ r.2.mem ((c.tc : Thread Cert.PlainContextIdeal.nD Cert.PlainContextIdeal.τ).loc Cert.PlainContextIdeal.main_arg12) = m' ((c.tc : Thread Cert.PlainContextIdeal.nD Cert.PlainContextIdeal.τ).loc Cert.PlainContextIdeal.main_arg12)
          ∧ r.2.mem ((c.tc : Thread Cert.PlainContextIdeal.nD Cert.PlainContextIdeal.τ).loc Cert.PlainContextIdeal.main_arg13) = m' ((c.tc : Thread Cert.PlainContextIdeal.nD Cert.PlainContextIdeal.τ).loc Cert.PlainContextIdeal.main_arg13)
          ∧ r.2.mem ((c.tc : Thread Cert.PlainContextIdeal.nD Cert.PlainContextIdeal.τ).loc Cert.PlainContextIdeal.main_arg14) = m' ((c.tc : Thread Cert.PlainContextIdeal.nD Cert.PlainContextIdeal.τ).loc Cert.PlainContextIdeal.main_arg14)
          ∧ r.2.mem ((c.tc : Thread Cert.PlainContextIdeal.nD Cert.PlainContextIdeal.τ).loc Cert.PlainContextIdeal.main_arg15) = m' ((c.tc : Thread Cert.PlainContextIdeal.nD Cert.PlainContextIdeal.τ).loc Cert.PlainContextIdeal.main_arg15))

def preserves_Latent_LatentIdeal : Prop :=
  True

def algebraic_LatentIdeal_PlainLatentIdeal [hLatentIdeal : Cert.LatentIdeal.Facts] [hPlainLatentIdeal : Cert.PlainLatentIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.PlainLatentIdeal.nD Cert.PlainLatentIdeal.τ Cert.PlainLatentIdeal.sig) → Buf (Elt Ideal) ℓ) (g' : Dev Cert.PlainLatentIdeal.nD → PrngReg), Pre_LatentIdeal m →
    (∀ c : Dev Cert.LatentIdeal.nD,
      m' ((c.tc : Thread Cert.PlainLatentIdeal.nD Cert.PlainLatentIdeal.τ).loc Cert.PlainLatentIdeal.main_arg0) = m ((c.tc : Thread Cert.LatentIdeal.nD Cert.LatentIdeal.τ).loc Cert.LatentIdeal.main_arg0)
      ∧ m' ((c.tc : Thread Cert.PlainLatentIdeal.nD Cert.PlainLatentIdeal.τ).loc Cert.PlainLatentIdeal.main_arg1) = m ((c.tc : Thread Cert.LatentIdeal.nD Cert.LatentIdeal.τ).loc Cert.LatentIdeal.main_arg1)
      ∧ m' ((c.tc : Thread Cert.PlainLatentIdeal.nD Cert.PlainLatentIdeal.τ).loc Cert.PlainLatentIdeal.main_arg2) = m ((c.tc : Thread Cert.LatentIdeal.nD Cert.LatentIdeal.τ).loc Cert.LatentIdeal.main_arg2)
      ∧ m' ((c.tc : Thread Cert.PlainLatentIdeal.nD Cert.PlainLatentIdeal.τ).loc Cert.PlainLatentIdeal.main_arg3) = m ((c.tc : Thread Cert.LatentIdeal.nD Cert.LatentIdeal.τ).loc Cert.LatentIdeal.main_arg3)
      ∧ m' ((c.tc : Thread Cert.PlainLatentIdeal.nD Cert.PlainLatentIdeal.τ).loc Cert.PlainLatentIdeal.main_arg4) = m ((c.tc : Thread Cert.LatentIdeal.nD Cert.LatentIdeal.τ).loc Cert.LatentIdeal.main_arg4)
      ∧ m' ((c.tc : Thread Cert.PlainLatentIdeal.nD Cert.PlainLatentIdeal.τ).loc Cert.PlainLatentIdeal.main_arg5) = m ((c.tc : Thread Cert.LatentIdeal.nD Cert.LatentIdeal.τ).loc Cert.LatentIdeal.main_arg5)
      ∧ m' ((c.tc : Thread Cert.PlainLatentIdeal.nD Cert.PlainLatentIdeal.τ).loc Cert.PlainLatentIdeal.main_arg6) = m ((c.tc : Thread Cert.LatentIdeal.nD Cert.LatentIdeal.τ).loc Cert.LatentIdeal.main_arg6)
      ∧ m' ((c.tc : Thread Cert.PlainLatentIdeal.nD Cert.PlainLatentIdeal.τ).loc Cert.PlainLatentIdeal.main_arg7) = m ((c.tc : Thread Cert.LatentIdeal.nD Cert.LatentIdeal.τ).loc Cert.LatentIdeal.main_arg7)
      ∧ m' ((c.tc : Thread Cert.PlainLatentIdeal.nD Cert.PlainLatentIdeal.τ).loc Cert.PlainLatentIdeal.main_arg8) = m ((c.tc : Thread Cert.LatentIdeal.nD Cert.LatentIdeal.τ).loc Cert.LatentIdeal.main_arg8)
      ∧ m' ((c.tc : Thread Cert.PlainLatentIdeal.nD Cert.PlainLatentIdeal.τ).loc Cert.PlainLatentIdeal.main_arg9) = m ((c.tc : Thread Cert.LatentIdeal.nD Cert.LatentIdeal.τ).loc Cert.LatentIdeal.main_arg9)) →
    ∃ (v0 : (c : Dev Cert.LatentIdeal.nD) → Buf (Elt Ideal) ((c.tc : Thread Cert.LatentIdeal.nD Cert.LatentIdeal.τ).loc Cert.LatentIdeal.main_v27)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v27) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
          ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
          ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6)
          ∧ r.2.mem ((c.tc : Thread Cert.LatentIdeal.nD Cert.LatentIdeal.τ).loc Cert.LatentIdeal.main_arg7) = m ((c.tc : Thread Cert.LatentIdeal.nD Cert.LatentIdeal.τ).loc Cert.LatentIdeal.main_arg7)
          ∧ r.2.mem ((c.tc : Thread Cert.LatentIdeal.nD Cert.LatentIdeal.τ).loc Cert.LatentIdeal.main_arg8) = m ((c.tc : Thread Cert.LatentIdeal.nD Cert.LatentIdeal.τ).loc Cert.LatentIdeal.main_arg8)
          ∧ r.2.mem ((c.tc : Thread Cert.LatentIdeal.nD Cert.LatentIdeal.τ).loc Cert.LatentIdeal.main_arg9) = m ((c.tc : Thread Cert.LatentIdeal.nD Cert.LatentIdeal.τ).loc Cert.LatentIdeal.main_arg9))
      ∧ θ_run (Cert.PlainLatentIdeal.defs (F := Ideal)) (onTc (τ := Cert.PlainLatentIdeal.τ) (Cert.PlainLatentIdeal.main (F := Ideal))) ⟨m', fun _ => 0, g'⟩ (fun r => ∀ c : Dev Cert.PlainLatentIdeal.nD,
          r.2.mem ((c.tc : Thread Cert.PlainLatentIdeal.nD Cert.PlainLatentIdeal.τ).loc Cert.PlainLatentIdeal.main_v96) = v0 c
          ∧ r.2.mem ((c.tc : Thread Cert.PlainLatentIdeal.nD Cert.PlainLatentIdeal.τ).loc Cert.PlainLatentIdeal.main_arg0) = m' ((c.tc : Thread Cert.PlainLatentIdeal.nD Cert.PlainLatentIdeal.τ).loc Cert.PlainLatentIdeal.main_arg0)
          ∧ r.2.mem ((c.tc : Thread Cert.PlainLatentIdeal.nD Cert.PlainLatentIdeal.τ).loc Cert.PlainLatentIdeal.main_arg1) = m' ((c.tc : Thread Cert.PlainLatentIdeal.nD Cert.PlainLatentIdeal.τ).loc Cert.PlainLatentIdeal.main_arg1)
          ∧ r.2.mem ((c.tc : Thread Cert.PlainLatentIdeal.nD Cert.PlainLatentIdeal.τ).loc Cert.PlainLatentIdeal.main_arg2) = m' ((c.tc : Thread Cert.PlainLatentIdeal.nD Cert.PlainLatentIdeal.τ).loc Cert.PlainLatentIdeal.main_arg2)
          ∧ r.2.mem ((c.tc : Thread Cert.PlainLatentIdeal.nD Cert.PlainLatentIdeal.τ).loc Cert.PlainLatentIdeal.main_arg3) = m' ((c.tc : Thread Cert.PlainLatentIdeal.nD Cert.PlainLatentIdeal.τ).loc Cert.PlainLatentIdeal.main_arg3)
          ∧ r.2.mem ((c.tc : Thread Cert.PlainLatentIdeal.nD Cert.PlainLatentIdeal.τ).loc Cert.PlainLatentIdeal.main_arg4) = m' ((c.tc : Thread Cert.PlainLatentIdeal.nD Cert.PlainLatentIdeal.τ).loc Cert.PlainLatentIdeal.main_arg4)
          ∧ r.2.mem ((c.tc : Thread Cert.PlainLatentIdeal.nD Cert.PlainLatentIdeal.τ).loc Cert.PlainLatentIdeal.main_arg5) = m' ((c.tc : Thread Cert.PlainLatentIdeal.nD Cert.PlainLatentIdeal.τ).loc Cert.PlainLatentIdeal.main_arg5)
          ∧ r.2.mem ((c.tc : Thread Cert.PlainLatentIdeal.nD Cert.PlainLatentIdeal.τ).loc Cert.PlainLatentIdeal.main_arg6) = m' ((c.tc : Thread Cert.PlainLatentIdeal.nD Cert.PlainLatentIdeal.τ).loc Cert.PlainLatentIdeal.main_arg6)
          ∧ r.2.mem ((c.tc : Thread Cert.PlainLatentIdeal.nD Cert.PlainLatentIdeal.τ).loc Cert.PlainLatentIdeal.main_arg7) = m' ((c.tc : Thread Cert.PlainLatentIdeal.nD Cert.PlainLatentIdeal.τ).loc Cert.PlainLatentIdeal.main_arg7)
          ∧ r.2.mem ((c.tc : Thread Cert.PlainLatentIdeal.nD Cert.PlainLatentIdeal.τ).loc Cert.PlainLatentIdeal.main_arg8) = m' ((c.tc : Thread Cert.PlainLatentIdeal.nD Cert.PlainLatentIdeal.τ).loc Cert.PlainLatentIdeal.main_arg8)
          ∧ r.2.mem ((c.tc : Thread Cert.PlainLatentIdeal.nD Cert.PlainLatentIdeal.τ).loc Cert.PlainLatentIdeal.main_arg9) = m' ((c.tc : Thread Cert.PlainLatentIdeal.nD Cert.PlainLatentIdeal.τ).loc Cert.PlainLatentIdeal.main_arg9))

def preserves_Projection_ProjectionIdeal : Prop :=
  True

def algebraic_ProjectionIdeal_PlainProjectionIdeal [hProjectionIdeal : Cert.ProjectionIdeal.Facts] [hPlainProjectionIdeal : Cert.PlainProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.PlainProjectionIdeal.nD Cert.PlainProjectionIdeal.τ Cert.PlainProjectionIdeal.sig) → Buf (Elt Ideal) ℓ) (g' : Dev Cert.PlainProjectionIdeal.nD → PrngReg), Pre_ProjectionIdeal m →
    (∀ c : Dev Cert.ProjectionIdeal.nD,
      m' ((c.tc : Thread Cert.PlainProjectionIdeal.nD Cert.PlainProjectionIdeal.τ).loc Cert.PlainProjectionIdeal.main_arg0) = m ((c.tc : Thread Cert.ProjectionIdeal.nD Cert.ProjectionIdeal.τ).loc Cert.ProjectionIdeal.main_arg0)
      ∧ m' ((c.tc : Thread Cert.PlainProjectionIdeal.nD Cert.PlainProjectionIdeal.τ).loc Cert.PlainProjectionIdeal.main_arg1) = m ((c.tc : Thread Cert.ProjectionIdeal.nD Cert.ProjectionIdeal.τ).loc Cert.ProjectionIdeal.main_arg1)
      ∧ m' ((c.tc : Thread Cert.PlainProjectionIdeal.nD Cert.PlainProjectionIdeal.τ).loc Cert.PlainProjectionIdeal.main_arg2) = m ((c.tc : Thread Cert.ProjectionIdeal.nD Cert.ProjectionIdeal.τ).loc Cert.ProjectionIdeal.main_arg2)) →
    ∃ (v0 : (c : Dev Cert.ProjectionIdeal.nD) → Buf (Elt Ideal) ((c.tc : Thread Cert.ProjectionIdeal.nD Cert.ProjectionIdeal.τ).loc Cert.ProjectionIdeal.main_v6_0)) (v1 : (c : Dev Cert.ProjectionIdeal.nD) → Buf (Elt Ideal) ((c.tc : Thread Cert.ProjectionIdeal.nD Cert.ProjectionIdeal.τ).loc Cert.ProjectionIdeal.main_v6_1)) (v2 : (c : Dev Cert.ProjectionIdeal.nD) → Buf (Elt Ideal) ((c.tc : Thread Cert.ProjectionIdeal.nD Cert.ProjectionIdeal.τ).loc Cert.ProjectionIdeal.main_v6_2)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v6_0) = v0 c
          ∧ r.2.mem ((c.tc : Thread Cert.ProjectionIdeal.nD Cert.ProjectionIdeal.τ).loc Cert.ProjectionIdeal.main_v6_1) = v1 c
          ∧ r.2.mem ((c.tc : Thread Cert.ProjectionIdeal.nD Cert.ProjectionIdeal.τ).loc Cert.ProjectionIdeal.main_v6_2) = v2 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ θ_run (Cert.PlainProjectionIdeal.defs (F := Ideal)) (onTc (τ := Cert.PlainProjectionIdeal.τ) (Cert.PlainProjectionIdeal.main (F := Ideal))) ⟨m', fun _ => 0, g'⟩ (fun r => ∀ c : Dev Cert.PlainProjectionIdeal.nD,
          r.2.mem ((c.tc : Thread Cert.PlainProjectionIdeal.nD Cert.PlainProjectionIdeal.τ).loc Cert.PlainProjectionIdeal.main_v33) = v0 c
          ∧ r.2.mem ((c.tc : Thread Cert.PlainProjectionIdeal.nD Cert.PlainProjectionIdeal.τ).loc Cert.PlainProjectionIdeal.main_v35) = v1 c
          ∧ r.2.mem ((c.tc : Thread Cert.PlainProjectionIdeal.nD Cert.PlainProjectionIdeal.τ).loc Cert.PlainProjectionIdeal.main_v37) = v2 c
          ∧ r.2.mem ((c.tc : Thread Cert.PlainProjectionIdeal.nD Cert.PlainProjectionIdeal.τ).loc Cert.PlainProjectionIdeal.main_arg0) = m' ((c.tc : Thread Cert.PlainProjectionIdeal.nD Cert.PlainProjectionIdeal.τ).loc Cert.PlainProjectionIdeal.main_arg0)
          ∧ r.2.mem ((c.tc : Thread Cert.PlainProjectionIdeal.nD Cert.PlainProjectionIdeal.τ).loc Cert.PlainProjectionIdeal.main_arg1) = m' ((c.tc : Thread Cert.PlainProjectionIdeal.nD Cert.PlainProjectionIdeal.τ).loc Cert.PlainProjectionIdeal.main_arg1)
          ∧ r.2.mem ((c.tc : Thread Cert.PlainProjectionIdeal.nD Cert.PlainProjectionIdeal.τ).loc Cert.PlainProjectionIdeal.main_arg2) = m' ((c.tc : Thread Cert.PlainProjectionIdeal.nD Cert.PlainProjectionIdeal.τ).loc Cert.PlainProjectionIdeal.main_arg2))

def preserves_Rotary_RotaryIdeal : Prop :=
  True

def algebraic_RotaryIdeal_PlainRotaryIdeal [hRotaryIdeal : Cert.RotaryIdeal.Facts] [hPlainRotaryIdeal : Cert.PlainRotaryIdeal.Facts] : Prop :=
  ∀ (m : (ℓ : Loc Cert.RotaryIdeal.nD Cert.RotaryIdeal.τ Cert.RotaryIdeal.sig) → Buf (Elt Ideal) ℓ) (g : Dev Cert.RotaryIdeal.nD → PrngReg)
    (m' : (ℓ : Loc Cert.PlainRotaryIdeal.nD Cert.PlainRotaryIdeal.τ Cert.PlainRotaryIdeal.sig) → Buf (Elt Ideal) ℓ) (g' : Dev Cert.PlainRotaryIdeal.nD → PrngReg), Pre_RotaryIdeal m →
    (∀ c : Dev Cert.RotaryIdeal.nD,
      m' ((c.tc : Thread Cert.PlainRotaryIdeal.nD Cert.PlainRotaryIdeal.τ).loc Cert.PlainRotaryIdeal.main_arg0) = m ((c.tc : Thread Cert.RotaryIdeal.nD Cert.RotaryIdeal.τ).loc Cert.RotaryIdeal.main_arg0)
      ∧ m' ((c.tc : Thread Cert.PlainRotaryIdeal.nD Cert.PlainRotaryIdeal.τ).loc Cert.PlainRotaryIdeal.main_arg1) = m ((c.tc : Thread Cert.RotaryIdeal.nD Cert.RotaryIdeal.τ).loc Cert.RotaryIdeal.main_arg1)
      ∧ m' ((c.tc : Thread Cert.PlainRotaryIdeal.nD Cert.PlainRotaryIdeal.τ).loc Cert.PlainRotaryIdeal.main_arg2) = m ((c.tc : Thread Cert.RotaryIdeal.nD Cert.RotaryIdeal.τ).loc Cert.RotaryIdeal.main_arg2)
      ∧ m' ((c.tc : Thread Cert.PlainRotaryIdeal.nD Cert.PlainRotaryIdeal.τ).loc Cert.PlainRotaryIdeal.main_arg3) = m ((c.tc : Thread Cert.RotaryIdeal.nD Cert.RotaryIdeal.τ).loc Cert.RotaryIdeal.main_arg3)
      ∧ m' ((c.tc : Thread Cert.PlainRotaryIdeal.nD Cert.PlainRotaryIdeal.τ).loc Cert.PlainRotaryIdeal.main_arg4) = m ((c.tc : Thread Cert.RotaryIdeal.nD Cert.RotaryIdeal.τ).loc Cert.RotaryIdeal.main_arg4)) →
    ∃ (v0 : (c : Dev Cert.RotaryIdeal.nD) → Buf (Elt Ideal) ((c.tc : Thread Cert.RotaryIdeal.nD Cert.RotaryIdeal.τ).loc Cert.RotaryIdeal.main_v44_0)) (v1 : (c : Dev Cert.RotaryIdeal.nD) → Buf (Elt Ideal) ((c.tc : Thread Cert.RotaryIdeal.nD Cert.RotaryIdeal.τ).loc Cert.RotaryIdeal.main_v44_1)) (v2 : (c : Dev Cert.RotaryIdeal.nD) → Buf (Elt Ideal) ((c.tc : Thread Cert.RotaryIdeal.nD Cert.RotaryIdeal.τ).loc Cert.RotaryIdeal.main_v44_2)),
      θ_run (Cert.RotaryIdeal.defs (F := Ideal)) (onTc (τ := Cert.RotaryIdeal.τ) (Cert.RotaryIdeal.main (F := Ideal))) ⟨m, fun _ => 0, g⟩ (fun r => ∀ c : Dev Cert.RotaryIdeal.nD,
          r.2.mem ((c.tc : Thread Cert.RotaryIdeal.nD Cert.RotaryIdeal.τ).loc Cert.RotaryIdeal.main_v44_0) = v0 c
          ∧ r.2.mem ((c.tc : Thread Cert.RotaryIdeal.nD Cert.RotaryIdeal.τ).loc Cert.RotaryIdeal.main_v44_1) = v1 c
          ∧ r.2.mem ((c.tc : Thread Cert.RotaryIdeal.nD Cert.RotaryIdeal.τ).loc Cert.RotaryIdeal.main_v44_2) = v2 c
          ∧ r.2.mem ((c.tc : Thread Cert.RotaryIdeal.nD Cert.RotaryIdeal.τ).loc Cert.RotaryIdeal.main_arg0) = m ((c.tc : Thread Cert.RotaryIdeal.nD Cert.RotaryIdeal.τ).loc Cert.RotaryIdeal.main_arg0)
          ∧ r.2.mem ((c.tc : Thread Cert.RotaryIdeal.nD Cert.RotaryIdeal.τ).loc Cert.RotaryIdeal.main_arg1) = m ((c.tc : Thread Cert.RotaryIdeal.nD Cert.RotaryIdeal.τ).loc Cert.RotaryIdeal.main_arg1)
          ∧ r.2.mem ((c.tc : Thread Cert.RotaryIdeal.nD Cert.RotaryIdeal.τ).loc Cert.RotaryIdeal.main_arg2) = m ((c.tc : Thread Cert.RotaryIdeal.nD Cert.RotaryIdeal.τ).loc Cert.RotaryIdeal.main_arg2)
          ∧ r.2.mem ((c.tc : Thread Cert.RotaryIdeal.nD Cert.RotaryIdeal.τ).loc Cert.RotaryIdeal.main_arg3) = m ((c.tc : Thread Cert.RotaryIdeal.nD Cert.RotaryIdeal.τ).loc Cert.RotaryIdeal.main_arg3)
          ∧ r.2.mem ((c.tc : Thread Cert.RotaryIdeal.nD Cert.RotaryIdeal.τ).loc Cert.RotaryIdeal.main_arg4) = m ((c.tc : Thread Cert.RotaryIdeal.nD Cert.RotaryIdeal.τ).loc Cert.RotaryIdeal.main_arg4))
      ∧ θ_run (Cert.PlainRotaryIdeal.defs (F := Ideal)) (onTc (τ := Cert.PlainRotaryIdeal.τ) (Cert.PlainRotaryIdeal.main (F := Ideal))) ⟨m', fun _ => 0, g'⟩ (fun r => ∀ c : Dev Cert.PlainRotaryIdeal.nD,
          r.2.mem ((c.tc : Thread Cert.PlainRotaryIdeal.nD Cert.PlainRotaryIdeal.τ).loc Cert.PlainRotaryIdeal.main_v125) = v0 c
          ∧ r.2.mem ((c.tc : Thread Cert.PlainRotaryIdeal.nD Cert.PlainRotaryIdeal.τ).loc Cert.PlainRotaryIdeal.main_v127) = v1 c
          ∧ r.2.mem ((c.tc : Thread Cert.PlainRotaryIdeal.nD Cert.PlainRotaryIdeal.τ).loc Cert.PlainRotaryIdeal.main_v130) = v2 c
          ∧ r.2.mem ((c.tc : Thread Cert.PlainRotaryIdeal.nD Cert.PlainRotaryIdeal.τ).loc Cert.PlainRotaryIdeal.main_arg0) = m' ((c.tc : Thread Cert.PlainRotaryIdeal.nD Cert.PlainRotaryIdeal.τ).loc Cert.PlainRotaryIdeal.main_arg0)
          ∧ r.2.mem ((c.tc : Thread Cert.PlainRotaryIdeal.nD Cert.PlainRotaryIdeal.τ).loc Cert.PlainRotaryIdeal.main_arg1) = m' ((c.tc : Thread Cert.PlainRotaryIdeal.nD Cert.PlainRotaryIdeal.τ).loc Cert.PlainRotaryIdeal.main_arg1)
          ∧ r.2.mem ((c.tc : Thread Cert.PlainRotaryIdeal.nD Cert.PlainRotaryIdeal.τ).loc Cert.PlainRotaryIdeal.main_arg2) = m' ((c.tc : Thread Cert.PlainRotaryIdeal.nD Cert.PlainRotaryIdeal.τ).loc Cert.PlainRotaryIdeal.main_arg2)
          ∧ r.2.mem ((c.tc : Thread Cert.PlainRotaryIdeal.nD Cert.PlainRotaryIdeal.τ).loc Cert.PlainRotaryIdeal.main_arg3) = m' ((c.tc : Thread Cert.PlainRotaryIdeal.nD Cert.PlainRotaryIdeal.τ).loc Cert.PlainRotaryIdeal.main_arg3)
          ∧ r.2.mem ((c.tc : Thread Cert.PlainRotaryIdeal.nD Cert.PlainRotaryIdeal.τ).loc Cert.PlainRotaryIdeal.main_arg4) = m' ((c.tc : Thread Cert.PlainRotaryIdeal.nD Cert.PlainRotaryIdeal.τ).loc Cert.PlainRotaryIdeal.main_arg4))

def preserves_Output_OutputIdeal : Prop :=
  True

def algebraic_OutputIdeal_PlainOutputIdeal [hOutputIdeal : Cert.OutputIdeal.Facts] [hPlainOutputIdeal : Cert.PlainOutputIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.PlainOutputIdeal.nD Cert.PlainOutputIdeal.τ Cert.PlainOutputIdeal.sig) → Buf (Elt Ideal) ℓ) (g' : Dev Cert.PlainOutputIdeal.nD → PrngReg), Pre_OutputIdeal m →
    (∀ c : Dev Cert.OutputIdeal.nD,
      m' ((c.tc : Thread Cert.PlainOutputIdeal.nD Cert.PlainOutputIdeal.τ).loc Cert.PlainOutputIdeal.main_arg0) = m ((c.tc : Thread Cert.OutputIdeal.nD Cert.OutputIdeal.τ).loc Cert.OutputIdeal.main_arg0)
      ∧ m' ((c.tc : Thread Cert.PlainOutputIdeal.nD Cert.PlainOutputIdeal.τ).loc Cert.PlainOutputIdeal.main_arg1) = m ((c.tc : Thread Cert.OutputIdeal.nD Cert.OutputIdeal.τ).loc Cert.OutputIdeal.main_arg1)
      ∧ m' ((c.tc : Thread Cert.PlainOutputIdeal.nD Cert.PlainOutputIdeal.τ).loc Cert.PlainOutputIdeal.main_arg2) = m ((c.tc : Thread Cert.OutputIdeal.nD Cert.OutputIdeal.τ).loc Cert.OutputIdeal.main_arg2)
      ∧ m' ((c.tc : Thread Cert.PlainOutputIdeal.nD Cert.PlainOutputIdeal.τ).loc Cert.PlainOutputIdeal.main_arg3) = m ((c.tc : Thread Cert.OutputIdeal.nD Cert.OutputIdeal.τ).loc Cert.OutputIdeal.main_arg3)
      ∧ m' ((c.tc : Thread Cert.PlainOutputIdeal.nD Cert.PlainOutputIdeal.τ).loc Cert.PlainOutputIdeal.main_arg4) = m ((c.tc : Thread Cert.OutputIdeal.nD Cert.OutputIdeal.τ).loc Cert.OutputIdeal.main_arg4)
      ∧ m' ((c.tc : Thread Cert.PlainOutputIdeal.nD Cert.PlainOutputIdeal.τ).loc Cert.PlainOutputIdeal.main_arg5) = m ((c.tc : Thread Cert.OutputIdeal.nD Cert.OutputIdeal.τ).loc Cert.OutputIdeal.main_arg5)) →
    ∃ (v0 : (c : Dev Cert.OutputIdeal.nD) → Buf (Elt Ideal) ((c.tc : Thread Cert.OutputIdeal.nD Cert.OutputIdeal.τ).loc Cert.OutputIdeal.main_v10)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v10) = v0 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5))
      ∧ θ_run (Cert.PlainOutputIdeal.defs (F := Ideal)) (onTc (τ := Cert.PlainOutputIdeal.τ) (Cert.PlainOutputIdeal.main (F := Ideal))) ⟨m', fun _ => 0, g'⟩ (fun r => ∀ c : Dev Cert.PlainOutputIdeal.nD,
          r.2.mem ((c.tc : Thread Cert.PlainOutputIdeal.nD Cert.PlainOutputIdeal.τ).loc Cert.PlainOutputIdeal.main_v50) = v0 c
          ∧ r.2.mem ((c.tc : Thread Cert.PlainOutputIdeal.nD Cert.PlainOutputIdeal.τ).loc Cert.PlainOutputIdeal.main_arg0) = m' ((c.tc : Thread Cert.PlainOutputIdeal.nD Cert.PlainOutputIdeal.τ).loc Cert.PlainOutputIdeal.main_arg0)
          ∧ r.2.mem ((c.tc : Thread Cert.PlainOutputIdeal.nD Cert.PlainOutputIdeal.τ).loc Cert.PlainOutputIdeal.main_arg1) = m' ((c.tc : Thread Cert.PlainOutputIdeal.nD Cert.PlainOutputIdeal.τ).loc Cert.PlainOutputIdeal.main_arg1)
          ∧ r.2.mem ((c.tc : Thread Cert.PlainOutputIdeal.nD Cert.PlainOutputIdeal.τ).loc Cert.PlainOutputIdeal.main_arg2) = m' ((c.tc : Thread Cert.PlainOutputIdeal.nD Cert.PlainOutputIdeal.τ).loc Cert.PlainOutputIdeal.main_arg2)
          ∧ r.2.mem ((c.tc : Thread Cert.PlainOutputIdeal.nD Cert.PlainOutputIdeal.τ).loc Cert.PlainOutputIdeal.main_arg3) = m' ((c.tc : Thread Cert.PlainOutputIdeal.nD Cert.PlainOutputIdeal.τ).loc Cert.PlainOutputIdeal.main_arg3)
          ∧ r.2.mem ((c.tc : Thread Cert.PlainOutputIdeal.nD Cert.PlainOutputIdeal.τ).loc Cert.PlainOutputIdeal.main_arg4) = m' ((c.tc : Thread Cert.PlainOutputIdeal.nD Cert.PlainOutputIdeal.τ).loc Cert.PlainOutputIdeal.main_arg4)
          ∧ r.2.mem ((c.tc : Thread Cert.PlainOutputIdeal.nD Cert.PlainOutputIdeal.τ).loc Cert.PlainOutputIdeal.main_arg5) = m' ((c.tc : Thread Cert.PlainOutputIdeal.nD Cert.PlainOutputIdeal.τ).loc Cert.PlainOutputIdeal.main_arg5))

def preserves_ContextOutput_ContextOutputIdeal : Prop :=
  True

def algebraic_ContextOutputIdeal_PlainContextOutputIdeal [hContextOutputIdeal : Cert.ContextOutputIdeal.Facts] [hPlainContextOutputIdeal : Cert.PlainContextOutputIdeal.Facts] : Prop :=
  ∀ (m : (ℓ : Loc Cert.ContextOutputIdeal.nD Cert.ContextOutputIdeal.τ Cert.ContextOutputIdeal.sig) → Buf (Elt Ideal) ℓ) (g : Dev Cert.ContextOutputIdeal.nD → PrngReg)
    (m' : (ℓ : Loc Cert.PlainContextOutputIdeal.nD Cert.PlainContextOutputIdeal.τ Cert.PlainContextOutputIdeal.sig) → Buf (Elt Ideal) ℓ) (g' : Dev Cert.PlainContextOutputIdeal.nD → PrngReg), Pre_ContextOutputIdeal m →
    (∀ c : Dev Cert.ContextOutputIdeal.nD,
      m' ((c.tc : Thread Cert.PlainContextOutputIdeal.nD Cert.PlainContextOutputIdeal.τ).loc Cert.PlainContextOutputIdeal.main_arg0) = m ((c.tc : Thread Cert.ContextOutputIdeal.nD Cert.ContextOutputIdeal.τ).loc Cert.ContextOutputIdeal.main_arg0)
      ∧ m' ((c.tc : Thread Cert.PlainContextOutputIdeal.nD Cert.PlainContextOutputIdeal.τ).loc Cert.PlainContextOutputIdeal.main_arg1) = m ((c.tc : Thread Cert.ContextOutputIdeal.nD Cert.ContextOutputIdeal.τ).loc Cert.ContextOutputIdeal.main_arg1)
      ∧ m' ((c.tc : Thread Cert.PlainContextOutputIdeal.nD Cert.PlainContextOutputIdeal.τ).loc Cert.PlainContextOutputIdeal.main_arg2) = m ((c.tc : Thread Cert.ContextOutputIdeal.nD Cert.ContextOutputIdeal.τ).loc Cert.ContextOutputIdeal.main_arg2)
      ∧ m' ((c.tc : Thread Cert.PlainContextOutputIdeal.nD Cert.PlainContextOutputIdeal.τ).loc Cert.PlainContextOutputIdeal.main_arg3) = m ((c.tc : Thread Cert.ContextOutputIdeal.nD Cert.ContextOutputIdeal.τ).loc Cert.ContextOutputIdeal.main_arg3)
      ∧ m' ((c.tc : Thread Cert.PlainContextOutputIdeal.nD Cert.PlainContextOutputIdeal.τ).loc Cert.PlainContextOutputIdeal.main_arg4) = m ((c.tc : Thread Cert.ContextOutputIdeal.nD Cert.ContextOutputIdeal.τ).loc Cert.ContextOutputIdeal.main_arg4)
      ∧ m' ((c.tc : Thread Cert.PlainContextOutputIdeal.nD Cert.PlainContextOutputIdeal.τ).loc Cert.PlainContextOutputIdeal.main_arg5) = m ((c.tc : Thread Cert.ContextOutputIdeal.nD Cert.ContextOutputIdeal.τ).loc Cert.ContextOutputIdeal.main_arg5)) →
    ∃ (v0 : (c : Dev Cert.ContextOutputIdeal.nD) → Buf (Elt Ideal) ((c.tc : Thread Cert.ContextOutputIdeal.nD Cert.ContextOutputIdeal.τ).loc Cert.ContextOutputIdeal.main_v10)),
      θ_run (Cert.ContextOutputIdeal.defs (F := Ideal)) (onTc (τ := Cert.ContextOutputIdeal.τ) (Cert.ContextOutputIdeal.main (F := Ideal))) ⟨m, fun _ => 0, g⟩ (fun r => ∀ c : Dev Cert.ContextOutputIdeal.nD,
          r.2.mem ((c.tc : Thread Cert.ContextOutputIdeal.nD Cert.ContextOutputIdeal.τ).loc Cert.ContextOutputIdeal.main_v10) = v0 c
          ∧ r.2.mem ((c.tc : Thread Cert.ContextOutputIdeal.nD Cert.ContextOutputIdeal.τ).loc Cert.ContextOutputIdeal.main_arg0) = m ((c.tc : Thread Cert.ContextOutputIdeal.nD Cert.ContextOutputIdeal.τ).loc Cert.ContextOutputIdeal.main_arg0)
          ∧ r.2.mem ((c.tc : Thread Cert.ContextOutputIdeal.nD Cert.ContextOutputIdeal.τ).loc Cert.ContextOutputIdeal.main_arg1) = m ((c.tc : Thread Cert.ContextOutputIdeal.nD Cert.ContextOutputIdeal.τ).loc Cert.ContextOutputIdeal.main_arg1)
          ∧ r.2.mem ((c.tc : Thread Cert.ContextOutputIdeal.nD Cert.ContextOutputIdeal.τ).loc Cert.ContextOutputIdeal.main_arg2) = m ((c.tc : Thread Cert.ContextOutputIdeal.nD Cert.ContextOutputIdeal.τ).loc Cert.ContextOutputIdeal.main_arg2)
          ∧ r.2.mem ((c.tc : Thread Cert.ContextOutputIdeal.nD Cert.ContextOutputIdeal.τ).loc Cert.ContextOutputIdeal.main_arg3) = m ((c.tc : Thread Cert.ContextOutputIdeal.nD Cert.ContextOutputIdeal.τ).loc Cert.ContextOutputIdeal.main_arg3)
          ∧ r.2.mem ((c.tc : Thread Cert.ContextOutputIdeal.nD Cert.ContextOutputIdeal.τ).loc Cert.ContextOutputIdeal.main_arg4) = m ((c.tc : Thread Cert.ContextOutputIdeal.nD Cert.ContextOutputIdeal.τ).loc Cert.ContextOutputIdeal.main_arg4)
          ∧ r.2.mem ((c.tc : Thread Cert.ContextOutputIdeal.nD Cert.ContextOutputIdeal.τ).loc Cert.ContextOutputIdeal.main_arg5) = m ((c.tc : Thread Cert.ContextOutputIdeal.nD Cert.ContextOutputIdeal.τ).loc Cert.ContextOutputIdeal.main_arg5))
      ∧ θ_run (Cert.PlainContextOutputIdeal.defs (F := Ideal)) (onTc (τ := Cert.PlainContextOutputIdeal.τ) (Cert.PlainContextOutputIdeal.main (F := Ideal))) ⟨m', fun _ => 0, g'⟩ (fun r => ∀ c : Dev Cert.PlainContextOutputIdeal.nD,
          r.2.mem ((c.tc : Thread Cert.PlainContextOutputIdeal.nD Cert.PlainContextOutputIdeal.τ).loc Cert.PlainContextOutputIdeal.main_v50) = v0 c
          ∧ r.2.mem ((c.tc : Thread Cert.PlainContextOutputIdeal.nD Cert.PlainContextOutputIdeal.τ).loc Cert.PlainContextOutputIdeal.main_arg0) = m' ((c.tc : Thread Cert.PlainContextOutputIdeal.nD Cert.PlainContextOutputIdeal.τ).loc Cert.PlainContextOutputIdeal.main_arg0)
          ∧ r.2.mem ((c.tc : Thread Cert.PlainContextOutputIdeal.nD Cert.PlainContextOutputIdeal.τ).loc Cert.PlainContextOutputIdeal.main_arg1) = m' ((c.tc : Thread Cert.PlainContextOutputIdeal.nD Cert.PlainContextOutputIdeal.τ).loc Cert.PlainContextOutputIdeal.main_arg1)
          ∧ r.2.mem ((c.tc : Thread Cert.PlainContextOutputIdeal.nD Cert.PlainContextOutputIdeal.τ).loc Cert.PlainContextOutputIdeal.main_arg2) = m' ((c.tc : Thread Cert.PlainContextOutputIdeal.nD Cert.PlainContextOutputIdeal.τ).loc Cert.PlainContextOutputIdeal.main_arg2)
          ∧ r.2.mem ((c.tc : Thread Cert.PlainContextOutputIdeal.nD Cert.PlainContextOutputIdeal.τ).loc Cert.PlainContextOutputIdeal.main_arg3) = m' ((c.tc : Thread Cert.PlainContextOutputIdeal.nD Cert.PlainContextOutputIdeal.τ).loc Cert.PlainContextOutputIdeal.main_arg3)
          ∧ r.2.mem ((c.tc : Thread Cert.PlainContextOutputIdeal.nD Cert.PlainContextOutputIdeal.τ).loc Cert.PlainContextOutputIdeal.main_arg4) = m' ((c.tc : Thread Cert.PlainContextOutputIdeal.nD Cert.PlainContextOutputIdeal.τ).loc Cert.PlainContextOutputIdeal.main_arg4)
          ∧ r.2.mem ((c.tc : Thread Cert.PlainContextOutputIdeal.nD Cert.PlainContextOutputIdeal.τ).loc Cert.PlainContextOutputIdeal.main_arg5) = m' ((c.tc : Thread Cert.PlainContextOutputIdeal.nD Cert.PlainContextOutputIdeal.τ).loc Cert.PlainContextOutputIdeal.main_arg5))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hPlainExpertsIdeal : Cert.PlainExpertsIdeal.Facts) (hContext : Cert.Context.Facts) (hContextIdeal : Cert.ContextIdeal.Facts) (hPlainContextIdeal : Cert.PlainContextIdeal.Facts) (hLatent : Cert.Latent.Facts) (hLatentIdeal : Cert.LatentIdeal.Facts) (hPlainLatentIdeal : Cert.PlainLatentIdeal.Facts) (hProjection : Cert.Projection.Facts) (hProjectionIdeal : Cert.ProjectionIdeal.Facts) (hPlainProjectionIdeal : Cert.PlainProjectionIdeal.Facts) (hRotary : Cert.Rotary.Facts) (hRotaryIdeal : Cert.RotaryIdeal.Facts) (hPlainRotaryIdeal : Cert.PlainRotaryIdeal.Facts) (hOutput : Cert.Output.Facts) (hOutputIdeal : Cert.OutputIdeal.Facts) (hPlainOutputIdeal : Cert.PlainOutputIdeal.Facts) (hContextOutput : Cert.ContextOutput.Facts) (hContextOutputIdeal : Cert.ContextOutputIdeal.Facts) (hPlainContextOutputIdeal : Cert.PlainContextOutputIdeal.Facts) (hPre_finite : Cert.Pre_finite.Facts) (hPre_expert_range : Cert.Pre_expert_range.Facts) (hPre_context_finite : Cert.Pre_context_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_expert_range := hPre_expert_range)
    ∧ quiescent_ExpertsIdeal (hExpertsIdeal := hExpertsIdeal) (hPre_expert_range := hPre_expert_range)
    ∧ quiescent_PlainExpertsIdeal (hPlainExpertsIdeal := hPlainExpertsIdeal)
    ∧ quiescent_PlainExpertsIdeal_pre_expert_range (hPlainExpertsIdeal := hPlainExpertsIdeal) (hPre_expert_range := hPre_expert_range)
    ∧ quiescent_Context (hContext := hContext)
    ∧ quiescent_ContextIdeal (hContextIdeal := hContextIdeal)
    ∧ quiescent_ContextIdeal_pre_context_finite (hContextIdeal := hContextIdeal) (hPre_context_finite := hPre_context_finite)
    ∧ quiescent_PlainContextIdeal (hPlainContextIdeal := hPlainContextIdeal)
    ∧ quiescent_PlainContextIdeal_pre_context_finite (hPlainContextIdeal := hPlainContextIdeal) (hPre_context_finite := hPre_context_finite)
    ∧ quiescent_Latent (hLatent := hLatent)
    ∧ quiescent_LatentIdeal (hLatentIdeal := hLatentIdeal)
    ∧ quiescent_PlainLatentIdeal (hPlainLatentIdeal := hPlainLatentIdeal)
    ∧ quiescent_Projection (hProjection := hProjection)
    ∧ quiescent_ProjectionIdeal (hProjectionIdeal := hProjectionIdeal)
    ∧ quiescent_PlainProjectionIdeal (hPlainProjectionIdeal := hPlainProjectionIdeal)
    ∧ quiescent_Rotary (hRotary := hRotary)
    ∧ quiescent_RotaryIdeal (hRotaryIdeal := hRotaryIdeal)
    ∧ quiescent_PlainRotaryIdeal (hPlainRotaryIdeal := hPlainRotaryIdeal)
    ∧ quiescent_Output (hOutput := hOutput)
    ∧ quiescent_OutputIdeal (hOutputIdeal := hOutputIdeal)
    ∧ quiescent_PlainOutputIdeal (hPlainOutputIdeal := hPlainOutputIdeal)
    ∧ quiescent_ContextOutput (hContextOutput := hContextOutput)
    ∧ quiescent_ContextOutputIdeal (hContextOutputIdeal := hContextOutputIdeal)
    ∧ quiescent_PlainContextOutputIdeal (hPlainContextOutputIdeal := hPlainContextOutputIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_PlainExpertsIdeal (hExpertsIdeal := hExpertsIdeal) (hPlainExpertsIdeal := hPlainExpertsIdeal) (hPre_expert_range := hPre_expert_range)
    ∧ preserves_Context_ContextIdeal
    ∧ algebraic_ContextIdeal_PlainContextIdeal_pre_context_finite (hContextIdeal := hContextIdeal) (hPlainContextIdeal := hPlainContextIdeal) (hPre_context_finite := hPre_context_finite)
    ∧ preserves_Latent_LatentIdeal
    ∧ algebraic_LatentIdeal_PlainLatentIdeal (hLatentIdeal := hLatentIdeal) (hPlainLatentIdeal := hPlainLatentIdeal)
    ∧ preserves_Projection_ProjectionIdeal
    ∧ algebraic_ProjectionIdeal_PlainProjectionIdeal (hProjectionIdeal := hProjectionIdeal) (hPlainProjectionIdeal := hPlainProjectionIdeal)
    ∧ preserves_Rotary_RotaryIdeal
    ∧ algebraic_RotaryIdeal_PlainRotaryIdeal (hRotaryIdeal := hRotaryIdeal) (hPlainRotaryIdeal := hPlainRotaryIdeal)
    ∧ preserves_Output_OutputIdeal
    ∧ algebraic_OutputIdeal_PlainOutputIdeal (hOutputIdeal := hOutputIdeal) (hPlainOutputIdeal := hPlainOutputIdeal)
    ∧ preserves_ContextOutput_ContextOutputIdeal
    ∧ algebraic_ContextOutputIdeal_PlainContextOutputIdeal (hContextOutputIdeal := hContextOutputIdeal) (hPlainContextOutputIdeal := hPlainContextOutputIdeal)
-- ==== Pre_context_finite.lean ====
abbrev S32x256x1024 : Shape := ⟨3, ![32, 256, 1024]⟩
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S2x1024 : Shape := ⟨2, ![2, 1024]⟩
abbrev S1x1024x1536 : Shape := ⟨3, ![1, 1024, 1536]⟩
abbrev S1x128 : Shape := ⟨2, ![1, 128]⟩
abbrev S1x1024x1024 : Shape := ⟨3, ![1, 1024, 1024]⟩
abbrev S1x1024x3072 : Shape := ⟨3, ![1, 1024, 3072]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S32x256x1024 : S_.BroadcastsInDim S32x256x1024 (![] : Fin 0 → Fin S32x256x1024.rank)
  reducesTo_S32x256x1024_S_d0_1_2 : S32x256x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S2x1024x6144 : S_.BroadcastsInDim S2x1024x6144 (![] : Fin 0 → Fin S2x1024x6144.rank)
  reducesTo_S2x1024x6144_S_d0_1_2 : S2x1024x6144.ReducesTo [0, 1, 2] S_
  bcast_S_S2x6144 : S_.BroadcastsInDim S2x6144 (![] : Fin 0 → Fin S2x6144.rank)
  reducesTo_S2x6144_S_d0_1 : S2x6144.ReducesTo [0, 1] S_
  bcast_S_S1x1024x1536 : S_.BroadcastsInDim S1x1024x1536 (![] : Fin 0 → Fin S1x1024x1536.rank)
  reducesTo_S1x1024x1536_S_d0_1_2 : S1x1024x1536.ReducesTo [0, 1, 2] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg9 : FVec F S1x1024x1536 .f32) (main_arg10 : FVec F S1x128 .f32) (main_arg11 : FVec F S1x128 .f32) (main_v13 : IVec S_ 1) (main_v16 : IVec S2x6144 1) : IVec S_ 1 :=
  let main_c_5 : IVec S_ 1 := constantI S_ 1 1#1
  let main_v17 : IVec S_ 1 := (fun x v => Host.reduce IntOp.andi x v reducesTo_S2x6144_S_d0_1 h_S_) main_v16 main_c_5
  let main_v18 : IVec S_ 1 := andi main_v13 main_v17
  let main_v19 : FVec F S1x1024x1536 .f32 := Host.absf main_arg9
  let main_cst_6 : FVec F S_ .f32 := constant S_ .f32 0x7F800000#32
  let main_v20 : FVec F S1x1024x1536 .f32 := broadcastInDim S1x1024x1536 ![] bcast_S_S1x1024x1536 main_cst_6
  let main_v21 : IVec S1x1024x1536 1 := cmpf .olt main_v19 main_v20
  let main_c_7 : IVec S_ 1 := constantI S_ 1 1#1
  let main_v22 : IVec S_ 1 := (fun x v => Host.reduce IntOp.andi x v reducesTo_S1x1024x1536_S_d0_1_2 h_S_) main_v21 main_c_7
  let main_v23 : IVec S_ 1 := andi main_v18 main_v22
  let main_v24 : FVec F S1x128 .f32 := Host.absf main_arg10
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1x128 .f32 := Host.absf main_arg11
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  main_v33

def fn {F : FTy → Type} [FloatOps F] (main_arg0 : FVec F S32x256x1024 .f32) (main_arg1 : FVec F S4x1024 .f32) (main_arg2 : FVec F S1024 .f32) (main_arg3 : FVec F S2x1024x6144 .f32) (main_arg4 : FVec F S2x6144 .f32) (main_arg5 : FVec F S2x1024 .f32) (main_arg6 : FVec F S2x1024 .f32) (main_arg7 : FVec F S2x1024 .f32) (main_arg8 : FVec F S2x1024 .f32) (main_arg9 : FVec F S1x1024x1536 .f32) (main_arg10 : FVec F S1x128 .f32) (main_arg11 : FVec F S1x128 .f32) (main_arg12 : FVec F S1x1024x1024 .f32) (main_arg13 : FVec F S1x1024x3072 .f32) (main_arg14 : FVec F S1x1024x5632 .f32) (main_arg15 : FVec F S1x2816x1024 .f32) : IVec S_ 1 :=
  let main_v0 : FVec F S32x256x1024 .f32 := Host.absf main_arg0
  let main_cst : FVec F S_ .f32 := constant S_ .f32 0x7F800000#32
  let main_v1 : FVec F S32x256x1024 .f32 := broadcastInDim S32x256x1024 ![] bcast_S_S32x256x1024 main_cst
  let main_v2 : IVec S32x256x1024 1 := cmpf .olt main_v0 main_v1
  let main_c : IVec S_ 1 := constantI S_ 1 1#1
  let main_v3 : IVec S_ 1 := (fun x v => Host.reduce IntOp.andi x v reducesTo_S32x256x1024_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2x1024x6144 .f32 := Host.absf main_arg3
  let main_cst_2 : FVec F S_ .f32 := constant S_ .f32 0x7F800000#32
  let main_v10 : FVec F S2x1024x6144 .f32 := broadcastInDim S2x1024x6144 ![] bcast_S_S2x1024x6144 main_cst_2
  let main_v11 : IVec S2x1024x6144 1 := cmpf .olt main_v9 main_v10
  let main_c_3 : IVec S_ 1 := constantI S_ 1 1#1
  let main_v12 : IVec S_ 1 := (fun x v => Host.reduce IntOp.andi x v reducesTo_S2x1024x6144_S_d0_1_2 h_S_) main_v11 main_c_3
  let main_v13 : IVec S_ 1 := andi main_v8 main_v12
  let main_v14 : FVec F S2x6144 .f32 := Host.absf main_arg4
  let main_cst_4 : FVec F S_ .f32 := constant S_ .f32 0x7F800000#32
  let main_v15 : FVec F S2x6144 .f32 := broadcastInDim S2x6144 ![] bcast_S_S2x6144 main_cst_4
  let main_v16 : IVec S2x6144 1 := cmpf .olt main_v14 main_v15
  fn_part1 (F := F) main_arg9 main_arg10 main_arg11 main_v13 main_v16
-- ==== Pre_expert_range.lean ====
abbrev S104 : Shape := ⟨1, ![104]⟩
abbrev S425984x128 : Shape := ⟨2, ![425984, 128]⟩
abbrev S1x8x1024x5632 : Shape := ⟨4, ![1, 8, 1024, 5632]⟩
abbrev S1x8x2816x1024 : Shape := ⟨4, ![1, 8, 2816, 1024]⟩
abbrev S_ : Shape := ⟨0, ![]⟩

class Facts : Prop where
  bcast_S_S104 : S_.BroadcastsInDim S104 (![] : Fin 0 → Fin S104.rank)
  reducesTo_S104_S_d0 : S104.ReducesTo [0] S_
  h_S_ : 0 < S_.numel

variable [Facts]

def fn {F : FTy → Type} [FloatOps F] (main_arg0 : IVec S104 32) (main_arg1 : IVec S104 32) (main_arg2 : FVec F S425984x128 .f32) (main_arg3 : FVec F S1x8x1024x5632 .f32) (main_arg4 : FVec F S1x8x2816x1024 .f32) : IVec S_ 1 :=
  let main_c : IVec S_ 32 := constantI S_ 32 0#32
  let main_v0 : IVec S104 32 := broadcastInDim S104 ![] bcast_S_S104 main_c
  let main_v1 : IVec S104 1 := cmpi .sge main_arg0 main_v0
  let main_c_0 : IVec S_ 32 := constantI S_ 32 8#32
  let main_v2 : IVec S104 32 := broadcastInDim S104 ![] bcast_S_S104 main_c_0
  let main_v3 : IVec S104 1 := cmpi .slt main_arg0 main_v2
  let main_v4 : IVec S104 1 := andi main_v1 main_v3
  let main_c_1 : IVec S_ 1 := constantI S_ 1 1#1
  let main_v5 : IVec S_ 1 := (fun x v => Host.reduce IntOp.andi x v reducesTo_S104_S_d0 h_S_) main_v4 main_c_1
  main_v5
-- ==== Pre_finite.lean ====
abbrev S4x4096x8x128 : Shape := ⟨4, ![4, 4096, 8, 128]⟩
abbrev S4x4096x2x128 : Shape := ⟨4, ![4, 4096, 2, 128]⟩
abbrev S4x1x256x2x128 : Shape := ⟨5, ![4, 1, 256, 2, 128]⟩
abbrev S_ : Shape := ⟨0, ![]⟩

class Facts : Prop where
  bcast_S_S4x4096x8x128 : S_.BroadcastsInDim S4x4096x8x128 (![] : Fin 0 → Fin S4x4096x8x128.rank)
  reducesTo_S4x4096x8x128_S_d0_1_2_3 : S4x4096x8x128.ReducesTo [0, 1, 2, 3] S_
  h_S_ : 0 < S_.numel
  bcast_S_S4x4096x2x128 : S_.BroadcastsInDim S4x4096x2x128 (![] : Fin 0 → Fin S4x4096x2x128.rank)
  reducesTo_S4x4096x2x128_S_d0_1_2_3 : S4x4096x2x128.ReducesTo [0, 1, 2, 3] S_
  bcast_S_S4x1x256x2x128 : S_.BroadcastsInDim S4x1x256x2x128 (![] : Fin 0 → Fin S4x1x256x2x128.rank)
  reducesTo_S4x1x256x2x128_S_d0_1_2_3_4 : S4x1x256x2x128.ReducesTo [0, 1, 2, 3, 4] S_

variable [Facts]

def fn {F : FTy → Type} [FloatOps F] (main_arg0 : FVec F S4x4096x8x128 .f32) (main_arg1 : FVec F S4x4096x2x128 .f32) (main_arg2 : FVec F S4x4096x2x128 .f32) (main_arg3 : FVec F S4x1x256x2x128 .f32) (main_arg4 : FVec F S4x1x256x2x128 .f32) : IVec S_ 1 :=
  let main_v0 : FVec F S4x4096x8x128 .f32 := Host.absf main_arg0
  let main_cst : FVec F S_ .f32 := constant S_ .f32 0x7F800000#32
  let main_v1 : FVec F S4x4096x8x128 .f32 := broadcastInDim S4x4096x8x128 ![] bcast_S_S4x4096x8x128 main_cst
  let main_v2 : IVec S4x4096x8x128 1 := cmpf .olt main_v0 main_v1
  let main_c : IVec S_ 1 := constantI S_ 1 1#1
  let main_v3 : IVec S_ 1 := (fun x v => Host.reduce IntOp.andi x v reducesTo_S4x4096x8x128_S_d0_1_2_3 h_S_) main_v2 main_c
  let main_v4 : FVec F S4x4096x2x128 .f32 := Host.absf main_arg1
  let main_cst_0 : FVec F S_ .f32 := constant S_ .f32 0x7F800000#32
  let main_v5 : FVec F S4x4096x2x128 .f32 := broadcastInDim S4x4096x2x128 ![] bcast_S_S4x4096x2x128 main_cst_0
  let main_v6 : IVec S4x4096x2x128 1 := cmpf .olt main_v4 main_v5
  let main_c_1 : IVec S_ 1 := constantI S_ 1 1#1
  let main_v7 : IVec S_ 1 := (fun x v => Host.reduce IntOp.andi x v reducesTo_S4x4096x2x128_S_d0_1_2_3 h_S_) main_v6 main_c_1
  let main_v8 : IVec S_ 1 := andi main_v3 main_v7
  let main_v9 : FVec F S4x1x256x2x128 .f32 := Host.absf main_arg3
  let main_cst_2 : FVec F S_ .f32 := constant S_ .f32 0x7F800000#32
  let main_v10 : FVec F S4x1x256x2x128 .f32 := broadcastInDim S4x1x256x2x128 ![] bcast_S_S4x1x256x2x128 main_cst_2
  let main_v11 : IVec S4x1x256x2x128 1 := cmpf .olt main_v9 main_v10
  let main_c_3 : IVec S_ 1 := constantI S_ 1 1#1
  let main_v12 : IVec S_ 1 := (fun x v => Host.reduce IntOp.andi x v reducesTo_S4x1x256x2x128_S_d0_1_2_3_4 h_S_) main_v11 main_c_3
  let main_v13 : IVec S_ 1 := andi main_v8 main_v12
  main_v13
-- ==== Kernel.lean ====
abbrev S4x4096x8x128 : Shape := ⟨4, ![4, 4096, 8, 128]⟩
abbrev S4x4096x2x128 : Shape := ⟨4, ![4, 4096, 2, 128]⟩
abbrev S4x1x256x2x128 : Shape := ⟨5, ![4, 1, 256, 2, 128]⟩
abbrev S_ : Shape := ⟨0, ![]⟩
abbrev S16384x1024 : Shape := ⟨2, ![16384, 1024]⟩
abbrev S16384x256 : Shape := ⟨2, ![16384, 256]⟩
abbrev S256x16384 : Shape := ⟨2, ![256, 16384]⟩
abbrev S4x256x2x128 : Shape := ⟨4, ![4, 256, 2, 128]⟩
abbrev S4x256x256 : Shape := ⟨3, ![4, 256, 256]⟩
abbrev S512x1024 : Shape := ⟨2, ![512, 1024]⟩
abbrev S4096x256 : Shape := ⟨2, ![4096, 256]⟩
abbrev S256x4096 : Shape := ⟨2, ![256, 4096]⟩
abbrev S1x256x256 : Shape := ⟨3, ![1, 256, 256]⟩
abbrev S512x128 : Shape := ⟨2, ![512, 128]⟩
abbrev S1024x128 : Shape := ⟨2, ![1024, 128]⟩
abbrev S4096x128 : Shape := ⟨2, ![4096, 128]⟩
abbrev S1x256x128 : Shape := ⟨3, ![1, 256, 128]⟩
abbrev S256x128 : Shape := ⟨2, ![256, 128]⟩
abbrev S4096x1024 : Shape := ⟨2, ![4096, 1024]⟩
abbrev S256x1024 : Shape := ⟨2, ![256, 1024]⟩
abbrev S128x4096 : Shape := ⟨2, ![128, 4096]⟩
abbrev S1x128x256 : Shape := ⟨3, ![1, 128, 256]⟩
abbrev S128x256 : Shape := ⟨2, ![128, 256]⟩
abbrev S1024 : Shape := ⟨1, ![1024]⟩
abbrev S1x1024 : Shape := ⟨2, ![1, 1024]⟩
abbrev S16x4096 : Shape := ⟨2, ![16, 4096]⟩
abbrev S144x4096 : Shape := ⟨2, ![144, 4096]⟩
abbrev S144x1024 : Shape := ⟨2, ![144, 1024]⟩
abbrev S16x256 : Shape := ⟨2, ![16, 256]⟩
abbrev S144x256 : Shape := ⟨2, ![144, 256]⟩
abbrev S128x1024 : Shape := ⟨2, ![128, 1024]⟩

abbrev nBuf : Space → Nat
  | .hbm => 31
  | .vmem => 12
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x2x128, .f32⟩
  | .hbm, ⟨2, _⟩ => ⟨S4x4096x2x128, .f32⟩
  | .hbm, ⟨3, _⟩ => ⟨S4x1x256x2x128, .f32⟩
  | .hbm, ⟨4, _⟩ => ⟨S4x1x256x2x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .bf16⟩
  | .hbm, ⟨18, _⟩ => ⟨S16384x256, .f32⟩
  | .hbm, ⟨19, _⟩ => ⟨S16384x256, .bf16⟩
  | .hbm, ⟨20, _⟩ => ⟨S16384x256, .f32⟩
  | .hbm, ⟨21, _⟩ => ⟨S256x16384, .f32⟩
  | .hbm, ⟨22, _⟩ => ⟨S256x16384, .bf16⟩
  | .hbm, ⟨23, _⟩ => ⟨S4x256x2x128, .f32⟩
  | .hbm, ⟨24, _⟩ => ⟨S4x256x256, .f32⟩
  | .hbm, ⟨25, _⟩ => ⟨S4x256x256, .bf16⟩
  | .hbm, ⟨26, _⟩ => ⟨S4x256x2x128, .f32⟩
  | .hbm, ⟨27, _⟩ => ⟨S4x256x256, .f32⟩
  | .hbm, ⟨28, _⟩ => ⟨S4x256x256, .f32⟩
  | .hbm, ⟨29, _⟩ => ⟨S4x256x256, .bf16⟩
  | .hbm, ⟨30, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S4096x256, .bf16⟩
  | .local _ .vmem, ⟨3, _⟩ => ⟨S4096x256, .bf16⟩
  | .local _ .vmem, ⟨4, _⟩ => ⟨S256x4096, .bf16⟩
  | .local _ .vmem, ⟨5, _⟩ => ⟨S256x4096, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S512x1024, .bf16⟩
  | .local _ .vmem, ⟨11, _⟩ => ⟨S512x1024, .bf16⟩
  | _, _ => ⟨S4x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x4096x8x128 : Shape := ⟨4, ![4, 4096, 8, 128]⟩
abbrev S4x4096x2x128 : Shape := ⟨4, ![4, 4096, 2, 128]⟩
abbrev S4x1x256x2x128 : Shape := ⟨5, ![4, 1, 256, 2, 128]⟩
abbrev S4x256x2x128 : Shape := ⟨4, ![4, 256, 2, 128]⟩
abbrev S4x4352x2x128 : Shape := ⟨4, ![4, 4352, 2, 128]⟩
abbrev S_ : Shape := ⟨0, ![]⟩
abbrev S4x4096x2x4x128 : Shape := ⟨5, ![4, 4096, 2, 4, 128]⟩
abbrev S4x2x4352x4096x4 : Shape := ⟨5, ![4, 2, 4352, 4096, 4]⟩
abbrev S4x2x4x4096x4352 : Shape := ⟨5, ![4, 2, 4, 4096, 4352]⟩
abbrev S4x2x4x4096 : Shape := ⟨4, ![4, 2, 4, 4096]⟩
abbrev S4x2x4x4096x1 : Shape := ⟨5, ![4, 2, 4, 4096, 1]⟩
abbrev S4x2x128x4x4096 : Shape := ⟨5, ![4, 2, 128, 4, 4096]⟩
abbrev S16384x1024 : Shape := ⟨2, ![16384, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x2x128, .f32⟩
  | .hbm, ⟨2, _⟩ => ⟨S4x4096x2x128, .f32⟩
  | .hbm, ⟨3, _⟩ => ⟨S4x1x256x2x128, .f32⟩
  | .hbm, ⟨4, _⟩ => ⟨S4x1x256x2x128, .f32⟩
  | .hbm, ⟨5, _⟩ => ⟨S4x256x2x128, .f32⟩
  | .hbm, ⟨6, _⟩ => ⟨S4x4352x2x128, .f32⟩
  | .hbm, ⟨7, _⟩ => ⟨S4x256x2x128, .f32⟩
  | .hbm, ⟨8, _⟩ => ⟨S4x4352x2x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x4096x8x128, .f32⟩
  | .hbm, ⟨14, _⟩ => ⟨S4x4096x8x128, .f32⟩
  | .hbm, ⟨15, _⟩ => ⟨S4x4096x2x4x128, .f32⟩
  | .hbm, ⟨16, _⟩ => ⟨S4x2x4352x4096x4, .f32⟩
  | .hbm, ⟨17, _⟩ => ⟨S4x2x4x4096x4352, .f32⟩
  | .hbm, ⟨18, _⟩ => ⟨S_, .f32⟩
  | .hbm, ⟨19, _⟩ => ⟨S4x2x4x4096, .f32⟩
  | .hbm, ⟨20, _⟩ => ⟨S_, .f32⟩
  | .hbm, ⟨21, _⟩ => ⟨S4x2x4x4096, .f32⟩
  | .hbm, ⟨22, _⟩ => ⟨S4x2x4x4096, .f32⟩
  | .hbm, ⟨23, _⟩ => ⟨S4x2x4x4096x1, .f32⟩
  | .hbm, ⟨24, _⟩ => ⟨S4x2x4x4096x4352, .f32⟩
  | .hbm, ⟨25, _⟩ => ⟨S4x2x4x4096x4352, .f32⟩
  | .hbm, ⟨26, _⟩ => ⟨S4x2x4x4096x4352, .f32⟩
  | .hbm, ⟨27, _⟩ => ⟨S_, .f32⟩
  | .hbm, ⟨28, _⟩ => ⟨S4x2x4x4096, .f32⟩
  | .hbm, ⟨29, _⟩ => ⟨S4x2x4x4096x1, .f32⟩
  | .hbm, ⟨30, _⟩ => ⟨S4x2x4x4096x4352, .f32⟩
  | .hbm, ⟨31, _⟩ => ⟨S4x2x4x4096x4352, .f32⟩
  | .hbm, ⟨32, _⟩ => ⟨S4x2x128x4x4096, .f32⟩
  | .hbm, ⟨33, _⟩ => ⟨S4x4096x2x4x128, .f32⟩
  | .hbm, ⟨34, _⟩ => ⟨S16384x1024, .f32⟩
  | .hbm, ⟨35, _⟩ => ⟨S16384x1024, .bf16⟩
  | _, _ => ⟨S4x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Experts.lean ====
abbrev S104 : Shape := ⟨1, ![104]⟩
abbrev S425984x128 : Shape := ⟨2, ![425984, 128]⟩
abbrev S1x8x1024x5632 : Shape := ⟨4, ![1, 8, 1024, 5632]⟩
abbrev S1x8x2816x1024 : Shape := ⟨4, ![1, 8, 2816, 1024]⟩
abbrev S8x1024x5632 : Shape := ⟨3, ![8, 1024, 5632]⟩
abbrev S8x2816x1024 : Shape := ⟨3, ![8, 2816, 1024]⟩
abbrev S4096x128 : Shape := ⟨2, ![4096, 128]⟩
abbrev S1x1024x2816 : Shape := ⟨3, ![1, 1024, 2816]⟩
abbrev S1 : Shape := ⟨1, ![1]⟩
abbrev S1x2816x1024 : Shape := ⟨3, ![1, 2816, 1024]⟩
abbrev S512x128 : Shape := ⟨2, ![512, 128]⟩
abbrev S512x1024 : Shape := ⟨2, ![512, 1024]⟩
abbrev S1x1024x1024 : Shape := ⟨3, ![1, 1024, 1024]⟩
abbrev S1024x1024 : Shape := ⟨2, ![1024, 1024]⟩
abbrev S1x1024x768 : Shape := ⟨3, ![1, 1024, 768]⟩
abbrev S1024x768 : Shape := ⟨2, ![1024, 768]⟩
abbrev S512x768 : Shape := ⟨2, ![512, 768]⟩
abbrev S1x768x1024 : Shape := ⟨3, ![1, 768, 1024]⟩
abbrev S768x1024 : Shape := ⟨2, ![768, 1024]⟩

abbrev nBuf : Space → Nat
  | .hbm => 8
  | .vmem => 10
  | .smem => 2
  | _ => 0

abbrev bufTy : (tb : Table) → Fin (tcTables nBuf tb) → BufTy
  | .hbm, ⟨0, _⟩ => ⟨S425984x128, .f32⟩
  | .hbm, ⟨1, _⟩ => ⟨S1x8x1024x5632, .f32⟩
  | .hbm, ⟨2, _⟩ => ⟨S1x8x2816x1024, .f32⟩
  | .hbm, ⟨3, _⟩ => ⟨S8x1024x5632, .f32⟩
  | .hbm, ⟨4, _⟩ => ⟨S8x1024x5632, .bf16⟩
  | .hbm, ⟨5, _⟩ => ⟨S8x2816x1024, .f32⟩
  | .hbm, ⟨6, _⟩ => ⟨S8x2816x1024, .bf16⟩
  | .hbm, ⟨7, _⟩ => ⟨S425984x128, .f32⟩
  | .local _ .vmem, ⟨0, _⟩ => ⟨S4096x128, .f32⟩
  | .local _ .vmem, ⟨1, _⟩ => ⟨S4096x128, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S4096x128, .f32⟩
  | .local _ .vmem, ⟨9, _⟩ => ⟨S4096x128, .f32⟩
  | .local _ .smem, ⟨0, _⟩ => ⟨S104, .i32⟩
  | .local _ .smem, ⟨1, _⟩ => ⟨S104, .i32⟩
  | _, _ => ⟨S425984x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![104], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .ne v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S104) ![v0.toNat] S1.size (k0_off1_inb i)) numel1_S1
  let c0_i32 : BitVec 32 := 0#32
  let c1_i32 : BitVec 32 := 1#32
  let c0_i32_0 : BitVec 32 := 0#32
  ![v1.toNat, c0_i32.toNat, c1_i32.toNat]

def cc0_transform_3 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PlainExpertsIdeal.lean ====
abbrev S104 : Shape := ⟨1, ![104]⟩
abbrev S425984x128 : Shape := ⟨2, ![425984, 128]⟩
abbrev S1x8x1024x5632 : Shape := ⟨4, ![1, 8, 1024, 5632]⟩
abbrev S1x8x2816x1024 : Shape := ⟨4, ![1, 8, 2816, 1024]⟩
abbrev S53248x1024 : Shape := ⟨2, ![53248, 1024]⟩
abbrev S104x1 : Shape := ⟨2, ![104, 1]⟩
abbrev S1x8 : Shape := ⟨2, ![1, 8]⟩
abbrev S104x8 : Shape := ⟨2, ![104, 8]⟩
abbrev S_ : Shape := ⟨0, ![]⟩
abbrev S104x1x8 : Shape := ⟨3, ![104, 1, 8]⟩
abbrev S104x512x8 : Shape := ⟨3, ![104, 512, 8]⟩
abbrev S53248x8 : Shape := ⟨2, ![53248, 8]⟩
abbrev S53248x1 : Shape := ⟨2, ![53248, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S53248x5632 : Shape := ⟨2, ![53248, 5632]⟩
abbrev S53248x2816 : Shape := ⟨2, ![53248, 2816]⟩

abbrev nBuf : Space → Nat
  | .hbm => 201
  | .vmem => 0
  | .smem => 0
  | _ => 0

abbrev hbmTy0_0 (i : Nat) : BufTy := match i % 128 with
  | 0 => ⟨S104, .i32⟩
  | 1 => ⟨S104, .i32⟩
  | 2 => ⟨S425984x128, .f32⟩
  | 3 => ⟨S1x8x1024x5632, .f32⟩
  | 4 => ⟨S1x8x2816x1024, .f32⟩
  | 5 => ⟨S53248x1024, .f32⟩
  | 6 => ⟨S104x1, .i32⟩
  | 7 => ⟨S1x8, .i32⟩
  | 8 => ⟨S104x8, .i32⟩
  | 9 => ⟨S104x8, .i32⟩
  | 10 => ⟨S104x8, .i1⟩
  | 11 => ⟨S104x8, .f32⟩
  | 12 => ⟨S_, .i32⟩
  | 13 => ⟨S104, .i32⟩
  | 14 => ⟨S104, .i1⟩
  | 15 => ⟨S104, .f32⟩
  | 16 => ⟨S104x1, .f32⟩
  | 17 => ⟨S104x8, .f32⟩
  | 18 => ⟨S104x8, .f32⟩
  | 19 => ⟨S104x1x8, .f32⟩
  | 20 => ⟨S104x512x8, .f32⟩
  | 21 => ⟨S53248x8, .f32⟩
  | 22 => ⟨S_, .f32⟩
  | 23 => ⟨S53248x1024, .f32⟩
  | 24 => ⟨S53248x1, .f32⟩
  | 25 => ⟨S1x1x1024x5632, .f32⟩
  | 26 => ⟨S1024x5632, .f32⟩
  | 27 => ⟨S1x1x2816x1024, .f32⟩
  | 28 => ⟨S2816x1024, .f32⟩
  | 29 => ⟨S53248x5632, .f32⟩
  | 30 => ⟨S53248x2816, .f32⟩
  | 31 => ⟨S53248x2816, .f32⟩
  | 32 => ⟨S53248x2816, .f32⟩
  | 33 => ⟨S53248x2816, .f32⟩
  | 34 => ⟨S_, .f32⟩
  | 35 => ⟨S53248x2816, .f32⟩
  | 36 => ⟨S53248x2816, .f32⟩
  | 37 => ⟨S_, .f32⟩
  | 38 => ⟨S53248x2816, .f32⟩
  | 39 => ⟨S53248x2816, .f32⟩
  | 40 => ⟨S53248x2816, .f32⟩
  | 41 => ⟨S53248x2816, .f32⟩
  | 42 => ⟨S53248x1024, .f32⟩
  | 43 => ⟨S53248x1024, .f32⟩
  | 44 => ⟨S53248x1024, .f32⟩
  | 45 => ⟨S53248x1024, .f32⟩
  | 46 => ⟨S53248x1, .f32⟩
  | 47 => ⟨S1x1x1024x5632, .f32⟩
  | 48 => ⟨S1024x5632, .f32⟩
  | 49 => ⟨S1x1x2816x1024, .f32⟩
  | 50 => ⟨S2816x1024, .f32⟩
  | 51 => ⟨S53248x5632, .f32⟩
  | 52 => ⟨S53248x2816, .f32⟩
  | 53 => ⟨S53248x2816, .f32⟩
  | 54 => ⟨S53248x2816, .f32⟩
  | 55 => ⟨S53248x2816, .f32⟩
  | 56 => ⟨S_, .f32⟩
  | 57 => ⟨S53248x2816, .f32⟩
  | 58 => ⟨S53248x2816, .f32⟩
  | 59 => ⟨S_, .f32⟩
  | 60 => ⟨S53248x2816, .f32⟩
  | 61 => ⟨S53248x2816, .f32⟩
  | 62 => ⟨S53248x2816, .f32⟩
  | 63 => ⟨S53248x2816, .f32⟩
  | 64 => ⟨S53248x1024, .f32⟩
  | 65 => ⟨S53248x1024, .f32⟩
  | 66 => ⟨S53248x1024, .f32⟩
  | 67 => ⟨S53248x1024, .f32⟩
  | 68 => ⟨S53248x1, .f32⟩
  | 69 => ⟨S1x1x1024x5632, .f32⟩
  | 70 => ⟨S1024x5632, .f32⟩
  | 71 => ⟨S1x1x2816x1024, .f32⟩
  | 72 => ⟨S2816x1024, .f32⟩
  | 73 => ⟨S53248x5632, .f32⟩
  | 74 => ⟨S53248x2816, .f32⟩
  | 75 => ⟨S53248x2816, .f32⟩
  | 76 => ⟨S53248x2816, .f32⟩
  | 77 => ⟨S53248x2816, .f32⟩
  | 78 => ⟨S_, .f32⟩
  | 79 => ⟨S53248x2816, .f32⟩
  | 80 => ⟨S53248x2816, .f32⟩
  | 81 => ⟨S_, .f32⟩
  | 82 => ⟨S53248x2816, .f32⟩
  | 83 => ⟨S53248x2816, .f32⟩
  | 84 => ⟨S53248x2816, .f32⟩
  | 85 => ⟨S53248x2816, .f32⟩
  | 86 => ⟨S53248x1024, .f32⟩
  | 87 => ⟨S53248x1024, .f32⟩
  | 88 => ⟨S53248x1024, .f32⟩
  | 89 => ⟨S53248x1024, .f32⟩
  | 90 => ⟨S53248x1, .f32⟩
  | 91 => ⟨S1x1x1024x5632, .f32⟩
  | 92 => ⟨S1024x5632, .f32⟩
  | 93 => ⟨S1x1x2816x1024, .f32⟩
  | 94 => ⟨S2816x1024, .f32⟩
  | 95 => ⟨S53248x5632, .f32⟩
  | 96 => ⟨S53248x2816, .f32⟩
  | 97 => ⟨S53248x2816, .f32⟩
  | 98 => ⟨S53248x2816, .f32⟩
  | 99 => ⟨S53248x2816, .f32⟩
  | 100 => ⟨S_, .f32⟩
  | 101 => ⟨S53248x2816, .f32⟩
  | 102 => ⟨S53248x2816, .f32⟩
  | 103 => ⟨S_, .f32⟩
  | 104 => ⟨S53248x2816, .f32⟩
  | 105 => ⟨S53248x2816, .f32⟩
  | 106 => ⟨S53248x2816, .f32⟩
  | 107 => ⟨S53248x2816, .f32⟩
  | 108 => ⟨S53248x1024, .f32⟩
  | 109 => ⟨S53248x1024, .f32⟩
  | 110 => ⟨S53248x1024, .f32⟩
  | 111 => ⟨S53248x1024, .f32⟩
  | 112 => ⟨S53248x1, .f32⟩
  | 113 => ⟨S1x1x1024x5632, .f32⟩
  | 114 => ⟨S1024x5632, .f32⟩
  | 115 => ⟨S1x1x2816x1024, .f32⟩
  | 116 => ⟨S2816x1024, .f32⟩
  | 117 => ⟨S53248x5632, .f32⟩
  | 118 => ⟨S53248x2816, .f32⟩
  | 119 => ⟨S53248x2816, .f32⟩
  | 120 => ⟨S53248x2816, .f32⟩
  | 121 => ⟨S53248x2816, .f32⟩
  | 122 => ⟨S_, .f32⟩
  | 123 => ⟨S53248x2816, .f32⟩
  | 124 => ⟨S53248x2816, .f32⟩
  | 125 => ⟨S_, .f32⟩
  | 126 => ⟨S53248x2816, .f32⟩
  | 127 => ⟨S53248x2816, .f32⟩
  | _ => ⟨S104, .i32⟩

abbrev hbmTy0_1 (i : Nat) : BufTy := match i % 128 with
  | 0 => ⟨S53248x2816, .f32⟩
  | 1 => ⟨S53248x2816, .f32⟩
  | 2 => ⟨S53248x1024, .f32⟩
  | 3 => ⟨S53248x1024, .f32⟩
  | 4 => ⟨S53248x1024, .f32⟩
  | 5 => ⟨S53248x1024, .f32⟩
  | 6 => ⟨S53248x1, .f32⟩
  | 7 => ⟨S1x1x1024x5632, .f32⟩
  | 8 => ⟨S1024x5632, .f32⟩
  | 9 => ⟨S1x1x2816x1024, .f32⟩
  | 10 => ⟨S2816x1024, .f32⟩
  | 11 => ⟨S53248x5632, .f32⟩
  | 12 => ⟨S53248x2816, .f32⟩
  | 13 => ⟨S53248x2816, .f32⟩
  | 14 => ⟨S53248x2816, .f32⟩
  | 15 => ⟨S53248x2816, .f32⟩
  | 16 => ⟨S_, .f32⟩
  | 17 => ⟨S53248x2816, .f32⟩
  | 18 => ⟨S53248x2816, .f32⟩
  | 19 => ⟨S_, .f32⟩
  | 20 => ⟨S53248x2816, .f32⟩
  | 21 => ⟨S53248x2816, .f32⟩
  | 22 => ⟨S53248x2816, .f32⟩
  | 23 => ⟨S53248x2816, .f32⟩
  | 24 => ⟨S53248x1024, .f32⟩
  | 25 => ⟨S53248x1024, .f32⟩
  | 26 => ⟨S53248x1024, .f32⟩
  | 27 => ⟨S53248x1024, .f32⟩
  | 28 => ⟨S53248x1, .f32⟩
  | 29 => ⟨S1x1x1024x5632, .f32⟩
  | 30 => ⟨S1024x5632, .f32⟩
  | 31 => ⟨S1x1x2816x1024, .f32⟩
  | 32 => ⟨S2816x1024, .f32⟩
  | 33 => ⟨S53248x5632, .f32⟩
  | 34 => ⟨S53248x2816, .f32⟩
  | 35 => ⟨S53248x2816, .f32⟩
  | 36 => ⟨S53248x2816, .f32⟩
  | 37 => ⟨S53248x2816, .f32⟩
  | 38 => ⟨S_, .f32⟩
  | 39 => ⟨S53248x2816, .f32⟩
  | 40 => ⟨S53248x2816, .f32⟩
  | 41 => ⟨S_, .f32⟩
  | 42 => ⟨S53248x2816, .f32⟩
  | 43 => ⟨S53248x2816, .f32⟩
  | 44 => ⟨S53248x2816, .f32⟩
  | 45 => ⟨S53248x2816, .f32⟩
  | 46 => ⟨S53248x1024, .f32⟩
  | 47 => ⟨S53248x1024, .f32⟩
  | 48 => ⟨S53248x1024, .f32⟩
  | 49 => ⟨S53248x1024, .f32⟩
  | 50 => ⟨S53248x1, .f32⟩
  | 51 => ⟨S1x1x1024x5632, .f32⟩
  | 52 => ⟨S1024x5632, .f32⟩
  | 53 => ⟨S1x1x2816x1024, .f32⟩
  | 54 => ⟨S2816x1024, .f32⟩
  | 55 => ⟨S53248x5632, .f32⟩
  | 56 => ⟨S53248x2816, .f32⟩
  | 57 => ⟨S53248x2816, .f32⟩
  | 58 => ⟨S53248x2816, .f32⟩
  | 59 => ⟨S53248x2816, .f32⟩
  | 60 => ⟨S_, .f32⟩
  | 61 => ⟨S53248x2816, .f32⟩
  | 62 => ⟨S53248x2816, .f32⟩
  | 63 => ⟨S_, .f32⟩
  | 64 => ⟨S53248x2816, .f32⟩
  | 65 => ⟨S53248x2816, .f32⟩
  | 66 => ⟨S53248x2816, .f32⟩
  | 67 => ⟨S53248x2816, .f32⟩
  | 68 => ⟨S53248x1024, .f32⟩
  | 69 => ⟨S53248x1024, .f32⟩
  | 70 => ⟨S53248x1024, .f32⟩
  | 71 => ⟨S53248x1024, .f32⟩
  | 72 => ⟨S425984x128, .f32⟩
  | _ => ⟨S104, .i32⟩

abbrev hbmTy (i : Nat) : BufTy := match i / 128 with
  | 0 => hbmTy0_0 i
  | 1 => hbmTy0_1 i
  | _ => ⟨S104, .i32⟩

abbrev bufTy : (tb : Table) → Fin (tcTables nBuf tb) → BufTy
  | .hbm, ⟨i, _⟩ => hbmTy i
  | _, _ => ⟨S104, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call2_v0 : Ref sig .tc := ⟨.hbm, 54, rfl⟩
abbrev main_call2_v1 : Ref sig .tc := ⟨.hbm, 55, rfl⟩
abbrev main_call2_cst : Ref sig .tc := ⟨.hbm, 56, rfl⟩
abbrev main_call2_v2 : Ref sig .tc := ⟨.hbm, 57, rfl⟩
abbrev main_call2_v3 : Ref sig .tc := ⟨.hbm, 58, rfl⟩
abbrev main_call2_cst_0 : Ref sig .tc := ⟨.hbm, 59, rfl⟩
abbrev main_call2_v4 : Ref sig .tc := ⟨.hbm, 60, rfl⟩
abbrev main_call2_v5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call3_v0 : Ref sig .tc := ⟨.hbm, 76, rfl⟩
abbrev main_call3_v1 : Ref sig .tc := ⟨.hbm, 77, rfl⟩
abbrev main_call3_cst : Ref sig .tc := ⟨.hbm, 78, rfl⟩
abbrev main_call3_v2 : Ref sig .tc := ⟨.hbm, 79, rfl⟩
abbrev main_call3_v3 : Ref sig .tc := ⟨.hbm, 80, rfl⟩
abbrev main_call3_cst_0 : Ref sig .tc := ⟨.hbm, 81, rfl⟩
abbrev main_call3_v4 : Ref sig .tc := ⟨.hbm, 82, rfl⟩
abbrev main_call3_v5 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_call4_v0 : Ref sig .tc := ⟨.hbm, 98, rfl⟩
abbrev main_call4_v1 : Ref sig .tc := ⟨.hbm, 99, rfl⟩
abbrev main_call4_cst : Ref sig .tc := ⟨.hbm, 100, rfl⟩
abbrev main_call4_v2 : Ref sig .tc := ⟨.hbm, 101, rfl⟩
abbrev main_call4_v3 : Ref sig .tc := ⟨.hbm, 102, rfl⟩
abbrev main_call4_cst_0 : Ref sig .tc := ⟨.hbm, 103, rfl⟩
abbrev main_call4_v4 : Ref sig .tc := ⟨.hbm, 104, rfl⟩
abbrev main_call4_v5 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_call5_v0 : Ref sig .tc := ⟨.hbm, 120, rfl⟩
abbrev main_call5_v1 : Ref sig .tc := ⟨.hbm, 121, rfl⟩
abbrev main_call5_cst : Ref sig .tc := ⟨.hbm, 122, rfl⟩
abbrev main_call5_v2 : Ref sig .tc := ⟨.hbm, 123, rfl⟩
abbrev main_call5_v3 : Ref sig .tc := ⟨.hbm, 124, rfl⟩
abbrev main_call5_cst_0 : Ref sig .tc := ⟨.hbm, 125, rfl⟩
abbrev main_call5_v4 : Ref sig .tc := ⟨.hbm, 126, rfl⟩
abbrev main_call5_v5 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_call6_v0 : Ref sig .tc := ⟨.hbm, 142, rfl⟩
abbrev main_call6_v1 : Ref sig .tc := ⟨.hbm, 143, rfl⟩
abbrev main_call6_cst : Ref sig .tc := ⟨.hbm, 144, rfl⟩
abbrev main_call6_v2 : Ref sig .tc := ⟨.hbm, 145, rfl⟩
abbrev main_call6_v3 : Ref sig .tc := ⟨.hbm, 146, rfl⟩
abbrev main_call6_cst_0 : Ref sig .tc := ⟨.hbm, 147, rfl⟩
abbrev main_call6_v4 : Ref sig .tc := ⟨.hbm, 148, rfl⟩
abbrev main_call6_v5 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_call7_v0 : Ref sig .tc := ⟨.hbm, 164, rfl⟩
abbrev main_call7_v1 : Ref sig .tc := ⟨.hbm, 165, rfl⟩
abbrev main_call7_cst : Ref sig .tc := ⟨.hbm, 166, rfl⟩
abbrev main_call7_v2 : Ref sig .tc := ⟨.hbm, 167, rfl⟩
abbrev main_call7_v3 : Ref sig .tc := ⟨.hbm, 168, rfl⟩
abbrev main_call7_cst_0 : Ref sig .tc := ⟨.hbm, 169, rfl⟩
abbrev main_call7_v4 : Ref sig .tc := ⟨.hbm, 170, rfl⟩
abbrev main_call7_v5 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_call8_v0 : Ref sig .tc := ⟨.hbm, 186, rfl⟩
abbrev main_call8_v1 : Ref sig .tc := ⟨.hbm, 187, rfl⟩
abbrev main_call8_cst : Ref sig .tc := ⟨.hbm, 188, rfl⟩
abbrev main_call8_v2 : Ref sig .tc := ⟨.hbm, 189, rfl⟩
abbrev main_call8_v3 : Ref sig .tc := ⟨.hbm, 190, rfl⟩
abbrev main_call8_cst_0 : Ref sig .tc := ⟨.hbm, 191, rfl⟩
abbrev main_call8_v4 : Ref sig .tc := ⟨.hbm, 192, rfl⟩
abbrev main_call8_v5 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩

abbrev nD : Nat := 1
abbrev τ : Topo := Topo.v7x

variable {F : FTy → Type} [FloatOps F]
-- ==== Context.lean ====
abbrev S32x256x1024 : Shape := ⟨3, ![32, 256, 1024]⟩
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S2x1024 : Shape := ⟨2, ![2, 1024]⟩
abbrev S1x1024x1536 : Shape := ⟨3, ![1, 1024, 1536]⟩
abbrev S1x128 : Shape := ⟨2, ![1, 128]⟩
abbrev S1x1024x1024 : Shape := ⟨3, ![1, 1024, 1024]⟩
abbrev S1x1024x3072 : Shape := ⟨3, ![1, 1024, 3072]⟩
abbrev S1x1024x5632 : Shape := ⟨3, ![1, 1024, 5632]⟩
abbrev S1x2816x1024 : Shape := ⟨3, ![1, 2816, 1024]⟩
abbrev S8192x1024 : Shape := ⟨2, ![8192, 1024]⟩
abbrev S_ : Shape := ⟨0, ![]⟩
abbrev S8x1024 : Shape := ⟨2, ![8, 1024]⟩
abbrev S1 : Shape := ⟨1, ![1]⟩
abbrev S2x1x6144 : Shape := ⟨3, ![2, 1, 6144]⟩
abbrev S2x8x6144 : Shape := ⟨3, ![2, 8, 6144]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩
abbrev S2x8x6x1024 : Shape := ⟨4, ![2, 8, 6, 1024]⟩
abbrev S2x6x8x1024 : Shape := ⟨4, ![2, 6, 8, 1024]⟩
abbrev S2x6x8x1x1024 : Shape := ⟨5, ![2, 6, 8, 1, 1024]⟩
abbrev S1x6x8x1x1024 : Shape := ⟨5, ![1, 6, 8, 1, 1024]⟩
abbrev S6x8x1x1024 : Shape := ⟨4, ![6, 8, 1, 1024]⟩
abbrev S1024x1024 : Shape := ⟨2, ![1024, 1024]⟩
abbrev S1024x5632 : Shape := ⟨2, ![1024, 5632]⟩
abbrev S2816x1024 : Shape := ⟨2, ![2816, 1024]⟩
abbrev S128 : Shape := ⟨1, ![128]⟩
abbrev S1x8x1x1024 : Shape := ⟨4, ![1, 8, 1, 1024]⟩
abbrev S8x1x1024 : Shape := ⟨3, ![8, 1, 1024]⟩
abbrev S8192x256 : Shape := ⟨2, ![8192, 256]⟩
abbrev S512x1024 : Shape := ⟨2, ![512, 1024]⟩
abbrev S1x1x1024 : Shape := ⟨3, ![1, 1, 1024]⟩
abbrev S512x256 : Shape := ⟨2, ![512, 256]⟩
abbrev S1x1024 : Shape := ⟨2, ![1, 1024]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S32x1x256x2x128 : Shape := ⟨5, ![32, 1, 256, 2, 128]⟩
abbrev S256x1024 : Shape := ⟨2, ![256, 1024]⟩
abbrev S256x256 : Shape := ⟨2, ![256, 256]⟩
abbrev S256x128 : Shape := ⟨2, ![256, 128]⟩
abbrev S1024x128 : Shape := ⟨2, ![1024, 128]⟩
abbrev S1024x256 : Shape := ⟨2, ![1024, 256]⟩
abbrev S1024x1 : Shape := ⟨2, ![1024, 1]⟩
abbrev S1024x2816 : Shape := ⟨2, ![1024, 2816]⟩
abbrev S1024x768 : Shape := ⟨2, ![1024, 768]⟩
abbrev S512x768 : Shape := ⟨2, ![512, 768]⟩
abbrev S768x1024 : Shape := ⟨2, ![768, 1024]⟩
abbrev S1024x3072 : Shape := ⟨2, ![1024, 3072]⟩
abbrev S512x3072 : Shape := ⟨2, ![512, 3072]⟩
abbrev S32x1x256x16x64 : Shape := ⟨5, ![32, 1, 256, 16, 64]⟩

abbrev nBuf : Space → Nat
  | .hbm => 92
  | .vmem => 73
  | .smem => 0
  | _ => 0

abbrev bufTy : (tb : Table) → Fin (tcTables nBuf tb) → BufTy
  | .hbm, ⟨0, _⟩ => ⟨S32x256x1024, .f32⟩
  | .hbm, ⟨1, _⟩ => ⟨S4x1024, .f32⟩
  | .hbm, ⟨2, _⟩ => ⟨S1024, .f32⟩
  | .hbm, ⟨3, _⟩ => ⟨S2x1024x6144, .f32⟩
  | .hbm, ⟨4, _⟩ => ⟨S2x6144, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S1x1024x1536, .f32⟩
  | .hbm, ⟨10, _⟩ => ⟨S1x128, .f32⟩
  | .hbm, ⟨11, _⟩ => ⟨S1x128, .f32⟩
  | .hbm, ⟨12, _⟩ => ⟨S1x1024x1024, .f32⟩
  | .hbm, ⟨13, _⟩ => ⟨S1x1024x3072, .f32⟩
  | .hbm, ⟨14, _⟩ => ⟨S1x1024x5632, .f32⟩
  | .hbm, ⟨15, _⟩ => ⟨S1x2816x1024, .f32⟩
  | .hbm, ⟨16, _⟩ => ⟨S8192x1024, .f32⟩
  | .hbm, ⟨17, _⟩ => ⟨S_, .f32⟩
  | .hbm, ⟨18, _⟩ => ⟨S8x1024, .f32⟩
  | .hbm, ⟨19, _⟩ => ⟨S_, .i32⟩
  | .hbm, ⟨20, _⟩ => ⟨S1, .i32⟩
  | .hbm, ⟨21, _⟩ => ⟨S8x1024, .f32⟩
  | .hbm, ⟨22, _⟩ => ⟨S_, .i32⟩
  | .hbm, ⟨23, _⟩ => ⟨S1, .i32⟩
  | .hbm, ⟨24, _⟩ => ⟨S8x1024, .f32⟩
  | .hbm, ⟨25, _⟩ => ⟨S2x1x6144, .f32⟩
  | .hbm, ⟨26, _⟩ => ⟨S2x8x6144, .f32⟩
  | .hbm, ⟨27, _⟩ => ⟨S2x8x6x1024, .f32⟩
  | .hbm, ⟨28, _⟩ => ⟨S2x6x8x1024, .f32⟩
  | .hbm, ⟨29, _⟩ => ⟨S2x6x8x1x1024, .f32⟩
  | .hbm, ⟨30, _⟩ => ⟨S1x6x8x1x1024, .f32⟩
  | .hbm, ⟨31, _⟩ => ⟨S6x8x1x1024, .f32⟩
  | .hbm, ⟨32, _⟩ => ⟨S1024x1536, .f32⟩
  | .hbm, ⟨33, _⟩ => ⟨S1024x1536, .bf16⟩
  | .hbm, ⟨34, _⟩ => ⟨S1024x1024, .f32⟩
  | .hbm, ⟨35, _⟩ => ⟨S1024x1024, .bf16⟩
  | .hbm, ⟨36, _⟩ => ⟨S1024x5632, .f32⟩
  | .hbm, ⟨37, _⟩ => ⟨S1024x5632, .bf16⟩
  | .hbm, ⟨38, _⟩ => ⟨S2816x1024, .f32⟩
  | .hbm, ⟨39, _⟩ => ⟨S2816x1024, .bf16⟩
  | .hbm, ⟨40, _⟩ => ⟨S128, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S1x8x1x1024, .f32⟩
  | .hbm, ⟨45, _⟩ => ⟨S8x1x1024, .f32⟩
  | .hbm, ⟨46, _⟩ => ⟨S1x8x1x1024, .f32⟩
  | .hbm, ⟨47, _⟩ => ⟨S8x1x1024, .f32⟩
  | .hbm, ⟨48, _⟩ => ⟨S8192x1024, .bf16⟩
  | .hbm, ⟨49, _⟩ => ⟨S8192x256, .bf16⟩
  | .hbm, ⟨50, _⟩ => ⟨S8192x256, .bf16⟩
  | .hbm, ⟨51, _⟩ => ⟨S8192x256, .f32⟩
  | .hbm, ⟨52, _⟩ => ⟨S8192x256, .f32⟩
  | .hbm, ⟨53, _⟩ => ⟨S32x1x256x2x128, .f32⟩
  | .hbm, ⟨54, _⟩ => ⟨S32x1x256x2x128, .f32⟩
  | .hbm, ⟨55, _⟩ => ⟨S8192x1024, .bf16⟩
  | .hbm, ⟨56, _⟩ => ⟨S1x8x1x1024, .f32⟩
  | .hbm, ⟨57, _⟩ => ⟨S8x1x1024, .f32⟩
  | .hbm, ⟨58, _⟩ => ⟨S1x1024, .f32⟩
  | .hbm, ⟨59, _⟩ => ⟨S1024, .f32⟩
  | .hbm, ⟨60, _⟩ => ⟨S1x1024, .f32⟩
  | .hbm, ⟨61, _⟩ => ⟨S1x1024, .f32⟩
  | .hbm, ⟨62, _⟩ => ⟨S1024, .f32⟩
  | .hbm, ⟨63, _⟩ => ⟨S1x1024, .f32⟩
  | .hbm, ⟨64, _⟩ => ⟨S1x8x1x1024, .f32⟩
  | .hbm, ⟨65, _⟩ => ⟨S8x1x1024, .f32⟩
  | .hbm, ⟨66, _⟩ => ⟨S1x8x1x1024, .f32⟩
  | .hbm, ⟨67, _⟩ => ⟨S8x1x1024, .f32⟩
  | .hbm, ⟨68, _⟩ => ⟨S1x8x1x1024, .f32⟩
  | .hbm, ⟨69, _⟩ => ⟨S8x1x1024, .f32⟩
  | .hbm, ⟨70, _⟩ => ⟨S1x1024, .f32⟩
  | .hbm, ⟨71, _⟩ => ⟨S1024, .f32⟩
  | .hbm, ⟨72, _⟩ => ⟨S1x1024, .f32⟩
  | .hbm, ⟨73, _⟩ => ⟨S1x1024, .f32⟩
  | .hbm, ⟨74, _⟩ => ⟨S1024, .f32⟩
  | .hbm, ⟨75, _⟩ => ⟨S1x1024, .f32⟩
  | .hbm, ⟨76, _⟩ => ⟨S8192x1024, .f32⟩
  | .hbm, ⟨77, _⟩ => ⟨S1x6x8x1x1024, .f32⟩
  | .hbm, ⟨78, _⟩ => ⟨S6x8x1x1024, .f32⟩
  | .hbm, ⟨79, _⟩ => ⟨S1024x3072, .f32⟩
  | .hbm, ⟨80, _⟩ => ⟨S1024x3072, .bf16⟩
  | .hbm, ⟨81, _⟩ => ⟨S1x8x1x1024, .f32⟩
  | .hbm, ⟨82, _⟩ => ⟨S8x1x1024, .f32⟩
  | .hbm, ⟨83, _⟩ => ⟨S1x8x1x1024, .f32⟩
  | .hbm, ⟨84, _⟩ => ⟨S8x1x1024, .f32⟩
  | .hbm, ⟨85, _⟩ => ⟨S8192x1024, .bf16⟩
  | .hbm, ⟨86, _⟩ => ⟨S8192x1024, .bf16⟩
  | .hbm, ⟨87, _⟩ => ⟨S8192x1024, .bf16⟩
  | .hbm, ⟨88, _⟩ => ⟨S8192x1024, .f32⟩
  | .hbm, ⟨89, _⟩ => ⟨S8192x1024, .f32⟩
  | .hbm, ⟨90, _⟩ => ⟨S32x1x256x16x64, .f32⟩
  | .hbm, ⟨91, _⟩ => ⟨S32x1x256x16x64, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | .local _ .vmem, ⟨7, _⟩ => ⟨S512x1024, .f32⟩
  | .local _ .vmem, ⟨8, _⟩ => ⟨S512x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1024x1536, .bf16⟩
  | .local _ .vmem, ⟨14, _⟩ => ⟨S1x128, .f32⟩
  | .local _ .vmem, ⟨15, _⟩ => ⟨S1x128, .f32⟩
  | .local _ .vmem, ⟨16, _⟩ => ⟨S512x1024, .bf16⟩
  | .local _ .vmem, ⟨17, _⟩ => ⟨S512x1024, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S256x1024, .bf16⟩
  | .local _ .vmem, ⟨27, _⟩ => ⟨S256x1024, .bf16⟩
  | .local _ .vmem, ⟨28, _⟩ => ⟨S256x256, .bf16⟩
  | .local _ .vmem, ⟨29, _⟩ => ⟨S256x256, .bf16⟩
  | .local _ .vmem, ⟨30, _⟩ => ⟨S256x256, .bf16⟩
  | .local _ .vmem, ⟨31, _⟩ => ⟨S256x256, .bf16⟩
  | .local _ .vmem, ⟨32, _⟩ => ⟨S256x1024, .bf16⟩
  | .local _ .vmem, ⟨33, _⟩ => ⟨S256x1024, .bf16⟩
  | .local _ .vmem, ⟨34, _⟩ => ⟨S512x1024, .bf16⟩
  | .local _ .vmem, ⟨35, _⟩ => ⟨S512x1024, .bf16⟩
  | .local _ .vmem, ⟨36, _⟩ => ⟨S1024x1024, .bf16⟩
  | .local _ .vmem, ⟨37, _⟩ => ⟨S512x1024, .f32⟩
  | .local _ .vmem, ⟨38, _⟩ => ⟨S512x1024, .f32⟩
  | .local _ .vmem, ⟨39, _⟩ => ⟨S1x1x1024, .f32⟩
  | .local _ .vmem, ⟨40, _⟩ => ⟨S1x1x1024, .f32⟩
  | .local _ .vmem, ⟨41, _⟩ => ⟨S1x1024, .f32⟩
  | .local _ .vmem, ⟨42, _⟩ => ⟨S1x1024, .f32⟩
  | .local _ .vmem, ⟨43, _⟩ => ⟨S1x1x1024, .f32⟩
  | .local _ .vmem, ⟨44, _⟩ => ⟨S1x1x1024, .f32⟩
  | .local _ .vmem, ⟨45, _⟩ => ⟨S1x1x1024, .f32⟩
  | .local _ .vmem, ⟨46, _⟩ => ⟨S1x1x1024, .f32⟩
  | .local _ .vmem, ⟨47, _⟩ => ⟨S1024x2816, .bf16⟩
  | .local _ .vmem, ⟨48, _⟩ => ⟨S1024x2816, .bf16⟩
  | .local _ .vmem, ⟨49, _⟩ => ⟨S2816x1024, .bf16⟩
  | .local _ .vmem, ⟨50, _⟩ => ⟨S1x1x1024, .f32⟩
  | .local _ .vmem, ⟨51, _⟩ => ⟨S1x1x1024, .f32⟩
  | .local _ .vmem, ⟨52, _⟩ => ⟨S1x1024, .f32⟩
  | .local _ .vmem, ⟨53, _⟩ => ⟨S1x1024, .f32⟩
  | .local _ .vmem, ⟨54, _⟩ => ⟨S512x1024, .f32⟩
  | .local _ .vmem, ⟨55, _⟩ => ⟨S512x1024, .f32⟩
  | .local _ .vmem, ⟨56, _⟩ => ⟨S512x1024, .f32⟩
  | .local _ .vmem, ⟨57, _⟩ => ⟨S512x1024, .f32⟩
  | .local _ .vmem, ⟨58, _⟩ => ⟨S1x1x1024, .f32⟩
  | .local _ .vmem, ⟨59, _⟩ => ⟨S1x1x1024, .f32⟩
  | .local _ .vmem, ⟨60, _⟩ => ⟨S1x1x1024, .f32⟩
  | .local _ .vmem, ⟨61, _⟩ => ⟨S1x1x1024, .f32⟩
  | .local _ .vmem, ⟨62, _⟩ => ⟨S1024x3072, .bf16⟩
  | .local _ .vmem, ⟨63, _⟩ => ⟨S512x1024, .bf16⟩
  | .local _ .vmem, ⟨64, _⟩ => ⟨S512x1024, .bf16⟩
  | .local _ .vmem, ⟨65, _⟩ => ⟨S512x1024, .bf16⟩
  | .local _ .vmem, ⟨66, _⟩ => ⟨S512x1024, .bf16⟩
  | .local _ .vmem, ⟨67, _⟩ => ⟨S512x1024, .bf16⟩
  | .local _ .vmem, ⟨68, _⟩ => ⟨S512x1024, .bf16⟩
  | .local _ .vmem, ⟨69, _⟩ => ⟨S512x1024, .f32⟩
  | .local _ .vmem, ⟨70, _⟩ => ⟨S512x1024, .f32⟩
  | .local _ .vmem, ⟨71, _⟩ => ⟨S512x1024, .f32⟩
  | .local _ .vmem, ⟨72, _⟩ => ⟨S512x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | _, _ => false

abbrev semScoped : Fin 0 → Bool
  | ⟨_, h⟩ => absurd h (Nat.not_lt_zero _)

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  ofTc nBuf bufTy 0 73 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29_0 : Ref sig .tc := ⟨.hbm, 48, rfl⟩
abbrev main_v29_1 : Ref sig .tc := ⟨.hbm, 49, rfl⟩
abbrev main_v29_2 : Ref sig .tc := ⟨.hbm, 50, rfl⟩
abbrev main_v29_3 : Ref sig .tc := ⟨.hbm, 51, rfl⟩
abbrev main_v29_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62_0 : Ref sig .tc := ⟨.hbm, 85, rfl⟩
abbrev main_v62_1 : Ref sig .tc := ⟨.hbm, 86, rfl⟩
abbrev main_v62_2 : Ref sig .tc := ⟨.hbm, 87, rfl⟩
abbrev main_v62_3 : Ref sig .tc := ⟨.hbm, 88, rfl⟩
abbrev main_v62_4 : Ref sig .tc := ⟨.hbm, 89, rfl⟩
abbrev main_v63 : Ref sig .tc := ⟨.hbm, 90, rfl⟩
abbrev main_v64 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg6_1 : Ref sig .tc := ⟨.vmem, 44, rfl⟩
abbrev cc3_stg7_0 : Ref sig .tc := ⟨.vmem, 45, rfl⟩
abbrev cc3_stg7_1 : Ref sig .tc := ⟨.vmem, 46, rfl⟩
abbrev cc3_stg8_0 : Ref sig .tc := ⟨.vmem, 47, rfl⟩
abbrev cc3_stg9_0 : Ref sig .tc := ⟨.vmem, 48, rfl⟩
abbrev cc3_stg10_0 : Ref sig .tc := ⟨.vmem, 49, rfl⟩
abbrev cc3_stg11_0 : Ref sig .tc := ⟨.vmem, 50, rfl⟩
abbrev cc3_stg11_1 : Ref sig .tc := ⟨.vmem, 51, rfl⟩
abbrev cc3_stg12_0 : Ref sig .tc := ⟨.vmem, 52, rfl⟩
abbrev cc3_stg13_0 : Ref sig .tc := ⟨.vmem, 53, rfl⟩
abbrev cc3_stg14_0 : Ref sig .tc := ⟨.vmem, 54, rfl⟩
abbrev cc3_stg14_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg2_1 : Ref sig .tc := ⟨.vmem, 61, rfl⟩
abbrev cc4_stg3_0 : Ref sig .tc := ⟨.vmem, 62, rfl⟩
abbrev cc4_stg4_0 : Ref sig .tc := ⟨.vmem, 63, rfl⟩
abbrev cc4_stg4_1 : Ref sig .tc := ⟨.vmem, 64, rfl⟩
abbrev cc4_stg5_0 : Ref sig .tc := ⟨.vmem, 65, rfl⟩
abbrev cc4_stg5_1 : Ref sig .tc := ⟨.vmem, 66, rfl⟩
abbrev cc4_stg6_0 : Ref sig .tc := ⟨.vmem, 67, rfl⟩
abbrev cc4_stg6_1 : Ref sig .tc := ⟨.vmem, 68, rfl⟩
abbrev cc4_stg7_0 : Ref sig .tc := ⟨.vmem, 69, rfl⟩
abbrev cc4_stg7_1 : Ref sig .tc := ⟨.vmem, 70, rfl⟩
abbrev cc4_stg8_0 : Ref sig .tc := ⟨.vmem, 71, rfl⟩
abbrev cc4_stg8_1 : Ref sig .tc := ⟨.vmem, 72, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem2_1 : DmaSem sig := 38
abbrev cc3_sem3_0 : DmaSem sig := 39
abbrev cc3_sem3_1 : DmaSem sig := 40
abbrev cc3_sem4_0 : DmaSem sig := 41
abbrev cc3_sem5_0 : DmaSem sig := 42
abbrev cc3_sem6_0 : DmaSem sig := 43
abbrev cc3_sem6_1 : DmaSem sig := 44
abbrev cc3_sem7_0 : DmaSem sig := 45
abbrev cc3_sem7_1 : DmaSem sig := 46
abbrev cc3_sem8_0 : DmaSem sig := 47
abbrev cc3_sem9_0 : DmaSem sig := 48
abbrev cc3_sem10_0 : DmaSem sig := 49
abbrev cc3_sem11_0 : DmaSem sig := 50
abbrev cc3_sem11_1 : DmaSem sig := 51
abbrev cc3_sem12_0 : DmaSem sig := 52
abbrev cc3_sem13_0 : DmaSem sig := 53
abbrev cc3_sem14_0 : DmaSem sig := 54
abbrev cc3_sem14_1 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem2_1 : DmaSem sig := 61
abbrev cc4_sem3_0 : DmaSem sig := 62
abbrev cc4_sem4_0 : DmaSem sig := 63
abbrev cc4_sem4_1 : DmaSem sig := 64
abbrev cc4_sem5_0 : DmaSem sig := 65
abbrev cc4_sem5_1 : DmaSem sig := 66
abbrev cc4_sem6_0 : DmaSem sig := 67
abbrev cc4_sem6_1 : DmaSem sig := 68
abbrev cc4_sem7_0 : DmaSem sig := 69
abbrev cc4_sem7_1 : DmaSem sig := 70
abbrev cc4_sem8_0 : DmaSem sig := 71
abbrev cc4_sem8_1 : DmaSem sig := 72

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc1_transform_2 (i : grid1.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x1536 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc3_transform_7 (i : grid3.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1x1x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x1x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S1024x2816 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1024x2816 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S2816x1024 .bf16 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S1x1x1024 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 1 → Memref sig .tc .vmem S1x1024 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x1024 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S512x1024 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc4_transform_2 (i : grid4.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x1x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1024x3072 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S512x1024 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S512x1024 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S512x1024 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S512x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S512x1024 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]
-- ==== PlainContextIdeal.lean ====
abbrev S32x256x1024 : Shape := ⟨3, ![32, 256, 1024]⟩
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S2x1024 : Shape := ⟨2, ![2, 1024]⟩
abbrev S1x1024x1536 : Shape := ⟨3, ![1, 1024, 1536]⟩
abbrev S1x128 : Shape := ⟨2, ![1, 128]⟩
abbrev S1x1024x1024 : Shape := ⟨3, ![1, 1024, 1024]⟩
abbrev S1x1024x3072 : Shape := ⟨3, ![1, 1024, 3072]⟩
abbrev S1x1024x5632 : Shape := ⟨3, ![1, 1024, 5632]⟩
abbrev S1x2816x1024 : Shape := ⟨3, ![1, 2816, 1024]⟩
abbrev S_ : Shape := ⟨0, ![]⟩
abbrev S1x1024 : Shape := ⟨2, ![1, 1024]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S1x1x6144 : Shape := ⟨3, ![1, 1, 6144]⟩
abbrev S1x1x1024 : Shape := ⟨3, ![1, 1, 1024]⟩
abbrev S1024x1536 : Shape := ⟨2, ![1024, 1536]⟩
abbrev S128 : Shape := ⟨1, ![128]⟩
abbrev S32x256x1536 : Shape := ⟨3, ![32, 256, 1536]⟩
abbrev S32x256x8x128 : Shape := ⟨4, ![32, 256, 8, 128]⟩
abbrev S32x256x8 : Shape := ⟨3, ![32, 256, 8]⟩
abbrev S32x256x8x1 : Shape := ⟨4, ![32, 256, 8, 1]⟩
abbrev S1x1x1x128 : Shape := ⟨4, ![1, 1, 1, 128]⟩
abbrev S32x256x256 : Shape := ⟨3, ![32, 256, 256]⟩
abbrev S32x256x2x128 : Shape := ⟨4, ![32, 256, 2, 128]⟩
abbrev S32x256x2 : Shape := ⟨3, ![32, 256, 2]⟩
abbrev S32x256x2x1 : Shape := ⟨4, ![32, 256, 2, 1]⟩
abbrev S32x256x2x4x128 : Shape := ⟨5, ![32, 256, 2, 4, 128]⟩
abbrev S32x2x256x256x4 : Shape := ⟨5, ![32, 2, 256, 256, 4]⟩
abbrev S32x2x4x256x256 : Shape := ⟨5, ![32, 2, 4, 256, 256]⟩
abbrev S32x2x4x256 : Shape := ⟨4, ![32, 2, 4, 256]⟩
abbrev S32x2x4x256x1 : Shape := ⟨5, ![32, 2, 4, 256, 1]⟩
abbrev S32x2x128x4x256 : Shape := ⟨5, ![32, 2, 128, 4, 256]⟩
abbrev S1024x1024 : Shape := ⟨2, ![1024, 1024]⟩
abbrev S32x256 : Shape := ⟨2, ![32, 256]⟩
abbrev S32x256x1 : Shape := ⟨3, ![32, 256, 1]⟩
abbrev S1024x5632 : Shape := ⟨2, ![1024, 5632]⟩
abbrev S2816x1024 : Shape := ⟨2, ![2816, 1024]⟩
abbrev S32x256x5632 : Shape := ⟨3, ![32, 256, 5632]⟩
abbrev S32x256x2816 : Shape := ⟨3, ![32, 256, 2816]⟩
abbrev S1024x3072 : Shape := ⟨2, ![1024, 3072]⟩
abbrev S32x256x3072 : Shape := ⟨3, ![32, 256, 3072]⟩
abbrev S32x256x16x64 : Shape := ⟨4, ![32, 256, 16, 64]⟩
abbrev S32x1x256x2x128 : Shape := ⟨5, ![32, 1, 256, 2, 128]⟩
abbrev S32x1x256x16x64 : Shape := ⟨5, ![32, 1, 256, 16, 64]⟩

abbrev nBuf : Space → Nat
  | .hbm => 248
  | .vmem => 0
  | .smem => 0
  | _ => 0

abbrev hbmTy0_0 (i : Nat) : BufTy := match i % 128 with
  | 0 => ⟨S32x256x1024, .f32⟩
  | 1 => ⟨S4x1024, .f32⟩
  | 2 => ⟨S1024, .f32⟩
  | 3 => ⟨S2x1024x6144, .f32⟩
  | 4 => ⟨S2x6144, .f32⟩
  | 5 => ⟨S2x1024, .f32⟩
  | 6 => ⟨S2x1024, .f32⟩
  | 7 => ⟨S2x1024, .f32⟩
  | 8 => ⟨S2x1024, .f32⟩
  | 9 => ⟨S1x1024x1536, .f32⟩
  | 10 => ⟨S1x128, .f32⟩
  | 11 => ⟨S1x128, .f32⟩
  | 12 => ⟨S1x1024x1024, .f32⟩
  | 13 => ⟨S1x1024x3072, .f32⟩
  | 14 => ⟨S1x1024x5632, .f32⟩
  | 15 => ⟨S1x2816x1024, .f32⟩
  | 16 => ⟨S1024, .f32⟩
  | 17 => ⟨S1024, .f32⟩
  | 18 => ⟨S_, .f32⟩
  | 19 => ⟨S1024, .f32⟩
  | 20 => ⟨S1024, .f32⟩
  | 21 => ⟨S_, .f32⟩
  | 22 => ⟨S1024, .f32⟩
  | 23 => ⟨S1024, .f32⟩
  | 24 => ⟨S1024, .f32⟩
  | 25 => ⟨S1x1024, .f32⟩
  | 26 => ⟨S1x1024x6144, .f32⟩
  | 27 => ⟨S1024x6144, .f32⟩
  | 28 => ⟨S1x6144, .f32⟩
  | 29 => ⟨S6144, .f32⟩
  | 30 => ⟨S1x6144, .f32⟩
  | 31 => ⟨S1x6144, .f32⟩
  | 32 => ⟨S1x6144, .f32⟩
  | 33 => ⟨S1x1x6144, .f32⟩
  | 34 => ⟨S1x1x1024, .f32⟩
  | 35 => ⟨S1x1x1024, .f32⟩
  | 36 => ⟨S1x1x1024, .f32⟩
  | 37 => ⟨S1x1x1024, .f32⟩
  | 38 => ⟨S1x1x1024, .f32⟩
  | 39 => ⟨S1x1x1024, .f32⟩
  | 40 => ⟨S_, .f32⟩
  | 41 => ⟨S1x1x1024, .f32⟩
  | 42 => ⟨S1x1x1024, .f32⟩
  | 43 => ⟨S32x256x1024, .f32⟩
  | 44 => ⟨S32x256x1024, .f32⟩
  | 45 => ⟨S32x256x1024, .f32⟩
  | 46 => ⟨S32x256x1024, .f32⟩
  | 47 => ⟨S1024x1536, .f32⟩
  | 48 => ⟨S128, .f32⟩
  | 49 => ⟨S128, .f32⟩
  | 50 => ⟨S32x256x1536, .f32⟩
  | 51 => ⟨S32x256x1024, .f32⟩
  | 52 => ⟨S32x256x8x128, .f32⟩
  | 53 => ⟨S32x256x8x128, .f32⟩
  | 54 => ⟨S_, .f32⟩
  | 55 => ⟨S32x256x8, .f32⟩
  | 56 => ⟨S32x256x8x1, .f32⟩
  | 57 => ⟨S_, .f32⟩
  | 58 => ⟨S32x256x8x1, .f32⟩
  | 59 => ⟨S32x256x8x1, .f32⟩
  | 60 => ⟨S_, .f32⟩
  | 61 => ⟨S32x256x8x1, .f32⟩
  | 62 => ⟨S32x256x8x1, .f32⟩
  | 63 => ⟨S32x256x8x1, .f32⟩
  | 64 => ⟨S32x256x8x128, .f32⟩
  | 65 => ⟨S32x256x8x128, .f32⟩
  | 66 => ⟨S1x1x1x128, .f32⟩
  | 67 => ⟨S32x256x8x128, .f32⟩
  | 68 => ⟨S32x256x8x128, .f32⟩
  | 69 => ⟨S32x256x256, .f32⟩
  | 70 => ⟨S32x256x2x128, .f32⟩
  | 71 => ⟨S32x256x2x128, .f32⟩
  | 72 => ⟨S_, .f32⟩
  | 73 => ⟨S32x256x2, .f32⟩
  | 74 => ⟨S32x256x2x1, .f32⟩
  | 75 => ⟨S_, .f32⟩
  | 76 => ⟨S32x256x2x1, .f32⟩
  | 77 => ⟨S32x256x2x1, .f32⟩
  | 78 => ⟨S_, .f32⟩
  | 79 => ⟨S32x256x2x1, .f32⟩
  | 80 => ⟨S32x256x2x1, .f32⟩
  | 81 => ⟨S32x256x2x1, .f32⟩
  | 82 => ⟨S32x256x2x128, .f32⟩
  | 83 => ⟨S32x256x2x128, .f32⟩
  | 84 => ⟨S1x1x1x128, .f32⟩
  | 85 => ⟨S32x256x2x128, .f32⟩
  | 86 => ⟨S32x256x2x128, .f32⟩
  | 87 => ⟨S32x256x256, .f32⟩
  | 88 => ⟨S32x256x2x128, .f32⟩
  | 89 => ⟨S_, .f32⟩
  | 90 => ⟨S32x256x8x128, .f32⟩
  | 91 => ⟨S32x256x8x128, .f32⟩
  | 92 => ⟨S32x256x2x4x128, .f32⟩
  | 93 => ⟨S32x2x256x256x4, .f32⟩
  | 94 => ⟨S32x2x4x256x256, .f32⟩
  | 95 => ⟨S_, .f32⟩
  | 96 => ⟨S32x2x4x256, .f32⟩
  | 97 => ⟨S_, .f32⟩
  | 98 => ⟨S32x2x4x256, .f32⟩
  | 99 => ⟨S32x2x4x256, .f32⟩
  | 100 => ⟨S32x2x4x256x1, .f32⟩
  | 101 => ⟨S32x2x4x256x256, .f32⟩
  | 102 => ⟨S32x2x4x256x256, .f32⟩
  | 103 => ⟨S32x2x4x256x256, .f32⟩
  | 104 => ⟨S_, .f32⟩
  | 105 => ⟨S32x2x4x256, .f32⟩
  | 106 => ⟨S32x2x4x256x1, .f32⟩
  | 107 => ⟨S32x2x4x256x256, .f32⟩
  | 108 => ⟨S32x2x4x256x256, .f32⟩
  | 109 => ⟨S32x2x128x4x256, .f32⟩
  | 110 => ⟨S32x256x2x4x128, .f32⟩
  | 111 => ⟨S32x256x1024, .f32⟩
  | 112 => ⟨S1024x1024, .f32⟩
  | 113 => ⟨S32x256x1024, .f32⟩
  | 114 => ⟨S1x1024, .f32⟩
  | 115 => ⟨S1024, .f32⟩
  | 116 => ⟨S1x1024, .f32⟩
  | 117 => ⟨S1024, .f32⟩
  | 118 => ⟨S_, .f32⟩
  | 119 => ⟨S32x256x1024, .f32⟩
  | 120 => ⟨S32x256x1024, .f32⟩
  | 121 => ⟨S32x256x1024, .f32⟩
  | 122 => ⟨S32x256x1024, .f32⟩
  | 123 => ⟨S32x256x1024, .f32⟩
  | 124 => ⟨S_, .f32⟩
  | 125 => ⟨S32x256, .f32⟩
  | 126 => ⟨S32x256x1, .f32⟩
  | 127 => ⟨S_, .f32⟩
  | _ => ⟨S32x256x1024, .f32⟩

abbrev hbmTy0_1 (i : Nat) : BufTy := match i % 128 with
  | 0 => ⟨S32x256x1, .f32⟩
  | 1 => ⟨S32x256x1, .f32⟩
  | 2 => ⟨S32x256x1024, .f32⟩
  | 3 => ⟨S32x256x1024, .f32⟩
  | 4 => ⟨S32x256x1024, .f32⟩
  | 5 => ⟨S_, .f32⟩
  | 6 => ⟨S32x256, .f32⟩
  | 7 => ⟨S32x256x1, .f32⟩
  | 8 => ⟨S_, .f32⟩
  | 9 => ⟨S32x256x1, .f32⟩
  | 10 => ⟨S32x256x1, .f32⟩
  | 11 => ⟨S32x256x1024, .f32⟩
  | 12 => ⟨S32x256x1024, .f32⟩
  | 13 => ⟨S_, .f32⟩
  | 14 => ⟨S32x256x1, .f32⟩
  | 15 => ⟨S32x256x1, .f32⟩
  | 16 => ⟨S32x256x1, .f32⟩
  | 17 => ⟨S32x256x1024, .f32⟩
  | 18 => ⟨S32x256x1024, .f32⟩
  | 19 => ⟨S1x1x1024, .f32⟩
  | 20 => ⟨S32x256x1024, .f32⟩
  | 21 => ⟨S32x256x1024, .f32⟩
  | 22 => ⟨S1x1x1024, .f32⟩
  | 23 => ⟨S32x256x1024, .f32⟩
  | 24 => ⟨S32x256x1024, .f32⟩
  | 25 => ⟨S_, .f32⟩
  | 26 => ⟨S1x1x1024, .f32⟩
  | 27 => ⟨S1x1x1024, .f32⟩
  | 28 => ⟨S32x256x1024, .f32⟩
  | 29 => ⟨S32x256x1024, .f32⟩
  | 30 => ⟨S32x256x1024, .f32⟩
  | 31 => ⟨S32x256x1024, .f32⟩
  | 32 => ⟨S1024x5632, .f32⟩
  | 33 => ⟨S2816x1024, .f32⟩
  | 34 => ⟨S32x256x5632, .f32⟩
  | 35 => ⟨S32x256x2816, .f32⟩
  | 36 => ⟨S32x256x2816, .f32⟩
  | 37 => ⟨S32x256x2816, .f32⟩
  | 38 => ⟨S32x256x2816, .f32⟩
  | 39 => ⟨S_, .f32⟩
  | 40 => ⟨S32x256x2816, .f32⟩
  | 41 => ⟨S32x256x2816, .f32⟩
  | 42 => ⟨S_, .f32⟩
  | 43 => ⟨S32x256x2816, .f32⟩
  | 44 => ⟨S32x256x2816, .f32⟩
  | 45 => ⟨S32x256x2816, .f32⟩
  | 46 => ⟨S32x256x2816, .f32⟩
  | 47 => ⟨S32x256x1024, .f32⟩
  | 48 => ⟨S1x1024, .f32⟩
  | 49 => ⟨S1024, .f32⟩
  | 50 => ⟨S1x1024, .f32⟩
  | 51 => ⟨S1024, .f32⟩
  | 52 => ⟨S_, .f32⟩
  | 53 => ⟨S32x256x1024, .f32⟩
  | 54 => ⟨S32x256x1024, .f32⟩
  | 55 => ⟨S32x256x1024, .f32⟩
  | 56 => ⟨S32x256x1024, .f32⟩
  | 57 => ⟨S32x256x1024, .f32⟩
  | 58 => ⟨S_, .f32⟩
  | 59 => ⟨S32x256, .f32⟩
  | 60 => ⟨S32x256x1, .f32⟩
  | 61 => ⟨S_, .f32⟩
  | 62 => ⟨S32x256x1, .f32⟩
  | 63 => ⟨S32x256x1, .f32⟩
  | 64 => ⟨S32x256x1024, .f32⟩
  | 65 => ⟨S32x256x1024, .f32⟩
  | 66 => ⟨S32x256x1024, .f32⟩
  | 67 => ⟨S_, .f32⟩
  | 68 => ⟨S32x256, .f32⟩
  | 69 => ⟨S32x256x1, .f32⟩
  | 70 => ⟨S_, .f32⟩
  | 71 => ⟨S32x256x1, .f32⟩
  | 72 => ⟨S32x256x1, .f32⟩
  | 73 => ⟨S32x256x1024, .f32⟩
  | 74 => ⟨S32x256x1024, .f32⟩
  | 75 => ⟨S_, .f32⟩
  | 76 => ⟨S32x256x1, .f32⟩
  | 77 => ⟨S32x256x1, .f32⟩
  | 78 => ⟨S32x256x1, .f32⟩
  | 79 => ⟨S32x256x1024, .f32⟩
  | 80 => ⟨S32x256x1024, .f32⟩
  | 81 => ⟨S1x1x1024, .f32⟩
  | 82 => ⟨S32x256x1024, .f32⟩
  | 83 => ⟨S32x256x1024, .f32⟩
  | 84 => ⟨S1x1x1024, .f32⟩
  | 85 => ⟨S32x256x1024, .f32⟩
  | 86 => ⟨S32x256x1024, .f32⟩
  | 87 => ⟨S1x1024x6144, .f32⟩
  | 88 => ⟨S1024x6144, .f32⟩
  | 89 => ⟨S1x6144, .f32⟩
  | 90 => ⟨S6144, .f32⟩
  | 91 => ⟨S1x6144, .f32⟩
  | 92 => ⟨S1x6144, .f32⟩
  | 93 => ⟨S1x6144, .f32⟩
  | 94 => ⟨S1x1x6144, .f32⟩
  | 95 => ⟨S1x1x1024, .f32⟩
  | 96 => ⟨S1x1x1024, .f32⟩
  | 97 => ⟨S1x1x1024, .f32⟩
  | 98 => ⟨S1x1x1024, .f32⟩
  | 99 => ⟨S1x1x1024, .f32⟩
  | 100 => ⟨S1x1x1024, .f32⟩
  | 101 => ⟨S_, .f32⟩
  | 102 => ⟨S1x1x1024, .f32⟩
  | 103 => ⟨S1x1x1024, .f32⟩
  | 104 => ⟨S32x256x1024, .f32⟩
  | 105 => ⟨S32x256x1024, .f32⟩
  | 106 => ⟨S32x256x1024, .f32⟩
  | 107 => ⟨S32x256x1024, .f32⟩
  | 108 => ⟨S1024x3072, .f32⟩
  | 109 => ⟨S32x256x3072, .f32⟩
  | 110 => ⟨S32x256x1024, .f32⟩
  | 111 => ⟨S32x256x1024, .f32⟩
  | 112 => ⟨S32x256x1024, .f32⟩
  | 113 => ⟨S32x256x16x64, .f32⟩
  | 114 => ⟨S32x256x16x64, .f32⟩
  | 115 => ⟨S32x256x16x64, .f32⟩
  | 116 => ⟨S32x1x256x2x128, .f32⟩
  | 117 => ⟨S32x1x256x2x128, .f32⟩
  | 118 => ⟨S32x1x256x16x64, .f32⟩
  | 119 => ⟨S32x1x256x16x64, .f32⟩
  | _ => ⟨S32x256x1024, .f32⟩

abbrev hbmTy (i : Nat) : BufTy := match i / 128 with
  | 0 => hbmTy0_0 i
  | 1 => hbmTy0_1 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_0 : Ref sig .tc := ⟨.hbm, 54, rfl⟩
abbrev main_v29 : Ref sig .tc := ⟨.hbm, 55, rfl⟩
abbrev main_v30 : Ref sig .tc := ⟨.hbm, 56, rfl⟩
abbrev main_cst_1 : Ref sig .tc := ⟨.hbm, 57, rfl⟩
abbrev main_v31 : Ref sig .tc := ⟨.hbm, 58, rfl⟩
abbrev main_v32 : Ref sig .tc := ⟨.hbm, 59, rfl⟩
abbrev main_cst_2 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_3 : Ref sig .tc := ⟨.hbm, 72, rfl⟩
abbrev main_v44 : Ref sig .tc := ⟨.hbm, 73, rfl⟩
abbrev main_v45 : Ref sig .tc := ⟨.hbm, 74, rfl⟩
abbrev main_cst_4 : Ref sig .tc := ⟨.hbm, 75, rfl⟩
abbrev main_v46 : Ref sig .tc := ⟨.hbm, 76, rfl⟩
abbrev main_v47 : Ref sig .tc := ⟨.hbm, 77, rfl⟩
abbrev main_cst_5 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_6 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_7 : Ref sig .tc := ⟨.hbm, 95, rfl⟩
abbrev main_v63 : Ref sig .tc := ⟨.hbm, 96, rfl⟩
abbrev main_cst_8 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_9 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_10 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_11 : Ref sig .tc := ⟨.hbm, 124, rfl⟩
abbrev main_v88 : Ref sig .tc := ⟨.hbm, 125, rfl⟩
abbrev main_v89 : Ref sig .tc := ⟨.hbm, 126, rfl⟩
abbrev main_cst_12 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_13 : Ref sig .tc := ⟨.hbm, 133, rfl⟩
abbrev main_v95 : Ref sig .tc := ⟨.hbm, 134, rfl⟩
abbrev main_v96 : Ref sig .tc := ⟨.hbm, 135, rfl⟩
abbrev main_cst_14 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_15 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_16 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_call1_v0 : Ref sig .tc := ⟨.hbm, 165, rfl⟩
abbrev main_call1_v1 : Ref sig .tc := ⟨.hbm, 166, rfl⟩
abbrev main_call1_cst : Ref sig .tc := ⟨.hbm, 167, rfl⟩
abbrev main_call1_v2 : Ref sig .tc := ⟨.hbm, 168, rfl⟩
abbrev main_call1_v3 : Ref sig .tc := ⟨.hbm, 169, rfl⟩
abbrev main_call1_cst_0 : Ref sig .tc := ⟨.hbm, 170, rfl⟩
abbrev main_call1_v4 : Ref sig .tc := ⟨.hbm, 171, rfl⟩
abbrev main_call1_v5 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_cst_17 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_18 : Ref sig .tc := ⟨.hbm, 186, rfl⟩
abbrev main_v135 : Ref sig .tc := ⟨.hbm, 187, rfl⟩
abbrev main_v136 : Ref sig .tc := ⟨.hbm, 188, rfl⟩
abbrev main_cst_19 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_20 : Ref sig .tc := ⟨.hbm, 195, rfl⟩
abbrev main_v142 : Ref sig .tc := ⟨.hbm, 196, rfl⟩
abbrev main_v143 : Ref sig .tc := ⟨.hbm, 197, rfl⟩
abbrev main_cst_21 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_cst_22 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_cst_23 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩

abbrev nD : Nat := 1
abbrev τ : Topo := Topo.v7x

variable {F : FTy → Type} [FloatOps F]
-- ==== Latent.lean ====
abbrev S16384x1024 : Shape := ⟨2, ![16384, 1024]⟩
abbrev S4x4096x1024 : Shape := ⟨3, ![4, 4096, 1024]⟩
abbrev S6x8x1x1024 : Shape := ⟨4, ![6, 8, 1, 1024]⟩
abbrev S2x1024 : Shape := ⟨2, ![2, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024x1024 : Shape := ⟨2, ![1024, 1024]⟩
abbrev S1024x5632 : Shape := ⟨2, ![1024, 5632]⟩
abbrev S2816x1024 : Shape := ⟨2, ![2816, 1024]⟩
abbrev S1x8x1x1024 : Shape := ⟨4, ![1, 8, 1, 1024]⟩
abbrev S8x1x1024 : Shape := ⟨3, ![8, 1, 1024]⟩
abbrev S1x1024 : Shape := ⟨2, ![1, 1024]⟩
abbrev S1024 : Shape := ⟨1, ![1024]⟩
abbrev S512x1024 : Shape := ⟨2, ![512, 1024]⟩
abbrev S1x1x1024 : Shape := ⟨3, ![1, 1, 1024]⟩
abbrev S1024x2816 : Shape := ⟨2, ![1024, 2816]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 38
  | .vmem => 22
  | .smem => 0
  | _ => 0

abbrev bufTy : (tb : Table) → Fin (tcTables nBuf tb) → BufTy
  | .hbm, ⟨0, _⟩ => ⟨S16384x1024, .bf16⟩
  | .hbm, ⟨1, _⟩ => ⟨S4x4096x1024, .f32⟩
  | .hbm, ⟨2, _⟩ => ⟨S6x8x1x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S1x1024x1024, .f32⟩
  | .hbm, ⟨8, _⟩ => ⟨S1x1024x5632, .f32⟩
  | .hbm, ⟨9, _⟩ => ⟨S1x2816x1024, .f32⟩
  | .hbm, ⟨10, _⟩ => ⟨S16384x1024, .f32⟩
  | .hbm, ⟨11, _⟩ => ⟨S1024x1024, .f32⟩
  | .hbm, ⟨12, _⟩ => ⟨S1024x1024, .bf16⟩
  | .hbm, ⟨13, _⟩ => ⟨S1024x5632, .f32⟩
  | .hbm, ⟨14, _⟩ => ⟨S1024x5632, .bf16⟩
  | .hbm, ⟨15, _⟩ => ⟨S2816x1024, .f32⟩
  | .hbm, ⟨16, _⟩ => ⟨S2816x1024, .bf16⟩
  | .hbm, ⟨17, _⟩ => ⟨S1x8x1x1024, .f32⟩
  | .hbm, ⟨18, _⟩ => ⟨S8x1x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x8x1x1024, .f32⟩
  | .hbm, ⟨26, _⟩ => ⟨S8x1x1024, .f32⟩
  | .hbm, ⟨27, _⟩ => ⟨S1x8x1x1024, .f32⟩
  | .hbm, ⟨28, _⟩ => ⟨S8x1x1024, .f32⟩
  | .hbm, ⟨29, _⟩ => ⟨S1x8x1x1024, .f32⟩
  | .hbm, ⟨30, _⟩ => ⟨S8x1x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== PlainLatentIdeal.lean ====
abbrev S16384x1024 : Shape := ⟨2, ![16384, 1024]⟩
abbrev S4x4096x1024 : Shape := ⟨3, ![4, 4096, 1024]⟩
abbrev S6x8x1x1024 : Shape := ⟨4, ![6, 8, 1, 1024]⟩
abbrev S2x1024 : Shape := ⟨2, ![2, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1x4x1x1024 : Shape := ⟨4, ![1, 4, 1, 1024]⟩
abbrev S4x1x1024 : Shape := ⟨3, ![4, 1, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x5632 : Shape := ⟨2, ![1024, 5632]⟩
abbrev S2816x1024 : Shape := ⟨2, ![2816, 1024]⟩
abbrev S4x4096x5632 : Shape := ⟨3, ![4, 4096, 5632]⟩
abbrev S4x4096x2816 : Shape := ⟨3, ![4, 4096, 2816]⟩

abbrev nBuf : Space → Nat
  | .hbm => 128
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x4096x1024, .f32⟩
  | .hbm, ⟨2, _⟩ => ⟨S6x8x1x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S1x1024x1024, .f32⟩
  | .hbm, ⟨8, _⟩ => ⟨S1x1024x5632, .f32⟩
  | .hbm, ⟨9, _⟩ => ⟨S1x2816x1024, .f32⟩
  | .hbm, ⟨10, _⟩ => ⟨S1x4x1x1024, .f32⟩
  | .hbm, ⟨11, _⟩ => ⟨S4x1x1024, .f32⟩
  | .hbm, ⟨12, _⟩ => ⟨S1x4x1x1024, .f32⟩
  | .hbm, ⟨13, _⟩ => ⟨S4x1x1024, .f32⟩
  | .hbm, ⟨14, _⟩ => ⟨S1x4x1x1024, .f32⟩
  | .hbm, ⟨15, _⟩ => ⟨S4x1x1024, .f32⟩
  | .hbm, ⟨16, _⟩ => ⟨S1x4x1x1024, .f32⟩
  | .hbm, ⟨17, _⟩ => ⟨S4x1x1024, .f32⟩
  | .hbm, ⟨18, _⟩ => ⟨S1x4x1x1024, .f32⟩
  | .hbm, ⟨19, _⟩ => ⟨S4x1x1024, .f32⟩
  | .hbm, ⟨20, _⟩ => ⟨S1x4x1x1024, .f32⟩
  | .hbm, ⟨21, _⟩ => ⟨S4x1x1024, .f32⟩
  | .hbm, ⟨22, _⟩ => ⟨S16384x1024, .f32⟩
  | .hbm, ⟨23, _⟩ => ⟨S4x4096x1024, .f32⟩
  | .hbm, ⟨24, _⟩ => ⟨S1024x1024, .f32⟩
  | .hbm, ⟨25, _⟩ => ⟨S4x4096x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S_, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S4x4096x1, .f32⟩
  | .hbm, ⟨57, _⟩ => ⟨S4x4096x1024, .f32⟩
  | .hbm, ⟨58, _⟩ => ⟨S4x4096x1024, .f32⟩
  | .hbm, ⟨59, _⟩ => ⟨S1x1x1024, .f32⟩
  | .hbm, ⟨60, _⟩ => ⟨S4x4096x1024, .f32⟩
  | .hbm, ⟨61, _⟩ => ⟨S4x4096x1024, .f32⟩
  | .hbm, ⟨62, _⟩ => ⟨S1x1x1024, .f32⟩
  | .hbm, ⟨63, _⟩ => ⟨S4x4096x1024, .f32⟩
  | .hbm, ⟨64, _⟩ => ⟨S4x4096x1024, .f32⟩
  | .hbm, ⟨65, _⟩ => ⟨S_, .f32⟩
  | .hbm, ⟨66, _⟩ => ⟨S4x1x1024, .f32⟩
  | .hbm, ⟨67, _⟩ => ⟨S4x1x1024, .f32⟩
  | .hbm, ⟨68, _⟩ => ⟨S4x4096x1024, .f32⟩
  | .hbm, ⟨69, _⟩ => ⟨S4x4096x1024, .f32⟩
  | .hbm, ⟨70, _⟩ => ⟨S4x4096x1024, .f32⟩
  | .hbm, ⟨71, _⟩ => ⟨S4x4096x1024, .f32⟩
  | .hbm, ⟨72, _⟩ => ⟨S1024x5632, .f32⟩
  | .hbm, ⟨73, _⟩ => ⟨S2816x1024, .f32⟩
  | .hbm, ⟨74, _⟩ => ⟨S4x4096x5632, .f32⟩
  | .hbm, ⟨75, _⟩ => ⟨S4x4096x2816, .f32⟩
  | .hbm, ⟨76, _⟩ => ⟨S4x4096x2816, .f32⟩
  | .hbm, ⟨77, _⟩ => ⟨S4x4096x2816, .f32⟩
  | .hbm, ⟨78, _⟩ => ⟨S4x4096x2816, .f32⟩
  | .hbm, ⟨79, _⟩ => ⟨S_, .f32⟩
  | .hbm, ⟨80, _⟩ => ⟨S4x4096x2816, .f32⟩
  | .hbm, ⟨81, _⟩ => ⟨S4x4096x2816, .f32⟩
  | .hbm, ⟨82, _⟩ => ⟨S_, .f32⟩
  | .hbm, ⟨83, _⟩ => ⟨S4x4096x2816, .f32⟩
  | .hbm, ⟨84, _⟩ => ⟨S4x4096x2816, .f32⟩
  | .hbm, ⟨85, _⟩ => ⟨S4x4096x2816, .f32⟩
  | .hbm, ⟨86, _⟩ => ⟨S4x4096x2816, .f32⟩
  | .hbm, ⟨87, _⟩ => ⟨S4x4096x1024, .f32⟩
  | .hbm, ⟨88, _⟩ => ⟨S1x1024, .f32⟩
  | .hbm, ⟨89, _⟩ => ⟨S1024, .f32⟩
  | .hbm, ⟨90, _⟩ => ⟨S1x1024, .f32⟩
  | .hbm, ⟨91, _⟩ => ⟨S1024, .f32⟩
  | .hbm, ⟨92, _⟩ => ⟨S_, .f32⟩
  | .hbm, ⟨93, _⟩ => ⟨S4x4096x1024, .f32⟩
  | .hbm, ⟨94, _⟩ => ⟨S4x4096x1024, .f32⟩
  | .hbm, ⟨95, _⟩ => ⟨S4x4096x1024, .f32⟩
  | .hbm, ⟨96, _⟩ => ⟨S4x4096x1024, .f32⟩
  | .hbm, ⟨97, _⟩ => ⟨S4x4096x1024, .f32⟩
  | .hbm, ⟨98, _⟩ => ⟨S_, .f32⟩
  | .hbm, ⟨99, _⟩ => ⟨S4x4096, .f32⟩
  | .hbm, ⟨100, _⟩ => ⟨S4x4096x1, .f32⟩
  | .hbm, ⟨101, _⟩ => ⟨S_, .f32⟩
  | .hbm, ⟨102, _⟩ => ⟨S4x4096x1, .f32⟩
  | .hbm, ⟨103, _⟩ => ⟨S4x4096x1, .f32⟩
  | .hbm, ⟨104, _⟩ => ⟨S4x4096x1024, .f32⟩
  | .hbm, ⟨105, _⟩ => ⟨S4x4096x1024, .f32⟩
  | .hbm, ⟨106, _⟩ => ⟨S4x4096x1024, .f32⟩
  | .hbm, ⟨107, _⟩ => ⟨S_, .f32⟩
  | .hbm, ⟨108, _⟩ => ⟨S4x4096, .f32⟩
  | .hbm, ⟨109, _⟩ => ⟨S4x4096x1, .f32⟩
  | .hbm, ⟨110, _⟩ => ⟨S_, .f32⟩
  | .hbm, ⟨111, _⟩ => ⟨S4x4096x1, .f32⟩
  | .hbm, ⟨112, _⟩ => ⟨S4x4096x1, .f32⟩
  | .hbm, ⟨113, _⟩ => ⟨S4x4096x1024, .f32⟩
  | .hbm, ⟨114, _⟩ => ⟨S4x4096x1024, .f32⟩
  | .hbm, ⟨115, _⟩ => ⟨S_, .f32⟩
  | .hbm, ⟨116, _⟩ => ⟨S4x4096x1, .f32⟩
  | .hbm, ⟨117, _⟩ => ⟨S4x4096x1, .f32⟩
  | .hbm, ⟨118, _⟩ => ⟨S4x4096x1, .f32⟩
  | .hbm, ⟨119, _⟩ => ⟨S4x4096x1024, .f32⟩
  | .hbm, ⟨120, _⟩ => ⟨S4x4096x1024, .f32⟩
  | .hbm, ⟨121, _⟩ => ⟨S1x1x1024, .f32⟩
  | .hbm, ⟨122, _⟩ => ⟨S4x4096x1024, .f32⟩
  | .hbm, ⟨123, _⟩ => ⟨S4x4096x1024, .f32⟩
  | .hbm, ⟨124, _⟩ => ⟨S1x1x1024, .f32⟩
  | .hbm, ⟨125, _⟩ => ⟨S4x4096x1024, .f32⟩
  | .hbm, ⟨126, _⟩ => ⟨S4x4096x1024, .f32⟩
  | .hbm, ⟨127, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_0 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_call0_v5 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_6 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_7 : Ref sig .tc := ⟨.hbm, 98, rfl⟩
abbrev main_v72 : Ref sig .tc := ⟨.hbm, 99, rfl⟩
abbrev main_v73 : Ref sig .tc := ⟨.hbm, 100, rfl⟩
abbrev main_cst_8 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_9 : Ref sig .tc := ⟨.hbm, 107, rfl⟩
abbrev main_v79 : Ref sig .tc := ⟨.hbm, 108, rfl⟩
abbrev main_v80 : Ref sig .tc := ⟨.hbm, 109, rfl⟩
abbrev main_cst_10 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_11 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩

abbrev nD : Nat := 1
abbrev τ : Topo := Topo.v7x

variable {F : FTy → Type} [FloatOps F]
-- ==== Projection.lean ====
abbrev S16384x1024 : Shape := ⟨2, ![16384, 1024]⟩
abbrev S6x8x1x1024 : Shape := ⟨4, ![6, 8, 1, 1024]⟩
abbrev S1x1024x3072 : Shape := ⟨3, ![1, 1024, 3072]⟩
abbrev S1024x3072 : Shape := ⟨2, ![1024, 3072]⟩
abbrev S1x8x1x1024 : Shape := ⟨4, ![1, 8, 1, 1024]⟩
abbrev S8x1x1024 : Shape := ⟨3, ![8, 1, 1024]⟩
abbrev S128x1024x128 : Shape := ⟨3, ![128, 1024, 128]⟩
abbrev S512x1024 : Shape := ⟨2, ![512, 1024]⟩
abbrev S1x1x1024 : Shape := ⟨3, ![1, 1, 1024]⟩
abbrev S4x1024x128 : Shape := ⟨3, ![4, 1024, 128]⟩
abbrev S1x1024 : Shape := ⟨2, ![1, 1024]⟩
abbrev S512x3072 : Shape := ⟨2, ![512, 3072]⟩
abbrev S1024x512 : Shape := ⟨2, ![1024, 512]⟩
abbrev S1024x128 : Shape := ⟨2, ![1024, 128]⟩
abbrev S1x1024x128 : Shape := ⟨3, ![1, 1024, 128]⟩

abbrev nBuf : Space → Nat
  | .hbm => 12
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S6x8x1x1024, .f32⟩
  | .hbm, ⟨2, _⟩ => ⟨S1x1024x3072, .f32⟩
  | .hbm, ⟨3, _⟩ => ⟨S1024x3072, .f32⟩
  | .hbm, ⟨4, _⟩ => ⟨S1024x3072, .bf16⟩
  | .hbm, ⟨5, _⟩ => ⟨S1x8x1x1024, .f32⟩
  | .hbm, ⟨6, _⟩ => ⟨S8x1x1024, .f32⟩
  | .hbm, ⟨7, _⟩ => ⟨S1x8x1x1024, .f32⟩
  | .hbm, ⟨8, _⟩ => ⟨S8x1x1024, .f32⟩
  | .hbm, ⟨9, _⟩ => ⟨S16384x1024, .bf16⟩
  | .hbm, ⟨10, _⟩ => ⟨S16384x1024, .bf16⟩
  | .hbm, ⟨11, _⟩ => ⟨S128x1024x128, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S4x1024x128, .bf16⟩
  | .local _ .vmem, ⟨12, _⟩ => ⟨S4x1024x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PlainProjectionIdeal.lean ====
abbrev S16384x1024 : Shape := ⟨2, ![16384, 1024]⟩
abbrev S6x8x1x1024 : Shape := ⟨4, ![6, 8, 1, 1024]⟩
abbrev S1x1024x3072 : Shape := ⟨3, ![1, 1024, 3072]⟩
abbrev S4x4096x1024 : Shape := ⟨3, ![4, 4096, 1024]⟩
abbrev S1x4x1x1024 : Shape := ⟨4, ![1, 4, 1, 1024]⟩
abbrev S4x1x1024 : Shape := ⟨3, ![4, 1, 1024]⟩
abbrev S_ : Shape := ⟨0, ![]⟩
abbrev S1024x3072 : Shape := ⟨2, ![1024, 3072]⟩
abbrev S4x4096x3072 : Shape := ⟨3, ![4, 4096, 3072]⟩
abbrev S4x4096x16x64 : Shape := ⟨4, ![4, 4096, 16, 64]⟩
abbrev S128x128x1024 : Shape := ⟨3, ![128, 128, 1024]⟩
abbrev S128x1024x128 : Shape := ⟨3, ![128, 1024, 128]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S6x8x1x1024, .f32⟩
  | .hbm, ⟨2, _⟩ => ⟨S1x1024x3072, .f32⟩
  | .hbm, ⟨3, _⟩ => ⟨S4x4096x1024, .f32⟩
  | .hbm, ⟨4, _⟩ => ⟨S1x4x1x1024, .f32⟩
  | .hbm, ⟨5, _⟩ => ⟨S4x1x1024, .f32⟩
  | .hbm, ⟨6, _⟩ => ⟨S1x4x1x1024, .f32⟩
  | .hbm, ⟨7, _⟩ => ⟨S4x1x1024, .f32⟩
  | .hbm, ⟨8, _⟩ => ⟨S1x4x1x1024, .f32⟩
  | .hbm, ⟨9, _⟩ => ⟨S4x1x1024, .f32⟩
  | .hbm, ⟨10, _⟩ => ⟨S1x4x1x1024, .f32⟩
  | .hbm, ⟨11, _⟩ => ⟨S4x1x1024, .f32⟩
  | .hbm, ⟨12, _⟩ => ⟨S1x4x1x1024, .f32⟩
  | .hbm, ⟨13, _⟩ => ⟨S4x1x1024, .f32⟩
  | .hbm, ⟨14, _⟩ => ⟨S1x4x1x1024, .f32⟩
  | .hbm, ⟨15, _⟩ => ⟨S4x1x1024, .f32⟩
  | .hbm, ⟨16, _⟩ => ⟨S_, .f32⟩
  | .hbm, ⟨17, _⟩ => ⟨S4x1x1024, .f32⟩
  | .hbm, ⟨18, _⟩ => ⟨S4x1x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S1024x3072, .f32⟩
  | .hbm, ⟨24, _⟩ => ⟨S4x4096x3072, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x16x64, .f32⟩
  | .hbm, ⟨29, _⟩ => ⟨S4x4096x16x64, .f32⟩
  | .hbm, ⟨30, _⟩ => ⟨S4x4096x16x64, .f32⟩
  | .hbm, ⟨31, _⟩ => ⟨S_, .f32⟩
  | .hbm, ⟨32, _⟩ => ⟨S4x4096x16x64, .f32⟩
  | .hbm, ⟨33, _⟩ => ⟨S4x4096x16x64, .f32⟩
  | .hbm, ⟨34, _⟩ => ⟨S_, .f32⟩
  | .hbm, ⟨35, _⟩ => ⟨S4x4096x16x64, .f32⟩
  | .hbm, ⟨36, _⟩ => ⟨S4x4096x16x64, .f32⟩
  | .hbm, ⟨37, _⟩ => ⟨S128x128x1024, .f32⟩
  | .hbm, ⟨38, _⟩ => ⟨S16384x1024, .f32⟩
  | .hbm, ⟨39, _⟩ => ⟨S16384x1024, .bf16⟩
  | .hbm, ⟨40, _⟩ => ⟨S16384x1024, .f32⟩
  | .hbm, ⟨41, _⟩ => ⟨S16384x1024, .bf16⟩
  | .hbm, ⟨42, _⟩ => ⟨S128x1024x128, .f32⟩
  | .hbm, ⟨43, _⟩ => ⟨S128x1024x128, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩

abbrev nD : Nat := 1
abbrev τ : Topo := Topo.v7x

variable {F : FTy → Type} [FloatOps F]
-- ==== Rotary.lean ====
abbrev S4x4096x1024 : Shape := ⟨3, ![4, 4096, 1024]⟩
abbrev S6x8x1x1024 : Shape := ⟨4, ![6, 8, 1, 1024]⟩
abbrev S1x1024x1536 : Shape := ⟨3, ![1, 1024, 1536]⟩
abbrev S1x128 : Shape := ⟨2, ![1, 128]⟩
abbrev S16384x1024 : Shape := ⟨2, ![16384, 1024]⟩
abbrev S1024x1536 : Shape := ⟨2, ![1024, 1536]⟩
abbrev S128 : Shape := ⟨1, ![128]⟩
abbrev S1x8x1x1024 : Shape := ⟨4, ![1, 8, 1, 1024]⟩
abbrev S8x1x1024 : Shape := ⟨3, ![8, 1, 1024]⟩
abbrev S4096 : Shape := ⟨1, ![4096]⟩
abbrev S_ : Shape := ⟨0, ![]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S16384x256 : Shape := ⟨2, ![16384, 256]⟩
abbrev S256x16384 : Shape := ⟨2, ![256, 16384]⟩
abbrev S512x1024 : Shape := ⟨2, ![512, 1024]⟩
abbrev S1x1x1024 : Shape := ⟨3, ![1, 1, 1024]⟩
abbrev S512x128 : Shape := ⟨2, ![512, 128]⟩
abbrev S512x256 : Shape := ⟨2, ![512, 256]⟩
abbrev S256x512 : Shape := ⟨2, ![256, 512]⟩
abbrev S1x1024 : Shape := ⟨2, ![1, 1024]⟩
abbrev S512x1536 : Shape := ⟨2, ![512, 1536]⟩
abbrev S512 : Shape := ⟨1, ![512]⟩
abbrev S512x1 : Shape := ⟨2, ![512, 1]⟩

abbrev nBuf : Space → Nat
  | .hbm => 92
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S6x8x1x1024, .f32⟩
  | .hbm, ⟨2, _⟩ => ⟨S1x1024x1536, .f32⟩
  | .hbm, ⟨3, _⟩ => ⟨S1x128, .f32⟩
  | .hbm, ⟨4, _⟩ => ⟨S1x128, .f32⟩
  | .hbm, ⟨5, _⟩ => ⟨S16384x1024, .f32⟩
  | .hbm, ⟨6, _⟩ => ⟨S1024x1536, .f32⟩
  | .hbm, ⟨7, _⟩ => ⟨S1024x1536, .bf16⟩
  | .hbm, ⟨8, _⟩ => ⟨S128, .f32⟩
  | .hbm, ⟨9, _⟩ => ⟨S1x128, .f32⟩
  | .hbm, ⟨10, _⟩ => ⟨S128, .f32⟩
  | .hbm, ⟨11, _⟩ => ⟨S1x128, .f32⟩
  | .hbm, ⟨12, _⟩ => ⟨S1x8x1x1024, .f32⟩
  | .hbm, ⟨13, _⟩ => ⟨S8x1x1024, .f32⟩
  | .hbm, ⟨14, _⟩ => ⟨S1x8x1x1024, .f32⟩
  | .hbm, ⟨15, _⟩ => ⟨S8x1x1024, .f32⟩
  | .hbm, ⟨16, _⟩ => ⟨S4096, .i32⟩
  | .hbm, ⟨17, _⟩ => ⟨S_, .i32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S4096, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S_, .i32⟩
  | .hbm, ⟨51, _⟩ => ⟨S_, .i1⟩
  | .hbm, ⟨52, _⟩ => ⟨S4096, .i1⟩
  | .hbm, ⟨53, _⟩ => ⟨S4096, .i1⟩
  | .hbm, ⟨54, _⟩ => ⟨S4096, .i1⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S4096x1, .f32⟩
  | .hbm, ⟨68, _⟩ => ⟨S1x32, .f32⟩
  | .hbm, ⟨69, _⟩ => ⟨S4096x32, .f32⟩
  | .hbm, ⟨70, _⟩ => ⟨S4096x32, .f32⟩
  | .hbm, ⟨71, _⟩ => ⟨S4096x32, .f32⟩
  | .hbm, ⟨72, _⟩ => ⟨S4096x1, .f32⟩
  | .hbm, ⟨73, _⟩ => ⟨S1x32, .f32⟩
  | .hbm, ⟨74, _⟩ => ⟨S4096x32, .f32⟩
  | .hbm, ⟨75, _⟩ => ⟨S4096x32, .f32⟩
  | .hbm, ⟨76, _⟩ => ⟨S4096x32, .f32⟩
  | .hbm, ⟨77, _⟩ => ⟨S4096x32, .f32⟩
  | .hbm, ⟨78, _⟩ => ⟨S4096x32, .f32⟩
  | .hbm, ⟨79, _⟩ => ⟨S4096x32, .f32⟩
  | .hbm, ⟨80, _⟩ => ⟨S4096x32, .f32⟩
  | .hbm, ⟨81, _⟩ => ⟨S4096x128, .f32⟩
  | .hbm, ⟨82, _⟩ => ⟨S4096x32, .f32⟩
  | .hbm, ⟨83, _⟩ => ⟨S4096x32, .f32⟩
  | .hbm, ⟨84, _⟩ => ⟨S4096x32, .f32⟩
  | .hbm, ⟨85, _⟩ => ⟨S4096x32, .f32⟩
  | .hbm, ⟨86, _⟩ => ⟨S4096x32, .f32⟩
  | .hbm, ⟨87, _⟩ => ⟨S4096x32, .f32⟩
  | .hbm, ⟨88, _⟩ => ⟨S4096x128, .f32⟩
  | .hbm, ⟨89, _⟩ => ⟨S16384x1024, .bf16⟩
  | .hbm, ⟨90, _⟩ => ⟨S16384x256, .bf16⟩
  | .hbm, ⟨91, _⟩ => ⟨S256x16384, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1536, .bf16⟩
  | .local _ .vmem, ⟨7, _⟩ => ⟨S1x128, .f32⟩
  | .local _ .vmem, ⟨8, _⟩ => ⟨S1x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x1024, .bf16⟩
  | .local _ .vmem, ⟨14, _⟩ => ⟨S512x1024, .bf16⟩
  | .local _ .vmem, ⟨15, _⟩ => ⟨S512x256, .bf16⟩
  | .local _ .vmem, ⟨16, _⟩ => ⟨S512x256, .bf16⟩
  | .local _ .vmem, ⟨17, _⟩ => ⟨S256x512, .bf16⟩
  | .local _ .vmem, ⟨18, _⟩ => ⟨S256x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v12 : Ref sig .tc := ⟨.hbm, 34, rfl⟩
abbrev main_v13 : Ref sig .tc := ⟨.hbm, 35, rfl⟩
abbrev main_c_0 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_cst : Ref sig .tc := ⟨.hbm, 61, rfl⟩
abbrev main_v18 : Ref sig .tc := ⟨.hbm, 62, rfl⟩
abbrev main_v19 : Ref sig .tc := ⟨.hbm, 63, rfl⟩
abbrev main_cst_1 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44_0 : Ref sig .tc := ⟨.hbm, 89, rfl⟩
abbrev main_v44_1 : Ref sig .tc := ⟨.hbm, 90, rfl⟩
abbrev main_v44_2 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PlainRotaryIdeal.lean ====
abbrev S4x4096x1024 : Shape := ⟨3, ![4, 4096, 1024]⟩
abbrev S6x8x1x1024 : Shape := ⟨4, ![6, 8, 1, 1024]⟩
abbrev S1x1024x1536 : Shape := ⟨3, ![1, 1024, 1536]⟩
abbrev S1x128 : Shape := ⟨2, ![1, 128]⟩
abbrev S1x4x1x1024 : Shape := ⟨4, ![1, 4, 1, 1024]⟩
abbrev S4x1x1024 : Shape := ⟨3, ![4, 1, 1024]⟩
abbrev S_ : Shape := ⟨0, ![]⟩
abbrev S1024x1536 : Shape := ⟨2, ![1024, 1536]⟩
abbrev S128 : Shape := ⟨1, ![128]⟩
abbrev S4x4096x1536 : Shape := ⟨3, ![4, 4096, 1536]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S4x4096x256 : Shape := ⟨3, ![4, 4096, 256]⟩
abbrev S4x4096x2x128 : Shape := ⟨4, ![4, 4096, 2, 128]⟩
abbrev S4x4096x2 : Shape := ⟨3, ![4, 4096, 2]⟩
abbrev S4x4096x2x1 : Shape := ⟨4, ![4, 4096, 2, 1]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x2x32 : Shape := ⟨3, ![4096, 2, 32]⟩
abbrev S4x4096x8x2x2x32 : Shape := ⟨6, ![4, 4096, 8, 2, 2, 32]⟩
abbrev S4x4096x8x2x1x32 : Shape := ⟨6, ![4, 4096, 8, 2, 1, 32]⟩
abbrev S4x4096x8x2x32 : Shape := ⟨5, ![4, 4096, 8, 2, 32]⟩
abbrev S1x4096x1x2x32 : Shape := ⟨5, ![1, 4096, 1, 2, 32]⟩
abbrev S4x4096x2x2x2x32 : Shape := ⟨6, ![4, 4096, 2, 2, 2, 32]⟩
abbrev S4x4096x2x2x1x32 : Shape := ⟨6, ![4, 4096, 2, 2, 1, 32]⟩
abbrev S4x4096x2x2x32 : Shape := ⟨5, ![4, 4096, 2, 2, 32]⟩
abbrev S16384x1024 : Shape := ⟨2, ![16384, 1024]⟩
abbrev S16384x256 : Shape := ⟨2, ![16384, 256]⟩
abbrev S256x16384 : Shape := ⟨2, ![256, 16384]⟩

abbrev nBuf : Space → Nat
  | .hbm => 184
  | .vmem => 0
  | .smem => 0
  | _ => 0

abbrev hbmTy0_0 (i : Nat) : BufTy := match i % 128 with
  | 0 => ⟨S4x4096x1024, .f32⟩
  | 1 => ⟨S6x8x1x1024, .f32⟩
  | 2 => ⟨S1x1024x1536, .f32⟩
  | 3 => ⟨S1x128, .f32⟩
  | 4 => ⟨S1x128, .f32⟩
  | 5 => ⟨S1x4x1x1024, .f32⟩
  | 6 => ⟨S4x1x1024, .f32⟩
  | 7 => ⟨S1x4x1x1024, .f32⟩
  | 8 => ⟨S4x1x1024, .f32⟩
  | 9 => ⟨S1x4x1x1024, .f32⟩
  | 10 => ⟨S4x1x1024, .f32⟩
  | 11 => ⟨S1x4x1x1024, .f32⟩
  | 12 => ⟨S4x1x1024, .f32⟩
  | 13 => ⟨S1x4x1x1024, .f32⟩
  | 14 => ⟨S4x1x1024, .f32⟩
  | 15 => ⟨S1x4x1x1024, .f32⟩
  | 16 => ⟨S4x1x1024, .f32⟩
  | 17 => ⟨S_, .f32⟩
  | 18 => ⟨S4x1x1024, .f32⟩
  | 19 => ⟨S4x1x1024, .f32⟩
  | 20 => ⟨S4x4096x1024, .f32⟩
  | 21 => ⟨S4x4096x1024, .f32⟩
  | 22 => ⟨S4x4096x1024, .f32⟩
  | 23 => ⟨S4x4096x1024, .f32⟩
  | 24 => ⟨S1024x1536, .f32⟩
  | 25 => ⟨S128, .f32⟩
  | 26 => ⟨S128, .f32⟩
  | 27 => ⟨S4x4096x1536, .f32⟩
  | 28 => ⟨S4x4096x1024, .f32⟩
  | 29 => ⟨S4x4096x8x128, .f32⟩
  | 30 => ⟨S4x4096x8x128, .f32⟩
  | 31 => ⟨S_, .f32⟩
  | 32 => ⟨S4x4096x8, .f32⟩
  | 33 => ⟨S4x4096x8x1, .f32⟩
  | 34 => ⟨S_, .f32⟩
  | 35 => ⟨S4x4096x8x1, .f32⟩
  | 36 => ⟨S4x4096x8x1, .f32⟩
  | 37 => ⟨S_, .f32⟩
  | 38 => ⟨S4x4096x8x1, .f32⟩
  | 39 => ⟨S4x4096x8x1, .f32⟩
  | 40 => ⟨S4x4096x8x1, .f32⟩
  | 41 => ⟨S4x4096x8x128, .f32⟩
  | 42 => ⟨S4x4096x8x128, .f32⟩
  | 43 => ⟨S1x1x1x128, .f32⟩
  | 44 => ⟨S4x4096x8x128, .f32⟩
  | 45 => ⟨S4x4096x8x128, .f32⟩
  | 46 => ⟨S4x4096x256, .f32⟩
  | 47 => ⟨S4x4096x2x128, .f32⟩
  | 48 => ⟨S4x4096x2x128, .f32⟩
  | 49 => ⟨S_, .f32⟩
  | 50 => ⟨S4x4096x2, .f32⟩
  | 51 => ⟨S4x4096x2x1, .f32⟩
  | 52 => ⟨S_, .f32⟩
  | 53 => ⟨S4x4096x2x1, .f32⟩
  | 54 => ⟨S4x4096x2x1, .f32⟩
  | 55 => ⟨S_, .f32⟩
  | 56 => ⟨S4x4096x2x1, .f32⟩
  | 57 => ⟨S4x4096x2x1, .f32⟩
  | 58 => ⟨S4x4096x2x1, .f32⟩
  | 59 => ⟨S4x4096x2x128, .f32⟩
  | 60 => ⟨S4x4096x2x128, .f32⟩
  | 61 => ⟨S1x1x1x128, .f32⟩
  | 62 => ⟨S4x4096x2x128, .f32⟩
  | 63 => ⟨S4x4096x2x128, .f32⟩
  | 64 => ⟨S4x4096x256, .f32⟩
  | 65 => ⟨S4x4096x2x128, .f32⟩
  | 66 => ⟨S4096, .i32⟩
  | 67 => ⟨S_, .i32⟩
  | 68 => ⟨S_, .i32⟩
  | 69 => ⟨S4096, .i32⟩
  | 70 => ⟨S4096, .i32⟩
  | 71 => ⟨S4096, .i32⟩
  | 72 => ⟨S_, .i32⟩
  | 73 => ⟨S4096, .i32⟩
  | 74 => ⟨S4096, .i1⟩
  | 75 => ⟨S4096, .i32⟩
  | 76 => ⟨S4096, .i32⟩
  | 77 => ⟨S_, .i32⟩
  | 78 => ⟨S4096, .i32⟩
  | 79 => ⟨S4096, .i1⟩
  | 80 => ⟨S4096, .i1⟩
  | 81 => ⟨S_, .i32⟩
  | 82 => ⟨S4096, .i32⟩
  | 83 => ⟨S4096, .i32⟩
  | 84 => ⟨S4096, .i32⟩
  | 85 => ⟨S4096, .f32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S4096, .i32⟩
  | 93 => ⟨S4096, .i32⟩
  | 94 => ⟨S_, .i32⟩
  | 95 => ⟨S4096, .i32⟩
  | 96 => ⟨S4096, .i1⟩
  | 97 => ⟨S_, .i32⟩
  | 98 => ⟨S4096, .i32⟩
  | 99 => ⟨S4096, .i1⟩
  | 100 => ⟨S_, .i32⟩
  | 101 => ⟨S_, .i1⟩
  | 102 => ⟨S4096, .i1⟩
  | 103 => ⟨S4096, .i1⟩
  | 104 => ⟨S4096, .i1⟩
  | 105 => ⟨S4096, .i32⟩
  | 106 => ⟨S4096, .i32⟩
  | 107 => ⟨S4096, .i32⟩
  | 108 => ⟨S4096, .f32⟩
  | 109 => ⟨S32, .f32⟩
  | 110 => ⟨S32, .f32⟩
  | 111 => ⟨S_, .f32⟩
  | 112 => ⟨S32, .f32⟩
  | 113 => ⟨S32, .f32⟩
  | 114 => ⟨S_, .f32⟩
  | 115 => ⟨S32, .f32⟩
  | 116 => ⟨S32, .f32⟩
  | 117 => ⟨S4096x1, .f32⟩
  | 118 => ⟨S1x32, .f32⟩
  | 119 => ⟨S4096x32, .f32⟩
  | 120 => ⟨S4096x32, .f32⟩
  | 121 => ⟨S4096x32, .f32⟩
  | 122 => ⟨S4096x1, .f32⟩
  | 123 => ⟨S1x32, .f32⟩
  | 124 => ⟨S4096x32, .f32⟩
  | 125 => ⟨S4096x32, .f32⟩
  | 126 => ⟨S4096x32, .f32⟩
  | 127 => ⟨S4096x1x32, .f32⟩
  | _ => ⟨S4x4096x1024, .f32⟩

abbrev hbmTy0_1 (i : Nat) : BufTy := match i % 128 with
  | 0 => ⟨S4096x1x32, .f32⟩
  | 1 => ⟨S4096x2x32, .f32⟩
  | 2 => ⟨S4096x2x32, .f32⟩
  | 3 => ⟨S4096x2x32, .f32⟩
  | 4 => ⟨S4x4096x8x2x2x32, .f32⟩
  | 5 => ⟨S4x4096x8x2x1x32, .f32⟩
  | 6 => ⟨S4x4096x8x2x32, .f32⟩
  | 7 => ⟨S4x4096x8x2x1x32, .f32⟩
  | 8 => ⟨S4x4096x8x2x32, .f32⟩
  | 9 => ⟨S1x4096x1x2x32, .f32⟩
  | 10 => ⟨S1x4096x1x2x32, .f32⟩
  | 11 => ⟨S4x4096x8x2x32, .f32⟩
  | 12 => ⟨S4x4096x8x2x32, .f32⟩
  | 13 => ⟨S4x4096x8x2x32, .f32⟩
  | 14 => ⟨S4x4096x8x2x32, .f32⟩
  | 15 => ⟨S4x4096x8x2x32, .f32⟩
  | 16 => ⟨S4x4096x8x2x32, .f32⟩
  | 17 => ⟨S4x4096x8x2x32, .f32⟩
  | 18 => ⟨S4x4096x8x2x32, .f32⟩
  | 19 => ⟨S4x4096x8x2x32, .f32⟩
  | 20 => ⟨S4x4096x8x2x32, .f32⟩
  | 21 => ⟨S4x4096x8x2x1x32, .f32⟩
  | 22 => ⟨S4x4096x8x2x1x32, .f32⟩
  | 23 => ⟨S4x4096x8x2x2x32, .f32⟩
  | 24 => ⟨S4x4096x8x128, .f32⟩
  | 25 => ⟨S4x4096x2x2x2x32, .f32⟩
  | 26 => ⟨S4x4096x2x2x1x32, .f32⟩
  | 27 => ⟨S4x4096x2x2x32, .f32⟩
  | 28 => ⟨S4x4096x2x2x1x32, .f32⟩
  | 29 => ⟨S4x4096x2x2x32, .f32⟩
  | 30 => ⟨S1x4096x1x2x32, .f32⟩
  | 31 => ⟨S1x4096x1x2x32, .f32⟩
  | 32 => ⟨S4x4096x2x2x32, .f32⟩
  | 33 => ⟨S4x4096x2x2x32, .f32⟩
  | 34 => ⟨S4x4096x2x2x32, .f32⟩
  | 35 => ⟨S4x4096x2x2x32, .f32⟩
  | 36 => ⟨S4x4096x2x2x32, .f32⟩
  | 37 => ⟨S4x4096x2x2x32, .f32⟩
  | 38 => ⟨S4x4096x2x2x32, .f32⟩
  | 39 => ⟨S4x4096x2x2x32, .f32⟩
  | 40 => ⟨S4x4096x2x2x32, .f32⟩
  | 41 => ⟨S4x4096x2x2x32, .f32⟩
  | 42 => ⟨S4x4096x2x2x1x32, .f32⟩
  | 43 => ⟨S4x4096x2x2x1x32, .f32⟩
  | 44 => ⟨S4x4096x2x2x2x32, .f32⟩
  | 45 => ⟨S4x4096x2x128, .f32⟩
  | 46 => ⟨S_, .f32⟩
  | 47 => ⟨S4x4096x8x128, .f32⟩
  | 48 => ⟨S4x4096x8x128, .f32⟩
  | 49 => ⟨S16384x1024, .f32⟩
  | 50 => ⟨S16384x1024, .bf16⟩
  | 51 => ⟨S16384x256, .f32⟩
  | 52 => ⟨S16384x256, .bf16⟩
  | 53 => ⟨S16384x256, .f32⟩
  | 54 => ⟨S256x16384, .f32⟩
  | 55 => ⟨S256x16384, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_c : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_v6 : Ref sig .tc := ⟨.hbm, 74, rfl⟩
abbrev main_call0_v7 : Ref sig .tc := ⟨.hbm, 75, rfl⟩
abbrev main_call0_v8 : Ref sig .tc := ⟨.hbm, 76, rfl⟩
abbrev main_call0_c : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_call0_c_0 : Ref sig .tc := ⟨.hbm, 81, rfl⟩
abbrev main_call0_v12 : Ref sig .tc := ⟨.hbm, 82, rfl⟩
abbrev main_call0_v13 : Ref sig .tc := ⟨.hbm, 83, rfl⟩
abbrev main_v55 : Ref sig .tc := ⟨.hbm, 84, rfl⟩
abbrev main_v56 : Ref sig .tc := ⟨.hbm, 85, rfl⟩
abbrev main_c_6 : Ref sig .tc := ⟨.hbm, 86, rfl⟩
abbrev main_call1_v0 : Ref sig .tc := ⟨.hbm, 87, rfl⟩
abbrev main_call1_c : Ref sig .tc := ⟨.hbm, 88, rfl⟩
abbrev main_call1_v1 : Ref sig .tc := ⟨.hbm, 89, rfl⟩
abbrev main_call1_c_0 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_c_1 : Ref sig .tc := ⟨.hbm, 94, rfl⟩
abbrev main_call1_v5 : Ref sig .tc := ⟨.hbm, 95, rfl⟩
abbrev main_call1_v6 : Ref sig .tc := ⟨.hbm, 96, rfl⟩
abbrev main_call1_c_2 : Ref sig .tc := ⟨.hbm, 97, rfl⟩
abbrev main_call1_v7 : Ref sig .tc := ⟨.hbm, 98, rfl⟩
abbrev main_call1_v8 : Ref sig .tc := ⟨.hbm, 99, rfl⟩
abbrev main_call1_c_3 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_call1_v12 : Ref sig .tc := ⟨.hbm, 104, rfl⟩
abbrev main_call1_v13 : Ref sig .tc := ⟨.hbm, 105, rfl⟩
abbrev main_call1_v14 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_cst_7 : Ref sig .tc := ⟨.hbm, 111, rfl⟩
abbrev main_v61 : Ref sig .tc := ⟨.hbm, 112, rfl⟩
abbrev main_v62 : Ref sig .tc := ⟨.hbm, 113, rfl⟩
abbrev main_cst_8 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_cst_9 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩

abbrev nD : Nat := 1
abbrev τ : Topo := Topo.v7x

variable {F : FTy → Type} [FloatOps F]
-- ==== Output.lean ====
abbrev S16384x1024 : Shape := ⟨2, ![16384, 1024]⟩
abbrev S6x8x1x1024 : Shape := ⟨4, ![6, 8, 1, 1024]⟩
abbrev S2x1024 : Shape := ⟨2, ![2, 1024]⟩
abbrev S1x1024x1024 : Shape := ⟨3, ![1, 1024, 1024]⟩
abbrev S1024x1024 : Shape := ⟨2, ![1024, 1024]⟩
abbrev S1x8x1x1024 : Shape := ⟨4, ![1, 8, 1, 1024]⟩
abbrev S8x1x1024 : Shape := ⟨3, ![8, 1, 1024]⟩
abbrev S1x1024 : Shape := ⟨2, ![1, 1024]⟩
abbrev S1024 : Shape := ⟨1, ![1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 17
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S6x8x1x1024, .f32⟩
  | .hbm, ⟨3, _⟩ => ⟨S2x1024, .f32⟩
  | .hbm, ⟨4, _⟩ => ⟨S2x1024, .f32⟩
  | .hbm, ⟨5, _⟩ => ⟨S1x1024x1024, .f32⟩
  | .hbm, ⟨6, _⟩ => ⟨S1024x1024, .f32⟩
  | .hbm, ⟨7, _⟩ => ⟨S1024x1024, .bf16⟩
  | .hbm, ⟨8, _⟩ => ⟨S1x8x1x1024, .f32⟩
  | .hbm, ⟨9, _⟩ => ⟨S8x1x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PlainOutputIdeal.lean ====
abbrev S16384x1024 : Shape := ⟨2, ![16384, 1024]⟩
abbrev S6x8x1x1024 : Shape := ⟨4, ![6, 8, 1, 1024]⟩
abbrev S2x1024 : Shape := ⟨2, ![2, 1024]⟩
abbrev S1x1024x1024 : Shape := ⟨3, ![1, 1024, 1024]⟩
abbrev S4x4096x1024 : Shape := ⟨3, ![4, 4096, 1024]⟩
abbrev S1x4x1x1024 : Shape := ⟨4, ![1, 4, 1, 1024]⟩
abbrev S4x1x1024 : Shape := ⟨3, ![4, 1, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S6x8x1x1024, .f32⟩
  | .hbm, ⟨3, _⟩ => ⟨S2x1024, .f32⟩
  | .hbm, ⟨4, _⟩ => ⟨S2x1024, .f32⟩
  | .hbm, ⟨5, _⟩ => ⟨S1x1024x1024, .f32⟩
  | .hbm, ⟨6, _⟩ => ⟨S4x4096x1024, .f32⟩
  | .hbm, ⟨7, _⟩ => ⟨S1x4x1x1024, .f32⟩
  | .hbm, ⟨8, _⟩ => ⟨S4x1x1024, .f32⟩
  | .hbm, ⟨9, _⟩ => ⟨S1x4x1x1024, .f32⟩
  | .hbm, ⟨10, _⟩ => ⟨S4x1x1024, .f32⟩
  | .hbm, ⟨11, _⟩ => ⟨S1x4x1x1024, .f32⟩
  | .hbm, ⟨12, _⟩ => ⟨S4x1x1024, .f32⟩
  | .hbm, ⟨13, _⟩ => ⟨S1x4x1x1024, .f32⟩
  | .hbm, ⟨14, _⟩ => ⟨S4x1x1024, .f32⟩
  | .hbm, ⟨15, _⟩ => ⟨S1x4x1x1024, .f32⟩
  | .hbm, ⟨16, _⟩ => ⟨S4x1x1024, .f32⟩
  | .hbm, ⟨17, _⟩ => ⟨S1x4x1x1024, .f32⟩
  | .hbm, ⟨18, _⟩ => ⟨S4x1x1024, .f32⟩
  | .hbm, ⟨19, _⟩ => ⟨S16384x1024, .f32⟩
  | .hbm, ⟨20, _⟩ => ⟨S4x4096x1024, .f32⟩
  | .hbm, ⟨21, _⟩ => ⟨S1024x1024, .f32⟩
  | .hbm, ⟨22, _⟩ => ⟨S4x4096x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S_, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S4x4096x1024, .f32⟩
  | .hbm, ⟨49, _⟩ => ⟨S4x4096x1024, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x4096x1, .f32⟩
  | .hbm, ⟨54, _⟩ => ⟨S4x4096x1024, .f32⟩
  | .hbm, ⟨55, _⟩ => ⟨S4x4096x1024, .f32⟩
  | .hbm, ⟨56, _⟩ => ⟨S1x1x1024, .f32⟩
  | .hbm, ⟨57, _⟩ => ⟨S4x4096x1024, .f32⟩
  | .hbm, ⟨58, _⟩ => ⟨S4x4096x1024, .f32⟩
  | .hbm, ⟨59, _⟩ => ⟨S1x1x1024, .f32⟩
  | .hbm, ⟨60, _⟩ => ⟨S4x4096x1024, .f32⟩
  | .hbm, ⟨61, _⟩ => ⟨S4x4096x1024, .f32⟩
  | .hbm, ⟨62, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩

abbrev nD : Nat := 1
abbrev τ : Topo := Topo.v7x

variable {F : FTy → Type} [FloatOps F]
-- ==== ContextOutput.lean ====
abbrev S8192x1024 : Shape := ⟨2, ![8192, 1024]⟩
abbrev S6x8x1x1024 : Shape := ⟨4, ![6, 8, 1, 1024]⟩
abbrev S2x1024 : Shape := ⟨2, ![2, 1024]⟩
abbrev S1x1024x1024 : Shape := ⟨3, ![1, 1024, 1024]⟩
abbrev S1024x1024 : Shape := ⟨2, ![1024, 1024]⟩
abbrev S1x8x1x1024 : Shape := ⟨4, ![1, 8, 1, 1024]⟩
abbrev S8x1x1024 : Shape := ⟨3, ![8, 1, 1024]⟩
abbrev S1x1024 : Shape := ⟨2, ![1, 1024]⟩
abbrev S1024 : Shape := ⟨1, ![1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 17
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S6x8x1x1024, .f32⟩
  | .hbm, ⟨3, _⟩ => ⟨S2x1024, .f32⟩
  | .hbm, ⟨4, _⟩ => ⟨S2x1024, .f32⟩
  | .hbm, ⟨5, _⟩ => ⟨S1x1024x1024, .f32⟩
  | .hbm, ⟨6, _⟩ => ⟨S1024x1024, .f32⟩
  | .hbm, ⟨7, _⟩ => ⟨S1024x1024, .bf16⟩
  | .hbm, ⟨8, _⟩ => ⟨S1x8x1x1024, .f32⟩
  | .hbm, ⟨9, _⟩ => ⟨S8x1x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PlainContextOutputIdeal.lean ====
abbrev S8192x1024 : Shape := ⟨2, ![8192, 1024]⟩
abbrev S6x8x1x1024 : Shape := ⟨4, ![6, 8, 1, 1024]⟩
abbrev S2x1024 : Shape := ⟨2, ![2, 1024]⟩
abbrev S1x1024x1024 : Shape := ⟨3, ![1, 1024, 1024]⟩
abbrev S32x256x1024 : Shape := ⟨3, ![32, 256, 1024]⟩
abbrev S1x1x1x1024 : Shape := ⟨4, ![1, 1, 1, 1024]⟩
abbrev S1x1x1024 : Shape := ⟨3, ![1, 1, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S6x8x1x1024, .f32⟩
  | .hbm, ⟨3, _⟩ => ⟨S2x1024, .f32⟩
  | .hbm, ⟨4, _⟩ => ⟨S2x1024, .f32⟩
  | .hbm, ⟨5, _⟩ => ⟨S1x1024x1024, .f32⟩
  | .hbm, ⟨6, _⟩ => ⟨S32x256x1024, .f32⟩
  | .hbm, ⟨7, _⟩ => ⟨S1x1x1x1024, .f32⟩
  | .hbm, ⟨8, _⟩ => ⟨S1x1x1024, .f32⟩
  | .hbm, ⟨9, _⟩ => ⟨S1x1x1x1024, .f32⟩
  | .hbm, ⟨10, _⟩ => ⟨S1x1x1024, .f32⟩
  | .hbm, ⟨11, _⟩ => ⟨S1x1x1x1024, .f32⟩
  | .hbm, ⟨12, _⟩ => ⟨S1x1x1024, .f32⟩
  | .hbm, ⟨13, _⟩ => ⟨S1x1x1x1024, .f32⟩
  | .hbm, ⟨14, _⟩ => ⟨S1x1x1024, .f32⟩
  | .hbm, ⟨15, _⟩ => ⟨S1x1x1x1024, .f32⟩
  | .hbm, ⟨16, _⟩ => ⟨S1x1x1024, .f32⟩
  | .hbm, ⟨17, _⟩ => ⟨S1x1x1x1024, .f32⟩
  | .hbm, ⟨18, _⟩ => ⟨S1x1x1024, .f32⟩
  | .hbm, ⟨19, _⟩ => ⟨S8192x1024, .f32⟩
  | .hbm, ⟨20, _⟩ => ⟨S32x256x1024, .f32⟩
  | .hbm, ⟨21, _⟩ => ⟨S1024x1024, .f32⟩
  | .hbm, ⟨22, _⟩ => ⟨S32x256x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S_, .f32⟩
  | .hbm, ⟨28, _⟩ => ⟨S32x256x1024, .f32⟩
  | .hbm, ⟨29, _⟩ => ⟨S32x256x1024, .f32⟩
  | .hbm, ⟨30, _⟩ => ⟨S32x256x1024, .f32⟩
  | .hbm, ⟨31, _⟩ => ⟨S32x256x1024, .f32⟩
  | .hbm, ⟨32, _⟩ => ⟨S32x256x1024, .f32⟩
  | .hbm, ⟨33, _⟩ => ⟨S_, .f32⟩
  | .hbm, ⟨34, _⟩ => ⟨S32x256, .f32⟩
  | .hbm, ⟨35, _⟩ => ⟨S32x256x1, .f32⟩
  | .hbm, ⟨36, _⟩ => ⟨S_, .f32⟩
  | .hbm, ⟨37, _⟩ => ⟨S32x256x1, .f32⟩
  | .hbm, ⟨38, _⟩ => ⟨S32x256x1, .f32⟩
  | .hbm, ⟨39, _⟩ => ⟨S32x256x1024, .f32⟩
  | .hbm, ⟨40, _⟩ => ⟨S32x256x1024, .f32⟩
  | .hbm, ⟨41, _⟩ => ⟨S32x256x1024, .f32⟩
  | .hbm, ⟨42, _⟩ => ⟨S_, .f32⟩
  | .hbm, ⟨43, _⟩ => ⟨S32x256, .f32⟩
  | .hbm, ⟨44, _⟩ => ⟨S32x256x1, .f32⟩
  | .hbm, ⟨45, _⟩ => ⟨S_, .f32⟩
  | .hbm, ⟨46, _⟩ => ⟨S32x256x1, .f32⟩
  | .hbm, ⟨47, _⟩ => ⟨S32x256x1, .f32⟩
  | .hbm, ⟨48, _⟩ => ⟨S32x256x1024, .f32⟩
  | .hbm, ⟨49, _⟩ => ⟨S32x256x1024, .f32⟩
  | .hbm, ⟨50, _⟩ => ⟨S_, .f32⟩
  | .hbm, ⟨51, _⟩ => ⟨S32x256x1, .f32⟩
  | .hbm, ⟨52, _⟩ => ⟨S32x256x1, .f32⟩
  | .hbm, ⟨53, _⟩ => ⟨S32x256x1, .f32⟩
  | .hbm, ⟨54, _⟩ => ⟨S32x256x1024, .f32⟩
  | .hbm, ⟨55, _⟩ => ⟨S32x256x1024, .f32⟩
  | .hbm, ⟨56, _⟩ => ⟨S1x1x1024, .f32⟩
  | .hbm, ⟨57, _⟩ => ⟨S32x256x1024, .f32⟩
  | .hbm, ⟨58, _⟩ => ⟨S32x256x1024, .f32⟩
  | .hbm, ⟨59, _⟩ => ⟨S1x1x1024, .f32⟩
  | .hbm, ⟨60, _⟩ => ⟨S32x256x1024, .f32⟩
  | .hbm, ⟨61, _⟩ => ⟨S32x256x1024, .f32⟩
  | .hbm, ⟨62, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩

abbrev nD : Nat := 1
abbrev τ : Topo := Topo.v7x

variable {F : FTy → Type} [FloatOps F]
-- ==== Proof.Softmax.lean ====
/-
  The mathematics of one row of grouped-query attention over two runs of keys, on the extended reals.

  The kernel takes the scores of `a` keys and of `b` more keys apart, in base two (its queries carry the factor `1 / log 2`),
  subtracts the larger of the two maxima, sums the weighted values and the weights of both runs, and multiplies by the
  reciprocal of the sum of the weights (`twoRuns`). The plain definition is one softmax over all `a + b` keys (`plainRow`).
  Both are the same as soon as every score is a real number; the values may be infinite.
-/
module

public import Idealize.ShloMosaic.PureOps.Ideal
public import Idealize.ShloMosaic.PureOps.Ideal.Laws

@[expose] public section

noncomputable section

open Idealize.ShloMosaic

namespace Cert.Softmax

/-- The kernel's row: scores `s₁`, `s₂` in base two, values `v₁`, `v₂`. -/
def twoRuns {a b : ℕ} (s₁ : Fin a → EReal) (s₂ : Fin b → EReal) (v₁ : Fin a → EReal) (v₂ : Fin b → EReal) : EReal :=
  (∑ t, v₁ t * Ideal.exp2 (s₁ t - max (Finset.univ.fold max ⊥ s₁) (Finset.univ.fold max ⊥ s₂))
      + ∑ t, v₂ t * Ideal.exp2 (s₂ t - max (Finset.univ.fold max ⊥ s₁) (Finset.univ.fold max ⊥ s₂)))
    * Ideal.div 1 (∑ t, Ideal.exp2 (s₁ t - max (Finset.univ.fold max ⊥ s₁) (Finset.univ.fold max ⊥ s₂))
      + ∑ t, Ideal.exp2 (s₂ t - max (Finset.univ.fold max ⊥ s₁) (Finset.univ.fold max ⊥ s₂)))

/-- The plain row: the softmax of the scores `s`, and the sum of the values `v` it weights. -/
def plainRow {n : ℕ} (s v : Fin n → EReal) : EReal :=
  ∑ t, v t * Ideal.div (Ideal.exp (s t - Finset.univ.fold max ⊥ s))
    (∑ u, Ideal.exp (s u - Finset.univ.fold max ⊥ s))

/-- A fold of maxima from the least element is the value at a point where the largest is taken. -/
theorem fold_max_eq {ι : Type} [Fintype ι] (f : ι → EReal) (i : ι) (h : ∀ j, f j ≤ f i) : Finset.univ.fold max ⊥ f = f i := by
  apply le_antisymm
  · rw [Finset.fold_max_le]; exact ⟨bot_le, fun j _ => h j⟩
  · rw [Finset.le_fold_max]; exact Or.inr ⟨i, Finset.mem_univ i, le_rfl⟩

/-- A fold of maxima from the least element is at most a bound of all the values. -/
theorem fold_max_le {ι : Type} [Fintype ι] (f : ι → EReal) (x : EReal) (h : ∀ j, f j ≤ x) : Finset.univ.fold max ⊥ f ≤ x := by
  rw [Finset.fold_max_le]; exact ⟨bot_le, fun j _ => h j⟩

/-- Each value is at most the fold of maxima. -/
theorem le_fold_max {ι : Type} [Fintype ι] (f : ι → EReal) (i : ι) : f i ≤ Finset.univ.fold max ⊥ f := by
  rw [Finset.le_fold_max]; exact Or.inr ⟨i, Finset.mem_univ i, le_rfl⟩

/-- A sum of extended reals times a real that is not negative. -/
theorem sum_mul_coe {ι : Type} (s : Finset ι) (f : ι → EReal) (x : ℝ) (hx : 0 ≤ x) :
    (∑ i ∈ s, f i) * (x : EReal) = ∑ i ∈ s, f i * (x : EReal) := by
  classical
  induction s using Finset.induction_on with
  | empty => simp
  | insert i s hi ih =>
    rw [Finset.sum_insert hi, Finset.sum_insert hi, EReal.right_distrib_of_nonneg_of_ne_top (by exact_mod_cast hx) (EReal.coe_ne_top x), ih]

/-- The real sum, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A power of two with the exponent divided by `log 2` is a power of `e`. -/
theorem exp2_scaled (x y : ℝ) :
    Ideal.exp2 (((x * (1 / Real.log 2) : ℝ) : EReal) - ((y * (1 / Real.log 2) : ℝ) : EReal)) = ((Real.exp (x - y) : ℝ) : EReal) := by
  rw [← EReal.coe_sub, Ideal.exp2_coe]
  congr 1
  show (2 : ℝ) ^ (x * (1 / Real.log 2) - y * (1 / Real.log 2)) = _
  have h2 : Real.log 2 ≠ 0 := (Real.log_pos (by norm_num)).ne'
  rw [Real.rpow_def_of_pos (by norm_num)]
  congr 1
  field_simp

/-- The kernel's row is the plain row, where every score is real and the kernel's scores are the plain ones over `log 2`. -/
theorem twoRuns_eq {a b : ℕ} (h : 0 < a + b) (s : Fin (a + b) → ℝ) (v : Fin (a + b) → EReal) :
    twoRuns (fun t : Fin a => ((s (Fin.castAdd b t) * (1 / Real.log 2) : ℝ) : EReal))
        (fun t : Fin b => ((s (Fin.natAdd a t) * (1 / Real.log 2) : ℝ) : EReal))
        (fun t => v (Fin.castAdd b t)) (fun t => v (Fin.natAdd a t))
      = plainRow (fun t => (s t : EReal)) v := by
  haveI : Nonempty (Fin (a + b)) := ⟨⟨0, h⟩⟩
  obtain ⟨i, hi⟩ := Finite.exists_max s
  have hlog : 0 ≤ 1 / Real.log 2 := by have := Real.log_pos (x := 2) (by norm_num); positivity
  have hM : Finset.univ.fold max ⊥ (fun t => (s t : EReal)) = (s i : EReal) :=
    fold_max_eq _ i fun j => EReal.coe_le_coe_iff.2 (hi j)
  have hle : ∀ j, ((s j * (1 / Real.log 2) : ℝ) : EReal) ≤ ((s i * (1 / Real.log 2) : ℝ) : EReal) := fun j =>
    EReal.coe_le_coe_iff.2 (mul_le_mul_of_nonneg_right (hi j) hlog)
  have hM' : max (Finset.univ.fold max ⊥ fun t : Fin a => ((s (Fin.castAdd b t) * (1 / Real.log 2) : ℝ) : EReal))
      (Finset.univ.fold max ⊥ fun t : Fin b => ((s (Fin.natAdd a t) * (1 / Real.log 2) : ℝ) : EReal))
      = ((s i * (1 / Real.log 2) : ℝ) : EReal) := by
    apply le_antisymm
    · exact max_le (fold_max_le _ _ fun j => hle _) (fold_max_le _ _ fun j => hle _)
    · revert hle hM hi
      refine Fin.addCases (fun j => ?_) (fun j => ?_) i
      · intro _ _ _
        exact le_trans (le_fold_max (fun t : Fin a => ((s (Fin.castAdd b t) * (1 / Real.log 2) : ℝ) : EReal)) j) (le_max_left _ _)
      · intro _ _ _
        exact le_trans (le_fold_max (fun t : Fin b => ((s (Fin.natAdd a t) * (1 / Real.log 2) : ℝ) : EReal)) j) (le_max_right _ _)
  unfold twoRuns plainRow
  rw [hM', hM]
  simp only [exp2_scaled]
  have hexp : ∀ t, Ideal.exp ((s t : EReal) - (s i : EReal)) = ((Real.exp (s t - s i) : ℝ) : EReal) := fun t => by
    rw [← EReal.coe_sub, Ideal.exp_coe]
  simp only [hexp]
  have hD : (∑ t : Fin a, ((Real.exp (s (Fin.castAdd b t) - s i) : ℝ) : EReal)) + ∑ t : Fin b, ((Real.exp (s (Fin.natAdd a t) - s i) : ℝ) : EReal)
      = ((∑ t, Real.exp (s t - s i) : ℝ) : EReal) := by
    rw [coe_sum, Fin.sum_univ_add]
  have hpos : 0 < ∑ t, Real.exp (s t - s i) := Finset.sum_pos (fun t _ => Real.exp_pos _) Finset.univ_nonempty
  have hN : (∑ t : Fin a, v (Fin.castAdd b t) * ((Real.exp (s (Fin.castAdd b t) - s i) : ℝ) : EReal))
      + ∑ t : Fin b, v (Fin.natAdd a t) * ((Real.exp (s (Fin.natAdd a t) - s i) : ℝ) : EReal)
      = ∑ t, v t * ((Real.exp (s t - s i) : ℝ) : EReal) := by
    rw [Fin.sum_univ_add]
  rw [hD, hN, ← coe_sum, Ideal.div_coe hpos.ne', one_mul, sum_mul_coe _ _ _ (by positivity)]
  refine Finset.sum_congr rfl fun t _ => ?_
  rw [Ideal.div_coe hpos.ne', mul_assoc]

end Cert.Softmax

end
-- ==== Proof.AttnBody.lean ====
/-
  One grid point of the attention kernel, read at an index: each of its four units takes two heads' queries at once
  (512 rows of each), the scores against the point's own keys and against the cached keys, and one product of the values,
  with rows of ones below them, with the weights. The rows of ones give the sum of the weights.
-/
module

public import proofs.«01_k».proof.Proof.Softmax
public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Attn

open Cert.KernelIdeal Cert.KernelIdeal.Gen Cert.Softmax

/-- The word of minus infinity denotes the least extended real. -/
theorem ofBits_negInf : Ideal.ofBits .f32 0xFF800000#32 = ⊥ := by
  simp [Ideal.ofBits, Ideal.ieee]

/-- The word of plus infinity denotes the greatest extended real. -/
theorem ofBits_posInf : Ideal.ofBits .f32 0x7F800000#32 = ⊤ := by
  simp [Ideal.ofBits, Ideal.ieee]

/-- The larger of the two runs' maxima, for each query. -/
def peak (s₁ : FVec Ideal S4096x1024 .f32) (s₂ : FVec Ideal S256x1024 .f32) : FVec Ideal S1x1024 .f32 :=
  maximumf (shapeCast S1x1024 (multiReduction .maximumf [0] S1024 s₁ 0xFF800000#32 reduces_S4096x1024_S1024 (.inl rfl) rfl) shapeCasts_S1024_S1x1024)
    (shapeCast S1x1024 (multiReduction .maximumf [0] S1024 s₂ 0xFF800000#32 reduces_S256x1024_S1024 (.inl rfl) rfl) shapeCasts_S1024_S1x1024)

/-- The weights of the point's own keys, and of the cached keys. -/
def weights (s : FVec Ideal S4096x1024 .f32) (m : FVec Ideal S1x1024 .f32) : FVec Ideal S4096x1024 .bf16 :=
  truncf .bf16 (exp2 (subf s (broadcastTo S4096x1024 m broadcasts_S1x1024_S4096x1024))) bitsLt_bf16_f32
def weights' (s : FVec Ideal S256x1024 .f32) (m : FVec Ideal S1x1024 .f32) : FVec Ideal S256x1024 .bf16 :=
  truncf .bf16 (exp2 (subf s (broadcastTo S256x1024 m broadcasts_S1x1024_S256x1024))) bitsLt_bf16_f32

/-- The products of the values, with rows of ones below them, with the weights. -/
def weighted (v : FVec Ideal S128x4096 .bf16) (p : FVec Ideal S4096x1024 .bf16) : FVec Ideal S144x1024 .f32 :=
  matmul dot_S144x4096_S4096x1024_S144x1024_1_0_0_1_n_n none (concatenate S144x4096 0 [⟨S128x4096, v⟩, ⟨S16x4096, broadcast S16x4096 (Scalar.ofBits .bf16 0x3F80#16)⟩]
    concatenates_S128x4096_S16x4096_S144x4096_d0) p (constant S144x1024 .f32 0x00000000#32)
def weighted' (v : FVec Ideal S128x256 .bf16) (p : FVec Ideal S256x1024 .bf16) : FVec Ideal S144x1024 .f32 :=
  matmul dot_S144x256_S256x1024_S144x1024_1_0_0_1_n_n none (concatenate S144x256 0 [⟨S128x256, v⟩, ⟨S16x256, broadcast S16x256 (Scalar.ofBits .bf16 0x3F80#16)⟩]
    concatenates_S128x256_S16x256_S144x256_d0) p (constant S144x1024 .f32 0x00000000#32)

/-- The first 128 rows over row 128, transposed. -/
def normalized (x : FVec Ideal S144x1024 .f32) : FVec Ideal S1024x128 .f32 :=
  transpose S1024x128 [1, 0] (mulf (extractStridedSlice S128x1024 ![0, 0] x slices_S144x1024_o0_0_S128x1024)
    (broadcastTo S128x1024 (divf (broadcast S1x1024 (Scalar.ofBits .f32 0x3F800000#32)) (extractStridedSlice S1x1024 ![128, 0] x slices_S144x1024_o128_0_S1x1024))
      broadcasts_S1x1024_S128x1024)) transposes_S128x1024_p1_0_S1024x128

/-- One unit: scores and values to the attention of 1024 queries. -/
def unit (s₁ : FVec Ideal S4096x1024 .f32) (s₂ : FVec Ideal S256x1024 .f32) (v₁ : FVec Ideal S128x4096 .bf16) (v₂ : FVec Ideal S128x256 .bf16) :
    FVec Ideal S1024x128 .f32 :=
  normalized (addf (weighted v₁ (weights s₁ (peak s₁ s₂))) (weighted' v₂ (weights' s₂ (peak s₁ s₂))))

theorem top_apply (s : FVec Ideal S4096x1024 .f32) (r : Fin 1024) :
    multiReduction .maximumf [0] S1024 s 0xFF800000#32 reduces_S4096x1024_S1024 (.inl rfl) rfl (ix1 r)
      = Finset.univ.fold max (Ideal.ofBits .f32 0xFF800000#32) fun t => s (ix2 t r) := by
  pointwise

theorem top'_apply (s : FVec Ideal S256x1024 .f32) (r : Fin 1024) :
    multiReduction .maximumf [0] S1024 s 0xFF800000#32 reduces_S256x1024_S1024 (.inl rfl) rfl (ix1 r)
      = Finset.univ.fold max (Ideal.ofBits .f32 0xFF800000#32) fun t => s (ix2 t r) := by
  pointwise

theorem row_apply (x : FVec Ideal S1024 .f32) (r : Fin 1024) :
    shapeCast S1x1024 x shapeCasts_S1024_S1x1024 (ix2 0 r) = x (ix1 r) := by
  pointwise

theorem peak_apply (s₁ : FVec Ideal S4096x1024 .f32) (s₂ : FVec Ideal S256x1024 .f32) (r : Fin 1024) :
    peak s₁ s₂ (ix2 0 r) = max (Finset.univ.fold max ⊥ fun t => s₁ (ix2 t r)) (Finset.univ.fold max ⊥ fun t => s₂ (ix2 t r)) := by
  unfold peak
  rw [ValueIdx.maximumf_apply, row_apply, row_apply, top_apply, top'_apply, ofBits_negInf]

theorem weights_apply (s : FVec Ideal S4096x1024 .f32) (m : FVec Ideal S1x1024 .f32) (t : Fin 4096) (r : Fin 1024) :
    weights s m (ix2 t r) = Ideal.exp2 (s (ix2 t r) - m (ix2 0 r)) := by
  unfold weights
  pointwise
  rfl

theorem weights'_apply (s : FVec Ideal S256x1024 .f32) (m : FVec Ideal S1x1024 .f32) (t : Fin 256) (r : Fin 1024) :
    weights' s m (ix2 t r) = Ideal.exp2 (s (ix2 t r) - m (ix2 0 r)) := by
  unfold weights'
  pointwise
  rfl

theorem weighted_apply (v : FVec Ideal S128x4096 .bf16) (p : FVec Ideal S4096x1024 .bf16) (d : Fin 144) (r : Fin 1024) :
    weighted v p (ix2 d r) = if h : (d : ℕ) < 128 then ∑ k : Fin 4096, v (ix2 ⟨d, h⟩ k) * p (ix2 k r) else ∑ k : Fin 4096, p (ix2 k r) := by
  unfold weighted
  pointwise
  split
  · rfl
  · exact Finset.sum_congr rfl fun k _ => one_mul _

theorem weighted'_apply (v : FVec Ideal S128x256 .bf16) (p : FVec Ideal S256x1024 .bf16) (d : Fin 144) (r : Fin 1024) :
    weighted' v p (ix2 d r) = if h : (d : ℕ) < 128 then ∑ k : Fin 256, v (ix2 ⟨d, h⟩ k) * p (ix2 k r) else ∑ k : Fin 256, p (ix2 k r) := by
  unfold weighted'
  pointwise
  split
  · rfl
  · exact Finset.sum_congr rfl fun k _ => one_mul _

theorem normalized_apply (x : FVec Ideal S144x1024 .f32) (r : Fin 1024) (d : Fin 128) :
    normalized x (ix2 r d) = x (ix2 ⟨d, by omega⟩ r) * Ideal.div 1 (x (ix2 128 r)) := by
  unfold normalized
  pointwise

theorem unit_apply (s₁ : FVec Ideal S4096x1024 .f32) (s₂ : FVec Ideal S256x1024 .f32) (v₁ : FVec Ideal S128x4096 .bf16) (v₂ : FVec Ideal S128x256 .bf16)
    (r : Fin 1024) (d : Fin 128) :
    unit s₁ s₂ v₁ v₂ (ix2 r d)
      = twoRuns (fun t => s₁ (ix2 t r)) (fun t => s₂ (ix2 t r)) (fun t => v₁ (ix2 d t)) (fun t => v₂ (ix2 d t)) := by
  unfold unit twoRuns
  have e : ¬ ((128 : Fin 144) : ℕ) < 128 := by decide
  rw [normalized_apply]
  simp only [ValueIdx.addf_apply, weighted_apply, weighted'_apply, weights_apply, weights'_apply, peak_apply, d.isLt, e, ↓reduceDIte]

/-- The scores of two heads' queries against the keys, from the two blocks of queries. -/
def scores (q₀ q₁ : Vec Ideal S512x128 .bf16) (k : Vec Ideal S4096x128 .bf16) : FVec Ideal S4096x1024 .f32 :=
  matmul dot_S4096x128_S1024x128_S4096x1024_1_1_0_0_n_n none (φ₁ := .bf16) (shapeCast S4096x128 k shapeCasts_S4096x128_S4096x128) (k0_pay2 q₀ q₁)
    (constant S4096x1024 .f32 0x00000000#32)
def scores' (q₀ q₁ : Vec Ideal S512x128 .bf16) (k : Vec Ideal S1x256x128 .bf16) : FVec Ideal S256x1024 .f32 :=
  matmul dot_S256x128_S1024x128_S256x1024_1_1_0_0_n_n none (φ₁ := .bf16) (shapeCast S256x128 k shapeCasts_S1x256x128_S256x128) (k0_pay2 q₀ q₁)
    (constant S256x1024 .f32 0x00000000#32)

theorem queries_apply (q₀ q₁ : Vec Ideal S512x128 .bf16) (r : Fin 1024) (d : Fin 128) :
    k0_pay2 q₀ q₁ (ix2 r d) = if h : (r : ℕ) < 512 then q₀ (ix2 ⟨r, h⟩ d) else q₁ (ix2 ⟨r - 512, by omega⟩ d) := by
  unfold k0_pay2
  pointwise

theorem scores_apply (q₀ q₁ : Vec Ideal S512x128 .bf16) (k : Vec Ideal S4096x128 .bf16) (t : Fin 4096) (r : Fin 1024) :
    scores q₀ q₁ k (ix2 t r) = ∑ d : Fin 128, k (ix2 t d) * k0_pay2 q₀ q₁ (ix2 r d) := by
  unfold scores
  pointwise

theorem scores'_apply (q₀ q₁ : Vec Ideal S512x128 .bf16) (k : Vec Ideal S1x256x128 .bf16) (t : Fin 256) (r : Fin 1024) :
    scores' q₀ q₁ k (ix2 t r) = ∑ d : Fin 128, k (ix3 0 t d) * k0_pay2 q₀ q₁ (ix2 r d) := by
  unfold scores'
  pointwise

/-- The values as they are loaded, at the unit's shapes. -/
def values (v : Vec Ideal S128x4096 .bf16) : FVec Ideal S128x4096 .bf16 := shapeCast S128x4096 v shapeCasts_S128x4096_S128x4096
def values' (v : Vec Ideal S1x128x256 .bf16) : FVec Ideal S128x256 .bf16 := shapeCast S128x256 v shapeCasts_S1x128x256_S128x256

theorem values_apply (v : Vec Ideal S128x4096 .bf16) (d : Fin 128) (t : Fin 4096) : values v (ix2 d t) = v (ix2 d t) := by
  unfold values
  pointwise

theorem values'_apply (v : Vec Ideal S1x128x256 .bf16) (d : Fin 128) (t : Fin 256) : values' v (ix2 d t) = v (ix3 0 d t) := by
  unfold values'
  pointwise

/-- One unit from what is loaded for it. -/
def unitOf (q₀ q₁ : Vec Ideal S512x128 .bf16) (k : Vec Ideal S4096x128 .bf16) (k' : Vec Ideal S1x256x128 .bf16)
    (v : Vec Ideal S128x4096 .bf16) (v' : Vec Ideal S1x128x256 .bf16) : FVec Ideal S1024x128 .f32 :=
  unit (scores q₀ q₁ k) (scores' q₀ q₁ k') (values v) (values' v')

/-- Its first 512 rows, and its last 512 rows, as they are stored. -/
def lower (u : FVec Ideal S1024x128 .f32) : FVec Ideal S512x128 .bf16 :=
  truncf .bf16 (extractStridedSlice S512x128 ![0, 0] u slices_S1024x128_o0_0_S512x128) bitsLt_bf16_f32
def upper (u : FVec Ideal S1024x128 .f32) : FVec Ideal S512x128 .bf16 :=
  truncf .bf16 (extractStridedSlice S512x128 ![512, 0] u slices_S1024x128_o512_0_S512x128) bitsLt_bf16_f32

theorem lower_apply (u : FVec Ideal S1024x128 .f32) (r : Fin 512) (d : Fin 128) : lower u (ix2 r d) = u (ix2 ⟨r, by omega⟩ d) := by
  unfold lower
  pointwise

theorem upper_apply (u : FVec Ideal S1024x128 .f32) (r : Fin 512) (d : Fin 128) : upper u (ix2 r d) = u (ix2 ⟨512 + r, by omega⟩ d) := by
  unfold upper
  pointwise

/-- The attention of one query row, with keys and values as they are loaded. -/
def rowOf (q : Fin 128 → EReal) (k : Vec Ideal S4096x128 .bf16) (k' : Vec Ideal S1x256x128 .bf16) (v : Vec Ideal S128x4096 .bf16)
    (v' : Vec Ideal S1x128x256 .bf16) (d : Fin 128) : EReal :=
  twoRuns (fun t => ∑ j : Fin 128, k (ix2 t j) * q j) (fun t => ∑ j : Fin 128, k' (ix3 0 t j) * q j) (fun t => v (ix2 d t)) (fun t => v' (ix3 0 d t))

theorem lower_unitOf (q₀ q₁ : Vec Ideal S512x128 .bf16) (k : Vec Ideal S4096x128 .bf16) (k' : Vec Ideal S1x256x128 .bf16)
    (v : Vec Ideal S128x4096 .bf16) (v' : Vec Ideal S1x128x256 .bf16) (r : Fin 512) (d : Fin 128) :
    lower (unitOf q₀ q₁ k k' v v') (ix2 r d) = rowOf (fun j => q₀ (ix2 r j)) k k' v v' d := by
  have e : (r : ℕ) < 512 := r.isLt
  unfold rowOf unitOf
  rw [lower_apply, unit_apply]
  simp only [scores_apply, scores'_apply, values_apply, values'_apply, queries_apply, e, ↓reduceDIte]

theorem upper_unitOf (q₀ q₁ : Vec Ideal S512x128 .bf16) (k : Vec Ideal S4096x128 .bf16) (k' : Vec Ideal S1x256x128 .bf16)
    (v : Vec Ideal S128x4096 .bf16) (v' : Vec Ideal S1x128x256 .bf16) (r : Fin 512) (d : Fin 128) :
    upper (unitOf q₀ q₁ k k' v v') (ix2 r d) = rowOf (fun j => q₁ (ix2 r j)) k k' v v' d := by
  have e : ¬ 512 + (r : ℕ) < 512 := by omega
  have e' : (⟨512 + (r : ℕ) - 512, by omega⟩ : Fin 512) = r := Fin.ext (by simp)
  unfold rowOf unitOf
  rw [upper_apply, unit_apply]
  simp only [scores_apply, scores'_apply, values_apply, values'_apply, queries_apply, e, ↓reduceDIte, e']

/-- Entry `(r, c)` of the block a point leaves. -/
def cell (x0 : Vec Ideal S512x1024 .bf16) (x1 : Vec Ideal S4096x256 .bf16) (x2 : Vec Ideal S256x4096 .bf16) (x3 x4 : Vec Ideal S1x256x256 .bf16)
    (r : Fin 512) (c : Fin 1024) : EReal :=
  twoRuns (fun t => ∑ j : Fin 128, x1 (ix2 t ⟨c / 512 * 128 + j, by omega⟩) * x0 (ix2 r ⟨c / 128 * 128 + j, by omega⟩))
    (fun t => ∑ j : Fin 128, x3 (ix3 0 t ⟨c / 512 * 128 + j, by omega⟩) * x0 (ix2 r ⟨c / 128 * 128 + j, by omega⟩))
    (fun t => x2 (ix2 ⟨c / 512 * 128 + c % 128, by omega⟩ t)) (fun t => x4 (ix3 0 ⟨c / 512 * 128 + c % 128, by omega⟩ t))

set_option maxHeartbeats 1600000 in
/-- What a point leaves, at an index: of the eight stored pieces, piece `h` is head `h`'s 128 columns. -/
theorem out_apply (x0 : Vec Ideal S512x1024 .bf16) (x1 : Vec Ideal S4096x256 .bf16) (x2 : Vec Ideal S256x4096 .bf16) (x3 x4 : Vec Ideal S1x256x256 .bf16)
    (y : S512x1024.Idx) : out0_5 x0 x1 x2 x3 x4 y = cell x0 x1 x2 x3 x4 (y 0) (y 1) := by
  canon_tiles x h
  case piece0 =>
    rw [show k0_pay1 (k0_pay32 (k0_pay45 x0 x1 x2 x3 x4) (k0_pay46 x0 x1 x2 x3 x4) (View.ld x2 r0_14) (View.ld x4 r0_15))
        = upper (unitOf (View.ld x0 r0_12) (View.ld x0 r0_13) (View.ld x1 r0_10) (View.ld x3 r0_11) (View.ld x2 r0_14) (View.ld x4 r0_15)) from rfl]
    idx_vars x
    have e : y 0 = x0 ∧ (y 1 : ℕ) / 512 = 1 ∧ (y 1 : ℕ) / 128 = 7 ∧ (y 1 : ℕ) % 128 = x1 := ⟨Fin.ext h0, by omega, by omega, by omega⟩
    rw [upper_unitOf]
    unfold rowOf cell
    pointwise
    simp only [e, Nat.reduceMul, Nat.zero_add]
  case piece1 =>
    rw [show k0_pay33 (k0_pay45 x0 x1 x2 x3 x4) (k0_pay46 x0 x1 x2 x3 x4) (View.ld x2 r0_14) (View.ld x4 r0_15)
        = lower (unitOf (View.ld x0 r0_12) (View.ld x0 r0_13) (View.ld x1 r0_10) (View.ld x3 r0_11) (View.ld x2 r0_14) (View.ld x4 r0_15)) from rfl]
    idx_vars x
    have e : y 0 = x0 ∧ (y 1 : ℕ) / 512 = 1 ∧ (y 1 : ℕ) / 128 = 6 ∧ (y 1 : ℕ) % 128 = x1 := ⟨Fin.ext h0, by omega, by omega, by omega⟩
    rw [lower_unitOf]
    unfold rowOf cell
    pointwise
    simp only [e, Nat.reduceMul, Nat.zero_add]
  case piece2 =>
    rw [show k0_pay31 (k0_pay47 x0 x1 x2 x3 x4) (k0_pay48 x0 x1 x2 x3 x4)
        = upper (unitOf (View.ld x0 r0_8) (View.ld x0 r0_9) (View.ld x1 r0_10) (View.ld x3 r0_11) (View.ld x2 r0_14) (View.ld x4 r0_15)) from rfl]
    idx_vars x
    have e : y 0 = x0 ∧ (y 1 : ℕ) / 512 = 1 ∧ (y 1 : ℕ) / 128 = 5 ∧ (y 1 : ℕ) % 128 = x1 := ⟨Fin.ext h0, by omega, by omega, by omega⟩
    rw [upper_unitOf]
    unfold rowOf cell
    pointwise
    simp only [e, Nat.reduceMul, Nat.zero_add]
  case piece3 =>
    rw [show k0_pay30 (k0_pay47 x0 x1 x2 x3 x4) (k0_pay48 x0 x1 x2 x3 x4)
        = lower (unitOf (View.ld x0 r0_8) (View.ld x0 r0_9) (View.ld x1 r0_10) (View.ld x3 r0_11) (View.ld x2 r0_14) (View.ld x4 r0_15)) from rfl]
    idx_vars x
    have e : y 0 = x0 ∧ (y 1 : ℕ) / 512 = 1 ∧ (y 1 : ℕ) / 128 = 4 ∧ (y 1 : ℕ) % 128 = x1 := ⟨Fin.ext h0, by omega, by omega, by omega⟩
    rw [lower_unitOf]
    unfold rowOf cell
    pointwise
    simp only [e, Nat.reduceMul, Nat.zero_add]
  case piece4 =>
    rw [show k0_pay22 (k0_pay36 x0 x1 x2 x3 x4) (k0_pay37 x0 x1 x2 x3 x4) (View.ld x2 r0_6) (View.ld x4 r0_7)
        = upper (unitOf (View.ld x0 r0_4) (View.ld x0 r0_5) (View.ld x1 r0_2) (View.ld x3 r0_3) (View.ld x2 r0_6) (View.ld x4 r0_7)) from rfl]
    idx_vars x
    have e : y 0 = x0 ∧ (y 1 : ℕ) / 512 = 0 ∧ (y 1 : ℕ) / 128 = 3 ∧ (y 1 : ℕ) % 128 = x1 := ⟨Fin.ext h0, by omega, by omega, by omega⟩
    rw [upper_unitOf]
    unfold rowOf cell
    pointwise
    simp only [e, Nat.reduceMul, Nat.zero_add]
  case piece5 =>
    rw [show k0_pay21 (k0_pay36 x0 x1 x2 x3 x4) (k0_pay37 x0 x1 x2 x3 x4) (View.ld x2 r0_6) (View.ld x4 r0_7)
        = lower (unitOf (View.ld x0 r0_4) (View.ld x0 r0_5) (View.ld x1 r0_2) (View.ld x3 r0_3) (View.ld x2 r0_6) (View.ld x4 r0_7)) from rfl]
    idx_vars x
    have e : y 0 = x0 ∧ (y 1 : ℕ) / 512 = 0 ∧ (y 1 : ℕ) / 128 = 2 ∧ (y 1 : ℕ) % 128 = x1 := ⟨Fin.ext h0, by omega, by omega, by omega⟩
    rw [lower_unitOf]
    unfold rowOf cell
    pointwise
    simp only [e, Nat.reduceMul, Nat.zero_add]
  case piece6 =>
    rw [show k0_pay14 (k0_pay34 x0 x1 x2 x3 x4) (k0_pay35 x0 x1 x2 x3 x4) (k0_pay38 x0 x1 x2 x3 x4) (k0_pay39 x0 x1 x2 x3 x4) (k0_pay40 x0 x1 x2 x3 x4) (k0_pay41 x0 x1 x2 x3 x4)
        = upper (unitOf (View.ld x0 r0_0) (View.ld x0 r0_1) (View.ld x1 r0_2) (View.ld x3 r0_3) (View.ld x2 r0_6) (View.ld x4 r0_7)) from rfl]
    idx_vars x
    have e : y 0 = x0 ∧ (y 1 : ℕ) / 512 = 0 ∧ (y 1 : ℕ) / 128 = 1 ∧ (y 1 : ℕ) % 128 = x1 := ⟨Fin.ext h0, by omega, by omega, by omega⟩
    rw [upper_unitOf]
    unfold rowOf cell
    pointwise
    simp only [e, Nat.reduceMul, Nat.zero_add]
  case piece7 =>
    rw [show k0_pay13 (k0_pay34 x0 x1 x2 x3 x4) (k0_pay35 x0 x1 x2 x3 x4) (k0_pay38 x0 x1 x2 x3 x4) (k0_pay39 x0 x1 x2 x3 x4) (k0_pay40 x0 x1 x2 x3 x4) (k0_pay41 x0 x1 x2 x3 x4)
        = lower (unitOf (View.ld x0 r0_0) (View.ld x0 r0_1) (View.ld x1 r0_2) (View.ld x3 r0_3) (View.ld x2 r0_6) (View.ld x4 r0_7)) from rfl]
    idx_vars x
    have e : y 0 = x0 ∧ (y 1 : ℕ) / 512 = 0 ∧ (y 1 : ℕ) / 128 = 0 ∧ (y 1 : ℕ) % 128 = x1 := ⟨Fin.ext h0, by omega, by omega, by omega⟩
    rw [lower_unitOf]
    unfold rowOf cell
    pointwise
    simp only [e, Nat.reduceMul, Nat.zero_add]

end Cert.Attn

end
-- ==== Proof.AttnKernel.lean ====
/-
  The attention kernel's result array after its run, at an index, from the arrays the program is given: the host's scaling,
  reshapes and transposes are read under the blocks the grid's points load.
-/
module

public import proofs.«01_k».proof.Proof.AttnBody

@[expose] public section

set_option maxRecDepth 16384

noncomputable section

open Idealize.ShloMosaic Idealize.ShloMosaic.TcCoe Idealize.SL.Sem
open Idealize.ShloMosaic.Pipeline (Dat)

namespace Cert.Attn

open Cert.KernelIdeal Cert.KernelIdeal.Gen Cert.Softmax

variable (m : (ℓ : Loc nD τ sig) → Buf (Elt Ideal) ℓ)

theorem idx : ∀ t : Fin cfg0.N, win0_0.index t = ![t.val, 0] ∧ win0_1.index t = ![t.val / 8, 0] ∧ win0_2.index t = ![0, t.val / 8]
    ∧ win0_3.index t = ![t.val / 8, 0, 0] ∧ win0_4.index t = ![t.val / 8, 0, 0] ∧ win0_5.index t = ![t.val, 0] :=
  (by decide +kernel : ∀ t : Fin grid0.N, _)

/-- The two factors the host applies to the queries. -/
def factor : EReal := Ideal.div 1 (Ideal.sqrt (Ideal.ofBits .f32 0x43000000#32)) * Ideal.div 1 (Ideal.log (Ideal.ofBits .f32 0x40000000#32))

/-- The queries as the kernel is given them. -/
def scaled (a : Vec Ideal S4x4096x8x128 .f32) (i : S4x4096x8x128.Idx) : EReal := a i * factor

/-- The kernel's result for query `s` of batch `b` and head `h`, over the keys and values of group `g`, in column `d`. -/
def kernelRow (a0 : Vec Ideal S4x4096x8x128 .f32) (a1 a2 : Vec Ideal S4x4096x2x128 .f32) (a3 a4 : Vec Ideal S4x1x256x2x128 .f32)
    (b : Fin 4) (s : Fin 4096) (h : Fin 8) (g : Fin 2) (d : Fin 128) : EReal :=
  twoRuns (fun t => ∑ j : Fin 128, a1 (ix4 b t g j) * scaled a0 (ix4 b s h j)) (fun t => ∑ j : Fin 128, a3 (ix5 b 0 t g j) * scaled a0 (ix4 b s h j))
    (fun t => a2 (ix4 b t g d)) (fun t => a4 (ix5 b 0 t g d))

/-- A row function read at an index of the result: row `4096·b + s`, column `128·h + d`. -/
def atResult (f : Fin 4 → Fin 4096 → Fin 8 → Fin 2 → Fin 128 → EReal) (i : S16384x1024.Idx) : EReal :=
  have l0 : (i 0 : ℕ) < 16384 := (i 0).isLt
  have l1 : (i 1 : ℕ) < 1024 := (i 1).isLt
  f ⟨(i 0 : ℕ) / 4096, by omega⟩ ⟨(i 0 : ℕ) % 4096, by omega⟩ ⟨(i 1 : ℕ) / 128, by omega⟩ ⟨(i 1 : ℕ) / 512, by omega⟩ ⟨(i 1 : ℕ) % 128, by omega⟩

theorem lt_points (t : Fin cfg0.N) : t.val < 32 := lt_of_lt_of_eq t.isLt (by decide +kernel)

theorem b0 (c : Dev nD) (t : Fin cfg0.N) (r : Fin 512) (e : Fin 1024) (b : Fin 4) (s : Fin 4096) (h : Fin 8) (j : Fin 128)
    (hb : (b : ℕ) = t.val / 8) (hs : (s : ℕ) = t.val % 8 * 512 + r) (he : (e : ℕ) = h * 128 + j) :
    iblk m c 0 t (ix2 r e) = scaled (m ((c : Thread nD τ).loc main_arg0)) (ix4 b s h j) := by
  unfold scaled factor
  blk_simp [iblk, V, idx t]
  entry_read
  pointwise
  congr 1
  blk_ext [idx t]

theorem b1 (c : Dev nD) (t : Fin cfg0.N) (r : Fin 4096) (e : Fin 256) (b : Fin 4) (h : Fin 2) (j : Fin 128)
    (hb : (b : ℕ) = t.val / 8) (he : (e : ℕ) = h * 128 + j) :
    iblk m c 1 t (ix2 r e) = (m ((c : Thread nD τ).loc main_arg1) : Vec Ideal S4x4096x2x128 .f32) (ix4 b r h j) := by
  blk_simp [iblk, V, idx t]
  entry_read
  pointwise
  blk_ext [idx t]

theorem b2 (c : Dev nD) (t : Fin cfg0.N) (r : Fin 4096) (e : Fin 256) (b : Fin 4) (h : Fin 2) (j : Fin 128)
    (hb : (b : ℕ) = t.val / 8) (he : (e : ℕ) = h * 128 + j) :
    iblk m c 2 t (ix2 e r) = (m ((c : Thread nD τ).loc main_arg2) : Vec Ideal S4x4096x2x128 .f32) (ix4 b r h j) := by
  blk_simp [iblk, V, idx t]
  entry_read
  pointwise
  blk_ext [idx t]

theorem b3 (c : Dev nD) (t : Fin cfg0.N) (r : Fin 256) (e : Fin 256) (b : Fin 4) (h : Fin 2) (j : Fin 128)
    (hb : (b : ℕ) = t.val / 8) (he : (e : ℕ) = h * 128 + j) :
    iblk m c 3 t (ix3 0 r e) = (m ((c : Thread nD τ).loc main_arg3) : Vec Ideal S4x1x256x2x128 .f32) (ix5 b 0 r h j) := by
  blk_simp [iblk, V, idx t]
  entry_read
  pointwise
  blk_ext [idx t]

theorem b4 (c : Dev nD) (t : Fin cfg0.N) (r : Fin 256) (e : Fin 256) (b : Fin 4) (h : Fin 2) (j : Fin 128)
    (hb : (b : ℕ) = t.val / 8) (he : (e : ℕ) = h * 128 + j) :
    iblk m c 4 t (ix3 0 e r) = (m ((c : Thread nD τ).loc main_arg4) : Vec Ideal S4x1x256x2x128 .f32) (ix5 b 0 r h j) := by
  blk_simp [iblk, V, idx t]
  entry_read
  pointwise
  blk_ext [idx t]

/-- A block a point leaves, from the arguments. -/
theorem cell_eq (c : Dev nD) (t : Fin cfg0.N) (r : Fin 512) (e : Fin 1024) (b : Fin 4) (s : Fin 4096) (h : Fin 8) (g : Fin 2) (d : Fin 128)
    (hb : (b : ℕ) = t.val / 8) (hs : (s : ℕ) = t.val % 8 * 512 + r) (hh : (h : ℕ) = e / 128) (hg : (g : ℕ) = e / 512) (hd : (d : ℕ) = e % 128) :
    cell (iblk m c 0 t) (iblk m c 1 t) (iblk m c 2 t) (iblk m c 3 t) (iblk m c 4 t) r e
      = kernelRow (m ((c : Thread nD τ).loc main_arg0)) (m ((c : Thread nD τ).loc main_arg1)) (m ((c : Thread nD τ).loc main_arg2))
        (m ((c : Thread nD τ).loc main_arg3)) (m ((c : Thread nD τ).loc main_arg4)) b s h g d := by
  unfold cell kernelRow
  congr 1
  · funext u
    refine Finset.sum_congr rfl fun j _ => ?_
    rw [b0 m c t r _ b s h j hb hs (by rw [hh]), b1 m c t u _ b g j hb (by rw [hg])]
  · funext u
    refine Finset.sum_congr rfl fun j _ => ?_
    rw [b0 m c t r _ b s h j hb hs (by rw [hh]), b3 m c t u _ b g j hb (by rw [hg])]
  · funext u
    exact b2 m c t u _ b g d hb (by rw [hg, hd])
  · funext u
    exact b4 m c t u _ b g d hb (by rw [hg, hd])

theorem final (c : Dev nD) : (dats m 0 c).arrAt 5 (cfgs 0).N
    = atResult (kernelRow (m ((c : Thread nD τ).loc main_arg0)) (m ((c : Thread nD τ).loc main_arg1)) (m ((c : Thread nD τ).loc main_arg2))
        (m ((c : Thread nD τ).loc main_arg3)) (m ((c : Thread nD τ).loc main_arg4))) := by
  refine (dats m 0 c).arrAt_eq_of_covers 5 _ (by decide +kernel) fun t _ y => ?_
  rw [after0_5]
  refine (out_apply _ _ _ _ _ y).trans ?_
  have l0 : (y 0 : ℕ) < 512 := (y 0).isLt
  have l1 : (y 1 : ℕ) < 1024 := (y 1).isLt
  have lt := lt_points t
  refine cell_eq m c t (y 0) (y 1) _ _ _ _ _ ?_ ?_ ?_ ?_ ?_
  all_goals blk_simp [idx t]
  all_goals (try dsimp only)
  all_goals omega

end Cert.Attn
end
-- ==== Proof.AttnReference.lean ====
/-
  The plain attention's result, at an index: the softmax of the scores over the point's own and the cached keys, and the
  sum of the values it weights.
-/
module

public import proofs.«01_k».proof.Proof.Softmax
public import proofs.«01_k».proof.Proof.Gen.ReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AttnRef

open Cert.ReferenceIdeal Cert.ReferenceIdeal.Gen Cert.ReferenceIdeal.Value Cert.Softmax

/-- The own and the cached keys (or values), one after another. -/
def joined (a : FVec Ideal S4x4096x2x128 .f32) (b : FVec Ideal S4x1x256x2x128 .f32) : FVec Ideal S4x4352x2x128 .f32 :=
  concatenate S4x4352x2x128 1 [⟨S4x4096x2x128, a⟩, ⟨S4x256x2x128, shapeCast _ b shapeCasts_S4x1x256x2x128_S4x256x2x128⟩]
    concatenates_S4x4096x2x128_S4x256x2x128_S4x4352x2x128_d1

/-- The scaled queries by group. -/
def queries (a : FVec Ideal S4x4096x8x128 .f32) : FVec Ideal S4x4096x2x4x128 .f32 :=
  shapeCast _ (mulf a (broadcastInDim S4x4096x8x128 ![] bcast_S_S4x4096x8x128 (Host.divf (constant S_ .f32 0x3F800000#32) (Host.sqrt (constant S_ .f32 0x43000000#32)))))
    shapeCasts_S4x4096x8x128_S4x4096x2x4x128

def scores (k : FVec Ideal S4x4352x2x128 .f32) (q : FVec Ideal S4x4096x2x4x128 .f32) : FVec Ideal S4x2x4x4096x4352 .f32 :=
  transpose S4x2x4x4096x4352 [0, 1, 4, 3, 2] (Host.dotGeneral dot_S4x4352x2x128_S4x4096x2x4x128_S4x2x4352x4096x4_3_4_1_13_02_02 none k q)
    transposes_S4x2x4352x4096x4_S4x2x4x4096x4352_0_1_4_3_2

def spread (x : FVec Ideal S4x2x4x4096 .f32) : FVec Ideal S4x2x4x4096x4352 .f32 :=
  broadcastInDim S4x2x4x4096x4352 ![0, 1, 2, 3, 4] bcast_S4x2x4x4096x1_S4x2x4x4096x4352_0_1_2_3_4
    (broadcastInDim S4x2x4x4096x1 ![0, 1, 2, 3] bcast_S4x2x4x4096_S4x2x4x4096x1_0_1_2_3 x)

def peak (s : FVec Ideal S4x2x4x4096x4352 .f32) : FVec Ideal S4x2x4x4096 .f32 :=
  maximumf (broadcastInDim S4x2x4x4096 ![] bcast_S_S4x2x4x4096 (constant S_ .f32 0xFF800000#32))
    (Host.reduce FloatOps.maximumf s (constant S_ .f32 0xFF800000#32) reducesTo_S4x2x4x4096x4352_S4x2x4x4096_d4 h_S_)

def exps (s : FVec Ideal S4x2x4x4096x4352 .f32) : FVec Ideal S4x2x4x4096x4352 .f32 := Host.exp (subf s (spread (peak s)))

def total (s : FVec Ideal S4x2x4x4096x4352 .f32) : FVec Ideal S4x2x4x4096 .f32 :=
  Host.reduceAdd s (constant S_ .f32 0x00000000#32) reducesTo_S4x2x4x4096x4352_S4x2x4x4096_d4 h_S_

def softmax (s : FVec Ideal S4x2x4x4096x4352 .f32) : FVec Ideal S4x2x4x4096x4352 .f32 := Host.divf (exps s) (spread (total (exps s)))

def weighted (v : FVec Ideal S4x4352x2x128 .f32) (p : FVec Ideal S4x2x4x4096x4352 .f32) : FVec Ideal S16384x1024 .bf16 :=
  truncf .bf16 (shapeCast _ (transpose S4x4096x2x4x128 [0, 4, 1, 3, 2]
    (Host.dotGeneral (φ₁ := .f32) (φ₂ := .f32) dot_S4x4352x2x128_S4x2x4x4096x4352_S4x2x128x4x4096_1_4_3_23_02_01 none v p)
    transposes_S4x2x128x4x4096_S4x4096x2x4x128_0_4_1_3_2) shapeCasts_S4x4096x2x4x128_S16384x1024) bitsLt_bf16_f32

theorem res_eq (m : (ℓ : Loc nD τ sig) → Buf (Elt Ideal) ℓ) (c : Dev nD) : res_out0 m c
    = weighted (joined (m ((c.tc : Thread nD τ).loc main_arg2)) (m ((c.tc : Thread nD τ).loc main_arg4)))
      (softmax (scores (joined (m ((c.tc : Thread nD τ).loc main_arg1)) (m ((c.tc : Thread nD τ).loc main_arg3))) (queries (m ((c.tc : Thread nD τ).loc main_arg0))))) := rfl

theorem joined_apply (a : FVec Ideal S4x4096x2x128 .f32) (a' : FVec Ideal S4x1x256x2x128 .f32) (b : Fin 4) (t : Fin 4352) (g : Fin 2) (d : Fin 128) :
    joined a a' (ix4 b t g d) = if h : (t : ℕ) < 4096 then a (ix4 b ⟨t, h⟩ g d) else a' (ix5 b 0 ⟨t - 4096, by omega⟩ g d) := by
  unfold joined
  pointwise

theorem queries_apply (a : FVec Ideal S4x4096x8x128 .f32) (b : Fin 4) (s : Fin 4096) (g : Fin 2) (r : Fin 4) (d : Fin 128) :
    queries a (ix5 b s g r d) = a (ix4 b s ⟨g * 4 + r, by omega⟩ d) * Ideal.div 1 (Ideal.sqrt (Ideal.ofBits .f32 0x43000000#32)) := by
  unfold queries
  pointwise

theorem scores_apply (k : FVec Ideal S4x4352x2x128 .f32) (q : FVec Ideal S4x4096x2x4x128 .f32) (b : Fin 4) (g : Fin 2) (r : Fin 4) (s : Fin 4096) (t : Fin 4352) :
    scores k q (ix5 b g r s t) = ∑ j : Fin 128, k (ix4 b t g j) * q (ix5 b s g r j) := by
  unfold scores
  pointwise

theorem spread_apply (x : FVec Ideal S4x2x4x4096 .f32) (b : Fin 4) (g : Fin 2) (r : Fin 4) (s : Fin 4096) (t : Fin 4352) :
    spread x (ix5 b g r s t) = x (ix4 b g r s) := by
  unfold spread
  pointwise

theorem top_apply (x : FVec Ideal S4x2x4x4096x4352 .f32) (b : Fin 4) (g : Fin 2) (r : Fin 4) (s : Fin 4096) :
    Host.reduce FloatOps.maximumf x (constant S_ .f32 0xFF800000#32) reducesTo_S4x2x4x4096x4352_S4x2x4x4096_d4 h_S_ (ix4 b g r s)
      = Finset.univ.fold max (Ideal.ofBits .f32 0xFF800000#32) fun t => x (ix5 b g r s t) := by
  pointwise

theorem least_apply (i : S4x2x4x4096.Idx) :
    broadcastInDim S4x2x4x4096 ![] bcast_S_S4x2x4x4096 (constant (F := Ideal) S_ .f32 0xFF800000#32) i = Ideal.ofBits .f32 0xFF800000#32 := by
  pointwise

theorem peak_apply (x : FVec Ideal S4x2x4x4096x4352 .f32) (b : Fin 4) (g : Fin 2) (r : Fin 4) (s : Fin 4096) :
    peak x (ix4 b g r s) = Finset.univ.fold max ⊥ fun t => x (ix5 b g r s t) := by
  unfold peak
  rw [ValueIdx.maximumf_apply, top_apply, least_apply, show Ideal.ofBits .f32 0xFF800000#32 = ⊥ by simp [Ideal.ofBits, Ideal.ieee]]
  exact max_eq_right bot_le

theorem exps_apply (x : FVec Ideal S4x2x4x4096x4352 .f32) (b : Fin 4) (g : Fin 2) (r : Fin 4) (s : Fin 4096) (t : Fin 4352) :
    exps x (ix5 b g r s t) = Ideal.exp (x (ix5 b g r s t) - peak x (ix4 b g r s)) := by
  unfold exps
  rw [← spread_apply (peak x) b g r s t]
  rfl

theorem total_apply (x : FVec Ideal S4x2x4x4096x4352 .f32) (b : Fin 4) (g : Fin 2) (r : Fin 4) (s : Fin 4096) :
    total x (ix4 b g r s) = ∑ t : Fin 4352, x (ix5 b g r s t) := by
  unfold total
  pointwise

theorem softmax_apply (x : FVec Ideal S4x2x4x4096x4352 .f32) (b : Fin 4) (g : Fin 2) (r : Fin 4) (s : Fin 4096) (t : Fin 4352) :
    softmax x (ix5 b g r s t) = Ideal.div (exps x (ix5 b g r s t)) (total (exps x) (ix4 b g r s)) := by
  unfold softmax
  rw [← spread_apply (total (exps x)) b g r s t]
  rfl

theorem weighted_apply (v : FVec Ideal S4x4352x2x128 .f32) (p : FVec Ideal S4x2x4x4096x4352 .f32) (i : Fin 16384) (e : Fin 1024) :
    weighted v p (ix2 i e) = ∑ t : Fin 4352, v (ix4 ⟨i / 4096, by omega⟩ t ⟨e / 512, by omega⟩ ⟨e % 128, by omega⟩)
      * p (ix5 ⟨i / 4096, by omega⟩ ⟨e / 512, by omega⟩ ⟨e / 128 % 4, by omega⟩ ⟨i % 4096, by omega⟩ t) := by
  unfold weighted
  pointwise

/-- The plain result for query `s` of batch `b` and head `4·g + r`, over the keys and values of group `g`, in column `d`. -/
def plainRowAt (a0 : FVec Ideal S4x4096x8x128 .f32) (a1 a2 : FVec Ideal S4x4096x2x128 .f32) (a3 a4 : FVec Ideal S4x1x256x2x128 .f32)
    (b : Fin 4) (s : Fin 4096) (g : Fin 2) (r : Fin 4) (d : Fin 128) : EReal :=
  plainRow (fun t => ∑ j : Fin 128, joined a1 a3 (ix4 b t g j) * queries a0 (ix5 b s g r j)) (fun t => joined a2 a4 (ix4 b t g d))

theorem res_apply (m : (ℓ : Loc nD τ sig) → Buf (Elt Ideal) ℓ) (c : Dev nD) (i : Fin 16384) (e : Fin 1024) : res_out0 m c (ix2 i e)
    = plainRowAt (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
        ⟨i / 4096, by omega⟩ ⟨i % 4096, by omega⟩ ⟨e / 512, by omega⟩ ⟨e / 128 % 4, by omega⟩ ⟨e % 128, by omega⟩ := by
  rw [res_eq, weighted_apply]
  unfold plainRowAt plainRow
  simp only [softmax_apply, total_apply, exps_apply, peak_apply, scores_apply]

end Cert.AttnRef

end
-- ==== Proof.AttnValue.lean ====
/-
  The attention kernel's result is the plain attention, where queries and keys are finite.
-/
module

public import proofs.«01_k».proof.Defs
public import proofs.«01_k».proof.Proof.AttnKernel
public import proofs.«01_k».proof.Proof.AttnReference
public import proofs.«01_k».proof.Proof.Gen.Pre_finite
public import Idealize.ShloMosaic.Lib.ReduceAll
public import Idealize.ShloMosaic.Lib.IdealHost

@[expose] public section

set_option maxRecDepth 16384

noncomputable section

open Idealize.ShloMosaic Idealize.ShloMosaic.TcCoe Idealize.SL.Sem

namespace Cert.AttnValue

open Cert.Softmax

/-- An extended real whose absolute value is below plus infinity is a real. -/
theorem real_of_abs_lt {s : Shape} (a : FVec Ideal s .f32) (u : FVec Ideal s .f32) (hu : ∀ i, u i = ⊤) (i : s.Idx)
    (h : cmpf .olt (Host.absf a) u i = 1#1) : ∃ r : ℝ, a i = (r : EReal) := by
  have h' : Ideal.cmp .olt (max (a i) (-a i) : EReal) (u i) = 1#1 := h
  rw [hu] at h'
  have h'' : max (a i) (-a i) < (⊤ : EReal) := by
    by_contra hn
    simp [Ideal.cmp, hn] at h'
  have ht : a i ≠ ⊤ := fun e => by simp [e] at h''
  have hb : a i ≠ ⊥ := fun e => by simp [e] at h''
  exact ⟨(a i).toReal, (EReal.coe_toReal ht hb).symm⟩

theorem finite_args (a0 : FVec Ideal Cert.Pre_finite.S4x4096x8x128 .f32) (a1 a2 : FVec Ideal Cert.Pre_finite.S4x4096x2x128 .f32)
    (a3 a4 : FVec Ideal Cert.Pre_finite.S4x1x256x2x128 .f32)
    (h : Cert.Pre_finite.fn a0 a1 a2 a3 a4 = fun _ => 1#1) :
    (∀ i, ∃ r : ℝ, a0 i = (r : EReal)) ∧ (∀ i, ∃ r : ℝ, a1 i = (r : EReal)) ∧ (∀ i, ∃ r : ℝ, a3 i = (r : EReal)) := by
  have e := congrFun h ix0
  unfold Cert.Pre_finite.fn at e
  dsimp only at e
  obtain ⟨e1, e3⟩ := IntOp.andi_eq_one.1 e
  obtain ⟨e0, e1⟩ := IntOp.andi_eq_one.1 e1
  refine ⟨fun i => ?_, fun i => ?_, fun i => ?_⟩
  · refine real_of_abs_lt a0 _ (fun i => ?_) i (Host.reduce_andi_all _ _ _ _ _ e0 i)
    exact Cert.Attn.ofBits_posInf
  · refine real_of_abs_lt a1 _ (fun i => ?_) i (Host.reduce_andi_all _ _ _ _ _ e1 i)
    exact Cert.Attn.ofBits_posInf
  · refine real_of_abs_lt a3 _ (fun i => ?_) i (Host.reduce_andi_all _ _ _ _ _ e3 i)
    exact Cert.Attn.ofBits_posInf

/-- The constants. -/
theorem scale_eq : Ideal.div 1 (Ideal.sqrt (Ideal.ofBits .f32 0x43000000#32)) = ((1 / Real.sqrt 128 : ℝ) : EReal) := by
  have e : Ideal.ofBits .f32 0x43000000#32 = ((128 : ℝ) : EReal) := by
    simp [Ideal.ofBits, Ideal.ieee]
    rw [← EReal.coe_mul]
    norm_num
  rw [e, Ideal.sqrt_coe, if_neg (by norm_num), Ideal.div_coe (by positivity), one_mul]

theorem log_eq : Ideal.div 1 (Ideal.log (Ideal.ofBits .f32 0x40000000#32)) = ((1 / Real.log 2 : ℝ) : EReal) := by
  have e : Ideal.ofBits .f32 0x40000000#32 = ((2 : ℝ) : EReal) := by
    simp [Ideal.ofBits, Ideal.ieee]
    rw [← EReal.coe_mul]
    norm_num
  rw [e, Ideal.log_coe, if_neg (by norm_num), Ideal.div_coe (Real.log_pos (by norm_num)).ne', one_mul]

/-- One row: the kernel's is the plain one, for real queries and keys. -/
theorem row_eq (a0 : FVec Ideal Cert.KernelIdeal.S4x4096x8x128 .f32) (a1 a2 : FVec Ideal Cert.KernelIdeal.S4x4096x2x128 .f32)
    (a3 a4 : FVec Ideal Cert.KernelIdeal.S4x1x256x2x128 .f32)
    (h0 : ∀ i, ∃ r : ℝ, a0 i = (r : EReal)) (h1 : ∀ i, ∃ r : ℝ, a1 i = (r : EReal)) (h3 : ∀ i, ∃ r : ℝ, a3 i = (r : EReal))
    (b : Fin 4) (s : Fin 4096) (h : Fin 8) (g : Fin 2) (r : Fin 4) (d : Fin 128) (hh : (h : ℕ) = g * 4 + r) :
    Cert.Attn.kernelRow a0 a1 a2 a3 a4 b s h g d = Cert.AttnRef.plainRowAt a0 a1 a2 a3 a4 b s g r d := by
  choose q hq using h0
  choose k hk using h1
  choose c hc using h3
  have hh' : (⟨(g : ℕ) * 4 + r, by omega⟩ : Fin 8) = h := Fin.ext hh.symm
  let x : Fin (4096 + 256) → Fin 128 → ℝ := fun t j => if e : (t : ℕ) < 4096 then k (ix4 b ⟨t, e⟩ g j) else c (ix5 b 0 ⟨t - 4096, by omega⟩ g j)
  have hx : ∀ (t : Fin 4352) (j : Fin 128), Cert.AttnRef.joined a1 a3 (ix4 b t g j) = (x t j : EReal) := fun t j => by
    rw [Cert.AttnRef.joined_apply]
    show _ = ((if e : (t : ℕ) < 4096 then k (ix4 b ⟨t, e⟩ g j) else c (ix5 b 0 ⟨t - 4096, by omega⟩ g j) : ℝ) : EReal)
    split
    · exact hk _
    · exact hc _
  let sc : Fin (4096 + 256) → ℝ := fun t => ∑ j : Fin 128, x t j * (q (ix4 b s h j) * (1 / Real.sqrt 128))
  have key := twoRuns_eq (a := 4096) (b := 256) (by omega) sc (fun t => Cert.AttnRef.joined a2 a4 (ix4 b t g d))
  have run : ∀ (t : Fin (4096 + 256)) (y : Fin 128 → EReal), (∀ j, y j = (x t j : EReal)) →
      ∑ j : Fin 128, y j * Cert.Attn.scaled a0 (ix4 b s h j) = ((sc t * (1 / Real.log 2) : ℝ) : EReal) := fun t y hy => by
    rw [show sc t * (1 / Real.log 2) = ∑ j : Fin 128, x t j * (q (ix4 b s h j) * (1 / Real.sqrt 128 * (1 / Real.log 2))) by
      rw [Finset.sum_mul]; exact Finset.sum_congr rfl fun j _ => by ring, coe_sum]
    refine Finset.sum_congr rfl fun j _ => ?_
    unfold Cert.Attn.scaled Cert.Attn.factor
    rw [hy, hq, scale_eq, log_eq, ← EReal.coe_mul, ← EReal.coe_mul, ← EReal.coe_mul]
  unfold Cert.Attn.kernelRow Cert.AttnRef.plainRowAt
  refine Eq.trans ?_ (key.trans ?_)
  · congr 1
    · funext t
      exact run (Fin.castAdd 256 t) _ fun j => by
        have := hx (Fin.castAdd 256 t) j
        simpa [Cert.AttnRef.joined_apply] using this
    · funext t
      exact run (Fin.natAdd 4096 t) _ fun j => by
        have := hx (Fin.natAdd 4096 t) j
        simpa [Cert.AttnRef.joined_apply] using this
    · funext t
      simp [Cert.AttnRef.joined_apply]
    · funext t
      simp [Cert.AttnRef.joined_apply]
  · congr 1
    funext t
    rw [coe_sum]
    refine Finset.sum_congr rfl fun j _ => ?_
    rw [hx, Cert.AttnRef.queries_apply, hh', hq, scale_eq, ← EReal.coe_mul, ← EReal.coe_mul]

/-- The two results, index by index. -/
theorem result_eq (m : (ℓ : Loc Cert.ReferenceIdeal.nD Cert.ReferenceIdeal.τ Cert.ReferenceIdeal.sig) → Buf (Elt Ideal) ℓ) (c : Dev Cert.ReferenceIdeal.nD)
    (a0 : FVec Ideal Cert.KernelIdeal.S4x4096x8x128 .f32) (a1 a2 : FVec Ideal Cert.KernelIdeal.S4x4096x2x128 .f32)
    (a3 a4 : FVec Ideal Cert.KernelIdeal.S4x1x256x2x128 .f32)
    (hf : Cert.Pre_finite.fn a0 a1 a2 a3 a4 = fun _ => 1#1)
    (e0 : m ((c.tc : Thread Cert.ReferenceIdeal.nD Cert.ReferenceIdeal.τ).loc Cert.ReferenceIdeal.main_arg0) = a0)
    (e1 : m ((c.tc : Thread Cert.ReferenceIdeal.nD Cert.ReferenceIdeal.τ).loc Cert.ReferenceIdeal.main_arg1) = a1)
    (e2 : m ((c.tc : Thread Cert.ReferenceIdeal.nD Cert.ReferenceIdeal.τ).loc Cert.ReferenceIdeal.main_arg2) = a2)
    (e3 : m ((c.tc : Thread Cert.ReferenceIdeal.nD Cert.ReferenceIdeal.τ).loc Cert.ReferenceIdeal.main_arg3) = a3)
    (e4 : m ((c.tc : Thread Cert.ReferenceIdeal.nD Cert.ReferenceIdeal.τ).loc Cert.ReferenceIdeal.main_arg4) = a4) :
    Cert.ReferenceIdeal.Value.res_out0 m c = Cert.Attn.atResult (Cert.Attn.kernelRow a0 a1 a2 a3 a4) := by
  obtain ⟨h0, h1, h3⟩ := finite_args a0 a1 a2 a3 a4 hf
  funext i
  obtain ⟨r, e, rfl⟩ : ∃ (r : Fin 16384) (e : Fin 1024), i = ix2 r e := ⟨i 0, i 1, by funext a; fin_cases a <;> rfl⟩
  refine (Cert.AttnRef.res_apply m c r e).trans ?_
  rw [e0, e1, e2, e3, e4]
  exact (row_eq a0 a1 a2 a3 a4 h0 h1 h3 _ _ _ _ _ _ (by show (e : ℕ) / 128 = (e : ℕ) / 512 * 4 + (e : ℕ) / 128 % 4; omega)).symm

end Cert.AttnValue

end
-- ==== Proof.GroupedKit.lean ====
/- What the grouped experts' pipeline holds where: the arrays as the region finds them, the two tables of
   the prefetched words, the side condition the experts' words put on the blocks, and the windows' blocks.
   Everything is over any number type, so it serves the kernel and its idealization. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Grouped

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ)

/-- The buffers of core `c` when the region is entered: the two weights rounded, everything else as launched. -/
abbrev atEntry (c : Dev nD) (b : Ref sig .tc) : Buf (Elt F) ((c : Thread nD τ).loc b) := StableHlo.after hostOps0 (fun b => m (c, b)) b

theorem nothing_fresh : (hostOps0 : List (HloOp τ sig (Elt F))).Forall fun op => op.fresh = ∅ := by
  simp only [List.Forall]; repeat' constructor

set_option maxHeartbeats 800000 in
/-- The host's operations lead from the launch to the region. -/
theorem to_region (𝒱₀ : Variants) :
    Pipeline.HMainP (Ix := Unit) (Name := ℕ) (U := UR sig nD τ) (Lvl := ℕ) pcfgs 0 defs₀ 𝒱₀ m (main (F := F)) (atEntry m) :=
  Pipeline.hmainP_prefix pcfgs 0 defs₀ 𝒱₀ m main hostOps0 hostOps0_sub nothing_fresh main_chain

/-- A buffer that is none of the four intermediate results is as it was launched. -/
theorem entry_kept (c : Dev nD) (b : Ref sig .tc) (h : b ≠ main_v0 ∧ b ≠ main_v1 ∧ b ≠ main_v2 ∧ b ≠ main_v3) :
    atEntry m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h.1, StableHlo.devRef_ne_of_ne h.2.1, StableHlo.devRef_ne_of_ne h.2.2.1, StableHlo.devRef_ne_of_ne h.2.2.2⟩))

/-- The tables' words as the region finds them (there is one device). -/
def words : pre0.Contents (Elt F) := fun j => atEntry m (0 : Dev nD) (pre0.ref j)

theorem entry_words (c : Dev nD) (j : Fin 2) : atEntry m c (pre0.ref j) = words m j := by
  obtain rfl : c = 0 := Subsingleton.elim _ _; rfl

/-- The blocks that the experts' words name lie in the weights. -/
abbrev Named : Prop := ok0 (F := F) (words m)
abbrev named (h : Named m) : (pcfg0 (F := F)).Adm := ⟨words m, h⟩
abbrev pipe (h : Named m) : Pipeline.Cfg sig Λ₀ := cfg0 (named m h)

/-- The two tables as the body is handed them. -/
abbrev experts : Memref sig .tc .smem S104 .i32 := Memref.whole main_arg0
abbrev valids : Memref sig .tc .smem S104 .i32 := Memref.whole main_arg1

/-- A table's contents, and the table held for reading. -/
abbrev TableBuf (c : Dev nD) (M : Memref sig .tc .smem S104 .i32) : Type := Buf (Elt F) (M.view.loc (c : Thread nD τ))
abbrev tableHeld (c : Dev nD) (M : Memref sig .tc .smem S104 .i32) (f : TableBuf (F := F) c M) : sProp 𝕄 :=
  M.view.loc (c : Thread nD τ) ↦{fullShare.right} f

theorem tables_held (c : Dev nD) :
    (Pipeline.ΦT pre0 (words m) c : sProp 𝕄) = iprop(tableHeld c experts (words m 0) ∗ tableHeld c valids (words m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`. -/
def iblk (h : Named m) (c : Dev nD) (w : Fin (pipe m h).W) (t : Fin (pipe m h).N) :
    (((pipe m h).win w).xblock ((pipe m h).grid.coords t)).Idx → Elt F ((pipe m h).win w).elt :=
  (((pipe m h).win w).blk t).view.read (Elt F) (atEntry m c (Pipeline.arrRef spec0 w))

section Before
variable (h : Named m) {c : Dev nD} (dat : Dat τ (Elt F) Unit ℕ (UR sig nD τ) ℕ (pipe m h) c)

/-- An input's buffer holds its block when the body starts, whether it was fetched at this point or kept from an earlier one. -/
theorem before_rows (hA : dat.A 0 = atEntry m c (Pipeline.arrRef spec0 0)) (hk : ∀ t, dat.after 0 t = iblk m h c 0 t)
    (t : Fin (pipe m h).N) (d) : dat.before 0 t d = iblk m h c 0 t :=
  (dat.before_in_eq_fetched 0 rfl (fun _ => rfl) (fun _ _ _ => rfl) (fun t => by rw [hk]; unfold Dat.blockOf iblk; rw [hA]; try rfl) t d).trans
    (by unfold Dat.fetched Dat.blockOf iblk; rw [hA]; try rfl)
theorem before_gate (hA : dat.A 1 = atEntry m c (Pipeline.arrRef spec0 1)) (hk : ∀ t, dat.after 1 t = iblk m h c 1 t)
    (t : Fin (pipe m h).N) (d) : dat.before 1 t d = iblk m h c 1 t :=
  (dat.before_in_eq_fetched 1 rfl (fun _ => rfl) (fun _ _ _ => rfl) (fun t => by rw [hk]; unfold Dat.blockOf iblk; rw [hA]; try rfl) t d).trans
    (by unfold Dat.fetched Dat.blockOf iblk; rw [hA]; try rfl)
theorem before_up (hA : dat.A 2 = atEntry m c (Pipeline.arrRef spec0 2)) (hk : ∀ t, dat.after 2 t = iblk m h c 2 t)
    (t : Fin (pipe m h).N) (d) : dat.before 2 t d = iblk m h c 2 t :=
  (dat.before_in_eq_fetched 2 rfl (fun _ => rfl) (fun _ _ _ => rfl) (fun t => by rw [hk]; unfold Dat.blockOf iblk; rw [hA]; try rfl) t d).trans
    (by unfold Dat.fetched Dat.blockOf iblk; rw [hA]; try rfl)
theorem before_down (hA : dat.A 3 = atEntry m c (Pipeline.arrRef spec0 3)) (hk : ∀ t, dat.after 3 t = iblk m h c 3 t)
    (t : Fin (pipe m h).N) (d) : dat.before 3 t d = iblk m h c 3 t :=
  (dat.before_in_eq_fetched 3 rfl (fun _ => rfl) (fun _ _ _ => rfl) (fun t => by rw [hk]; unfold Dat.blockOf iblk; rw [hA]; try rfl) t d).trans
    (by unfold Dat.fetched Dat.blockOf iblk; rw [hA]; try rfl)

end Before

end Cert.Grouped

end
-- ==== Proof.GroupedBody.lean ====
/- The body of the grouped experts' kernel, run once with the tile's word set and once with it clear. -/
module

public import proofs.«01_k».proof.Proof.GroupedKit
public import Idealize.ShloMosaic.Lib.Pointwise

@[expose] public section

set_option maxRecDepth 16384

noncomputable section

namespace Cert.Grouped

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ExpertsIdeal Cert.ExpertsIdeal.Gen

variable {F : FTy → Type} [FloatOps F]

local notation "𝕄" => MT nD τ sig Unit (Elt F) ℕ (UR sig nD τ) ℕ

set_option maxHeartbeats 2000000 in
/-- The body runs, whatever the tile's word says: from the four inputs' buffers and the two tables it leaves them
    as they are and makes of the output buffer's contents others, which the word selects. -/
noncomputable def run (c : Dev nD) (i : grid0.Coords) (arg3 : Memref sig .tc .vmem S4096x128 .f32) (harg3 : arg3.IsWhole)
    (arg4 : Memref sig .tc .vmem S1x1024x2816 .bf16) (harg4 : arg4.IsWhole) (arg5 : Memref sig .tc .vmem S1x1024x2816 .bf16) (harg5 : arg5.IsWhole)
    (arg6 : Memref sig .tc .vmem S1x2816x1024 .bf16) (harg6 : arg6.IsWhole) (arg7 : Memref sig .tc .vmem S4096x128 .f32) (harg7 : arg7.IsWhole)
    (x0 : Vec F S4096x128 .f32) (x1 x2 : Vec F S1x1024x2816 .bf16) (x3 : Vec F S1x2816x1024 .bf16)
    (w0 : TableBuf (F := F) c experts) (w1 : TableBuf (F := F) c valids) :
    { C : arg7.view.ty.Contents (Elt F) → arg7.view.ty.Contents (Elt F) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ (∃ d, owns (c : Thread nD τ) arg7 fullShare d) ∗ tableHeld c experts w0 ∗ tableHeld c valids w1
            ∗ (iprop(owns (c : Thread nD τ) arg3 fullShare x0 ∗ owns (c : Thread nD τ) arg4 fullShare x1 ∗ owns (c : Thread nD τ) arg5 fullShare x2
                ∗ owns (c : Thread nD τ) arg6 fullShare x3 ∗ (∃ f, arg7.view.loc (c : Thread nD τ) ↦[arg7.view.set]{fullShare} C f)
                ∗ tableHeld c experts w0 ∗ tableHeld c valids w1) -∗ K ⟨⟩))
          ⊢ wp frame (wpE (defs₀ (F := F)) Variants.none c none) E (cc0_ffn_grouped i experts (Memref.isWhole_whole _) valids (Memref.isWhole_whole _) arg3 harg3 arg4 harg4 arg5 harg5 arg6 harg6 arg7 harg7) K } := by
  refine ⟨?_, fun E K => ?run⟩
  case run =>
    simp only [cc0_ffn_grouped_eq_skeleton]; unfold cc0_ffn_grouped_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists f4; iexact H4
    isplitl [HT0]; · iexact HT0
    iexact HT1

/-- The entries of an array that a rectangle names. -/
def pick {S : Shape} {α : Type} (X : S.Idx → α) (r : LoadRect S) : r.shape.Idx → α := fun x => X (r.idx x)

theorem readAt_unread {S : Shape} {e : EltTy} {sp : Space} {M : Memref sig .tc sp S e} (h : M.IsWhole) (r : LoadRect S) (x : S.Idx → Elt F e) :
    View.readAt (Elt F) M.view r (h.unread x) = pick x r := by
  unfold View.readAt pick; rw [h.read_unread]

/-- A tile's 512 tokens gathered from its rows: column block `j` of the tokens is rows `j`, `j + 8`, `j + 16`, …. -/
def tokens (x0 : Vec F S4096x128 .f32) : FVec F S512x1024 .bf16 :=
  k0_pay6 (pick x0 ⟨![0, 0], S512x128.size, ![8, 1], inb_S4096x128_S512x128_0_0_s_8_1⟩) (pick x0 ⟨![1, 0], S512x128.size, ![8, 1], inb_S4096x128_S512x128_1_0_s_8_1⟩) (pick x0 ⟨![2, 0], S512x128.size, ![8, 1], inb_S4096x128_S512x128_2_0_s_8_1⟩) (pick x0 ⟨![3, 0], S512x128.size, ![8, 1], inb_S4096x128_S512x128_3_0_s_8_1⟩) (pick x0 ⟨![4, 0], S512x128.size, ![8, 1], inb_S4096x128_S512x128_4_0_s_8_1⟩) (pick x0 ⟨![5, 0], S512x128.size, ![8, 1], inb_S4096x128_S512x128_5_0_s_8_1⟩) (pick x0 ⟨![6, 0], S512x128.size, ![8, 1], inb_S4096x128_S512x128_6_0_s_8_1⟩) (pick x0 ⟨![7, 0], S512x128.size, ![8, 1], inb_S4096x128_S512x128_7_0_s_8_1⟩)

/-- The expert's feed-forward of a tile's tokens, as the body computes it: the hidden units in three blocks. -/
def ffn (x0 : Vec F S4096x128 .f32) (x1 x2 : Vec F S1x1024x2816 .bf16) (x3 : Vec F S1x2816x1024 .bf16) : FVec F S512x1024 .f32 :=
  k0_pay9 (tokens x0)
    (k0_pay7 (pick x0 ⟨![0, 0], S512x128.size, ![8, 1], inb_S4096x128_S512x128_0_0_s_8_1⟩) (pick x0 ⟨![1, 0], S512x128.size, ![8, 1], inb_S4096x128_S512x128_1_0_s_8_1⟩) (pick x0 ⟨![2, 0], S512x128.size, ![8, 1], inb_S4096x128_S512x128_2_0_s_8_1⟩) (pick x0 ⟨![3, 0], S512x128.size, ![8, 1], inb_S4096x128_S512x128_3_0_s_8_1⟩) (pick x0 ⟨![4, 0], S512x128.size, ![8, 1], inb_S4096x128_S512x128_4_0_s_8_1⟩) (pick x0 ⟨![5, 0], S512x128.size, ![8, 1], inb_S4096x128_S512x128_5_0_s_8_1⟩) (pick x0 ⟨![6, 0], S512x128.size, ![8, 1], inb_S4096x128_S512x128_6_0_s_8_1⟩) (pick x0 ⟨![7, 0], S512x128.size, ![8, 1], inb_S4096x128_S512x128_7_0_s_8_1⟩) (pick x1 (Rect.unit (s := S1x1024x2816) ![0, 0, 0] S1x1024x1024.size inb_S1x1024x2816_S1x1024x1024_0_0_0).toLoadRect) (pick x2 (Rect.unit (s := S1x1024x2816) ![0, 0, 0] S1x1024x1024.size inb_S1x1024x2816_S1x1024x1024_0_0_0).toLoadRect) (pick x3 (Rect.unit (s := S1x2816x1024) ![0, 0, 0] S1x1024x1024.size inb_S1x2816x1024_S1x1024x1024_0_0_0).toLoadRect))
    (k0_pay8 (pick x0 ⟨![0, 0], S512x128.size, ![8, 1], inb_S4096x128_S512x128_0_0_s_8_1⟩) (pick x0 ⟨![1, 0], S512x128.size, ![8, 1], inb_S4096x128_S512x128_1_0_s_8_1⟩) (pick x0 ⟨![2, 0], S512x128.size, ![8, 1], inb_S4096x128_S512x128_2_0_s_8_1⟩) (pick x0 ⟨![3, 0], S512x128.size, ![8, 1], inb_S4096x128_S512x128_3_0_s_8_1⟩) (pick x0 ⟨![4, 0], S512x128.size, ![8, 1], inb_S4096x128_S512x128_4_0_s_8_1⟩) (pick x0 ⟨![5, 0], S512x128.size, ![8, 1], inb_S4096x128_S512x128_5_0_s_8_1⟩) (pick x0 ⟨![6, 0], S512x128.size, ![8, 1], inb_S4096x128_S512x128_6_0_s_8_1⟩) (pick x0 ⟨![7, 0], S512x128.size, ![8, 1], inb_S4096x128_S512x128_7_0_s_8_1⟩) (pick x1 (Rect.unit (s := S1x1024x2816) ![0, 0, 1024] S1x1024x1024.size inb_S1x1024x2816_S1x1024x1024_0_0_1024).toLoadRect))
    (pick x2 (Rect.unit (s := S1x1024x2816) ![0, 0, 1024] S1x1024x1024.size inb_S1x1024x2816_S1x1024x1024_0_0_1024).toLoadRect) (pick x3 (Rect.unit (s := S1x2816x1024) ![0, 1024, 0] S1x1024x1024.size inb_S1x2816x1024_S1x1024x1024_0_1024_0).toLoadRect) (pick x1 (Rect.unit (s := S1x1024x2816) ![0, 0, 2048] S1x1024x768.size inb_S1x1024x2816_S1x1024x768_0_0_2048).toLoadRect) (pick x2 (Rect.unit (s := S1x1024x2816) ![0, 0, 2048] S1x1024x768.size inb_S1x1024x2816_S1x1024x768_0_0_2048).toLoadRect) (pick x3 (Rect.unit (s := S1x2816x1024) ![0, 2048, 0] S1x768x1024.size inb_S1x2816x1024_S1x768x1024_0_2048_0).toLoadRect)

/-- 512 tokens laid out as a tile's rows, eight rows of 128 lanes to a token. -/
def spread (z : FVec F S512x1024 .f32) : Vec F S4096x128 .f32 := fun y =>
  z (ix2 ⟨(y 0).val / 8, by have := (y 0).isLt; change (y 0).val < 4096 at this; omega⟩
    ⟨(y 0).val % 8 * 128 + (y 1).val, by have := (y 1).isLt; change (y 1).val < 128 at this; omega⟩)

/-- The word of the tile at grid coordinates `i`. -/
def tileWord (w : S104.Idx → BitVec 32) (i : grid0.Coords) : BitVec 32 := w (ix1 (i 0))

/-- What the body leaves of the tile with word `v`. -/
def out (v : BitVec 32) (x0 : Vec F S4096x128 .f32) (x1 x2 : Vec F S1x1024x2816 .bf16) (x3 : Vec F S1x2816x1024 .bf16) : Vec F S4096x128 .f32 :=
  if k0_cond1 v = 1#1 then spread (ffn x0 x1 x2 x3) else k0_pay5

theorem cond1_iff (v : BitVec 32) : k0_cond1 v = 1#1 ↔ v ≠ 0#32 := by
  by_cases h : v = 0#32
  · subst h; decide
  · simp [k0_cond1, Scalar.cmpi, Scalar.extui, WordCmp.cmpi_ne_eq, h]

theorem cond2_iff (v : BitVec 32) : k0_cond2 v = 1#1 ↔ v = 0#32 := by
  by_cases h : v = 0#32
  · subst h; decide
  · simp [k0_cond2, Scalar.cmpi, Scalar.extui, WordCmp.cmpi_eq_eq, WordCmp.cmpi_ne_eq, h]

theorem cond_exclusive (v : BitVec 32) : k0_cond2 v = 1#1 ↔ ¬ k0_cond1 v = 1#1 := by
  rw [cond1_iff, cond2_iff, not_not]

/-- Column block `j` of the tokens, stored at every eighth row from `j`, is a part of the whole layout. -/
theorem piece_spread (z : FVec F S512x1024 .f32) (j : ℕ) (hj : j < 8) (off : Fin 2 → ℕ) (ho : off = ![0, 128 * j])
    (hs : S512x1024.Slices off S512x128) (hi) (hp) (x : S512x128.Idx) :
    extractStridedSlice S512x128 off z hs x
      = spread z ((⟨⟨![j, 0], S512x128.size, ![8, 1], hi⟩, hp⟩ : Rect S4096x128).emb x) := by
  subst ho
  have e : ∀ a, (((⟨⟨![j, 0], S512x128.size, ![8, 1], hi⟩, hp⟩ : Rect S4096x128).emb x) a).val
      = (![j, 0] : Fin 2 → ℕ) a + (![8, 1] : Fin 2 → ℕ) a * (x a).val := fun a => rfl
  have e0 := e 0; have e1 := e 1
  simp at e0 e1
  have h1 := (x 1).isLt; change (x 1).val < 128 at h1
  unfold extractStridedSlice spread
  refine congrArg z (funext fun a => Fin.ext ?_)
  fin_cases a
  · show 0 + (x 0).val = _ / 8
    rw [e0]; omega
  · show 128 * j + (x 1).val = _ % 8 * 128 + _
    rw [e0, e1]; omega

/-- A row lies in the piece of its remainder by eight. -/
theorem mem_rows (j : ℕ) (hi) (hp) (y : S4096x128.Idx) (h : (y 0).val % 8 = j) :
    y ∈ (⟨⟨![j, 0], S512x128.size, ![8, 1], hi⟩, hp⟩ : Rect S4096x128).set := by
  have h0 := (y 0).isLt; change (y 0).val < 4096 at h0
  have h1 := (y 1).isLt; change (y 1).val < 128 at h1
  refine (LoadRect.mem_set _).mpr fun a => ?_
  fin_cases a
  · exact ⟨(y 0).val / 8, by show _ < 512; omega, by show (y 0).val = j + 8 * ((y 0).val / 8); omega⟩
  · exact ⟨(y 1).val, h1, by show (y 1).val = 0 + 1 * (y 1).val; omega⟩

set_option maxHeartbeats 1000000 in
/-- What the run leaves in the output's buffer, over whatever the buffer held. -/
theorem run_out (c : Dev nD) (i : grid0.Coords) (arg3 : Memref sig .tc .vmem S4096x128 .f32) (harg3 : arg3.IsWhole)
    (arg4 : Memref sig .tc .vmem S1x1024x2816 .bf16) (harg4 : arg4.IsWhole) (arg5 : Memref sig .tc .vmem S1x1024x2816 .bf16) (harg5 : arg5.IsWhole)
    (arg6 : Memref sig .tc .vmem S1x2816x1024 .bf16) (harg6 : arg6.IsWhole) (arg7 : Memref sig .tc .vmem S4096x128 .f32) (harg7 : arg7.IsWhole)
    (x0 : Vec F S4096x128 .f32) (x1 x2 : Vec F S1x1024x2816 .bf16) (x3 : Vec F S1x2816x1024 .bf16)
    (w0 : TableBuf (F := F) c experts) (w1 : TableBuf (F := F) c valids) (f) :
    View.read (Elt F) arg7.view ((run c i arg3 harg3 arg4 harg4 arg5 harg5 arg6 harg6 arg7 harg7 x0 x1 x2 x3 w0 w1).1 f)
      = out (tileWord w1 i) x0 x1 x2 x3 := by
  have hw1 : run.sl.r c i w1 = tileWord w1 i := by
    unfold run.sl.r
    refine congrArg w1 (funext fun a => Fin.ext ?_)
    fin_cases a
    have hb := (i 0).isLt; change (i 0).val < 104 at hb
    show (BitVec.ofNat 32 (i 0).val).toNat + 1 * 0 = (i 0).val
    rw [BitVec.toNat_ofNat, Nat.mod_eq_of_lt (by omega)]; rfl
  have hw2 : run.sl.r_6 c i w1 = tileWord w1 i := hw1
  have h1 : run.sl.r_1 c arg3 harg3 x0 = tokens x0 := by unfold run.sl.r_1 tokens; simp only [readAt_unread]
  have h2 : run.sl.r_4 c arg3 harg3 arg4 harg4 arg5 harg5 arg6 harg6 x0 x1 x2 x3 = ffn x0 x1 x2 x3 := by
    unfold run.sl.r_4 run.sl.r_2 run.sl.r_3 ffn
    rw [h1]; simp only [readAt_unread]
  unfold run; dsimp only
  rw [hw1, hw2]
  by_cases hv : k0_cond1 (tileWord w1 i) = 1#1
  · rw [dif_neg (fun h => (cond_exclusive _).mp h hv), dif_pos hv]
    unfold out; rw [if_pos hv]
    funext y
    refine View.read_writes_apply_of_pieces _ _ (spread (ffn x0 x1 x2 x3)) _ ?_ y ?_
    · rw [← h2]
      have key := piece_spread (run.sl.r_4 c arg3 harg3 arg4 harg4 arg5 harg5 arg6 harg6 x0 x1 x2 x3)
      intro p hp
      simp only [List.mem_cons, List.not_mem_nil, or_false] at hp
      obtain rfl | rfl | rfl | rfl | rfl | rfl | rfl | rfl := hp <;> intro x
      · exact key 7 (by decide) ![0, 896] rfl slices_S512x1024_o0_896_S512x128 inb_S4096x128_S512x128_7_0_s_8_1 spos_8_1 x
      · exact key 6 (by decide) ![0, 768] rfl slices_S512x1024_o0_768_S512x128 inb_S4096x128_S512x128_6_0_s_8_1 spos_8_1 x
      · exact key 5 (by decide) ![0, 640] rfl slices_S512x1024_o0_640_S512x128 inb_S4096x128_S512x128_5_0_s_8_1 spos_8_1 x
      · exact key 4 (by decide) ![0, 512] rfl slices_S512x1024_o0_512_S512x128 inb_S4096x128_S512x128_4_0_s_8_1 spos_8_1 x
      · exact key 3 (by decide) ![0, 384] rfl slices_S512x1024_o0_384_S512x128 inb_S4096x128_S512x128_3_0_s_8_1 spos_8_1 x
      · exact key 2 (by decide) ![0, 256] rfl slices_S512x1024_o0_256_S512x128 inb_S4096x128_S512x128_2_0_s_8_1 spos_8_1 x
      · exact key 1 (by decide) ![0, 128] rfl slices_S512x1024_o0_128_S512x128 inb_S4096x128_S512x128_1_0_s_8_1 spos_8_1 x
      · exact key 0 (by decide) ![0, 0] rfl slices_S512x1024_o0_0_S512x128 inb_S4096x128_S512x128_0_0_s_8_1 spos_8_1 x
    · obtain hy | hy | hy | hy | hy | hy | hy | hy : (y 0).val % 8 = 7 ∨ (y 0).val % 8 = 6 ∨ (y 0).val % 8 = 5 ∨ (y 0).val % 8 = 4
          ∨ (y 0).val % 8 = 3 ∨ (y 0).val % 8 = 2 ∨ (y 0).val % 8 = 1 ∨ (y 0).val % 8 = 0 := by omega
      · exact ⟨_, .head _, mem_rows _ _ _ _ hy⟩
      · exact ⟨_, .tail _ (.head _), mem_rows _ _ _ _ hy⟩
      · exact ⟨_, .tail _ (.tail _ (.head _)), mem_rows _ _ _ _ hy⟩
      · exact ⟨_, .tail _ (.tail _ (.tail _ (.head _))), mem_rows _ _ _ _ hy⟩
      · exact ⟨_, .tail _ (.tail _ (.tail _ (.tail _ (.head _)))), mem_rows _ _ _ _ hy⟩
      · exact ⟨_, .tail _ (.tail _ (.tail _ (.tail _ (.tail _ (.head _))))), mem_rows _ _ _ _ hy⟩
      · exact ⟨_, .tail _ (.tail _ (.tail _ (.tail _ (.tail _ (.tail _ (.head _)))))), mem_rows _ _ _ _ hy⟩
      · exact ⟨_, .tail _ (.tail _ (.tail _ (.tail _ (.tail _ (.tail _ (.tail _ (.head _))))))), mem_rows _ _ _ _ hy⟩
  · rw [dif_pos ((cond_exclusive _).mpr hv), dif_neg hv]
    unfold out; rw [if_neg hv]
    funext y
    refine View.read_writes_apply_of_pieces (Val := Elt F) (e := .f32) _ _ (k0_pay5 (F := F)) _ ?_ y ?_
    · intro p hp
      obtain rfl := List.mem_singleton.mp hp
      exact fun x => rfl
    · refine ⟨_, .head _, (Rect.mem_set_unit (inb := inb_S4096x128_S4096x128_0_0)).mpr fun a => ?_⟩
      have h := (y a).isLt
      fin_cases a <;> exact ⟨Nat.zero_le _, by simpa using h⟩

end Cert.Grouped

end
-- ==== Proof.GroupedFrame.lean ====
/- The run of the grouped experts' program: what every point leaves, the body's obligation at a point, the whole
   program's final state, and from it that the arguments end as they began and every semaphore at zero. -/
module

public import proofs.«01_k».proof.Proof.GroupedBody

@[expose] public section

set_option maxRecDepth 16384

noncomputable section

namespace Cert.Grouped

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffers the body has at point `t`, and that each is a whole buffer. -/
abbrev stRows (h : Named m) (t : Fin (pipe m h).N) : Memref sig .tc .vmem S4096x128 .f32 := spec0_0.stage ((pipe m h).slots t 0)
abbrev stGate (h : Named m) (t : Fin (pipe m h).N) : Memref sig .tc .vmem S1x1024x2816 .bf16 := spec0_1.stage ((pipe m h).slots t 1)
abbrev stUp (h : Named m) (t : Fin (pipe m h).N) : Memref sig .tc .vmem S1x1024x2816 .bf16 := spec0_2.stage ((pipe m h).slots t 2)
abbrev stDown (h : Named m) (t : Fin (pipe m h).N) : Memref sig .tc .vmem S1x2816x1024 .bf16 := spec0_3.stage ((pipe m h).slots t 3)
abbrev stOut (h : Named m) (t : Fin (pipe m h).N) : Memref sig .tc .vmem S4096x128 .f32 := spec0_4.stage ((pipe m h).slots t 4)

/-- The body at point `t`. -/
abbrev bodyAt (h : Named m) (t : Fin (pipe m h).N) : Prog (TpuEff nD τ sig (Elt F) Λ₀ .tc) PUnit :=
  cc0_ffn_grouped (F := F) (grid0.coords t) experts (Memref.isWhole_whole _) valids (Memref.isWhole_whole _)
    (stRows m h t) (hstage0_0 (((pipe m h).slots t 0).cast nbuf0_0))
    (stGate m h t) (hstage0_1 (((pipe m h).slots t 1).cast nbuf0_1))
    (stUp m h t) (hstage0_2 (((pipe m h).slots t 2).cast nbuf0_2))
    (stDown m h t) (hstage0_3 (((pipe m h).slots t 3).cast nbuf0_3))
    (stOut m h t) (hstage0_4 (((pipe m h).slots t 4).cast nbuf0_4))

/-- What the output's buffer holds after point `t`. -/
def left (h : Named m) (c : Dev nD) (t : Fin (pipe m h).N) : Vec F S4096x128 .f32 :=
  out (tileWord (words m 1) (grid0.coords t)) (iblk m h c 0 t) (iblk m h c 1 t) (iblk m h c 2 t) (iblk m h c 3 t)

/-- The pipeline's data: the arrays at entry, an input's buffer left at its block, the output's at `left`. -/
def dats (h : Named m) (_ : Fin 1) (c : Dev nD) : Dat τ (Elt F) Unit ℕ (UR sig nD τ) ℕ (pipe m h) c where
  A w := atEntry m c (Pipeline.arrRef spec0 w)
  after w t := match w with
    | ⟨0, _⟩ => iblk m h c 0 t
    | ⟨1, _⟩ => iblk m h c 1 t
    | ⟨2, _⟩ => iblk m h c 2 t
    | ⟨3, _⟩ => iblk m h c 3 t
    | ⟨4, _⟩ => left m h c t
  Φ _ := iprop(Pipeline.ΦA spec0 c ∗ Pipeline.ΦT pre0 (words m) c)
  q w := Pipeline.shareOf spec0 w
  owed _ := 0

theorem arr_entry (h : Named m) (c : Dev nD) (w : Fin (pipe m h).W) : (dats m h 0 c).A w = atEntry m c (Pipeline.arrRef spec0 w) := by
  dsimp only [dats]

theorem after_rows (h : Named m) (c : Dev nD) (t : Fin (pipe m h).N) : (dats m h 0 c).after 0 t = iblk m h c 0 t := by dsimp only [dats]; try rfl
theorem after_gate (h : Named m) (c : Dev nD) (t : Fin (pipe m h).N) : (dats m h 0 c).after 1 t = iblk m h c 1 t := by dsimp only [dats]; try rfl
theorem after_up (h : Named m) (c : Dev nD) (t : Fin (pipe m h).N) : (dats m h 0 c).after 2 t = iblk m h c 2 t := by dsimp only [dats]; try rfl
theorem after_down (h : Named m) (c : Dev nD) (t : Fin (pipe m h).N) : (dats m h 0 c).after 3 t = iblk m h c 3 t := by dsimp only [dats]; try rfl
theorem after_out (h : Named m) (c : Dev nD) (t : Fin (pipe m h).N) : (dats m h 0 c).after 4 t = left m h c t := by dsimp only [dats]; try rfl

/-- What the body starts from at point `t`, and what it must hand back. -/
def startAt (h : Named m) (c : Dev nD) (t : Fin (pipe m h).N) : sProp 𝕄 :=
  iprop((dats m h 0 c).Φ t.castSucc ∗ (dats m h 0 c).owesAt () t.castSucc
    ∗ (∃ d, owns (c : Thread nD τ) (stRows m h t) fullShare ((dats m h 0 c).before 0 t d))
    ∗ (∃ d, owns (c : Thread nD τ) (stGate m h t) fullShare ((dats m h 0 c).before 1 t d))
    ∗ (∃ d, owns (c : Thread nD τ) (stUp m h t) fullShare ((dats m h 0 c).before 2 t d))
    ∗ (∃ d, owns (c : Thread nD τ) (stDown m h t) fullShare ((dats m h 0 c).before 3 t d))
    ∗ (∃ d, owns (c : Thread nD τ) (stOut m h t) fullShare ((dats m h 0 c).before 4 t d)))
def endAt (h : Named m) (c : Dev nD) (t : Fin (pipe m h).N) : sProp 𝕄 :=
  iprop((dats m h 0 c).Φ t.succ ∗ (dats m h 0 c).owesAt () t.succ
    ∗ owns (c : Thread nD τ) (stRows m h t) fullShare ((dats m h 0 c).after 0 t)
    ∗ owns (c : Thread nD τ) (stGate m h t) fullShare ((dats m h 0 c).after 1 t)
    ∗ owns (c : Thread nD τ) (stUp m h t) fullShare ((dats m h 0 c).after 2 t)
    ∗ owns (c : Thread nD τ) (stDown m h t) fullShare ((dats m h 0 c).after 3 t)
    ∗ owns (c : Thread nD τ) (stOut m h t) fullShare ((dats m h 0 c).after 4 t))

theorem body_sound (h : Named m) (c : Dev nD) (t : Fin (pipe m h).N) :
    startAt m h c t ⊢ wp frame (wpE (defs₀ (F := F)) Variants.none c none) Set.univ (bodyAt m h t) (fun _ => endAt m h c t) := by
  unfold startAt endAt
  simp only [before_rows m h (dats m h 0 c) (arr_entry m h c 0) (after_rows m h c), before_gate m h (dats m h 0 c) (arr_entry m h c 1) (after_gate m h c),
    before_up m h (dats m h 0 c) (arr_entry m h c 2) (after_up m h c), before_down m h (dats m h 0 c) (arr_entry m h c 3) (after_down m h c)]
  rw [show (dats m h 0 c).Φ t.succ = (dats m h 0 c).Φ t.castSucc from rfl,
    show (dats m h 0 c).owesAt () t.succ = (dats m h 0 c).owesAt () t.castSucc from rfl,
    after_rows, after_gate, after_up, after_down, after_out,
    show (dats m h 0 c).Φ t.castSucc = iprop(Pipeline.ΦA spec0 c ∗ Pipeline.ΦT pre0 (words m) c) from rfl, tables_held]
  iintro ⟨⟨HΦ, ⟨HT0, HT1⟩⟩, Ho, ⟨%d0, H0⟩, ⟨%d1, H1⟩, ⟨%d2, H2⟩, ⟨%d3, H3⟩, ⟨%d4, H4⟩⟩
  iapply ((run c (grid0.coords t) _ _ _ _ _ _ _ _ _ _ (iblk m h c 0 t) (iblk m h c 1 t) (iblk m h c 2 t) (iblk m h c 3 t) (words m 0) (words m 1)).2 Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, ⟨%e4, H4⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  unfold owns; iexists _; isplitr
  swap; · iexact H4
  ipureintro
  exact run_out c (grid0.coords t) _ _ _ _ _ _ _ _ _ _ _ _ _ _ _ _ _

theorem body_row (h : Named m) (t : Fin (pipe m h).N) :
    defs₀ (F := F) .tc (pipe m h).body ((pipe m h).bodyArgs t ((pipe m h).slots t)) = bodyAt m h t := by
  unfold defs₀; rw [Defs.onTc_tc]

/-- Every point stores its block of the output: its word is either set or clear. -/
theorem always_stored (h : Named m) (i : grid0.Coords) : (pipe m h).idle 4 i = false := by
  have e : (pipe m h).idle 4 i = (!(k0_cond1 ((words m).atD 1 (k0_off1 i)) == 1#1) && !(k0_cond2 ((words m).atD 1 (k0_off1 i)) == 1#1)) := rfl
  rw [e]
  by_cases hv : k0_cond1 ((words m).atD 1 (k0_off1 i)) = 1#1
  · simp [hv]
  · simp [(cond_exclusive _).mpr hv]

theorem obligation (h : Named m) (c : Dev nD) : BodyObligation (dats (F := F) m h 0 c) (defs₀ (F := F)) Variants.none () Set.univ := fun t => by
  rw [bigSep_W0, bigSep_W0, body_row m h]
  refine triple_restated (body_sound m h c t) rfl .rfl fun _ => ?_
  rw [always_stored m h]
  exact .rfl

set_option backward.isDefEq.respectTransparency.types false in
/-- Every execution ends, with the arrays at what the points left and every semaphore at zero. -/
theorem ends (h : Named m) : θ_run defs (onTc (τ := τ) (main (F := F))) (s₀ m ρ)
    (fun r => (Pipeline.FramePost (Pipeline.pin pcfgs fun _ => named m h) (dats m h) 0 (atEntry m)) r ∧ r.2.sem = fun _ => 0) :=
  Pipeline.θ_run_frameP_shared (Q' := _) pcfgs (fun _ => named m h) (dats m h) (0 : Fin 1) launch₀0 defs₀ Variants.none m ρ main
    (hbody := fun c => (obligation m h c).loose) (hq := fun _ _ _ => rfl)
    (howed := fun _ _ => rfl) (V := atEntry m) (hmain := to_region m Variants.none) (hA := arr_entry m h) (hpf := entry_words m)
    (hΦ := fun _ _ => rfl)

/-- The arguments end unchanged, and the result is what the points wrote back. -/
theorem final (h : Named m) : θ_run defs (onTc (τ := τ) (main (F := F))) (s₀ m ρ) (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v4) = (dats m h 0 c).arrAt 4 (pipe m h).N)
      ∧ r.2.sem = fun _ => 0) := by
  refine (θ_run defs _ _).mono (fun r hr => ⟨fun c => ?_, hr.2⟩) (ends m ρ h)
  have hc := hr.1 c
  have kept (b : Ref sig .tc) (hb : b ∈ Pipeline.restRefs sig spec0) (hn : b ≠ main_v0 ∧ b ≠ main_v1 ∧ b ≠ main_v2 ∧ b ≠ main_v3) :
      r.2.mem ((c.tc : Thread nD τ).loc b) = m ((c.tc : Thread nD τ).loc b) := (hc.2 b hb).trans (entry_kept m c b hn)
  exact ⟨⟨kept main_arg0 (by decide) (by decide), kept main_arg1 (by decide) (by decide),
    (hc.1 0).trans (((dats m h 0 c).arrAt_in 0 rfl _).trans ((arr_entry m h c 0).trans (entry_kept m c main_arg2 (by decide)))),
    kept main_arg3 (by decide) (by decide), kept main_arg4 (by decide) (by decide)⟩, hc.1 4⟩

end Cert.Grouped

end
-- ==== Proof.GroupedTables.lean ====
/- The experts' words: each of the three weight windows takes the block its tile's word names, and with every word in
   the range of the experts those blocks lie in the weights. -/
module

public import proofs.«01_k».proof.Proof.GroupedFrame
public import proofs.«01_k».proof.Proof.Gen.Pre_expert_range
public import Idealize.ShloMosaic.Lib.ReduceAll

@[expose] public section

set_option maxRecDepth 16384

noncomputable section

namespace Cert.Grouped

open Idealize.ShloMosaic Idealize.ShloMosaic.TcCoe Idealize.SL.Sem
open Cert.ExpertsIdeal Cert.ExpertsIdeal.Gen

variable {F : FTy → Type} [FloatOps F]

variable (m : (ℓ : Loc nD τ sig) → Buf (Elt F) ℓ)

/-- The word an index map reads of a table is its tile's. -/
theorem read_word (pf : pre0.Contents (Elt F)) (i : grid0.Coords) (off : Fin 1 → ℕ) (ho : off = k0_off1 i)
    (h : ∀ a, off a + S1.size a ≤ S104.size a) (h1 : S1.numel = 1) :
    pf.at 0 (Rect.unit (s := S104) off S1.size h) h1 = tileWord (pf 0) i := by
  subst ho
  refine congrArg (pf 0) (funext fun a => Fin.ext ?_)
  fin_cases a
  have hb := (i 0).isLt; change (i 0).val < 104 at hb
  show (BitVec.ofNat 32 (i 0).val).toNat + 1 * 0 = (i 0).val
  rw [BitVec.toNat_ofNat, Nat.mod_eq_of_lt (by omega)]; rfl

theorem gate_block (pf : pre0.Contents (Elt F)) (i : grid0.Coords) :
    cc0_transform_1 k0_off1_inb numel1_S1 pf i = ![(tileWord (pf 0) i).toNat, 0, 0] :=
  congrArg (fun w : BitVec 32 => ![w.toNat, 0, 0]) (read_word pf i _ rfl (k0_off1_inb i) numel1_S1)
theorem up_block (pf : pre0.Contents (Elt F)) (i : grid0.Coords) :
    cc0_transform_2 k0_off1_inb numel1_S1 pf i = ![(tileWord (pf 0) i).toNat, 0, 1] :=
  congrArg (fun w : BitVec 32 => ![w.toNat, 0, 1]) (read_word pf i _ rfl (k0_off1_inb i) numel1_S1)
theorem down_block (pf : pre0.Contents (Elt F)) (i : grid0.Coords) :
    cc0_transform_3 k0_off1_inb numel1_S1 pf i = ![(tileWord (pf 0) i).toNat, 0, 0] :=
  congrArg (fun w : BitVec 32 => ![w.toNat, 0, 0]) (read_word pf i _ rfl (k0_off1_inb i) numel1_S1)

/-- Every tile's word names one of the eight experts. -/
def InRange (w : S104.Idx → BitVec 32) : Prop := ∀ k, (w k).toNat < 8

theorem named_of_range (h : InRange (words m 0)) : Named m := by
  unfold Named ok0
  have hb (i : grid0.Coords) : (tileWord (words m 0) i).toNat < 8 := h _
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · rw [gate_block]; have := hb i
    fin_cases a
    · show ((tileWord (words m 0) i).toNat + 1) * 1 ≤ 8; omega
    · exact (by decide : (0 + 1) * 1024 ≤ 1024)
    · exact (by decide : (0 + 1) * 2816 ≤ 5632)
  · rw [up_block]; have := hb i
    fin_cases a
    · show ((tileWord (words m 0) i).toNat + 1) * 1 ≤ 8; omega
    · exact (by decide : (0 + 1) * 1024 ≤ 1024)
    · exact (by decide : (1 + 1) * 2816 ≤ 5632)
  · rw [down_block]; have := hb i
    fin_cases a
    · show ((tileWord (words m 0) i).toNat + 1) * 1 ≤ 8; omega
    · exact (by decide : (0 + 1) * 2816 ≤ 2816)
    · exact (by decide : (0 + 1) * 1024 ≤ 1024)

theorem range_of_pre (a0 a1 : IVec Cert.Pre_expert_range.S104 32) (a2 : FVec F Cert.Pre_expert_range.S425984x128 .f32)
    (a3 : FVec F Cert.Pre_expert_range.S1x8x1024x5632 .f32) (a4 : FVec F Cert.Pre_expert_range.S1x8x2816x1024 .f32)
    (h : Cert.Pre_expert_range.fn a0 a1 a2 a3 a4 = fun _ => 1#1) : InRange a0 := by
  intro k
  have e := congrFun h ix0
  unfold Cert.Pre_expert_range.fn at e
  dsimp only at e
  obtain ⟨e0, e1⟩ := IntOp.andi_eq_one.1 (Host.reduce_andi_all _ _ _ _ _ e k)
  have h0 : (0#32).toInt ≤ (a0 k).toInt := (WordCmp.ofBool_decide_eq_one_iff _).1 ((WordCmp.cmpi_sge_eq (a0 k) 0#32).symm.trans e0)
  have h1 : (a0 k).toInt < (8#32).toInt := (WordCmp.ofBool_decide_eq_one_iff _).1 ((WordCmp.cmpi_slt_eq (a0 k) 8#32).symm.trans e1)
  have z0 : (0#32).toInt = 0 := rfl
  have z1 : (8#32).toInt = 8 := rfl
  rw [z0] at h0; rw [z1] at h1
  have := BitVec.toInt_eq_toNat_cond (a0 k)
  have := (a0 k).isLt
  split at * <;> omega

/-- The words of the program's precondition. -/
theorem words_in_range [Cert.Pre_expert_range.Facts]
    (h : ∀ c : Dev nD, Cert.Pre_expert_range.fn (F := F) (m (c.tc.loc main_arg0)) (m (c.tc.loc main_arg1))
      (m (c.tc.loc main_arg2)) (m (c.tc.loc main_arg3)) (m (c.tc.loc main_arg4)) = fun _ => 1#1) :
    InRange (words m 0) := by
  have e : words m 0 = m ((0 : Dev nD).tc.loc main_arg0) := entry_kept m 0 main_arg0 (by decide)
  rw [e]
  exact range_of_pre _ _ _ _ _ (h 0)

/-- The run of the call, its words in the range: it ends, keeps its arguments, and leaves the semaphores at zero. -/
theorem frame [Cert.Pre_expert_range.Facts] (g : Dev nD → PrngReg)
    (h : ∀ c : Dev nD, Cert.Pre_expert_range.fn (F := F) (m (c.tc.loc main_arg0)) (m (c.tc.loc main_arg1))
      (m (c.tc.loc main_arg2)) (m (c.tc.loc main_arg3)) (m (c.tc.loc main_arg4)) = fun _ => 1#1) :
    θ_run (defs (F := F)) (onTc (τ := τ) (main (F := F))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  (θ_run _ _ _).mono (fun r e => ⟨fun c => (e.1 c).1, e.2⟩) (final m g (named_of_range m (words_in_range m h)))

end Cert.Grouped

end
-- ==== Proof.GroupedBits.lean ====
/- The two readings of the experts' call, over floats' words and over extended reals, are one text: the frame of the
   one is the frame of the other. -/
module

public import proofs.«01_k».proof.Proof.GroupedTables
public import proofs.«01_k».proof.Proof.Gen.Experts
public import proofs.«01_k».proof.Defs

@[expose] public section

set_option maxRecDepth 16384

noncomputable section

namespace Cert.Grouped

open Idealize.ShloMosaic Idealize.SL.Sem

/-- The body tables of the two texts. -/
theorem bodies_same {F : FTy → Type} [FloatOps F] (h : Cert.Experts.Facts) (h' : Cert.ExpertsIdeal.Facts) :
    @Cert.Experts.defs₀ F _ h = @Cert.ExpertsIdeal.defs₀ F _ h' := by
  refine congrArg Defs.onTc (funext fun l => funext fun x => ?_)
  match l, x with
  | 0, (t, s) => rfl
  | ⟨_ + 1, hl⟩, _ => exact absurd hl (Nat.not_lt.2 (Nat.le_add_left _ _))

theorem tables_same {F : FTy → Type} [FloatOps F] (h : Cert.Experts.Facts) (h' : Cert.ExpertsIdeal.Facts) :
    @Cert.Experts.defs F _ h = @Cert.ExpertsIdeal.defs F _ h' :=
  congrArg (Pipeline.defs (@Cert.ExpertsIdeal.pcfgs F _ h')) (bodies_same h h')

theorem frame_bits : Cert.quiescent_Experts := by
  intro m g h
  have e := frame (F := Bits) m g h
  rw [← tables_same (F := Bits) inferInstance inferInstance] at e
  exact e

theorem frame_ideal : Cert.quiescent_ExpertsIdeal := fun m g h => frame (F := Ideal) m g h

end Cert.Grouped

end
-- ==== Proof.Swiglu.lean ====
/- A gated feed-forward over the extended reals: hidden units from a gate and an up projection, and the projection down. -/
module

public import Idealize.ShloMosaic.Lib.IdealHost
public import Idealize.ShloMosaic.Lib.Pointwise

@[expose] public section

noncomputable section

namespace Cert.Swiglu

open Idealize.ShloMosaic

/-- A gated unit: the gate through its sigmoid, times the up value. -/
def gated (g u : EReal) : EReal := g * Ideal.logistic g * u

/-- The gated feed-forward of one token `x`, at one output. -/
def swiglu {n : ℕ} (x : Fin 1024 → EReal) (wg wu : Fin 1024 → Fin n → EReal) (wd : Fin n → EReal) : EReal :=
  ∑ f, gated (∑ k, x k * wg k f) (∑ k, x k * wu k f) * wd f

/-- The hidden units in three blocks. -/
theorem swiglu_blocks (x : Fin 1024 → EReal) (wg wu : Fin 1024 → Fin 2816 → EReal) (wd : Fin 2816 → EReal) :
    swiglu x wg wu wd
      = swiglu x (fun k (f : Fin 1024) => wg k ⟨f, by omega⟩) (fun k f => wu k ⟨f, by omega⟩) (fun f => wd ⟨f, by omega⟩)
        + swiglu x (fun k (f : Fin 1024) => wg k ⟨1024 + f, by omega⟩) (fun k f => wu k ⟨1024 + f, by omega⟩) (fun f => wd ⟨1024 + f, by omega⟩)
        + swiglu x (fun k (f : Fin 768) => wg k ⟨2048 + f, by omega⟩) (fun k f => wu k ⟨2048 + f, by omega⟩) (fun f => wd ⟨2048 + f, by omega⟩) := by
  unfold swiglu
  exact (Fin.sum_univ_add (a := 1024 + 1024) (b := 768)
    (fun f : Fin 2816 => gated (∑ k, x k * wg k f) (∑ k, x k * wu k f) * wd f)).trans
    (congrArg (· + _) (Fin.sum_univ_add (a := 1024) (b := 1024)
      (fun f : Fin 2048 => gated (∑ k, x k * wg k ⟨f, by omega⟩) (∑ k, x k * wu k ⟨f, by omega⟩) * wd ⟨f, by omega⟩)))

/-- The gates pick one of eight terms, or none. -/
theorem pick_one (b : Prop) [Decidable b] (e : Fin 8) (s : Fin 8 → EReal) (g : Fin 8 → EReal)
    (hg : ∀ k, g k = (if e = k then 1 else 0) * (if b then 1 else 0)) :
    0 + g 0 * s 0 + g 1 * s 1 + g 2 * s 2 + g 3 * s 3 + g 4 * s 4 + g 5 * s 5 + g 6 * s 6 + g 7 * s 7
      = if b then s e else 0 := by
  simp only [hg]
  by_cases h : b
  · simp only [h, if_true]
    fin_cases e <;> simp
  · simp [h]

end Cert.Swiglu

end
-- ==== Proof.GroupedCell.lean ====
/- One tile's body over the extended reals, at an element. -/
module

public import proofs.«01_k».proof.Proof.GroupedBody
public import proofs.«01_k».proof.Proof.Swiglu
public import Idealize.ShloMosaic.Lib.Pipeline.ValueKit

@[expose] public section

set_option maxRecDepth 16384

noncomputable section

namespace Cert.Grouped

open Idealize.ShloMosaic Idealize.ShloMosaic.TcCoe Idealize.SL.Sem
open Cert.ExpertsIdeal Cert.ExpertsIdeal.Gen Cert.Swiglu

/-- Every eighth row from `j`, at an index. -/
theorem eighth_apply (x : Vec Ideal S4096x128 .f32) (j : ℕ) (hi) (r : Fin 512) (l : Fin 128) (R : Fin 4096) (L : Fin 128)
    (hR : (R : ℕ) = r * 8 + j) (hL : (L : ℕ) = l) :
    pick x (⟨![j, 0], S512x128.size, ![8, 1], hi⟩ : LoadRect S4096x128) (ix2 r l) = x (ix2 R L) := by
  refine congrArg x (funext fun i => Fin.ext ?_)
  fin_cases i
  · show j + 8 * (r : ℕ) = (R : ℕ); omega
  · show 0 + 1 * (l : ℕ) = (L : ℕ); omega

/-- A token's entry, among the tile's rows. -/
theorem tokens_apply (x0 : Vec Ideal S4096x128 .f32) (r : Fin 512) (k : Fin 1024) :
    tokens x0 (ix2 r k) = x0 (ix2 ⟨r * 8 + k / 128, by omega⟩ ⟨k % 128, by omega⟩) := by
  unfold tokens k0_pay6
  pointwise
  split_ifs <;> exact eighth_apply x0 _ _ _ _ _ _ (by dsimp only; omega) (by dsimp only; omega)

/-- A projection to 1024 hidden units, and to 768. -/
def project (t : FVec Ideal S512x1024 .bf16) (w : Vec Ideal S1x1024x1024 .bf16) : FVec Ideal S512x1024 .f32 :=
  matmul dot_S512x1024_S1024x1024_S512x1024_1_0_0_1_n_n none (φ₁ := .bf16) (φ₂ := .bf16) t (shapeCast S1024x1024 w shapeCasts_S1x1024x1024_S1024x1024)
    (constant S512x1024 .f32 0x00000000#32)
def project' (t : FVec Ideal S512x1024 .bf16) (w : Vec Ideal S1x1024x768 .bf16) : FVec Ideal S512x768 .f32 :=
  matmul dot_S512x1024_S1024x768_S512x768_1_0_0_1_n_n none (φ₁ := .bf16) (φ₂ := .bf16) t (shapeCast S1024x768 w shapeCasts_S1x1024x768_S1024x768)
    (constant S512x768 .f32 0x00000000#32)

theorem project_apply (t : FVec Ideal S512x1024 .bf16) (w : Vec Ideal S1x1024x1024 .bf16) (r : Fin 512) (f : Fin 1024) :
    project t w (ix2 r f) = ∑ k : Fin 1024, t (ix2 r k) * w (ix3 0 k f) := by
  unfold project
  pointwise
theorem project'_apply (t : FVec Ideal S512x1024 .bf16) (w : Vec Ideal S1x1024x768 .bf16) (r : Fin 512) (f : Fin 768) :
    project' t w (ix2 r f) = ∑ k : Fin 1024, t (ix2 r k) * w (ix3 0 k f) := by
  unfold project'
  pointwise

def hidden (g u : FVec Ideal S512x1024 .f32) : FVec Ideal S512x1024 .bf16 := truncf .bf16 (mulf (mulf g (logistic g)) u) bitsLt_bf16_f32
def hidden' (g u : FVec Ideal S512x768 .f32) : FVec Ideal S512x768 .bf16 := truncf .bf16 (mulf (mulf g (logistic g)) u) bitsLt_bf16_f32

theorem hidden_apply (g u : FVec Ideal S512x1024 .f32) (i : S512x1024.Idx) : hidden g u i = gated (g i) (u i) := rfl
theorem hidden'_apply (g u : FVec Ideal S512x768 .f32) (i : S512x768.Idx) : hidden' g u i = gated (g i) (u i) := rfl

def back (z : FVec Ideal S512x768 .bf16) (w : Vec Ideal S1x768x1024 .bf16) : FVec Ideal S512x1024 .f32 :=
  matmul dot_S512x768_S768x1024_S512x1024_1_0_0_1_n_n none (φ₁ := .bf16) (φ₂ := .bf16) z (shapeCast S768x1024 w shapeCasts_S1x768x1024_S768x1024)
    (constant S512x1024 .f32 0x00000000#32)
theorem back_apply (z : FVec Ideal S512x768 .bf16) (w : Vec Ideal S1x768x1024 .bf16) (r : Fin 512) (d : Fin 1024) :
    back z w (ix2 r d) = ∑ f : Fin 768, z (ix2 r f) * w (ix3 0 f d) := by
  unfold back
  pointwise

/-- A block of 1024 hidden units, and the last one of 768. -/
def block (t : FVec Ideal S512x1024 .bf16) (wg wu wd : Vec Ideal S1x1024x1024 .bf16) : FVec Ideal S512x1024 .f32 :=
  project (hidden (project t wg) (project t wu)) wd
def block' (t : FVec Ideal S512x1024 .bf16) (wg wu : Vec Ideal S1x1024x768 .bf16) (wd : Vec Ideal S1x768x1024 .bf16) : FVec Ideal S512x1024 .f32 :=
  back (hidden' (project' t wg) (project' t wu)) wd

theorem block_apply (t : FVec Ideal S512x1024 .bf16) (wg wu wd : Vec Ideal S1x1024x1024 .bf16) (r : Fin 512) (d : Fin 1024) :
    block t wg wu wd (ix2 r d) = swiglu (fun k => t (ix2 r k)) (fun k f => wg (ix3 0 k f)) (fun k f => wu (ix3 0 k f)) (fun f => wd (ix3 0 f d)) := by
  unfold block swiglu
  rw [project_apply]
  simp only [hidden_apply, project_apply]
theorem block'_apply (t : FVec Ideal S512x1024 .bf16) (wg wu : Vec Ideal S1x1024x768 .bf16) (wd : Vec Ideal S1x768x1024 .bf16) (r : Fin 512) (d : Fin 1024) :
    block' t wg wu wd (ix2 r d) = swiglu (fun k => t (ix2 r k)) (fun k f => wg (ix3 0 k f)) (fun k f => wu (ix3 0 k f)) (fun f => wd (ix3 0 f d)) := by
  unfold block' swiglu
  rw [back_apply]
  simp only [hidden'_apply, project'_apply]

theorem ffn_eq (x0 : Vec Ideal S4096x128 .f32) (x1 x2 : Vec Ideal S1x1024x2816 .bf16) (x3 : Vec Ideal S1x2816x1024 .bf16) :
    ffn x0 x1 x2 x3 = addf (addf
      (block (tokens x0) (pick x1 (Rect.unit (s := S1x1024x2816) ![0, 0, 0] S1x1024x1024.size inb_S1x1024x2816_S1x1024x1024_0_0_0).toLoadRect)
        (pick x2 (Rect.unit (s := S1x1024x2816) ![0, 0, 0] S1x1024x1024.size inb_S1x1024x2816_S1x1024x1024_0_0_0).toLoadRect)
        (pick x3 (Rect.unit (s := S1x2816x1024) ![0, 0, 0] S1x1024x1024.size inb_S1x2816x1024_S1x1024x1024_0_0_0).toLoadRect))
      (block (tokens x0) (pick x1 (Rect.unit (s := S1x1024x2816) ![0, 0, 1024] S1x1024x1024.size inb_S1x1024x2816_S1x1024x1024_0_0_1024).toLoadRect)
        (pick x2 (Rect.unit (s := S1x1024x2816) ![0, 0, 1024] S1x1024x1024.size inb_S1x1024x2816_S1x1024x1024_0_0_1024).toLoadRect)
        (pick x3 (Rect.unit (s := S1x2816x1024) ![0, 1024, 0] S1x1024x1024.size inb_S1x2816x1024_S1x1024x1024_0_1024_0).toLoadRect)))
      (block' (tokens x0) (pick x1 (Rect.unit (s := S1x1024x2816) ![0, 0, 2048] S1x1024x768.size inb_S1x1024x2816_S1x1024x768_0_0_2048).toLoadRect)
        (pick x2 (Rect.unit (s := S1x1024x2816) ![0, 0, 2048] S1x1024x768.size inb_S1x1024x2816_S1x1024x768_0_0_2048).toLoadRect)
        (pick x3 (Rect.unit (s := S1x2816x1024) ![0, 2048, 0] S1x768x1024.size inb_S1x2816x1024_S1x768x1024_0_2048_0).toLoadRect)) := rfl

/-- A part of a rank-3 array, from an offset, at an index. -/
theorem part_apply {α : Type} {A B a b : ℕ} (x : (⟨3, ![1, A, B]⟩ : Shape).Idx → α) (o₁ o₂ : ℕ) (inb) (k : Fin a) (f : Fin b)
    (K : Fin A) (J : Fin B) (hK : (K : ℕ) = o₁ + k) (hJ : (J : ℕ) = o₂ + f) :
    pick x (Rect.unit (s := ⟨3, ![1, A, B]⟩) ![0, o₁, o₂] ![1, a, b] inb).toLoadRect (ix3 0 k f) = x (ix3 0 K J) := by
  refine congrArg x (funext fun i => Fin.ext ?_)
  fin_cases i
  · rfl
  · show o₁ + 1 * (k : ℕ) = (K : ℕ); omega
  · show o₂ + 1 * (f : ℕ) = (J : ℕ); omega

theorem ffn_apply (x0 : Vec Ideal S4096x128 .f32) (x1 x2 : Vec Ideal S1x1024x2816 .bf16) (x3 : Vec Ideal S1x2816x1024 .bf16)
    (r : Fin 512) (d : Fin 1024) :
    ffn x0 x1 x2 x3 (ix2 r d) = swiglu (fun k => x0 (ix2 ⟨r * 8 + k / 128, by omega⟩ ⟨k % 128, by omega⟩))
      (fun k f => x1 (ix3 0 k f)) (fun k f => x2 (ix3 0 k f)) (fun f => x3 (ix3 0 f d)) := by
  rw [ffn_eq, ValueIdx.addf_apply, ValueIdx.addf_apply, block_apply, block_apply, block'_apply, swiglu_blocks]
  simp only [tokens_apply]
  refine congrArg₂ (· + ·) (congrArg₂ (· + ·) ?_ ?_) ?_
  · congr 1
    · funext k f; exact part_apply x1 0 0 _ k f _ _ (by omega) (by simp)
    · funext k f; exact part_apply x2 0 0 _ k f _ _ (by omega) (by simp)
    · funext f; exact part_apply x3 0 0 _ f d _ _ (by simp) (by omega)
  · congr 1
    · funext k f; exact part_apply x1 0 1024 _ k f _ _ (by omega) (by simp)
    · funext k f; exact part_apply x2 0 1024 _ k f _ _ (by omega) (by simp)
    · funext f; exact part_apply x3 1024 0 _ f d _ _ (by simp) (by omega)
  · congr 1
    · funext k f; exact part_apply x1 0 2048 _ k f _ _ (by omega) (by simp)
    · funext k f; exact part_apply x2 0 2048 _ k f _ _ (by omega) (by simp)
    · funext f; exact part_apply x3 2048 0 _ f d _ _ (by simp) (by omega)

end Cert.Grouped

end
-- ==== Proof.GroupedPlain.lean ====
/- The plain experts' result, at an index: every token through every expert, gated by its tile's expert and validity. -/
module

public import proofs.«01_k».proof.Proof.Swiglu
public import proofs.«01_k».proof.Proof.Gen.PlainExpertsIdeal.Run
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.GroupedPlain

open Cert.PlainExpertsIdeal Cert.PlainExpertsIdeal.Gen Cert.PlainExpertsIdeal.Value Cert.Swiglu

/-- The tokens, from their rows. -/
def tokens (a : FVec Ideal S425984x128 .f32) : FVec Ideal S53248x1024 .f32 := shapeCast _ a shapeCasts_S425984x128_S53248x1024

/-- A tile's gates, of the experts. -/
def tileGates (w v : IVec S104 32) : FVec Ideal S104x8 .f32 :=
  mulf (uitofp .f32 (cmpi .eq (broadcastInDim S104x8 ![0, 1] bcast_S104x1_S104x8_0_1 (broadcastInDim S104x1 ![0] bcast_S104_S104x1_0 w)) (broadcastInDim S104x8 ![0, 1] bcast_S1x8_S104x8_0_1 (iotaInDim S1x8 32 1))))
    (broadcastInDim S104x8 ![0, 1] bcast_S104x1_S104x8_0_1 (broadcastInDim S104x1 ![0] bcast_S104_S104x1_0 (uitofp .f32 (cmpi .ne v (broadcastInDim S104 ![] bcast_S_S104 (constantI S_ 32 0#32))))))

def gates (w v : IVec S104 32) : FVec Ideal S53248x8 .f32 :=
  shapeCast _ (broadcastInDim S104x512x8 ![0, 1, 2] bcast_S104x1x8_S104x512x8_0_1_2 (broadcastInDim S104x1x8 ![0, 2] bcast_S104x8_S104x1x8_0_2 (tileGates w v))) shapeCasts_S104x512x8_S53248x8

/-- A truth value as a float. -/
theorem bit_value (p : Prop) [Decidable p] : (FloatOps.uitofp .f32 (BitVec.ofBool (decide p)) : Ideal .f32) = if p then 1 else 0 := by
  show (((BitVec.ofBool (decide p)).toNat : ℝ) : EReal) = _
  by_cases h : p <;> simp [h]

theorem tileGates_apply (w v : IVec S104 32) (t : Fin 104) (e : Fin 8) :
    tileGates w v (ix2 t e) = (if w (ix1 t) = BitVec.ofNat 32 e then 1 else 0) * (if v (ix1 t) ≠ 0#32 then 1 else 0) := by
  unfold tileGates
  pointwise
  rw [WordCmp.cmpi_eq_eq, WordCmp.cmpi_ne_eq, bit_value, bit_value]

theorem gates_apply (w v : IVec S104 32) (T : Fin 53248) (e : Fin 8) :
    gates w v (ix2 T e) = tileGates w v (ix2 ⟨T / 512, by omega⟩ e) := by
  unfold gates
  pointwise

/-- One expert's part: its gate times its feed-forward. -/
def hiddenAll (x : FVec Ideal S53248x1024 .f32) (w : FVec Ideal S1x8x1024x5632 .f32) (off : Fin 4 → ℕ) (h : S1x8x1024x5632.Slices off S1x1x1024x5632) : FVec Ideal S53248x5632 .f32 :=
  Host.dotGeneral dot_S53248x1024_S1024x5632_S53248x5632_1_0_0_1_n_n none (φ₁ := .f32) (φ₂ := .f32) x
    (shapeCast _ (extractStridedSlice S1x1x1024x5632 off w h) shapeCasts_S1x1x1024x5632_S1024x5632)

theorem hiddenAll_apply (x : FVec Ideal S53248x1024 .f32) (w : FVec Ideal S1x8x1024x5632 .f32) (e : Fin 8) (off : Fin 4 → ℕ) (ho : off = ![0, (e : ℕ), 0, 0])
    (h : S1x8x1024x5632.Slices off S1x1x1024x5632) (T : Fin 53248) (f : Fin 5632) :
    hiddenAll x w off h (ix2 T f) = ∑ k : Fin 1024, x (ix2 T k) * w (ix4 0 e k f) := by
  subst ho
  unfold hiddenAll
  pointwise

def act (y : FVec Ideal S53248x5632 .f32) : FVec Ideal S53248x2816 .f32 :=
  mulf (mulf (extractStridedSlice S53248x2816 ![0, 0] y slices_S53248x5632_S53248x2816_0_0) (Host.divf (broadcastInDim S53248x2816 ![] bcast_S_S53248x2816 (constant S_ .f32 0x3F800000#32)) (addf (broadcastInDim S53248x2816 ![] bcast_S_S53248x2816 (constant S_ .f32 0x3F800000#32)) (Host.exp (Host.negf (extractStridedSlice S53248x2816 ![0, 0] y slices_S53248x5632_S53248x2816_0_0))))))
    (extractStridedSlice S53248x2816 ![0, 2816] y slices_S53248x5632_S53248x2816_0_2816)

theorem act_apply (y : FVec Ideal S53248x5632 .f32) (T : Fin 53248) (f : Fin 2816) :
    act y (ix2 T f) = gated (y (ix2 T ⟨f, by omega⟩)) (y (ix2 T ⟨2816 + f, by omega⟩)) := by
  unfold act gated Ideal.logistic
  pointwise

def downAll (z : FVec Ideal S53248x2816 .f32) (w : FVec Ideal S1x8x2816x1024 .f32) (off : Fin 4 → ℕ) (h : S1x8x2816x1024.Slices off S1x1x2816x1024) : FVec Ideal S53248x1024 .f32 :=
  Host.dotGeneral dot_S53248x2816_S2816x1024_S53248x1024_1_0_0_1_n_n none (φ₁ := .f32) (φ₂ := .f32) z
    (shapeCast _ (extractStridedSlice S1x1x2816x1024 off w h) shapeCasts_S1x1x2816x1024_S2816x1024)

theorem downAll_apply (z : FVec Ideal S53248x2816 .f32) (w : FVec Ideal S1x8x2816x1024 .f32) (e : Fin 8) (off : Fin 4 → ℕ) (ho : off = ![0, (e : ℕ), 0, 0])
    (h : S1x8x2816x1024.Slices off S1x1x2816x1024) (T : Fin 53248) (d : Fin 1024) :
    downAll z w off h (ix2 T d) = ∑ f : Fin 2816, z (ix2 T f) * w (ix4 0 e f d) := by
  subst ho
  unfold downAll
  pointwise

def gateOf (g : FVec Ideal S53248x8 .f32) (off : Fin 2 → ℕ) (h : S53248x8.Slices off S53248x1) : FVec Ideal S53248x1024 .f32 :=
  broadcastInDim S53248x1024 ![0, 1] bcast_S53248x1_S53248x1024_0_1 (extractStridedSlice S53248x1 off g h)

theorem gateOf_apply (g : FVec Ideal S53248x8 .f32) (e : Fin 8) (off : Fin 2 → ℕ) (ho : off = ![0, (e : ℕ)]) (h : S53248x8.Slices off S53248x1)
    (T : Fin 53248) (d : Fin 1024) : gateOf g off h (ix2 T d) = g (ix2 T e) := by
  subst ho
  unfold gateOf
  pointwise

/-- One expert's part of every token: its gate times its feed-forward. -/
def part (g : FVec Ideal S53248x8 .f32) (x : FVec Ideal S53248x1024 .f32) (w : FVec Ideal S1x8x1024x5632 .f32) (d : FVec Ideal S1x8x2816x1024 .f32)
    (o₁ : Fin 2 → ℕ) (h₁ : S53248x8.Slices o₁ S53248x1) (o₂ : Fin 4 → ℕ) (h₂ : S1x8x1024x5632.Slices o₂ S1x1x1024x5632)
    (o₃ : Fin 4 → ℕ) (h₃ : S1x8x2816x1024.Slices o₃ S1x1x2816x1024) : FVec Ideal S53248x1024 .f32 :=
  mulf (gateOf g o₁ h₁) (downAll (act (hiddenAll x w o₂ h₂)) d o₃ h₃)

theorem part_apply (g : FVec Ideal S53248x8 .f32) (x : FVec Ideal S53248x1024 .f32) (w : FVec Ideal S1x8x1024x5632 .f32) (d : FVec Ideal S1x8x2816x1024 .f32)
    (e : Fin 8) (o₁ : Fin 2 → ℕ) (h₁ : S53248x8.Slices o₁ S53248x1) (o₂ : Fin 4 → ℕ) (h₂ : S1x8x1024x5632.Slices o₂ S1x1x1024x5632)
    (o₃ : Fin 4 → ℕ) (h₃ : S1x8x2816x1024.Slices o₃ S1x1x2816x1024) (e₁ : o₁ = ![0, (e : ℕ)]) (e₂ : o₂ = ![0, (e : ℕ), 0, 0]) (e₃ : o₃ = ![0, (e : ℕ), 0, 0])
    (T : Fin 53248) (c : Fin 1024) :
    part g x w d o₁ h₁ o₂ h₂ o₃ h₃ (ix2 T c) = g (ix2 T e) * swiglu (fun k => x (ix2 T k))
      (fun k (f : Fin 2816) => w (ix4 0 e k ⟨f, by omega⟩)) (fun k f => w (ix4 0 e k ⟨2816 + f, by omega⟩)) (fun f => d (ix4 0 e f c)) := by
  unfold part swiglu
  rw [ValueIdx.mulf_apply, gateOf_apply g e o₁ e₁, downAll_apply _ d e o₃ e₃]
  simp only [act_apply, hiddenAll_apply x w e o₂ e₂]

/-- All the experts' parts, added up. -/
def mixed (g : FVec Ideal S53248x8 .f32) (x : FVec Ideal S53248x1024 .f32) (w : FVec Ideal S1x8x1024x5632 .f32) (d : FVec Ideal S1x8x2816x1024 .f32) :
    FVec Ideal S53248x1024 .f32 :=
  addf (addf (addf (addf (addf (addf (addf (addf (broadcastInDim S53248x1024 ![] bcast_S_S53248x1024 (constant S_ .f32 0x00000000#32))
      (part g x w d ![0, 0] slices_S53248x8_S53248x1_0_0 ![0, 0, 0, 0] slices_S1x8x1024x5632_S1x1x1024x5632_0_0_0_0 ![0, 0, 0, 0] slices_S1x8x2816x1024_S1x1x2816x1024_0_0_0_0))
      (part g x w d ![0, 1] slices_S53248x8_S53248x1_0_1 ![0, 1, 0, 0] slices_S1x8x1024x5632_S1x1x1024x5632_0_1_0_0 ![0, 1, 0, 0] slices_S1x8x2816x1024_S1x1x2816x1024_0_1_0_0))
      (part g x w d ![0, 2] slices_S53248x8_S53248x1_0_2 ![0, 2, 0, 0] slices_S1x8x1024x5632_S1x1x1024x5632_0_2_0_0 ![0, 2, 0, 0] slices_S1x8x2816x1024_S1x1x2816x1024_0_2_0_0))
      (part g x w d ![0, 3] slices_S53248x8_S53248x1_0_3 ![0, 3, 0, 0] slices_S1x8x1024x5632_S1x1x1024x5632_0_3_0_0 ![0, 3, 0, 0] slices_S1x8x2816x1024_S1x1x2816x1024_0_3_0_0))
      (part g x w d ![0, 4] slices_S53248x8_S53248x1_0_4 ![0, 4, 0, 0] slices_S1x8x1024x5632_S1x1x1024x5632_0_4_0_0 ![0, 4, 0, 0] slices_S1x8x2816x1024_S1x1x2816x1024_0_4_0_0))
      (part g x w d ![0, 5] slices_S53248x8_S53248x1_0_5 ![0, 5, 0, 0] slices_S1x8x1024x5632_S1x1x1024x5632_0_5_0_0 ![0, 5, 0, 0] slices_S1x8x2816x1024_S1x1x2816x1024_0_5_0_0))
      (part g x w d ![0, 6] slices_S53248x8_S53248x1_0_6 ![0, 6, 0, 0] slices_S1x8x1024x5632_S1x1x1024x5632_0_6_0_0 ![0, 6, 0, 0] slices_S1x8x2816x1024_S1x1x2816x1024_0_6_0_0))
      (part g x w d ![0, 7] slices_S53248x8_S53248x1_0_7 ![0, 7, 0, 0] slices_S1x8x1024x5632_S1x1x1024x5632_0_7_0_0 ![0, 7, 0, 0] slices_S1x8x2816x1024_S1x1x2816x1024_0_7_0_0)

/-- One expert's feed-forward of a token. -/
def expert (x : FVec Ideal S53248x1024 .f32) (w : FVec Ideal S1x8x1024x5632 .f32) (d : FVec Ideal S1x8x2816x1024 .f32) (T : Fin 53248) (c : Fin 1024) (e : Fin 8) : EReal :=
  swiglu (fun k => x (ix2 T k)) (fun k (f : Fin 2816) => w (ix4 0 e k ⟨f, by omega⟩)) (fun k f => w (ix4 0 e k ⟨2816 + f, by omega⟩)) (fun f => d (ix4 0 e f c))

theorem none_apply (i : S53248x1024.Idx) :
    broadcastInDim S53248x1024 ![] bcast_S_S53248x1024 (constant (F := Ideal) S_ .f32 0x00000000#32) i = (0 : EReal) := by
  pointwise

theorem mixed_apply (g : FVec Ideal S53248x8 .f32) (x : FVec Ideal S53248x1024 .f32) (w : FVec Ideal S1x8x1024x5632 .f32) (d : FVec Ideal S1x8x2816x1024 .f32)
    (T : Fin 53248) (c : Fin 1024) :
    mixed g x w d (ix2 T c) = 0 + g (ix2 T 0) * expert x w d T c 0 + g (ix2 T 1) * expert x w d T c 1 + g (ix2 T 2) * expert x w d T c 2
      + g (ix2 T 3) * expert x w d T c 3 + g (ix2 T 4) * expert x w d T c 4 + g (ix2 T 5) * expert x w d T c 5
      + g (ix2 T 6) * expert x w d T c 6 + g (ix2 T 7) * expert x w d T c 7 := by
  unfold mixed
  have e (e : Fin 8) (o₁ h₁ o₂ h₂ o₃ h₃ e₁ e₂ e₃) : part g x w d o₁ h₁ o₂ h₂ o₃ h₃ (ix2 T c) = g (ix2 T e) * expert x w d T c e :=
    part_apply g x w d e o₁ h₁ o₂ h₂ o₃ h₃ e₁ e₂ e₃ T c
  simp only [ValueIdx.addf_apply]
  rw [none_apply, e 0 ![0, 0] _ ![0, 0, 0, 0] _ ![0, 0, 0, 0] _ rfl rfl rfl, e 1 ![0, 1] _ ![0, 1, 0, 0] _ ![0, 1, 0, 0] _ rfl rfl rfl, e 2 ![0, 2] _ ![0, 2, 0, 0] _ ![0, 2, 0, 0] _ rfl rfl rfl, e 3 ![0, 3] _ ![0, 3, 0, 0] _ ![0, 3, 0, 0] _ rfl rfl rfl, e 4 ![0, 4] _ ![0, 4, 0, 0] _ ![0, 4, 0, 0] _ rfl rfl rfl, e 5 ![0, 5] _ ![0, 5, 0, 0] _ ![0, 5, 0, 0] _ rfl rfl rfl, e 6 ![0, 6] _ ![0, 6, 0, 0] _ ![0, 6, 0, 0] _ rfl rfl rfl, e 7 ![0, 7] _ ![0, 7, 0, 0] _ ![0, 7, 0, 0] _ rfl rfl rfl]

/-- The result's rows. -/
def result (a0 a1 : IVec S104 32) (a2 : FVec Ideal S425984x128 .f32) (a3 : FVec Ideal S1x8x1024x5632 .f32) (a4 : FVec Ideal S1x8x2816x1024 .f32) :
    FVec Ideal S425984x128 .f32 :=
  shapeCast _ (mixed (gates a0 a1) (tokens a2) a3 a4) shapeCasts_S53248x1024_S425984x128

theorem tokens_apply (a : FVec Ideal S425984x128 .f32) (T : Fin 53248) (k : Fin 1024) :
    tokens a (ix2 T k) = a (ix2 ⟨T * 8 + k / 128, by omega⟩ ⟨k % 128, by omega⟩) := by
  unfold tokens
  pointwise

/-- A token's row of the result: its tile's expert's feed-forward of it, or zero. -/
theorem result_apply (a0 a1 : IVec S104 32) (a2 : FVec Ideal S425984x128 .f32) (a3 : FVec Ideal S1x8x1024x5632 .f32) (a4 : FVec Ideal S1x8x2816x1024 .f32)
    (R : Fin 425984) (l : Fin 128) (t : Fin 104) (ht : (t : ℕ) = R / 4096) (e : Fin 8) (he : a0 (ix1 t) = BitVec.ofNat 32 e) :
    result a0 a1 a2 a3 a4 (ix2 R l) = if a1 (ix1 t) ≠ 0#32 then
      swiglu (fun k => a2 (ix2 ⟨R / 8 * 8 + k / 128, by omega⟩ ⟨k % 128, by omega⟩)) (fun k (f : Fin 2816) => a3 (ix4 0 e k ⟨f, by omega⟩))
        (fun k f => a3 (ix4 0 e k ⟨2816 + f, by omega⟩)) (fun f => a4 (ix4 0 e f ⟨R % 8 * 128 + l, by omega⟩)) else 0 := by
  have e1 : result a0 a1 a2 a3 a4 (ix2 R l) = mixed (gates a0 a1) (tokens a2) a3 a4 (ix2 ⟨R / 8, by omega⟩ ⟨R % 8 * 128 + l, by omega⟩) := by
    unfold result
    pointwise
  have ht' : (⟨(⟨R / 8, by omega⟩ : Fin 53248) / 512, by omega⟩ : Fin 104) = t := Fin.ext (by show (R : ℕ) / 8 / 512 = t; omega)
  rw [e1, mixed_apply, pick_one (a1 (ix1 t) ≠ 0#32) e _ (fun k => gates a0 a1 (ix2 _ k)) fun k => ?_]
  · unfold expert
    simp only [tokens_apply]
  · rw [gates_apply, tileGates_apply, ht', he]
    congr 1
    have hi : BitVec.ofNat 32 (e : ℕ) = BitVec.ofNat 32 (k : ℕ) ↔ e = k := by
      constructor
      · intro h
        have := congrArg BitVec.toNat h
        rw [BitVec.toNat_ofNat, BitVec.toNat_ofNat, Nat.mod_eq_of_lt (by omega), Nat.mod_eq_of_lt (by omega)] at this
        exact Fin.ext this
      · rintro rfl; rfl
    simp only [hi]

/-- The run's result is this. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v124) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h c).1.trans rfl, (h c).2⟩) (run m ρ)

end Cert.GroupedPlain

end
-- ==== Proof.GroupedValue.lean ====
/- The grouped experts' result, from the blocks their points leave. -/
module

public import proofs.«01_k».proof.Proof.GroupedTables
public import proofs.«01_k».proof.Proof.GroupedCell
public import proofs.«01_k».proof.Proof.GroupedPlain
public import Idealize.ShloMosaic.Lib.Pipeline.ValueKit
public import Idealize.ShloMosaic.Lib.Claim
public import proofs.«01_k».proof.Defs

@[expose] public section

set_option maxRecDepth 16384

noncomputable section

namespace Cert.Grouped

open Idealize.ShloMosaic Idealize.ShloMosaic.TcCoe Idealize.SL.Sem
open Idealize.ShloMosaic.Pipeline (Dat)
open Cert.ExpertsIdeal Cert.ExpertsIdeal.Gen Cert.Swiglu

variable (m : (ℓ : Loc nD τ sig) → Buf (Elt Ideal) ℓ)

/-- The weights at the region's entry. -/
theorem entry_gate (c : Dev nD) : atEntry m c main_v1 = truncf (F := Ideal) (φ := .f32) .bf16 (shapeCast S8x1024x5632 (m ((c : Thread nD τ).loc main_arg3)) shapeCasts_S1x8x1024x5632_S8x1024x5632) bitsLt_bf16_f32 := by
  rfl

theorem coord_val (t : Fin grid0.N) : (grid0.coords t 0).val = t.val := by
  rw [Pipeline.Grid.coords_val t 0 (S := 1) (B := 104) (by decide) rfl, Nat.div_one, Nat.mod_eq_of_lt (show t.val < 104 from t.isLt)]

/-- Where the windows' blocks lie. -/
theorem index_rows (h : Named m) (t : Fin (pipe m h).N) : ((pipe m h).win 0).index t = ![t.val, 0] := by
  have e := coord_val t
  have l : t.val < 104 := t.isLt
  show ![(BitVec.ofNat 32 (grid0.coords t 0).val).toNat, 0] = ![t.val, 0]
  rw [BitVec.toNat_ofNat, e, Nat.mod_eq_of_lt (by omega)]
theorem index_gate (h : Named m) (t : Fin (pipe m h).N) :
    ((pipe m h).win 1).index t = ![(tileWord (words m 0) (grid0.coords t)).toNat, 0, 0] := gate_block _ _
theorem index_up (h : Named m) (t : Fin (pipe m h).N) :
    ((pipe m h).win 2).index t = ![(tileWord (words m 0) (grid0.coords t)).toNat, 0, 1] := up_block _ _
theorem index_down (h : Named m) (t : Fin (pipe m h).N) :
    ((pipe m h).win 3).index t = ![(tileWord (words m 0) (grid0.coords t)).toNat, 0, 0] := down_block _ _
theorem index_out (h : Named m) (t : Fin (pipe m h).N) : ((pipe m h).win 4).index t = ![t.val, 0] := index_rows m h t

theorem flush_out (t : Fin grid0.N) : Pipeline.Window.flushOf grid0 true cc0_transform_4 t = true :=
  (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _)

theorem blocks_out (h : Named m) : ((pipe m h).win 4).nblk (0 : Fin 2) = 104 ∧ ((pipe m h).win 4).nblk (1 : Fin 2) = 1 := by
  constructor
  · show (425984 + 4096 - 1) / 4096 = 104; decide
  · show (128 + 128 - 1) / 128 = 1; decide

theorem covers (h : Named m) : ((pipe m h).win 4).Covers := by
  refine ⟨(by decide : ∀ a : Fin 2, 0 < S4096x128.size a), fun β => ?_⟩
  have h0 : (β (0 : Fin 2)).val < 104 := lt_of_lt_of_eq (β (0 : Fin 2)).isLt (blocks_out m h).1
  have h1 : (β (1 : Fin 2)).val < 1 := lt_of_lt_of_eq (β (1 : Fin 2)).isLt (blocks_out m h).2
  refine ⟨⟨(β (0 : Fin 2)).val, h0⟩, flush_out _, fun a => ⟨?_, .inl rfl⟩⟩
  rw [index_out]
  fin_cases a
  · rfl
  · exact (Nat.lt_one_iff.mp h1).symm

theorem read_rows (h : Named m) (c : Dev nD) (t : Fin (pipe m h).N) (r : Fin 4096) (l : Fin 128) (R : Fin 425984) (hR : (R : ℕ) = t.val * 4096 + r) :
    iblk m h c 0 t (ix2 r l) = (m ((c : Thread nD τ).loc main_arg2) : Vec Ideal S425984x128 .f32) (ix2 R l) := by
  refine (congrFun (entry_kept m c main_arg2 (by decide)) _).trans (congrArg (m ((c : Thread nD τ).loc main_arg2)) (funext fun a => Fin.ext ?_))
  refine (((pipe m h).win 0).rect_emb_val t _ a rfl).trans ?_
  rw [index_rows]
  fin_cases a
  · exact hR.symm
  · exact Nat.zero_add _

variable {m}

theorem entry_down (c : Dev nD) : atEntry m c main_v3 = truncf (F := Ideal) (φ := .f32) .bf16 (shapeCast S8x2816x1024 (m ((c : Thread nD τ).loc main_arg4)) shapeCasts_S1x8x2816x1024_S8x2816x1024) bitsLt_bf16_f32 := by
  rfl

theorem gate_apply (w : Vec Ideal S1x8x1024x5632 .f32) (e : Fin 8) (k : Fin 1024) (J : Fin 5632) :
    truncf (F := Ideal) (φ := .f32) .bf16 (shapeCast S8x1024x5632 w shapeCasts_S1x8x1024x5632_S8x1024x5632) bitsLt_bf16_f32 (ix3 e k J)
      = w (ix4 0 e k J) := by
  pointwise
theorem down_apply (w : Vec Ideal S1x8x2816x1024 .f32) (e : Fin 8) (f : Fin 2816) (d : Fin 1024) :
    truncf (F := Ideal) (φ := .f32) .bf16 (shapeCast S8x2816x1024 w shapeCasts_S1x8x2816x1024_S8x2816x1024) bitsLt_bf16_f32 (ix3 e f d)
      = w (ix4 0 e f d) := by
  pointwise

section Reads
variable (h : Named m) (c : Dev nD) (t : Fin (pipe m h).N) (e : Fin 8) (he : (e : ℕ) = (tileWord (words m 0) (grid0.coords t)).toNat)
include he

theorem read_gate (k : Fin 1024) (f : Fin 2816) (J : Fin 5632) (hJ : (J : ℕ) = f) :
    iblk m h c 1 t (ix3 0 k f) = (m ((c : Thread nD τ).loc main_arg3) : Vec Ideal S1x8x1024x5632 .f32) (ix4 0 e k J) := by
  refine ((congrFun (entry_gate m c) _).trans (congrArg _ (funext fun a => Fin.ext ?_))).trans (gate_apply _ e k J)
  refine (((pipe m h).win 1).rect_emb_val t _ a rfl).trans ?_
  rw [index_gate]
  fin_cases a
  · show _ * 1 + 0 = (e : ℕ); rw [he]; simp
  · exact Nat.zero_add _
  · show 0 * 2816 + f.val = J.val; omega

theorem read_up (k : Fin 1024) (f : Fin 2816) (J : Fin 5632) (hJ : (J : ℕ) = 2816 + f) :
    iblk m h c 2 t (ix3 0 k f) = (m ((c : Thread nD τ).loc main_arg3) : Vec Ideal S1x8x1024x5632 .f32) (ix4 0 e k J) := by
  refine ((congrFun (entry_gate m c) _).trans (congrArg _ (funext fun a => Fin.ext ?_))).trans (gate_apply _ e k J)
  refine (((pipe m h).win 2).rect_emb_val t _ a rfl).trans ?_
  rw [index_up]
  fin_cases a
  · show _ * 1 + 0 = (e : ℕ); rw [he]; simp
  · exact Nat.zero_add _
  · show 1 * 2816 + f.val = J.val; omega

theorem read_down (f : Fin 2816) (d : Fin 1024) :
    iblk m h c 3 t (ix3 0 f d) = (m ((c : Thread nD τ).loc main_arg4) : Vec Ideal S1x8x2816x1024 .f32) (ix4 0 e f d) := by
  refine ((congrFun (entry_down c) _).trans (congrArg _ (funext fun a => Fin.ext ?_))).trans (down_apply _ e f d)
  refine (((pipe m h).win 3).rect_emb_val t _ a rfl).trans ?_
  rw [index_down]
  fin_cases a
  · show _ * 1 + 0 = (e : ℕ); rw [he]; simp
  · exact Nat.zero_add _
  · exact Nat.zero_add _

end Reads

/-- A word of the tables, by its tile. -/
theorem word_at_of_eq {w w' : S104.Idx → BitVec 32} (hw : w = w') (t : Fin grid0.N) : tileWord w (grid0.coords t) = w' (ix1 t) := by
  subst hw
  exact congrArg (fun a : Fin 104 => w (ix1 a)) (Fin.ext (coord_val t))

/-- What a point leaves is the plain formula's part under its block. -/
theorem left_apply (h : Named m) (hr : InRange (words m 0)) (c : Dev nD) (t : Fin (pipe m h).N) (r : Fin 4096) (l : Fin 128)
    (R : Fin 425984) (hR : (R : ℕ) = t.val * 4096 + r) :
    left m h c t (ix2 r l) = Cert.GroupedPlain.result (m ((c : Thread nD τ).loc main_arg0)) (m ((c : Thread nD τ).loc main_arg1))
      (m ((c : Thread nD τ).loc main_arg2)) (m ((c : Thread nD τ).loc main_arg3)) (m ((c : Thread nD τ).loc main_arg4)) (ix2 R l) := by
  obtain rfl : c = 0 := Subsingleton.elim _ _
  have e0 : words m 0 = m ((0 : Dev nD).tc.loc main_arg0) := entry_kept m 0 main_arg0 (by decide)
  have e1 : words m 1 = m ((0 : Dev nD).tc.loc main_arg1) := entry_kept m 0 main_arg1 (by decide)
  have c0 : tileWord (words m 0) (grid0.coords t) = (m ((0 : Dev nD).tc.loc main_arg0) : IVec S104 32) (ix1 t) := word_at_of_eq e0 t
  have c1 : tileWord (words m 1) (grid0.coords t) = (m ((0 : Dev nD).tc.loc main_arg1) : IVec S104 32) (ix1 t) := word_at_of_eq e1 t
  have hlt : (tileWord (words m 0) (grid0.coords t)).toNat < 8 := hr _
  have he : (m ((0 : Dev nD).tc.loc main_arg0) : IVec S104 32) (ix1 t) = BitVec.ofNat 32 (⟨_, hlt⟩ : Fin 8) := by rw [← c0]; simp
  rw [Cert.GroupedPlain.result_apply _ _ _ _ _ R l t (by omega) ⟨_, hlt⟩ he]
  unfold left out
  rw [c1]
  simp only [cond1_iff]
  split_ifs with hv
  · unfold spread
    refine (ffn_apply _ _ _ _ _ _).trans ?_
    congr 1
    · funext k
      exact read_rows m h 0 t _ _ _ (by show (R : ℕ) / 8 * 8 + k / 128 = t.val * 4096 + ((r : ℕ) / 8 * 8 + k / 128); omega)
    · funext k f; exact read_gate h 0 t ⟨_, hlt⟩ rfl k f _ rfl
    · funext k f; exact read_up h 0 t ⟨_, hlt⟩ rfl k f _ rfl
    · funext f
      refine (read_down h 0 t ⟨_, hlt⟩ rfl f _).trans (congrArg (fun d => (m ((0 : Dev nD).tc.loc main_arg4) : Vec Ideal S1x8x2816x1024 .f32) (ix4 0 _ f d)) (Fin.ext ?_))
      show (r : ℕ) % 8 * 128 + l = (R : ℕ) % 8 * 128 + l
      omega
  · exact Ideal.ofBits_zero_f32

/-- The array the kernel leaves is the plain formula's. -/
theorem kernel_final (h : Named m) (hr : InRange (words m 0)) (c : Dev nD) :
    (dats m h 0 c).arrAt 4 (pipe m h).N = Cert.GroupedPlain.result (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m h 0 c).arrAt_eq_of_covers 4 _ (covers m h) fun t _ y => ?_
  obtain ⟨r, l, rfl⟩ : ∃ (r : Fin 4096) (l : Fin 128), y = ix2 r l := ⟨y (0 : Fin 2), y (1 : Fin 2), by funext a; fin_cases a <;> rfl⟩
  have lt : t.val < 104 := t.isLt
  have eR : (((pipe m h).win 4).blk t).view.emb (ix2 r l) = (ix2 (⟨t.val * 4096 + r, by omega⟩ : Fin 425984) l : S425984x128.Idx) := by
    funext a
    refine Fin.ext ((((pipe m h).win 4).rect_emb_val t _ a rfl).trans ?_)
    rw [index_out]
    fin_cases a
    · rfl
    · exact Nat.zero_add _
  rw [after_out]
  refine Eq.trans ?_ ((left_apply h hr c t r l _ rfl).trans (congrArg _ eR.symm))
  rfl

/-- The grouped experts: kernel and plain formula leave the same array. -/
theorem experts_agree [Cert.Pre_expert_range.Facts] : Cert.algebraic_ExpertsIdeal_PlainExpertsIdeal := by
  intro m g m' g' hpre hagree
  have hr := words_in_range m hpre
  refine ⟨fun c => Cert.GroupedPlain.result (m ((c : Thread nD τ).loc main_arg0)) (m ((c : Thread nD τ).loc main_arg1))
      (m ((c : Thread nD τ).loc main_arg2)) (m ((c : Thread nD τ).loc main_arg3)) (m ((c : Thread nD τ).loc main_arg4)), ?_, ?_⟩
  · exact (θ_run _ _ _).mono (fun r e c => ⟨(e.1 c).2.trans (kernel_final _ hr c), (e.1 c).1⟩) (final m g (named_of_range m hr))
  · refine (θ_run _ _ _).mono (fun r e c => ⟨(e c).1.trans ?_, (e c).2⟩) (Cert.GroupedPlain.run_result m' g')
    obtain ⟨e0, e1, e2, e3, e4⟩ := hagree c
    rw [e0, e1, e2, e3, e4]

end Cert.Grouped

end
-- ==== Proof.ContextRun.lean ====
/-
  The run of the five calls, with every array it leaves: the contents at the last boundary of the chain of host operations
  and calls.
-/
module

public import proofs.«01_k».proof.Proof.Gen.ContextIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.Context3

open Cert.ContextIdeal Cert.ContextIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every array that outlives the run ends at the contents of the last boundary. -/
theorem run_all : θ_run defs (onTc (τ := τ) (main (F := F))) ⟨m, fun _ => 0, ρ⟩ (fun r => ∀ c : Dev nD, ∀ b : Ref sig .tc,
      (Proc.devRef .tc b : DevRef τ sig) ∈ Pipeline.ucRefs τ sig → r.2.mem ((c.tc : Thread nD τ).loc b) = W11 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by
      iterate 11 refine And.intro (fun _ => .rfl) ?_
      intro c
      dsimp only [Pipeline.Seg.post, hseg, Pipeline.HostSeg.ofOps]
      iintro ⟨Hh, Hp, HO⟩
      isplitl [Hh Hp]
      · isplitl [Hh]; · iexact Hh
        iexact Hp
      iexact HO)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ c b hb => h c _ hb)

end Cert.Context3
end
-- ==== Proof.ContextSpec.lean ====
/-
  The mathematics of the context path for one token, over the extended reals: the modulation, the projection, the norm of a
  head, one query's attention, and the norm of a residual.
-/
module

public import proofs.«01_k».proof.Proof.Softmax
public import proofs.«01_k».proof.Proof.Swiglu
public import Idealize.ShloMosaic.Lib.Pointwise

@[expose] public section

noncomputable section

open Idealize.ShloMosaic

namespace Cert.Context3

/-- `x` times its sigmoid. -/
def silu (x : EReal) : EReal := x * Ideal.logistic x

/-- One modulation value: the gated condition against a column of weights, plus a bias. -/
def adaValue (cond w : Fin 1024 → EReal) (b : EReal) : EReal := (∑ k, silu (cond k) * w k) + b

/-- A token scaled and shifted. -/
def modulated (x sc sh : Fin 1024 → EReal) (k : Fin 1024) : EReal := x k * (1 + sc k) + sh k

/-- A row against a column. -/
def dot {n : ℕ} (x w : Fin n → EReal) : EReal := ∑ k, x k * w k

/-- A head over the root of its mean square, times a gain. -/
def headNorm (x g : Fin 128 → EReal) (d : Fin 128) : EReal :=
  x d * Ideal.rsqrt (Ideal.div (∑ j, x j * x j) (Ideal.ofBits .f32 0x43000000#32) + Ideal.ofBits .f32 0x358637BD#32) * g d

/-- The mean of a token. -/
def mean (x : Fin 1024 → EReal) : EReal := Ideal.div (∑ k, x k) (Ideal.ofBits .f32 0x44800000#32)

/-- A token less its mean, over the root of its variance, times a gain, plus a bias. -/
def tokenNorm (x g b : Fin 1024 → EReal) (j : Fin 1024) : EReal :=
  (x j - mean x) * Ideal.rsqrt (Ideal.div (∑ k, (x k - mean x) * (x k - mean x)) (Ideal.ofBits .f32 0x44800000#32) + Ideal.ofBits .f32 0x358637BD#32) * g j + b j

/-- A token's residual: its value times the residual factor, plus a gated update. -/
def residual (x gate o : Fin 1024 → EReal) (j : Fin 1024) : EReal := Ideal.ofBits .f32 0x3FB504F3#32 * x j + gate j * o j

/-- The kernel's attention row: the weights against the values first, then the division. -/
def rowLate (s v : Fin 256 → EReal) : EReal :=
  (∑ t, Ideal.exp (s t - Finset.univ.fold max ⊥ s) * v t) * Ideal.div 1 (∑ t, Ideal.exp (s t - Finset.univ.fold max ⊥ s))

/-- For real scores the division may come first. -/
theorem rowLate_eq (s : Fin 256 → ℝ) (v : Fin 256 → EReal) :
    rowLate (fun t => (s t : EReal)) v = Cert.Softmax.plainRow (fun t => (s t : EReal)) v := by
  obtain ⟨i, hi⟩ := Finite.exists_max s
  have hM : Finset.univ.fold max ⊥ (fun t => (s t : EReal)) = (s i : EReal) :=
    Cert.Softmax.fold_max_eq _ i fun j => EReal.coe_le_coe_iff.2 (hi j)
  unfold rowLate Cert.Softmax.plainRow
  rw [hM]
  have hexp : ∀ t, Ideal.exp ((s t : EReal) - (s i : EReal)) = ((Real.exp (s t - s i) : ℝ) : EReal) := fun t => by
    rw [← EReal.coe_sub, Ideal.exp_coe]
  simp only [hexp]
  have hpos : 0 < ∑ t, Real.exp (s t - s i) := Finset.sum_pos (fun t _ => Real.exp_pos _) Finset.univ_nonempty
  rw [← Cert.Softmax.coe_sum, Ideal.div_coe hpos.ne', one_mul, Cert.Softmax.sum_mul_coe _ _ _ (by positivity)]
  refine Finset.sum_congr rfl fun t _ => ?_
  rw [Ideal.div_coe hpos.ne', mul_comm (Real.exp _ : EReal) (v t), mul_assoc]

/-- An extended real that is a real. -/
def IsReal (x : EReal) : Prop := ∃ r : ℝ, x = (r : EReal)

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

theorem IsReal.sum {ι : Type} [Fintype ι] {f : ι → EReal} (h : ∀ i, IsReal (f i)) : IsReal (∑ i, f i) := by
  choose g hg using h
  exact ⟨∑ i, g i, by rw [Cert.Softmax.coe_sum]; exact Finset.sum_congr rfl fun i _ => hg i⟩

theorem isReal_one : IsReal 1 := ⟨1, rfl⟩

theorem isReal_silu {x : EReal} (h : IsReal x) : IsReal (silu x) := by
  obtain ⟨a, rfl⟩ := h
  refine IsReal.mul ⟨a, rfl⟩ ?_
  unfold Ideal.logistic
  rw [← EReal.coe_neg, Ideal.exp_coe]
  refine ⟨1 / (1 + Real.exp (-a)), ?_⟩
  rw [show (1 : EReal) + (Real.exp (-a) : EReal) = ((1 + Real.exp (-a) : ℝ) : EReal) by rw [EReal.coe_add]; rfl,
    Ideal.div_coe (by positivity), one_mul]

theorem isReal_ada {cond w : Fin 1024 → EReal} {b : EReal} (hc : ∀ k, IsReal (cond k)) (hw : ∀ k, IsReal (w k)) (hb : IsReal b) :
    IsReal (adaValue cond w b) := IsReal.add (IsReal.sum fun k => (isReal_silu (hc k)).mul (hw k)) hb

theorem isReal_modulated {x sc sh : Fin 1024 → EReal} (hx : ∀ k, IsReal (x k)) (hs : ∀ k, IsReal (sc k)) (hh : ∀ k, IsReal (sh k))
    (k : Fin 1024) : IsReal (modulated x sc sh k) := ((hx k).mul (isReal_one.add (hs k))).add (hh k)

theorem isReal_dot {n : ℕ} {x w : Fin n → EReal} (hx : ∀ k, IsReal (x k)) (hw : ∀ k, IsReal (w k)) : IsReal (dot x w) :=
  IsReal.sum fun k => (hx k).mul (hw k)

/-- The small constant under the root is a positive real. -/
theorem eps_eq : ∃ e : ℝ, 0 < e ∧ Ideal.ofBits .f32 0x358637BD#32 = (e : EReal) := by
  refine ⟨8796093 * 2 ^ (-43 : ℤ), by positivity, ?_⟩
  simp [Ideal.ofBits, Ideal.ieee]

theorem count_eq : Ideal.ofBits .f32 0x43000000#32 = ((128 : ℝ) : EReal) := by
  simp [Ideal.ofBits, Ideal.ieee]
  rw [← EReal.coe_mul]
  norm_num

theorem scale_real : IsReal (Ideal.ofBits .f32 0x3DB504F3#32) := by
  refine ⟨11863283 * 2 ^ (-27 : ℤ), ?_⟩
  simp [Ideal.ofBits, Ideal.ieee]

theorem isReal_headNorm {x g : Fin 128 → EReal} (hx : ∀ k, IsReal (x k)) (hg : ∀ k, IsReal (g k)) (d : Fin 128) : IsReal (headNorm x g d) := by
  obtain ⟨e, he, heq⟩ := eps_eq
  choose y hy using hx
  unfold headNorm
  refine (IsReal.mul ⟨y d, hy d⟩ ?_).mul (hg d)
  simp only [hy]
  rw [heq, count_eq]
  have e1 : ∑ j, (y j : EReal) * (y j : EReal) = ((∑ j, y j * y j : ℝ) : EReal) := by
    rw [Cert.Softmax.coe_sum]
    exact Finset.sum_congr rfl fun j _ => (EReal.coe_mul _ _).symm
  have hp : 0 ≤ ∑ j, y j * y j := Finset.sum_nonneg fun j _ => mul_self_nonneg _
  rw [e1, Ideal.div_coe (by norm_num), ← EReal.coe_mul, ← EReal.coe_add, Ideal.rsqrt_coe]
  have hq : 0 < (∑ j, y j * y j) * (1 / 128 : ℝ) + e := by positivity
  split
  · exfalso; linarith
  · split
    · exfalso; linarith
    · exact ⟨_, rfl⟩

end Cert.Context3

end
-- ==== Proof.ContextAda.lean ====
/-
  The modulation call: the array it leaves, at an index, from the conditions, weights and biases it is given.
-/
module

public import proofs.«01_k».proof.Proof.ContextRun
public import proofs.«01_k».proof.Proof.ContextSpec

@[expose] public section

set_option maxRecDepth 16384

noncomputable section

open Idealize.ShloMosaic Idealize.ShloMosaic.TcCoe Idealize.SL.Sem
open Idealize.ShloMosaic.Pipeline (Dat)

namespace Cert.Context3

open Cert.ContextIdeal Cert.ContextIdeal.Gen

theorem gate_apply (x : FVec Ideal S8x1024 .f32) (i : S8x1024.Idx) : mulf x (logistic x) i = silu (x i) := rfl

theorem k0_pay1_apply (v0 : Vec Ideal S8x1024 .f32) (v4 : Vec Ideal S1x1024x1536 .f32) (v7 : Vec Ideal S1x1x1536 .f32) (a : Fin 1) (r : Fin 8) (j : Fin 1536) :
    k0_pay1 v0 v4 v7 (ix3 a r j) = adaValue (fun k => v0 (ix2 r k)) (fun k => v4 (ix3 0 k j)) (v7 (ix3 0 0 j)) := by
  unfold k0_pay1 adaValue
  pointwise
  rfl

variable (V : (c : Dev nD) → (b : Ref sig .tc) → Buf (Elt Ideal) ((c : Thread nD τ).loc b))

theorem idx0 : ∀ t : Fin cfg0.N, win0_0.index t = ![0, 0] ∧ win0_1.index t = ![t.val / 4, 0, t.val % 4] ∧ win0_2.index t = ![t.val / 4, 0, t.val % 4]
    ∧ win0_3.index t = ![t.val / 4, 0, t.val % 4] :=
  (by decide +kernel : ∀ t : Fin grid0.N, _)

theorem lt0 (t : Fin cfg0.N) : t.val < 8 := lt_of_lt_of_eq t.isLt (by decide +kernel)

theorem b0_0 (c : Dev nD) (t : Fin cfg0.N) (r : Fin 8) (k : Fin 1024) :
    iblk0 V c 0 t (ix2 r k) = (V c main_v5 : Vec Ideal S8x1024 .f32) (ix2 r k) := by
  blk_simp [iblk0, idx0 t]
  blk_ext [idx0 t]

theorem b0_1 (c : Dev nD) (t : Fin cfg0.N) (k : Fin 1024) (j : Fin 1536) (l : Fin 2) (e : Fin 6144) (hl : (l : ℕ) = t.val / 4)
    (he : (e : ℕ) = t.val % 4 * 1536 + j) :
    iblk0 V c 1 t (ix3 0 k j) = (V c main_arg3 : Vec Ideal S2x1024x6144 .f32) (ix3 l k e) := by
  blk_simp [iblk0, idx0 t]
  blk_ext [idx0 t]

theorem b0_2 (c : Dev nD) (t : Fin cfg0.N) (j : Fin 1536) (l : Fin 2) (e : Fin 6144) (hl : (l : ℕ) = t.val / 4)
    (he : (e : ℕ) = t.val % 4 * 1536 + j) :
    iblk0 V c 2 t (ix3 0 0 j) = (V c main_v6 : Vec Ideal S2x1x6144 .f32) (ix3 l 0 e) := by
  blk_simp [iblk0, idx0 t]
  blk_ext [idx0 t]

/-- One modulation value, from the call's arrays. -/
def adaAt (c : Dev nD) (l : Fin 2) (r : Fin 8) (e : Fin 6144) : EReal :=
  adaValue (fun k => (V c main_v5 : Vec Ideal S8x1024 .f32) (ix2 r k)) (fun k => (V c main_arg3 : Vec Ideal S2x1024x6144 .f32) (ix3 l k e))
    ((V c main_v6 : Vec Ideal S2x1x6144 .f32) (ix3 l 0 e))

/-- Entry `(r, j)` of the block a point leaves. -/
def cell0 (x0 : Vec Ideal S8x1024 .f32) (x1 : Vec Ideal S1x1024x1536 .f32) (x2 : Vec Ideal S1x1x1536 .f32) (r : Fin 8) (j : Fin 1536) : EReal :=
  adaValue (fun k => x0 (ix2 r k)) (fun k => x1 (ix3 0 k j)) (x2 (ix3 0 0 j))

theorem ada_cell (c : Dev nD) (t : Fin cfg0.N) (r : Fin 8) (j : Fin 1536) (l : Fin 2) (r' : Fin 8) (e : Fin 6144) (hl : (l : ℕ) = t.val / 4) (hr : (r' : ℕ) = r)
    (he : (e : ℕ) = t.val % 4 * 1536 + j) :
    cell0 (iblk0 V c 0 t) (iblk0 V c 1 t) (iblk0 V c 2 t) r j = adaAt V c l r' e := by
  obtain rfl : r' = r := Fin.ext hr
  unfold adaAt cell0
  simp only [b0_0, b0_1 V c t _ j l e hl he, b0_2 V c t j l e hl he]

theorem out0_apply (x0 : Vec Ideal S8x1024 .f32) (x1 : Vec Ideal S1x1024x1536 .f32) (x2 : Vec Ideal S1x1x1536 .f32) (y : S1x8x1536.Idx) :
    out0_3 x0 x1 x2 y = cell0 x0 x1 x2 (y 1) (y 2) := by
  canon_tiles x h
  case piece0 =>
    idx_vars x
    have e : y 1 = x1 ∧ y 2 = x2 := ⟨Fin.ext h1, Fin.ext h2⟩
    rw [k0_pay1_apply]
    unfold cell0
    pointwise
    simp only [e]

/-- The same at an index of the array. -/
def adaOut (c : Dev nD) (i : S2x8x6144.Idx) : EReal :=
  have l0 : (i 0 : ℕ) < 2 := (i 0).isLt
  have l1 : (i 1 : ℕ) < 8 := (i 1).isLt
  have l2 : (i 2 : ℕ) < 6144 := (i 2).isLt
  adaAt V c ⟨(i 0 : ℕ), l0⟩ ⟨(i 1 : ℕ), l1⟩ ⟨(i 2 : ℕ), l2⟩

theorem emb0 (t : Fin cfg0.N) (a : Fin 1) (r : Fin 8) (j : Fin 1536) :
    ((cfg0.win 3).blk t).view.emb (ix3 a r j)
      = (ix3 (⟨t.val / 4, by have := lt0 t; omega⟩ : Fin 2) r (⟨t.val % 4 * 1536 + j, by omega⟩ : Fin 6144) : S2x8x6144.Idx) := by
  funext d
  refine Fin.ext (((cfg0.win 3).rect_emb_val t _ d rfl).trans ?_)
  rw [show (cfg0.win 3).index t = ![t.val / 4, 0, t.val % 4] from (idx0 t).2.2.2]
  fin_cases d
  · show t.val / 4 * 1 + (a : ℕ) = t.val / 4
    omega
  · exact Nat.zero_add _
  · rfl

theorem final0 (c : Dev nD) : (dat0 V c).arrAt 3 cfg0.N = adaOut V c := by
  refine (dat0 V c).arrAt_eq_of_covers 3 _ (by decide +kernel) fun t _ y => ?_
  obtain ⟨a, r, j, rfl⟩ : ∃ (a : Fin 1) (r : Fin 8) (j : Fin 1536), y = ix3 a r j :=
    ⟨y (0 : Fin 3), y (1 : Fin 3), y (2 : Fin 3), by funext a; fin_cases a <;> rfl⟩
  rw [after0_3]
  refine Eq.trans ?_ (congrArg (adaOut V c) (emb0 t a r j).symm)
  rw [out0_apply]
  exact ada_cell V c t r j ⟨t.val / 4, by have := lt0 t; omega⟩ r ⟨t.val % 4 * 1536 + j, by omega⟩ rfl rfl rfl

end Cert.Context3

end
-- ==== Proof.ContextDense.lean ====
/-
  The dense call: output projection, first residual norm, gated feed-forward in three blocks of hidden units, second residual
  norm. The array it leaves, at an index, from the arrays it is given.
-/
module

public import proofs.«01_k».proof.Proof.ContextRun
public import proofs.«01_k».proof.Proof.ContextSpec

@[expose] public section

set_option maxRecDepth 16384

noncomputable section

open Idealize.ShloMosaic Idealize.ShloMosaic.TcCoe Idealize.SL.Sem
open Idealize.ShloMosaic.Pipeline (Dat)

namespace Cert.Context3

open Cert.ContextIdeal Cert.ContextIdeal.Gen Cert.Swiglu

/-- The means of the rows, taken off. -/
def rowMean (y : FVec Ideal S512x1024 .f32) : FVec Ideal S512x1 .f32 :=
  divf (shapeCast S512x1 (multiReduction .add [1] S512 y 0x00000000#32 reduces_S512x1024_S512 (.inl rfl) rfl) shapeCasts_S512_S512x1)
    (broadcast S512x1 (Scalar.ofBits .f32 0x44800000#32))
def centered (y : FVec Ideal S512x1024 .f32) : FVec Ideal S512x1024 .f32 := subf y (broadcastTo S512x1024 (rowMean y) broadcasts_S512x1_S512x1024)

/-- Centered rows over the roots of their mean squares, with gain and bias. -/
def normOf (z : FVec Ideal S512x1024 .f32) (g b : FVec Ideal S1x1024 .f32) : FVec Ideal S512x1024 .f32 :=
  addf (mulf (mulf z (broadcastTo S512x1024 (rsqrt (addf (rowMean (mulf z z)) (broadcast S512x1 (Scalar.ofBits .f32 0x358637BD#32)))) broadcasts_S512x1_S512x1024))
    (broadcastTo S512x1024 g broadcasts_S1x1024_S512x1024)) (broadcastTo S512x1024 b broadcasts_S1x1024_S512x1024)

/-- The residual: the factor times the tokens, plus the gated update. -/
def resid (x : FVec Ideal S512x1024 .f32) (g : FVec Ideal S1x1024 .f32) (o : FVec Ideal S512x1024 .f32) : FVec Ideal S512x1024 .f32 :=
  addf (mulf (broadcast S512x1024 (Scalar.ofBits .f32 0x3FB504F3#32)) x) (mulf (broadcastTo S512x1024 g broadcasts_S1x1024_S512x1024) o)

/-- Products with blocks of 1024 and of 768 columns, and with 768 rows. -/
def prod (x : FVec Ideal S512x1024 .bf16) (w : Vec Ideal S1024x1024 .bf16) : FVec Ideal S512x1024 .f32 :=
  matmul dot_S512x1024_S1024x1024_S512x1024_1_0_0_1_n_n none x (φ₂ := .bf16) (shapeCast S1024x1024 w shapeCasts_S1024x1024_S1024x1024) (constant S512x1024 .f32 0x00000000#32)
def prodIn (x : FVec Ideal S512x1024 .bf16) (w : Vec Ideal S1024x768 .bf16) : FVec Ideal S512x768 .f32 :=
  matmul dot_S512x1024_S1024x768_S512x768_1_0_0_1_n_n none x (φ₂ := .bf16) (shapeCast S1024x768 w shapeCasts_S1024x768_S1024x768) (constant S512x768 .f32 0x00000000#32)
def prodOut (x : FVec Ideal S512x768 .bf16) (w : Vec Ideal S768x1024 .bf16) : FVec Ideal S512x1024 .f32 :=
  matmul dot_S512x768_S768x1024_S512x1024_1_0_0_1_n_n none x (φ₂ := .bf16) (shapeCast S768x1024 w shapeCasts_S768x1024_S768x1024) (constant S512x1024 .f32 0x00000000#32)

/-- A block of hidden units, through its gates. -/
def blockWide (h : FVec Ideal S512x1024 .bf16) (wg wu wd : Vec Ideal S1024x1024 .bf16) : FVec Ideal S512x1024 .f32 :=
  prod (truncf .bf16 (mulf (mulf (prod h wg) (logistic (prod h wg))) (prod h wu)) bitsLt_bf16_f32) wd
def blockLast (h : FVec Ideal S512x1024 .bf16) (wg wu : Vec Ideal S1024x768 .bf16) (wd : Vec Ideal S768x1024 .bf16) : FVec Ideal S512x1024 .f32 :=
  prodOut (truncf .bf16 (mulf (mulf (prodIn h wg) (logistic (prodIn h wg))) (prodIn h wu)) bitsLt_bf16_f32) wd

theorem rowMean_apply (y : FVec Ideal S512x1024 .f32) (r : Fin 512) :
    rowMean y (ix2 r 0) = Ideal.div (∑ k : Fin 1024, y (ix2 r k)) (Ideal.ofBits .f32 0x44800000#32) := by
  unfold rowMean
  pointwise

theorem centered_apply (y : FVec Ideal S512x1024 .f32) (r : Fin 512) (j : Fin 1024) : centered y (ix2 r j) = y (ix2 r j) - rowMean y (ix2 r 0) := by
  unfold centered
  pointwise

theorem normOf_apply (z : FVec Ideal S512x1024 .f32) (g b : FVec Ideal S1x1024 .f32) (r : Fin 512) (j : Fin 1024) :
    normOf z g b (ix2 r j) = z (ix2 r j) * Ideal.rsqrt (rowMean (mulf z z) (ix2 r 0) + Ideal.ofBits .f32 0x358637BD#32) * g (ix2 0 j) + b (ix2 0 j) := by
  unfold normOf
  pointwise

theorem square_apply (z : FVec Ideal S512x1024 .f32) (i : S512x1024.Idx) : mulf z z i = z i * z i := rfl

theorem norm_apply (y : FVec Ideal S512x1024 .f32) (g b : FVec Ideal S1x1024 .f32) (r : Fin 512) (j : Fin 1024) :
    normOf (centered y) g b (ix2 r j) = tokenNorm (fun k => y (ix2 r k)) (fun k => g (ix2 0 k)) (fun k => b (ix2 0 k)) j := by
  unfold tokenNorm mean
  simp only [normOf_apply, rowMean_apply, square_apply, centered_apply]

theorem resid_apply (x : FVec Ideal S512x1024 .f32) (g : FVec Ideal S1x1024 .f32) (o : FVec Ideal S512x1024 .f32) (r : Fin 512) (j : Fin 1024) :
    resid x g o (ix2 r j) = residual (fun k => x (ix2 r k)) (fun k => g (ix2 0 k)) (fun k => o (ix2 r k)) j := by
  unfold resid residual
  pointwise

theorem prod_apply (x : FVec Ideal S512x1024 .bf16) (w : Vec Ideal S1024x1024 .bf16) (r : Fin 512) (j : Fin 1024) :
    prod x w (ix2 r j) = ∑ k : Fin 1024, x (ix2 r k) * w (ix2 k j) := by
  unfold prod
  pointwise

theorem prodIn_apply (x : FVec Ideal S512x1024 .bf16) (w : Vec Ideal S1024x768 .bf16) (r : Fin 512) (j : Fin 768) :
    prodIn x w (ix2 r j) = ∑ k : Fin 1024, x (ix2 r k) * w (ix2 k j) := by
  unfold prodIn
  pointwise

theorem prodOut_apply (x : FVec Ideal S512x768 .bf16) (w : Vec Ideal S768x1024 .bf16) (r : Fin 512) (j : Fin 1024) :
    prodOut x w (ix2 r j) = ∑ k : Fin 768, x (ix2 r k) * w (ix2 k j) := by
  unfold prodOut
  pointwise

theorem gates_apply (g u : FVec Ideal S512x1024 .f32) (i : S512x1024.Idx) :
    truncf .bf16 (mulf (mulf g (logistic g)) u) bitsLt_bf16_f32 i = gated (g i) (u i) := rfl

theorem gatesLast_apply (g u : FVec Ideal S512x768 .f32) (i : S512x768.Idx) :
    truncf .bf16 (mulf (mulf g (logistic g)) u) bitsLt_bf16_f32 i = gated (g i) (u i) := rfl

theorem blockWide_apply (h : FVec Ideal S512x1024 .bf16) (wg wu wd : Vec Ideal S1024x1024 .bf16) (r : Fin 512) (j : Fin 1024) :
    blockWide h wg wu wd (ix2 r j)
      = swiglu (fun k => h (ix2 r k)) (fun k (f : Fin 1024) => wg (ix2 k f)) (fun k f => wu (ix2 k f)) (fun f => wd (ix2 f j)) := by
  unfold blockWide swiglu
  simp only [prod_apply, gates_apply]

theorem blockLast_apply (h : FVec Ideal S512x1024 .bf16) (wg wu : Vec Ideal S1024x768 .bf16) (wd : Vec Ideal S768x1024 .bf16) (r : Fin 512) (j : Fin 1024) :
    blockLast h wg wu wd (ix2 r j)
      = swiglu (fun k => h (ix2 r k)) (fun k (f : Fin 768) => wg (ix2 k f)) (fun k f => wu (ix2 k f)) (fun f => wd (ix2 f j)) := by
  unfold blockLast swiglu
  simp only [prodOut_apply, prodIn_apply, gatesLast_apply]

theorem k3_pay3_apply (x : FVec Ideal S512x1024 .f32) (sc sh : Vec Ideal S1x1x1024 .f32) (r : Fin 512) (j : Fin 1024) :
    k3_pay3 x sc sh (ix2 r j) = modulated (fun k => x (ix2 r k)) (fun k => sc (ix3 0 0 k)) (fun k => sh (ix3 0 0 k)) j := by
  unfold k3_pay3 modulated
  pointwise

def row3 (x : Vec Ideal S1x1x1024 .f32) : FVec Ideal S1x1024 .f32 := shapeCast S1x1024 x shapeCasts_S1x1x1024_S1x1024
def row2 (x : Vec Ideal S1x1024 .f32) : FVec Ideal S1x1024 .f32 := shapeCast S1x1024 x shapeCasts_S1x1024_S1x1024

theorem row3_apply (x : Vec Ideal S1x1x1024 .f32) (k : Fin 1024) : row3 x (ix2 0 k) = x (ix3 0 0 k) := by
  unfold row3
  pointwise

theorem row2_apply (x : Vec Ideal S1x1024 .f32) (k : Fin 1024) : row2 x (ix2 0 k) = x (ix2 0 k) := by
  unfold row2
  pointwise

def tokens (x : Vec Ideal S512x1024 .f32) : FVec Ideal S512x1024 .f32 := shapeCast S512x1024 x shapeCasts_S512x1024_S512x1024
def attended (x : Vec Ideal S512x1024 .bf16) : FVec Ideal S512x1024 .bf16 := shapeCast S512x1024 x shapeCasts_S512x1024_S512x1024

theorem tokens_apply (x : Vec Ideal S512x1024 .f32) (r : Fin 512) (k : Fin 1024) : tokens x (ix2 r k) = x (ix2 r k) := by
  unfold tokens
  pointwise

theorem attended_apply (x : Vec Ideal S512x1024 .bf16) (r : Fin 512) (k : Fin 1024) : attended x (ix2 r k) = x (ix2 r k) := by
  unfold attended
  pointwise

/-- The first half: the residual of the output projection, normed. -/
def half (x0 : Vec Ideal S512x1024 .bf16) (x1 : Vec Ideal S1024x1024 .bf16) (x2 : Vec Ideal S512x1024 .f32) (x3 : Vec Ideal S1x1x1024 .f32) (x4 x5 : Vec Ideal S1x1024 .f32) :
    FVec Ideal S512x1024 .f32 :=
  normOf (centered (resid (tokens x2) (row3 x3) (prod (attended x0) x1))) (row2 x4) (row2 x5)

theorem half_eq (x0 : Vec Ideal S512x1024 .bf16) (x1 : Vec Ideal S1024x1024 .bf16) (x2 : Vec Ideal S512x1024 .f32) (x3 : Vec Ideal S1x1x1024 .f32) (x4 x5 : Vec Ideal S1x1024 .f32) :
    k3_pay2 x0 x1 x2 x3 x4 x5 = half x0 x1 x2 x3 x4 x5 := rfl

/-- The token after the first residual norm. -/
def tokenHalf (a : Fin 1024 → EReal) (wo : Fin 1024 → Fin 1024 → EReal) (x gate g b : Fin 1024 → EReal) : Fin 1024 → EReal :=
  tokenNorm (residual x gate fun j => dot a fun k => wo k j) g b

/-- The token after the second. -/
def tokenWhole (x sc sh gate g b : Fin 1024 → EReal) (wg wu : Fin 1024 → Fin 2816 → EReal) (wd : Fin 2816 → Fin 1024 → EReal) : Fin 1024 → EReal :=
  tokenNorm (residual x gate fun j => swiglu (modulated x sc sh) wg wu fun f => wd f j) g b

theorem half_apply (x0 : Vec Ideal S512x1024 .bf16) (x1 : Vec Ideal S1024x1024 .bf16) (x2 : Vec Ideal S512x1024 .f32) (x3 : Vec Ideal S1x1x1024 .f32) (x4 x5 : Vec Ideal S1x1024 .f32)
    (r : Fin 512) (j : Fin 1024) :
    half x0 x1 x2 x3 x4 x5 (ix2 r j) = tokenHalf (fun k => x0 (ix2 r k)) (fun k j => x1 (ix2 k j)) (fun k => x2 (ix2 r k)) (fun k => x3 (ix3 0 0 k))
      (fun k => x4 (ix2 0 k)) (fun k => x5 (ix2 0 k)) j := by
  unfold half tokenHalf dot
  simp only [norm_apply, resid_apply, prod_apply, row3_apply, row2_apply, tokens_apply, attended_apply]

/-- The second half, from the three blocks of weights as they are loaded. -/
def whole (x : FVec Ideal S512x1024 .f32) (sc sh gate : Vec Ideal S1x1x1024 .f32) (g b : Vec Ideal S1x1024 .f32) (wg₀ wu₀ wd₀ wg₁ wu₁ wd₁ : Vec Ideal S1024x1024 .bf16)
    (wg₂ wu₂ : Vec Ideal S1024x768 .bf16) (wd₂ : Vec Ideal S768x1024 .bf16) : FVec Ideal S512x1024 .f32 :=
  normOf (centered (resid x (row3 gate) (addf (addf (blockWide (k3_pay3 x sc sh) wg₀ wu₀ wd₀) (blockWide (k3_pay3 x sc sh) wg₁ wu₁ wd₁))
    (blockLast (k3_pay3 x sc sh) wg₂ wu₂ wd₂)))) (row2 g) (row2 b)

/-- Entry `(r, e)` of the block a point leaves. -/
def cellD (x0 : Vec Ideal S512x1024 .bf16) (x1 : Vec Ideal S1024x1024 .bf16) (x2 : Vec Ideal S512x1024 .f32) (x3 : Vec Ideal S1x1x1024 .f32) (x4 x5 : Vec Ideal S1x1024 .f32)
    (x6 x7 : Vec Ideal S1x1x1024 .f32) (x8 x9 : Vec Ideal S1024x2816 .bf16) (x10 : Vec Ideal S2816x1024 .bf16) (x11 : Vec Ideal S1x1x1024 .f32) (x12 x13 : Vec Ideal S1x1024 .f32)
    (r : Fin 512) (e : Fin 1024) : EReal :=
  tokenWhole (tokenHalf (fun k => x0 (ix2 r k)) (fun k j => x1 (ix2 k j)) (fun k => x2 (ix2 r k)) (fun k => x3 (ix3 0 0 k)) (fun k => x4 (ix2 0 k)) (fun k => x5 (ix2 0 k)))
    (fun k => x7 (ix3 0 0 k)) (fun k => x6 (ix3 0 0 k)) (fun k => x11 (ix3 0 0 k)) (fun k => x12 (ix2 0 k)) (fun k => x13 (ix2 0 k))
    (fun k f => x8 (ix2 k f)) (fun k f => x9 (ix2 k f)) (fun f j => x10 (ix2 f j)) e

theorem whole_apply (x : FVec Ideal S512x1024 .f32) (sc sh gate : Vec Ideal S1x1x1024 .f32) (g b : Vec Ideal S1x1024 .f32) (wg wu : Vec Ideal S1024x2816 .bf16)
    (wd : Vec Ideal S2816x1024 .bf16) (wg₀ wu₀ wd₀ wg₁ wu₁ wd₁ : Vec Ideal S1024x1024 .bf16) (wg₂ wu₂ : Vec Ideal S1024x768 .bf16) (wd₂ : Vec Ideal S768x1024 .bf16)
    (g₀ : ∀ k f : Fin 1024, wg₀ (ix2 k f) = wg (ix2 k ⟨f, by omega⟩)) (u₀ : ∀ k f : Fin 1024, wu₀ (ix2 k f) = wu (ix2 k ⟨f, by omega⟩))
    (d₀ : ∀ f j : Fin 1024, wd₀ (ix2 f j) = wd (ix2 ⟨f, by omega⟩ j))
    (g₁ : ∀ k f : Fin 1024, wg₁ (ix2 k f) = wg (ix2 k ⟨1024 + f, by omega⟩)) (u₁ : ∀ k f : Fin 1024, wu₁ (ix2 k f) = wu (ix2 k ⟨1024 + f, by omega⟩))
    (d₁ : ∀ f j : Fin 1024, wd₁ (ix2 f j) = wd (ix2 ⟨1024 + f, by omega⟩ j))
    (g₂ : ∀ (k : Fin 1024) (f : Fin 768), wg₂ (ix2 k f) = wg (ix2 k ⟨2048 + f, by omega⟩)) (u₂ : ∀ (k : Fin 1024) (f : Fin 768), wu₂ (ix2 k f) = wu (ix2 k ⟨2048 + f, by omega⟩))
    (d₂ : ∀ (f : Fin 768) (j : Fin 1024), wd₂ (ix2 f j) = wd (ix2 ⟨2048 + f, by omega⟩ j)) (r : Fin 512) (j : Fin 1024) :
    whole x sc sh gate g b wg₀ wu₀ wd₀ wg₁ wu₁ wd₁ wg₂ wu₂ wd₂ (ix2 r j)
      = tokenWhole (fun k => x (ix2 r k)) (fun k => sc (ix3 0 0 k)) (fun k => sh (ix3 0 0 k)) (fun k => gate (ix3 0 0 k)) (fun k => g (ix2 0 k)) (fun k => b (ix2 0 k))
        (fun k f => wg (ix2 k f)) (fun k f => wu (ix2 k f)) (fun f j => wd (ix2 f j)) j := by
  unfold whole tokenWhole
  simp only [norm_apply, resid_apply, row3_apply, row2_apply, ValueIdx.addf_apply, blockWide_apply, blockLast_apply, k3_pay3_apply, swiglu_blocks,
    g₀, u₀, d₀, g₁, u₁, d₁, g₂, u₂, d₂]

theorem centered_eq (x : FVec Ideal S512x1024 .f32) (sc sh gate : Vec Ideal S1x1x1024 .f32) (wg₀ wu₀ wd₀ wg₁ wu₁ wd₁ : Vec Ideal S1024x1024 .bf16)
    (wg₂ wu₂ : Vec Ideal S1024x768 .bf16) (wd₂ : Vec Ideal S768x1024 .bf16) :
    k3_pay12 (k3_pay3 x sc sh) (k3_pay4 x) (k3_pay5 gate) (k3_pay6 x sc sh wg₀ wu₀ wd₀) (k3_pay7 x sc sh wg₁) (k3_pay8 x sc sh wu₁) (k3_pay9 x sc sh wg₁) wd₁ wg₂ wu₂ wd₂
      = centered (resid x (row3 gate) (addf (addf (blockWide (k3_pay3 x sc sh) wg₀ wu₀ wd₀) (blockWide (k3_pay3 x sc sh) wg₁ wu₁ wd₁))
        (blockLast (k3_pay3 x sc sh) wg₂ wu₂ wd₂))) := rfl

theorem variance_eq (h : FVec Ideal S512x1024 .bf16) (a : FVec Ideal S512x1024 .f32) (g : FVec Ideal S1x1024 .f32) (p q u l : FVec Ideal S512x1024 .f32)
    (wd₁ : Vec Ideal S1024x1024 .bf16) (wg₂ wu₂ : Vec Ideal S1024x768 .bf16) (wd₂ : Vec Ideal S768x1024 .bf16) :
    k3_pay13 h a g p q u l wd₁ wg₂ wu₂ wd₂ = rowMean (mulf (k3_pay12 h a g p q u l wd₁ wg₂ wu₂ wd₂) (k3_pay12 h a g p q u l wd₁ wg₂ wu₂ wd₂)) := rfl

theorem normed_eq (z : FVec Ideal S512x1024 .f32) (g b : Vec Ideal S1x1024 .f32) :
    k3_pay1 (k3_pay10 g) (k3_pay11 b) z (rowMean (mulf z z)) (Scalar.ofBits .f32 0x358637BD#32) = normOf z (row2 g) (row2 b) := rfl

theorem out3_apply (x0 : Vec Ideal S512x1024 .bf16) (x1 : Vec Ideal S1024x1024 .bf16) (x2 : Vec Ideal S512x1024 .f32) (x3 : Vec Ideal S1x1x1024 .f32) (x4 x5 : Vec Ideal S1x1024 .f32)
    (x6 x7 : Vec Ideal S1x1x1024 .f32) (x8 x9 : Vec Ideal S1024x2816 .bf16) (x10 : Vec Ideal S2816x1024 .bf16) (x11 : Vec Ideal S1x1x1024 .f32) (x12 x13 : Vec Ideal S1x1024 .f32)
    (y : S512x1024.Idx) :
    out3_14 x0 x1 x2 x3 x4 x5 x6 x7 x8 x9 x10 x11 x12 x13 y = cellD x0 x1 x2 x3 x4 x5 x6 x7 x8 x9 x10 x11 x12 x13 (y 0) (y 1) := by
  canon_tiles x h
  case piece0 =>
    idx_vars x
    have e : y 0 = x0 ∧ y 1 = x1 := ⟨Fin.ext h0, Fin.ext h1⟩
    rw [variance_eq]
    unfold k3_pay15 k3_pay16 k3_pay17 k3_pay18 k3_pay19 k3_pay20 k3_pay21 k3_pay14
    rw [centered_eq, normed_eq, half_eq]
    refine (whole_apply _ _ _ _ _ _ x8 x9 x10 _ _ _ _ _ _ _ _ _ ?_ ?_ ?_ ?_ ?_ ?_ ?_ ?_ ?_ _ _).trans ?_
    case refine_10 =>
      unfold cellD
      simp only [half_apply, e]
      pointwise
    all_goals intro k f
    all_goals pointwise

variable (V : (c : Dev nD) → (b : Ref sig .tc) → Buf (Elt Ideal) ((c : Thread nD τ).loc b))

theorem idx3 : ∀ t : Fin cfg3.N, win3_0.index t = ![t.val, 0] ∧ win3_1.index t = ![0, 0] ∧ win3_2.index t = ![t.val, 0] ∧ win3_3.index t = ![0, 0, 0] ∧ win3_4.index t = ![0, 0] ∧ win3_5.index t = ![0, 0] ∧ win3_6.index t = ![0, 0, 0] ∧ win3_7.index t = ![0, 0, 0] ∧ win3_8.index t = ![0, 0] ∧ win3_9.index t = ![0, 1] ∧ win3_10.index t = ![0, 0] ∧ win3_11.index t = ![0, 0, 0] ∧ win3_12.index t = ![0, 0] ∧ win3_13.index t = ![0, 0] ∧ win3_14.index t = ![t.val, 0] :=
  (by decide +kernel : ∀ t : Fin grid3.N, _)

theorem lt3 (t : Fin cfg3.N) : t.val < 16 := lt_of_lt_of_eq t.isLt (by decide +kernel)

theorem b3_0 (c : Dev nD) (t : Fin cfg3.N) (r : Fin 512) (k : Fin 1024) (s : Fin 8192) (hs : (s : ℕ) = t.val * 512 + r) :
    iblk3 V c 0 t (ix2 r k) = (V c main_v32 : Vec Ideal S8192x1024 .bf16) (ix2 s k) := by
  blk_simp [iblk3, idx3 t]
  blk_ext [idx3 t]

theorem b3_1 (c : Dev nD) (t : Fin cfg3.N) (k j : Fin 1024) :
    iblk3 V c 1 t (ix2 k j) = (V c main_v16 : Vec Ideal S1024x1024 .bf16) (ix2 k j) := by
  blk_simp [iblk3, idx3 t]
  blk_ext [idx3 t]

theorem b3_2 (c : Dev nD) (t : Fin cfg3.N) (r : Fin 512) (k : Fin 1024) (s : Fin 8192) (hs : (s : ℕ) = t.val * 512 + r) :
    iblk3 V c 2 t (ix2 r k) = (V c main_v0 : Vec Ideal S8192x1024 .f32) (ix2 s k) := by
  blk_simp [iblk3, idx3 t]
  blk_ext [idx3 t]

theorem b3_3 (c : Dev nD) (t : Fin cfg3.N) (k : Fin 1024) :
    iblk3 V c 3 t (ix3 0 0 k) = (V c main_v34 : Vec Ideal S8x1x1024 .f32) (ix3 0 0 k) := by
  blk_simp [iblk3, idx3 t]
  blk_ext [idx3 t]

theorem b3_4 (c : Dev nD) (t : Fin cfg3.N) (k : Fin 1024) :
    iblk3 V c 4 t (ix2 0 k) = (V c main_v37 : Vec Ideal S1x1024 .f32) (ix2 0 k) := by
  blk_simp [iblk3, idx3 t]
  blk_ext [idx3 t]

theorem b3_5 (c : Dev nD) (t : Fin cfg3.N) (k : Fin 1024) :
    iblk3 V c 5 t (ix2 0 k) = (V c main_v40 : Vec Ideal S1x1024 .f32) (ix2 0 k) := by
  blk_simp [iblk3, idx3 t]
  blk_ext [idx3 t]

theorem b3_6 (c : Dev nD) (t : Fin cfg3.N) (k : Fin 1024) :
    iblk3 V c 6 t (ix3 0 0 k) = (V c main_v42 : Vec Ideal S8x1x1024 .f32) (ix3 0 0 k) := by
  blk_simp [iblk3, idx3 t]
  blk_ext [idx3 t]

theorem b3_7 (c : Dev nD) (t : Fin cfg3.N) (k : Fin 1024) :
    iblk3 V c 7 t (ix3 0 0 k) = (V c main_v44 : Vec Ideal S8x1x1024 .f32) (ix3 0 0 k) := by
  blk_simp [iblk3, idx3 t]
  blk_ext [idx3 t]

theorem b3_8 (c : Dev nD) (t : Fin cfg3.N) (k : Fin 1024) (f : Fin 2816) :
    iblk3 V c 8 t (ix2 k f) = (V c main_v18 : Vec Ideal S1024x5632 .bf16) (ix2 k ⟨f, by omega⟩) := by
  blk_simp [iblk3, idx3 t]
  blk_ext [idx3 t]

theorem b3_9 (c : Dev nD) (t : Fin cfg3.N) (k : Fin 1024) (f : Fin 2816) :
    iblk3 V c 9 t (ix2 k f) = (V c main_v18 : Vec Ideal S1024x5632 .bf16) (ix2 k ⟨2816 + f, by omega⟩) := by
  blk_simp [iblk3, idx3 t]
  blk_ext [idx3 t]

theorem b3_10 (c : Dev nD) (t : Fin cfg3.N) (f : Fin 2816) (j : Fin 1024) :
    iblk3 V c 10 t (ix2 f j) = (V c main_v20 : Vec Ideal S2816x1024 .bf16) (ix2 f j) := by
  blk_simp [iblk3, idx3 t]
  blk_ext [idx3 t]

theorem b3_11 (c : Dev nD) (t : Fin cfg3.N) (k : Fin 1024) :
    iblk3 V c 11 t (ix3 0 0 k) = (V c main_v46 : Vec Ideal S8x1x1024 .f32) (ix3 0 0 k) := by
  blk_simp [iblk3, idx3 t]
  blk_ext [idx3 t]

theorem b3_12 (c : Dev nD) (t : Fin cfg3.N) (k : Fin 1024) :
    iblk3 V c 12 t (ix2 0 k) = (V c main_v49 : Vec Ideal S1x1024 .f32) (ix2 0 k) := by
  blk_simp [iblk3, idx3 t]
  blk_ext [idx3 t]

theorem b3_13 (c : Dev nD) (t : Fin cfg3.N) (k : Fin 1024) :
    iblk3 V c 13 t (ix2 0 k) = (V c main_v52 : Vec Ideal S1x1024 .f32) (ix2 0 k) := by
  blk_simp [iblk3, idx3 t]
  blk_ext [idx3 t]

/-- A token after the first layer, from the call's arrays. -/
def denseAt (c : Dev nD) (s : Fin 8192) (e : Fin 1024) : EReal :=
  tokenWhole (tokenHalf (fun k => ((V c main_v32 : Vec Ideal S8192x1024 .bf16) (ix2 s k))) (fun k j => ((V c main_v16 : Vec Ideal S1024x1024 .bf16) (ix2 k j))) (fun k => ((V c main_v0 : Vec Ideal S8192x1024 .f32) (ix2 s k))) (fun k => ((V c main_v34 : Vec Ideal S8x1x1024 .f32) (ix3 0 0 k)))
      (fun k => ((V c main_v37 : Vec Ideal S1x1024 .f32) (ix2 0 k))) (fun k => ((V c main_v40 : Vec Ideal S1x1024 .f32) (ix2 0 k))))
    (fun k => ((V c main_v44 : Vec Ideal S8x1x1024 .f32) (ix3 0 0 k))) (fun k => ((V c main_v42 : Vec Ideal S8x1x1024 .f32) (ix3 0 0 k))) (fun k => ((V c main_v46 : Vec Ideal S8x1x1024 .f32) (ix3 0 0 k))) (fun k => ((V c main_v49 : Vec Ideal S1x1024 .f32) (ix2 0 k))) (fun k => ((V c main_v52 : Vec Ideal S1x1024 .f32) (ix2 0 k)))
    (fun k f => ((V c main_v18 : Vec Ideal S1024x5632 .bf16) (ix2 k ⟨f, by omega⟩))) (fun k f => ((V c main_v18 : Vec Ideal S1024x5632 .bf16) (ix2 k ⟨2816 + f, by omega⟩))) (fun f j => ((V c main_v20 : Vec Ideal S2816x1024 .bf16) (ix2 f j))) e

theorem cellD_eq (c : Dev nD) (t : Fin cfg3.N) (r : Fin 512) (e : Fin 1024) (s : Fin 8192) (hs : (s : ℕ) = t.val * 512 + r) :
    cellD (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) r e = denseAt V c s e := by
  unfold cellD denseAt
  simp only [b3_0 V c t r _ s hs, b3_2 V c t r _ s hs, b3_1, b3_3, b3_4, b3_5, b3_6, b3_7, b3_8, b3_9, b3_10, b3_11, b3_12, b3_13]

/-- The same at an index of the array. -/
def denseOut (c : Dev nD) (i : S8192x1024.Idx) : EReal := denseAt V c ⟨(i 0 : ℕ), (i 0).isLt⟩ ⟨(i 1 : ℕ), (i 1).isLt⟩

theorem final3 (c : Dev nD) : (dat3 V c).arrAt 14 cfg3.N = denseOut V c := by
  refine (dat3 V c).arrAt_eq_of_covers 14 _ (by decide +kernel) fun t _ y => ?_
  obtain ⟨r, e, rfl⟩ : ∃ (r : Fin 512) (e : Fin 1024), y = ix2 r e :=
    ⟨y (0 : Fin 2), y (1 : Fin 2), by funext a; fin_cases a <;> rfl⟩
  have eR : ((cfg3.win 14).blk t).view.emb (ix2 r e) = (ix2 (⟨t.val * 512 + r, by have := lt3 t; omega⟩ : Fin 8192) e : S8192x1024.Idx) := by
    funext d
    refine Fin.ext (((cfg3.win 14).rect_emb_val t _ d rfl).trans ?_)
    rw [show (cfg3.win 14).index t = ![t.val, 0] from (idx3 t).2.2.2.2.2.2.2.2.2.2.2.2.2.2]
    fin_cases d
    · rfl
    · exact Nat.zero_add _
  rw [after3_14]
  refine Eq.trans ?_ (congrArg (denseOut V c) eR.symm)
  rw [out3_apply]
  exact cellD_eq V c t r e ⟨t.val * 512 + r, by have := lt3 t; omega⟩ rfl

end Cert.Context3

end
-- ==== Proof.ContextModel.lean ====
/-
  What the context part computes, from its arguments alone: both programs' results are read as these functions.
-/
module

public import proofs.«01_k».proof.Proof.ContextDense

@[expose] public section

set_option maxRecDepth 16384

noncomputable section

open Idealize.ShloMosaic Idealize.ShloMosaic.TcCoe Idealize.SL.Sem

namespace Cert.Context3

open Cert.ContextIdeal

/-- The arguments, entry by entry: tokens, condition, modulation weights and biases, the two norms' gains and biases of the first layer,
  its weights, and the second layer's projection. -/
structure Inputs where
  x : Fin 32 → Fin 256 → Fin 1024 → EReal
  cond : Fin 1024 → EReal
  adaW : Fin 2 → Fin 1024 → Fin 6144 → EReal
  adaB : Fin 2 → Fin 6144 → EReal
  g1 : Fin 1024 → EReal
  b1 : Fin 1024 → EReal
  g2 : Fin 1024 → EReal
  b2 : Fin 1024 → EReal
  wqkv : Fin 1024 → Fin 1536 → EReal
  gq : Fin 128 → EReal
  gk : Fin 128 → EReal
  wo : Fin 1024 → Fin 1024 → EReal
  wlater : Fin 1024 → Fin 3072 → EReal
  wgu : Fin 1024 → Fin 5632 → EReal
  wdown : Fin 2816 → Fin 1024 → EReal

/-- The arguments' entries out of the arrays. -/
def inputsOf (a0 : Vec Ideal S32x256x1024 .f32) (a2 : Vec Ideal S1024 .f32) (a3 : Vec Ideal S2x1024x6144 .f32) (a4 : Vec Ideal S2x6144 .f32)
    (a5 a6 a7 a8 : Vec Ideal S2x1024 .f32) (a9 : Vec Ideal S1x1024x1536 .f32) (a10 a11 : Vec Ideal S1x128 .f32) (a12 : Vec Ideal S1x1024x1024 .f32)
    (a13 : Vec Ideal S1x1024x3072 .f32) (a14 : Vec Ideal S1x1024x5632 .f32) (a15 : Vec Ideal S1x2816x1024 .f32) : Inputs where
  x b t j := a0 (ix3 b t j)
  cond j := a2 (ix1 j)
  adaW l k e := a3 (ix3 l k e)
  adaB l e := a4 (ix2 l e)
  g1 j := a5 (ix2 0 j)
  b1 j := a6 (ix2 0 j)
  g2 j := a7 (ix2 0 j)
  b2 j := a8 (ix2 0 j)
  wqkv k e := a9 (ix3 0 k e)
  gq j := a10 (ix2 0 j)
  gk j := a11 (ix2 0 j)
  wo k e := a12 (ix3 0 k e)
  wlater k e := a13 (ix3 0 k e)
  wgu k e := a14 (ix3 0 k e)
  wdown k e := a15 (ix3 0 k e)

namespace Inputs

variable (I : Inputs)

/-- Row `i` of layer `l`'s six modulations. -/
def modn (l : Fin 2) (i : Fin 6) (j : Fin 1024) : EReal :=
  adaValue I.cond (fun k => I.adaW l k ⟨i * 1024 + j, by omega⟩) (I.adaB l ⟨i * 1024 + j, by omega⟩)

def qkv (b : Fin 32) (t : Fin 256) (e : Fin 1536) : EReal := dot (modulated (I.x b t) (I.modn 0 1) (I.modn 0 0)) (fun k => I.wqkv k e)

def query (b : Fin 32) (t : Fin 256) (h : Fin 8) (d : Fin 128) : EReal :=
  headNorm (fun j => I.qkv b t ⟨h * 128 + j, by omega⟩) I.gq d * Ideal.ofBits .f32 0x3DB504F3#32

def key (b : Fin 32) (t : Fin 256) (h : Fin 2) (d : Fin 128) : EReal := headNorm (fun j => I.qkv b t ⟨1024 + h * 128 + j, by omega⟩) I.gk d

def value (b : Fin 32) (t : Fin 256) (h : Fin 2) (d : Fin 128) : EReal := I.qkv b t ⟨1280 + (h * 128 + d), by omega⟩

/-- The attention's result in column `e`, over a way of taking the softmax of a row. -/
def attended (row : (Fin 256 → EReal) → (Fin 256 → EReal) → EReal) (b : Fin 32) (t : Fin 256) (e : Fin 1024) : EReal :=
  row (fun u => dot (fun j => I.query b t ⟨e / 128, by omega⟩ j) (fun j => I.key b u ⟨e / 512, by omega⟩ j))
    (fun u => I.value b u ⟨e / 512, by omega⟩ ⟨e % 128, by omega⟩)

/-- A token after the first layer. -/
def layer (row : (Fin 256 → EReal) → (Fin 256 → EReal) → EReal) (b : Fin 32) (t : Fin 256) : Fin 1024 → EReal :=
  tokenWhole (tokenHalf (I.attended row b t) I.wo (I.x b t) (I.modn 0 2) I.g1 I.b1) (I.modn 0 4) (I.modn 0 3) (I.modn 0 5) I.g2 I.b2
    (fun k f => I.wgu k ⟨f, by omega⟩) (fun k f => I.wgu k ⟨2816 + f, by omega⟩) I.wdown

/-- The same projected by the second layer. -/
def later (row : (Fin 256 → EReal) → (Fin 256 → EReal) → EReal) (b : Fin 32) (t : Fin 256) (e : Fin 3072) : EReal :=
  dot (modulated (I.layer row b t) (I.modn 1 1) (I.modn 1 0)) (fun k => I.wlater k e)

end Inputs

end Cert.Context3

end
-- ==== Proof.ContextMods.lean ====
/-
  The condition and the modulations, from the program's arguments, at the boundaries between its calls.
-/
module

public import proofs.«01_k».proof.Proof.ContextAda
public import proofs.«01_k».proof.Proof.ContextModel
public import Idealize.ShloMosaic.Lib.Routing.OpsSet

@[expose] public section

set_option maxRecDepth 16384

noncomputable section

open Idealize.ShloMosaic Idealize.ShloMosaic.TcCoe Idealize.SL.Sem
open Idealize.ShloMosaic.Pipeline (Dat)

namespace Cert.Context3

open Cert.ContextIdeal Cert.ContextIdeal.Gen
open Idealize.ShloMosaic.Routing

/-- The vector written at row zero of the table lands on row zero. -/
theorem lands_first (idx : IVec (shape1 1) 32) (h : (idx (ix1 0)).toInt = 0) (k : Fin 1024) (j : Fin 1024) :
    (scatter_S8x1024_S1_S1024_0_0_0_0 : ScatterDims (shape2 8 1024) (shape1 1) (shape1 1024)).resultIdx? (ix1 k) idx = some (ix2 0 j) ↔ k = j := by
  have hm : (0 : Fin 2) ∈ (scatter_S8x1024_S1_S1024_0_0_0_0).scatterDimsToOperandDims := List.mem_singleton.2 rfl
  have w0 : (scatter_S8x1024_S1_S1024_0_0_0_0).window (ix1 k) 0 = 0 := by
    unfold ScatterDims.window
    rw [dif_neg (by decide)]
  have w1 : (scatter_S8x1024_S1_S1024_0_0_0_0).window (ix1 k) 1 = k.val := by
    unfold ScatterDims.window
    rw [dif_pos (by decide)]
    have q : ∀ X : Fin 1, (ix1 k X).val = k.val := fun X => by
      obtain rfl : X = 0 := Subsingleton.elim _ _
      rfl
    exact q _
  have s0 : (scatter_S8x1024_S1_S1024_0_0_0_0).start (ix1 k) idx 0 = 0 := by
    unfold ScatterDims.start
    rw [dif_pos hm]
    have hsi : (scatter_S8x1024_S1_S1024_0_0_0_0).siIdx (ix1 k) ⟨(scatter_S8x1024_S1_S1024_0_0_0_0).scatterDimsToOperandDims.idxOf 0, List.idxOf_lt_length_iff.2 hm⟩ = ix1 (0 : Fin 1) := by
      funext b'
      match b' with
      | ⟨0, _⟩ => exact Subsingleton.elim (α := Fin 1) _ _
    rw [hsi, h]
  have s1 : (scatter_S8x1024_S1_S1024_0_0_0_0).start (ix1 k) idx 1 = 0 := by
    unfold ScatterDims.start
    rw [dif_neg (by decide)]
  have e := resultIdx?_ix2 (scatter_S8x1024_S1_S1024_0_0_0_0 : ScatterDims (shape2 8 1024) (shape1 1) (shape1 1024)) (ix1 k) idx 0 j
  refine e.trans ?_
  rw [s0, s1, w0, w1, Fin.ext_iff]
  simp

/-- The four rows written from row one on do not land on row zero. -/
theorem misses_first (idx : IVec (shape1 1) 32) (h : (idx (ix1 0)).toInt = 1) (k : (shape2 4 1024).Idx) (j : Fin 1024) :
    (scatter_S8x1024_S1_S4x1024_01_n_0_0 : ScatterDims (shape2 8 1024) (shape1 1) (shape2 4 1024)).resultIdx? k idx ≠ some (ix2 0 j) := by
  have hm : (0 : Fin 2) ∈ (scatter_S8x1024_S1_S4x1024_01_n_0_0).scatterDimsToOperandDims := List.mem_singleton.2 rfl
  have s0 : (scatter_S8x1024_S1_S4x1024_01_n_0_0).start k idx 0 = 1 := by
    unfold ScatterDims.start
    rw [dif_pos hm]
    have hsi : (scatter_S8x1024_S1_S4x1024_01_n_0_0).siIdx k ⟨(scatter_S8x1024_S1_S4x1024_01_n_0_0).scatterDimsToOperandDims.idxOf 0, List.idxOf_lt_length_iff.2 hm⟩ = ix1 (0 : Fin 1) := by
      funext b'
      match b' with
      | ⟨0, _⟩ => exact Subsingleton.elim (α := Fin 1) _ _
    rw [hsi, h]
  intro hk
  have e := ((resultIdx?_ix2 (scatter_S8x1024_S1_S4x1024_01_n_0_0 : ScatterDims (shape2 8 1024) (shape1 1) (shape2 4 1024)) k idx 0 j).1 hk).1
  rw [s0] at e
  simp at e
  omega

/-- The table of conditions at its first row. -/
theorem cond_first (x0 : Vec Ideal S8x1024 .f32) (i0 i1 : IVec S1 32) (h0 : (i0 (ix1 0)).toInt = 0) (h1 : (i1 (ix1 0)).toInt = 1)
    (a2 : Vec Ideal S1024 .f32) (a1 : Vec Ideal S4x1024 .f32) (j : Fin 1024) :
    (Host.scatter scatter_S8x1024_S1_S4x1024_01_n_0_0 (fun _ b => b)
      (Host.scatter scatter_S8x1024_S1_S1024_0_0_0_0 (fun _ b => b) x0 i0 a2 : Vec Ideal S8x1024 .f32) i1 a1 : Vec Ideal S8x1024 .f32) (ix2 0 j) = a2 (ix1 j) := by
  refine (scatter_set_miss _ _ _ _ _ fun k => misses_first i1 h1 k j).trans ?_
  refine scatter_set_hit _ _ _ _ _ _ (fun k hk => ?_) (ix1 j) ((lands_first i0 h0 j j).2 rfl)
  obtain ⟨e, rfl⟩ : ∃ e : Fin 1024, k = ix1 e := ⟨k 0, eq_ix1 k⟩
  rw [(lands_first i0 h0 e j).1 hk]

variable (m : (ℓ : Loc nD τ sig) → Buf (Elt Ideal) ℓ) (ρ : Dev nD → PrngReg)

theorem v5_entry (c : Dev nD) : (V1 m ρ c main_v5 : Vec Ideal S8x1024 .f32)
    = (Host.scatter scatter_S8x1024_S1_S4x1024_01_n_0_0 (fun _ b => b)
        (Host.scatter scatter_S8x1024_S1_S1024_0_0_0_0 (fun _ b => b) (broadcastInDim S8x1024 ![] bcast_S_S8x1024 (constant (F := Ideal) S_ .f32 0x00000000#32 : Vec Ideal S_ .f32) : Vec Ideal S8x1024 .f32)
          (broadcastInDim S1 ![] bcast_S_S1 (constantI S_ 32 0#32) : IVec S1 32) (m ((c : Thread nD τ).loc main_arg2) : Vec Ideal S1024 .f32) : Vec Ideal S8x1024 .f32)
        (broadcastInDim S1 ![] bcast_S_S1 (constantI S_ 32 1#32) : IVec S1 32) (m ((c : Thread nD τ).loc main_arg1) : Vec Ideal S4x1024 .f32) : Vec Ideal S8x1024 .f32) := by
  show StableHlo.after hostOps0 (W0 m ρ c) (Proc.devRef .tc main_v5) = _
  entry_read
  rfl

theorem v5_first (c : Dev nD) (j : Fin 1024) :
    (V1 m ρ c main_v5 : Vec Ideal S8x1024 .f32) (ix2 0 j) = (m ((c : Thread nD τ).loc main_arg2) : Vec Ideal S1024 .f32) (ix1 j) :=
  (congrFun (v5_entry m ρ c) _).trans (cond_first _ _ _ rfl rfl _ _ j)

theorem v6_entry (c : Dev nD) : (V1 m ρ c main_v6 : Vec Ideal S2x1x6144 .f32)
    = shapeCast S2x1x6144 (m ((c : Thread nD τ).loc main_arg4) : Vec Ideal S2x6144 .f32) shapeCasts_S2x6144_S2x1x6144 := by
  show StableHlo.after hostOps0 (W0 m ρ c) (Proc.devRef .tc main_v6) = _
  entry_read
  rfl

theorem bias_apply (a : Vec Ideal S2x6144 .f32) (l : Fin 2) (e : Fin 6144) :
    shapeCast S2x1x6144 a shapeCasts_S2x6144_S2x1x6144 (ix3 l 0 e) = a (ix2 l e) := by
  pointwise

theorem v6_at (c : Dev nD) (l : Fin 2) (e : Fin 6144) :
    (V1 m ρ c main_v6 : Vec Ideal S2x1x6144 .f32) (ix3 l 0 e) = (m ((c : Thread nD τ).loc main_arg4) : Vec Ideal S2x6144 .f32) (ix2 l e) :=
  (congrFun (v6_entry m ρ c) _).trans (bias_apply _ l e)

/-- The program's arguments on a core. -/
def inputsK (c : Dev nD) : Inputs :=
  inputsOf (m ((c : Thread nD τ).loc main_arg0)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15))

theorem ada_first (c : Dev nD) (l : Fin 2) (i : Fin 6) (j : Fin 1024) :
    adaAt (V1 m ρ) c l 0 ⟨i * 1024 + j, by omega⟩ = (inputsK m c).modn l i j := by
  unfold adaAt Inputs.modn
  exact congr (congr (congrArg adaValue (funext fun k => v5_first m ρ c k))
    (funext fun k => congrFun (W1_args m ρ c main_arg3 (by decide)) _)) (v6_at m ρ c l _)

theorem v7_entry (c : Dev nD) : V2 m ρ c main_v7 = adaOut (V1 m ρ) c := (W2_arr m ρ c 3).trans (final0 (V1 m ρ) c)

/-- The host's rearrangement of the table. -/
def spreadMods (a : Vec Ideal S2x8x6144 .f32) : Vec Ideal S2x6x8x1x1024 .f32 :=
  broadcastInDim S2x6x8x1x1024 ![0, 1, 2, 4] bcast_S2x6x8x1024_S2x6x8x1x1024_0_1_2_4
    (transpose S2x6x8x1024 [0, 2, 1, 3] (shapeCast S2x8x6x1024 a shapeCasts_S2x8x6144_S2x8x6x1024) transposes_S2x8x6x1024_S2x6x8x1024_0_2_1_3)

theorem spreadMods_apply (a : Vec Ideal S2x8x6144 .f32) (l : Fin 2) (i : Fin 6) (r : Fin 8) (j : Fin 1024) :
    spreadMods a (ix5 l i r 0 j) = a (ix3 l r ⟨i * 1024 + j, by omega⟩) := by
  unfold spreadMods
  pointwise

theorem v10_entry (c : Dev nD) : (V3 m ρ c main_v10 : Vec Ideal S2x6x8x1x1024 .f32) = spreadMods (V2 m ρ c main_v7) := by
  show StableHlo.after hostOps1 (W2 m ρ c) (Proc.devRef .tc main_v10) = _
  entry_read
  rfl

/-- The table of modulations, by layer, kind, condition and column. -/
theorem v10_first (c : Dev nD) (l : Fin 2) (i : Fin 6) (j : Fin 1024) :
    (V3 m ρ c main_v10 : Vec Ideal S2x6x8x1x1024 .f32) (ix5 l i 0 0 j) = (inputsK m c).modn l i j := by
  refine (congrFun (v10_entry m ρ c) _).trans ((spreadMods_apply _ l i 0 j).trans ?_)
  rw [v7_entry]
  exact ada_first m ρ c l i j

end Cert.Context3

end
-- ==== Proof.ContextQkv.lean ====
/-
  The first layer's projection call: the queries, keys and values it leaves, at an index, from the tokens, modulations,
  weights and gains it is given.
-/
module

public import proofs.«01_k».proof.Proof.ContextRun
public import proofs.«01_k».proof.Proof.ContextSpec

@[expose] public section

set_option maxRecDepth 16384

noncomputable section

open Idealize.ShloMosaic Idealize.ShloMosaic.TcCoe Idealize.SL.Sem
open Idealize.ShloMosaic.Pipeline (Dat)

namespace Cert.Context3

open Cert.ContextIdeal Cert.ContextIdeal.Gen

theorem k1_pay5_apply (v0 : Vec Ideal S512x1024 .f32) (v2 v8 : Vec Ideal S1x1x1024 .f32) (v13 : Vec Ideal S1024x1536 .bf16) (r : Fin 512) (e : Fin 1536) :
    k1_pay5 v0 v2 v8 v13 (ix2 r e)
      = dot (modulated (fun k => v0 (ix2 r k)) (fun k => v2 (ix3 0 0 k)) (fun k => v8 (ix3 0 0 k))) (fun k => v13 (ix2 k e)) := by
  unfold k1_pay5 dot modulated
  pointwise

/-- 512 heads over the roots of their mean squares, times the gain. -/
def headBlock (x : FVec Ideal S512x128 .f32) (g : FVec Ideal S1x128 .f32) : FVec Ideal S512x128 .f32 :=
  mulf (mulf x (broadcastTo S512x128 (rsqrt (addf (divf (shapeCast S512x1 (multiReduction .add [1] S512 (mulf x x) 0x00000000#32 reduces_S512x128_S512 (.inl rfl) rfl)
      shapeCasts_S512_S512x1) (broadcast S512x1 (Scalar.ofBits .f32 0x43000000#32))) (broadcast S512x1 (Scalar.ofBits .f32 0x358637BD#32)))) broadcasts_S512x1_S512x128))
    (broadcastTo S512x128 g broadcasts_S1x128_S512x128)

theorem headBlock_apply (x : FVec Ideal S512x128 .f32) (g : FVec Ideal S1x128 .f32) (r : Fin 512) (d : Fin 128) :
    headBlock x g (ix2 r d) = headNorm (fun j => x (ix2 r j)) (fun j => g (ix2 0 j)) d := by
  unfold headBlock headNorm
  pointwise

/-- The same with the factor of the scores, as the queries are stored. -/
def queryBlock (x : FVec Ideal S512x128 .f32) (g : Vec Ideal S1x128 .f32) : FVec Ideal S512x128 .bf16 :=
  truncf .bf16 (mulf (headBlock x (shapeCast S1x128 g shapeCasts_S1x128_S1x128)) (broadcast S512x128 (Scalar.ofBits .f32 0x3DB504F3#32))) bitsLt_bf16_f32

theorem queryBlock_apply (x : FVec Ideal S512x128 .f32) (g : Vec Ideal S1x128 .f32) (r : Fin 512) (d : Fin 128) :
    queryBlock x g (ix2 r d) = headNorm (fun j => x (ix2 r j)) (fun j => g (ix2 0 j)) d * Ideal.ofBits .f32 0x3DB504F3#32 := by
  unfold queryBlock
  pointwise
  rw [headBlock_apply]

/-- Entry `(r, e)` of the projected block. -/
def projAt (x0 : Vec Ideal S512x1024 .f32) (x1 x2 : Vec Ideal S1x1x1024 .f32) (x3 : Vec Ideal S1024x1536 .bf16) (r : Fin 512) (e : Fin 1536) : EReal :=
  dot (modulated (fun k => x0 (ix2 r k)) (fun k => x2 (ix3 0 0 k)) (fun k => x1 (ix3 0 0 k))) (fun k => x3 (ix2 k e))

theorem k1_pay28_apply (x0 : Vec Ideal S512x1024 .f32) (x1 x2 : Vec Ideal S1x1x1024 .f32) (x3 : Vec Ideal S1024x1536 .bf16) (x4 x5 : Vec Ideal S1x128 .f32)
    (r : Fin 512) (e : Fin 1536) : k1_pay28 x0 x1 x2 x3 x4 x5 (ix2 r e) = projAt x0 x1 x2 x3 r e := by
  unfold k1_pay28 projAt
  rw [k1_pay5_apply]
  pointwise

/-- Entries of the blocks a point leaves: queries, keys, values. -/
def cellQ (x0 : Vec Ideal S512x1024 .f32) (x1 x2 : Vec Ideal S1x1x1024 .f32) (x3 : Vec Ideal S1024x1536 .bf16) (x4 : Vec Ideal S1x128 .f32) (r : Fin 512) (e : Fin 1024) : EReal :=
  headNorm (fun j => projAt x0 x1 x2 x3 r ⟨e / 128 * 128 + j, by omega⟩) (fun j => x4 (ix2 0 j)) ⟨e % 128, by omega⟩ * Ideal.ofBits .f32 0x3DB504F3#32
def cellK (x0 : Vec Ideal S512x1024 .f32) (x1 x2 : Vec Ideal S1x1x1024 .f32) (x3 : Vec Ideal S1024x1536 .bf16) (x5 : Vec Ideal S1x128 .f32) (r : Fin 512) (e : Fin 256) : EReal :=
  headNorm (fun j => projAt x0 x1 x2 x3 r ⟨1024 + e / 128 * 128 + j, by omega⟩) (fun j => x5 (ix2 0 j)) ⟨e % 128, by omega⟩
def cellV (x0 : Vec Ideal S512x1024 .f32) (x1 x2 : Vec Ideal S1x1x1024 .f32) (x3 : Vec Ideal S1024x1536 .bf16) (r : Fin 512) (e : Fin 256) : EReal :=
  projAt x0 x1 x2 x3 r ⟨1280 + e, by omega⟩

theorem out1_9_apply (x0 : Vec Ideal S512x1024 .f32) (x1 x2 : Vec Ideal S1x1x1024 .f32) (x3 : Vec Ideal S1024x1536 .bf16) (x4 x5 : Vec Ideal S1x128 .f32) (y : S512x256.Idx) :
    out1_9 x0 x1 x2 x3 x4 x5 y = cellK x0 x1 x2 x3 x5 (y 0) (y 1) := by
  canon_tiles x h
  case piece0 =>
    rw [show k1_pay1 (k1_pay29 x0 x1 x2 x3 x4 x5) (k1_pay30 x0 x1 x2 x3 x4 x5)
        = headBlock (extractStridedSlice S512x128 ![0, 1152] (k1_pay28 x0 x1 x2 x3 x4 x5) slices_S512x1536_o0_1152_S512x128) (shapeCast S1x128 (View.ld x5 r1_3) shapeCasts_S1x128_S1x128) from rfl]
    idx_vars x
    have e : y 0 = x0 ∧ (y 1 : ℕ) / 128 = 1 ∧ (y 1 : ℕ) % 128 = x1 := ⟨Fin.ext h0, by omega, by omega⟩
    rw [headBlock_apply]
    unfold cellK
    pointwise
    simp only [k1_pay28_apply, e, Nat.reduceMul, Nat.zero_add, Nat.add_zero, Nat.reduceAdd]
  case piece1 =>
    rw [show k1_pay24 (k1_pay28 x0 x1 x2 x3 x4 x5) (View.ld x5 r1_3)
        = headBlock (extractStridedSlice S512x128 ![0, 1024] (k1_pay28 x0 x1 x2 x3 x4 x5) slices_S512x1536_o0_1024_S512x128) (shapeCast S1x128 (View.ld x5 r1_3) shapeCasts_S1x128_S1x128) from rfl]
    idx_vars x
    have e : y 0 = x0 ∧ (y 1 : ℕ) / 128 = 0 ∧ (y 1 : ℕ) % 128 = x1 := ⟨Fin.ext h0, by omega, by omega⟩
    rw [headBlock_apply]
    unfold cellK
    pointwise
    simp only [k1_pay28_apply, e, Nat.reduceMul, Nat.zero_add, Nat.add_zero, Nat.reduceAdd]

theorem out1_10_apply (x0 : Vec Ideal S512x1024 .f32) (x1 x2 : Vec Ideal S1x1x1024 .f32) (x3 : Vec Ideal S1024x1536 .bf16) (x4 x5 : Vec Ideal S1x128 .f32) (y : S512x256.Idx) :
    out1_10 x0 x1 x2 x3 x4 x5 y = cellV x0 x1 x2 x3 (y 0) (y 1) := by
  canon_tiles x h
  case piece0 =>
    idx_vars x
    have e : y 0 = x0 ∧ y 1 = x1 := ⟨Fin.ext h0, Fin.ext (by omega)⟩
    unfold cellV k1_pay3
    pointwise
    simp only [k1_pay28_apply, e]

/-- The copies at the narrow format hold the same values. -/
theorem out1_7_apply (x0 : Vec Ideal S512x1024 .f32) (x1 x2 : Vec Ideal S1x1x1024 .f32) (x3 : Vec Ideal S1024x1536 .bf16) (x4 x5 : Vec Ideal S1x128 .f32) (y : S512x256.Idx) :
    out1_7 x0 x1 x2 x3 x4 x5 y = cellK x0 x1 x2 x3 x5 (y 0) (y 1) := out1_9_apply x0 x1 x2 x3 x4 x5 y

theorem out1_8_apply (x0 : Vec Ideal S512x1024 .f32) (x1 x2 : Vec Ideal S1x1x1024 .f32) (x3 : Vec Ideal S1024x1536 .bf16) (x4 x5 : Vec Ideal S1x128 .f32) (y : S512x256.Idx) :
    out1_8 x0 x1 x2 x3 x4 x5 y = cellV x0 x1 x2 x3 (y 0) (y 1) := out1_10_apply x0 x1 x2 x3 x4 x5 y

theorem out1_6_apply (x0 : Vec Ideal S512x1024 .f32) (x1 x2 : Vec Ideal S1x1x1024 .f32) (x3 : Vec Ideal S1024x1536 .bf16) (x4 x5 : Vec Ideal S1x128 .f32) (y : S512x1024.Idx) :
    out1_6 x0 x1 x2 x3 x4 x5 y = cellQ x0 x1 x2 x3 x4 (y 0) (y 1) := by
  canon_tiles x h
  case piece0 =>
    rw [show k1_pay23 (k1_pay20 (k1_pay28 x0 x1 x2 x3 x4 x5)) (k1_pay21 (View.ld x4 r1_3)) (k1_pay22 (k1_pay28 x0 x1 x2 x3 x4 x5))
        = queryBlock (extractStridedSlice S512x128 ![0, 896] (k1_pay28 x0 x1 x2 x3 x4 x5) slices_S512x1536_o0_896_S512x128) (View.ld x4 r1_3) from rfl]
    idx_vars x
    have e : y 0 = x0 ∧ (y 1 : ℕ) / 128 = 7 ∧ (y 1 : ℕ) % 128 = x1 := ⟨Fin.ext h0, by omega, by omega⟩
    rw [queryBlock_apply]
    unfold cellQ
    pointwise
    simp only [k1_pay28_apply, e, Nat.reduceMul, Nat.zero_add]
  case piece1 =>
    rw [show k1_pay19 (k1_pay28 x0 x1 x2 x3 x4 x5) (View.ld x4 r1_3)
        = queryBlock (extractStridedSlice S512x128 ![0, 768] (k1_pay28 x0 x1 x2 x3 x4 x5) slices_S512x1536_o0_768_S512x128) (View.ld x4 r1_3) from rfl]
    idx_vars x
    have e : y 0 = x0 ∧ (y 1 : ℕ) / 128 = 6 ∧ (y 1 : ℕ) % 128 = x1 := ⟨Fin.ext h0, by omega, by omega⟩
    rw [queryBlock_apply]
    unfold cellQ
    pointwise
    simp only [k1_pay28_apply, e, Nat.reduceMul, Nat.zero_add]
  case piece2 =>
    rw [show k1_pay18 (k1_pay16 (k1_pay28 x0 x1 x2 x3 x4 x5)) (k1_pay17 (k1_pay28 x0 x1 x2 x3 x4 x5)) (View.ld x4 r1_3)
        = queryBlock (extractStridedSlice S512x128 ![0, 640] (k1_pay28 x0 x1 x2 x3 x4 x5) slices_S512x1536_o0_640_S512x128) (View.ld x4 r1_3) from rfl]
    idx_vars x
    have e : y 0 = x0 ∧ (y 1 : ℕ) / 128 = 5 ∧ (y 1 : ℕ) % 128 = x1 := ⟨Fin.ext h0, by omega, by omega⟩
    rw [queryBlock_apply]
    unfold cellQ
    pointwise
    simp only [k1_pay28_apply, e, Nat.reduceMul, Nat.zero_add]
  case piece3 =>
    rw [show k1_pay15 (k1_pay28 x0 x1 x2 x3 x4 x5) (View.ld x4 r1_3)
        = queryBlock (extractStridedSlice S512x128 ![0, 512] (k1_pay28 x0 x1 x2 x3 x4 x5) slices_S512x1536_o0_512_S512x128) (View.ld x4 r1_3) from rfl]
    idx_vars x
    have e : y 0 = x0 ∧ (y 1 : ℕ) / 128 = 4 ∧ (y 1 : ℕ) % 128 = x1 := ⟨Fin.ext h0, by omega, by omega⟩
    rw [queryBlock_apply]
    unfold cellQ
    pointwise
    simp only [k1_pay28_apply, e, Nat.reduceMul, Nat.zero_add]
  case piece4 =>
    rw [show k1_pay14 (k1_pay11 (k1_pay28 x0 x1 x2 x3 x4 x5)) (k1_pay12 (k1_pay28 x0 x1 x2 x3 x4 x5)) (k1_pay13 (F := Ideal)) (View.ld x4 r1_3)
        = queryBlock (extractStridedSlice S512x128 ![0, 384] (k1_pay28 x0 x1 x2 x3 x4 x5) slices_S512x1536_o0_384_S512x128) (View.ld x4 r1_3) from rfl]
    idx_vars x
    have e : y 0 = x0 ∧ (y 1 : ℕ) / 128 = 3 ∧ (y 1 : ℕ) % 128 = x1 := ⟨Fin.ext h0, by omega, by omega⟩
    rw [queryBlock_apply]
    unfold cellQ
    pointwise
    simp only [k1_pay28_apply, e, Nat.reduceMul, Nat.zero_add]
  case piece5 =>
    rw [show k1_pay10 (k1_pay28 x0 x1 x2 x3 x4 x5) (View.ld x4 r1_3)
        = queryBlock (extractStridedSlice S512x128 ![0, 256] (k1_pay28 x0 x1 x2 x3 x4 x5) slices_S512x1536_o0_256_S512x128) (View.ld x4 r1_3) from rfl]
    idx_vars x
    have e : y 0 = x0 ∧ (y 1 : ℕ) / 128 = 2 ∧ (y 1 : ℕ) % 128 = x1 := ⟨Fin.ext h0, by omega, by omega⟩
    rw [queryBlock_apply]
    unfold cellQ
    pointwise
    simp only [k1_pay28_apply, e, Nat.reduceMul, Nat.zero_add]
  case piece6 =>
    rw [show k1_pay9 (k1_pay7 (View.ld x0 r1_0) (View.ld x2 r1_1) (View.ld x1 r1_1) (View.ld x3 r1_2)) (k1_pay8 (View.ld x0 r1_0) (View.ld x2 r1_1) (View.ld x1 r1_1) (View.ld x3 r1_2)) (View.ld x4 r1_3)
        = queryBlock (extractStridedSlice S512x128 ![0, 128] (k1_pay28 x0 x1 x2 x3 x4 x5) slices_S512x1536_o0_128_S512x128) (View.ld x4 r1_3) from rfl]
    idx_vars x
    have e : y 0 = x0 ∧ (y 1 : ℕ) / 128 = 1 ∧ (y 1 : ℕ) % 128 = x1 := ⟨Fin.ext h0, by omega, by omega⟩
    rw [queryBlock_apply]
    unfold cellQ
    pointwise
    simp only [k1_pay28_apply, e, Nat.reduceMul, Nat.zero_add]
  case piece7 =>
    rw [show k1_pay6 (View.ld x0 r1_0) (View.ld x2 r1_1) (View.ld x1 r1_1) (View.ld x3 r1_2) (View.ld x4 r1_3)
        = queryBlock (extractStridedSlice S512x128 ![0, 0] (k1_pay28 x0 x1 x2 x3 x4 x5) slices_S512x1536_o0_0_S512x128) (View.ld x4 r1_3) from rfl]
    idx_vars x
    have e : y 0 = x0 ∧ (y 1 : ℕ) / 128 = 0 ∧ (y 1 : ℕ) % 128 = x1 := ⟨Fin.ext h0, by omega, by omega⟩
    rw [queryBlock_apply]
    unfold cellQ
    pointwise
    simp only [k1_pay28_apply, e, Nat.reduceMul, Nat.zero_add]

variable (V : (c : Dev nD) → (b : Ref sig .tc) → Buf (Elt Ideal) ((c : Thread nD τ).loc b))

theorem idx1 : ∀ t : Fin cfg1.N, win1_0.index t = ![t.val, 0] ∧ win1_1.index t = ![0, 0, 0] ∧ win1_2.index t = ![0, 0, 0]
    ∧ win1_3.index t = ![0, 0] ∧ win1_4.index t = ![0, 0] ∧ win1_5.index t = ![0, 0] ∧ win1_6.index t = ![t.val, 0] ∧ win1_7.index t = ![t.val, 0]
    ∧ win1_8.index t = ![t.val, 0] ∧ win1_9.index t = ![t.val, 0] ∧ win1_10.index t = ![t.val, 0] :=
  (by decide +kernel : ∀ t : Fin grid1.N, _)

theorem lt1 (t : Fin cfg1.N) : t.val < 16 := lt_of_lt_of_eq t.isLt (by decide +kernel)

theorem b1_0 (c : Dev nD) (t : Fin cfg1.N) (r : Fin 512) (k : Fin 1024) (s : Fin 8192) (hs : (s : ℕ) = t.val * 512 + r) :
    iblk1 V c 0 t (ix2 r k) = (V c main_v0 : Vec Ideal S8192x1024 .f32) (ix2 s k) := by
  blk_simp [iblk1, idx1 t]
  blk_ext [idx1 t]

theorem b1_1 (c : Dev nD) (t : Fin cfg1.N) (k : Fin 1024) :
    iblk1 V c 1 t (ix3 0 0 k) = (V c main_v26 : Vec Ideal S8x1x1024 .f32) (ix3 0 0 k) := by
  blk_simp [iblk1, idx1 t]
  blk_ext [idx1 t]

theorem b1_2 (c : Dev nD) (t : Fin cfg1.N) (k : Fin 1024) :
    iblk1 V c 2 t (ix3 0 0 k) = (V c main_v28 : Vec Ideal S8x1x1024 .f32) (ix3 0 0 k) := by
  blk_simp [iblk1, idx1 t]
  blk_ext [idx1 t]

theorem b1_3 (c : Dev nD) (t : Fin cfg1.N) (k : Fin 1024) (e : Fin 1536) :
    iblk1 V c 3 t (ix2 k e) = (V c main_v14 : Vec Ideal S1024x1536 .bf16) (ix2 k e) := by
  blk_simp [iblk1, idx1 t]
  blk_ext [idx1 t]

theorem b1_4 (c : Dev nD) (t : Fin cfg1.N) (k : Fin 128) :
    iblk1 V c 4 t (ix2 0 k) = (V c main_v22 : Vec Ideal S1x128 .f32) (ix2 0 k) := by
  blk_simp [iblk1, idx1 t]
  blk_ext [idx1 t]

theorem b1_5 (c : Dev nD) (t : Fin cfg1.N) (k : Fin 128) :
    iblk1 V c 5 t (ix2 0 k) = (V c main_v24 : Vec Ideal S1x128 .f32) (ix2 0 k) := by
  blk_simp [iblk1, idx1 t]
  blk_ext [idx1 t]

/-- A token projected, from the call's arrays. -/
def qkvAt (c : Dev nD) (s : Fin 8192) (e : Fin 1536) : EReal :=
  dot (modulated (fun k => (V c main_v0 : Vec Ideal S8192x1024 .f32) (ix2 s k)) (fun k => (V c main_v28 : Vec Ideal S8x1x1024 .f32) (ix3 0 0 k))
    (fun k => (V c main_v26 : Vec Ideal S8x1x1024 .f32) (ix3 0 0 k))) (fun k => (V c main_v14 : Vec Ideal S1024x1536 .bf16) (ix2 k e))

theorem proj_eq (c : Dev nD) (t : Fin cfg1.N) (r : Fin 512) (e : Fin 1536) (s : Fin 8192) (hs : (s : ℕ) = t.val * 512 + r) :
    projAt (iblk1 V c 0 t) (iblk1 V c 1 t) (iblk1 V c 2 t) (iblk1 V c 3 t) r e = qkvAt V c s e := by
  unfold projAt qkvAt
  simp only [b1_0 V c t r _ s hs, b1_1, b1_2, b1_3]

/-- The queries, keys and values of a token, from the call's arrays. -/
def qAt (c : Dev nD) (s : Fin 8192) (h : Fin 8) (d : Fin 128) : EReal :=
  headNorm (fun j => qkvAt V c s ⟨h * 128 + j, by omega⟩) (fun j => (V c main_v22 : Vec Ideal S1x128 .f32) (ix2 0 j)) d * Ideal.ofBits .f32 0x3DB504F3#32
def kAt (c : Dev nD) (s : Fin 8192) (h : Fin 2) (d : Fin 128) : EReal :=
  headNorm (fun j => qkvAt V c s ⟨1024 + h * 128 + j, by omega⟩) (fun j => (V c main_v24 : Vec Ideal S1x128 .f32) (ix2 0 j)) d
def vAt (c : Dev nD) (s : Fin 8192) (h : Fin 2) (d : Fin 128) : EReal := qkvAt V c s ⟨1280 + (h * 128 + d), by omega⟩

/-- The same at an index of the arrays. -/
def qOut (c : Dev nD) (i : S8192x1024.Idx) : EReal :=
  have l1 : (i 1 : ℕ) < 1024 := (i 1).isLt
  qAt V c ⟨(i 0 : ℕ), (i 0).isLt⟩ ⟨(i 1 : ℕ) / 128, by omega⟩ ⟨(i 1 : ℕ) % 128, by omega⟩
def kOut (c : Dev nD) (i : S8192x256.Idx) : EReal :=
  have l1 : (i 1 : ℕ) < 256 := (i 1).isLt
  kAt V c ⟨(i 0 : ℕ), (i 0).isLt⟩ ⟨(i 1 : ℕ) / 128, by omega⟩ ⟨(i 1 : ℕ) % 128, by omega⟩
def vOut (c : Dev nD) (i : S8192x256.Idx) : EReal :=
  have l1 : (i 1 : ℕ) < 256 := (i 1).isLt
  vAt V c ⟨(i 0 : ℕ), (i 0).isLt⟩ ⟨(i 1 : ℕ) / 128, by omega⟩ ⟨(i 1 : ℕ) % 128, by omega⟩

theorem cellQ_eq (c : Dev nD) (t : Fin cfg1.N) (r : Fin 512) (e : Fin 1024) (s : Fin 8192) (hs : (s : ℕ) = t.val * 512 + r) :
    cellQ (iblk1 V c 0 t) (iblk1 V c 1 t) (iblk1 V c 2 t) (iblk1 V c 3 t) (iblk1 V c 4 t) r e = qAt V c s ⟨e / 128, by omega⟩ ⟨e % 128, by omega⟩ := by
  unfold cellQ qAt
  simp only [proj_eq V c t r _ s hs, b1_4]

theorem cellK_eq (c : Dev nD) (t : Fin cfg1.N) (r : Fin 512) (e : Fin 256) (s : Fin 8192) (hs : (s : ℕ) = t.val * 512 + r) :
    cellK (iblk1 V c 0 t) (iblk1 V c 1 t) (iblk1 V c 2 t) (iblk1 V c 3 t) (iblk1 V c 5 t) r e = kAt V c s ⟨e / 128, by omega⟩ ⟨e % 128, by omega⟩ := by
  unfold cellK kAt
  simp only [proj_eq V c t r _ s hs, b1_5]

theorem cellV_eq (c : Dev nD) (t : Fin cfg1.N) (r : Fin 512) (e : Fin 256) (s : Fin 8192) (hs : (s : ℕ) = t.val * 512 + r) :
    cellV (iblk1 V c 0 t) (iblk1 V c 1 t) (iblk1 V c 2 t) (iblk1 V c 3 t) r e = vAt V c s ⟨e / 128, by omega⟩ ⟨e % 128, by omega⟩ := by
  unfold cellV vAt
  rw [proj_eq V c t r _ s hs]
  congr 1
  refine Fin.ext ?_
  show 1280 + (e : ℕ) = 1280 + ((e : ℕ) / 128 * 128 + (e : ℕ) % 128)
  omega

theorem final1_6 (c : Dev nD) : (dat1 V c).arrAt 6 cfg1.N = qOut V c := by
  refine (dat1 V c).arrAt_eq_of_covers 6 _ (by decide +kernel) fun t _ y => ?_
  obtain ⟨r, e, rfl⟩ : ∃ (r : Fin 512) (e : Fin 1024), y = ix2 r e :=
    ⟨y (0 : Fin 2), y (1 : Fin 2), by funext a; fin_cases a <;> rfl⟩
  have eR : ((cfg1.win 6).blk t).view.emb (ix2 r e) = (ix2 (⟨t.val * 512 + r, by have := lt1 t; omega⟩ : Fin 8192) e : S8192x1024.Idx) := by
    funext d
    refine Fin.ext (((cfg1.win 6).rect_emb_val t _ d rfl).trans ?_)
    rw [show (cfg1.win 6).index t = ![t.val, 0] from (idx1 t).2.2.2.2.2.2.1]
    fin_cases d
    · rfl
    · exact Nat.zero_add _
  rw [after1_6]
  refine Eq.trans ?_ (congrArg (qOut V c) eR.symm)
  rw [out1_6_apply]
  exact cellQ_eq V c t r e ⟨t.val * 512 + r, by have := lt1 t; omega⟩ rfl

theorem final1_7 (c : Dev nD) : (dat1 V c).arrAt 7 cfg1.N = kOut V c := by
  refine (dat1 V c).arrAt_eq_of_covers 7 _ (by decide +kernel) fun t _ y => ?_
  obtain ⟨r, e, rfl⟩ : ∃ (r : Fin 512) (e : Fin 256), y = ix2 r e :=
    ⟨y (0 : Fin 2), y (1 : Fin 2), by funext a; fin_cases a <;> rfl⟩
  have eR : ((cfg1.win 7).blk t).view.emb (ix2 r e) = (ix2 (⟨t.val * 512 + r, by have := lt1 t; omega⟩ : Fin 8192) e : S8192x256.Idx) := by
    funext d
    refine Fin.ext (((cfg1.win 7).rect_emb_val t _ d rfl).trans ?_)
    rw [show (cfg1.win 7).index t = ![t.val, 0] from (idx1 t).2.2.2.2.2.2.2.1]
    fin_cases d
    · rfl
    · exact Nat.zero_add _
  rw [after1_7]
  refine Eq.trans ?_ (congrArg (kOut V c) eR.symm)
  rw [out1_7_apply]
  exact cellK_eq V c t r e ⟨t.val * 512 + r, by have := lt1 t; omega⟩ rfl

theorem final1_8 (c : Dev nD) : (dat1 V c).arrAt 8 cfg1.N = vOut V c := by
  refine (dat1 V c).arrAt_eq_of_covers 8 _ (by decide +kernel) fun t _ y => ?_
  obtain ⟨r, e, rfl⟩ : ∃ (r : Fin 512) (e : Fin 256), y = ix2 r e :=
    ⟨y (0 : Fin 2), y (1 : Fin 2), by funext a; fin_cases a <;> rfl⟩
  have eR : ((cfg1.win 8).blk t).view.emb (ix2 r e) = (ix2 (⟨t.val * 512 + r, by have := lt1 t; omega⟩ : Fin 8192) e : S8192x256.Idx) := by
    funext d
    refine Fin.ext (((cfg1.win 8).rect_emb_val t _ d rfl).trans ?_)
    rw [show (cfg1.win 8).index t = ![t.val, 0] from (idx1 t).2.2.2.2.2.2.2.2.1]
    fin_cases d
    · rfl
    · exact Nat.zero_add _
  rw [after1_8]
  refine Eq.trans ?_ (congrArg (vOut V c) eR.symm)
  rw [out1_8_apply]
  exact cellV_eq V c t r e ⟨t.val * 512 + r, by have := lt1 t; omega⟩ rfl

theorem final1_9 (c : Dev nD) : (dat1 V c).arrAt 9 cfg1.N = kOut V c := by
  refine (dat1 V c).arrAt_eq_of_covers 9 _ (by decide +kernel) fun t _ y => ?_
  obtain ⟨r, e, rfl⟩ : ∃ (r : Fin 512) (e : Fin 256), y = ix2 r e :=
    ⟨y (0 : Fin 2), y (1 : Fin 2), by funext a; fin_cases a <;> rfl⟩
  have eR : ((cfg1.win 9).blk t).view.emb (ix2 r e) = (ix2 (⟨t.val * 512 + r, by have := lt1 t; omega⟩ : Fin 8192) e : S8192x256.Idx) := by
    funext d
    refine Fin.ext (((cfg1.win 9).rect_emb_val t _ d rfl).trans ?_)
    rw [show (cfg1.win 9).index t = ![t.val, 0] from (idx1 t).2.2.2.2.2.2.2.2.2.1]
    fin_cases d
    · rfl
    · exact Nat.zero_add _
  rw [after1_9]
  refine Eq.trans ?_ (congrArg (kOut V c) eR.symm)
  rw [out1_9_apply]
  exact cellK_eq V c t r e ⟨t.val * 512 + r, by have := lt1 t; omega⟩ rfl

theorem final1_10 (c : Dev nD) : (dat1 V c).arrAt 10 cfg1.N = vOut V c := by
  refine (dat1 V c).arrAt_eq_of_covers 10 _ (by decide +kernel) fun t _ y => ?_
  obtain ⟨r, e, rfl⟩ : ∃ (r : Fin 512) (e : Fin 256), y = ix2 r e :=
    ⟨y (0 : Fin 2), y (1 : Fin 2), by funext a; fin_cases a <;> rfl⟩
  have eR : ((cfg1.win 10).blk t).view.emb (ix2 r e) = (ix2 (⟨t.val * 512 + r, by have := lt1 t; omega⟩ : Fin 8192) e : S8192x256.Idx) := by
    funext d
    refine Fin.ext (((cfg1.win 10).rect_emb_val t _ d rfl).trans ?_)
    rw [show (cfg1.win 10).index t = ![t.val, 0] from (idx1 t).2.2.2.2.2.2.2.2.2.2]
    fin_cases d
    · rfl
    · exact Nat.zero_add _
  rw [after1_10]
  refine Eq.trans ?_ (congrArg (vOut V c) eR.symm)
  rw [out1_10_apply]
  exact cellV_eq V c t r e ⟨t.val * 512 + r, by have := lt1 t; omega⟩ rfl

end Cert.Context3

end
-- ==== Proof.ContextQkvB.lean ====
/-
  The second layer's projection call: the keys and values it leaves, at an index, from the tokens, modulations and weights it
  is given.
-/
module

public import proofs.«01_k».proof.Proof.ContextRun
public import proofs.«01_k».proof.Proof.ContextSpec

@[expose] public section

set_option maxRecDepth 16384

noncomputable section

open Idealize.ShloMosaic Idealize.ShloMosaic.TcCoe Idealize.SL.Sem
open Idealize.ShloMosaic.Pipeline (Dat)

namespace Cert.Context3

open Cert.ContextIdeal Cert.ContextIdeal.Gen

theorem k4_pay1_apply (v0 : Vec Ideal S512x1024 .f32) (v2 v8 : Vec Ideal S1x1x1024 .f32) (v13 : Vec Ideal S1024x3072 .bf16) (r : Fin 512) (e : Fin 3072) :
    k4_pay1 v0 v2 v8 v13 (ix2 r e)
      = dot (modulated (fun k => v0 (ix2 r k)) (fun k => v2 (ix3 0 0 k)) (fun k => v8 (ix3 0 0 k))) (fun k => v13 (ix2 k e)) := by
  unfold k4_pay1 dot modulated
  pointwise

/-- Entry `(r, e)` of the projected block. -/
def cellB (x0 : Vec Ideal S512x1024 .f32) (x1 x2 : Vec Ideal S1x1x1024 .f32) (x3 : Vec Ideal S1024x3072 .bf16) (r : Fin 512) (e : Fin 3072) : EReal :=
  dot (modulated (fun k => x0 (ix2 r k)) (fun k => x2 (ix3 0 0 k)) (fun k => x1 (ix3 0 0 k))) (fun k => x3 (ix2 k e))

variable (V : (c : Dev nD) → (b : Ref sig .tc) → Buf (Elt Ideal) ((c : Thread nD τ).loc b))

theorem idx4 : ∀ t : Fin cfg4.N, win4_0.index t = ![t.val, 0] ∧ win4_1.index t = ![0, 0, 0] ∧ win4_2.index t = ![0, 0, 0]
    ∧ win4_3.index t = ![0, 0] ∧ win4_7.index t = ![t.val, 0] ∧ win4_8.index t = ![t.val, 0] :=
  (by decide +kernel : ∀ t : Fin grid4.N, _)

theorem lt4 (t : Fin cfg4.N) : t.val < 16 := lt_of_lt_of_eq t.isLt (by decide +kernel)

theorem b4_0 (c : Dev nD) (t : Fin cfg4.N) (r : Fin 512) (k : Fin 1024) (s : Fin 8192) (hs : (s : ℕ) = t.val * 512 + r) :
    iblk4 V c 0 t (ix2 r k) = (V c main_v53 : Vec Ideal S8192x1024 .f32) (ix2 s k) := by
  blk_simp [iblk4, idx4 t]
  blk_ext [idx4 t]

theorem b4_1 (c : Dev nD) (t : Fin cfg4.N) (k : Fin 1024) :
    iblk4 V c 1 t (ix3 0 0 k) = (V c main_v59 : Vec Ideal S8x1x1024 .f32) (ix3 0 0 k) := by
  blk_simp [iblk4, idx4 t]
  blk_ext [idx4 t]

theorem b4_2 (c : Dev nD) (t : Fin cfg4.N) (k : Fin 1024) :
    iblk4 V c 2 t (ix3 0 0 k) = (V c main_v61 : Vec Ideal S8x1x1024 .f32) (ix3 0 0 k) := by
  blk_simp [iblk4, idx4 t]
  blk_ext [idx4 t]

theorem b4_3 (c : Dev nD) (t : Fin cfg4.N) (k : Fin 1024) (e : Fin 3072) :
    iblk4 V c 3 t (ix2 k e) = (V c main_v57 : Vec Ideal S1024x3072 .bf16) (ix2 k e) := by
  blk_simp [iblk4, idx4 t]
  blk_ext [idx4 t]

/-- A token projected, from the call's arrays. -/
def laterAt (c : Dev nD) (s : Fin 8192) (e : Fin 3072) : EReal :=
  dot (modulated (fun k => (V c main_v53 : Vec Ideal S8192x1024 .f32) (ix2 s k)) (fun k => (V c main_v61 : Vec Ideal S8x1x1024 .f32) (ix3 0 0 k))
    (fun k => (V c main_v59 : Vec Ideal S8x1x1024 .f32) (ix3 0 0 k))) (fun k => (V c main_v57 : Vec Ideal S1024x3072 .bf16) (ix2 k e))

theorem cellB_eq (c : Dev nD) (t : Fin cfg4.N) (r : Fin 512) (e : Fin 3072) (s : Fin 8192) (hs : (s : ℕ) = t.val * 512 + r) :
    cellB (iblk4 V c 0 t) (iblk4 V c 1 t) (iblk4 V c 2 t) (iblk4 V c 3 t) r e = laterAt V c s e := by
  unfold cellB laterAt
  simp only [b4_0 V c t r _ s hs, b4_1, b4_2, b4_3]

theorem out4_7_apply (x0 : Vec Ideal S512x1024 .f32) (x1 x2 : Vec Ideal S1x1x1024 .f32) (x3 : Vec Ideal S1024x3072 .bf16) (r : Fin 512) (e : Fin 1024) :
    out4_7 x0 x1 x2 x3 (ix2 r e) = cellB x0 x1 x2 x3 r ⟨1024 + e, by omega⟩ := by
  generalize hy : (ix2 r e : S512x1024.Idx) = y
  have e0 : (y 0 : ℕ) = r := by rw [← hy]; rfl
  have e1 : (y 1 : ℕ) = e := by rw [← hy]; rfl
  canon_tiles x h
  case piece0 =>
    idx_vars x
    obtain rfl : x0 = r := Fin.ext (by omega)
    obtain rfl : x1 = e := Fin.ext (by omega)
    unfold k4_pay3 cellB
    pointwise
    rw [k4_pay1_apply]
    pointwise

/-- The array at an index. -/
def laterK (c : Dev nD) (i : S8192x1024.Idx) : EReal :=
  have l1 : (i 1 : ℕ) < 1024 := (i 1).isLt
  laterAt V c ⟨(i 0 : ℕ), (i 0).isLt⟩ ⟨1024 + (i 1 : ℕ), by omega⟩

theorem final4_7 (c : Dev nD) : (dat4 V c).arrAt 7 cfg4.N = laterK V c := by
  refine (dat4 V c).arrAt_eq_of_covers 7 _ (by decide +kernel) fun t _ y => ?_
  obtain ⟨r, e, rfl⟩ : ∃ (r : Fin 512) (e : Fin 1024), y = ix2 r e :=
    ⟨y (0 : Fin 2), y (1 : Fin 2), by funext a; fin_cases a <;> rfl⟩
  have eR : ((cfg4.win 7).blk t).view.emb (ix2 r e) = (ix2 (⟨t.val * 512 + r, by have := lt4 t; omega⟩ : Fin 8192) e : S8192x1024.Idx) := by
    funext d
    refine Fin.ext (((cfg4.win 7).rect_emb_val t _ d rfl).trans ?_)
    rw [show (cfg4.win 7).index t = ![t.val, 0] from (idx4 t).2.2.2.2.1]
    fin_cases d
    · rfl
    · exact Nat.zero_add _
  rw [after4_7]
  refine Eq.trans ?_ (congrArg (laterK V c) eR.symm)
  refine Eq.trans (cast_eq _ _) ?_
  refine (out4_7_apply _ _ _ _ r e).trans ?_
  exact cellB_eq V c t r ⟨1024 + e, by omega⟩ ⟨t.val * 512 + r, by have := lt4 t; omega⟩ rfl

theorem out4_8_apply (x0 : Vec Ideal S512x1024 .f32) (x1 x2 : Vec Ideal S1x1x1024 .f32) (x3 : Vec Ideal S1024x3072 .bf16) (r : Fin 512) (e : Fin 1024) :
    out4_8 x0 x1 x2 x3 (ix2 r e) = cellB x0 x1 x2 x3 r ⟨2048 + e, by omega⟩ := by
  generalize hy : (ix2 r e : S512x1024.Idx) = y
  have e0 : (y 0 : ℕ) = r := by rw [← hy]; rfl
  have e1 : (y 1 : ℕ) = e := by rw [← hy]; rfl
  canon_tiles x h
  case piece0 =>
    idx_vars x
    obtain rfl : x0 = r := Fin.ext (by omega)
    obtain rfl : x1 = e := Fin.ext (by omega)
    unfold k4_pay5 cellB
    pointwise
    rw [k4_pay1_apply]
    pointwise

/-- The array at an index. -/
def laterV (c : Dev nD) (i : S8192x1024.Idx) : EReal :=
  have l1 : (i 1 : ℕ) < 1024 := (i 1).isLt
  laterAt V c ⟨(i 0 : ℕ), (i 0).isLt⟩ ⟨2048 + (i 1 : ℕ), by omega⟩

theorem final4_8 (c : Dev nD) : (dat4 V c).arrAt 8 cfg4.N = laterV V c := by
  refine (dat4 V c).arrAt_eq_of_covers 8 _ (by decide +kernel) fun t _ y => ?_
  obtain ⟨r, e, rfl⟩ : ∃ (r : Fin 512) (e : Fin 1024), y = ix2 r e :=
    ⟨y (0 : Fin 2), y (1 : Fin 2), by funext a; fin_cases a <;> rfl⟩
  have eR : ((cfg4.win 8).blk t).view.emb (ix2 r e) = (ix2 (⟨t.val * 512 + r, by have := lt4 t; omega⟩ : Fin 8192) e : S8192x1024.Idx) := by
    funext d
    refine Fin.ext (((cfg4.win 8).rect_emb_val t _ d rfl).trans ?_)
    rw [show (cfg4.win 8).index t = ![t.val, 0] from (idx4 t).2.2.2.2.2]
    fin_cases d
    · rfl
    · exact Nat.zero_add _
  rw [after4_8]
  refine Eq.trans ?_ (congrArg (laterV V c) eR.symm)
  refine Eq.trans (cast_eq _ _) ?_
  refine (out4_8_apply _ _ _ _ r e).trans ?_
  exact cellB_eq V c t r ⟨2048 + e, by omega⟩ ⟨t.val * 512 + r, by have := lt4 t; omega⟩ rfl

end Cert.Context3

end
-- ==== Proof.ContextAttn.lean ====
/-
  The self-attention call over 256 tokens of a batch: the array it leaves, at an index, from the queries, keys and values it
  is given. Each of its two units takes four heads' queries at once against one head of keys and values.
-/
module

public import proofs.«01_k».proof.Proof.ContextRun
public import proofs.«01_k».proof.Proof.ContextSpec
public import proofs.«01_k».proof.Proof.AttnBody

@[expose] public section

set_option maxRecDepth 16384

noncomputable section

open Idealize.ShloMosaic Idealize.ShloMosaic.TcCoe Idealize.SL.Sem
open Idealize.ShloMosaic.Pipeline (Dat)

namespace Cert.Context3

open Cert.ContextIdeal Cert.ContextIdeal.Gen

/-- Four heads' queries, one below the other. -/
def stack (q₀ q₁ q₂ q₃ : Vec Ideal S256x128 .bf16) : FVec Ideal S1024x128 .bf16 :=
  concatenate S1024x128 0 [⟨S256x128, shapeCast S256x128 q₀ shapeCasts_S256x128_S256x128⟩, ⟨S256x128, shapeCast S256x128 q₁ shapeCasts_S256x128_S256x128⟩,
    ⟨S256x128, shapeCast S256x128 q₂ shapeCasts_S256x128_S256x128⟩, ⟨S256x128, shapeCast S256x128 q₃ shapeCasts_S256x128_S256x128⟩] concatenates_S256x128_S256x128_S256x128_S256x128_S1024x128_d0

def rowScores (q : FVec Ideal S1024x128 .bf16) (k : Vec Ideal S256x128 .bf16) : FVec Ideal S1024x256 .f32 :=
  matmul dot_S1024x128_S256x128_S1024x256_1_1_0_0_n_n none q (φ₂ := .bf16) (shapeCast S256x128 k shapeCasts_S256x128_S256x128) (constant S1024x256 .f32 0x00000000#32)

def rowPeak (s : FVec Ideal S1024x256 .f32) : FVec Ideal S1024 .f32 := multiReduction .maximumf [1] S1024 s 0xFF800000#32 reduces_S1024x256_S1024 (.inl rfl) rfl

def rowExps (s : FVec Ideal S1024x256 .f32) : FVec Ideal S1024x256 .f32 :=
  exp (subf s (broadcastTo S1024x256 (shapeCast S1024x1 (rowPeak s) shapeCasts_S1024_S1024x1) broadcasts_S1024x1_S1024x256))

def rowTotal (p : FVec Ideal S1024x256 .f32) : FVec Ideal S1024x1 .f32 :=
  shapeCast S1024x1 (multiReduction .add [1] S1024 p 0x00000000#32 reduces_S1024x256_S1024 (.inl rfl) rfl) shapeCasts_S1024_S1024x1

def rowWeighted (p : FVec Ideal S1024x256 .f32) (v : Vec Ideal S256x128 .bf16) : FVec Ideal S1024x128 .f32 :=
  mulf (matmul dot_S1024x256_S256x128_S1024x128_1_0_0_1_n_n none (truncf .bf16 p bitsLt_bf16_f32) (φ₂ := .bf16) (shapeCast S256x128 v shapeCasts_S256x128_S256x128) (constant S1024x128 .f32 0x00000000#32))
    (broadcastTo S1024x128 (divf (broadcast S1024x1 (Scalar.ofBits .f32 0x3F800000#32)) (rowTotal p)) broadcasts_S1024x1_S1024x128)

/-- One unit from what is loaded for it. -/
def fourHeads (q₀ q₁ q₂ q₃ k v : Vec Ideal S256x128 .bf16) : FVec Ideal S1024x128 .f32 := rowWeighted (rowExps (rowScores (stack q₀ q₁ q₂ q₃) k)) v

theorem rowScores_apply (q : FVec Ideal S1024x128 .bf16) (k : Vec Ideal S256x128 .bf16) (r : Fin 1024) (t : Fin 256) :
    rowScores q k (ix2 r t) = ∑ j : Fin 128, q (ix2 r j) * k (ix2 t j) := by
  unfold rowScores
  pointwise

theorem rowPeak_apply (s : FVec Ideal S1024x256 .f32) (r : Fin 1024) : rowPeak s (ix1 r) = Finset.univ.fold max ⊥ fun t => s (ix2 r t) := by
  rw [← Cert.Attn.ofBits_negInf]
  unfold rowPeak
  pointwise

theorem rowExps_apply (s : FVec Ideal S1024x256 .f32) (r : Fin 1024) (t : Fin 256) :
    rowExps s (ix2 r t) = Ideal.exp (s (ix2 r t) - Finset.univ.fold max ⊥ fun t => s (ix2 r t)) := by
  rw [← rowPeak_apply]
  unfold rowExps
  pointwise

theorem rowTotal_apply (p : FVec Ideal S1024x256 .f32) (r : Fin 1024) : rowTotal p (ix2 r 0) = ∑ t : Fin 256, p (ix2 r t) := by
  unfold rowTotal
  pointwise

theorem rowWeighted_apply (p : FVec Ideal S1024x256 .f32) (v : Vec Ideal S256x128 .bf16) (r : Fin 1024) (d : Fin 128) :
    rowWeighted p v (ix2 r d) = (∑ t : Fin 256, p (ix2 r t) * v (ix2 t d)) * Ideal.div 1 (rowTotal p (ix2 r 0)) := by
  unfold rowWeighted
  pointwise

theorem fourHeads_apply (q₀ q₁ q₂ q₃ k v : Vec Ideal S256x128 .bf16) (r : Fin 1024) (d : Fin 128) :
    fourHeads q₀ q₁ q₂ q₃ k v (ix2 r d)
      = rowLate (fun t => ∑ j : Fin 128, stack q₀ q₁ q₂ q₃ (ix2 r j) * k (ix2 t j)) (fun t => v (ix2 t d)) := by
  unfold fourHeads rowLate
  simp only [rowWeighted_apply, rowTotal_apply, rowExps_apply, rowScores_apply]

/-- Head 0 of the four. -/
def part0 (u : FVec Ideal S1024x128 .f32) : FVec Ideal S256x128 .bf16 :=
  truncf .bf16 (extractStridedSlice S256x128 ![0, 0] u slices_S1024x128_o0_0_S256x128) bitsLt_bf16_f32

theorem part0_row (u : FVec Ideal S1024x128 .f32) (r : Fin 256) (d : Fin 128) : part0 u (ix2 r d) = u (ix2 ⟨r, by omega⟩ d) := by
  unfold part0
  pointwise

theorem stack_row0 (q₀ q₁ q₂ q₃ : Vec Ideal S256x128 .bf16) (r : Fin 256) (j : Fin 128) :
    stack q₀ q₁ q₂ q₃ (ix2 ⟨r, by omega⟩ j) = q₀ (ix2 r j) := by
  unfold stack
  pointwise

theorem part0_apply (q₀ q₁ q₂ q₃ k v : Vec Ideal S256x128 .bf16) (r : Fin 256) (d : Fin 128) :
    part0 (fourHeads q₀ q₁ q₂ q₃ k v) (ix2 r d) = rowLate (fun t => dot (fun j => q₀ (ix2 r j)) (fun j => k (ix2 t j))) (fun t => v (ix2 t d)) := by
  unfold dot
  rw [part0_row, fourHeads_apply]
  simp only [stack_row0]

/-- Head 1 of the four. -/
def part1 (u : FVec Ideal S1024x128 .f32) : FVec Ideal S256x128 .bf16 :=
  truncf .bf16 (extractStridedSlice S256x128 ![256, 0] u slices_S1024x128_o256_0_S256x128) bitsLt_bf16_f32

theorem part1_row (u : FVec Ideal S1024x128 .f32) (r : Fin 256) (d : Fin 128) : part1 u (ix2 r d) = u (ix2 ⟨256 + r, by omega⟩ d) := by
  unfold part1
  pointwise

theorem stack_row1 (q₀ q₁ q₂ q₃ : Vec Ideal S256x128 .bf16) (r : Fin 256) (j : Fin 128) :
    stack q₀ q₁ q₂ q₃ (ix2 ⟨256 + r, by omega⟩ j) = q₁ (ix2 r j) := by
  unfold stack
  pointwise

theorem part1_apply (q₀ q₁ q₂ q₃ k v : Vec Ideal S256x128 .bf16) (r : Fin 256) (d : Fin 128) :
    part1 (fourHeads q₀ q₁ q₂ q₃ k v) (ix2 r d) = rowLate (fun t => dot (fun j => q₁ (ix2 r j)) (fun j => k (ix2 t j))) (fun t => v (ix2 t d)) := by
  unfold dot
  rw [part1_row, fourHeads_apply]
  simp only [stack_row1]

/-- Head 2 of the four. -/
def part2 (u : FVec Ideal S1024x128 .f32) : FVec Ideal S256x128 .bf16 :=
  truncf .bf16 (extractStridedSlice S256x128 ![512, 0] u slices_S1024x128_o512_0_S256x128) bitsLt_bf16_f32

theorem part2_row (u : FVec Ideal S1024x128 .f32) (r : Fin 256) (d : Fin 128) : part2 u (ix2 r d) = u (ix2 ⟨512 + r, by omega⟩ d) := by
  unfold part2
  pointwise

theorem stack_row2 (q₀ q₁ q₂ q₃ : Vec Ideal S256x128 .bf16) (r : Fin 256) (j : Fin 128) :
    stack q₀ q₁ q₂ q₃ (ix2 ⟨512 + r, by omega⟩ j) = q₂ (ix2 r j) := by
  unfold stack
  pointwise
  rw [dif_neg (by omega), dif_neg (by omega), dif_pos (by omega)]
  exact congrArg (fun x => q₂ (ix2 x j)) (Fin.ext (by simp only []; omega))

theorem part2_apply (q₀ q₁ q₂ q₃ k v : Vec Ideal S256x128 .bf16) (r : Fin 256) (d : Fin 128) :
    part2 (fourHeads q₀ q₁ q₂ q₃ k v) (ix2 r d) = rowLate (fun t => dot (fun j => q₂ (ix2 r j)) (fun j => k (ix2 t j))) (fun t => v (ix2 t d)) := by
  unfold dot
  rw [part2_row, fourHeads_apply]
  simp only [stack_row2]

/-- Head 3 of the four. -/
def part3 (u : FVec Ideal S1024x128 .f32) : FVec Ideal S256x128 .bf16 :=
  truncf .bf16 (extractStridedSlice S256x128 ![768, 0] u slices_S1024x128_o768_0_S256x128) bitsLt_bf16_f32

theorem part3_row (u : FVec Ideal S1024x128 .f32) (r : Fin 256) (d : Fin 128) : part3 u (ix2 r d) = u (ix2 ⟨768 + r, by omega⟩ d) := by
  unfold part3
  pointwise

theorem stack_row3 (q₀ q₁ q₂ q₃ : Vec Ideal S256x128 .bf16) (r : Fin 256) (j : Fin 128) :
    stack q₀ q₁ q₂ q₃ (ix2 ⟨768 + r, by omega⟩ j) = q₃ (ix2 r j) := by
  unfold stack
  pointwise
  rw [dif_neg (by omega), dif_neg (by omega), dif_neg (by omega)]
  exact congrArg (fun x => q₃ (ix2 x j)) (Fin.ext (by simp only []; omega))

theorem part3_apply (q₀ q₁ q₂ q₃ k v : Vec Ideal S256x128 .bf16) (r : Fin 256) (d : Fin 128) :
    part3 (fourHeads q₀ q₁ q₂ q₃ k v) (ix2 r d) = rowLate (fun t => dot (fun j => q₃ (ix2 r j)) (fun j => k (ix2 t j))) (fun t => v (ix2 t d)) := by
  unfold dot
  rw [part3_row, fourHeads_apply]
  simp only [stack_row3]

/-- Entry `(r, e)` of the block a point leaves. -/
def cellA (x0 : Vec Ideal S256x1024 .bf16) (x1 x2 : Vec Ideal S256x256 .bf16) (r : Fin 256) (e : Fin 1024) : EReal :=
  rowLate (fun t => dot (fun j : Fin 128 => x0 (ix2 r ⟨e / 128 * 128 + j, by omega⟩)) (fun j : Fin 128 => x1 (ix2 t ⟨e / 512 * 128 + j, by omega⟩)))
    (fun t => x2 (ix2 t ⟨e / 512 * 128 + e % 128, by omega⟩))

theorem out2_apply (x0 : Vec Ideal S256x1024 .bf16) (x1 x2 : Vec Ideal S256x256 .bf16) (y : S256x1024.Idx) :
    out2_3 x0 x1 x2 y = cellA x0 x1 x2 (y 0) (y 1) := by
  canon_tiles x h
  case piece0 =>
    rw [show k2_pay3 (k2_pay12 x0 x1 x2)
        = part3 (fourHeads (View.ld x0 r2_5) (View.ld x0 r2_6) (View.ld x0 r2_7) (View.ld x0 r2_8) (View.ld x1 r2_9) (View.ld x2 r2_9)) from rfl]
    idx_vars x
    have e : y 0 = x0 ∧ (y 1 : ℕ) / 512 = 1 ∧ (y 1 : ℕ) / 128 = 7 ∧ (y 1 : ℕ) % 128 = x1 := ⟨Fin.ext h0, by omega, by omega, by omega⟩
    rw [part3_apply]
    unfold cellA
    pointwise
    simp only [e, Nat.reduceMul, Nat.zero_add]
  case piece1 =>
    rw [show k2_pay2 (k2_pay12 x0 x1 x2)
        = part2 (fourHeads (View.ld x0 r2_5) (View.ld x0 r2_6) (View.ld x0 r2_7) (View.ld x0 r2_8) (View.ld x1 r2_9) (View.ld x2 r2_9)) from rfl]
    idx_vars x
    have e : y 0 = x0 ∧ (y 1 : ℕ) / 512 = 1 ∧ (y 1 : ℕ) / 128 = 6 ∧ (y 1 : ℕ) % 128 = x1 := ⟨Fin.ext h0, by omega, by omega, by omega⟩
    rw [part2_apply]
    unfold cellA
    pointwise
    simp only [e, Nat.reduceMul, Nat.zero_add]
  case piece2 =>
    rw [show k2_pay1 (k2_pay11 (View.ld x0 r2_5) (View.ld x0 r2_6) (View.ld x0 r2_7) (View.ld x0 r2_8) (View.ld x1 r2_9) (View.ld x2 r2_9))
        = part1 (fourHeads (View.ld x0 r2_5) (View.ld x0 r2_6) (View.ld x0 r2_7) (View.ld x0 r2_8) (View.ld x1 r2_9) (View.ld x2 r2_9)) from rfl]
    idx_vars x
    have e : y 0 = x0 ∧ (y 1 : ℕ) / 512 = 1 ∧ (y 1 : ℕ) / 128 = 5 ∧ (y 1 : ℕ) % 128 = x1 := ⟨Fin.ext h0, by omega, by omega, by omega⟩
    rw [part1_apply]
    unfold cellA
    pointwise
    simp only [e, Nat.reduceMul, Nat.zero_add]
  case piece3 =>
    rw [show k2_pay10 (View.ld x0 r2_5) (View.ld x0 r2_6) (View.ld x0 r2_7) (View.ld x0 r2_8) (View.ld x1 r2_9) (View.ld x2 r2_9)
        = part0 (fourHeads (View.ld x0 r2_5) (View.ld x0 r2_6) (View.ld x0 r2_7) (View.ld x0 r2_8) (View.ld x1 r2_9) (View.ld x2 r2_9)) from rfl]
    idx_vars x
    have e : y 0 = x0 ∧ (y 1 : ℕ) / 512 = 1 ∧ (y 1 : ℕ) / 128 = 4 ∧ (y 1 : ℕ) % 128 = x1 := ⟨Fin.ext h0, by omega, by omega, by omega⟩
    rw [part0_apply]
    unfold cellA
    pointwise
    simp only [e, Nat.reduceMul, Nat.zero_add]
  case piece4 =>
    rw [show k2_pay8 (k2_pay4 (View.ld x0 r2_0) (View.ld x0 r2_1) (View.ld x0 r2_2) (View.ld x0 r2_3) (View.ld x1 r2_4) (View.ld x2 r2_4))
        = part3 (fourHeads (View.ld x0 r2_0) (View.ld x0 r2_1) (View.ld x0 r2_2) (View.ld x0 r2_3) (View.ld x1 r2_4) (View.ld x2 r2_4)) from rfl]
    idx_vars x
    have e : y 0 = x0 ∧ (y 1 : ℕ) / 512 = 0 ∧ (y 1 : ℕ) / 128 = 3 ∧ (y 1 : ℕ) % 128 = x1 := ⟨Fin.ext h0, by omega, by omega, by omega⟩
    rw [part3_apply]
    unfold cellA
    pointwise
    simp only [e, Nat.reduceMul, Nat.zero_add]
  case piece5 =>
    rw [show k2_pay7 (View.ld x0 r2_0) (View.ld x0 r2_1) (View.ld x0 r2_2) (View.ld x0 r2_3) (View.ld x1 r2_4) (View.ld x2 r2_4)
        = part2 (fourHeads (View.ld x0 r2_0) (View.ld x0 r2_1) (View.ld x0 r2_2) (View.ld x0 r2_3) (View.ld x1 r2_4) (View.ld x2 r2_4)) from rfl]
    idx_vars x
    have e : y 0 = x0 ∧ (y 1 : ℕ) / 512 = 0 ∧ (y 1 : ℕ) / 128 = 2 ∧ (y 1 : ℕ) % 128 = x1 := ⟨Fin.ext h0, by omega, by omega, by omega⟩
    rw [part2_apply]
    unfold cellA
    pointwise
    simp only [e, Nat.reduceMul, Nat.zero_add]
  case piece6 =>
    rw [show k2_pay6 (View.ld x0 r2_0) (View.ld x0 r2_1) (View.ld x0 r2_2) (View.ld x0 r2_3) (View.ld x1 r2_4) (View.ld x2 r2_4)
        = part1 (fourHeads (View.ld x0 r2_0) (View.ld x0 r2_1) (View.ld x0 r2_2) (View.ld x0 r2_3) (View.ld x1 r2_4) (View.ld x2 r2_4)) from rfl]
    idx_vars x
    have e : y 0 = x0 ∧ (y 1 : ℕ) / 512 = 0 ∧ (y 1 : ℕ) / 128 = 1 ∧ (y 1 : ℕ) % 128 = x1 := ⟨Fin.ext h0, by omega, by omega, by omega⟩
    rw [part1_apply]
    unfold cellA
    pointwise
    simp only [e, Nat.reduceMul, Nat.zero_add]
  case piece7 =>
    rw [show k2_pay5 (View.ld x0 r2_0) (View.ld x0 r2_1) (View.ld x0 r2_2) (View.ld x0 r2_3) (View.ld x1 r2_4) (View.ld x2 r2_4)
        = part0 (fourHeads (View.ld x0 r2_0) (View.ld x0 r2_1) (View.ld x0 r2_2) (View.ld x0 r2_3) (View.ld x1 r2_4) (View.ld x2 r2_4)) from rfl]
    idx_vars x
    have e : y 0 = x0 ∧ (y 1 : ℕ) / 512 = 0 ∧ (y 1 : ℕ) / 128 = 0 ∧ (y 1 : ℕ) % 128 = x1 := ⟨Fin.ext h0, by omega, by omega, by omega⟩
    rw [part0_apply]
    unfold cellA
    pointwise
    simp only [e, Nat.reduceMul, Nat.zero_add]

variable (V : (c : Dev nD) → (b : Ref sig .tc) → Buf (Elt Ideal) ((c : Thread nD τ).loc b))

theorem idx2 : ∀ t : Fin cfg2.N, win2_0.index t = ![t.val, 0] ∧ win2_1.index t = ![t.val, 0] ∧ win2_2.index t = ![t.val, 0] ∧ win2_3.index t = ![t.val, 0] :=
  (by decide +kernel : ∀ t : Fin grid2.N, _)

theorem lt2 (t : Fin cfg2.N) : t.val < 32 := lt_of_lt_of_eq t.isLt (by decide +kernel)

theorem b2_0 (c : Dev nD) (t : Fin cfg2.N) (r : Fin 256) (k : Fin 1024) (s : Fin 8192) (hs : (s : ℕ) = t.val * 256 + r) :
    iblk2 V c 0 t (ix2 r k) = (V c main_v29_0 : Vec Ideal S8192x1024 .bf16) (ix2 s k) := by
  blk_simp [iblk2, idx2 t]
  blk_ext [idx2 t]

theorem b2_1 (c : Dev nD) (t : Fin cfg2.N) (r : Fin 256) (k : Fin 256) (s : Fin 8192) (hs : (s : ℕ) = t.val * 256 + r) :
    iblk2 V c 1 t (ix2 r k) = (V c main_v29_1 : Vec Ideal S8192x256 .bf16) (ix2 s k) := by
  blk_simp [iblk2, idx2 t]
  blk_ext [idx2 t]

theorem b2_2 (c : Dev nD) (t : Fin cfg2.N) (r : Fin 256) (k : Fin 256) (s : Fin 8192) (hs : (s : ℕ) = t.val * 256 + r) :
    iblk2 V c 2 t (ix2 r k) = (V c main_v29_2 : Vec Ideal S8192x256 .bf16) (ix2 s k) := by
  blk_simp [iblk2, idx2 t]
  blk_ext [idx2 t]

/-- A token's attention in one column, from the call's arrays: its keys and values are those of its batch. -/
def attnAt (c : Dev nD) (s : Fin 8192) (e : Fin 1024) : EReal :=
  rowLate (fun u : Fin 256 => dot (fun j : Fin 128 => (V c main_v29_0 : Vec Ideal S8192x1024 .bf16) (ix2 s ⟨e / 128 * 128 + j, by omega⟩))
      (fun j : Fin 128 => (V c main_v29_1 : Vec Ideal S8192x256 .bf16) (ix2 ⟨s / 256 * 256 + u, by omega⟩ ⟨e / 512 * 128 + j, by omega⟩)))
    (fun u => (V c main_v29_2 : Vec Ideal S8192x256 .bf16) (ix2 ⟨s / 256 * 256 + u, by omega⟩ ⟨e / 512 * 128 + e % 128, by omega⟩))

theorem cellA_eq (c : Dev nD) (t : Fin cfg2.N) (r : Fin 256) (e : Fin 1024) (s : Fin 8192) (hs : (s : ℕ) = t.val * 256 + r) :
    cellA (iblk2 V c 0 t) (iblk2 V c 1 t) (iblk2 V c 2 t) r e = attnAt V c s e := by
  have hu : ∀ u : Fin 256, (s : ℕ) / 256 * 256 + u = t.val * 256 + u := fun u => by omega
  unfold cellA attnAt
  simp only [b2_0 V c t r _ s hs]
  congr 1
  · funext u
    exact congrArg _ (funext fun j => b2_1 V c t u _ ⟨(s : ℕ) / 256 * 256 + u, by omega⟩ (hu u))
  · funext u
    exact b2_2 V c t u _ ⟨(s : ℕ) / 256 * 256 + u, by omega⟩ (hu u)

/-- The same at an index of the array. -/
def attnOut (c : Dev nD) (i : S8192x1024.Idx) : EReal := attnAt V c ⟨(i 0 : ℕ), (i 0).isLt⟩ ⟨(i 1 : ℕ), (i 1).isLt⟩

theorem final2 (c : Dev nD) : (dat2 V c).arrAt 3 cfg2.N = attnOut V c := by
  refine (dat2 V c).arrAt_eq_of_covers 3 _ (by decide +kernel) fun t _ y => ?_
  obtain ⟨r, e, rfl⟩ : ∃ (r : Fin 256) (e : Fin 1024), y = ix2 r e :=
    ⟨y (0 : Fin 2), y (1 : Fin 2), by funext a; fin_cases a <;> rfl⟩
  have eR : ((cfg2.win 3).blk t).view.emb (ix2 r e) = (ix2 (⟨t.val * 256 + r, by have := lt2 t; omega⟩ : Fin 8192) e : S8192x1024.Idx) := by
    funext d
    refine Fin.ext (((cfg2.win 3).rect_emb_val t _ d rfl).trans ?_)
    rw [show (cfg2.win 3).index t = ![t.val, 0] from (idx2 t).2.2.2]
    fin_cases d
    · rfl
    · exact Nat.zero_add _
  rw [after2_3]
  refine Eq.trans ?_ (congrArg (attnOut V c) eR.symm)
  rw [out2_apply]
  exact cellA_eq V c t r e ⟨t.val * 256 + r, by have := lt2 t; omega⟩ rfl

end Cert.Context3

end
-- ==== Proof.ContextChain.lean ====
/-
  The context kernel's four results after its run, from its arguments: each call's operands are read at the boundary before it, through
  the host's reshapes and slices and the arrays earlier calls left.
-/
module

public import proofs.«01_k».proof.Proof.ContextMods
public import proofs.«01_k».proof.Proof.ContextQkv
public import proofs.«01_k».proof.Proof.ContextQkvB
public import proofs.«01_k».proof.Proof.ContextAttn

@[expose] public section

set_option maxRecDepth 16384

noncomputable section

open Idealize.ShloMosaic Idealize.ShloMosaic.TcCoe Idealize.SL.Sem
open Idealize.ShloMosaic.Pipeline (Dat)

namespace Cert.Context3

open Cert.ContextIdeal Cert.ContextIdeal.Gen

/-! ## The host's rearrangements, at an index -/

theorem rows_apply (a : Vec Ideal S32x256x1024 .f32) (s : Fin 8192) (j : Fin 1024) :
    shapeCast S8192x1024 a shapeCasts_S32x256x1024_S8192x1024 (ix2 s j) = a (ix3 ⟨s / 256, by omega⟩ ⟨s % 256, by omega⟩ j) := by
  pointwise

/-- The weights as the calls are given them. -/
def wqkvCast (a : FVec Ideal S1x1024x1536 .f32) : FVec Ideal S1024x1536 .bf16 :=
  truncf .bf16 (shapeCast S1024x1536 a shapeCasts_S1x1024x1536_S1024x1536) bitsLt_bf16_f32

theorem wqkv_apply (a : FVec Ideal S1x1024x1536 .f32) (k : Fin 1024) (e : Fin 1536) :
    wqkvCast a (ix2 k e) = a (ix3 0 k e) := by
  unfold wqkvCast
  pointwise

def woCast (a : FVec Ideal S1x1024x1024 .f32) : FVec Ideal S1024x1024 .bf16 :=
  truncf .bf16 (shapeCast S1024x1024 a shapeCasts_S1x1024x1024_S1024x1024) bitsLt_bf16_f32

theorem wo_apply (a : FVec Ideal S1x1024x1024 .f32) (k e : Fin 1024) :
    woCast a (ix2 k e) = a (ix3 0 k e) := by
  unfold woCast
  pointwise

def wguCast (a : FVec Ideal S1x1024x5632 .f32) : FVec Ideal S1024x5632 .bf16 :=
  truncf .bf16 (shapeCast S1024x5632 a shapeCasts_S1x1024x5632_S1024x5632) bitsLt_bf16_f32

theorem wgu_apply (a : FVec Ideal S1x1024x5632 .f32) (k : Fin 1024) (e : Fin 5632) :
    wguCast a (ix2 k e) = a (ix3 0 k e) := by
  unfold wguCast
  pointwise

def wdownCast (a : FVec Ideal S1x2816x1024 .f32) : FVec Ideal S2816x1024 .bf16 :=
  truncf .bf16 (shapeCast S2816x1024 a shapeCasts_S1x2816x1024_S2816x1024) bitsLt_bf16_f32

theorem wdown_apply (a : FVec Ideal S1x2816x1024 .f32) (k : Fin 2816) (e : Fin 1024) :
    wdownCast a (ix2 k e) = a (ix3 0 k e) := by
  unfold wdownCast
  pointwise

def wlaterCast (a : FVec Ideal S1x1024x3072 .f32) : FVec Ideal S1024x3072 .bf16 :=
  truncf .bf16 (shapeCast S1024x3072 a shapeCasts_S1x1024x3072_S1024x3072) bitsLt_bf16_f32

theorem wlater_apply (a : FVec Ideal S1x1024x3072 .f32) (k : Fin 1024) (e : Fin 3072) :
    wlaterCast a (ix2 k e) = a (ix3 0 k e) := by
  unfold wlaterCast
  pointwise

theorem gain_apply (a : Vec Ideal S1x128 .f32) (j : Fin 128) :
    shapeCast S1x128 (shapeCast S128 a shapeCasts_S1x128_S128) shapeCasts_S128_S1x128 (ix2 0 j) = a (ix2 0 j) := by
  pointwise

/-- The first row of a table of two. -/
def firstRow (a : Vec Ideal S2x1024 .f32) : Vec Ideal S1x1024 .f32 :=
  shapeCast S1x1024 (shapeCast S1024 (extractStridedSlice S1x1024 ![0, 0] a slices_S2x1024_S1x1024_0_0) shapeCasts_S1x1024_S1024) shapeCasts_S1024_S1x1024

theorem firstRow_apply (a : Vec Ideal S2x1024 .f32) (j : Fin 1024) : firstRow a (ix2 0 j) = a (ix2 0 j) := by
  unfold firstRow
  pointwise

theorem layerMods0_apply (a : Vec Ideal S2x6x8x1x1024 .f32) (i : Fin 6) (j : Fin 1024) :
    shapeCast S6x8x1x1024 (extractStridedSlice S1x6x8x1x1024 ![0, 0, 0, 0, 0] a slices_S2x6x8x1x1024_S1x6x8x1x1024_0_0_0_0_0)
      shapeCasts_S1x6x8x1x1024_S6x8x1x1024 (ix4 i 0 0 j) = a (ix5 0 i 0 0 j) := by
  pointwise

theorem layerMods1_apply (a : Vec Ideal S2x6x8x1x1024 .f32) (i : Fin 6) (j : Fin 1024) :
    shapeCast S6x8x1x1024 (extractStridedSlice S1x6x8x1x1024 ![1, 0, 0, 0, 0] a slices_S2x6x8x1x1024_S1x6x8x1x1024_1_0_0_0_0)
      shapeCasts_S1x6x8x1x1024_S6x8x1x1024 (ix4 i 0 0 j) = a (ix5 1 i 0 0 j) := by
  pointwise

theorem pick_apply (a : Vec Ideal S6x8x1x1024 .f32) (i : Fin 6) (h : S6x8x1x1024.Slices ![(i : ℕ), 0, 0, 0] S1x8x1x1024) (j : Fin 1024) :
    shapeCast S8x1x1024 (extractStridedSlice S1x8x1x1024 ![(i : ℕ), 0, 0, 0] a h) shapeCasts_S1x8x1x1024_S8x1x1024 (ix3 0 0 j) = a (ix4 i 0 0 j) := by
  pointwise

theorem heads_apply (a : Vec Ideal S8192x256 .f32) (b : Fin 32) (t : Fin 256) (h : Fin 2) (d : Fin 128) :
    shapeCast S32x1x256x2x128 a shapeCasts_S8192x256_S32x1x256x2x128 (ix5 b 0 t h d) = a (ix2 ⟨b * 256 + t, by omega⟩ ⟨h * 128 + d, by omega⟩) := by
  pointwise

theorem laterHeads_apply (a : Vec Ideal S8192x1024 .f32) (b : Fin 32) (t : Fin 256) (h : Fin 16) (d : Fin 64) :
    shapeCast S32x1x256x16x64 a shapeCasts_S8192x1024_S32x1x256x16x64 (ix5 b 0 t h d) = a (ix2 ⟨b * 256 + t, by omega⟩ ⟨h * 64 + d, by omega⟩) := by
  pointwise

variable (m : (ℓ : Loc nD τ sig) → Buf (Elt Ideal) ℓ) (ρ : Dev nD → PrngReg) (c : Dev nD)

/-! ## Before the first projection -/

theorem v0_entry : (V1 m ρ c main_v0 : Vec Ideal S8192x1024 .f32)
    = shapeCast S8192x1024 (m ((c : Thread nD τ).loc main_arg0) : Vec Ideal S32x256x1024 .f32) shapeCasts_S32x256x1024_S8192x1024 := by
  show StableHlo.after hostOps0 (W0 m ρ c) (Proc.devRef .tc main_v0) = _
  entry_read
  rfl

theorem v0_at3 (s : Fin 8192) (j : Fin 1024) :
    (V3 m ρ c main_v0 : Vec Ideal S8192x1024 .f32) (ix2 s j) = (inputsK m c).x ⟨s / 256, by omega⟩ ⟨s % 256, by omega⟩ j :=
  (congrFun ((W3_of m ρ c main_v0 (by decide)).trans ((W2_of m ρ c main_v0 (by decide)).trans (v0_entry m ρ c))) _).trans (rows_apply _ s j)

theorem v14_entry : (V3 m ρ c main_v14 : FVec Ideal S1024x1536 .bf16)
    = wqkvCast (W2 m ρ c (Proc.devRef .tc main_arg9)) := by
  show StableHlo.after hostOps1 (W2 m ρ c) (Proc.devRef .tc main_v14) = _
  entry_read
  rfl

theorem v14_at (k : Fin 1024) (e : Fin 1536) : (V3 m ρ c main_v14 : FVec Ideal S1024x1536 .bf16) (ix2 k e) = (inputsK m c).wqkv k e :=
  (congrFun (v14_entry m ρ c) _).trans ((wqkv_apply _ k e).trans (congrFun (W2_args m ρ c main_arg9 (by decide)) _))

theorem v16_entry : (V3 m ρ c main_v16 : FVec Ideal S1024x1024 .bf16)
    = woCast (W2 m ρ c (Proc.devRef .tc main_arg12)) := by
  show StableHlo.after hostOps1 (W2 m ρ c) (Proc.devRef .tc main_v16) = _
  entry_read
  rfl

theorem v16_at (k : Fin 1024) (e : Fin 1024) : (V3 m ρ c main_v16 : FVec Ideal S1024x1024 .bf16) (ix2 k e) = (inputsK m c).wo k e :=
  (congrFun (v16_entry m ρ c) _).trans ((wo_apply _ k e).trans (congrFun (W2_args m ρ c main_arg12 (by decide)) _))

theorem v18_entry : (V3 m ρ c main_v18 : FVec Ideal S1024x5632 .bf16)
    = wguCast (W2 m ρ c (Proc.devRef .tc main_arg14)) := by
  show StableHlo.after hostOps1 (W2 m ρ c) (Proc.devRef .tc main_v18) = _
  entry_read
  rfl

theorem v18_at (k : Fin 1024) (e : Fin 5632) : (V3 m ρ c main_v18 : FVec Ideal S1024x5632 .bf16) (ix2 k e) = (inputsK m c).wgu k e :=
  (congrFun (v18_entry m ρ c) _).trans ((wgu_apply _ k e).trans (congrFun (W2_args m ρ c main_arg14 (by decide)) _))

theorem v20_entry : (V3 m ρ c main_v20 : FVec Ideal S2816x1024 .bf16)
    = wdownCast (W2 m ρ c (Proc.devRef .tc main_arg15)) := by
  show StableHlo.after hostOps1 (W2 m ρ c) (Proc.devRef .tc main_v20) = _
  entry_read
  rfl

theorem v20_at (k : Fin 2816) (e : Fin 1024) : (V3 m ρ c main_v20 : FVec Ideal S2816x1024 .bf16) (ix2 k e) = (inputsK m c).wdown k e :=
  (congrFun (v20_entry m ρ c) _).trans ((wdown_apply _ k e).trans (congrFun (W2_args m ρ c main_arg15 (by decide)) _))

theorem v22_entry : (V3 m ρ c main_v22 : Vec Ideal S1x128 .f32)
    = shapeCast S1x128 (shapeCast S128 (W2 m ρ c (Proc.devRef .tc main_arg10) : Vec Ideal S1x128 .f32) shapeCasts_S1x128_S128) shapeCasts_S128_S1x128 := by
  show StableHlo.after hostOps1 (W2 m ρ c) (Proc.devRef .tc main_v22) = _
  entry_read
  rfl

theorem v22_at (j : Fin 128) : (V3 m ρ c main_v22 : Vec Ideal S1x128 .f32) (ix2 0 j) = (inputsK m c).gq j :=
  (congrFun (v22_entry m ρ c) _).trans ((gain_apply _ j).trans (congrFun (W2_args m ρ c main_arg10 (by decide)) _))

theorem v24_entry : (V3 m ρ c main_v24 : Vec Ideal S1x128 .f32)
    = shapeCast S1x128 (shapeCast S128 (W2 m ρ c (Proc.devRef .tc main_arg11) : Vec Ideal S1x128 .f32) shapeCasts_S1x128_S128) shapeCasts_S128_S1x128 := by
  show StableHlo.after hostOps1 (W2 m ρ c) (Proc.devRef .tc main_v24) = _
  entry_read
  rfl

theorem v24_at (j : Fin 128) : (V3 m ρ c main_v24 : Vec Ideal S1x128 .f32) (ix2 0 j) = (inputsK m c).gk j :=
  (congrFun (v24_entry m ρ c) _).trans ((gain_apply _ j).trans (congrFun (W2_args m ρ c main_arg11 (by decide)) _))

/-- The first layer's six modulations. -/
def layerMods0 (a : Vec Ideal S2x6x8x1x1024 .f32) : Vec Ideal S6x8x1x1024 .f32 :=
  shapeCast S6x8x1x1024 (extractStridedSlice S1x6x8x1x1024 ![0, 0, 0, 0, 0] a slices_S2x6x8x1x1024_S1x6x8x1x1024_0_0_0_0_0) shapeCasts_S1x6x8x1x1024_S6x8x1x1024

/-- The second layer's. -/
def layerMods1 (a : Vec Ideal S2x6x8x1x1024 .f32) : Vec Ideal S6x8x1x1024 .f32 :=
  shapeCast S6x8x1x1024 (extractStridedSlice S1x6x8x1x1024 ![1, 0, 0, 0, 0] a slices_S2x6x8x1x1024_S1x6x8x1x1024_1_0_0_0_0) shapeCasts_S1x6x8x1x1024_S6x8x1x1024

/-- One of six modulations. -/
def pick (i : Fin 6) (h : S6x8x1x1024.Slices ![(i : ℕ), 0, 0, 0] S1x8x1x1024) (a : Vec Ideal S6x8x1x1024 .f32) : Vec Ideal S8x1x1024 .f32 :=
  shapeCast S8x1x1024 (extractStridedSlice S1x8x1x1024 ![(i : ℕ), 0, 0, 0] a h) shapeCasts_S1x8x1x1024_S8x1x1024

theorem v12_entry : (V3 m ρ c main_v12 : Vec Ideal S6x8x1x1024 .f32) = layerMods0 (V3 m ρ c main_v10) := by
  show StableHlo.after hostOps1 (W2 m ρ c) (Proc.devRef .tc main_v12) = layerMods0 (StableHlo.after hostOps1 (W2 m ρ c) (Proc.devRef .tc main_v10))
  entry_read
  rfl

theorem v12_at (i : Fin 6) (j : Fin 1024) : (V3 m ρ c main_v12 : Vec Ideal S6x8x1x1024 .f32) (ix4 i 0 0 j) = (inputsK m c).modn 0 i j :=
  (congrFun (v12_entry m ρ c) _).trans ((layerMods0_apply _ i j).trans (v10_first m ρ c 0 i j))

theorem v26_at (j : Fin 1024) : (V3 m ρ c main_v26 : Vec Ideal S8x1x1024 .f32) (ix3 0 0 j) = (inputsK m c).modn 0 0 j := by
  have e : (V3 m ρ c main_v26 : Vec Ideal S8x1x1024 .f32) = pick 0 slices_S6x8x1x1024_S1x8x1x1024_0_0_0_0 (V3 m ρ c main_v12) := by
    show StableHlo.after hostOps1 (W2 m ρ c) (Proc.devRef .tc main_v26) = pick _ _ (StableHlo.after hostOps1 (W2 m ρ c) (Proc.devRef .tc main_v12))
    entry_read
    rfl
  exact (congrFun e _).trans ((pick_apply _ 0 _ j).trans (v12_at m ρ c 0 j))

theorem v28_at (j : Fin 1024) : (V3 m ρ c main_v28 : Vec Ideal S8x1x1024 .f32) (ix3 0 0 j) = (inputsK m c).modn 0 1 j := by
  have e : (V3 m ρ c main_v28 : Vec Ideal S8x1x1024 .f32) = pick 1 slices_S6x8x1x1024_S1x8x1x1024_1_0_0_0 (V3 m ρ c main_v12) := by
    show StableHlo.after hostOps1 (W2 m ρ c) (Proc.devRef .tc main_v28) = pick _ _ (StableHlo.after hostOps1 (W2 m ρ c) (Proc.devRef .tc main_v12))
    entry_read
    rfl
  exact (congrFun e _).trans ((pick_apply _ 1 _ j).trans (v12_at m ρ c 1 j))

/-- The projected token. -/
theorem qkv_eq (s : Fin 8192) (e : Fin 1536) : qkvAt (V3 m ρ) c s e = (inputsK m c).qkv ⟨s / 256, by omega⟩ ⟨s % 256, by omega⟩ e := by
  unfold qkvAt Inputs.qkv
  exact congr (congrArg dot (congr (congr (congrArg modulated (funext fun k => v0_at3 m ρ c s k)) (funext fun k => v28_at m ρ c k))
    (funext fun k => v26_at m ρ c k))) (funext fun k => v14_at m ρ c k e)

theorem q_eq (s : Fin 8192) (h : Fin 8) (d : Fin 128) : qAt (V3 m ρ) c s h d = (inputsK m c).query ⟨s / 256, by omega⟩ ⟨s % 256, by omega⟩ h d := by
  unfold qAt Inputs.query
  exact congrArg (· * Ideal.ofBits .f32 0x3DB504F3#32) (congrFun (congr (congrArg headNorm (funext fun j => qkv_eq m ρ c s _)) (funext fun j => v22_at m ρ c j)) d)

theorem k_eq (s : Fin 8192) (h : Fin 2) (d : Fin 128) : kAt (V3 m ρ) c s h d = (inputsK m c).key ⟨s / 256, by omega⟩ ⟨s % 256, by omega⟩ h d := by
  unfold kAt Inputs.key
  exact congrFun (congr (congrArg headNorm (funext fun j => qkv_eq m ρ c s _)) (funext fun j => v24_at m ρ c j)) d

theorem v_eq (s : Fin 8192) (h : Fin 2) (d : Fin 128) : vAt (V3 m ρ) c s h d = (inputsK m c).value ⟨s / 256, by omega⟩ ⟨s % 256, by omega⟩ h d := by
  unfold vAt Inputs.value
  exact qkv_eq m ρ c s _

/-! ## Before the attention -/

theorem v29_0_entry : V5 m ρ c main_v29_0 = qOut (V3 m ρ) c :=
  (W5_of m ρ c main_v29_0 (by decide)).trans ((W4_arr m ρ c 6).trans (final1_6 (V3 m ρ) c))

theorem v29_1_entry : V5 m ρ c main_v29_1 = kOut (V3 m ρ) c :=
  (W5_of m ρ c main_v29_1 (by decide)).trans ((W4_arr m ρ c 7).trans (final1_7 (V3 m ρ) c))

theorem v29_2_entry : V5 m ρ c main_v29_2 = vOut (V3 m ρ) c :=
  (W5_of m ρ c main_v29_2 (by decide)).trans ((W4_arr m ρ c 8).trans (final1_8 (V3 m ρ) c))

theorem attn_eq (s : Fin 8192) (e : Fin 1024) :
    attnAt (V5 m ρ) c s e = (inputsK m c).attended rowLate ⟨s / 256, by omega⟩ ⟨s % 256, by omega⟩ e := by
  unfold attnAt Inputs.attended
  refine congr (congrArg rowLate (funext fun u => congr (congrArg dot (funext fun j => ?_)) (funext fun j => ?_))) (funext fun u => ?_)
  · refine (congrFun (v29_0_entry m ρ c) _).trans ((q_eq m ρ c s ⟨(e / 128 * 128 + j) / 128, by omega⟩ ⟨(e / 128 * 128 + j) % 128, by omega⟩).trans ?_)
    exact congr (congrArg _ (Fin.ext (by simp only []; omega))) (Fin.ext (by simp only []; omega))
  · refine (congrFun (v29_1_entry m ρ c) _).trans ((k_eq m ρ c ⟨s / 256 * 256 + u, by omega⟩ ⟨(e / 512 * 128 + j) / 128, by omega⟩ ⟨(e / 512 * 128 + j) % 128, by omega⟩).trans ?_)
    exact congr (congr (congr (congrArg _ (Fin.ext (by simp only []; omega))) (Fin.ext (by simp only []; omega))) (Fin.ext (by simp only []; omega))) (Fin.ext (by simp only []; omega))
  · refine (congrFun (v29_2_entry m ρ c) _).trans ((v_eq m ρ c ⟨s / 256 * 256 + u, by omega⟩ ⟨(e / 512 * 128 + e % 128) / 128, by omega⟩ ⟨(e / 512 * 128 + e % 128) % 128, by omega⟩).trans ?_)
    exact congr (congr (congr (congrArg _ (Fin.ext (by simp only []; omega))) (Fin.ext (by simp only []; omega))) (Fin.ext (by simp only []; omega))) (Fin.ext (by simp only []; omega))

/-! ## Before the rest of the first layer -/

/-- An array neither the attention's calls nor the host's reshapes between write. -/
theorem from3 (r : Ref sig .tc) (h7 : r ∉ hostOps3_W) (h6 : ∀ w : Fin cfg2.W, Pipeline.arrRef spec2 w = r → (cfg2.win w).isOut = false)
    (h5 : r ∉ hostOps2_W) (h4 : ∀ w : Fin cfg1.W, Pipeline.arrRef spec1 w = r → (cfg1.win w).isOut = false) :
    V7 m ρ c r = V3 m ρ c r :=
  (W7_of m ρ c r h7).trans ((W6_of m ρ c r h6).trans ((W5_of m ρ c r h5).trans (W4_of m ρ c r h4)))

/-- The same at the boundary before the host's slices. -/
theorem from3' (r : Ref sig .tc) (h6 : ∀ w : Fin cfg2.W, Pipeline.arrRef spec2 w = r → (cfg2.win w).isOut = false)
    (h5 : r ∉ hostOps2_W) (h4 : ∀ w : Fin cfg1.W, Pipeline.arrRef spec1 w = r → (cfg1.win w).isOut = false) :
    W6 m ρ c (Proc.devRef .tc r) = V3 m ρ c r :=
  (W6_of m ρ c r h6).trans ((W5_of m ρ c r h5).trans (W4_of m ρ c r h4))

theorem v32_at (s : Fin 8192) (e : Fin 1024) : (V7 m ρ c main_v32 : Vec Ideal S8192x1024 .bf16) (ix2 s e)
    = (inputsK m c).attended rowLate ⟨s / 256, by omega⟩ ⟨s % 256, by omega⟩ e :=
  (congrFun ((W7_of m ρ c main_v32 (by decide)).trans ((W6_arr m ρ c 3).trans (final2 (V5 m ρ) c))) _).trans (attn_eq m ρ c s e)

theorem v0_at7 (s : Fin 8192) (j : Fin 1024) :
    (V7 m ρ c main_v0 : Vec Ideal S8192x1024 .f32) (ix2 s j) = (inputsK m c).x ⟨s / 256, by omega⟩ ⟨s % 256, by omega⟩ j :=
  (congrFun (from3 m ρ c main_v0 (by decide) (by decide) (by decide) (by decide)) _).trans (v0_at3 m ρ c s j)

theorem v16_at7 (k : Fin 1024) (e : Fin 1024) : (V7 m ρ c main_v16 : FVec Ideal S1024x1024 .bf16) (ix2 k e) = (inputsK m c).wo k e :=
  (congrFun (from3 m ρ c main_v16 (by decide) (by decide) (by decide) (by decide)) _).trans (v16_at m ρ c k e)

theorem v18_at7 (k : Fin 1024) (e : Fin 5632) : (V7 m ρ c main_v18 : FVec Ideal S1024x5632 .bf16) (ix2 k e) = (inputsK m c).wgu k e :=
  (congrFun (from3 m ρ c main_v18 (by decide) (by decide) (by decide) (by decide)) _).trans (v18_at m ρ c k e)

theorem v20_at7 (k : Fin 2816) (e : Fin 1024) : (V7 m ρ c main_v20 : FVec Ideal S2816x1024 .bf16) (ix2 k e) = (inputsK m c).wdown k e :=
  (congrFun (from3 m ρ c main_v20 (by decide) (by decide) (by decide) (by decide)) _).trans (v20_at m ρ c k e)

theorem v34_at (j : Fin 1024) : (V7 m ρ c main_v34 : Vec Ideal S8x1x1024 .f32) (ix3 0 0 j) = (inputsK m c).modn 0 2 j := by
  have e : (V7 m ρ c main_v34 : Vec Ideal S8x1x1024 .f32) = pick 2 slices_S6x8x1x1024_S1x8x1x1024_2_0_0_0 (W6 m ρ c (Proc.devRef .tc main_v12)) := by
    show StableHlo.after hostOps3 (W6 m ρ c) (Proc.devRef .tc main_v34) = _
    entry_read
    rfl
  refine (congrFun e _).trans ((pick_apply _ 2 _ j).trans ?_)
  exact (congrFun (from3' m ρ c main_v12 (by decide) (by decide) (by decide)) _).trans (v12_at m ρ c 2 j)

theorem v42_at (j : Fin 1024) : (V7 m ρ c main_v42 : Vec Ideal S8x1x1024 .f32) (ix3 0 0 j) = (inputsK m c).modn 0 3 j := by
  have e : (V7 m ρ c main_v42 : Vec Ideal S8x1x1024 .f32) = pick 3 slices_S6x8x1x1024_S1x8x1x1024_3_0_0_0 (W6 m ρ c (Proc.devRef .tc main_v12)) := by
    show StableHlo.after hostOps3 (W6 m ρ c) (Proc.devRef .tc main_v42) = _
    entry_read
    rfl
  refine (congrFun e _).trans ((pick_apply _ 3 _ j).trans ?_)
  exact (congrFun (from3' m ρ c main_v12 (by decide) (by decide) (by decide)) _).trans (v12_at m ρ c 3 j)

theorem v44_at (j : Fin 1024) : (V7 m ρ c main_v44 : Vec Ideal S8x1x1024 .f32) (ix3 0 0 j) = (inputsK m c).modn 0 4 j := by
  have e : (V7 m ρ c main_v44 : Vec Ideal S8x1x1024 .f32) = pick 4 slices_S6x8x1x1024_S1x8x1x1024_4_0_0_0 (W6 m ρ c (Proc.devRef .tc main_v12)) := by
    show StableHlo.after hostOps3 (W6 m ρ c) (Proc.devRef .tc main_v44) = _
    entry_read
    rfl
  refine (congrFun e _).trans ((pick_apply _ 4 _ j).trans ?_)
  exact (congrFun (from3' m ρ c main_v12 (by decide) (by decide) (by decide)) _).trans (v12_at m ρ c 4 j)

theorem v46_at (j : Fin 1024) : (V7 m ρ c main_v46 : Vec Ideal S8x1x1024 .f32) (ix3 0 0 j) = (inputsK m c).modn 0 5 j := by
  have e : (V7 m ρ c main_v46 : Vec Ideal S8x1x1024 .f32) = pick 5 slices_S6x8x1x1024_S1x8x1x1024_5_0_0_0 (W6 m ρ c (Proc.devRef .tc main_v12)) := by
    show StableHlo.after hostOps3 (W6 m ρ c) (Proc.devRef .tc main_v46) = _
    entry_read
    rfl
  refine (congrFun e _).trans ((pick_apply _ 5 _ j).trans ?_)
  exact (congrFun (from3' m ρ c main_v12 (by decide) (by decide) (by decide)) _).trans (v12_at m ρ c 5 j)

theorem v37_at (j : Fin 1024) : (V7 m ρ c main_v37 : Vec Ideal S1x1024 .f32) (ix2 0 j) = (inputsK m c).g1 j := by
  have e : (V7 m ρ c main_v37 : Vec Ideal S1x1024 .f32) = firstRow (W6 m ρ c (Proc.devRef .tc main_arg5)) := by
    show StableHlo.after hostOps3 (W6 m ρ c) (Proc.devRef .tc main_v37) = _
    entry_read
    rfl
  exact (congrFun e _).trans ((firstRow_apply _ j).trans (congrFun (W6_args m ρ c main_arg5 (by decide)) _))

theorem v40_at (j : Fin 1024) : (V7 m ρ c main_v40 : Vec Ideal S1x1024 .f32) (ix2 0 j) = (inputsK m c).b1 j := by
  have e : (V7 m ρ c main_v40 : Vec Ideal S1x1024 .f32) = firstRow (W6 m ρ c (Proc.devRef .tc main_arg6)) := by
    show StableHlo.after hostOps3 (W6 m ρ c) (Proc.devRef .tc main_v40) = _
    entry_read
    rfl
  exact (congrFun e _).trans ((firstRow_apply _ j).trans (congrFun (W6_args m ρ c main_arg6 (by decide)) _))

theorem v49_at (j : Fin 1024) : (V7 m ρ c main_v49 : Vec Ideal S1x1024 .f32) (ix2 0 j) = (inputsK m c).g2 j := by
  have e : (V7 m ρ c main_v49 : Vec Ideal S1x1024 .f32) = firstRow (W6 m ρ c (Proc.devRef .tc main_arg7)) := by
    show StableHlo.after hostOps3 (W6 m ρ c) (Proc.devRef .tc main_v49) = _
    entry_read
    rfl
  exact (congrFun e _).trans ((firstRow_apply _ j).trans (congrFun (W6_args m ρ c main_arg7 (by decide)) _))

theorem v52_at (j : Fin 1024) : (V7 m ρ c main_v52 : Vec Ideal S1x1024 .f32) (ix2 0 j) = (inputsK m c).b2 j := by
  have e : (V7 m ρ c main_v52 : Vec Ideal S1x1024 .f32) = firstRow (W6 m ρ c (Proc.devRef .tc main_arg8)) := by
    show StableHlo.after hostOps3 (W6 m ρ c) (Proc.devRef .tc main_v52) = _
    entry_read
    rfl
  exact (congrFun e _).trans ((firstRow_apply _ j).trans (congrFun (W6_args m ρ c main_arg8 (by decide)) _))

/-- A token after the first layer. -/
theorem layer_eq (s : Fin 8192) : denseAt (V7 m ρ) c s = (inputsK m c).layer rowLate ⟨s / 256, by omega⟩ ⟨s % 256, by omega⟩ := by
  funext e
  unfold denseAt Inputs.layer
  refine congrFun ?_ e
  have h : tokenHalf _ _ _ _ _ _ = tokenHalf _ _ _ _ _ _ :=
    congr (congr (congr (congr (congr (congrArg tokenHalf (funext fun k => v32_at m ρ c s k)) (funext fun k => funext fun j => v16_at7 m ρ c k j))
      (funext fun k => v0_at7 m ρ c s k)) (funext fun k => v34_at m ρ c k)) (funext fun k => v37_at m ρ c k)) (funext fun k => v40_at m ρ c k)
  exact congr (congr (congr (congr (congr (congr (congr (congr (congrArg tokenWhole h) (funext fun k => v44_at m ρ c k)) (funext fun k => v42_at m ρ c k))
    (funext fun k => v46_at m ρ c k)) (funext fun k => v49_at m ρ c k)) (funext fun k => v52_at m ρ c k))
    (funext fun k => funext fun f => v18_at7 m ρ c k _)) (funext fun k => funext fun f => v18_at7 m ρ c k _)) (funext fun f => funext fun j => v20_at7 m ρ c f j)

/-! ## Before the second layer's projection -/

theorem v53_at (s : Fin 8192) (e : Fin 1024) : (V9 m ρ c main_v53 : Vec Ideal S8192x1024 .f32) (ix2 s e)
    = (inputsK m c).layer rowLate ⟨s / 256, by omega⟩ ⟨s % 256, by omega⟩ e :=
  (congrFun ((W9_of m ρ c main_v53 (by decide)).trans ((W8_arr m ρ c 14).trans (final3 (V7 m ρ) c))) _).trans (congrFun (layer_eq m ρ c s) e)

theorem v57_at (k : Fin 1024) (e : Fin 3072) : (V9 m ρ c main_v57 : FVec Ideal S1024x3072 .bf16) (ix2 k e) = (inputsK m c).wlater k e := by
  have h : (V9 m ρ c main_v57 : FVec Ideal S1024x3072 .bf16) = wlaterCast (W8 m ρ c (Proc.devRef .tc main_arg13)) := by
    show StableHlo.after hostOps4 (W8 m ρ c) (Proc.devRef .tc main_v57) = _
    entry_read
    rfl
  exact (congrFun h _).trans ((wlater_apply _ k e).trans (congrFun (W8_args m ρ c main_arg13 (by decide)) _))

theorem v10_at8 : W8 m ρ c (Proc.devRef .tc main_v10) = V3 m ρ c main_v10 :=
  (W8_of m ρ c main_v10 (by decide)).trans (from3 m ρ c main_v10 (by decide) (by decide) (by decide) (by decide))

theorem v59_at (j : Fin 1024) : (V9 m ρ c main_v59 : Vec Ideal S8x1x1024 .f32) (ix3 0 0 j) = (inputsK m c).modn 1 0 j := by
  have e : (V9 m ρ c main_v59 : Vec Ideal S8x1x1024 .f32) = pick 0 slices_S6x8x1x1024_S1x8x1x1024_0_0_0_0 (layerMods1 (W8 m ρ c (Proc.devRef .tc main_v10))) := by
    show StableHlo.after hostOps4 (W8 m ρ c) (Proc.devRef .tc main_v59) = _
    entry_read
    rfl
  refine (congrFun e _).trans ((pick_apply _ 0 _ j).trans ((layerMods1_apply _ 0 j).trans ?_))
  exact (congrFun (v10_at8 m ρ c) _).trans (v10_first m ρ c 1 0 j)

theorem v61_at (j : Fin 1024) : (V9 m ρ c main_v61 : Vec Ideal S8x1x1024 .f32) (ix3 0 0 j) = (inputsK m c).modn 1 1 j := by
  have e : (V9 m ρ c main_v61 : Vec Ideal S8x1x1024 .f32) = pick 1 slices_S6x8x1x1024_S1x8x1x1024_1_0_0_0 (layerMods1 (W8 m ρ c (Proc.devRef .tc main_v10))) := by
    show StableHlo.after hostOps4 (W8 m ρ c) (Proc.devRef .tc main_v61) = _
    entry_read
    rfl
  refine (congrFun e _).trans ((pick_apply _ 1 _ j).trans ((layerMods1_apply _ 1 j).trans ?_))
  exact (congrFun (v10_at8 m ρ c) _).trans (v10_first m ρ c 1 1 j)

theorem later_eq (s : Fin 8192) (e : Fin 3072) : laterAt (V9 m ρ) c s e = (inputsK m c).later rowLate ⟨s / 256, by omega⟩ ⟨s % 256, by omega⟩ e := by
  unfold laterAt Inputs.later
  exact congr (congrArg dot (congr (congr (congrArg modulated (funext fun k => v53_at m ρ c s k)) (funext fun k => v61_at m ρ c k))
    (funext fun k => v59_at m ρ c k))) (funext fun k => v57_at m ρ c k e)

/-! ## The results -/

theorem v30_result (b : Fin 32) (t : Fin 256) (h : Fin 2) (d : Fin 128) :
    (W11 m ρ c (Proc.devRef .tc main_v30) : Vec Ideal S32x1x256x2x128 .f32) (ix5 b 0 t h d) = (inputsK m c).key b t h d := by
  have e : (V5 m ρ c main_v30 : Vec Ideal S32x1x256x2x128 .f32)
      = shapeCast S32x1x256x2x128 (W4 m ρ c (Proc.devRef .tc main_v29_3) : Vec Ideal S8192x256 .f32) shapeCasts_S8192x256_S32x1x256x2x128 := by
    show StableHlo.after hostOps2 (W4 m ρ c) (Proc.devRef .tc main_v30) = _
    entry_read
    rfl
  have q : W11 m ρ c (Proc.devRef .tc main_v30) = V5 m ρ c main_v30 :=
    (W11_of m ρ c main_v30 (by decide)).trans ((W10_of m ρ c main_v30 (by decide)).trans ((W9_of m ρ c main_v30 (by decide)).trans
      ((W8_of m ρ c main_v30 (by decide)).trans ((W7_of m ρ c main_v30 (by decide)).trans (W6_of m ρ c main_v30 (by decide))))))
  refine (congrFun (q.trans e) _).trans ((heads_apply _ b t h d).trans ?_)
  refine (congrFun ((W4_arr m ρ c 9).trans (final1_9 (V3 m ρ) c)) _).trans ?_
  refine (k_eq m ρ c ⟨b * 256 + t, by omega⟩ ⟨(h * 128 + d) / 128, by omega⟩ ⟨(h * 128 + d) % 128, by omega⟩).trans ?_
  exact congr (congr (congr (congrArg _ (Fin.ext (by simp only []; omega))) (Fin.ext (by simp only []; omega))) (Fin.ext (by simp only []; omega))) (Fin.ext (by simp only []; omega))

theorem v31_result (b : Fin 32) (t : Fin 256) (h : Fin 2) (d : Fin 128) :
    (W11 m ρ c (Proc.devRef .tc main_v31) : Vec Ideal S32x1x256x2x128 .f32) (ix5 b 0 t h d) = (inputsK m c).value b t h d := by
  have e : (V5 m ρ c main_v31 : Vec Ideal S32x1x256x2x128 .f32)
      = shapeCast S32x1x256x2x128 (W4 m ρ c (Proc.devRef .tc main_v29_4) : Vec Ideal S8192x256 .f32) shapeCasts_S8192x256_S32x1x256x2x128 := by
    show StableHlo.after hostOps2 (W4 m ρ c) (Proc.devRef .tc main_v31) = _
    entry_read
    rfl
  have q : W11 m ρ c (Proc.devRef .tc main_v31) = V5 m ρ c main_v31 :=
    (W11_of m ρ c main_v31 (by decide)).trans ((W10_of m ρ c main_v31 (by decide)).trans ((W9_of m ρ c main_v31 (by decide)).trans
      ((W8_of m ρ c main_v31 (by decide)).trans ((W7_of m ρ c main_v31 (by decide)).trans (W6_of m ρ c main_v31 (by decide))))))
  refine (congrFun (q.trans e) _).trans ((heads_apply _ b t h d).trans ?_)
  refine (congrFun ((W4_arr m ρ c 10).trans (final1_10 (V3 m ρ) c)) _).trans ?_
  refine (v_eq m ρ c ⟨b * 256 + t, by omega⟩ ⟨(h * 128 + d) / 128, by omega⟩ ⟨(h * 128 + d) % 128, by omega⟩).trans ?_
  exact congr (congr (congr (congrArg _ (Fin.ext (by simp only []; omega))) (Fin.ext (by simp only []; omega))) (Fin.ext (by simp only []; omega))) (Fin.ext (by simp only []; omega))

theorem v63_result (b : Fin 32) (t : Fin 256) (h : Fin 16) (d : Fin 64) :
    (W11 m ρ c (Proc.devRef .tc main_v63) : Vec Ideal S32x1x256x16x64 .f32) (ix5 b 0 t h d)
      = (inputsK m c).later rowLate b t ⟨1024 + (h * 64 + d), by omega⟩ := by
  have e : (W11 m ρ c (Proc.devRef .tc main_v63) : Vec Ideal S32x1x256x16x64 .f32)
      = shapeCast S32x1x256x16x64 (W10 m ρ c (Proc.devRef .tc main_v62_3) : Vec Ideal S8192x1024 .f32) shapeCasts_S8192x1024_S32x1x256x16x64 := by
    show StableHlo.after hostOps5 (W10 m ρ c) (Proc.devRef .tc main_v63) = _
    entry_read
    rfl
  refine (congrFun e _).trans ((laterHeads_apply _ b t h d).trans ?_)
  refine (congrFun ((W10_arr m ρ c 7).trans (final4_7 (V9 m ρ) c)) _).trans ?_
  refine (later_eq m ρ c ⟨b * 256 + t, by omega⟩ ⟨1024 + (h * 64 + d), by omega⟩).trans ?_
  exact congr (congr (congrArg _ (Fin.ext (by simp only []; omega))) (Fin.ext (by simp only []; omega))) rfl

theorem v64_result (b : Fin 32) (t : Fin 256) (h : Fin 16) (d : Fin 64) :
    (W11 m ρ c (Proc.devRef .tc main_v64) : Vec Ideal S32x1x256x16x64 .f32) (ix5 b 0 t h d)
      = (inputsK m c).later rowLate b t ⟨2048 + (h * 64 + d), by omega⟩ := by
  have e : (W11 m ρ c (Proc.devRef .tc main_v64) : Vec Ideal S32x1x256x16x64 .f32)
      = shapeCast S32x1x256x16x64 (W10 m ρ c (Proc.devRef .tc main_v62_4) : Vec Ideal S8192x1024 .f32) shapeCasts_S8192x1024_S32x1x256x16x64 := by
    show StableHlo.after hostOps5 (W10 m ρ c) (Proc.devRef .tc main_v64) = _
    entry_read
    rfl
  refine (congrFun e _).trans ((laterHeads_apply _ b t h d).trans ?_)
  refine (congrFun ((W10_arr m ρ c 8).trans (final4_8 (V9 m ρ) c)) _).trans ?_
  refine (later_eq m ρ c ⟨b * 256 + t, by omega⟩ ⟨2048 + (h * 64 + d), by omega⟩).trans ?_
  exact congr (congr (congrArg _ (Fin.ext (by simp only []; omega))) (Fin.ext (by simp only []; omega))) rfl

end Cert.Context3

end
-- ==== Proof.ContextReference.lean ====
/-
  The plain context part's results, at an index: every step of the reference read as the function of the arguments it computes.
-/
module

public import proofs.«01_k».proof.Proof.ContextModel
public import proofs.«01_k».proof.Proof.Gen.PlainContextIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo

namespace Cert.Context3.Plain

open Cert.PlainContextIdeal Cert.PlainContextIdeal.Gen Cert.PlainContextIdeal.Value

/-! ## The steps, named -/

def gatedCond (a : FVec Ideal S1024 .f32) : FVec Ideal S1x1024 .f32 :=
  broadcastInDim S1x1024 ![1] bcast_S1024_S1x1024_1 (mulf a (Host.divf (broadcastInDim S1024 ![] bcast_S_S1024 (constant S_ .f32 0x3F800000#32))
    (addf (broadcastInDim S1024 ![] bcast_S_S1024 (constant S_ .f32 0x3F800000#32)) (Host.exp (Host.negf a)))))

/-- A row of modulations from one layer's weights and biases. -/
def modRow (g : FVec Ideal S1x1024 .f32) (w : FVec Ideal S1x1024x6144 .f32) (b : FVec Ideal S1x6144 .f32) : FVec Ideal S1x1x6144 .f32 :=
  broadcastInDim S1x1x6144 ![0, 2] bcast_S1x6144_S1x1x6144_0_2 (addf (Host.dotGeneral dot_S1x1024_S1024x6144_S1x6144_1_0_0_1_n_n none g
    (shapeCast S1024x6144 w shapeCasts_S1x1024x6144_S1024x6144)) (broadcastInDim S1x6144 ![1] bcast_S6144_S1x6144_1 (shapeCast S6144 b shapeCasts_S1x6144_S6144)))

def over (a : FVec Ideal S1x1x1024 .f32) : FVec Ideal S32x256x1024 .f32 := broadcastInDim S32x256x1024 ![0, 1, 2] bcast_S1x1x1024_S32x256x1024_0_1_2 a

def modul (x : FVec Ideal S32x256x1024 .f32) (sh sc : FVec Ideal S1x1x1024 .f32) : FVec Ideal S32x256x1024 .f32 :=
  addf (mulf x (over (addf (broadcastInDim S1x1x1024 ![] bcast_S_S1x1x1024 (constant S_ .f32 0x3F800000#32)) sc))) (over sh)

def projected (h : FVec Ideal S32x256x1024 .f32) (w : FVec Ideal S1x1024x1536 .f32) : FVec Ideal S32x256x1536 .f32 :=
  Host.dotGeneral dot_S32x256x1024_S1024x1536_S32x256x1536_2_0_01_1_n_n none h (shapeCast S1024x1536 w shapeCasts_S1x1024x1536_S1024x1536)

def queryPart (p : FVec Ideal S32x256x1536 .f32) : FVec Ideal S32x256x8x128 .f32 :=
  shapeCast S32x256x8x128 (extractStridedSlice S32x256x1024 ![0, 0, 0] p slices_S32x256x1536_S32x256x1024_0_0_0) shapeCasts_S32x256x1024_S32x256x8x128

def keyPart (p : FVec Ideal S32x256x1536 .f32) : FVec Ideal S32x256x2x128 .f32 :=
  shapeCast S32x256x2x128 (extractStridedSlice S32x256x256 ![0, 0, 1024] p slices_S32x256x1536_S32x256x256_0_0_1024) shapeCasts_S32x256x256_S32x256x2x128

def valuePart (p : FVec Ideal S32x256x1536 .f32) : FVec Ideal S32x256x2x128 .f32 :=
  shapeCast S32x256x2x128 (extractStridedSlice S32x256x256 ![0, 0, 1280] p slices_S32x256x1536_S32x256x256_0_0_1280) shapeCasts_S32x256x256_S32x256x2x128

/-- Keys over the root of their mean square, times a gain. -/
def keysNormed (x : FVec Ideal S32x256x2x128 .f32) (g : FVec Ideal S1x128 .f32) : FVec Ideal S32x256x2x128 .f32 :=
  mulf (mulf x (broadcastInDim S32x256x2x128 ![0, 1, 2, 3] bcast_S32x256x2x1_S32x256x2x128_0_1_2_3 (Host.rsqrt (addf (Host.divf
    (broadcastInDim S32x256x2x1 ![0, 1, 2] bcast_S32x256x2_S32x256x2x1_0_1_2 (Host.reduceAdd (mulf x x) (constant S_ .f32 0x00000000#32) reducesTo_S32x256x2x128_S32x256x2_d3 h_S_))
    (broadcastInDim S32x256x2x1 ![] bcast_S_S32x256x2x1 (constant S_ .f32 0x43000000#32))) (broadcastInDim S32x256x2x1 ![] bcast_S_S32x256x2x1 (constant S_ .f32 0x358637BD#32))))))
    (broadcastInDim S32x256x2x128 ![0, 1, 2, 3] bcast_S1x1x1x128_S32x256x2x128_0_1_2_3 (broadcastInDim S1x1x1x128 ![3] bcast_S128_S1x1x1x128_3 (shapeCast S128 g shapeCasts_S1x128_S128)))

/-- Queries the same, scaled, by group. -/
def queriesNormed (x : FVec Ideal S32x256x8x128 .f32) (g : FVec Ideal S1x128 .f32) : FVec Ideal S32x256x2x4x128 .f32 :=
  shapeCast S32x256x2x4x128 (mulf (mulf (mulf x (broadcastInDim S32x256x8x128 ![0, 1, 2, 3] bcast_S32x256x8x1_S32x256x8x128_0_1_2_3 (Host.rsqrt (addf (Host.divf
    (broadcastInDim S32x256x8x1 ![0, 1, 2] bcast_S32x256x8_S32x256x8x1_0_1_2 (Host.reduceAdd (mulf x x) (constant S_ .f32 0x00000000#32) reducesTo_S32x256x8x128_S32x256x8_d3 h_S_))
    (broadcastInDim S32x256x8x1 ![] bcast_S_S32x256x8x1 (constant S_ .f32 0x43000000#32))) (broadcastInDim S32x256x8x1 ![] bcast_S_S32x256x8x1 (constant S_ .f32 0x358637BD#32))))))
    (broadcastInDim S32x256x8x128 ![0, 1, 2, 3] bcast_S1x1x1x128_S32x256x8x128_0_1_2_3 (broadcastInDim S1x1x1x128 ![3] bcast_S128_S1x1x1x128_3 (shapeCast S128 g shapeCasts_S1x128_S128))))
    (broadcastInDim S32x256x8x128 ![] bcast_S_S32x256x8x128 (constant S_ .f32 0x3DB504F3#32))) shapeCasts_S32x256x8x128_S32x256x2x4x128

def scores (k : FVec Ideal S32x256x2x128 .f32) (q : FVec Ideal S32x256x2x4x128 .f32) : FVec Ideal S32x2x4x256x256 .f32 :=
  transpose S32x2x4x256x256 [0, 1, 4, 3, 2] (Host.dotGeneral dot_S32x256x2x128_S32x256x2x4x128_S32x2x256x256x4_3_4_1_13_02_02 none k q)
    transposes_S32x2x256x256x4_S32x2x4x256x256_0_1_4_3_2

def spread (x : FVec Ideal S32x2x4x256 .f32) : FVec Ideal S32x2x4x256x256 .f32 :=
  broadcastInDim S32x2x4x256x256 ![0, 1, 2, 3, 4] bcast_S32x2x4x256x1_S32x2x4x256x256_0_1_2_3_4
    (broadcastInDim S32x2x4x256x1 ![0, 1, 2, 3] bcast_S32x2x4x256_S32x2x4x256x1_0_1_2_3 x)

def peak (s : FVec Ideal S32x2x4x256x256 .f32) : FVec Ideal S32x2x4x256 .f32 :=
  maximumf (broadcastInDim S32x2x4x256 ![] bcast_S_S32x2x4x256 (constant S_ .f32 0xFF800000#32))
    (Host.reduce FloatOps.maximumf s (constant S_ .f32 0xFF800000#32) reducesTo_S32x2x4x256x256_S32x2x4x256_d4 h_S_)

def exps (s : FVec Ideal S32x2x4x256x256 .f32) : FVec Ideal S32x2x4x256x256 .f32 := Host.exp (subf s (spread (peak s)))

def total (s : FVec Ideal S32x2x4x256x256 .f32) : FVec Ideal S32x2x4x256 .f32 :=
  Host.reduceAdd s (constant S_ .f32 0x00000000#32) reducesTo_S32x2x4x256x256_S32x2x4x256_d4 h_S_

def weights (e : FVec Ideal S32x2x4x256x256 .f32) : FVec Ideal S32x2x4x256x256 .f32 := Host.divf e (spread (total e))

def weighted (v : FVec Ideal S32x256x2x128 .f32) (p : FVec Ideal S32x2x4x256x256 .f32) : FVec Ideal S32x256x1024 .f32 :=
  shapeCast S32x256x1024 (transpose S32x256x2x4x128 [0, 4, 1, 3, 2]
    (Host.dotGeneral (φ₁ := .f32) (φ₂ := .f32) dot_S32x256x2x128_S32x2x4x256x256_S32x2x128x4x256_1_4_3_23_02_01 none v p)
    transposes_S32x2x128x4x256_S32x256x2x4x128_0_4_1_3_2) shapeCasts_S32x256x2x4x128_S32x256x1024

def outProjected (a : FVec Ideal S32x256x1024 .f32) (w : FVec Ideal S1x1024x1024 .f32) : FVec Ideal S32x256x1024 .f32 :=
  Host.dotGeneral (φ₁ := .f32) (φ₂ := .f32) dot_S32x256x1024_S1024x1024_S32x256x1024_2_0_01_1_n_n none a (shapeCast S1024x1024 w shapeCasts_S1x1024x1024_S1024x1024)

def added (x : FVec Ideal S32x256x1024 .f32) (gate : FVec Ideal S1x1x1024 .f32) (o : FVec Ideal S32x256x1024 .f32) : FVec Ideal S32x256x1024 .f32 :=
  addf (mulf (broadcastInDim S32x256x1024 ![] bcast_S_S32x256x1024 (constant S_ .f32 0x3FB504F3#32)) x) (mulf (over gate) o)

def meanOf (x : FVec Ideal S32x256x1024 .f32) : FVec Ideal S32x256x1 .f32 :=
  Host.divf (broadcastInDim S32x256x1 ![0, 1] bcast_S32x256_S32x256x1_0_1 (Host.reduceAdd x (constant S_ .f32 0x00000000#32) reducesTo_S32x256x1024_S32x256_d2 h_S_))
    (broadcastInDim S32x256x1 ![] bcast_S_S32x256x1 (constant S_ .f32 0x44800000#32))

def across (x : FVec Ideal S32x256x1 .f32) : FVec Ideal S32x256x1024 .f32 := broadcastInDim S32x256x1024 ![0, 1, 2] bcast_S32x256x1_S32x256x1024_0_1_2 x

def less (x : FVec Ideal S32x256x1024 .f32) : FVec Ideal S32x256x1024 .f32 := subf x (across (meanOf x))

def rowOf (a : FVec Ideal S2x1024 .f32) : FVec Ideal S1x1x1024 .f32 :=
  broadcastInDim S1x1x1024 ![2] bcast_S1024_S1x1x1024_2 (shapeCast S1024 (extractStridedSlice S1x1024 ![0, 0] a slices_S2x1024_S1x1024_0_0) shapeCasts_S1x1024_S1024)

def tokensNormed (x : FVec Ideal S32x256x1024 .f32) (g b : FVec Ideal S2x1024 .f32) : FVec Ideal S32x256x1024 .f32 :=
  addf (mulf (mulf (less x) (across (Host.rsqrt (addf (meanOf (mulf (less x) (less x))) (broadcastInDim S32x256x1 ![] bcast_S_S32x256x1 (constant S_ .f32 0x358637BD#32))))))
    (over (rowOf g))) (over (rowOf b))

def hidden (h : FVec Ideal S32x256x1024 .f32) (w : FVec Ideal S1x1024x5632 .f32) : FVec Ideal S32x256x5632 .f32 :=
  Host.dotGeneral dot_S32x256x1024_S1024x5632_S32x256x5632_2_0_01_1_n_n none h (shapeCast S1024x5632 w shapeCasts_S1x1024x5632_S1024x5632)

def gatePart (u : FVec Ideal S32x256x5632 .f32) : FVec Ideal S32x256x2816 .f32 := extractStridedSlice S32x256x2816 ![0, 0, 0] u slices_S32x256x5632_S32x256x2816_0_0_0

def logi (u : FVec Ideal S32x256x2816 .f32) : FVec Ideal S32x256x2816 .f32 :=
  Host.divf (broadcastInDim S32x256x2816 ![] bcast_S_S32x256x2816 (constant S_ .f32 0x3F800000#32))
    (addf (broadcastInDim S32x256x2816 ![] bcast_S_S32x256x2816 (constant S_ .f32 0x3F800000#32)) (Host.exp (Host.negf u)))

def units (u : FVec Ideal S32x256x5632 .f32) : FVec Ideal S32x256x2816 .f32 :=
  mulf (mulf (gatePart u) (logi (gatePart u))) (extractStridedSlice S32x256x2816 ![0, 0, 2816] u slices_S32x256x5632_S32x256x2816_0_0_2816)

def fed (u : FVec Ideal S32x256x2816 .f32) (w : FVec Ideal S1x2816x1024 .f32) : FVec Ideal S32x256x1024 .f32 :=
  Host.dotGeneral dot_S32x256x2816_S2816x1024_S32x256x1024_2_0_01_1_n_n none u (shapeCast S2816x1024 w shapeCasts_S1x2816x1024_S2816x1024)

def laterProjected (h : FVec Ideal S32x256x1024 .f32) (w : FVec Ideal S1x1024x3072 .f32) : FVec Ideal S32x256x3072 .f32 :=
  Host.dotGeneral dot_S32x256x1024_S1024x3072_S32x256x3072_2_0_01_1_n_n none h (shapeCast S1024x3072 w shapeCasts_S1x1024x3072_S1024x3072)

/-! ## Each at an index -/

theorem gatedCond_apply (a : FVec Ideal S1024 .f32) (k : Fin 1024) : gatedCond a (ix2 0 k) = silu (a (ix1 k)) := by
  unfold gatedCond silu
  pointwise
  rfl

theorem modRow_apply (g : FVec Ideal S1x1024 .f32) (w : FVec Ideal S1x1024x6144 .f32) (b : FVec Ideal S1x6144 .f32) (e : Fin 6144) :
    modRow g w b (ix3 0 0 e) = (∑ k : Fin 1024, g (ix2 0 k) * w (ix3 0 k e)) + b (ix2 0 e) := by
  unfold modRow
  pointwise

theorem over_apply (a : FVec Ideal S1x1x1024 .f32) (b : Fin 32) (t : Fin 256) (j : Fin 1024) : over a (ix3 b t j) = a (ix3 0 0 j) := by
  unfold over
  pointwise

theorem modul_apply (x : FVec Ideal S32x256x1024 .f32) (sh sc : FVec Ideal S1x1x1024 .f32) (b : Fin 32) (t : Fin 256) (j : Fin 1024) :
    modul x sh sc (ix3 b t j) = modulated (fun k => x (ix3 b t k)) (fun k => sc (ix3 0 0 k)) (fun k => sh (ix3 0 0 k)) j := by
  unfold modul over modulated
  pointwise

theorem projected_apply (h : FVec Ideal S32x256x1024 .f32) (w : FVec Ideal S1x1024x1536 .f32) (b : Fin 32) (t : Fin 256) (e : Fin 1536) :
    projected h w (ix3 b t e) = dot (fun k => h (ix3 b t k)) (fun k => w (ix3 0 k e)) := by
  unfold projected dot
  pointwise

theorem queryPart_apply (p : FVec Ideal S32x256x1536 .f32) (b : Fin 32) (t : Fin 256) (h : Fin 8) (d : Fin 128) :
    queryPart p (ix4 b t h d) = p (ix3 b t ⟨h * 128 + d, by omega⟩) := by
  unfold queryPart
  pointwise

theorem keyPart_apply (p : FVec Ideal S32x256x1536 .f32) (b : Fin 32) (t : Fin 256) (h : Fin 2) (d : Fin 128) :
    keyPart p (ix4 b t h d) = p (ix3 b t ⟨1024 + h * 128 + d, by omega⟩) := by
  unfold keyPart
  pointwise
  exact congrArg (fun x => p (ix3 b t x)) (Fin.ext (by simp only []; omega))

theorem valuePart_apply (p : FVec Ideal S32x256x1536 .f32) (b : Fin 32) (t : Fin 256) (h : Fin 2) (d : Fin 128) :
    valuePart p (ix4 b t h d) = p (ix3 b t ⟨1280 + (h * 128 + d), by omega⟩) := by
  unfold valuePart
  pointwise

theorem keysNormed_apply (x : FVec Ideal S32x256x2x128 .f32) (g : FVec Ideal S1x128 .f32) (b : Fin 32) (t : Fin 256) (h : Fin 2) (d : Fin 128) :
    keysNormed x g (ix4 b t h d) = headNorm (fun j => x (ix4 b t h j)) (fun j => g (ix2 0 j)) d := by
  unfold keysNormed headNorm
  pointwise

theorem queriesNormed_apply (x : FVec Ideal S32x256x8x128 .f32) (g : FVec Ideal S1x128 .f32) (b : Fin 32) (t : Fin 256) (h : Fin 2) (r : Fin 4) (d : Fin 128) :
    queriesNormed x g (ix5 b t h r d)
      = headNorm (fun j => x (ix4 b t ⟨h * 4 + r, by omega⟩ j)) (fun j => g (ix2 0 j)) d * Ideal.ofBits .f32 0x3DB504F3#32 := by
  unfold queriesNormed headNorm
  pointwise

theorem scores_apply (k : FVec Ideal S32x256x2x128 .f32) (q : FVec Ideal S32x256x2x4x128 .f32) (b : Fin 32) (g : Fin 2) (r : Fin 4) (s t : Fin 256) :
    scores k q (ix5 b g r s t) = dot (fun j => q (ix5 b s g r j)) (fun j => k (ix4 b t g j)) := by
  refine Eq.trans (b := ∑ j : Fin 128, k (ix4 b t g j) * q (ix5 b s g r j)) ?_ (Finset.sum_congr rfl fun j _ => mul_comm _ _)
  unfold scores
  pointwise

theorem spread_apply (x : FVec Ideal S32x2x4x256 .f32) (b : Fin 32) (g : Fin 2) (r : Fin 4) (s t : Fin 256) :
    spread x (ix5 b g r s t) = x (ix4 b g r s) := by
  unfold spread
  pointwise

theorem top_apply (x : FVec Ideal S32x2x4x256x256 .f32) (b : Fin 32) (g : Fin 2) (r : Fin 4) (s : Fin 256) :
    Host.reduce FloatOps.maximumf x (constant S_ .f32 0xFF800000#32) reducesTo_S32x2x4x256x256_S32x2x4x256_d4 h_S_ (ix4 b g r s)
      = Finset.univ.fold max (Ideal.ofBits .f32 0xFF800000#32) fun t => x (ix5 b g r s t) := by
  pointwise

theorem least_apply (i : S32x2x4x256.Idx) :
    broadcastInDim S32x2x4x256 ![] bcast_S_S32x2x4x256 (constant (F := Ideal) S_ .f32 0xFF800000#32) i = Ideal.ofBits .f32 0xFF800000#32 := by
  pointwise

theorem peak_apply (x : FVec Ideal S32x2x4x256x256 .f32) (b : Fin 32) (g : Fin 2) (r : Fin 4) (s : Fin 256) :
    peak x (ix4 b g r s) = Finset.univ.fold max ⊥ fun t => x (ix5 b g r s t) := by
  unfold peak
  rw [ValueIdx.maximumf_apply, top_apply, least_apply, show Ideal.ofBits .f32 0xFF800000#32 = ⊥ by simp [Ideal.ofBits, Ideal.ieee]]
  exact max_eq_right bot_le

theorem exps_apply (x : FVec Ideal S32x2x4x256x256 .f32) (b : Fin 32) (g : Fin 2) (r : Fin 4) (s t : Fin 256) :
    exps x (ix5 b g r s t) = Ideal.exp (x (ix5 b g r s t) - peak x (ix4 b g r s)) := by
  unfold exps
  rw [← spread_apply (peak x) b g r s t]
  rfl

theorem total_apply (x : FVec Ideal S32x2x4x256x256 .f32) (b : Fin 32) (g : Fin 2) (r : Fin 4) (s : Fin 256) :
    total x (ix4 b g r s) = ∑ t : Fin 256, x (ix5 b g r s t) := by
  unfold total
  pointwise

theorem weights_apply (x : FVec Ideal S32x2x4x256x256 .f32) (b : Fin 32) (g : Fin 2) (r : Fin 4) (s t : Fin 256) :
    weights x (ix5 b g r s t) = Ideal.div (x (ix5 b g r s t)) (total x (ix4 b g r s)) := by
  unfold weights
  rw [← spread_apply (total x) b g r s t]
  rfl

theorem weighted_apply (v : FVec Ideal S32x256x2x128 .f32) (p : FVec Ideal S32x2x4x256x256 .f32) (b : Fin 32) (t : Fin 256) (e : Fin 1024) :
    weighted v p (ix3 b t e) = ∑ u : Fin 256, v (ix4 b u ⟨e / 512, by omega⟩ ⟨e % 128, by omega⟩)
      * p (ix5 b ⟨e / 512, by omega⟩ ⟨e / 128 % 4, by omega⟩ t u) := by
  unfold weighted
  pointwise

theorem outProjected_apply (a : FVec Ideal S32x256x1024 .f32) (w : FVec Ideal S1x1024x1024 .f32) (b : Fin 32) (t : Fin 256) (e : Fin 1024) :
    outProjected a w (ix3 b t e) = dot (fun k => a (ix3 b t k)) (fun k => w (ix3 0 k e)) := by
  unfold outProjected dot
  pointwise

theorem added_apply (x : FVec Ideal S32x256x1024 .f32) (gate : FVec Ideal S1x1x1024 .f32) (o : FVec Ideal S32x256x1024 .f32) (b : Fin 32) (t : Fin 256) (j : Fin 1024) :
    added x gate o (ix3 b t j) = residual (fun k => x (ix3 b t k)) (fun k => gate (ix3 0 0 k)) (fun k => o (ix3 b t k)) j := by
  unfold added over residual
  pointwise

theorem meanOf_apply (x : FVec Ideal S32x256x1024 .f32) (b : Fin 32) (t : Fin 256) : meanOf x (ix3 b t 0) = mean (fun k => x (ix3 b t k)) := by
  unfold meanOf mean
  pointwise

theorem across_apply (x : FVec Ideal S32x256x1 .f32) (b : Fin 32) (t : Fin 256) (j : Fin 1024) : across x (ix3 b t j) = x (ix3 b t 0) := by
  unfold across
  pointwise

theorem less_apply (x : FVec Ideal S32x256x1024 .f32) (b : Fin 32) (t : Fin 256) (j : Fin 1024) :
    less x (ix3 b t j) = x (ix3 b t j) - mean (fun k => x (ix3 b t k)) := by
  rw [← meanOf_apply, ← across_apply (meanOf x) b t j]
  rfl

theorem rowOf_apply (a : FVec Ideal S2x1024 .f32) (j : Fin 1024) : rowOf a (ix3 0 0 j) = a (ix2 0 j) := by
  unfold rowOf
  pointwise

theorem root_apply (x : FVec Ideal S32x256x1 .f32) (b : Fin 32) (t : Fin 256) :
    Host.rsqrt (addf x (broadcastInDim S32x256x1 ![] bcast_S_S32x256x1 (constant S_ .f32 0x358637BD#32))) (ix3 b t 0)
      = Ideal.rsqrt (x (ix3 b t 0) + Ideal.ofBits .f32 0x358637BD#32) := by
  pointwise

theorem combine_apply (x y z w : FVec Ideal S32x256x1024 .f32) (i : S32x256x1024.Idx) : addf (mulf (mulf x y) z) w i = x i * y i * z i + w i := rfl

theorem tokensNormed_apply (x : FVec Ideal S32x256x1024 .f32) (g b : FVec Ideal S2x1024 .f32) (i : Fin 32) (t : Fin 256) (j : Fin 1024) :
    tokensNormed x g b (ix3 i t j) = tokenNorm (fun k => x (ix3 i t k)) (fun k => g (ix2 0 k)) (fun k => b (ix2 0 k)) j := by
  unfold tokensNormed tokenNorm
  rw [combine_apply, less_apply, across_apply, root_apply, meanOf_apply, over_apply, over_apply, rowOf_apply, rowOf_apply]
  unfold mean
  simp only [ValueIdx.mulf_apply, less_apply]
  rfl

theorem hidden_apply (h : FVec Ideal S32x256x1024 .f32) (w : FVec Ideal S1x1024x5632 .f32) (b : Fin 32) (t : Fin 256) (e : Fin 5632) :
    hidden h w (ix3 b t e) = dot (fun k => h (ix3 b t k)) (fun k => w (ix3 0 k e)) := by
  unfold hidden dot
  pointwise

theorem gatePart_apply (u : FVec Ideal S32x256x5632 .f32) (b : Fin 32) (t : Fin 256) (f : Fin 2816) : gatePart u (ix3 b t f) = u (ix3 b t ⟨f, by omega⟩) := by
  unfold gatePart
  pointwise

theorem logi_apply (u : FVec Ideal S32x256x2816 .f32) (b : Fin 32) (t : Fin 256) (f : Fin 2816) : logi u (ix3 b t f) = Ideal.logistic (u (ix3 b t f)) := by
  unfold logi Ideal.logistic
  pointwise

theorem upPart_apply (u : FVec Ideal S32x256x5632 .f32) (b : Fin 32) (t : Fin 256) (f : Fin 2816) :
    extractStridedSlice S32x256x2816 ![0, 0, 2816] u slices_S32x256x5632_S32x256x2816_0_0_2816 (ix3 b t f) = u (ix3 b t ⟨2816 + f, by omega⟩) := by
  pointwise

theorem units_apply (u : FVec Ideal S32x256x5632 .f32) (b : Fin 32) (t : Fin 256) (f : Fin 2816) :
    units u (ix3 b t f) = Cert.Swiglu.gated (u (ix3 b t ⟨f, by omega⟩)) (u (ix3 b t ⟨2816 + f, by omega⟩)) := by
  unfold units Cert.Swiglu.gated
  rw [ValueIdx.mulf_apply, ValueIdx.mulf_apply, logi_apply, gatePart_apply, upPart_apply]

theorem fed_apply (u : FVec Ideal S32x256x2816 .f32) (w : FVec Ideal S1x2816x1024 .f32) (b : Fin 32) (t : Fin 256) (e : Fin 1024) :
    fed u w (ix3 b t e) = ∑ f : Fin 2816, u (ix3 b t f) * w (ix3 0 f e) := by
  unfold fed
  pointwise

theorem laterProjected_apply (h : FVec Ideal S32x256x1024 .f32) (w : FVec Ideal S1x1024x3072 .f32) (b : Fin 32) (t : Fin 256) (e : Fin 3072) :
    laterProjected h w (ix3 b t e) = dot (fun k => h (ix3 b t k)) (fun k => w (ix3 0 k e)) := by
  unfold laterProjected dot
  pointwise

theorem cut_apply (a : FVec Ideal S1x1x6144 .f32) (o : ℕ) (h : S1x1x6144.Slices ![0, 0, o] S1x1x1024) (j : Fin 1024) (hj : o + j < 6144) :
    extractStridedSlice S1x1x1024 ![0, 0, o] a h (ix3 0 0 j) = a (ix3 0 0 ⟨o + j, hj⟩) := by
  pointwise

end Cert.Context3.Plain

end
-- ==== Proof.ContextPlain.lean ====
/-
  The plain context part's four results, at an index, as the functions of the arguments.
-/
module

public import proofs.«01_k».proof.Proof.ContextReference

@[expose] public section

set_option maxRecDepth 16384

noncomputable section

open Idealize.ShloMosaic Idealize.ShloMosaic.TcCoe Idealize.SL.Sem Idealize.ShloMosaic.StableHlo

namespace Cert.Context3.Plain

open Cert.PlainContextIdeal Cert.PlainContextIdeal.Gen Cert.PlainContextIdeal.Value

def cut (o : ℕ) (h : S1x1x6144.Slices ![0, 0, o] S1x1x1024) (a : FVec Ideal S1x1x6144 .f32) : FVec Ideal S1x1x1024 .f32 :=
  extractStridedSlice S1x1x1024 ![0, 0, o] a h

def layerW (l : Fin 2) (h : S2x1024x6144.Slices ![(l : ℕ), 0, 0] S1x1024x6144) (a : FVec Ideal S2x1024x6144 .f32) : FVec Ideal S1x1024x6144 .f32 :=
  extractStridedSlice S1x1024x6144 ![(l : ℕ), 0, 0] a h

def layerB (l : Fin 2) (h : S2x6144.Slices ![(l : ℕ), 0] S1x6144) (a : FVec Ideal S2x6144 .f32) : FVec Ideal S1x6144 .f32 :=
  extractStridedSlice S1x6144 ![(l : ℕ), 0] a h

theorem layerW_apply (l : Fin 2) (h : S2x1024x6144.Slices ![(l : ℕ), 0, 0] S1x1024x6144) (a : FVec Ideal S2x1024x6144 .f32) (k : Fin 1024) (e : Fin 6144) :
    layerW l h a (ix3 0 k e) = a (ix3 l k e) := by
  unfold layerW
  pointwise

theorem layerB_apply (l : Fin 2) (h : S2x6144.Slices ![(l : ℕ), 0] S1x6144) (a : FVec Ideal S2x6144 .f32) (e : Fin 6144) :
    layerB l h a (ix2 0 e) = a (ix2 l e) := by
  unfold layerB
  pointwise

variable (V0 : Valuation τ sig (Elt Ideal))

/-- The program's arguments. -/
def inputsR : Inputs :=
  inputsOf (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))

/-! ## The results' terms, by the named steps -/

theorem r1 : res_main_v1 V0 = gatedCond (V0 (Proc.devRef .tc main_arg2)) := rfl
theorem r9 : res_main_v9 V0 = modRow (res_main_v1 V0) (layerW 0 slices_S2x1024x6144_S1x1024x6144_0_0_0 (V0 (Proc.devRef .tc main_arg3))) (layerB 0 slices_S2x6144_S1x6144_0_0 (V0 (Proc.devRef .tc main_arg4))) := rfl
theorem r25 : res_main_v25 V0 = projected (modul (V0 (Proc.devRef .tc main_arg0)) (cut 0 slices_S1x1x6144_S1x1x1024_0_0_0 (res_main_v9 V0)) (cut 1024 slices_S1x1x6144_S1x1x1024_0_0_1024 (res_main_v9 V0))) (V0 (Proc.devRef .tc main_arg9)) := rfl
theorem r27 : res_main_v27 V0 = queryPart (res_main_v25 V0) := rfl
theorem r42 : res_main_v42 V0 = keyPart (res_main_v25 V0) := rfl
theorem r55 : res_main_v55 V0 = keysNormed (res_main_v42 V0) (V0 (Proc.devRef .tc main_arg11)) := rfl
theorem r57 : res_main_v57 V0 = valuePart (res_main_v25 V0) := rfl
theorem r62 : res_main_v62 V0 = scores (res_main_v55 V0) (queriesNormed (res_main_v27 V0) (V0 (Proc.devRef .tc main_arg10))) := rfl
theorem r69 : res_main_v69 V0 = exps (res_main_v62 V0) := rfl
theorem r87 : res_main_v87 V0 = added (V0 (Proc.devRef .tc main_arg0)) (cut 2048 slices_S1x1x6144_S1x1x1024_0_0_2048 (res_main_v9 V0)) (outProjected (weighted (res_main_v57 V0) (weights (res_main_v69 V0))) (V0 (Proc.devRef .tc main_arg12))) := rfl
theorem r111 : res_main_v111 V0 = tokensNormed (res_main_v87 V0) (V0 (Proc.devRef .tc main_arg5)) (V0 (Proc.devRef .tc main_arg6)) := rfl
theorem r120 : res_main_v120 V0 = hidden (modul (res_main_v111 V0) (cut 3072 slices_S1x1x6144_S1x1x1024_0_0_3072 (res_main_v9 V0)) (cut 4096 slices_S1x1x6144_S1x1x1024_0_0_4096 (res_main_v9 V0))) (V0 (Proc.devRef .tc main_arg14)) := rfl
theorem r134 : res_main_v134 V0 = added (res_main_v111 V0) (cut 5120 slices_S1x1x6144_S1x1x1024_0_0_5120 (res_main_v9 V0)) (fed (units (res_main_v120 V0)) (V0 (Proc.devRef .tc main_arg15))) := rfl
theorem r166 : res_main_v166 V0 = modRow (res_main_v1 V0) (layerW 1 slices_S2x1024x6144_S1x1024x6144_1_0_0 (V0 (Proc.devRef .tc main_arg3))) (layerB 1 slices_S2x6144_S1x6144_1_0 (V0 (Proc.devRef .tc main_arg4))) := rfl
theorem r180 : res_main_v180 V0 = laterProjected (modul (tokensNormed (res_main_v134 V0) (V0 (Proc.devRef .tc main_arg7)) (V0 (Proc.devRef .tc main_arg8))) (cut 0 slices_S1x1x6144_S1x1x1024_0_0_0 (res_main_v166 V0)) (cut 1024 slices_S1x1x6144_S1x1x1024_0_0_1024 (res_main_v166 V0))) (V0 (Proc.devRef .tc main_arg13)) := rfl

/-! ## Their entries -/

theorem row0_apply (e : Fin 6144) : (res_main_v9 V0 : FVec Ideal S1x1x6144 .f32) (ix3 0 0 e)
    = adaValue (inputsR V0).cond (fun k => (inputsR V0).adaW 0 k e) ((inputsR V0).adaB 0 e) :=
  (congrFun (r9 V0) _).trans ((modRow_apply _ _ _ e).trans (congr (congrArg HAdd.hAdd (Finset.sum_congr rfl fun k _ =>
    congr (congrArg HMul.hMul ((congrFun (r1 V0) _).trans (gatedCond_apply _ k))) (layerW_apply 0 _ _ k e))) (layerB_apply 0 _ _ e)))

theorem mod0_apply (i : Fin 6) (o : ℕ) (h : S1x1x6144.Slices ![0, 0, o] S1x1x1024) (ho : o = i * 1024) (j : Fin 1024) :
    cut o h (res_main_v9 V0) (ix3 0 0 j) = (inputsR V0).modn 0 i j := by
  subst ho
  exact (cut_apply _ _ h j (by omega)).trans (row0_apply V0 _)

theorem row1_apply (e : Fin 6144) : (res_main_v166 V0 : FVec Ideal S1x1x6144 .f32) (ix3 0 0 e)
    = adaValue (inputsR V0).cond (fun k => (inputsR V0).adaW 1 k e) ((inputsR V0).adaB 1 e) :=
  (congrFun (r166 V0) _).trans ((modRow_apply _ _ _ e).trans (congr (congrArg HAdd.hAdd (Finset.sum_congr rfl fun k _ =>
    congr (congrArg HMul.hMul ((congrFun (r1 V0) _).trans (gatedCond_apply _ k))) (layerW_apply 1 _ _ k e))) (layerB_apply 1 _ _ e)))

theorem mod1_apply (i : Fin 6) (o : ℕ) (h : S1x1x6144.Slices ![0, 0, o] S1x1x1024) (ho : o = i * 1024) (j : Fin 1024) :
    cut o h (res_main_v166 V0) (ix3 0 0 j) = (inputsR V0).modn 1 i j := by
  subst ho
  exact (cut_apply _ _ h j (by omega)).trans (row1_apply V0 _)

theorem qkv_apply (b : Fin 32) (t : Fin 256) (e : Fin 1536) : (res_main_v25 V0 : FVec Ideal S32x256x1536 .f32) (ix3 b t e) = (inputsR V0).qkv b t e :=
  (congrFun (r25 V0) _).trans ((projected_apply _ _ b t e).trans (congrFun (congrArg dot (funext fun k => (modul_apply _ _ _ b t k).trans
    (congrFun (congr (congrArg (modulated _) (funext fun k => mod0_apply V0 1 _ _ rfl k)) (funext fun k => mod0_apply V0 0 _ _ rfl k)) k))) _))

theorem key_apply (b : Fin 32) (t : Fin 256) (h : Fin 2) (d : Fin 128) : (res_main_v55 V0 : FVec Ideal S32x256x2x128 .f32) (ix4 b t h d) = (inputsR V0).key b t h d :=
  (congrFun (r55 V0) _).trans ((keysNormed_apply _ _ b t h d).trans (congrFun (congrFun (congrArg headNorm (funext fun j =>
    (congrFun (r42 V0) _).trans ((keyPart_apply _ b t h j).trans (qkv_apply V0 b t _)))) _) d))

theorem value_apply (b : Fin 32) (t : Fin 256) (h : Fin 2) (d : Fin 128) : (res_main_v57 V0 : FVec Ideal S32x256x2x128 .f32) (ix4 b t h d) = (inputsR V0).value b t h d :=
  (congrFun (r57 V0) _).trans ((valuePart_apply _ b t h d).trans (qkv_apply V0 b t _))

theorem query_apply (b : Fin 32) (t : Fin 256) (g : Fin 2) (r : Fin 4) (d : Fin 128) :
    queriesNormed (res_main_v27 V0) (V0 (Proc.devRef .tc main_arg10)) (ix5 b t g r d) = (inputsR V0).query b t ⟨g * 4 + r, by omega⟩ d :=
  (queriesNormed_apply _ _ b t g r d).trans (congrArg (· * Ideal.ofBits .f32 0x3DB504F3#32) (congrFun (congrFun (congrArg headNorm (funext fun j =>
    (congrFun (r27 V0) _).trans ((queryPart_apply _ b t _ j).trans (qkv_apply V0 b t _)))) _) d))

theorem score_apply (b : Fin 32) (g : Fin 2) (r : Fin 4) (s t : Fin 256) : (res_main_v62 V0 : FVec Ideal S32x2x4x256x256 .f32) (ix5 b g r s t)
    = dot (fun j => (inputsR V0).query b s ⟨g * 4 + r, by omega⟩ j) (fun j => (inputsR V0).key b t g j) :=
  (congrFun (r62 V0) _).trans ((scores_apply _ _ b g r s t).trans
    (congr (congrArg dot (funext fun j => query_apply V0 b s g r j)) (funext fun j => key_apply V0 b t g j)))

/-- The softmax of a row, the sum of the values it weights. -/
theorem attended_apply (b : Fin 32) (t : Fin 256) (e : Fin 1024) :
    weighted (res_main_v57 V0) (weights (res_main_v69 V0)) (ix3 b t e) = (inputsR V0).attended Cert.Softmax.plainRow b t e := by
  have hx : ∀ (g : Fin 2) (r : Fin 4) (u : Fin 256), (res_main_v69 V0 : FVec Ideal S32x2x4x256x256 .f32) (ix5 b g r t u)
      = Ideal.exp (dot (fun j => (inputsR V0).query b t ⟨g * 4 + r, by omega⟩ j) (fun j => (inputsR V0).key b u g j)
        - Finset.univ.fold max ⊥ fun u => dot (fun j => (inputsR V0).query b t ⟨g * 4 + r, by omega⟩ j) (fun j => (inputsR V0).key b u g j)) := fun g r u => by
    refine (congrFun (r69 V0) _).trans ((exps_apply _ b g r t u).trans ?_)
    rw [peak_apply]
    exact congrArg Ideal.exp (congr (congrArg HSub.hSub (score_apply V0 b g r t u)) (congrArg (Finset.univ.fold max ⊥) (funext fun u => score_apply V0 b g r t u)))
  have hh : (⟨(e : ℕ) / 512 * 4 + (e : ℕ) / 128 % 4, by omega⟩ : Fin 8) = ⟨(e : ℕ) / 128, by omega⟩ := Fin.ext (by simp only []; omega)
  rw [weighted_apply]
  unfold Inputs.attended Cert.Softmax.plainRow
  refine Finset.sum_congr rfl fun u _ => congr (congrArg HMul.hMul (value_apply V0 b u _ _)) ?_
  rw [weights_apply, total_apply]
  simp only [hx]
  rw [hh]

/-- A token after the first half of the layer. -/
theorem half_apply (b : Fin 32) (t : Fin 256) (j : Fin 1024) : (res_main_v111 V0 : FVec Ideal S32x256x1024 .f32) (ix3 b t j)
    = tokenHalf ((inputsR V0).attended Cert.Softmax.plainRow b t) (inputsR V0).wo ((inputsR V0).x b t) ((inputsR V0).modn 0 2) (inputsR V0).g1 (inputsR V0).b1 j := by
  refine (congrFun (r111 V0) _).trans ((tokensNormed_apply _ _ _ b t j).trans ?_)
  unfold tokenHalf
  refine congrFun (congrFun (congrFun (congrArg tokenNorm (funext fun k => ?_)) _) _) j
  refine (congrFun (r87 V0) _).trans ((added_apply _ _ _ b t k).trans ?_)
  refine congrFun (congr (congrArg (residual _) (funext fun k => mod0_apply V0 2 _ _ rfl k)) (funext fun k => ?_)) k
  exact (outProjected_apply _ _ b t k).trans (congrFun (congrArg dot (funext fun e => attended_apply V0 b t e)) _)

theorem hidden_eq (b : Fin 32) (t : Fin 256) (e : Fin 5632) : (res_main_v120 V0 : FVec Ideal S32x256x5632 .f32) (ix3 b t e)
    = dot (modulated (tokenHalf ((inputsR V0).attended Cert.Softmax.plainRow b t) (inputsR V0).wo ((inputsR V0).x b t) ((inputsR V0).modn 0 2) (inputsR V0).g1 (inputsR V0).b1)
      ((inputsR V0).modn 0 4) ((inputsR V0).modn 0 3)) (fun k => (inputsR V0).wgu k e) :=
  (congrFun (r120 V0) _).trans ((hidden_apply _ _ b t e).trans (congrFun (congrArg dot (funext fun k => (modul_apply _ _ _ b t k).trans
    (congrFun (congr (congr (congrArg modulated (funext fun k => half_apply V0 b t k)) (funext fun k => mod0_apply V0 4 _ _ rfl k))
      (funext fun k => mod0_apply V0 3 _ _ rfl k)) k))) _))

/-- A token after the layer. -/
theorem layer_apply (b : Fin 32) (t : Fin 256) (j : Fin 1024) :
    tokensNormed (res_main_v134 V0) (V0 (Proc.devRef .tc main_arg7)) (V0 (Proc.devRef .tc main_arg8)) (ix3 b t j) = (inputsR V0).layer Cert.Softmax.plainRow b t j := by
  refine (tokensNormed_apply _ _ _ b t j).trans ?_
  unfold Inputs.layer tokenWhole
  refine congrFun (congrFun (congrFun (congrArg tokenNorm (funext fun k => ?_)) _) _) j
  refine (congrFun (r134 V0) _).trans ((added_apply _ _ _ b t k).trans ?_)
  refine congrFun (congr (congr (congrArg residual (funext fun k => half_apply V0 b t k)) (funext fun k => mod0_apply V0 5 _ _ rfl k)) (funext fun k => ?_)) k
  refine (fed_apply _ _ b t k).trans ?_
  unfold Cert.Swiglu.swiglu
  refine Finset.sum_congr rfl fun f _ => congrFun (congrArg HMul.hMul ((units_apply _ b t f).trans ?_)) _
  exact congr (congrArg Cert.Swiglu.gated (hidden_eq V0 b t _)) (hidden_eq V0 b t _)

theorem later_apply (b : Fin 32) (t : Fin 256) (e : Fin 3072) : (res_main_v180 V0 : FVec Ideal S32x256x3072 .f32) (ix3 b t e)
    = (inputsR V0).later Cert.Softmax.plainRow b t e :=
  (congrFun (r180 V0) _).trans ((laterProjected_apply _ _ b t e).trans (congrFun (congrArg dot (funext fun k => (modul_apply _ _ _ b t k).trans
    (congrFun (congr (congr (congrArg modulated (funext fun k => layer_apply V0 b t k)) (funext fun k => mod1_apply V0 1 _ _ rfl k))
      (funext fun k => mod1_apply V0 0 _ _ rfl k)) k))) _))

/-! ## The results, as they are left -/

theorem cached_apply (a : FVec Ideal S32x256x2x128 .f32) (b : Fin 32) (t : Fin 256) (h : Fin 2) (d : Fin 128) :
    broadcastInDim S32x1x256x2x128 ![0, 2, 3, 4] bcast_S32x256x2x128_S32x1x256x2x128_0_2_3_4 a (ix5 b 0 t h d) = a (ix4 b t h d) := by
  pointwise

theorem laterCached_apply (a : FVec Ideal S32x256x3072 .f32) (o : ℕ) (hs : S32x256x3072.Slices ![0, 0, o] S32x256x1024) (ho : o ≤ 2048)
    (b : Fin 32) (t : Fin 256) (h : Fin 16) (d : Fin 64) :
    broadcastInDim S32x1x256x16x64 ![0, 2, 3, 4] bcast_S32x256x16x64_S32x1x256x16x64_0_2_3_4 (shapeCast S32x256x16x64
      (extractStridedSlice S32x256x1024 ![0, 0, o] a hs) shapeCasts_S32x256x1024_S32x256x16x64) (ix5 b 0 t h d) = a (ix3 b t ⟨o + (h * 64 + d), by omega⟩) := by
  pointwise

end Cert.Context3.Plain

end
-- ==== Proof.ContextValue.lean ====
/-
  The context part's four results are the plain ones, where the arguments that reach the softmax are finite.
-/
module

public import proofs.«01_k».proof.Defs
public import proofs.«01_k».proof.Proof.AttnValue
public import proofs.«01_k».proof.Proof.ContextChain
public import proofs.«01_k».proof.Proof.ContextPlain
public import proofs.«01_k».proof.Proof.Gen.Pre_context_finite

@[expose] public section

set_option maxRecDepth 16384

noncomputable section

open Idealize.ShloMosaic Idealize.ShloMosaic.TcCoe Idealize.ShloMosaic.StableHlo Idealize.SL.Sem

namespace Cert.Context3

open Cert.AttnValue

/-- The precondition, entry by entry. -/
theorem finite_entries (a0 : FVec Ideal Cert.Pre_context_finite.S32x256x1024 .f32) (a1 : FVec Ideal Cert.Pre_context_finite.S4x1024 .f32) (a2 : FVec Ideal Cert.Pre_context_finite.S1024 .f32) (a3 : FVec Ideal Cert.Pre_context_finite.S2x1024x6144 .f32) (a4 : FVec Ideal Cert.Pre_context_finite.S2x6144 .f32) (a5 : FVec Ideal Cert.Pre_context_finite.S2x1024 .f32) (a6 : FVec Ideal Cert.Pre_context_finite.S2x1024 .f32) (a7 : FVec Ideal Cert.Pre_context_finite.S2x1024 .f32) (a8 : FVec Ideal Cert.Pre_context_finite.S2x1024 .f32) (a9 : FVec Ideal Cert.Pre_context_finite.S1x1024x1536 .f32) (a10 : FVec Ideal Cert.Pre_context_finite.S1x128 .f32) (a11 : FVec Ideal Cert.Pre_context_finite.S1x128 .f32) (a12 : FVec Ideal Cert.Pre_context_finite.S1x1024x1024 .f32) (a13 : FVec Ideal Cert.Pre_context_finite.S1x1024x3072 .f32) (a14 : FVec Ideal Cert.Pre_context_finite.S1x1024x5632 .f32) (a15 : FVec Ideal Cert.Pre_context_finite.S1x2816x1024 .f32)
    (h : Cert.Pre_context_finite.fn a0 a1 a2 a3 a4 a5 a6 a7 a8 a9 a10 a11 a12 a13 a14 a15 = fun _ => 1#1) :
    (∀ i, IsReal (a0 i)) ∧ (∀ i, IsReal (a2 i)) ∧ (∀ i, IsReal (a3 i)) ∧ (∀ i, IsReal (a4 i)) ∧ (∀ i, IsReal (a9 i)) ∧ (∀ i, IsReal (a10 i)) ∧ (∀ i, IsReal (a11 i)) := by
  have e := congrFun h ix0
  unfold Cert.Pre_context_finite.fn Cert.Pre_context_finite.fn_part1 at e
  dsimp only at e
  obtain ⟨e, e11⟩ := IntOp.andi_eq_one.1 e
  obtain ⟨e, e10⟩ := IntOp.andi_eq_one.1 e
  obtain ⟨e, e9⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  exact ⟨fun i => real_of_abs_lt a0 _ (fun _ => Cert.Attn.ofBits_posInf) i (Host.reduce_andi_all _ _ _ _ _ e0 i),
    fun i => real_of_abs_lt a2 _ (fun _ => Cert.Attn.ofBits_posInf) i (Host.reduce_andi_all _ _ _ _ _ e2 i),
    fun i => real_of_abs_lt a3 _ (fun _ => Cert.Attn.ofBits_posInf) i (Host.reduce_andi_all _ _ _ _ _ e3 i),
    fun i => real_of_abs_lt a4 _ (fun _ => Cert.Attn.ofBits_posInf) i (Host.reduce_andi_all _ _ _ _ _ e4 i),
    fun i => real_of_abs_lt a9 _ (fun _ => Cert.Attn.ofBits_posInf) i (Host.reduce_andi_all _ _ _ _ _ e9 i),
    fun i => real_of_abs_lt a10 _ (fun _ => Cert.Attn.ofBits_posInf) i (Host.reduce_andi_all _ _ _ _ _ e10 i),
    fun i => real_of_abs_lt a11 _ (fun _ => Cert.Attn.ofBits_posInf) i (Host.reduce_andi_all _ _ _ _ _ e11 i)⟩

/-- The arguments that reach the scores are real. -/
structure Inputs.Finite (I : Inputs) : Prop where
  x : ∀ b t j, IsReal (I.x b t j)
  cond : ∀ j, IsReal (I.cond j)
  adaW : ∀ l k e, IsReal (I.adaW l k e)
  adaB : ∀ l e, IsReal (I.adaB l e)
  wqkv : ∀ k e, IsReal (I.wqkv k e)
  gq : ∀ j, IsReal (I.gq j)
  gk : ∀ j, IsReal (I.gk j)

namespace Inputs.Finite

variable {I : Inputs} (h : I.Finite)
include h

theorem modn (l : Fin 2) (i : Fin 6) (j : Fin 1024) : IsReal (I.modn l i j) := isReal_ada h.cond (fun k => h.adaW l k _) (h.adaB l _)

theorem qkv (b : Fin 32) (t : Fin 256) (e : Fin 1536) : IsReal (I.qkv b t e) :=
  isReal_dot (isReal_modulated (h.x b t) (h.modn 0 1) (h.modn 0 0)) fun k => h.wqkv k e

theorem query (b : Fin 32) (t : Fin 256) (g : Fin 8) (d : Fin 128) : IsReal (I.query b t g d) :=
  (isReal_headNorm (fun j => h.qkv b t _) h.gq d).mul scale_real

theorem key (b : Fin 32) (t : Fin 256) (g : Fin 2) (d : Fin 128) : IsReal (I.key b t g d) := isReal_headNorm (fun j => h.qkv b t _) h.gk d

/-- For real scores the two ways of taking a row's softmax agree. -/
theorem attended_eq (b : Fin 32) (t : Fin 256) : I.attended rowLate b t = I.attended Cert.Softmax.plainRow b t := by
  funext e
  choose s hs using fun u : Fin 256 => isReal_dot (fun j => h.query b t ⟨(e : ℕ) / 128, by omega⟩ j) (fun j => h.key b u ⟨(e : ℕ) / 512, by omega⟩ j)
  unfold Inputs.attended
  rw [show (fun u => dot (fun j => I.query b t ⟨(e : ℕ) / 128, by omega⟩ j) (fun j => I.key b u ⟨(e : ℕ) / 512, by omega⟩ j)) = fun u => (s u : EReal) from funext hs]
  exact rowLate_eq s _

theorem later_eq (b : Fin 32) (t : Fin 256) (e : Fin 3072) : I.later rowLate b t e = I.later Cert.Softmax.plainRow b t e := by
  unfold Inputs.later Inputs.layer
  rw [h.attended_eq b t]

end Inputs.Finite

variable (m : (ℓ : Loc Cert.ContextIdeal.nD Cert.ContextIdeal.τ Cert.ContextIdeal.sig) → Buf (Elt Ideal) ℓ)
  (ρ : Dev Cert.ContextIdeal.nD → PrngReg) (c : Dev Cert.ContextIdeal.nD)
  (m' : (ℓ : Loc Cert.PlainContextIdeal.nD Cert.PlainContextIdeal.τ Cert.PlainContextIdeal.sig) → Buf (Elt Ideal) ℓ)

theorem inputsK_finite (h : Cert.Pre_ContextIdeal_context_finite m) : (inputsK m c).Finite := by
  obtain ⟨f0, f2, f3, f4, f9, f10, f11⟩ := finite_entries _ _ _ _ _ _ _ _ _ _ _ _ _ _ _ _ (h c)
  exact ⟨fun _ _ _ => f0 _, fun _ => f2 _, fun _ _ _ => f3 _, fun _ _ => f4 _, fun _ _ => f9 _, fun _ => f10 _, fun _ => f11 _⟩

/-- The two programs' arguments agree. -/
theorem inputs_agree :
      m' ((c.tc : Thread Cert.PlainContextIdeal.nD Cert.PlainContextIdeal.τ).loc Cert.PlainContextIdeal.main_arg0) = m ((c.tc : Thread Cert.ContextIdeal.nD Cert.ContextIdeal.τ).loc Cert.ContextIdeal.main_arg0) →
      m' ((c.tc : Thread Cert.PlainContextIdeal.nD Cert.PlainContextIdeal.τ).loc Cert.PlainContextIdeal.main_arg2) = m ((c.tc : Thread Cert.ContextIdeal.nD Cert.ContextIdeal.τ).loc Cert.ContextIdeal.main_arg2) →
      m' ((c.tc : Thread Cert.PlainContextIdeal.nD Cert.PlainContextIdeal.τ).loc Cert.PlainContextIdeal.main_arg3) = m ((c.tc : Thread Cert.ContextIdeal.nD Cert.ContextIdeal.τ).loc Cert.ContextIdeal.main_arg3) →
      m' ((c.tc : Thread Cert.PlainContextIdeal.nD Cert.PlainContextIdeal.τ).loc Cert.PlainContextIdeal.main_arg4) = m ((c.tc : Thread Cert.ContextIdeal.nD Cert.ContextIdeal.τ).loc Cert.ContextIdeal.main_arg4) →
      m' ((c.tc : Thread Cert.PlainContextIdeal.nD Cert.PlainContextIdeal.τ).loc Cert.PlainContextIdeal.main_arg5) = m ((c.tc : Thread Cert.ContextIdeal.nD Cert.ContextIdeal.τ).loc Cert.ContextIdeal.main_arg5) →
      m' ((c.tc : Thread Cert.PlainContextIdeal.nD Cert.PlainContextIdeal.τ).loc Cert.PlainContextIdeal.main_arg6) = m ((c.tc : Thread Cert.ContextIdeal.nD Cert.ContextIdeal.τ).loc Cert.ContextIdeal.main_arg6) →
      m' ((c.tc : Thread Cert.PlainContextIdeal.nD Cert.PlainContextIdeal.τ).loc Cert.PlainContextIdeal.main_arg7) = m ((c.tc : Thread Cert.ContextIdeal.nD Cert.ContextIdeal.τ).loc Cert.ContextIdeal.main_arg7) →
      m' ((c.tc : Thread Cert.PlainContextIdeal.nD Cert.PlainContextIdeal.τ).loc Cert.PlainContextIdeal.main_arg8) = m ((c.tc : Thread Cert.ContextIdeal.nD Cert.ContextIdeal.τ).loc Cert.ContextIdeal.main_arg8) →
      m' ((c.tc : Thread Cert.PlainContextIdeal.nD Cert.PlainContextIdeal.τ).loc Cert.PlainContextIdeal.main_arg9) = m ((c.tc : Thread Cert.ContextIdeal.nD Cert.ContextIdeal.τ).loc Cert.ContextIdeal.main_arg9) →
      m' ((c.tc : Thread Cert.PlainContextIdeal.nD Cert.PlainContextIdeal.τ).loc Cert.PlainContextIdeal.main_arg10) = m ((c.tc : Thread Cert.ContextIdeal.nD Cert.ContextIdeal.τ).loc Cert.ContextIdeal.main_arg10) →
      m' ((c.tc : Thread Cert.PlainContextIdeal.nD Cert.PlainContextIdeal.τ).loc Cert.PlainContextIdeal.main_arg11) = m ((c.tc : Thread Cert.ContextIdeal.nD Cert.ContextIdeal.τ).loc Cert.ContextIdeal.main_arg11) →
      m' ((c.tc : Thread Cert.PlainContextIdeal.nD Cert.PlainContextIdeal.τ).loc Cert.PlainContextIdeal.main_arg12) = m ((c.tc : Thread Cert.ContextIdeal.nD Cert.ContextIdeal.τ).loc Cert.ContextIdeal.main_arg12) →
      m' ((c.tc : Thread Cert.PlainContextIdeal.nD Cert.PlainContextIdeal.τ).loc Cert.PlainContextIdeal.main_arg13) = m ((c.tc : Thread Cert.ContextIdeal.nD Cert.ContextIdeal.τ).loc Cert.ContextIdeal.main_arg13) →
      m' ((c.tc : Thread Cert.PlainContextIdeal.nD Cert.PlainContextIdeal.τ).loc Cert.PlainContextIdeal.main_arg14) = m ((c.tc : Thread Cert.ContextIdeal.nD Cert.ContextIdeal.τ).loc Cert.ContextIdeal.main_arg14) →
      m' ((c.tc : Thread Cert.PlainContextIdeal.nD Cert.PlainContextIdeal.τ).loc Cert.PlainContextIdeal.main_arg15) = m ((c.tc : Thread Cert.ContextIdeal.nD Cert.ContextIdeal.τ).loc Cert.ContextIdeal.main_arg15) →
      Plain.inputsR (launchContents m' c) = inputsK m c := by
  intro e0 e2 e3 e4 e5 e6 e7 e8 e9 e10 e11 e12 e13 e14 e15
  exact congr (congr (congr (congr (congr (congr (congr (congr (congr (congr (congr (congr (congr (congr (congrArg inputsOf (e0 : (launchContents m' c (Proc.devRef .tc Cert.PlainContextIdeal.main_arg0) : Vec Ideal Cert.ContextIdeal.S32x256x1024 .f32) = m (c.tc.loc Cert.ContextIdeal.main_arg0))) e2) e3) e4) e5) e6) e7) e8) e9) e10) e11) e12) e13) e14) e15

/-- A cache's entries decide it. -/
theorem cache_ext (p q : Vec Ideal Cert.ContextIdeal.S32x1x256x2x128 .f32)
    (h : ∀ (b : Fin 32) (t : Fin 256) (g : Fin 2) (d : Fin 128), p (ix5 b 0 t g d) = q (ix5 b 0 t g d)) : p = q := by
  funext i
  obtain ⟨b, z, t, g, d, rfl⟩ : ∃ (b : Fin 32) (z : Fin 1) (t : Fin 256) (g : Fin 2) (d : Fin 128), i = ix5 b z t g d := ⟨i 0, i 1, i 2, i 3, i 4, eq_ix5 i⟩
  obtain rfl : z = 0 := Subsingleton.elim _ _
  exact h b t g d

theorem laterCache_ext (p q : Vec Ideal Cert.ContextIdeal.S32x1x256x16x64 .f32)
    (h : ∀ (b : Fin 32) (t : Fin 256) (g : Fin 16) (d : Fin 64), p (ix5 b 0 t g d) = q (ix5 b 0 t g d)) : p = q := by
  funext i
  obtain ⟨b, z, t, g, d, rfl⟩ : ∃ (b : Fin 32) (z : Fin 1) (t : Fin 256) (g : Fin 16) (d : Fin 64), i = ix5 b z t g d := ⟨i 0, i 1, i 2, i 3, i 4, eq_ix5 i⟩
  obtain rfl : z = 0 := Subsingleton.elim _ _
  exact h b t g d

/-- The kernels run and leave the four results and their arguments. -/
theorem context_run : θ_run (Cert.ContextIdeal.defs (F := Ideal)) (onTc (τ := Cert.ContextIdeal.τ) (Cert.ContextIdeal.main (F := Ideal))) ⟨m, fun _ => 0, ρ⟩
    (fun r => ∀ c : Dev Cert.ContextIdeal.nD, r.2.mem ((c.tc : Thread Cert.ContextIdeal.nD Cert.ContextIdeal.τ).loc Cert.ContextIdeal.main_v30) = Cert.ContextIdeal.Gen.W11 m ρ c (Proc.devRef .tc Cert.ContextIdeal.main_v30)
      ∧ r.2.mem ((c.tc : Thread Cert.ContextIdeal.nD Cert.ContextIdeal.τ).loc Cert.ContextIdeal.main_v31) = Cert.ContextIdeal.Gen.W11 m ρ c (Proc.devRef .tc Cert.ContextIdeal.main_v31)
      ∧ r.2.mem ((c.tc : Thread Cert.ContextIdeal.nD Cert.ContextIdeal.τ).loc Cert.ContextIdeal.main_v63) = Cert.ContextIdeal.Gen.W11 m ρ c (Proc.devRef .tc Cert.ContextIdeal.main_v63)
      ∧ r.2.mem ((c.tc : Thread Cert.ContextIdeal.nD Cert.ContextIdeal.τ).loc Cert.ContextIdeal.main_v64) = Cert.ContextIdeal.Gen.W11 m ρ c (Proc.devRef .tc Cert.ContextIdeal.main_v64)
      ∧ r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
      ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
      ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4)
      ∧ r.2.mem ((c.tc : Thread Cert.ContextIdeal.nD Cert.ContextIdeal.τ).loc Cert.ContextIdeal.main_arg5) = m ((c.tc : Thread Cert.ContextIdeal.nD Cert.ContextIdeal.τ).loc Cert.ContextIdeal.main_arg5)
      ∧ r.2.mem ((c.tc : Thread Cert.ContextIdeal.nD Cert.ContextIdeal.τ).loc Cert.ContextIdeal.main_arg6) = m ((c.tc : Thread Cert.ContextIdeal.nD Cert.ContextIdeal.τ).loc Cert.ContextIdeal.main_arg6)
      ∧ r.2.mem ((c.tc : Thread Cert.ContextIdeal.nD Cert.ContextIdeal.τ).loc Cert.ContextIdeal.main_arg7) = m ((c.tc : Thread Cert.ContextIdeal.nD Cert.ContextIdeal.τ).loc Cert.ContextIdeal.main_arg7)
      ∧ r.2.mem ((c.tc : Thread Cert.ContextIdeal.nD Cert.ContextIdeal.τ).loc Cert.ContextIdeal.main_arg8) = m ((c.tc : Thread Cert.ContextIdeal.nD Cert.ContextIdeal.τ).loc Cert.ContextIdeal.main_arg8)
      ∧ r.2.mem ((c.tc : Thread Cert.ContextIdeal.nD Cert.ContextIdeal.τ).loc Cert.ContextIdeal.main_arg9) = m ((c.tc : Thread Cert.ContextIdeal.nD Cert.ContextIdeal.τ).loc Cert.ContextIdeal.main_arg9)
      ∧ r.2.mem ((c.tc : Thread Cert.ContextIdeal.nD Cert.ContextIdeal.τ).loc Cert.ContextIdeal.main_arg10) = m ((c.tc : Thread Cert.ContextIdeal.nD Cert.ContextIdeal.τ).loc Cert.ContextIdeal.main_arg10)
      ∧ r.2.mem ((c.tc : Thread Cert.ContextIdeal.nD Cert.ContextIdeal.τ).loc Cert.ContextIdeal.main_arg11) = m ((c.tc : Thread Cert.ContextIdeal.nD Cert.ContextIdeal.τ).loc Cert.ContextIdeal.main_arg11)
      ∧ r.2.mem ((c.tc : Thread Cert.ContextIdeal.nD Cert.ContextIdeal.τ).loc Cert.ContextIdeal.main_arg12) = m ((c.tc : Thread Cert.ContextIdeal.nD Cert.ContextIdeal.τ).loc Cert.ContextIdeal.main_arg12)
      ∧ r.2.mem ((c.tc : Thread Cert.ContextIdeal.nD Cert.ContextIdeal.τ).loc Cert.ContextIdeal.main_arg13) = m ((c.tc : Thread Cert.ContextIdeal.nD Cert.ContextIdeal.τ).loc Cert.ContextIdeal.main_arg13)
      ∧ r.2.mem ((c.tc : Thread Cert.ContextIdeal.nD Cert.ContextIdeal.τ).loc Cert.ContextIdeal.main_arg14) = m ((c.tc : Thread Cert.ContextIdeal.nD Cert.ContextIdeal.τ).loc Cert.ContextIdeal.main_arg14)
      ∧ r.2.mem ((c.tc : Thread Cert.ContextIdeal.nD Cert.ContextIdeal.τ).loc Cert.ContextIdeal.main_arg15) = m ((c.tc : Thread Cert.ContextIdeal.nD Cert.ContextIdeal.τ).loc Cert.ContextIdeal.main_arg15)) :=
  (θ_run (Cert.ContextIdeal.defs (F := Ideal)) _ _).mono (fun r h c => ⟨h c _ (Cert.ContextIdeal.Gen.mem_uc Cert.ContextIdeal.main_v30 (by decide)),
    h c _ (Cert.ContextIdeal.Gen.mem_uc Cert.ContextIdeal.main_v31 (by decide)),
    h c _ (Cert.ContextIdeal.Gen.mem_uc Cert.ContextIdeal.main_v63 (by decide)),
    h c _ (Cert.ContextIdeal.Gen.mem_uc Cert.ContextIdeal.main_v64 (by decide)),
    (h c _ (Cert.ContextIdeal.Gen.mem_uc Cert.ContextIdeal.main_arg0 (by decide))).trans (Cert.ContextIdeal.Gen.W11_main_arg0 m ρ c),
    (h c _ (Cert.ContextIdeal.Gen.mem_uc Cert.ContextIdeal.main_arg1 (by decide))).trans (Cert.ContextIdeal.Gen.W11_main_arg1 m ρ c),
    (h c _ (Cert.ContextIdeal.Gen.mem_uc Cert.ContextIdeal.main_arg2 (by decide))).trans (Cert.ContextIdeal.Gen.W11_main_arg2 m ρ c),
    (h c _ (Cert.ContextIdeal.Gen.mem_uc Cert.ContextIdeal.main_arg3 (by decide))).trans (Cert.ContextIdeal.Gen.W11_main_arg3 m ρ c),
    (h c _ (Cert.ContextIdeal.Gen.mem_uc Cert.ContextIdeal.main_arg4 (by decide))).trans (Cert.ContextIdeal.Gen.W11_main_arg4 m ρ c),
    (h c _ (Cert.ContextIdeal.Gen.mem_uc Cert.ContextIdeal.main_arg5 (by decide))).trans (Cert.ContextIdeal.Gen.W11_main_arg5 m ρ c),
    (h c _ (Cert.ContextIdeal.Gen.mem_uc Cert.ContextIdeal.main_arg6 (by decide))).trans (Cert.ContextIdeal.Gen.W11_main_arg6 m ρ c),
    (h c _ (Cert.ContextIdeal.Gen.mem_uc Cert.ContextIdeal.main_arg7 (by decide))).trans (Cert.ContextIdeal.Gen.W11_main_arg7 m ρ c),
    (h c _ (Cert.ContextIdeal.Gen.mem_uc Cert.ContextIdeal.main_arg8 (by decide))).trans (Cert.ContextIdeal.Gen.W11_main_arg8 m ρ c),
    (h c _ (Cert.ContextIdeal.Gen.mem_uc Cert.ContextIdeal.main_arg9 (by decide))).trans (Cert.ContextIdeal.Gen.W11_main_arg9 m ρ c),
    (h c _ (Cert.ContextIdeal.Gen.mem_uc Cert.ContextIdeal.main_arg10 (by decide))).trans (Cert.ContextIdeal.Gen.W11_main_arg10 m ρ c),
    (h c _ (Cert.ContextIdeal.Gen.mem_uc Cert.ContextIdeal.main_arg11 (by decide))).trans (Cert.ContextIdeal.Gen.W11_main_arg11 m ρ c),
    (h c _ (Cert.ContextIdeal.Gen.mem_uc Cert.ContextIdeal.main_arg12 (by decide))).trans (Cert.ContextIdeal.Gen.W11_main_arg12 m ρ c),
    (h c _ (Cert.ContextIdeal.Gen.mem_uc Cert.ContextIdeal.main_arg13 (by decide))).trans (Cert.ContextIdeal.Gen.W11_main_arg13 m ρ c),
    (h c _ (Cert.ContextIdeal.Gen.mem_uc Cert.ContextIdeal.main_arg14 (by decide))).trans (Cert.ContextIdeal.Gen.W11_main_arg14 m ρ c),
    (h c _ (Cert.ContextIdeal.Gen.mem_uc Cert.ContextIdeal.main_arg15 (by decide))).trans (Cert.ContextIdeal.Gen.W11_main_arg15 m ρ c)⟩) (run_all m ρ)

/-- The context part's results are the plain context part's. -/
theorem context_agree : Cert.algebraic_ContextIdeal_PlainContextIdeal_pre_context_finite := by
  intro m g m' g' hpre hagree
  refine ⟨fun c => Cert.ContextIdeal.Gen.W11 m g c (Proc.devRef .tc Cert.ContextIdeal.main_v30), fun c => Cert.ContextIdeal.Gen.W11 m g c (Proc.devRef .tc Cert.ContextIdeal.main_v31),
    fun c => Cert.ContextIdeal.Gen.W11 m g c (Proc.devRef .tc Cert.ContextIdeal.main_v63), fun c => Cert.ContextIdeal.Gen.W11 m g c (Proc.devRef .tc Cert.ContextIdeal.main_v64), context_run m g, ?_⟩
  refine (θ_run (Cert.PlainContextIdeal.defs (F := Ideal)) _ _).mono (fun r h c => ?_) (Cert.PlainContextIdeal.Value.run m' g')
  obtain ⟨e0, e1, e2, e3, e4, e5, e6, e7, e8, e9, e10, e11, e12, e13, e14, e15⟩ := hagree c
  have hI := inputs_agree m c m' e0 e2 e3 e4 e5 e6 e7 e8 e9 e10 e11 e12 e13 e14 e15
  have hF := inputsK_finite m c hpre
  obtain ⟨r0, r1, r2, r3, hargs⟩ := h c
  refine ⟨r0.trans (cache_ext _ _ fun b t h d => ?_), r1.trans (cache_ext _ _ fun b t h d => ?_), r2.trans (laterCache_ext _ _ fun b t h d => ?_),
    r3.trans (laterCache_ext _ _ fun b t h d => ?_), hargs⟩
  · exact (Plain.cached_apply _ b t h d).trans ((Plain.key_apply _ b t h d).trans ((congrArg (fun I => Inputs.key I b t h d) hI).trans (v30_result m g c b t h d).symm))
  · exact (Plain.cached_apply _ b t h d).trans ((Plain.value_apply _ b t h d).trans ((congrArg (fun I => Inputs.value I b t h d) hI).trans (v31_result m g c b t h d).symm))
  · exact (Plain.laterCached_apply _ 1024 _ (by omega) b t h d).trans ((Plain.later_apply _ b t _).trans
      ((congrArg (fun I => Inputs.later I Cert.Softmax.plainRow b t _) hI).trans ((hF.later_eq b t _).symm.trans (v63_result m g c b t h d).symm)))
  · exact (Plain.laterCached_apply _ 2048 _ (by omega) b t h d).trans ((Plain.later_apply _ b t _).trans
      ((congrArg (fun I => Inputs.later I Cert.Softmax.plainRow b t _) hI).trans ((hF.later_eq b t _).symm.trans (v64_result m g c b t h d).symm)))

end Cert.Context3

end
-- ==== Proof.LatentDense.lean ====
/-
  The dense call on the latents: output projection, first residual norm, gated feed-forward, second residual norm, each sequence
  under its own modulations. The array it leaves, at an index, from the arguments.
-/
module

public import proofs.«01_k».proof.Proof.ContextDense
public import proofs.«01_k».proof.Proof.Gen.LatentIdeal.Value

@[expose] public section

set_option maxRecDepth 16384

noncomputable section

open Idealize.ShloMosaic Idealize.ShloMosaic.TcCoe Idealize.SL.Sem
open Idealize.ShloMosaic.Pipeline (Dat)

namespace Cert.Latent4

open Cert.LatentIdeal Cert.LatentIdeal.Gen Cert.Context3

/-- Token `t` of sequence `b` after the layer, from the arguments: sequence `b` takes the modulations of group `1 + b`. -/
def latentAt (a0 : Vec Ideal S16384x1024 .bf16) (a1 : Vec Ideal S4x4096x1024 .f32) (a2 : Vec Ideal S6x8x1x1024 .f32) (a3 a4 a5 a6 : Vec Ideal S2x1024 .f32)
    (a7 : Vec Ideal S1x1024x1024 .f32) (a8 : Vec Ideal S1x1024x5632 .f32) (a9 : Vec Ideal S1x2816x1024 .f32) (b : Fin 4) (t : Fin 4096) : Fin 1024 → EReal :=
  tokenWhole (tokenHalf (fun k => a0 (ix2 ⟨b * 4096 + t, by omega⟩ k)) (fun k j => a7 (ix3 0 k j)) (fun k => a1 (ix3 b t k)) (fun k => a2 (ix4 2 ⟨1 + b, by omega⟩ 0 k))
      (fun k => a3 (ix2 0 k)) (fun k => a4 (ix2 0 k)))
    (fun k => a2 (ix4 4 ⟨1 + b, by omega⟩ 0 k)) (fun k => a2 (ix4 3 ⟨1 + b, by omega⟩ 0 k)) (fun k => a2 (ix4 5 ⟨1 + b, by omega⟩ 0 k)) (fun k => a5 (ix2 0 k)) (fun k => a6 (ix2 0 k))
    (fun k f => a8 (ix3 0 k ⟨f, by omega⟩)) (fun k f => a8 (ix3 0 k ⟨2816 + f, by omega⟩)) (fun f j => a9 (ix3 0 f j))

/-- The first half of the body; the attention's block is taken as it is loaded. -/
def half4 (x0 : Vec Ideal S512x1024 .bf16) (x1 : Vec Ideal S1024x1024 .bf16) (x2 : Vec Ideal S512x1024 .f32) (x3 : Vec Ideal S1x1x1024 .f32) (x4 x5 : Vec Ideal S1x1024 .f32) :
    FVec Ideal S512x1024 .f32 :=
  normOf (centered (resid (tokens x2) (row3 x3) (prod x0 x1))) (row2 x4) (row2 x5)

theorem half4_eq (x0 : Vec Ideal S512x1024 .bf16) (x1 : Vec Ideal S1024x1024 .bf16) (x2 : Vec Ideal S512x1024 .f32) (x3 : Vec Ideal S1x1x1024 .f32) (x4 x5 : Vec Ideal S1x1024 .f32) :
    k0_pay2 x0 x1 x2 x3 x4 x5 = half4 x0 x1 x2 x3 x4 x5 := rfl

theorem half4_apply (x0 : Vec Ideal S512x1024 .bf16) (x1 : Vec Ideal S1024x1024 .bf16) (x2 : Vec Ideal S512x1024 .f32) (x3 : Vec Ideal S1x1x1024 .f32) (x4 x5 : Vec Ideal S1x1024 .f32)
    (r : Fin 512) (j : Fin 1024) :
    half4 x0 x1 x2 x3 x4 x5 (ix2 r j) = tokenHalf (fun k => x0 (ix2 r k)) (fun k j => x1 (ix2 k j)) (fun k => x2 (ix2 r k)) (fun k => x3 (ix3 0 0 k))
      (fun k => x4 (ix2 0 k)) (fun k => x5 (ix2 0 k)) j := by
  unfold half4 tokenHalf dot
  simp only [norm_apply, resid_apply, prod_apply, row3_apply, row2_apply, tokens_apply]

theorem centered4_eq (x : FVec Ideal S512x1024 .f32) (sc sh gate : Vec Ideal S1x1x1024 .f32) (wg₀ wu₀ wd₀ wg₁ wu₁ wd₁ : Vec Ideal S1024x1024 .bf16)
    (wg₂ wu₂ : Vec Ideal S1024x768 .bf16) (wd₂ : Vec Ideal S768x1024 .bf16) :
    k0_pay11 (k0_pay3 x sc sh) (k0_pay4 x) (k0_pay5 gate) (k0_pay6 x sc sh wg₀ wu₀ wd₀) (k0_pay7 x sc sh wu₁) (k0_pay8 x sc sh wg₁) wd₁ wg₂ wu₂ wd₂
      = centered (resid x (row3 gate) (addf (addf (blockWide (Cert.ContextIdeal.Gen.k3_pay3 x sc sh) wg₀ wu₀ wd₀) (blockWide (Cert.ContextIdeal.Gen.k3_pay3 x sc sh) wg₁ wu₁ wd₁))
        (blockLast (Cert.ContextIdeal.Gen.k3_pay3 x sc sh) wg₂ wu₂ wd₂))) := rfl

theorem variance4_eq (h : FVec Ideal S512x1024 .bf16) (a : FVec Ideal S512x1024 .f32) (g : FVec Ideal S1x1024 .f32) (p q u : FVec Ideal S512x1024 .f32)
    (wd₁ : Vec Ideal S1024x1024 .bf16) (wg₂ wu₂ : Vec Ideal S1024x768 .bf16) (wd₂ : Vec Ideal S768x1024 .bf16) :
    k0_pay12 h a g p q u wd₁ wg₂ wu₂ wd₂ = rowMean (mulf (k0_pay11 h a g p q u wd₁ wg₂ wu₂ wd₂) (k0_pay11 h a g p q u wd₁ wg₂ wu₂ wd₂)) := rfl

theorem normed4_eq (z : FVec Ideal S512x1024 .f32) (g b : Vec Ideal S1x1024 .f32) :
    k0_pay1 (k0_pay9 g) (k0_pay10 b) z (rowMean (mulf z z)) k0_pay13 = normOf z (row2 g) (row2 b) := rfl

theorem out_apply (x0 : Vec Ideal S512x1024 .bf16) (x1 : Vec Ideal S1024x1024 .bf16) (x2 : Vec Ideal S512x1024 .f32) (x3 : Vec Ideal S1x1x1024 .f32) (x4 x5 : Vec Ideal S1x1024 .f32)
    (x6 x7 : Vec Ideal S1x1x1024 .f32) (x8 x9 : Vec Ideal S1024x2816 .bf16) (x10 : Vec Ideal S2816x1024 .bf16) (x11 : Vec Ideal S1x1x1024 .f32) (x12 x13 : Vec Ideal S1x1024 .f32)
    (y : S512x1024.Idx) :
    out0_14 x0 x1 x2 x3 x4 x5 x6 x7 x8 x9 x10 x11 x12 x13 y = cellD x0 x1 x2 x3 x4 x5 x6 x7 x8 x9 x10 x11 x12 x13 (y 0) (y 1) := by
  canon_tiles x h
  case piece0 =>
    idx_vars x
    have e : y 0 = x0 ∧ y 1 = x1 := ⟨Fin.ext h0, Fin.ext h1⟩
    rw [variance4_eq]
    unfold k0_pay15 k0_pay16 k0_pay17 k0_pay18 k0_pay19 k0_pay20 k0_pay14
    rw [centered4_eq, normed4_eq, half4_eq]
    refine (whole_apply _ _ _ _ _ _ x8 x9 x10 _ _ _ _ _ _ _ _ _ ?_ ?_ ?_ ?_ ?_ ?_ ?_ ?_ ?_ _ _).trans ?_
    case refine_10 =>
      unfold cellD
      simp only [half4_apply, e]
      pointwise
    all_goals intro k f
    all_goals pointwise

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![1 + t.val / 8, 0, 0] ∧ win0_4.index t = ![0, 0] ∧ win0_5.index t = ![0, 0] ∧ win0_6.index t = ![1 + t.val / 8, 0, 0] ∧ win0_7.index t = ![1 + t.val / 8, 0, 0] ∧ win0_8.index t = ![0, 0] ∧ win0_9.index t = ![0, 1] ∧ win0_10.index t = ![0, 0] ∧ win0_11.index t = ![1 + t.val / 8, 0, 0] ∧ win0_12.index t = ![0, 0] ∧ win0_13.index t = ![0, 0] ∧ win0_14.index t = ![t.val, 0] :=
  (by decide +kernel : ∀ t : Fin grid0.N, _)

theorem lt_points (t : Fin cfg0.N) : t.val < 32 := lt_of_lt_of_eq t.isLt (by decide +kernel)

theorem b0 (c : Dev nD) (t : Fin cfg0.N) (r : Fin 512) (k : Fin 1024) (b : Fin 4) (s : Fin 4096) (hb : (b : ℕ) = t.val / 8) (hs : (s : ℕ) = t.val % 8 * 512 + r) :
    iblk m c 0 t (ix2 r k) = (m ((c : Thread nD τ).loc main_arg0) : Vec Ideal S16384x1024 .bf16) (ix2 ⟨b * 4096 + s, by omega⟩ k) := by
  blk_simp [iblk, V, idx t]
  entry_read
  blk_ext [idx t]

theorem b1 (c : Dev nD) (t : Fin cfg0.N) (k j : Fin 1024) :
    iblk m c 1 t (ix2 k j) = (m ((c : Thread nD τ).loc main_arg7) : Vec Ideal S1x1024x1024 .f32) (ix3 0 k j) := by
  blk_simp [iblk, V, idx t]
  entry_read
  pointwise
  blk_ext [idx t]

theorem b2 (c : Dev nD) (t : Fin cfg0.N) (r : Fin 512) (k : Fin 1024) (b : Fin 4) (s : Fin 4096) (hb : (b : ℕ) = t.val / 8) (hs : (s : ℕ) = t.val % 8 * 512 + r) :
    iblk m c 2 t (ix2 r k) = (m ((c : Thread nD τ).loc main_arg1) : Vec Ideal S4x4096x1024 .f32) (ix3 b s k) := by
  blk_simp [iblk, V, idx t]
  entry_read
  pointwise
  blk_ext [idx t]

theorem b3 (c : Dev nD) (t : Fin cfg0.N) (k : Fin 1024) (b : Fin 4) (hb : (b : ℕ) = t.val / 8) :
    iblk m c 3 t (ix3 0 0 k) = (m ((c : Thread nD τ).loc main_arg2) : Vec Ideal S6x8x1x1024 .f32) (ix4 2 ⟨1 + b, by omega⟩ 0 k) := by
  blk_simp [iblk, V, idx t]
  entry_read
  pointwise
  blk_ext [idx t]

theorem b4 (c : Dev nD) (t : Fin cfg0.N) (k : Fin 1024) :
    iblk m c 4 t (ix2 0 k) = (m ((c : Thread nD τ).loc main_arg3) : Vec Ideal S2x1024 .f32) (ix2 0 k) := by
  blk_simp [iblk, V, idx t]
  entry_read
  pointwise
  blk_ext [idx t]

theorem b5 (c : Dev nD) (t : Fin cfg0.N) (k : Fin 1024) :
    iblk m c 5 t (ix2 0 k) = (m ((c : Thread nD τ).loc main_arg4) : Vec Ideal S2x1024 .f32) (ix2 0 k) := by
  blk_simp [iblk, V, idx t]
  entry_read
  pointwise
  blk_ext [idx t]

theorem b6 (c : Dev nD) (t : Fin cfg0.N) (k : Fin 1024) (b : Fin 4) (hb : (b : ℕ) = t.val / 8) :
    iblk m c 6 t (ix3 0 0 k) = (m ((c : Thread nD τ).loc main_arg2) : Vec Ideal S6x8x1x1024 .f32) (ix4 3 ⟨1 + b, by omega⟩ 0 k) := by
  blk_simp [iblk, V, idx t]
  entry_read
  pointwise
  blk_ext [idx t]

theorem b7 (c : Dev nD) (t : Fin cfg0.N) (k : Fin 1024) (b : Fin 4) (hb : (b : ℕ) = t.val / 8) :
    iblk m c 7 t (ix3 0 0 k) = (m ((c : Thread nD τ).loc main_arg2) : Vec Ideal S6x8x1x1024 .f32) (ix4 4 ⟨1 + b, by omega⟩ 0 k) := by
  blk_simp [iblk, V, idx t]
  entry_read
  pointwise
  blk_ext [idx t]

theorem b8 (c : Dev nD) (t : Fin cfg0.N) (k : Fin 1024) (f : Fin 2816) :
    iblk m c 8 t (ix2 k f) = (m ((c : Thread nD τ).loc main_arg8) : Vec Ideal S1x1024x5632 .f32) (ix3 0 k ⟨f, by omega⟩) := by
  blk_simp [iblk, V, idx t]
  entry_read
  pointwise
  blk_ext [idx t]

theorem b9 (c : Dev nD) (t : Fin cfg0.N) (k : Fin 1024) (f : Fin 2816) :
    iblk m c 9 t (ix2 k f) = (m ((c : Thread nD τ).loc main_arg8) : Vec Ideal S1x1024x5632 .f32) (ix3 0 k ⟨2816 + f, by omega⟩) := by
  blk_simp [iblk, V, idx t]
  entry_read
  pointwise
  blk_ext [idx t]

theorem b10 (c : Dev nD) (t : Fin cfg0.N) (f : Fin 2816) (j : Fin 1024) :
    iblk m c 10 t (ix2 f j) = (m ((c : Thread nD τ).loc main_arg9) : Vec Ideal S1x2816x1024 .f32) (ix3 0 f j) := by
  blk_simp [iblk, V, idx t]
  entry_read
  pointwise
  blk_ext [idx t]

theorem b11 (c : Dev nD) (t : Fin cfg0.N) (k : Fin 1024) (b : Fin 4) (hb : (b : ℕ) = t.val / 8) :
    iblk m c 11 t (ix3 0 0 k) = (m ((c : Thread nD τ).loc main_arg2) : Vec Ideal S6x8x1x1024 .f32) (ix4 5 ⟨1 + b, by omega⟩ 0 k) := by
  blk_simp [iblk, V, idx t]
  entry_read
  pointwise
  blk_ext [idx t]

theorem b12 (c : Dev nD) (t : Fin cfg0.N) (k : Fin 1024) :
    iblk m c 12 t (ix2 0 k) = (m ((c : Thread nD τ).loc main_arg5) : Vec Ideal S2x1024 .f32) (ix2 0 k) := by
  blk_simp [iblk, V, idx t]
  entry_read
  pointwise
  blk_ext [idx t]

theorem b13 (c : Dev nD) (t : Fin cfg0.N) (k : Fin 1024) :
    iblk m c 13 t (ix2 0 k) = (m ((c : Thread nD τ).loc main_arg6) : Vec Ideal S2x1024 .f32) (ix2 0 k) := by
  blk_simp [iblk, V, idx t]
  entry_read
  pointwise
  blk_ext [idx t]

/-- The same at an index of the result: row `4096·b + t`. -/
def atResult (f : Fin 4 → Fin 4096 → Fin 1024 → EReal) (i : S16384x1024.Idx) : EReal :=
  have l0 : (i 0 : ℕ) < 16384 := (i 0).isLt
  f ⟨(i 0 : ℕ) / 4096, by omega⟩ ⟨(i 0 : ℕ) % 4096, by omega⟩ ⟨(i 1 : ℕ), (i 1).isLt⟩

theorem cell_eq (c : Dev nD) (t : Fin cfg0.N) (r : Fin 512) (e : Fin 1024) (b : Fin 4) (s : Fin 4096) (j : Fin 1024)
    (hb : (b : ℕ) = t.val / 8) (hs : (s : ℕ) = t.val % 8 * 512 + r) (hj : j = e) :
    cellD (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r e
      = latentAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b s j := by
  subst hj
  unfold cellD latentAt
  simp only [b0 m c t r _ b s hb hs, b2 m c t r _ b s hb hs, b1, b3 m c t _ b hb, b4, b5, b6 m c t _ b hb, b7 m c t _ b hb, b8, b9, b10, b11 m c t _ b hb, b12, b13]

theorem final (c : Dev nD) : (dats m 0 c).arrAt 14 (cfgs 0).N
    = atResult (latentAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (dats m 0 c).arrAt_eq_of_covers 14 _ (by decide +kernel) fun t _ y => ?_
  obtain ⟨r, e, rfl⟩ : ∃ (r : Fin 512) (e : Fin 1024), y = ix2 r e :=
    ⟨y (0 : Fin 2), y (1 : Fin 2), by funext a; fin_cases a <;> rfl⟩
  have lt := lt_points t
  have eR : ((cfg0.win 14).blk t).view.emb (ix2 r e) = (ix2 (⟨t.val * 512 + r, by omega⟩ : Fin 16384) e : S16384x1024.Idx) := by
    funext d
    refine Fin.ext (((cfg0.win 14).rect_emb_val t _ d rfl).trans ?_)
    rw [show (cfg0.win 14).index t = ![t.val, 0] from (idx t).2.2.2.2.2.2.2.2.2.2.2.2.2.2]
    fin_cases d
    · rfl
    · exact Nat.zero_add _
  rw [after0_14]
  refine Eq.trans ?_ (congrArg (atResult _) eR.symm)
  rw [out_apply]
  refine cell_eq m c t r e _ _ _ ?_ ?_ rfl
  · show (t.val * 512 + r) / 4096 = t.val / 8
    omega
  · show (t.val * 512 + r) % 4096 = t.val % 8 * 512 + r
    omega

end Cert.Latent4

end
-- ==== Proof.LatentPlain.lean ====
/-
  The plain dense half of the layer on the latents, step by step, and its result at an index from the arguments.
-/
module

public import proofs.«01_k».proof.Defs
public import proofs.«01_k».proof.Proof.LatentDense
public import proofs.«01_k».proof.Proof.Gen.PlainLatentIdeal.Run

@[expose] public section

set_option maxRecDepth 16384

noncomputable section

open Idealize.ShloMosaic Idealize.ShloMosaic.TcCoe Idealize.ShloMosaic.StableHlo Idealize.SL.Sem

namespace Cert.Latent4

open Cert.PlainLatentIdeal Cert.PlainLatentIdeal.Gen Cert.PlainLatentIdeal.Value Cert.Context3

/-! ## The steps, named -/

/-- One of six modulations, for the four sequences. -/
def pick (i : Fin 6) (h : S6x8x1x1024.Slices ![(i : ℕ), 1, 0, 0] S1x4x1x1024) (a : FVec Ideal S6x8x1x1024 .f32) : FVec Ideal S4x1x1024 .f32 :=
  shapeCast S4x1x1024 (extractStridedSlice S1x4x1x1024 ![(i : ℕ), 1, 0, 0] a h) shapeCasts_S1x4x1x1024_S4x1x1024

/-- The attention's rows, by sequence. -/
def bySequence (a : FVec Ideal S16384x1024 .bf16) : FVec Ideal S4x4096x1024 .f32 :=
  shapeCast S4x4096x1024 (extf .f32 a bitsLt_bf16_f32) shapeCasts_S16384x1024_S4x4096x1024

def perSequence (a : FVec Ideal S4x1x1024 .f32) : FVec Ideal S4x4096x1024 .f32 := broadcastInDim S4x4096x1024 ![0, 1, 2] bcast_S4x1x1024_S4x4096x1024_0_1_2 a

def over (a : FVec Ideal S1x1x1024 .f32) : FVec Ideal S4x4096x1024 .f32 := broadcastInDim S4x4096x1024 ![0, 1, 2] bcast_S1x1x1024_S4x4096x1024_0_1_2 a

def modul (x : FVec Ideal S4x4096x1024 .f32) (sh sc : FVec Ideal S4x1x1024 .f32) : FVec Ideal S4x4096x1024 .f32 :=
  addf (mulf x (perSequence (addf (broadcastInDim S4x1x1024 ![] bcast_S_S4x1x1024 (constant S_ .f32 0x3F800000#32)) sc))) (perSequence sh)

def outProjected (a : FVec Ideal S4x4096x1024 .f32) (w : FVec Ideal S1x1024x1024 .f32) : FVec Ideal S4x4096x1024 .f32 :=
  Host.dotGeneral (φ₁ := .f32) (φ₂ := .f32) dot_S4x4096x1024_S1024x1024_S4x4096x1024_2_0_01_1_n_n none a (shapeCast S1024x1024 w shapeCasts_S1x1024x1024_S1024x1024)

def added (x : FVec Ideal S4x4096x1024 .f32) (gate : FVec Ideal S4x1x1024 .f32) (o : FVec Ideal S4x4096x1024 .f32) : FVec Ideal S4x4096x1024 .f32 :=
  addf (mulf (broadcastInDim S4x4096x1024 ![] bcast_S_S4x4096x1024 (constant S_ .f32 0x3FB504F3#32)) x) (mulf (perSequence gate) o)

def meanOf (x : FVec Ideal S4x4096x1024 .f32) : FVec Ideal S4x4096x1 .f32 :=
  Host.divf (broadcastInDim S4x4096x1 ![0, 1] bcast_S4x4096_S4x4096x1_0_1 (Host.reduceAdd x (constant S_ .f32 0x00000000#32) reducesTo_S4x4096x1024_S4x4096_d2 h_S_))
    (broadcastInDim S4x4096x1 ![] bcast_S_S4x4096x1 (constant S_ .f32 0x44800000#32))

def across (x : FVec Ideal S4x4096x1 .f32) : FVec Ideal S4x4096x1024 .f32 := broadcastInDim S4x4096x1024 ![0, 1, 2] bcast_S4x4096x1_S4x4096x1024_0_1_2 x

def less (x : FVec Ideal S4x4096x1024 .f32) : FVec Ideal S4x4096x1024 .f32 := subf x (across (meanOf x))

def rowOf (a : FVec Ideal S2x1024 .f32) : FVec Ideal S1x1x1024 .f32 :=
  broadcastInDim S1x1x1024 ![2] bcast_S1024_S1x1x1024_2 (shapeCast S1024 (extractStridedSlice S1x1024 ![0, 0] a slices_S2x1024_S1x1024_0_0) shapeCasts_S1x1024_S1024)

def tokensNormed (x : FVec Ideal S4x4096x1024 .f32) (g b : FVec Ideal S2x1024 .f32) : FVec Ideal S4x4096x1024 .f32 :=
  addf (mulf (mulf (less x) (across (Host.rsqrt (addf (meanOf (mulf (less x) (less x))) (broadcastInDim S4x4096x1 ![] bcast_S_S4x4096x1 (constant S_ .f32 0x358637BD#32))))))
    (over (rowOf g))) (over (rowOf b))

def hidden (h : FVec Ideal S4x4096x1024 .f32) (w : FVec Ideal S1x1024x5632 .f32) : FVec Ideal S4x4096x5632 .f32 :=
  Host.dotGeneral dot_S4x4096x1024_S1024x5632_S4x4096x5632_2_0_01_1_n_n none h (shapeCast S1024x5632 w shapeCasts_S1x1024x5632_S1024x5632)

def gatePart (u : FVec Ideal S4x4096x5632 .f32) : FVec Ideal S4x4096x2816 .f32 := extractStridedSlice S4x4096x2816 ![0, 0, 0] u slices_S4x4096x5632_S4x4096x2816_0_0_0

def logi (u : FVec Ideal S4x4096x2816 .f32) : FVec Ideal S4x4096x2816 .f32 :=
  Host.divf (broadcastInDim S4x4096x2816 ![] bcast_S_S4x4096x2816 (constant S_ .f32 0x3F800000#32))
    (addf (broadcastInDim S4x4096x2816 ![] bcast_S_S4x4096x2816 (constant S_ .f32 0x3F800000#32)) (Host.exp (Host.negf u)))

def units (u : FVec Ideal S4x4096x5632 .f32) : FVec Ideal S4x4096x2816 .f32 :=
  mulf (mulf (gatePart u) (logi (gatePart u))) (extractStridedSlice S4x4096x2816 ![0, 0, 2816] u slices_S4x4096x5632_S4x4096x2816_0_0_2816)

def fed (u : FVec Ideal S4x4096x2816 .f32) (w : FVec Ideal S1x2816x1024 .f32) : FVec Ideal S4x4096x1024 .f32 :=
  Host.dotGeneral dot_S4x4096x2816_S2816x1024_S4x4096x1024_2_0_01_1_n_n none u (shapeCast S2816x1024 w shapeCasts_S1x2816x1024_S2816x1024)

/-! ## Each at an index -/

theorem pick_apply (i : Fin 6) (h : S6x8x1x1024.Slices ![(i : ℕ), 1, 0, 0] S1x4x1x1024) (a : FVec Ideal S6x8x1x1024 .f32) (b : Fin 4) (j : Fin 1024) :
    pick i h a (ix3 b 0 j) = a (ix4 i ⟨1 + b, by omega⟩ 0 j) := by
  unfold pick
  pointwise

theorem bySequence_apply (a : FVec Ideal S16384x1024 .bf16) (b : Fin 4) (t : Fin 4096) (k : Fin 1024) :
    bySequence a (ix3 b t k) = a (ix2 ⟨b * 4096 + t, by omega⟩ k) := by
  unfold bySequence
  pointwise

theorem over_apply (a : FVec Ideal S1x1x1024 .f32) (b : Fin 4) (t : Fin 4096) (j : Fin 1024) : over a (ix3 b t j) = a (ix3 0 0 j) := by
  unfold over
  pointwise

theorem modul_apply (x : FVec Ideal S4x4096x1024 .f32) (sh sc : FVec Ideal S4x1x1024 .f32) (b : Fin 4) (t : Fin 4096) (j : Fin 1024) :
    modul x sh sc (ix3 b t j) = modulated (fun k => x (ix3 b t k)) (fun k => sc (ix3 b 0 k)) (fun k => sh (ix3 b 0 k)) j := by
  unfold modul perSequence modulated
  pointwise

theorem outProjected_apply (a : FVec Ideal S4x4096x1024 .f32) (w : FVec Ideal S1x1024x1024 .f32) (b : Fin 4) (t : Fin 4096) (e : Fin 1024) :
    outProjected a w (ix3 b t e) = dot (fun k => a (ix3 b t k)) (fun k => w (ix3 0 k e)) := by
  unfold outProjected dot
  pointwise

theorem added_apply (x : FVec Ideal S4x4096x1024 .f32) (gate : FVec Ideal S4x1x1024 .f32) (o : FVec Ideal S4x4096x1024 .f32) (b : Fin 4) (t : Fin 4096) (j : Fin 1024) :
    added x gate o (ix3 b t j) = Cert.Context3.residual (fun k => x (ix3 b t k)) (fun k => gate (ix3 b 0 k)) (fun k => o (ix3 b t k)) j := by
  unfold added perSequence Cert.Context3.residual
  pointwise

theorem meanOf_apply (x : FVec Ideal S4x4096x1024 .f32) (b : Fin 4) (t : Fin 4096) : meanOf x (ix3 b t 0) = mean (fun k => x (ix3 b t k)) := by
  unfold meanOf mean
  pointwise

theorem across_apply (x : FVec Ideal S4x4096x1 .f32) (b : Fin 4) (t : Fin 4096) (j : Fin 1024) : across x (ix3 b t j) = x (ix3 b t 0) := by
  unfold across
  pointwise

theorem less_apply (x : FVec Ideal S4x4096x1024 .f32) (b : Fin 4) (t : Fin 4096) (j : Fin 1024) :
    less x (ix3 b t j) = x (ix3 b t j) - mean (fun k => x (ix3 b t k)) := by
  rw [← meanOf_apply, ← across_apply (meanOf x) b t j]
  rfl

theorem rowOf_apply (a : FVec Ideal S2x1024 .f32) (j : Fin 1024) : rowOf a (ix3 0 0 j) = a (ix2 0 j) := by
  unfold rowOf
  pointwise

theorem root_apply (x : FVec Ideal S4x4096x1 .f32) (b : Fin 4) (t : Fin 4096) :
    Host.rsqrt (addf x (broadcastInDim S4x4096x1 ![] bcast_S_S4x4096x1 (constant S_ .f32 0x358637BD#32))) (ix3 b t 0)
      = Ideal.rsqrt (x (ix3 b t 0) + Ideal.ofBits .f32 0x358637BD#32) := by
  pointwise

theorem combine_apply (x y z w : FVec Ideal S4x4096x1024 .f32) (i : S4x4096x1024.Idx) : addf (mulf (mulf x y) z) w i = x i * y i * z i + w i := rfl

theorem tokensNormed_apply (x : FVec Ideal S4x4096x1024 .f32) (g b : FVec Ideal S2x1024 .f32) (i : Fin 4) (t : Fin 4096) (j : Fin 1024) :
    tokensNormed x g b (ix3 i t j) = tokenNorm (fun k => x (ix3 i t k)) (fun k => g (ix2 0 k)) (fun k => b (ix2 0 k)) j := by
  unfold tokensNormed tokenNorm
  rw [combine_apply, less_apply, across_apply, root_apply, meanOf_apply, over_apply, over_apply, rowOf_apply, rowOf_apply]
  unfold mean
  simp only [ValueIdx.mulf_apply, less_apply]
  rfl

theorem hidden_apply (h : FVec Ideal S4x4096x1024 .f32) (w : FVec Ideal S1x1024x5632 .f32) (b : Fin 4) (t : Fin 4096) (e : Fin 5632) :
    hidden h w (ix3 b t e) = dot (fun k => h (ix3 b t k)) (fun k => w (ix3 0 k e)) := by
  unfold hidden dot
  pointwise

theorem gatePart_apply (u : FVec Ideal S4x4096x5632 .f32) (b : Fin 4) (t : Fin 4096) (f : Fin 2816) : gatePart u (ix3 b t f) = u (ix3 b t ⟨f, by omega⟩) := by
  unfold gatePart
  pointwise

theorem logi_apply (u : FVec Ideal S4x4096x2816 .f32) (b : Fin 4) (t : Fin 4096) (f : Fin 2816) : logi u (ix3 b t f) = Ideal.logistic (u (ix3 b t f)) := by
  unfold logi Ideal.logistic
  pointwise

theorem upPart_apply (u : FVec Ideal S4x4096x5632 .f32) (b : Fin 4) (t : Fin 4096) (f : Fin 2816) :
    extractStridedSlice S4x4096x2816 ![0, 0, 2816] u slices_S4x4096x5632_S4x4096x2816_0_0_2816 (ix3 b t f) = u (ix3 b t ⟨2816 + f, by omega⟩) := by
  pointwise

theorem units_apply (u : FVec Ideal S4x4096x5632 .f32) (b : Fin 4) (t : Fin 4096) (f : Fin 2816) :
    units u (ix3 b t f) = Cert.Swiglu.gated (u (ix3 b t ⟨f, by omega⟩)) (u (ix3 b t ⟨2816 + f, by omega⟩)) := by
  unfold units Cert.Swiglu.gated
  rw [ValueIdx.mulf_apply, ValueIdx.mulf_apply, logi_apply, gatePart_apply, upPart_apply]

theorem fed_apply (u : FVec Ideal S4x4096x2816 .f32) (w : FVec Ideal S1x2816x1024 .f32) (b : Fin 4) (t : Fin 4096) (e : Fin 1024) :
    fed u w (ix3 b t e) = ∑ f : Fin 2816, u (ix3 b t f) * w (ix3 0 f e) := by
  unfold fed
  pointwise

variable (V0 : Valuation τ sig (Elt Ideal))

/-! ## The results' terms, by the named steps -/

theorem r24 : res_main_v24 V0 = added (V0 (Proc.devRef .tc main_arg1)) (pick 2 slices_S6x8x1x1024_S1x4x1x1024_2_1_0_0 (V0 (Proc.devRef .tc main_arg2)))
    (outProjected (bySequence (V0 (Proc.devRef .tc main_arg0))) (V0 (Proc.devRef .tc main_arg7))) := rfl
theorem r48 : res_main_v48 V0 = tokensNormed (res_main_v24 V0) (V0 (Proc.devRef .tc main_arg3)) (V0 (Proc.devRef .tc main_arg4)) := rfl
theorem r57 : res_main_v57 V0 = hidden (modul (res_main_v48 V0) (pick 3 slices_S6x8x1x1024_S1x4x1x1024_3_1_0_0 (V0 (Proc.devRef .tc main_arg2)))
    (pick 4 slices_S6x8x1x1024_S1x4x1x1024_4_1_0_0 (V0 (Proc.devRef .tc main_arg2)))) (V0 (Proc.devRef .tc main_arg8)) := rfl
theorem r71 : res_main_v71 V0 = added (res_main_v48 V0) (pick 5 slices_S6x8x1x1024_S1x4x1x1024_5_1_0_0 (V0 (Proc.devRef .tc main_arg2)))
    (fed (units (res_main_v57 V0)) (V0 (Proc.devRef .tc main_arg9))) := rfl

/-! ## At an index, from the arguments -/

/-- The token after the first residual norm. -/
def halfAt (b : Fin 4) (t : Fin 4096) : Fin 1024 → EReal :=
  tokenHalf (fun k => (V0 (Proc.devRef .tc main_arg0) : FVec Ideal S16384x1024 .bf16) (ix2 ⟨b * 4096 + t, by omega⟩ k))
    (fun k j => (V0 (Proc.devRef .tc main_arg7) : FVec Ideal S1x1024x1024 .f32) (ix3 0 k j)) (fun k => (V0 (Proc.devRef .tc main_arg1) : FVec Ideal S4x4096x1024 .f32) (ix3 b t k))
    (fun k => (V0 (Proc.devRef .tc main_arg2) : FVec Ideal S6x8x1x1024 .f32) (ix4 2 ⟨1 + b, by omega⟩ 0 k))
    (fun k => (V0 (Proc.devRef .tc main_arg3) : FVec Ideal S2x1024 .f32) (ix2 0 k)) (fun k => (V0 (Proc.devRef .tc main_arg4) : FVec Ideal S2x1024 .f32) (ix2 0 k))

theorem half_apply (b : Fin 4) (t : Fin 4096) (j : Fin 1024) : (res_main_v48 V0 : FVec Ideal S4x4096x1024 .f32) (ix3 b t j) = halfAt V0 b t j := by
  refine (congrFun (r48 V0) _).trans ((tokensNormed_apply _ _ _ b t j).trans ?_)
  unfold halfAt tokenHalf
  refine congrFun (congrFun (congrFun (congrArg tokenNorm (funext fun k => ?_)) _) _) j
  refine (congrFun (r24 V0) _).trans ((added_apply _ _ _ b t k).trans ?_)
  refine congrFun (congr (congrArg (Cert.Context3.residual _) (funext fun k => pick_apply 2 _ _ b k)) (funext fun k => ?_)) k
  exact (outProjected_apply _ _ b t k).trans (congrFun (congrArg dot (funext fun e => bySequence_apply _ b t e)) _)

theorem hidden_eq (b : Fin 4) (t : Fin 4096) (e : Fin 5632) : (res_main_v57 V0 : FVec Ideal S4x4096x5632 .f32) (ix3 b t e)
    = dot (modulated (halfAt V0 b t) (fun k => (V0 (Proc.devRef .tc main_arg2) : FVec Ideal S6x8x1x1024 .f32) (ix4 4 ⟨1 + b, by omega⟩ 0 k))
      (fun k => (V0 (Proc.devRef .tc main_arg2) : FVec Ideal S6x8x1x1024 .f32) (ix4 3 ⟨1 + b, by omega⟩ 0 k)))
      (fun k => (V0 (Proc.devRef .tc main_arg8) : FVec Ideal S1x1024x5632 .f32) (ix3 0 k e)) :=
  (congrFun (r57 V0) _).trans ((hidden_apply _ _ b t e).trans (congrFun (congrArg dot (funext fun k => (modul_apply _ _ _ b t k).trans
    (congrFun (congr (congr (congrArg modulated (funext fun k => half_apply V0 b t k)) (funext fun k => pick_apply 4 _ _ b k))
      (funext fun k => pick_apply 3 _ _ b k)) k))) _))

/-- A token after the layer. -/
theorem layer_apply (b : Fin 4) (t : Fin 4096) (j : Fin 1024) :
    tokensNormed (res_main_v71 V0) (V0 (Proc.devRef .tc main_arg5)) (V0 (Proc.devRef .tc main_arg6)) (ix3 b t j)
      = latentAt (V0 (Proc.devRef .tc main_arg0)) (V0 (Proc.devRef .tc main_arg1)) (V0 (Proc.devRef .tc main_arg2)) (V0 (Proc.devRef .tc main_arg3)) (V0 (Proc.devRef .tc main_arg4))
        (V0 (Proc.devRef .tc main_arg5)) (V0 (Proc.devRef .tc main_arg6)) (V0 (Proc.devRef .tc main_arg7)) (V0 (Proc.devRef .tc main_arg8)) (V0 (Proc.devRef .tc main_arg9)) b t j := by
  refine (tokensNormed_apply _ _ _ b t j).trans ?_
  unfold latentAt tokenWhole
  refine congrFun (congrFun (congrFun (congrArg tokenNorm (funext fun k => ?_)) _) _) j
  refine (congrFun (r71 V0) _).trans ((added_apply _ _ _ b t k).trans ?_)
  refine congrFun (congr (congr (congrArg Cert.Context3.residual (funext fun k => half_apply V0 b t k)) (funext fun k => pick_apply 5 _ _ b k)) (funext fun k => ?_)) k
  refine (fed_apply _ _ b t k).trans ?_
  unfold Cert.Swiglu.swiglu
  refine Finset.sum_congr rfl fun f _ => congrFun (congrArg HMul.hMul ((units_apply _ b t f).trans ?_)) _
  exact congr (congrArg Cert.Swiglu.gated (hidden_eq V0 b t _)) (hidden_eq V0 b t _)

/-- The result's rows. -/
theorem rows_apply (a : FVec Ideal S4x4096x1024 .f32) (s : Fin 16384) (j : Fin 1024) :
    shapeCast S16384x1024 a shapeCasts_S4x4096x1024_S16384x1024 (ix2 s j) = a (ix3 ⟨s / 4096, by omega⟩ ⟨s % 4096, by omega⟩ j) := by
  pointwise

theorem result_eq : shapeCast S16384x1024 (tokensNormed (res_main_v71 V0) (V0 (Proc.devRef .tc main_arg5)) (V0 (Proc.devRef .tc main_arg6))) shapeCasts_S4x4096x1024_S16384x1024
    = atResult (latentAt (V0 (Proc.devRef .tc main_arg0)) (V0 (Proc.devRef .tc main_arg1)) (V0 (Proc.devRef .tc main_arg2)) (V0 (Proc.devRef .tc main_arg3)) (V0 (Proc.devRef .tc main_arg4))
        (V0 (Proc.devRef .tc main_arg5)) (V0 (Proc.devRef .tc main_arg6)) (V0 (Proc.devRef .tc main_arg7)) (V0 (Proc.devRef .tc main_arg8)) (V0 (Proc.devRef .tc main_arg9))) := by
  funext i
  obtain ⟨s, j, rfl⟩ : ∃ (s : Fin 16384) (j : Fin 1024), i = ix2 s j :=
    ⟨i (0 : Fin 2), i (1 : Fin 2), by funext a; fin_cases a <;> rfl⟩
  exact (rows_apply _ s j).trans (layer_apply V0 _ _ j)

/-- The dense half on the latents is the plain one, with no condition on the arguments. -/
theorem latent_agree : Cert.algebraic_LatentIdeal_PlainLatentIdeal := by
  intro m g m' g' _ hagree
  refine ⟨fun c => atResult (latentAt (m (c.tc.loc Cert.LatentIdeal.main_arg0)) (m (c.tc.loc Cert.LatentIdeal.main_arg1)) (m (c.tc.loc Cert.LatentIdeal.main_arg2))
    (m (c.tc.loc Cert.LatentIdeal.main_arg3)) (m (c.tc.loc Cert.LatentIdeal.main_arg4)) (m (c.tc.loc Cert.LatentIdeal.main_arg5)) (m (c.tc.loc Cert.LatentIdeal.main_arg6))
    (m (c.tc.loc Cert.LatentIdeal.main_arg7)) (m (c.tc.loc Cert.LatentIdeal.main_arg8)) (m (c.tc.loc Cert.LatentIdeal.main_arg9))), ?_, ?_⟩
  · exact (θ_run (Cert.LatentIdeal.defs (F := Ideal)) _ _).mono (fun r h c => ⟨(h c).1.trans (final m c), (h c).2⟩) (Cert.LatentIdeal.Value.run_blocks m g)
  · refine (θ_run (Cert.PlainLatentIdeal.defs (F := Ideal)) _ _).mono (fun r h c => ⟨(h c).1.trans ((result_eq (launchContents m' c)).trans ?_), (h c).2⟩)
      (Cert.PlainLatentIdeal.Value.run m' g')
    obtain ⟨e0, e1, e2, e3, e4, e5, e6, e7, e8, e9⟩ := hagree c
    show atResult (latentAt (m' (c.tc.loc main_arg0)) (m' (c.tc.loc main_arg1)) (m' (c.tc.loc main_arg2)) (m' (c.tc.loc main_arg3)) (m' (c.tc.loc main_arg4))
      (m' (c.tc.loc main_arg5)) (m' (c.tc.loc main_arg6)) (m' (c.tc.loc main_arg7)) (m' (c.tc.loc main_arg8)) (m' (c.tc.loc main_arg9))) = _
    rw [e0, e1, e2, e3, e4, e5, e6, e7, e8, e9]

end Cert.Latent4

end
-- ==== Proof.LatentProjection.lean ====
/-
  The second layer's projection of the latents: queries, keys and transposed values it leaves, at an index, from the arguments,
  and the same from the plain projection.
-/
module

public import proofs.«01_k».proof.Defs
public import proofs.«01_k».proof.Proof.ContextSpec
public import proofs.«01_k».proof.Proof.Gen.ProjectionIdeal.Value
public import proofs.«01_k».proof.Proof.Gen.PlainProjectionIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Context3 (dot modulated)

namespace Cert.Latent5

section Kernel

open Cert.ProjectionIdeal Cert.ProjectionIdeal.Gen

/-- Entry `e` of token `s` projected; sequence `b` takes the modulations of group `1 + b`. -/
def projectAt (a0 : Vec Ideal S16384x1024 .f32) (a1 : Vec Ideal S6x8x1x1024 .f32) (a2 : Vec Ideal S1x1024x3072 .f32) (s : Fin 16384) (e : Fin 3072) : EReal :=
  dot (modulated (fun k => a0 (ix2 s k)) (fun k => a1 (ix4 1 ⟨1 + s / 4096, by omega⟩ 0 k)) (fun k => a1 (ix4 0 ⟨1 + s / 4096, by omega⟩ 0 k)))
    (fun k => a2 (ix3 0 k e))

/-- The queries, scaled for a softmax to base two. -/
def queryAt (f : Fin 16384 → Fin 3072 → EReal) (i : S16384x1024.Idx) : EReal :=
  have l1 : (i 1 : ℕ) < 1024 := (i 1).isLt
  f ⟨(i 0 : ℕ), (i 0).isLt⟩ ⟨(i 1 : ℕ), by omega⟩ * Ideal.ofBits .f32 0x3E38AA3B#32

/-- The keys. -/
def keyAt (f : Fin 16384 → Fin 3072 → EReal) (i : S16384x1024.Idx) : EReal :=
  have l1 : (i 1 : ℕ) < 1024 := (i 1).isLt
  f ⟨(i 0 : ℕ), (i 0).isLt⟩ ⟨1024 + (i 1 : ℕ), by omega⟩

/-- The values, transposed in blocks of 128 tokens. -/
def valueAt (f : Fin 16384 → Fin 3072 → EReal) (i : S128x1024x128.Idx) : EReal :=
  have l0 : (i 0 : ℕ) < 128 := (i 0).isLt
  have l1 : (i 1 : ℕ) < 1024 := (i 1).isLt
  have l2 : (i 2 : ℕ) < 128 := (i 2).isLt
  f ⟨(i 0 : ℕ) * 128 + (i 2 : ℕ), by omega⟩ ⟨2048 + (i 1 : ℕ), by omega⟩

/-! ## The body -/

/-- Entry `(r, e)` of the projected block. -/
def cell (x0 : Vec Ideal S512x1024 .f32) (x1 x2 : Vec Ideal S1x1x1024 .f32) (x3 : Vec Ideal S1024x3072 .bf16) (r : Fin 512) (e : Fin 3072) : EReal :=
  dot (modulated (fun k => x0 (ix2 r k)) (fun k => x2 (ix3 0 0 k)) (fun k => x1 (ix3 0 0 k))) (fun k => x3 (ix2 k e))

theorem block_apply (x0 : Vec Ideal S512x1024 .f32) (x1 x2 : Vec Ideal S1x1x1024 .f32) (x3 : Vec Ideal S1024x3072 .bf16) (r : Fin 512) (e : Fin 3072) :
    k0_pay4 x0 x2 x1 x3 (ix2 r e) = cell x0 x1 x2 x3 r e := by
  unfold k0_pay4 cell dot modulated
  pointwise

theorem across_apply (x0 : Vec Ideal S512x1024 .f32) (x1 x2 : Vec Ideal S1x1x1024 .f32) (x3 : Vec Ideal S1024x3072 .bf16) (e : Fin 1024) (r : Fin 512) :
    k0_pay7 x0 x2 x1 x3 (ix2 e r) = cell x0 x1 x2 x3 r ⟨2048 + e, by omega⟩ := by
  unfold k0_pay7
  pointwise
  exact block_apply x0 x1 x2 x3 r _

theorem out4_apply (x0 : Vec Ideal S512x1024 .f32) (x1 x2 : Vec Ideal S1x1x1024 .f32) (x3 : Vec Ideal S1024x3072 .bf16) (r : Fin 512) (e : Fin 1024) :
    out0_4 x0 x1 x2 x3 (ix2 r e) = cell x0 x1 x2 x3 r ⟨e, by omega⟩ * Ideal.ofBits .f32 0x3E38AA3B#32 := by
  generalize hy : (ix2 r e : S512x1024.Idx) = y
  have e0 : (y 0 : ℕ) = r := by rw [← hy]; rfl
  have e1 : (y 1 : ℕ) = e := by rw [← hy]; rfl
  canon_tiles x h
  case piece0 =>
    idx_vars x
    obtain rfl : x0 = r := Fin.ext (by omega)
    obtain rfl : x1 = e := Fin.ext (by omega)
    unfold k0_pay5 cell
    pointwise
    rw [block_apply]
    unfold cell
    pointwise

theorem out5_apply (x0 : Vec Ideal S512x1024 .f32) (x1 x2 : Vec Ideal S1x1x1024 .f32) (x3 : Vec Ideal S1024x3072 .bf16) (r : Fin 512) (e : Fin 1024) :
    out0_5 x0 x1 x2 x3 (ix2 r e) = cell x0 x1 x2 x3 r ⟨1024 + e, by omega⟩ := by
  generalize hy : (ix2 r e : S512x1024.Idx) = y
  have e0 : (y 0 : ℕ) = r := by rw [← hy]; rfl
  have e1 : (y 1 : ℕ) = e := by rw [← hy]; rfl
  canon_tiles x h
  case piece0 =>
    idx_vars x
    obtain rfl : x0 = r := Fin.ext (by omega)
    obtain rfl : x1 = e := Fin.ext (by omega)
    unfold k0_pay6 cell
    pointwise
    rw [block_apply]
    unfold cell
    pointwise

/-- The block of 128 tokens from column `n` on, as it is stored. -/
theorem part0_apply (x0 : Vec Ideal S512x1024 .f32) (x1 x2 : Vec Ideal S1x1x1024 .f32) (x3 : Vec Ideal S1024x3072 .bf16) (e : Fin 1024) (l : Fin 128) :
    k0_pay8 x0 x2 x1 x3 (ix3 0 e l) = cell x0 x1 x2 x3 ⟨l, by omega⟩ ⟨2048 + e, by omega⟩ := by
  unfold k0_pay8
  pointwise
  exact across_apply x0 x1 x2 x3 e _

theorem part1_apply (x0 : Vec Ideal S512x1024 .f32) (x1 x2 : Vec Ideal S1x1x1024 .f32) (x3 : Vec Ideal S1024x3072 .bf16) (e : Fin 1024) (l : Fin 128) :
    k0_pay1 (k0_pay9 x0 x2 x1 x3) (ix3 0 e l) = cell x0 x1 x2 x3 ⟨128 + l, by omega⟩ ⟨2048 + e, by omega⟩ := by
  unfold k0_pay1 k0_pay9
  pointwise
  exact across_apply x0 x1 x2 x3 e _

theorem part2_apply (x0 : Vec Ideal S512x1024 .f32) (x1 x2 : Vec Ideal S1x1x1024 .f32) (x3 : Vec Ideal S1024x3072 .bf16) (e : Fin 1024) (l : Fin 128) :
    k0_pay2 (k0_pay7 x0 x2 x1 x3) (ix3 0 e l) = cell x0 x1 x2 x3 ⟨256 + l, by omega⟩ ⟨2048 + e, by omega⟩ := by
  unfold k0_pay2
  pointwise
  exact across_apply x0 x1 x2 x3 e _

theorem part3_apply (x0 : Vec Ideal S512x1024 .f32) (x1 x2 : Vec Ideal S1x1x1024 .f32) (x3 : Vec Ideal S1024x3072 .bf16) (e : Fin 1024) (l : Fin 128) :
    k0_pay3 (k0_pay7 x0 x2 x1 x3) (ix3 0 e l) = cell x0 x1 x2 x3 ⟨384 + l, by omega⟩ ⟨2048 + e, by omega⟩ := by
  unfold k0_pay3
  pointwise
  exact across_apply x0 x1 x2 x3 e _

theorem out6_apply (b0 : Vec Ideal S512x1024 .f32) (b1 b2 : Vec Ideal S1x1x1024 .f32) (b3 : Vec Ideal S1024x3072 .bf16) (y : S4x1024x128.Idx)
    (r : Fin 512) (e : Fin 3072) (hr : (r : ℕ) = (y 0 : ℕ) * 128 + (y 2 : ℕ)) (he : (e : ℕ) = 2048 + (y 1 : ℕ)) :
    out0_6 b0 b1 b2 b3 y = cell b0 b1 b2 b3 r e := by
  canon_tiles x h
  case piece0 =>
    idx_vars x
    have hr' : (r : ℕ) = 384 + x2 := by omega
    have he' : (e : ℕ) = 2048 + x1 := by omega
    obtain rfl : x0 = 0 := Subsingleton.elim _ _
    rw [show r = ⟨384 + x2, by omega⟩ from Fin.ext hr', show e = ⟨2048 + x1, by omega⟩ from Fin.ext he']
    unfold k0_pay10
    rw [part3_apply]
    unfold cell
    pointwise
  case piece1 =>
    idx_vars x
    have hr' : (r : ℕ) = 256 + x2 := by omega
    have he' : (e : ℕ) = 2048 + x1 := by omega
    obtain rfl : x0 = 0 := Subsingleton.elim _ _
    rw [show r = ⟨256 + x2, by omega⟩ from Fin.ext hr', show e = ⟨2048 + x1, by omega⟩ from Fin.ext he']
    unfold k0_pay10
    rw [part2_apply]
    unfold cell
    pointwise
  case piece2 =>
    idx_vars x
    have hr' : (r : ℕ) = 128 + x2 := by omega
    have he' : (e : ℕ) = 2048 + x1 := by omega
    obtain rfl : x0 = 0 := Subsingleton.elim _ _
    rw [show r = ⟨128 + x2, by omega⟩ from Fin.ext hr', show e = ⟨2048 + x1, by omega⟩ from Fin.ext he']
    rw [part1_apply]
    unfold cell
    pointwise
  case piece3 =>
    idx_vars x
    have hr' : (r : ℕ) = x2 := by omega
    have he' : (e : ℕ) = 2048 + x1 := by omega
    obtain rfl : x0 = 0 := Subsingleton.elim _ _
    rw [show r = ⟨x2, by omega⟩ from Fin.ext hr', show e = ⟨2048 + x1, by omega⟩ from Fin.ext he']
    rw [part0_apply]
    unfold cell
    pointwise

/-! ## The arrays -/

variable (m : (ℓ : Loc nD τ sig) → Buf (Elt Ideal) ℓ)

theorem idx : ∀ t : Fin cfg0.N, win0_0.index t = ![t.val, 0] ∧ win0_1.index t = ![1 + t.val / 8, 0, 0] ∧ win0_2.index t = ![1 + t.val / 8, 0, 0]
    ∧ win0_3.index t = ![0, 0] ∧ win0_4.index t = ![t.val, 0] ∧ win0_5.index t = ![t.val, 0] ∧ win0_6.index t = ![t.val, 0, 0] :=
  (by decide +kernel : ∀ t : Fin grid0.N, _)

theorem lt_points (t : Fin cfg0.N) : t.val < 32 := lt_of_lt_of_eq t.isLt (by decide +kernel)

theorem b0 (c : Dev nD) (t : Fin cfg0.N) (r : Fin 512) (k : Fin 1024) (s : Fin 16384) (hs : (s : ℕ) = t.val * 512 + r) :
    iblk m c 0 t (ix2 r k) = (m ((c : Thread nD τ).loc main_arg0) : Vec Ideal S16384x1024 .f32) (ix2 s k) := by
  blk_simp [iblk, V, idx t]
  entry_read
  blk_ext [idx t]

theorem b1 (c : Dev nD) (t : Fin cfg0.N) (k : Fin 1024) (b : Fin 8) (hb : (b : ℕ) = 1 + t.val / 8) :
    iblk m c 1 t (ix3 0 0 k) = (m ((c : Thread nD τ).loc main_arg1) : Vec Ideal S6x8x1x1024 .f32) (ix4 0 b 0 k) := by
  blk_simp [iblk, V, idx t]
  entry_read
  pointwise
  blk_ext [idx t]

theorem b2 (c : Dev nD) (t : Fin cfg0.N) (k : Fin 1024) (b : Fin 8) (hb : (b : ℕ) = 1 + t.val / 8) :
    iblk m c 2 t (ix3 0 0 k) = (m ((c : Thread nD τ).loc main_arg1) : Vec Ideal S6x8x1x1024 .f32) (ix4 1 b 0 k) := by
  blk_simp [iblk, V, idx t]
  entry_read
  pointwise
  blk_ext [idx t]

theorem b3 (c : Dev nD) (t : Fin cfg0.N) (k : Fin 1024) (e : Fin 3072) :
    iblk m c 3 t (ix2 k e) = (m ((c : Thread nD τ).loc main_arg2) : Vec Ideal S1x1024x3072 .f32) (ix3 0 k e) := by
  blk_simp [iblk, V, idx t]
  entry_read
  pointwise
  blk_ext [idx t]

theorem cell_eq (c : Dev nD) (t : Fin cfg0.N) (r : Fin 512) (e : Fin 3072) (s : Fin 16384) (hs : (s : ℕ) = t.val * 512 + r) :
    cell (iblk m c 0 t) (iblk m c 1 t) (iblk m c 2 t) (iblk m c 3 t) r e
      = projectAt (m ((c : Thread nD τ).loc main_arg0)) (m ((c : Thread nD τ).loc main_arg1)) (m ((c : Thread nD τ).loc main_arg2)) s e := by
  unfold cell projectAt
  have hb : 1 + (s : ℕ) / 4096 = 1 + t.val / 8 := by omega
  simp only [b0 m c t r _ s hs, b1 m c t _ ⟨1 + s / 4096, by omega⟩ hb, b2 m c t _ ⟨1 + s / 4096, by omega⟩ hb, b3]

theorem final4 (c : Dev nD) : (dats m 0 c).arrAt 4 (cfgs 0).N
    = queryAt (projectAt (m ((c : Thread nD τ).loc main_arg0)) (m ((c : Thread nD τ).loc main_arg1)) (m ((c : Thread nD τ).loc main_arg2))) := by
  refine (dats m 0 c).arrAt_eq_of_covers 4 _ (by decide +kernel) fun t _ y => ?_
  obtain ⟨r, e, rfl⟩ : ∃ (r : Fin 512) (e : Fin 1024), y = ix2 r e :=
    ⟨y (0 : Fin 2), y (1 : Fin 2), by funext a; fin_cases a <;> rfl⟩
  have lt := lt_points t
  have eR : ((cfg0.win 4).blk t).view.emb (ix2 r e) = (ix2 (⟨t.val * 512 + r, by omega⟩ : Fin 16384) e : S16384x1024.Idx) := by
    funext d
    refine Fin.ext (((cfg0.win 4).rect_emb_val t _ d rfl).trans ?_)
    rw [show (cfg0.win 4).index t = ![t.val, 0] from (idx t).2.2.2.2.1]
    fin_cases d
    · rfl
    · exact Nat.zero_add _
  rw [after0_4]
  refine Eq.trans ?_ (congrArg (queryAt _) eR.symm)
  refine Eq.trans (cast_eq _ _) ?_
  refine (out4_apply _ _ _ _ r e).trans ?_
  exact congrArg (· * Ideal.ofBits .f32 0x3E38AA3B#32) (cell_eq m c t r _ ⟨t.val * 512 + r, by omega⟩ rfl)

theorem final5 (c : Dev nD) : (dats m 0 c).arrAt 5 (cfgs 0).N
    = keyAt (projectAt (m ((c : Thread nD τ).loc main_arg0)) (m ((c : Thread nD τ).loc main_arg1)) (m ((c : Thread nD τ).loc main_arg2))) := by
  refine (dats m 0 c).arrAt_eq_of_covers 5 _ (by decide +kernel) fun t _ y => ?_
  obtain ⟨r, e, rfl⟩ : ∃ (r : Fin 512) (e : Fin 1024), y = ix2 r e :=
    ⟨y (0 : Fin 2), y (1 : Fin 2), by funext a; fin_cases a <;> rfl⟩
  have lt := lt_points t
  have eR : ((cfg0.win 5).blk t).view.emb (ix2 r e) = (ix2 (⟨t.val * 512 + r, by omega⟩ : Fin 16384) e : S16384x1024.Idx) := by
    funext d
    refine Fin.ext (((cfg0.win 5).rect_emb_val t _ d rfl).trans ?_)
    rw [show (cfg0.win 5).index t = ![t.val, 0] from (idx t).2.2.2.2.2.1]
    fin_cases d
    · rfl
    · exact Nat.zero_add _
  rw [after0_5]
  refine Eq.trans ?_ (congrArg (keyAt _) eR.symm)
  refine Eq.trans (cast_eq _ _) ?_
  refine (out5_apply _ _ _ _ r e).trans ?_
  exact cell_eq m c t r _ ⟨t.val * 512 + r, by omega⟩ rfl

theorem final6 (c : Dev nD) : (dats m 0 c).arrAt 6 (cfgs 0).N
    = valueAt (projectAt (m ((c : Thread nD τ).loc main_arg0)) (m ((c : Thread nD τ).loc main_arg1)) (m ((c : Thread nD τ).loc main_arg2))) := by
  refine (dats m 0 c).arrAt_eq_of_covers 6 _ (by decide +kernel) fun t _ y => ?_
  obtain ⟨q, e, l, rfl⟩ : ∃ (q : Fin 4) (e : Fin 1024) (l : Fin 128), y = ix3 q e l :=
    ⟨y (0 : Fin 3), y (1 : Fin 3), y (2 : Fin 3), by funext a; fin_cases a <;> rfl⟩
  have lt := lt_points t
  have eR : ((cfg0.win 6).blk t).view.emb (ix3 q e l) = (ix3 (⟨t.val * 4 + q, by omega⟩ : Fin 128) e l : S128x1024x128.Idx) := by
    funext d
    refine Fin.ext (((cfg0.win 6).rect_emb_val t _ d rfl).trans ?_)
    rw [show (cfg0.win 6).index t = ![t.val, 0, 0] from (idx t).2.2.2.2.2.2]
    fin_cases d
    · rfl
    · exact Nat.zero_add _
    · exact Nat.zero_add _
  rw [after0_6]
  refine Eq.trans ?_ (congrArg (valueAt _) eR.symm)
  refine Eq.trans (cast_eq _ _) ?_
  refine (out6_apply _ _ _ _ (ix3 q e l) ⟨q * 128 + l, by omega⟩ ⟨2048 + e, by omega⟩ rfl rfl).trans ?_
  refine cell_eq m c t _ _ ⟨(t.val * 4 + q) * 128 + l, by omega⟩ ?_
  show (t.val * 4 + q) * 128 + l = t.val * 512 + (q * 128 + l)
  omega

end Kernel

section Plain

open Idealize.ShloMosaic.StableHlo Cert.PlainProjectionIdeal Cert.PlainProjectionIdeal.Gen Cert.PlainProjectionIdeal.Value

/-! ## The plain projection -/

/-- One of six modulations, for the four sequences. -/
def pick (i : Fin 6) (h : S6x8x1x1024.Slices ![(i : ℕ), 1, 0, 0] S1x4x1x1024) (a : FVec Ideal S6x8x1x1024 .f32) : FVec Ideal S4x1x1024 .f32 :=
  shapeCast S4x1x1024 (extractStridedSlice S1x4x1x1024 ![(i : ℕ), 1, 0, 0] a h) shapeCasts_S1x4x1x1024_S4x1x1024

def modul (x : FVec Ideal S16384x1024 .f32) (sh sc : FVec Ideal S4x1x1024 .f32) : FVec Ideal S4x4096x1024 .f32 :=
  addf (mulf (shapeCast S4x4096x1024 x shapeCasts_S16384x1024_S4x4096x1024)
    (broadcastInDim S4x4096x1024 ![0, 1, 2] bcast_S4x1x1024_S4x4096x1024_0_1_2 (addf (broadcastInDim S4x1x1024 ![] bcast_S_S4x1x1024 (constant S_ .f32 0x3F800000#32)) sc)))
    (broadcastInDim S4x4096x1024 ![0, 1, 2] bcast_S4x1x1024_S4x4096x1024_0_1_2 sh)

def projected (x : FVec Ideal S16384x1024 .f32) (a : FVec Ideal S6x8x1x1024 .f32) (w : FVec Ideal S1x1024x3072 .f32) : FVec Ideal S4x4096x3072 .f32 :=
  Host.dotGeneral (φ₁ := .f32) (φ₂ := .f32) dot_S4x4096x1024_S1024x3072_S4x4096x3072_2_0_01_1_n_n none
    (modul x (pick 0 slices_S6x8x1x1024_S1x4x1x1024_0_1_0_0 a) (pick 1 slices_S6x8x1x1024_S1x4x1x1024_1_1_0_0 a))
    (shapeCast S1024x3072 w shapeCasts_S1x1024x3072_S1024x3072)

def plainQuery (u : FVec Ideal S4x4096x3072 .f32) : FVec Ideal S16384x1024 .bf16 :=
  truncf .bf16 (shapeCast S16384x1024 (mulf (mulf (shapeCast S4x4096x16x64 (extractStridedSlice S4x4096x1024 ![0, 0, 0] u slices_S4x4096x3072_S4x4096x1024_0_0_0)
      shapeCasts_S4x4096x1024_S4x4096x16x64) (broadcastInDim S4x4096x16x64 ![] bcast_S_S4x4096x16x64 (constant S_ .f32 0x3E000000#32)))
    (broadcastInDim S4x4096x16x64 ![] bcast_S_S4x4096x16x64 (constant S_ .f32 0x3FB8AA3B#32))) shapeCasts_S4x4096x16x64_S16384x1024) bitsLt_bf16_f32

def plainKey (u : FVec Ideal S4x4096x3072 .f32) : FVec Ideal S16384x1024 .bf16 :=
  truncf .bf16 (shapeCast S16384x1024 (shapeCast S4x4096x16x64 (extractStridedSlice S4x4096x1024 ![0, 0, 1024] u slices_S4x4096x3072_S4x4096x1024_0_0_1024)
      shapeCasts_S4x4096x1024_S4x4096x16x64) shapeCasts_S4x4096x16x64_S16384x1024) bitsLt_bf16_f32

def plainValue (u : FVec Ideal S4x4096x3072 .f32) : FVec Ideal S128x1024x128 .bf16 :=
  truncf .bf16 (transpose S128x1024x128 [0, 2, 1] (shapeCast S128x128x1024 (shapeCast S4x4096x16x64 (extractStridedSlice S4x4096x1024 ![0, 0, 2048] u
      slices_S4x4096x3072_S4x4096x1024_0_0_2048) shapeCasts_S4x4096x1024_S4x4096x16x64) shapeCasts_S4x4096x16x64_S128x128x1024)
    transposes_S128x128x1024_S128x1024x128_0_2_1) bitsLt_bf16_f32

theorem pick_apply (i : Fin 6) (h : S6x8x1x1024.Slices ![(i : ℕ), 1, 0, 0] S1x4x1x1024) (a : FVec Ideal S6x8x1x1024 .f32) (b : Fin 4) (j : Fin 1024) :
    pick i h a (ix3 b 0 j) = a (ix4 i ⟨1 + b, by omega⟩ 0 j) := by
  unfold pick
  pointwise

theorem modul_apply (x : FVec Ideal S16384x1024 .f32) (sh sc : FVec Ideal S4x1x1024 .f32) (b : Fin 4) (t : Fin 4096) (j : Fin 1024) :
    modul x sh sc (ix3 b t j) = modulated (fun k => x (ix2 ⟨b * 4096 + t, by omega⟩ k)) (fun k => sc (ix3 b 0 k)) (fun k => sh (ix3 b 0 k)) j := by
  unfold modul modulated
  pointwise

theorem projected_apply (x : FVec Ideal S16384x1024 .f32) (a : FVec Ideal S6x8x1x1024 .f32) (w : FVec Ideal S1x1024x3072 .f32) (b : Fin 4) (t : Fin 4096) (e : Fin 3072)
    (s : Fin 16384) (hs : (s : ℕ) = b * 4096 + t) : projected x a w (ix3 b t e) = projectAt x a w s e := by
  rw [show s = ⟨b * 4096 + t, by omega⟩ from Fin.ext hs]
  have eb : (⟨1 + (b * 4096 + t) / 4096, by omega⟩ : Fin 8) = ⟨1 + b, by omega⟩ := Fin.ext (by show 1 + ((b : ℕ) * 4096 + t) / 4096 = 1 + b; omega)
  unfold projected projectAt dot
  simp only [eb, ← pick_apply 0 slices_S6x8x1x1024_S1x4x1x1024_0_1_0_0 a b, ← pick_apply 1 slices_S6x8x1x1024_S1x4x1x1024_1_1_0_0 a b]
  pointwise
  simp only [modul_apply]

/-- The scale of the queries: an eighth, times the binary logarithm of e. -/
theorem scale_eq : Ideal.ofBits .f32 0x3E000000#32 * Ideal.ofBits .f32 0x3FB8AA3B#32 = Ideal.ofBits .f32 0x3E38AA3B#32 := by
  simp [Ideal.ofBits, Ideal.ieee]
  norm_cast
  norm_num

theorem query_apply (u : FVec Ideal S4x4096x3072 .f32) (s : Fin 16384) (e : Fin 1024) :
    plainQuery u (ix2 s e) = u (ix3 ⟨s / 4096, by omega⟩ ⟨s % 4096, by omega⟩ ⟨e, by omega⟩) * Ideal.ofBits .f32 0x3E38AA3B#32 := by
  unfold plainQuery
  pointwise
  rw [mul_assoc, scale_eq]

theorem key_apply (u : FVec Ideal S4x4096x3072 .f32) (s : Fin 16384) (e : Fin 1024) :
    plainKey u (ix2 s e) = u (ix3 ⟨s / 4096, by omega⟩ ⟨s % 4096, by omega⟩ ⟨1024 + e, by omega⟩) := by
  unfold plainKey
  pointwise

theorem value_apply (u : FVec Ideal S4x4096x3072 .f32) (q : Fin 128) (e : Fin 1024) (l : Fin 128) :
    plainValue u (ix3 q e l) = u (ix3 ⟨q / 32, by omega⟩ ⟨q % 32 * 128 + l, by omega⟩ ⟨2048 + e, by omega⟩) := by
  unfold plainValue
  pointwise

theorem queries_eq (x : FVec Ideal S16384x1024 .f32) (a : FVec Ideal S6x8x1x1024 .f32) (w : FVec Ideal S1x1024x3072 .f32) :
    plainQuery (projected x a w) = queryAt (projectAt x a w) := by
  funext i
  obtain ⟨s, e, rfl⟩ : ∃ (s : Fin 16384) (e : Fin 1024), i = ix2 s e :=
    ⟨i (0 : Fin 2), i (1 : Fin 2), by funext a; fin_cases a <;> rfl⟩
  refine (query_apply _ s e).trans (congrArg (· * Ideal.ofBits .f32 0x3E38AA3B#32) (projected_apply x a w _ _ _ s ?_))
  show (s : ℕ) = s / 4096 * 4096 + s % 4096
  omega

theorem keys_eq (x : FVec Ideal S16384x1024 .f32) (a : FVec Ideal S6x8x1x1024 .f32) (w : FVec Ideal S1x1024x3072 .f32) :
    plainKey (projected x a w) = keyAt (projectAt x a w) := by
  funext i
  obtain ⟨s, e, rfl⟩ : ∃ (s : Fin 16384) (e : Fin 1024), i = ix2 s e :=
    ⟨i (0 : Fin 2), i (1 : Fin 2), by funext a; fin_cases a <;> rfl⟩
  refine (key_apply _ s e).trans (projected_apply x a w _ _ _ s ?_)
  show (s : ℕ) = s / 4096 * 4096 + s % 4096
  omega

theorem values_eq (x : FVec Ideal S16384x1024 .f32) (a : FVec Ideal S6x8x1x1024 .f32) (w : FVec Ideal S1x1024x3072 .f32) :
    plainValue (projected x a w) = valueAt (projectAt x a w) := by
  funext i
  obtain ⟨q, e, l, rfl⟩ : ∃ (q : Fin 128) (e : Fin 1024) (l : Fin 128), i = ix3 q e l :=
    ⟨i (0 : Fin 3), i (1 : Fin 3), i (2 : Fin 3), by funext a; fin_cases a <;> rfl⟩
  refine (value_apply _ q e l).trans (projected_apply x a w _ _ _ ⟨q * 128 + l, by omega⟩ ?_)
  show (q * 128 + l : ℕ) = q / 32 * 4096 + (q % 32 * 128 + l)
  omega

end Plain

/-- The projection of the latents is the plain one, with no condition on the arguments. -/
theorem projection_agree : Cert.algebraic_ProjectionIdeal_PlainProjectionIdeal := by
  intro m g m' g' _ hagree
  refine ⟨fun c => queryAt (projectAt (m (c.tc.loc Cert.ProjectionIdeal.main_arg0)) (m (c.tc.loc Cert.ProjectionIdeal.main_arg1)) (m (c.tc.loc Cert.ProjectionIdeal.main_arg2))),
    fun c => keyAt (projectAt (m (c.tc.loc Cert.ProjectionIdeal.main_arg0)) (m (c.tc.loc Cert.ProjectionIdeal.main_arg1)) (m (c.tc.loc Cert.ProjectionIdeal.main_arg2))),
    fun c => valueAt (projectAt (m (c.tc.loc Cert.ProjectionIdeal.main_arg0)) (m (c.tc.loc Cert.ProjectionIdeal.main_arg1)) (m (c.tc.loc Cert.ProjectionIdeal.main_arg2))), ?_, ?_⟩
  · exact (θ_run (Cert.ProjectionIdeal.defs (F := Ideal)) _ _).mono
      (fun r h c => ⟨(h c).1.trans (final4 m c), (h c).2.1.trans (final5 m c), (h c).2.2.1.trans (final6 m c), (h c).2.2.2⟩) (Cert.ProjectionIdeal.Value.run_blocks m g)
  · refine (θ_run (Cert.PlainProjectionIdeal.defs (F := Ideal)) _ _).mono (fun r h c => ?_) (Cert.PlainProjectionIdeal.Value.run m' g')
    obtain ⟨e0, e1, e2⟩ := hagree c
    refine ⟨(h c).1.trans ((queries_eq _ _ _).trans ?_), (h c).2.1.trans ((keys_eq _ _ _).trans ?_), (h c).2.2.1.trans ((values_eq _ _ _).trans ?_), (h c).2.2.2⟩
    all_goals rw [e0, e1, e2]

end Cert.Latent5

end
-- ==== Proof.RotaryBody.lean ====
/-
  The body of the first layer's projection of the latents: heads over their norms, turned by the rotary tables it is given.
-/
module

public import proofs.«01_k».proof.Proof.ContextQkv
public import proofs.«01_k».proof.Proof.Gen.RotaryIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Context3 (dot modulated headNorm headBlock headBlock_apply)

namespace Cert.Latent6

open Cert.RotaryIdeal Cert.RotaryIdeal.Gen

/-- A head turned: every lane times its first table, plus the lane 32 away in its half times its second table. -/
def turned (x c s : Fin 128 → EReal) (d : Fin 128) : EReal :=
  x d * c d + (if (d : ℕ) % 64 < 32 then x ⟨((d : ℕ) + 32) % 128, by omega⟩ else x ⟨((d : ℕ) + 96) % 128, by omega⟩) * s d

/-- Which lanes lie in the first half of their 64. -/
def early : IVec S512x128 1 :=
  have v86 : BitVec 32 := Scalar.select (Scalar.cmpi .eq 64#32 0#32) 1#32 64#32
  have v88 : IVec S512x128 32 := remsi (iota .tc S512x128 32 [1] iota_S512x128_d1_w32) (broadcast S512x128 v86)
  cmpi .slt (select (andi (xori (cmpi .slt v88 (broadcast S512x128 0#32)) (broadcastTo S512x128 (broadcast S512x128 (Scalar.cmpi .slt v86 0#32)) broadcasts_S512x128_S512x128))
    (cmpi .ne v88 (broadcast S512x128 0#32))) (addi v88 (broadcast S512x128 v86)) v88) (broadcast S512x128 32#32)

/-- 512 heads turned by 512 rows of the tables. -/
def turnBlock (x : FVec Ideal S512x128 .f32) (c s : Vec Ideal S512x128 .f32) : FVec Ideal S512x128 .f32 :=
  addf (mulf x (shapeCast S512x128 c shapeCasts_S512x128_S512x128))
    (mulf (select early (dynamicRotate 1 96#32 none x rotates_S512x128_d1) (dynamicRotate 1 32#32 none x rotates_S512x128_d1))
      (shapeCast S512x128 s shapeCasts_S512x128_S512x128))

theorem early_apply (r : Fin 512) (d : Fin 128) : early (ix2 r d) = if (d : ℕ) % 64 < 32 then 1#1 else 0#1 := by
  unfold early
  pointwise
  revert d
  decide +kernel

theorem ahead_apply (x : FVec Ideal S512x128 .f32) (r : Fin 512) (d : Fin 128) :
    dynamicRotate 1 96#32 none x rotates_S512x128_d1 (ix2 r d) = x (ix2 r ⟨((d : ℕ) + 32) % 128, by omega⟩) := by
  pointwise
  exact congrArg (fun k => x (ix2 r k)) (Fin.ext (by show ((d : ℕ) + 128 - 96) % 128 = ((d : ℕ) + 32) % 128; omega))

theorem behind_apply (x : FVec Ideal S512x128 .f32) (r : Fin 512) (d : Fin 128) :
    dynamicRotate 1 32#32 none x rotates_S512x128_d1 (ix2 r d) = x (ix2 r ⟨((d : ℕ) + 96) % 128, by omega⟩) := by
  pointwise
  exact congrArg (fun k => x (ix2 r k)) (Fin.ext (by show ((d : ℕ) + 128 - 32) % 128 = ((d : ℕ) + 96) % 128; omega))

theorem turnBlock_apply (x : FVec Ideal S512x128 .f32) (c s : Vec Ideal S512x128 .f32) (r : Fin 512) (d : Fin 128) :
    turnBlock x c s (ix2 r d) = turned (fun j => x (ix2 r j)) (fun j => c (ix2 r j)) (fun j => s (ix2 r j)) d := by
  unfold turned
  show x (ix2 r d) * shapeCast S512x128 c shapeCasts_S512x128_S512x128 (ix2 r d)
    + (Scalar.select (early (ix2 r d)) (dynamicRotate 1 96#32 none x rotates_S512x128_d1 (ix2 r d)) (dynamicRotate 1 32#32 none x rotates_S512x128_d1 (ix2 r d)))
      * shapeCast S512x128 s shapeCasts_S512x128_S512x128 (ix2 r d) = _
  rw [early_apply, ahead_apply, behind_apply]
  have e : ∀ y : Vec Ideal S512x128 .f32, shapeCast S512x128 y shapeCasts_S512x128_S512x128 (ix2 r d) = y (ix2 r d) := fun y => by pointwise
  rw [e, e]
  by_cases h : (d : ℕ) % 64 < 32
  · rw [if_pos h, if_pos h]; rfl
  · rw [if_neg h, if_neg h]; rfl

/-- One head as the keys are stored: over its norm, times the gain, turned. -/
def keyBlock (x : FVec Ideal S512x128 .f32) (g : Vec Ideal S1x128 .f32) (c s : Vec Ideal S512x128 .f32) : FVec Ideal S512x128 .bf16 :=
  truncf .bf16 (turnBlock (headBlock x (shapeCast S1x128 g shapeCasts_S1x128_S1x128)) c s) bitsLt_bf16_f32

/-- The same with the factor of the scores, as the queries are stored. -/
def queryBlock (x : FVec Ideal S512x128 .f32) (g : Vec Ideal S1x128 .f32) (c s : Vec Ideal S512x128 .f32) : FVec Ideal S512x128 .bf16 :=
  truncf .bf16 (mulf (turnBlock (headBlock x (shapeCast S1x128 g shapeCasts_S1x128_S1x128)) c s) (broadcast S512x128 (Scalar.ofBits .f32 0x3E0293EE#32))) bitsLt_bf16_f32

theorem keyBlock_apply (x : FVec Ideal S512x128 .f32) (g : Vec Ideal S1x128 .f32) (c s : Vec Ideal S512x128 .f32) (r : Fin 512) (d : Fin 128) :
    keyBlock x g c s (ix2 r d) = turned (headNorm (fun j => x (ix2 r j)) (fun j => g (ix2 0 j))) (fun j => c (ix2 r j)) (fun j => s (ix2 r j)) d := by
  unfold keyBlock
  pointwise
  rw [turnBlock_apply]
  refine congrArg (fun y => turned y _ _ d) (funext fun j => ?_)
  rw [headBlock_apply]

theorem queryBlock_apply (x : FVec Ideal S512x128 .f32) (g : Vec Ideal S1x128 .f32) (c s : Vec Ideal S512x128 .f32) (r : Fin 512) (d : Fin 128) :
    queryBlock x g c s (ix2 r d)
      = turned (headNorm (fun j => x (ix2 r j)) (fun j => g (ix2 0 j))) (fun j => c (ix2 r j)) (fun j => s (ix2 r j)) d * Ideal.ofBits .f32 0x3E0293EE#32 :=
  congrArg (· * Ideal.ofBits .f32 0x3E0293EE#32) (keyBlock_apply x g c s r d)

/-- Entry `(r, e)` of the projected block. -/
def cell (b0 : Vec Ideal S512x1024 .f32) (b1 b2 : Vec Ideal S1x1x1024 .f32) (b3 : Vec Ideal S1024x1536 .bf16) (r : Fin 512) (e : Fin 1536) : EReal :=
  dot (modulated (fun k => b0 (ix2 r k)) (fun k => b2 (ix3 0 0 k)) (fun k => b1 (ix3 0 0 k))) (fun k => b3 (ix2 k e))

theorem pay2_apply (b0 : Vec Ideal S512x1024 .f32) (b1 b2 : Vec Ideal S1x1x1024 .f32) (b3 : Vec Ideal S1024x1536 .bf16) (r : Fin 512) (e : Fin 1536) :
    k0_pay2 b0 b2 b1 b3 (ix2 r e) = cell b0 b1 b2 b3 r e := by
  unfold k0_pay2 cell dot modulated
  pointwise

theorem block_apply (b0 : Vec Ideal S512x1024 .f32) (b1 b2 : Vec Ideal S1x1x1024 .f32) (b3 : Vec Ideal S1024x1536 .bf16) (b4 b5 : Vec Ideal S1x128 .f32) (b6 b7 : Vec Ideal S512x128 .f32)
    (r : Fin 512) (e : Fin 1536) : k0_pay46 b0 b1 b2 b3 b4 b5 b6 b7 (ix2 r e) = cell b0 b1 b2 b3 r e := by
  unfold k0_pay46
  rw [pay2_apply]
  unfold cell
  pointwise

/-- Head `o` of 128 entries from column `c` on, over its norm. -/
def headAt (b0 : Vec Ideal S512x1024 .f32) (b1 b2 : Vec Ideal S1x1x1024 .f32) (b3 : Vec Ideal S1024x1536 .bf16) (g : Vec Ideal S1x128 .f32) (r : Fin 512) (o : Fin 12) : Fin 128 → EReal :=
  headNorm (fun j => cell b0 b1 b2 b3 r ⟨(o : ℕ) * 128 + j, by omega⟩) (fun j => g (ix2 0 j))

theorem out8_apply (b0 : Vec Ideal S512x1024 .f32) (b1 b2 : Vec Ideal S1x1x1024 .f32) (b3 : Vec Ideal S1024x1536 .bf16) (b4 b5 : Vec Ideal S1x128 .f32) (b6 b7 : Vec Ideal S512x128 .f32) (y : S512x1024.Idx)
    (r : Fin 512) (o : Fin 12) (d : Fin 128) (hr : (y 0 : ℕ) = r) (he : (y 1 : ℕ) = o * 128 + d) :
    out0_8 b0 b1 b2 b3 b4 b5 b6 b7 y
      = turned (headAt b0 b1 b2 b3 b4 r o) (fun j => b6 (ix2 r j)) (fun j => b7 (ix2 r j)) d * Ideal.ofBits .f32 0x3E0293EE#32 := by
  canon_tiles x h
  case piece0 =>
    rw [show k0_pay39 (k0_pay38 (k0_pay46 b0 b1 b2 b3 b4 b5 b6 b7) (View.ld b4 r0_3)) (View.ld b6 r0_4) (View.ld b7 r0_4)
        = queryBlock (extractStridedSlice S512x128 ![0, 896] (k0_pay46 b0 b1 b2 b3 b4 b5 b6 b7) slices_S512x1536_o0_896_S512x128) (View.ld b4 r0_3) (View.ld b6 r0_4) (View.ld b7 r0_4) from rfl]
    idx_vars x
    obtain rfl : x0 = r := Fin.ext (by omega)
    obtain rfl : o = 7 := Fin.ext (by show (o : ℕ) = 7; omega)
    obtain rfl : x1 = d := Fin.ext (by omega)
    rw [queryBlock_apply]
    unfold headAt
    pointwise
    simp only [block_apply, Nat.reduceMul, Nat.zero_add]
  case piece1 =>
    rw [show k0_pay37 (k0_pay34 (k0_pay46 b0 b1 b2 b3 b4 b5 b6 b7) (View.ld b4 r0_3) (View.ld b6 r0_4)) (iota .tc S512x128 32 [1] iota_S512x128_d1_w32) (k0_pay35 (k0_pay46 b0 b1 b2 b3 b4 b5 b6 b7) (View.ld b4 r0_3)) (k0_pay36 (k0_pay46 b0 b1 b2 b3 b4 b5 b6 b7) (View.ld b4 r0_3)) 64#32 (View.ld b7 r0_4)
        = queryBlock (extractStridedSlice S512x128 ![0, 768] (k0_pay46 b0 b1 b2 b3 b4 b5 b6 b7) slices_S512x1536_o0_768_S512x128) (View.ld b4 r0_3) (View.ld b6 r0_4) (View.ld b7 r0_4) from rfl]
    idx_vars x
    obtain rfl : x0 = r := Fin.ext (by omega)
    obtain rfl : o = 6 := Fin.ext (by show (o : ℕ) = 6; omega)
    obtain rfl : x1 = d := Fin.ext (by omega)
    rw [queryBlock_apply]
    unfold headAt
    pointwise
    simp only [block_apply, Nat.reduceMul, Nat.zero_add]
  case piece2 =>
    rw [show k0_pay32 (k0_pay27 (k0_pay46 b0 b1 b2 b3 b4 b5 b6 b7) (View.ld b4 r0_3) (View.ld b6 r0_4)) (k0_pay28 (k0_pay46 b0 b1 b2 b3 b4 b5 b6 b7) (View.ld b4 r0_3)) (k0_pay29 (k0_pay46 b0 b1 b2 b3 b4 b5 b6 b7) (View.ld b4 r0_3)) (Scalar.select (Scalar.cmpi .eq 64#32 0#32) 1#32 64#32) k0_pay30 k0_pay31 0#32 (View.ld b7 r0_4)
        = queryBlock (extractStridedSlice S512x128 ![0, 640] (k0_pay46 b0 b1 b2 b3 b4 b5 b6 b7) slices_S512x1536_o0_640_S512x128) (View.ld b4 r0_3) (View.ld b6 r0_4) (View.ld b7 r0_4) from rfl]
    idx_vars x
    obtain rfl : x0 = r := Fin.ext (by omega)
    obtain rfl : o = 5 := Fin.ext (by show (o : ℕ) = 5; omega)
    obtain rfl : x1 = d := Fin.ext (by omega)
    rw [queryBlock_apply]
    unfold headAt
    pointwise
    simp only [block_apply, Nat.reduceMul, Nat.zero_add]
  case piece3 =>
    rw [show k0_pay25 (k0_pay19 (k0_pay46 b0 b1 b2 b3 b4 b5 b6 b7) (View.ld b4 r0_3) (View.ld b6 r0_4)) (k0_pay20 (k0_pay46 b0 b1 b2 b3 b4 b5 b6 b7) (View.ld b4 r0_3)) (k0_pay21 (k0_pay46 b0 b1 b2 b3 b4 b5 b6 b7) (View.ld b4 r0_3)) k0_pay22 k0_pay23 k0_pay24 (View.ld b7 r0_4)
        = queryBlock (extractStridedSlice S512x128 ![0, 512] (k0_pay46 b0 b1 b2 b3 b4 b5 b6 b7) slices_S512x1536_o0_512_S512x128) (View.ld b4 r0_3) (View.ld b6 r0_4) (View.ld b7 r0_4) from rfl]
    idx_vars x
    obtain rfl : x0 = r := Fin.ext (by omega)
    obtain rfl : o = 4 := Fin.ext (by show (o : ℕ) = 4; omega)
    obtain rfl : x1 = d := Fin.ext (by omega)
    rw [queryBlock_apply]
    unfold headAt
    pointwise
    simp only [block_apply, Nat.reduceMul, Nat.zero_add]
  case piece4 =>
    rw [show k0_pay17 (k0_pay15 (k0_pay47 b0 b1 b2 b3 b4 b5 b6 b7) (View.ld b4 r0_3) (View.ld b6 r0_4)) (k0_pay16 (k0_pay47 b0 b1 b2 b3 b4 b5 b6 b7) (View.ld b4 r0_3) (View.ld b7 r0_4))
        = queryBlock (extractStridedSlice S512x128 ![0, 384] (k0_pay46 b0 b1 b2 b3 b4 b5 b6 b7) slices_S512x1536_o0_384_S512x128) (View.ld b4 r0_3) (View.ld b6 r0_4) (View.ld b7 r0_4) from rfl]
    idx_vars x
    obtain rfl : x0 = r := Fin.ext (by omega)
    obtain rfl : o = 3 := Fin.ext (by show (o : ℕ) = 3; omega)
    obtain rfl : x1 = d := Fin.ext (by omega)
    rw [queryBlock_apply]
    unfold headAt
    pointwise
    simp only [block_apply, Nat.reduceMul, Nat.zero_add]
  case piece5 =>
    rw [show k0_pay12 (k0_pay10 (k0_pay46 b0 b1 b2 b3 b4 b5 b6 b7)) (k0_pay11 (k0_pay46 b0 b1 b2 b3 b4 b5 b6 b7)) (View.ld b4 r0_3) (View.ld b6 r0_4) (View.ld b7 r0_4)
        = queryBlock (extractStridedSlice S512x128 ![0, 256] (k0_pay46 b0 b1 b2 b3 b4 b5 b6 b7) slices_S512x1536_o0_256_S512x128) (View.ld b4 r0_3) (View.ld b6 r0_4) (View.ld b7 r0_4) from rfl]
    idx_vars x
    obtain rfl : x0 = r := Fin.ext (by omega)
    obtain rfl : o = 2 := Fin.ext (by show (o : ℕ) = 2; omega)
    obtain rfl : x1 = d := Fin.ext (by omega)
    rw [queryBlock_apply]
    unfold headAt
    pointwise
    simp only [block_apply, Nat.reduceMul, Nat.zero_add]
  case piece6 =>
    rw [show k0_pay9 (k0_pay8 (k0_pay46 b0 b1 b2 b3 b4 b5 b6 b7) (View.ld b4 r0_3)) (View.ld b6 r0_4) (View.ld b7 r0_4)
        = queryBlock (extractStridedSlice S512x128 ![0, 128] (k0_pay46 b0 b1 b2 b3 b4 b5 b6 b7) slices_S512x1536_o0_128_S512x128) (View.ld b4 r0_3) (View.ld b6 r0_4) (View.ld b7 r0_4) from rfl]
    idx_vars x
    obtain rfl : x0 = r := Fin.ext (by omega)
    obtain rfl : o = 1 := Fin.ext (by show (o : ℕ) = 1; omega)
    obtain rfl : x1 = d := Fin.ext (by omega)
    rw [queryBlock_apply]
    unfold headAt
    pointwise
    simp only [block_apply, Nat.reduceMul, Nat.zero_add]
  case piece7 =>
    rw [show k0_pay7 (k0_pay4 (View.ld b0 r0_0) (View.ld b2 r0_1) (View.ld b1 r0_1) (View.ld b3 r0_2) (View.ld b4 r0_3) (View.ld b6 r0_4)) (iota .tc S512x128 32 [1] iota_S512x128_d1_w32) (k0_pay5 (View.ld b0 r0_0) (View.ld b2 r0_1) (View.ld b1 r0_1) (View.ld b3 r0_2) (View.ld b4 r0_3)) (k0_pay6 (View.ld b0 r0_0) (View.ld b2 r0_1) (View.ld b1 r0_1) (View.ld b3 r0_2) (View.ld b4 r0_3)) 64#32 (View.ld b7 r0_4)
        = queryBlock (extractStridedSlice S512x128 ![0, 0] (k0_pay46 b0 b1 b2 b3 b4 b5 b6 b7) slices_S512x1536_o0_0_S512x128) (View.ld b4 r0_3) (View.ld b6 r0_4) (View.ld b7 r0_4) from rfl]
    idx_vars x
    obtain rfl : x0 = r := Fin.ext (by omega)
    obtain rfl : o = 0 := Fin.ext (by show (o : ℕ) = 0; omega)
    obtain rfl : x1 = d := Fin.ext (by omega)
    rw [queryBlock_apply]
    unfold headAt
    pointwise
    simp only [block_apply, Nat.reduceMul, Nat.zero_add]

theorem out9_apply (b0 : Vec Ideal S512x1024 .f32) (b1 b2 : Vec Ideal S1x1x1024 .f32) (b3 : Vec Ideal S1024x1536 .bf16) (b4 b5 : Vec Ideal S1x128 .f32) (b6 b7 : Vec Ideal S512x128 .f32) (y : S512x256.Idx)
    (r : Fin 512) (o : Fin 12) (d : Fin 128) (hr : (y 0 : ℕ) = r) (he : 1024 + (y 1 : ℕ) = o * 128 + d) :
    out0_9 b0 b1 b2 b3 b4 b5 b6 b7 y = turned (headAt b0 b1 b2 b3 b5 r o) (fun j => b6 (ix2 r j)) (fun j => b7 (ix2 r j)) d := by
  canon_tiles x h
  case piece0 =>
    rw [show k0_pay45 (k0_pay43 (k0_pay46 b0 b1 b2 b3 b4 b5 b6 b7)) (k0_pay44 (k0_pay46 b0 b1 b2 b3 b4 b5 b6 b7)) (View.ld b5 r0_3) (View.ld b6 r0_4) (View.ld b7 r0_4)
        = keyBlock (extractStridedSlice S512x128 ![0, 1152] (k0_pay46 b0 b1 b2 b3 b4 b5 b6 b7) slices_S512x1536_o0_1152_S512x128) (View.ld b5 r0_3) (View.ld b6 r0_4) (View.ld b7 r0_4) from rfl]
    idx_vars x
    obtain rfl : x0 = r := Fin.ext (by omega)
    obtain rfl : o = 9 := Fin.ext (by show (o : ℕ) = 9; omega)
    obtain rfl : x1 = d := Fin.ext (by omega)
    rw [keyBlock_apply]
    unfold headAt
    pointwise
    simp only [block_apply, Nat.reduceMul, Nat.zero_add]
  case piece1 =>
    rw [show k0_pay42 (k0_pay40 (k0_pay46 b0 b1 b2 b3 b4 b5 b6 b7)) (k0_pay41 (k0_pay46 b0 b1 b2 b3 b4 b5 b6 b7)) (View.ld b5 r0_3) (View.ld b6 r0_4) (View.ld b7 r0_4)
        = keyBlock (extractStridedSlice S512x128 ![0, 1024] (k0_pay46 b0 b1 b2 b3 b4 b5 b6 b7) slices_S512x1536_o0_1024_S512x128) (View.ld b5 r0_3) (View.ld b6 r0_4) (View.ld b7 r0_4) from rfl]
    idx_vars x
    obtain rfl : x0 = r := Fin.ext (by omega)
    obtain rfl : o = 8 := Fin.ext (by show (o : ℕ) = 8; omega)
    obtain rfl : x1 = d := Fin.ext (by omega)
    rw [keyBlock_apply]
    unfold headAt
    pointwise
    simp only [block_apply, Nat.reduceMul, Nat.zero_add]

theorem out10_apply (b0 : Vec Ideal S512x1024 .f32) (b1 b2 : Vec Ideal S1x1x1024 .f32) (b3 : Vec Ideal S1024x1536 .bf16) (b4 b5 : Vec Ideal S1x128 .f32) (b6 b7 : Vec Ideal S512x128 .f32) (y : S256x512.Idx)
    (r : Fin 512) (e : Fin 1536) (hr : (y 1 : ℕ) = r) (he : 1280 + (y 0 : ℕ) = e) :
    out0_10 b0 b1 b2 b3 b4 b5 b6 b7 y = cell b0 b1 b2 b3 r e := by
  canon_tiles x h
  case piece0 =>
    idx_vars x
    have hr' : (r : ℕ) = x1 := by omega
    have he' : (e : ℕ) = 1280 + x0 := by omega
    rw [show r = ⟨x1, by omega⟩ from Fin.ext hr', show e = ⟨1280 + x0, by omega⟩ from Fin.ext he']
    unfold k0_pay1
    pointwise
    rw [block_apply]

end Cert.Latent6

end
-- ==== Proof.RotaryTables.lean ====
/-
  The rotary tables the host prepares: the cosines and signed sines of a token's row and column times the frequencies.
-/
module

public import proofs.«01_k».proof.Proof.RotaryBody

@[expose] public section

set_option maxRecDepth 16384

noncomputable section

open Idealize.ShloMosaic Idealize.ShloMosaic.TcCoe Idealize.SL.Sem

namespace Cert.Latent6

open Idealize.ShloMosaic.StableHlo Cert.RotaryIdeal Cert.RotaryIdeal.Gen

/-- The row of each token on the grid: its place over 64, rounded down. -/
def rowOf : IVec S4096 32 :=
  have p : IVec S4096 32 := iotaInDim S4096 32 0
  have w : IVec S_ 32 := id (constantI S_ 32 64#32)
  select (andi (cmpi .ne (signi p) (broadcastInDim S4096 ![] bcast_S_S4096 (signi w)))
      (cmpi .ne (Host.remsi p (broadcastInDim S4096 ![] bcast_S_S4096 w)) (broadcastInDim S4096 ![] bcast_S_S4096 (constantI S_ 32 0#32))))
    (subi (Host.divsi p (broadcastInDim S4096 ![] bcast_S_S4096 w)) (broadcastInDim S4096 ![] bcast_S_S4096 (constantI S_ 32 1#32)))
    (Host.divsi p (broadcastInDim S4096 ![] bcast_S_S4096 w))

/-- The column of each token on the grid: the rest of its place by 64. -/
def colOf : IVec S4096 32 :=
  have w : IVec S_ 32 := select (cmpi .eq (id (constantI S_ 32 64#32)) (constantI S_ 32 0#32)) (constantI S_ 32 1#32) (id (constantI S_ 32 64#32))
  have r : IVec S4096 32 := Host.remsi (iotaInDim S4096 32 0) (broadcastInDim S4096 ![] bcast_S_S4096 w)
  select (andi (cmpi .ne (cmpi .slt r (broadcastInDim S4096 ![] bcast_S_S4096 (constantI S_ 32 0#32)))
      (broadcastInDim S4096 ![] bcast_S_S4096 (cmpi .slt w (constantI S_ 32 0#32))))
    (cmpi .ne r (broadcastInDim S4096 ![] bcast_S_S4096 (constantI S_ 32 0#32)))) (addi r (broadcastInDim S4096 ![] bcast_S_S4096 w)) r

/-- A coordinate of each token times each frequency. -/
def angles (p : IVec S4096 32) : FVec Ideal S4096x32 .f32 :=
  mulf (broadcastInDim S4096x32 ![0, 1] bcast_S4096x1_S4096x32_0_1 (broadcastInDim S4096x1 ![0] bcast_S4096_S4096x1_0 (sitofp .f32 p)))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- Four tables of 32 lanes side by side. -/
def beside (a b c d : FVec Ideal S4096x32 .f32) : FVec Ideal S4096x128 .f32 :=
  concatenate S4096x128 1 [⟨S4096x32, a⟩, ⟨S4096x32, b⟩, ⟨S4096x32, c⟩, ⟨S4096x32, d⟩] concatenates_S4096x32_S4096x32_S4096x32_S4096x32_S4096x128_d1

def cosTable : FVec Ideal S4096x128 .f32 :=
  beside (Host.cos (angles rowOf)) (Host.cos (angles rowOf)) (Host.cos (angles colOf)) (Host.cos (angles colOf))

def sinTable : FVec Ideal S4096x128 .f32 :=
  beside (Host.negf (Host.sin (angles rowOf))) (Host.sin (angles rowOf)) (Host.negf (Host.sin (angles colOf))) (Host.sin (angles colOf))

/-- The angle of a token on an axis, at a frequency. -/
def angle (t : Fin 4096) (g : Fin 2) (f : Fin 32) : EReal := if g = 0 then angles rowOf (ix2 t f) else angles colOf (ix2 t f)

theorem beside_apply (a b c d : FVec Ideal S4096x32 .f32) (t : Fin 4096) (l : Fin 128) :
    beside a b c d (ix2 t l) = if (l : ℕ) < 32 then a (ix2 t ⟨(l : ℕ) % 32, by omega⟩) else if (l : ℕ) < 64 then b (ix2 t ⟨(l : ℕ) % 32, by omega⟩)
      else if (l : ℕ) < 96 then c (ix2 t ⟨(l : ℕ) % 32, by omega⟩) else d (ix2 t ⟨(l : ℕ) % 32, by omega⟩) := by
  unfold beside
  pointwise
  have e : ∀ (x : FVec Ideal S4096x32 .f32) (k k' : Fin 32), (k : ℕ) = k' → x (ix2 t k) = x (ix2 t k') := fun x k k' h => by rw [Fin.ext h]
  by_cases h1 : (l : ℕ) < 32
  · rw [dif_pos h1, if_pos h1]
    exact e a _ _ (by show (l : ℕ) = (l : ℕ) % 32; omega)
  rw [dif_neg h1, if_neg h1]
  by_cases h2 : (l : ℕ) < 64
  · rw [dif_pos (by omega), if_pos h2]
    exact e b _ _ (by show (l : ℕ) - 32 = (l : ℕ) % 32; omega)
  rw [dif_neg (by omega), if_neg h2]
  by_cases h3 : (l : ℕ) < 96
  · rw [dif_pos (by omega), if_pos h3]
    exact e c _ _ (by show (l : ℕ) - 32 - 32 = (l : ℕ) % 32; omega)
  rw [dif_neg (by omega), if_neg h3]
  exact e d _ _ (by show (l : ℕ) - 32 - 32 - 32 = (l : ℕ) % 32; omega)

theorem cosTable_apply (t : Fin 4096) (l : Fin 128) :
    cosTable (ix2 t l) = Ideal.cos (angle t ⟨(l : ℕ) / 64, by omega⟩ ⟨(l : ℕ) % 32, by omega⟩) := by
  unfold cosTable angle
  rw [beside_apply]
  by_cases h : (l : ℕ) < 64
  · rw [if_pos (show (⟨(l : ℕ) / 64, by omega⟩ : Fin 2) = 0 from Fin.ext (by show (l : ℕ) / 64 = 0; omega)), if_pos h, ite_self]
    rfl
  · rw [if_neg (show (⟨(l : ℕ) / 64, by omega⟩ : Fin 2) ≠ 0 from fun e => by have := Fin.ext_iff.mp e; change (l : ℕ) / 64 = 0 at this; omega),
      if_neg (by omega), if_neg h, ite_self]
    rfl

theorem sinTable_apply (t : Fin 4096) (l : Fin 128) :
    sinTable (ix2 t l) = if (l : ℕ) % 64 < 32 then - Ideal.sin (angle t ⟨(l : ℕ) / 64, by omega⟩ ⟨(l : ℕ) % 32, by omega⟩)
      else Ideal.sin (angle t ⟨(l : ℕ) / 64, by omega⟩ ⟨(l : ℕ) % 32, by omega⟩) := by
  unfold sinTable angle
  rw [beside_apply]
  by_cases h : (l : ℕ) < 64
  · rw [if_pos (show (⟨(l : ℕ) / 64, by omega⟩ : Fin 2) = 0 from Fin.ext (by show (l : ℕ) / 64 = 0; omega)), if_pos h]
    by_cases h1 : (l : ℕ) < 32
    · rw [if_pos h1, if_pos (by omega)]; rfl
    · rw [if_neg h1, if_neg (by omega)]; rfl
  · rw [if_neg (show (⟨(l : ℕ) / 64, by omega⟩ : Fin 2) ≠ 0 from fun e => by have := Fin.ext_iff.mp e; change (l : ℕ) / 64 = 0 at this; omega),
      if_neg (by omega), if_neg h]
    by_cases h1 : (l : ℕ) < 96
    · rw [if_pos h1, if_pos (by omega)]; rfl
    · rw [if_neg h1, if_neg (by omega)]; rfl

/-- A head rotated by the angles of its token: in each half of 64 lanes, lanes `f` and `32 + f` by the angle of frequency `f`. -/
def rotated (x : Fin 128 → EReal) (t : Fin 4096) (d : Fin 128) : EReal :=
  have u : EReal := angle t ⟨(d : ℕ) / 64, by omega⟩ ⟨(d : ℕ) % 32, by omega⟩
  if (d : ℕ) % 64 < 32 then x d * Ideal.cos u - x ⟨((d : ℕ) + 32) % 128, by omega⟩ * Ideal.sin u
  else x d * Ideal.cos u + x ⟨((d : ℕ) + 96) % 128, by omega⟩ * Ideal.sin u

/-- Turning by the tables' rows is the rotation. -/
theorem turned_tables (x : Fin 128 → EReal) (t : Fin 4096) (d : Fin 128) :
    turned x (fun j => cosTable (ix2 t j)) (fun j => sinTable (ix2 t j)) d = rotated x t d := by
  unfold turned rotated
  beta_reduce
  rw [cosTable_apply, sinTable_apply]
  by_cases h : (d : ℕ) % 64 < 32
  · simp only [if_pos h, mul_neg, sub_eq_add_neg]
  · simp only [if_neg h]

variable (m : (ℓ : Loc nD τ sig) → Buf (Elt Ideal) ℓ)

theorem cosTable_eq (c : Dev nD) : (V m c main_v36 : FVec Ideal S4096x128 .f32) = cosTable := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

theorem sinTable_eq (c : Dev nD) : (V m c main_v43 : FVec Ideal S4096x128 .f32) = sinTable := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

/-! ## The other arrays the host prepares -/

theorem tokens_eq (c : Dev nD) : (V m c main_v0 : FVec Ideal S16384x1024 .f32) = shapeCast S16384x1024 (m ((c : Thread nD τ).loc main_arg0)) shapeCasts_S4x4096x1024_S16384x1024 := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

theorem shift_eq (c : Dev nD) : (V m c main_v8 : FVec Ideal S8x1x1024 .f32) = shapeCast S8x1x1024 (extractStridedSlice S1x8x1x1024 ![0, 0, 0, 0] (m ((c : Thread nD τ).loc main_arg1)) slices_S6x8x1x1024_S1x8x1x1024_0_0_0_0) shapeCasts_S1x8x1x1024_S8x1x1024 := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

theorem scale_eq (c : Dev nD) : (V m c main_v10 : FVec Ideal S8x1x1024 .f32) = shapeCast S8x1x1024 (extractStridedSlice S1x8x1x1024 ![1, 0, 0, 0] (m ((c : Thread nD τ).loc main_arg1)) slices_S6x8x1x1024_S1x8x1x1024_1_0_0_0) shapeCasts_S1x8x1x1024_S8x1x1024 := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

theorem weights_eq (c : Dev nD) : (V m c main_v2 : FVec Ideal S1024x1536 .bf16) = truncf .bf16 (shapeCast S1024x1536 (m ((c : Thread nD τ).loc main_arg2)) shapeCasts_S1x1024x1536_S1024x1536 : FVec Ideal S1024x1536 .f32) bitsLt_bf16_f32 := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

theorem qgain_eq (c : Dev nD) : (V m c main_v4 : FVec Ideal S1x128 .f32) = shapeCast S1x128 (shapeCast S128 (m ((c : Thread nD τ).loc main_arg3)) shapeCasts_S1x128_S128) shapeCasts_S128_S1x128 := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

theorem kgain_eq (c : Dev nD) : (V m c main_v6 : FVec Ideal S1x128 .f32) = shapeCast S1x128 (shapeCast S128 (m ((c : Thread nD τ).loc main_arg4)) shapeCasts_S1x128_S128) shapeCasts_S128_S1x128 := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

end Cert.Latent6

end
-- ==== Proof.RotaryValue.lean ====
/-
  The first layer's projection of the latents: the queries, keys and transposed values it leaves, at an index, from the arguments.
-/
module

public import proofs.«01_k».proof.Proof.RotaryTables

@[expose] public section

set_option maxRecDepth 16384

noncomputable section

open Idealize.ShloMosaic Idealize.ShloMosaic.TcCoe Idealize.SL.Sem
open Idealize.ShloMosaic.Pipeline (Dat)
open Cert.Context3 (dot modulated headNorm)

namespace Cert.Latent6

open Cert.RotaryIdeal Cert.RotaryIdeal.Gen

/-- The arguments of the projection. -/
structure Inputs where
  x : Vec Ideal S4x4096x1024 .f32
  mods : Vec Ideal S6x8x1x1024 .f32
  w : Vec Ideal S1x1024x1536 .f32
  qgain : Vec Ideal S1x128 .f32
  kgain : Vec Ideal S1x128 .f32

/-- Entry `e` of token `t` of sequence `b` projected; sequence `b` takes the modulations of group `1 + b`. -/
def Inputs.proj (I : Inputs) (b : Fin 4) (t : Fin 4096) (e : Fin 1536) : EReal :=
  dot (modulated (fun k => I.x (ix3 b t k)) (fun k => I.mods (ix4 1 ⟨1 + b, by omega⟩ 0 k)) (fun k => I.mods (ix4 0 ⟨1 + b, by omega⟩ 0 k)))
    (fun k => I.w (ix3 0 k e))

/-- The queries of a token, scaled for a softmax to base two; its keys; its values. -/
def Inputs.query (I : Inputs) (b : Fin 4) (t : Fin 4096) (h : Fin 8) (d : Fin 128) : EReal :=
  rotated (headNorm (fun j => I.proj b t ⟨h * 128 + j, by omega⟩) (fun j => I.qgain (ix2 0 j))) t d * Ideal.ofBits .f32 0x3E0293EE#32
def Inputs.key (I : Inputs) (b : Fin 4) (t : Fin 4096) (h : Fin 2) (d : Fin 128) : EReal :=
  rotated (headNorm (fun j => I.proj b t ⟨1024 + (h * 128 + j), by omega⟩) (fun j => I.kgain (ix2 0 j))) t d
def Inputs.value (I : Inputs) (b : Fin 4) (t : Fin 4096) (e : Fin 256) : EReal := I.proj b t ⟨1280 + e, by omega⟩

/-- The same at an index of the arrays the call leaves. -/
def Inputs.queries (I : Inputs) (i : S16384x1024.Idx) : EReal :=
  have l0 : (i 0 : ℕ) < 16384 := (i 0).isLt
  have l1 : (i 1 : ℕ) < 1024 := (i 1).isLt
  I.query ⟨(i 0 : ℕ) / 4096, by omega⟩ ⟨(i 0 : ℕ) % 4096, by omega⟩ ⟨(i 1 : ℕ) / 128, by omega⟩ ⟨(i 1 : ℕ) % 128, by omega⟩
def Inputs.keys (I : Inputs) (i : S16384x256.Idx) : EReal :=
  have l0 : (i 0 : ℕ) < 16384 := (i 0).isLt
  have l1 : (i 1 : ℕ) < 256 := (i 1).isLt
  I.key ⟨(i 0 : ℕ) / 4096, by omega⟩ ⟨(i 0 : ℕ) % 4096, by omega⟩ ⟨(i 1 : ℕ) / 128, by omega⟩ ⟨(i 1 : ℕ) % 128, by omega⟩
def Inputs.values (I : Inputs) (i : S256x16384.Idx) : EReal :=
  have l0 : (i 0 : ℕ) < 256 := (i 0).isLt
  have l1 : (i 1 : ℕ) < 16384 := (i 1).isLt
  I.value ⟨(i 1 : ℕ) / 4096, by omega⟩ ⟨(i 1 : ℕ) % 4096, by omega⟩ ⟨(i 0 : ℕ), by omega⟩

variable (m : (ℓ : Loc nD τ sig) → Buf (Elt Ideal) ℓ)

/-- The arguments as the kernel finds them. -/
def inputs (c : Dev nD) : Inputs :=
  ⟨m ((c : Thread nD τ).loc main_arg0), m ((c : Thread nD τ).loc main_arg1), m ((c : Thread nD τ).loc main_arg2), m ((c : Thread nD τ).loc main_arg3),
    m ((c : Thread nD τ).loc main_arg4)⟩

theorem idx : ∀ t : Fin cfg0.N, win0_0.index t = ![t.val, 0] ∧ win0_1.index t = ![1 + t.val / 8, 0, 0] ∧ win0_2.index t = ![1 + t.val / 8, 0, 0]
    ∧ win0_3.index t = ![0, 0] ∧ win0_4.index t = ![0, 0] ∧ win0_5.index t = ![0, 0] ∧ win0_6.index t = ![t.val % 8, 0] ∧ win0_7.index t = ![t.val % 8, 0]
    ∧ win0_8.index t = ![t.val, 0] ∧ win0_9.index t = ![t.val, 0] ∧ win0_10.index t = ![0, t.val] :=
  (by decide +kernel : ∀ t : Fin grid0.N, _)

theorem lt_points (t : Fin cfg0.N) : t.val < 32 := lt_of_lt_of_eq t.isLt (by decide +kernel)

/-- Token `s` of all in its sequence: the sequence and the place. -/
def seqOf (s : Fin 16384) : Fin 4 := ⟨(s : ℕ) / 4096, by omega⟩
def placeOf (s : Fin 16384) : Fin 4096 := ⟨(s : ℕ) % 4096, by omega⟩

theorem flat_apply (x : FVec Ideal S4x4096x1024 .f32) (s : Fin 16384) (k : Fin 1024) :
    shapeCast S16384x1024 x shapeCasts_S4x4096x1024_S16384x1024 (ix2 s k) = x (ix3 (seqOf s) (placeOf s) k) := by
  unfold seqOf placeOf
  pointwise

theorem weight_apply (w : FVec Ideal S1x1024x1536 .f32) (k : Fin 1024) (e : Fin 1536) :
    truncf .bf16 (shapeCast S1024x1536 w shapeCasts_S1x1024x1536_S1024x1536 : FVec Ideal S1024x1536 .f32) bitsLt_bf16_f32 (ix2 k e) = w (ix3 0 k e) := by
  pointwise

theorem b0 (c : Dev nD) (t : Fin cfg0.N) (r : Fin 512) (k : Fin 1024) (s : Fin 16384) (hs : (s : ℕ) = t.val * 512 + r) :
    iblk m c 0 t (ix2 r k) = (inputs m c).x (ix3 (seqOf s) (placeOf s) k) := by
  refine Eq.trans (b := (V m c main_v0 : FVec Ideal S16384x1024 .f32) (ix2 s k)) ?_ ((congrFun (tokens_eq m c) _).trans ?_)
  · blk_simp [iblk, idx t]
    blk_ext [idx t]
  · exact flat_apply _ s k

theorem b1 (c : Dev nD) (t : Fin cfg0.N) (k : Fin 1024) (b : Fin 8) (hb : (b : ℕ) = 1 + t.val / 8) :
    iblk m c 1 t (ix3 0 0 k) = (inputs m c).mods (ix4 0 b 0 k) := by
  refine Eq.trans (b := (V m c main_v8 : FVec Ideal S8x1x1024 .f32) (ix3 b 0 k)) ?_ ((congrFun (shift_eq m c) _).trans ?_)
  · blk_simp [iblk, idx t]
    blk_ext [idx t]
  · unfold inputs
    pointwise

theorem b2 (c : Dev nD) (t : Fin cfg0.N) (k : Fin 1024) (b : Fin 8) (hb : (b : ℕ) = 1 + t.val / 8) :
    iblk m c 2 t (ix3 0 0 k) = (inputs m c).mods (ix4 1 b 0 k) := by
  refine Eq.trans (b := (V m c main_v10 : FVec Ideal S8x1x1024 .f32) (ix3 b 0 k)) ?_ ((congrFun (scale_eq m c) _).trans ?_)
  · blk_simp [iblk, idx t]
    blk_ext [idx t]
  · unfold inputs
    pointwise

theorem b3 (c : Dev nD) (t : Fin cfg0.N) (k : Fin 1024) (e : Fin 1536) :
    iblk m c 3 t (ix2 k e) = (inputs m c).w (ix3 0 k e) := by
  refine Eq.trans (b := (V m c main_v2 : FVec Ideal S1024x1536 .bf16) (ix2 k e)) ?_ ((congrFun (weights_eq m c) _).trans ?_)
  · blk_simp [iblk, idx t]
    blk_ext [idx t]
  · exact weight_apply _ k e

theorem b4 (c : Dev nD) (t : Fin cfg0.N) (k : Fin 128) : iblk m c 4 t (ix2 0 k) = (inputs m c).qgain (ix2 0 k) := by
  refine Eq.trans (b := (V m c main_v4 : FVec Ideal S1x128 .f32) (ix2 0 k)) ?_ ((congrFun (qgain_eq m c) _).trans ?_)
  · blk_simp [iblk, idx t]
    blk_ext [idx t]
  · unfold inputs
    pointwise

theorem b5 (c : Dev nD) (t : Fin cfg0.N) (k : Fin 128) : iblk m c 5 t (ix2 0 k) = (inputs m c).kgain (ix2 0 k) := by
  refine Eq.trans (b := (V m c main_v6 : FVec Ideal S1x128 .f32) (ix2 0 k)) ?_ ((congrFun (kgain_eq m c) _).trans ?_)
  · blk_simp [iblk, idx t]
    blk_ext [idx t]
  · unfold inputs
    pointwise

theorem b6 (c : Dev nD) (t : Fin cfg0.N) (r : Fin 512) (k : Fin 128) (s : Fin 16384) (hs : (s : ℕ) = t.val * 512 + r) :
    iblk m c 6 t (ix2 r k) = cosTable (ix2 (placeOf s) k) := by
  rw [← cosTable_eq m c]
  unfold placeOf
  blk_simp [iblk, idx t]
  blk_ext [idx t]

theorem b7 (c : Dev nD) (t : Fin cfg0.N) (r : Fin 512) (k : Fin 128) (s : Fin 16384) (hs : (s : ℕ) = t.val * 512 + r) :
    iblk m c 7 t (ix2 r k) = sinTable (ix2 (placeOf s) k) := by
  rw [← sinTable_eq m c]
  unfold placeOf
  blk_simp [iblk, idx t]
  blk_ext [idx t]

theorem cell_eq (c : Dev nD) (t : Fin cfg0.N) (r : Fin 512) (e : Fin 1536) (s : Fin 16384) (hs : (s : ℕ) = t.val * 512 + r) :
    cell (iblk m c 0 t) (iblk m c 1 t) (iblk m c 2 t) (iblk m c 3 t) r e = (inputs m c).proj (seqOf s) (placeOf s) e := by
  unfold cell Inputs.proj
  have hb : 1 + (seqOf s : ℕ) = 1 + t.val / 8 := by show 1 + (s : ℕ) / 4096 = 1 + t.val / 8; omega
  simp only [b0 m c t r _ s hs, b1 m c t _ ⟨1 + seqOf s, by omega⟩ hb, b2 m c t _ ⟨1 + seqOf s, by omega⟩ hb, b3]

theorem turn_eq (c : Dev nD) (t : Fin cfg0.N) (r : Fin 512) (s : Fin 16384) (hs : (s : ℕ) = t.val * 512 + r) (x : Fin 128 → EReal) (d : Fin 128) :
    turned x (fun j => iblk m c 6 t (ix2 r j)) (fun j => iblk m c 7 t (ix2 r j)) d = rotated x (placeOf s) d := by
  simp only [b6 m c t r _ s hs, b7 m c t r _ s hs]
  exact turned_tables x (placeOf s) d

theorem final8 (c : Dev nD) : (dats m 0 c).arrAt 8 (cfgs 0).N = (inputs m c).queries := by
  refine (dats m 0 c).arrAt_eq_of_covers 8 _ (by decide +kernel) fun t _ y => ?_
  obtain ⟨r, e, rfl⟩ : ∃ (r : Fin 512) (e : Fin 1024), y = ix2 r e :=
    ⟨y (0 : Fin 2), y (1 : Fin 2), by funext a; fin_cases a <;> rfl⟩
  have lt := lt_points t
  have eR : ((cfg0.win 8).blk t).view.emb (ix2 r e) = (ix2 (⟨t.val * 512 + r, by omega⟩ : Fin 16384) e : S16384x1024.Idx) := by
    funext d
    refine Fin.ext (((cfg0.win 8).rect_emb_val t _ d rfl).trans ?_)
    rw [show (cfg0.win 8).index t = ![t.val, 0] from (idx t).2.2.2.2.2.2.2.2.1]
    fin_cases d
    · rfl
    · exact Nat.zero_add _
  rw [after0_8]
  refine Eq.trans ?_ (congrArg (inputs m c).queries eR.symm)
  refine Eq.trans (cast_eq _ _) ?_
  refine (out8_apply _ _ _ _ _ _ _ _ (ix2 r e) r ⟨(e : ℕ) / 128, by omega⟩ ⟨(e : ℕ) % 128, by omega⟩ rfl
    (by show (e : ℕ) = (e : ℕ) / 128 * 128 + (e : ℕ) % 128; omega)).trans ?_
  refine congrArg (· * Ideal.ofBits .f32 0x3E0293EE#32) ((turn_eq m c t r ⟨t.val * 512 + r, by omega⟩ rfl _ _).trans ?_)
  unfold headAt
  simp only [cell_eq m c t r _ ⟨t.val * 512 + r, by omega⟩ rfl, b4]
  rfl

theorem final9 (c : Dev nD) : (dats m 0 c).arrAt 9 (cfgs 0).N = (inputs m c).keys := by
  refine (dats m 0 c).arrAt_eq_of_covers 9 _ (by decide +kernel) fun t _ y => ?_
  obtain ⟨r, e, rfl⟩ : ∃ (r : Fin 512) (e : Fin 256), y = ix2 r e :=
    ⟨y (0 : Fin 2), y (1 : Fin 2), by funext a; fin_cases a <;> rfl⟩
  have lt := lt_points t
  have eR : ((cfg0.win 9).blk t).view.emb (ix2 r e) = (ix2 (⟨t.val * 512 + r, by omega⟩ : Fin 16384) e : S16384x256.Idx) := by
    funext d
    refine Fin.ext (((cfg0.win 9).rect_emb_val t _ d rfl).trans ?_)
    rw [show (cfg0.win 9).index t = ![t.val, 0] from (idx t).2.2.2.2.2.2.2.2.2.1]
    fin_cases d
    · rfl
    · exact Nat.zero_add _
  rw [after0_9]
  refine Eq.trans ?_ (congrArg (inputs m c).keys eR.symm)
  refine Eq.trans (cast_eq _ _) ?_
  refine (out9_apply _ _ _ _ _ _ _ _ (ix2 r e) r ⟨8 + (e : ℕ) / 128, by omega⟩ ⟨(e : ℕ) % 128, by omega⟩ rfl
    (by show 1024 + (e : ℕ) = (8 + (e : ℕ) / 128) * 128 + (e : ℕ) % 128; omega)).trans ?_
  refine (turn_eq m c t r ⟨t.val * 512 + r, by omega⟩ rfl _ _).trans ?_
  unfold headAt
  simp only [cell_eq m c t r _ ⟨t.val * 512 + r, by omega⟩ rfl, b5]
  refine congrArg (fun x => rotated (headNorm x _) _ _) (funext fun j => congrArg _ (Fin.ext ?_))
  show (8 + (e : ℕ) / 128) * 128 + (j : ℕ) = 1024 + ((e : ℕ) / 128 * 128 + j)
  omega

theorem final10 (c : Dev nD) : (dats m 0 c).arrAt 10 (cfgs 0).N = (inputs m c).values := by
  refine (dats m 0 c).arrAt_eq_of_covers 10 _ (by decide +kernel) fun t _ y => ?_
  obtain ⟨e, r, rfl⟩ : ∃ (e : Fin 256) (r : Fin 512), y = ix2 e r :=
    ⟨y (0 : Fin 2), y (1 : Fin 2), by funext a; fin_cases a <;> rfl⟩
  have lt := lt_points t
  have eR : ((cfg0.win 10).blk t).view.emb (ix2 e r) = (ix2 e (⟨t.val * 512 + r, by omega⟩ : Fin 16384) : S256x16384.Idx) := by
    funext d
    refine Fin.ext (((cfg0.win 10).rect_emb_val t _ d rfl).trans ?_)
    rw [show (cfg0.win 10).index t = ![0, t.val] from (idx t).2.2.2.2.2.2.2.2.2.2]
    fin_cases d
    · exact Nat.zero_add _
    · rfl
  rw [after0_10]
  refine Eq.trans ?_ (congrArg (inputs m c).values eR.symm)
  refine Eq.trans (cast_eq _ _) ?_
  refine (out10_apply _ _ _ _ _ _ _ _ (ix2 e r) r ⟨1280 + e, by omega⟩ rfl rfl).trans ?_
  exact cell_eq m c t r _ ⟨t.val * 512 + r, by omega⟩ rfl

end Cert.Latent6

end
-- ==== Proof.RotaryPlain.lean ====
/-
  The plain projection of the latents in the first layer, its norms and its rotation, at an index from the arguments; the
  claim that the kernel's is the same.
-/
module

public import proofs.«01_k».proof.Defs
public import proofs.«01_k».proof.Proof.RotaryValue
public import proofs.«01_k».proof.Proof.Gen.PlainRotaryIdeal.Run
public import Idealize.ShloMosaic.Lib.ValueIdxRank6

@[expose] public section

set_option maxRecDepth 16384

noncomputable section

open Idealize.ShloMosaic Idealize.ShloMosaic.TcCoe Idealize.SL.Sem
open Cert.Context3 (dot modulated headNorm)

namespace Cert.Latent6

section Plain

open Idealize.ShloMosaic.StableHlo Cert.PlainRotaryIdeal Cert.PlainRotaryIdeal.Gen Cert.PlainRotaryIdeal.Value

/-- One of six modulations, for the four sequences. -/
def pick (i : Fin 6) (h : S6x8x1x1024.Slices ![(i : ℕ), 1, 0, 0] S1x4x1x1024) (a : FVec Ideal S6x8x1x1024 .f32) : FVec Ideal S4x1x1024 .f32 :=
  shapeCast S4x1x1024 (extractStridedSlice S1x4x1x1024 ![(i : ℕ), 1, 0, 0] a h) shapeCasts_S1x4x1x1024_S4x1x1024

def modul (x : FVec Ideal S4x4096x1024 .f32) (sh sc : FVec Ideal S4x1x1024 .f32) : FVec Ideal S4x4096x1024 .f32 :=
  addf (mulf x (broadcastInDim S4x4096x1024 ![0, 1, 2] bcast_S4x1x1024_S4x4096x1024_0_1_2 (addf (broadcastInDim S4x1x1024 ![] bcast_S_S4x1x1024 (constant S_ .f32 0x3F800000#32)) sc)))
    (broadcastInDim S4x4096x1024 ![0, 1, 2] bcast_S4x1x1024_S4x4096x1024_0_1_2 sh)

def projected (I : Inputs) : FVec Ideal S4x4096x1536 .f32 :=
  Host.dotGeneral (φ₁ := .f32) (φ₂ := .f32) dot_S4x4096x1024_S1024x1536_S4x4096x1536_2_0_01_1_n_n none
    (modul I.x (pick 0 slices_S6x8x1x1024_S1x4x1x1024_0_1_0_0 I.mods) (pick 1 slices_S6x8x1x1024_S1x4x1x1024_1_1_0_0 I.mods))
    (shapeCast S1024x1536 I.w shapeCasts_S1x1024x1536_S1024x1536)

def queryHeads (u : FVec Ideal S4x4096x1536 .f32) : FVec Ideal S4x4096x8x128 .f32 :=
  shapeCast S4x4096x8x128 (extractStridedSlice S4x4096x1024 ![0, 0, 0] u slices_S4x4096x1536_S4x4096x1024_0_0_0) shapeCasts_S4x4096x1024_S4x4096x8x128

def keyHeads (u : FVec Ideal S4x4096x1536 .f32) : FVec Ideal S4x4096x2x128 .f32 :=
  shapeCast S4x4096x2x128 (extractStridedSlice S4x4096x256 ![0, 0, 1024] u slices_S4x4096x1536_S4x4096x256_0_0_1024) shapeCasts_S4x4096x256_S4x4096x2x128

/-- Heads over the roots of their mean squares, times the gain. -/
def queriesNormed (x : FVec Ideal S4x4096x8x128 .f32) (g : FVec Ideal S1x128 .f32) : FVec Ideal S4x4096x8x128 .f32 :=
  mulf (mulf x (broadcastInDim S4x4096x8x128 ![0, 1, 2, 3] bcast_S4x4096x8x1_S4x4096x8x128_0_1_2_3 (Host.rsqrt (addf (Host.divf
    (broadcastInDim S4x4096x8x1 ![0, 1, 2] bcast_S4x4096x8_S4x4096x8x1_0_1_2 (Host.reduceAdd (mulf x x) (constant S_ .f32 0x00000000#32) reducesTo_S4x4096x8x128_S4x4096x8_d3 h_S_))
    (broadcastInDim S4x4096x8x1 ![] bcast_S_S4x4096x8x1 (constant S_ .f32 0x43000000#32))) (broadcastInDim S4x4096x8x1 ![] bcast_S_S4x4096x8x1 (constant S_ .f32 0x358637BD#32))))))
    (broadcastInDim S4x4096x8x128 ![0, 1, 2, 3] bcast_S1x1x1x128_S4x4096x8x128_0_1_2_3 (broadcastInDim S1x1x1x128 ![3] bcast_S128_S1x1x1x128_3 (shapeCast S128 g shapeCasts_S1x128_S128)))

def keysNormed (x : FVec Ideal S4x4096x2x128 .f32) (g : FVec Ideal S1x128 .f32) : FVec Ideal S4x4096x2x128 .f32 :=
  mulf (mulf x (broadcastInDim S4x4096x2x128 ![0, 1, 2, 3] bcast_S4x4096x2x1_S4x4096x2x128_0_1_2_3 (Host.rsqrt (addf (Host.divf
    (broadcastInDim S4x4096x2x1 ![0, 1, 2] bcast_S4x4096x2_S4x4096x2x1_0_1_2 (Host.reduceAdd (mulf x x) (constant S_ .f32 0x00000000#32) reducesTo_S4x4096x2x128_S4x4096x2_d3 h_S_))
    (broadcastInDim S4x4096x2x1 ![] bcast_S_S4x4096x2x1 (constant S_ .f32 0x43000000#32))) (broadcastInDim S4x4096x2x1 ![] bcast_S_S4x4096x2x1 (constant S_ .f32 0x358637BD#32))))))
    (broadcastInDim S4x4096x2x128 ![0, 1, 2, 3] bcast_S1x1x1x128_S4x4096x2x128_0_1_2_3 (broadcastInDim S1x1x1x128 ![3] bcast_S128_S1x1x1x128_3 (shapeCast S128 g shapeCasts_S1x128_S128)))

/-- The angles of a token on both axes. -/
def anglePair : FVec Ideal S4096x2x32 .f32 :=
  concatenate S4096x2x32 1 [⟨S4096x1x32, broadcastInDim S4096x1x32 ![0, 2] bcast_S4096x32_S4096x1x32_0_2 (angles rowOf)⟩,
    ⟨S4096x1x32, broadcastInDim S4096x1x32 ![0, 2] bcast_S4096x32_S4096x1x32_0_2 (angles colOf)⟩] concatenates_S4096x1x32_S4096x1x32_S4096x2x32_d1

/-- The first and the second 32 lanes of each half of the heads. -/
def query0 (x : FVec Ideal S4x4096x8x128 .f32) : FVec Ideal S4x4096x8x2x32 .f32 :=
  shapeCast S4x4096x8x2x32 (extractStridedSlice S4x4096x8x2x1x32 ![0, 0, 0, 0, 0, 0] (shapeCast S4x4096x8x2x2x32 x shapeCasts_S4x4096x8x128_S4x4096x8x2x2x32)
    slices_S4x4096x8x2x2x32_S4x4096x8x2x1x32_0_0_0_0_0_0) shapeCasts_S4x4096x8x2x1x32_S4x4096x8x2x32
def query1 (x : FVec Ideal S4x4096x8x128 .f32) : FVec Ideal S4x4096x8x2x32 .f32 :=
  shapeCast S4x4096x8x2x32 (extractStridedSlice S4x4096x8x2x1x32 ![0, 0, 0, 0, 1, 0] (shapeCast S4x4096x8x2x2x32 x shapeCasts_S4x4096x8x128_S4x4096x8x2x2x32)
    slices_S4x4096x8x2x2x32_S4x4096x8x2x1x32_0_0_0_0_1_0) shapeCasts_S4x4096x8x2x1x32_S4x4096x8x2x32
def key0 (x : FVec Ideal S4x4096x2x128 .f32) : FVec Ideal S4x4096x2x2x32 .f32 :=
  shapeCast S4x4096x2x2x32 (extractStridedSlice S4x4096x2x2x1x32 ![0, 0, 0, 0, 0, 0] (shapeCast S4x4096x2x2x2x32 x shapeCasts_S4x4096x2x128_S4x4096x2x2x2x32)
    slices_S4x4096x2x2x2x32_S4x4096x2x2x1x32_0_0_0_0_0_0) shapeCasts_S4x4096x2x2x1x32_S4x4096x2x2x32
def key1 (x : FVec Ideal S4x4096x2x128 .f32) : FVec Ideal S4x4096x2x2x32 .f32 :=
  shapeCast S4x4096x2x2x32 (extractStridedSlice S4x4096x2x2x1x32 ![0, 0, 0, 0, 1, 0] (shapeCast S4x4096x2x2x2x32 x shapeCasts_S4x4096x2x128_S4x4096x2x2x2x32)
    slices_S4x4096x2x2x2x32_S4x4096x2x2x1x32_0_0_0_0_1_0) shapeCasts_S4x4096x2x2x1x32_S4x4096x2x2x32

/-- A table for every sequence and head. -/
def forQueries (a : FVec Ideal S4096x2x32 .f32) : FVec Ideal S4x4096x8x2x32 .f32 :=
  broadcastInDim S4x4096x8x2x32 ![0, 1, 2, 3, 4] bcast_S1x4096x1x2x32_S4x4096x8x2x32_0_1_2_3_4 (broadcastInDim S1x4096x1x2x32 ![1, 3, 4] bcast_S4096x2x32_S1x4096x1x2x32_1_3_4 a)
def forKeys (a : FVec Ideal S4096x2x32 .f32) : FVec Ideal S4x4096x2x2x32 .f32 :=
  broadcastInDim S4x4096x2x2x32 ![0, 1, 2, 3, 4] bcast_S1x4096x1x2x32_S4x4096x2x2x32_0_1_2_3_4 (broadcastInDim S1x4096x1x2x32 ![1, 3, 4] bcast_S4096x2x32_S1x4096x1x2x32_1_3_4 a)

/-- The two halves of 32 lanes put back. -/
def queryBack (a b : FVec Ideal S4x4096x8x2x32 .f32) : FVec Ideal S4x4096x8x128 .f32 :=
  shapeCast S4x4096x8x128 (concatenate S4x4096x8x2x2x32 4 [⟨S4x4096x8x2x1x32, broadcastInDim S4x4096x8x2x1x32 ![0, 1, 2, 3, 5] bcast_S4x4096x8x2x32_S4x4096x8x2x1x32_0_1_2_3_5 a⟩,
    ⟨S4x4096x8x2x1x32, broadcastInDim S4x4096x8x2x1x32 ![0, 1, 2, 3, 5] bcast_S4x4096x8x2x32_S4x4096x8x2x1x32_0_1_2_3_5 b⟩]
    concatenates_S4x4096x8x2x1x32_S4x4096x8x2x1x32_S4x4096x8x2x2x32_d4) shapeCasts_S4x4096x8x2x2x32_S4x4096x8x128
def keyBack (a b : FVec Ideal S4x4096x2x2x32 .f32) : FVec Ideal S4x4096x2x128 .f32 :=
  shapeCast S4x4096x2x128 (concatenate S4x4096x2x2x2x32 4 [⟨S4x4096x2x2x1x32, broadcastInDim S4x4096x2x2x1x32 ![0, 1, 2, 3, 5] bcast_S4x4096x2x2x32_S4x4096x2x2x1x32_0_1_2_3_5 a⟩,
    ⟨S4x4096x2x2x1x32, broadcastInDim S4x4096x2x2x1x32 ![0, 1, 2, 3, 5] bcast_S4x4096x2x2x32_S4x4096x2x2x1x32_0_1_2_3_5 b⟩]
    concatenates_S4x4096x2x2x1x32_S4x4096x2x2x1x32_S4x4096x2x2x2x32_d4) shapeCasts_S4x4096x2x2x2x32_S4x4096x2x128

def queriesTurned (x : FVec Ideal S4x4096x8x128 .f32) : FVec Ideal S4x4096x8x128 .f32 :=
  queryBack (subf (mulf (query0 x) (forQueries (Host.cos anglePair))) (mulf (query1 x) (forQueries (Host.sin anglePair))))
    (addf (mulf (query1 x) (forQueries (Host.cos anglePair))) (mulf (query0 x) (forQueries (Host.sin anglePair))))
def keysTurned (x : FVec Ideal S4x4096x2x128 .f32) : FVec Ideal S4x4096x2x128 .f32 :=
  keyBack (subf (mulf (key0 x) (forKeys (Host.cos anglePair))) (mulf (key1 x) (forKeys (Host.sin anglePair))))
    (addf (mulf (key1 x) (forKeys (Host.cos anglePair))) (mulf (key0 x) (forKeys (Host.sin anglePair))))

/-- The results as they are returned. -/
def plainQuery (x : FVec Ideal S4x4096x8x128 .f32) : FVec Ideal S16384x1024 .bf16 :=
  truncf .bf16 (shapeCast S16384x1024 (mulf x (broadcastInDim S4x4096x8x128 ![] bcast_S_S4x4096x8x128 (constant S_ .f32 0x3E0293EE#32))) shapeCasts_S4x4096x8x128_S16384x1024) bitsLt_bf16_f32
def plainKey (x : FVec Ideal S4x4096x2x128 .f32) : FVec Ideal S16384x256 .bf16 :=
  truncf .bf16 (shapeCast S16384x256 x shapeCasts_S4x4096x2x128_S16384x256) bitsLt_bf16_f32
def plainValue (u : FVec Ideal S4x4096x1536 .f32) : FVec Ideal S256x16384 .bf16 :=
  truncf .bf16 (transpose S256x16384 [1, 0] (shapeCast S16384x256 (shapeCast S4x4096x2x128 (extractStridedSlice S4x4096x256 ![0, 0, 1280] u slices_S4x4096x1536_S4x4096x256_0_0_1280)
    shapeCasts_S4x4096x256_S4x4096x2x128) shapeCasts_S4x4096x2x128_S16384x256) transposes_S16384x256_S256x16384_1_0) bitsLt_bf16_f32

theorem pick_apply (i : Fin 6) (h : S6x8x1x1024.Slices ![(i : ℕ), 1, 0, 0] S1x4x1x1024) (a : FVec Ideal S6x8x1x1024 .f32) (b : Fin 4) (j : Fin 1024) :
    pick i h a (ix3 b 0 j) = a (ix4 i ⟨1 + b, by omega⟩ 0 j) := by
  unfold pick
  pointwise

theorem modul_apply (x : FVec Ideal S4x4096x1024 .f32) (sh sc : FVec Ideal S4x1x1024 .f32) (b : Fin 4) (t : Fin 4096) (j : Fin 1024) :
    modul x sh sc (ix3 b t j) = modulated (fun k => x (ix3 b t k)) (fun k => sc (ix3 b 0 k)) (fun k => sh (ix3 b 0 k)) j := by
  unfold modul modulated
  pointwise

theorem projected_apply (I : Inputs) (b : Fin 4) (t : Fin 4096) (e : Fin 1536) : projected I (ix3 b t e) = I.proj b t e := by
  unfold projected Inputs.proj dot
  simp only [← pick_apply 0 slices_S6x8x1x1024_S1x4x1x1024_0_1_0_0 I.mods b, ← pick_apply 1 slices_S6x8x1x1024_S1x4x1x1024_1_1_0_0 I.mods b]
  pointwise
  simp only [modul_apply]

theorem queryHeads_apply (u : FVec Ideal S4x4096x1536 .f32) (b : Fin 4) (t : Fin 4096) (h : Fin 8) (d : Fin 128) :
    queryHeads u (ix4 b t h d) = u (ix3 b t ⟨h * 128 + d, by omega⟩) := by
  unfold queryHeads
  pointwise

theorem keyHeads_apply (u : FVec Ideal S4x4096x1536 .f32) (b : Fin 4) (t : Fin 4096) (h : Fin 2) (d : Fin 128) :
    keyHeads u (ix4 b t h d) = u (ix3 b t ⟨1024 + (h * 128 + d), by omega⟩) := by
  unfold keyHeads
  pointwise

theorem queriesNormed_apply (x : FVec Ideal S4x4096x8x128 .f32) (g : FVec Ideal S1x128 .f32) (b : Fin 4) (t : Fin 4096) (h : Fin 8) (d : Fin 128) :
    queriesNormed x g (ix4 b t h d) = headNorm (fun j => x (ix4 b t h j)) (fun j => g (ix2 0 j)) d := by
  unfold queriesNormed headNorm
  pointwise

theorem keysNormed_apply (x : FVec Ideal S4x4096x2x128 .f32) (g : FVec Ideal S1x128 .f32) (b : Fin 4) (t : Fin 4096) (h : Fin 2) (d : Fin 128) :
    keysNormed x g (ix4 b t h d) = headNorm (fun j => x (ix4 b t h j)) (fun j => g (ix2 0 j)) d := by
  unfold keysNormed headNorm
  pointwise

theorem anglePair_apply (t : Fin 4096) (g : Fin 2) (f : Fin 32) : anglePair (ix3 t g f) = angle t g f := by
  unfold anglePair angle
  generalize angles rowOf = p
  generalize angles colOf = q
  pointwise
  by_cases h : g = 0
  · rw [if_pos h, dif_pos (by rw [h]; exact Nat.one_pos)]
  · rw [if_neg h, dif_neg (fun l => h (Fin.ext (Nat.lt_one_iff.mp l)))]

theorem query0_apply (x : FVec Ideal S4x4096x8x128 .f32) (b : Fin 4) (t : Fin 4096) (h : Fin 8) (g : Fin 2) (f : Fin 32) :
    query0 x (ix5 b t h g f) = x (ix4 b t h ⟨g * 64 + f, by omega⟩) := by
  unfold query0
  pointwise

theorem query1_apply (x : FVec Ideal S4x4096x8x128 .f32) (b : Fin 4) (t : Fin 4096) (h : Fin 8) (g : Fin 2) (f : Fin 32) :
    query1 x (ix5 b t h g f) = x (ix4 b t h ⟨g * 64 + 32 + f, by omega⟩) := by
  unfold query1
  pointwise

theorem forQueries_apply (a : FVec Ideal S4096x2x32 .f32) (b : Fin 4) (t : Fin 4096) (h : Fin 8) (g : Fin 2) (f : Fin 32) :
    forQueries a (ix5 b t h g f) = a (ix3 t g f) := by
  unfold forQueries
  pointwise

theorem queryBack_apply (u v : FVec Ideal S4x4096x8x2x32 .f32) (b : Fin 4) (t : Fin 4096) (h : Fin 8) (d : Fin 128) :
    queryBack u v (ix4 b t h d) = if (d : ℕ) % 64 < 32 then u (ix5 b t h ⟨(d : ℕ) / 64, by omega⟩ ⟨(d : ℕ) % 32, by omega⟩)
      else v (ix5 b t h ⟨(d : ℕ) / 64, by omega⟩ ⟨(d : ℕ) % 32, by omega⟩) := by
  unfold queryBack
  pointwise
  by_cases h : (d : ℕ) % 64 < 32
  · rw [if_pos h, dif_pos (by omega)]
  · rw [if_neg h, dif_neg (by omega)]

theorem key0_apply (x : FVec Ideal S4x4096x2x128 .f32) (b : Fin 4) (t : Fin 4096) (h : Fin 2) (g : Fin 2) (f : Fin 32) :
    key0 x (ix5 b t h g f) = x (ix4 b t h ⟨g * 64 + f, by omega⟩) := by
  unfold key0
  pointwise

theorem key1_apply (x : FVec Ideal S4x4096x2x128 .f32) (b : Fin 4) (t : Fin 4096) (h : Fin 2) (g : Fin 2) (f : Fin 32) :
    key1 x (ix5 b t h g f) = x (ix4 b t h ⟨g * 64 + 32 + f, by omega⟩) := by
  unfold key1
  pointwise

theorem forKeys_apply (a : FVec Ideal S4096x2x32 .f32) (b : Fin 4) (t : Fin 4096) (h : Fin 2) (g : Fin 2) (f : Fin 32) :
    forKeys a (ix5 b t h g f) = a (ix3 t g f) := by
  unfold forKeys
  pointwise

theorem keyBack_apply (u v : FVec Ideal S4x4096x2x2x32 .f32) (b : Fin 4) (t : Fin 4096) (h : Fin 2) (d : Fin 128) :
    keyBack u v (ix4 b t h d) = if (d : ℕ) % 64 < 32 then u (ix5 b t h ⟨(d : ℕ) / 64, by omega⟩ ⟨(d : ℕ) % 32, by omega⟩)
      else v (ix5 b t h ⟨(d : ℕ) / 64, by omega⟩ ⟨(d : ℕ) % 32, by omega⟩) := by
  unfold keyBack
  pointwise
  by_cases h : (d : ℕ) % 64 < 32
  · rw [if_pos h, dif_pos (by omega)]
  · rw [if_neg h, dif_neg (by omega)]

theorem queriesTurned_apply (x : FVec Ideal S4x4096x8x128 .f32) (b : Fin 4) (t : Fin 4096) (h : Fin 8) (d : Fin 128) :
    queriesTurned x (ix4 b t h d) = rotated (fun j => x (ix4 b t h j)) t d := by
  unfold queriesTurned rotated
  rw [queryBack_apply]
  by_cases e : (d : ℕ) % 64 < 32
  · rw [if_pos e]
    show query0 x _ * forQueries _ _ - query1 x _ * forQueries _ _ = _
    rw [query0_apply, query1_apply, forQueries_apply, forQueries_apply]
    show _ * Ideal.cos (anglePair _) - _ * Ideal.sin (anglePair _) = _
    rw [anglePair_apply]
    simp only [if_pos e]
    rw [show (⟨(d : ℕ) / 64 * 64 + (d : ℕ) % 32, by omega⟩ : Fin 128) = d from Fin.ext (by show (d : ℕ) / 64 * 64 + (d : ℕ) % 32 = d; omega),
      show (⟨(d : ℕ) / 64 * 64 + 32 + (d : ℕ) % 32, by omega⟩ : Fin 128) = ⟨((d : ℕ) + 32) % 128, by omega⟩
        from Fin.ext (by show (d : ℕ) / 64 * 64 + 32 + (d : ℕ) % 32 = ((d : ℕ) + 32) % 128; omega)]
  · rw [if_neg e]
    show query1 x _ * forQueries _ _ + query0 x _ * forQueries _ _ = _
    rw [query0_apply, query1_apply, forQueries_apply, forQueries_apply]
    show _ * Ideal.cos (anglePair _) + _ * Ideal.sin (anglePair _) = _
    rw [anglePair_apply]
    simp only [if_neg e]
    rw [show (⟨(d : ℕ) / 64 * 64 + 32 + (d : ℕ) % 32, by omega⟩ : Fin 128) = d from Fin.ext (by show (d : ℕ) / 64 * 64 + 32 + (d : ℕ) % 32 = d; omega),
      show (⟨(d : ℕ) / 64 * 64 + (d : ℕ) % 32, by omega⟩ : Fin 128) = ⟨((d : ℕ) + 96) % 128, by omega⟩
        from Fin.ext (by show (d : ℕ) / 64 * 64 + (d : ℕ) % 32 = ((d : ℕ) + 96) % 128; omega)]

theorem keysTurned_apply (x : FVec Ideal S4x4096x2x128 .f32) (b : Fin 4) (t : Fin 4096) (h : Fin 2) (d : Fin 128) :
    keysTurned x (ix4 b t h d) = rotated (fun j => x (ix4 b t h j)) t d := by
  unfold keysTurned rotated
  rw [keyBack_apply]
  by_cases e : (d : ℕ) % 64 < 32
  · rw [if_pos e]
    show key0 x _ * forKeys _ _ - key1 x _ * forKeys _ _ = _
    rw [key0_apply, key1_apply, forKeys_apply, forKeys_apply]
    show _ * Ideal.cos (anglePair _) - _ * Ideal.sin (anglePair _) = _
    rw [anglePair_apply]
    simp only [if_pos e]
    rw [show (⟨(d : ℕ) / 64 * 64 + (d : ℕ) % 32, by omega⟩ : Fin 128) = d from Fin.ext (by show (d : ℕ) / 64 * 64 + (d : ℕ) % 32 = d; omega),
      show (⟨(d : ℕ) / 64 * 64 + 32 + (d : ℕ) % 32, by omega⟩ : Fin 128) = ⟨((d : ℕ) + 32) % 128, by omega⟩
        from Fin.ext (by show (d : ℕ) / 64 * 64 + 32 + (d : ℕ) % 32 = ((d : ℕ) + 32) % 128; omega)]
  · rw [if_neg e]
    show key1 x _ * forKeys _ _ + key0 x _ * forKeys _ _ = _
    rw [key0_apply, key1_apply, forKeys_apply, forKeys_apply]
    show _ * Ideal.cos (anglePair _) + _ * Ideal.sin (anglePair _) = _
    rw [anglePair_apply]
    simp only [if_neg e]
    rw [show (⟨(d : ℕ) / 64 * 64 + 32 + (d : ℕ) % 32, by omega⟩ : Fin 128) = d from Fin.ext (by show (d : ℕ) / 64 * 64 + 32 + (d : ℕ) % 32 = d; omega),
      show (⟨(d : ℕ) / 64 * 64 + (d : ℕ) % 32, by omega⟩ : Fin 128) = ⟨((d : ℕ) + 96) % 128, by omega⟩
        from Fin.ext (by show (d : ℕ) / 64 * 64 + (d : ℕ) % 32 = ((d : ℕ) + 96) % 128; omega)]

theorem plainQuery_apply (x : FVec Ideal S4x4096x8x128 .f32) (s : Fin 16384) (e : Fin 1024) :
    plainQuery x (ix2 s e) = x (ix4 (seqOf s) (placeOf s) ⟨(e : ℕ) / 128, by omega⟩ ⟨(e : ℕ) % 128, by omega⟩) * Ideal.ofBits .f32 0x3E0293EE#32 := by
  unfold plainQuery seqOf placeOf
  pointwise

theorem plainKey_apply (x : FVec Ideal S4x4096x2x128 .f32) (s : Fin 16384) (e : Fin 256) :
    plainKey x (ix2 s e) = x (ix4 (seqOf s) (placeOf s) ⟨(e : ℕ) / 128, by omega⟩ ⟨(e : ℕ) % 128, by omega⟩) := by
  unfold plainKey seqOf placeOf
  pointwise

theorem plainValue_apply (u : FVec Ideal S4x4096x1536 .f32) (s : Fin 16384) (e : Fin 256) :
    plainValue u (ix2 e s) = u (ix3 (seqOf s) (placeOf s) ⟨1280 + e, by omega⟩) := by
  unfold plainValue seqOf placeOf
  pointwise

theorem queries_eq (I : Inputs) : plainQuery (queriesTurned (queriesNormed (queryHeads (projected I)) I.qgain)) = I.queries := by
  funext i
  obtain ⟨s, e, rfl⟩ : ∃ (s : Fin 16384) (e : Fin 1024), i = ix2 s e :=
    ⟨i (0 : Fin 2), i (1 : Fin 2), by funext a; fin_cases a <;> rfl⟩
  rw [plainQuery_apply, queriesTurned_apply]
  simp only [queriesNormed_apply, queryHeads_apply, projected_apply]
  rfl

theorem keys_eq (I : Inputs) : plainKey (keysTurned (keysNormed (keyHeads (projected I)) I.kgain)) = I.keys := by
  funext i
  obtain ⟨s, e, rfl⟩ : ∃ (s : Fin 16384) (e : Fin 256), i = ix2 s e :=
    ⟨i (0 : Fin 2), i (1 : Fin 2), by funext a; fin_cases a <;> rfl⟩
  rw [plainKey_apply, keysTurned_apply]
  simp only [keysNormed_apply, keyHeads_apply, projected_apply]
  rfl

theorem values_eq (I : Inputs) : plainValue (projected I) = I.values := by
  funext i
  obtain ⟨e, s, rfl⟩ : ∃ (e : Fin 256) (s : Fin 16384), i = ix2 e s :=
    ⟨i (0 : Fin 2), i (1 : Fin 2), by funext a; fin_cases a <;> rfl⟩
  rw [plainValue_apply, projected_apply]
  rfl

variable (m : (ℓ : Loc nD τ sig) → Buf (Elt Ideal) ℓ)

/-- The arguments as the plain program finds them. -/
def plainInputs (c : Dev nD) : Inputs :=
  ⟨m (c.tc.loc main_arg0), m (c.tc.loc main_arg1), m (c.tc.loc main_arg2), m (c.tc.loc main_arg3), m (c.tc.loc main_arg4)⟩

theorem query_result (c : Dev nD) : res_main_v125 m c
    = plainQuery (queriesTurned (queriesNormed (queryHeads (projected (plainInputs m c))) (plainInputs m c).qgain)) := rfl

theorem key_result (c : Dev nD) : res_main_v127 m c
    = plainKey (keysTurned (keysNormed (keyHeads (projected (plainInputs m c))) (plainInputs m c).kgain)) := rfl

end Plain

/-- The projection of the latents with norms and rotation is the plain one, with no condition on the arguments. -/
theorem rotary_agree : Cert.algebraic_RotaryIdeal_PlainRotaryIdeal := by
  intro m g m' g' _ hagree
  refine ⟨fun c => (inputs m c).queries, fun c => (inputs m c).keys, fun c => (inputs m c).values, ?_, ?_⟩
  · exact (θ_run (Cert.RotaryIdeal.defs (F := Ideal)) _ _).mono
      (fun r h c => ⟨(h c).1.trans (final8 m c), (h c).2.1.trans (final9 m c), (h c).2.2.1.trans (final10 m c), (h c).2.2.2⟩) (Cert.RotaryIdeal.Value.run_blocks m g)
  · refine (θ_run (Cert.PlainRotaryIdeal.defs (F := Ideal)) _ _).mono (fun r h c => ?_) (Cert.PlainRotaryIdeal.Value.run m' g')
    obtain ⟨e0, e1, e2, e3, e4⟩ := hagree c
    have e : plainInputs m' c = inputs m c := by unfold plainInputs inputs; rw [e0, e1, e2, e3, e4]
    refine ⟨(h c).1.trans ((query_result m' c).trans ((queries_eq _).trans ?_)), (h c).2.1.trans ((key_result m' c).trans ((keys_eq _).trans ?_)),
      (h c).2.2.1.trans ((values_eq (plainInputs m' c)).trans ?_), (h c).2.2.2⟩
    all_goals rw [e]

end Cert.Latent6

end
-- ==== Proof.LatentOutput.lean ====
/-
  Layer 1's output projection and residual norm of the latent tokens: the call's result and the plain one's, row by row.
-/
module

public import proofs.«01_k».proof.Defs
public import proofs.«01_k».proof.Proof.LatentPlain
public import proofs.«01_k».proof.Proof.Gen.OutputIdeal.Value
public import proofs.«01_k».proof.Proof.Gen.PlainOutputIdeal.Run

@[expose] public section

set_option maxRecDepth 16384

noncomputable section

open Idealize.ShloMosaic Idealize.ShloMosaic.TcCoe Idealize.SL.Sem
open Idealize.ShloMosaic.Pipeline (Dat)

namespace Cert.Latent7

open Cert.Context3 (normOf centered resid prod row2 row3 tokenHalf tokenNorm dot mean)

abbrev Rows : Shape := ⟨2, ![16384, 1024]⟩

/-- The arguments: the attention's result, the tokens, the modulations, gains, biases and the weight. -/
structure Inputs where
  attn : FVec Ideal Rows .bf16
  x : FVec Ideal Rows .f32
  mods : FVec Ideal Cert.OutputIdeal.S6x8x1x1024 .f32
  gain : FVec Ideal Cert.OutputIdeal.S2x1024 .f32
  bias : FVec Ideal Cert.OutputIdeal.S2x1024 .f32
  w : FVec Ideal Cert.OutputIdeal.S1x1024x1024 .f32

/-- Row `s` of the result. -/
def Inputs.row (I : Inputs) (s : Fin 16384) : Fin 1024 → EReal :=
  tokenHalf (fun k => I.attn (ix2 s k)) (fun k j => I.w (ix3 0 k j)) (fun k => I.x (ix2 s k)) (fun k => I.mods (ix4 2 ⟨1 + (s : ℕ) / 4096, by omega⟩ 0 k))
    (fun k => I.gain (ix2 1 k)) (fun k => I.bias (ix2 1 k))

def Inputs.result (I : Inputs) (i : Rows.Idx) : EReal := I.row (i 0) (i 1)

section Call

open Cert.OutputIdeal Cert.OutputIdeal.Gen

def body (x0 : Vec Ideal S512x1024 .bf16) (x1 : Vec Ideal S1024x1024 .bf16) (x2 : Vec Ideal S512x1024 .f32) (x3 : Vec Ideal S1x1x1024 .f32) (x4 x5 : Vec Ideal S1x1024 .f32) :
    FVec Ideal S512x1024 .f32 :=
  normOf (centered (resid x2 (row3 x3) (prod x0 x1))) (row2 x4) (row2 x5)

theorem body_eq (x0 : Vec Ideal S512x1024 .bf16) (x1 : Vec Ideal S1024x1024 .bf16) (x2 : Vec Ideal S512x1024 .f32) (x3 : Vec Ideal S1x1x1024 .f32) (x4 x5 : Vec Ideal S1x1024 .f32) :
    k0_pay1 x0 x1 x2 x3 x4 x5 = body x0 x1 x2 x3 x4 x5 := rfl

theorem body_apply (x0 : Vec Ideal S512x1024 .bf16) (x1 : Vec Ideal S1024x1024 .bf16) (x2 : Vec Ideal S512x1024 .f32) (x3 : Vec Ideal S1x1x1024 .f32) (x4 x5 : Vec Ideal S1x1024 .f32)
    (r : Fin 512) (j : Fin 1024) :
    body x0 x1 x2 x3 x4 x5 (ix2 r j) = tokenHalf (fun k => x0 (ix2 r k)) (fun k j => x1 (ix2 k j)) (fun k => x2 (ix2 r k)) (fun k => x3 (ix3 0 0 k))
      (fun k => x4 (ix2 0 k)) (fun k => x5 (ix2 0 k)) j := by
  unfold body tokenHalf dot
  simp only [Cert.Context3.norm_apply, Cert.Context3.resid_apply, Cert.Context3.prod_apply, Cert.Context3.row3_apply, Cert.Context3.row2_apply]

theorem out_apply (x0 : Vec Ideal S512x1024 .bf16) (x1 : Vec Ideal S1024x1024 .bf16) (x2 : Vec Ideal S512x1024 .f32) (x3 : Vec Ideal S1x1x1024 .f32) (x4 x5 : Vec Ideal S1x1024 .f32)
    (y : S512x1024.Idx) :
    out0_6 x0 x1 x2 x3 x4 x5 y = tokenHalf (fun k => x0 (ix2 (y 0) k)) (fun k j => x1 (ix2 k j)) (fun k => x2 (ix2 (y 0) k)) (fun k => x3 (ix3 0 0 k))
      (fun k => x4 (ix2 0 k)) (fun k => x5 (ix2 0 k)) (y 1) := by
  canon_tiles x h
  case piece0 =>
    idx_vars x
    have e : y 0 = x0 ∧ y 1 = x1 := ⟨Fin.ext h0, Fin.ext h1⟩
    rw [body_eq, body_apply]
    simp only [e]
    pointwise

variable (m : (ℓ : Loc nD τ sig) → Buf (Elt Ideal) ℓ)

/-- The arguments as the call's program finds them. -/
def inputs (c : Dev nD) : Inputs :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5)⟩

theorem idx : ∀ t : Fin cfg0.N, win0_0.index t = ![t.val, 0] ∧ win0_1.index t = ![0, 0] ∧ win0_2.index t = ![t.val, 0] ∧ win0_3.index t = ![1 + t.val / 8, 0, 0] ∧ win0_4.index t = ![0, 0] ∧ win0_5.index t = ![0, 0] ∧ win0_6.index t = ![t.val, 0] :=
  (by decide +kernel : ∀ t : Fin grid0.N, _)

theorem lt_points (t : Fin cfg0.N) : t.val < 32 := lt_of_lt_of_eq t.isLt (by decide +kernel)

theorem b0 (c : Dev nD) (t : Fin cfg0.N) (r : Fin 512) (k : Fin 1024) (s : Fin 16384) (hs : (s : ℕ) = t.val * 512 + r) :
    iblk m c 0 t (ix2 r k) = (m ((c : Thread nD τ).loc main_arg0) : Vec Ideal S16384x1024 .bf16) (ix2 s k) := by
  blk_simp [iblk, V, idx t]
  entry_read
  blk_ext [idx t]

theorem b1 (c : Dev nD) (t : Fin cfg0.N) (k j : Fin 1024) :
    iblk m c 1 t (ix2 k j) = (m ((c : Thread nD τ).loc main_arg5) : Vec Ideal S1x1024x1024 .f32) (ix3 0 k j) := by
  blk_simp [iblk, V, idx t]
  entry_read
  pointwise
  blk_ext [idx t]

theorem b2 (c : Dev nD) (t : Fin cfg0.N) (r : Fin 512) (k : Fin 1024) (s : Fin 16384) (hs : (s : ℕ) = t.val * 512 + r) :
    iblk m c 2 t (ix2 r k) = (m ((c : Thread nD τ).loc main_arg1) : Vec Ideal S16384x1024 .f32) (ix2 s k) := by
  blk_simp [iblk, V, idx t]
  entry_read
  blk_ext [idx t]

theorem b3 (c : Dev nD) (t : Fin cfg0.N) (k : Fin 1024) (u : Fin 8) (hu : (u : ℕ) = 1 + t.val / 8) :
    iblk m c 3 t (ix3 0 0 k) = (m ((c : Thread nD τ).loc main_arg2) : Vec Ideal S6x8x1x1024 .f32) (ix4 2 u 0 k) := by
  blk_simp [iblk, V, idx t]
  entry_read
  pointwise
  blk_ext [idx t]

theorem b4 (c : Dev nD) (t : Fin cfg0.N) (k : Fin 1024) :
    iblk m c 4 t (ix2 0 k) = (m ((c : Thread nD τ).loc main_arg3) : Vec Ideal S2x1024 .f32) (ix2 1 k) := by
  blk_simp [iblk, V, idx t]
  entry_read
  pointwise
  blk_ext [idx t]

theorem b5 (c : Dev nD) (t : Fin cfg0.N) (k : Fin 1024) :
    iblk m c 5 t (ix2 0 k) = (m ((c : Thread nD τ).loc main_arg4) : Vec Ideal S2x1024 .f32) (ix2 1 k) := by
  blk_simp [iblk, V, idx t]
  entry_read
  pointwise
  blk_ext [idx t]

theorem final (c : Dev nD) : (dats m 0 c).arrAt 6 (cfgs 0).N = (inputs m c).result := by
  refine (dats m 0 c).arrAt_eq_of_covers 6 _ (by decide +kernel) fun t _ y => ?_
  obtain ⟨r, e, rfl⟩ : ∃ (r : Fin 512) (e : Fin 1024), y = ix2 r e :=
    ⟨y (0 : Fin 2), y (1 : Fin 2), by funext a; fin_cases a <;> rfl⟩
  have lt := lt_points t
  have eR : ((cfg0.win 6).blk t).view.emb (ix2 r e) = (ix2 (⟨t.val * 512 + r, by omega⟩ : Fin 16384) e : S16384x1024.Idx) := by
    funext d
    refine Fin.ext (((cfg0.win 6).rect_emb_val t _ d rfl).trans ?_)
    rw [show (cfg0.win 6).index t = ![t.val, 0] from (idx t).2.2.2.2.2.2]
    fin_cases d
    · rfl
    · exact Nat.zero_add _
  rw [after0_6]
  refine Eq.trans ?_ (congrArg (inputs m c).result eR.symm)
  rw [out_apply]
  show tokenHalf (fun k => iblk m c 0 t (ix2 r k)) (fun k j => iblk m c 1 t (ix2 k j)) (fun k => iblk m c 2 t (ix2 r k)) (fun k => iblk m c 3 t (ix3 0 0 k))
    (fun k => iblk m c 4 t (ix2 0 k)) (fun k => iblk m c 5 t (ix2 0 k)) e = (inputs m c).row ⟨t.val * 512 + r, by omega⟩ e
  simp only [b0 m c t r _ ⟨t.val * 512 + r, by omega⟩ rfl, b1, b2 m c t r _ ⟨t.val * 512 + r, by omega⟩ rfl, b4, b5,
    b3 m c t _ ⟨1 + (t.val * 512 + r) / 4096, by omega⟩ (by show 1 + (t.val * 512 + r) / 4096 = 1 + t.val / 8; omega)]
  rfl

end Call

section Plain

open Idealize.ShloMosaic.StableHlo
open Cert.PlainOutputIdeal Cert.PlainOutputIdeal.Gen Cert.PlainOutputIdeal.Value

/-- The gate, from the modulations. -/
def gateOf (a : FVec Ideal S6x8x1x1024 .f32) : FVec Ideal S4x1x1024 .f32 :=
  shapeCast S4x1x1024 (extractStridedSlice S1x4x1x1024 ![2, 1, 0, 0] a slices_S6x8x1x1024_S1x4x1x1024_2_1_0_0) shapeCasts_S1x4x1x1024_S4x1x1024

def grouped (a : FVec Ideal S16384x1024 .f32) : FVec Ideal S4x4096x1024 .f32 := shapeCast S4x4096x1024 a shapeCasts_S16384x1024_S4x4096x1024

def widened (a : FVec Ideal S16384x1024 .bf16) : FVec Ideal S16384x1024 .f32 := extf .f32 a bitsLt_bf16_f32

/-- Layer 1's row of the gains or biases. -/
def secondRow (a : FVec Ideal S2x1024 .f32) : FVec Ideal S1x1x1024 .f32 :=
  broadcastInDim S1x1x1024 ![2] bcast_S1024_S1x1x1024_2 (shapeCast S1024 (extractStridedSlice S1x1024 ![1, 0] a slices_S2x1024_S1x1024_1_0) shapeCasts_S1x1024_S1024)

def normed (x : FVec Ideal S4x4096x1024 .f32) (g b : FVec Ideal S2x1024 .f32) : FVec Ideal S4x4096x1024 .f32 :=
  addf (mulf (mulf (Cert.Latent4.less x) (Cert.Latent4.across (Host.rsqrt (addf (Cert.Latent4.meanOf (mulf (Cert.Latent4.less x) (Cert.Latent4.less x)))
    (broadcastInDim S4x4096x1 ![] bcast_S_S4x4096x1 (constant S_ .f32 0x358637BD#32)))))) (Cert.Latent4.over (secondRow g))) (Cert.Latent4.over (secondRow b))

def toRows (a : FVec Ideal S4x4096x1024 .f32) : FVec Ideal S16384x1024 .f32 := shapeCast S16384x1024 a shapeCasts_S4x4096x1024_S16384x1024

theorem gateOf_apply (a : FVec Ideal S6x8x1x1024 .f32) (b : Fin 4) (j : Fin 1024) : gateOf a (ix3 b 0 j) = a (ix4 2 ⟨1 + b, by omega⟩ 0 j) := by
  unfold gateOf
  pointwise

theorem grouped_apply (a : FVec Ideal S16384x1024 .f32) (s : Fin 16384) (k : Fin 1024) :
    grouped a (ix3 ⟨s / 4096, by omega⟩ ⟨s % 4096, by omega⟩ k) = a (ix2 s k) := by
  unfold grouped
  pointwise
  try exact congrArg (fun i => a (ix2 i k)) (Fin.ext (by show (s : ℕ) / 4096 * 4096 + (s : ℕ) % 4096 = s; omega))

theorem secondRow_apply (a : FVec Ideal S2x1024 .f32) (j : Fin 1024) : secondRow a (ix3 0 0 j) = a (ix2 1 j) := by
  unfold secondRow
  pointwise

theorem normed_apply (x : FVec Ideal S4x4096x1024 .f32) (g b : FVec Ideal S2x1024 .f32) (i : Fin 4) (t : Fin 4096) (j : Fin 1024) :
    normed x g b (ix3 i t j) = tokenNorm (fun k => x (ix3 i t k)) (fun k => g (ix2 1 k)) (fun k => b (ix2 1 k)) j := by
  unfold normed tokenNorm
  rw [Cert.Latent4.combine_apply, Cert.Latent4.less_apply, Cert.Latent4.across_apply, Cert.Latent4.root_apply, Cert.Latent4.meanOf_apply, Cert.Latent4.over_apply, Cert.Latent4.over_apply, secondRow_apply, secondRow_apply]
  unfold mean
  simp only [ValueIdx.mulf_apply, Cert.Latent4.less_apply]
  rfl

theorem toRows_apply (a : FVec Ideal S4x4096x1024 .f32) (s : Fin 16384) (j : Fin 1024) :
    toRows a (ix2 s j) = a (ix3 ⟨s / 4096, by omega⟩ ⟨s % 4096, by omega⟩ j) := by
  unfold toRows
  pointwise

/-- The plain result, from the arguments. -/
def plain (I : Inputs) : FVec Ideal S16384x1024 .f32 :=
  toRows (normed (Cert.Latent4.added (grouped I.x) (gateOf I.mods) (Cert.Latent4.outProjected (grouped (widened I.attn)) I.w)) I.gain I.bias)

theorem plain_eq (I : Inputs) : plain I = I.result := by
  funext i
  obtain ⟨s, j, rfl⟩ : ∃ (s : Fin 16384) (j : Fin 1024), i = ix2 s j :=
    ⟨i (0 : Fin 2), i (1 : Fin 2), by funext a; fin_cases a <;> rfl⟩
  refine (toRows_apply _ s j).trans ((normed_apply _ _ _ _ _ j).trans ?_)
  show _ = I.row s j
  unfold Inputs.row tokenHalf
  refine congrFun (congrFun (congrFun (congrArg tokenNorm (funext fun k => ?_)) _) _) j
  refine (Cert.Latent4.added_apply _ _ _ _ _ k).trans ?_
  refine congrFun (congr (congr (congrArg Cert.Context3.residual (funext fun k => grouped_apply _ s k)) (funext fun k => gateOf_apply _ ⟨s / 4096, by omega⟩ k)) (funext fun k => ?_)) k
  exact (Cert.Latent4.outProjected_apply _ _ _ _ k).trans (congrFun (congrArg dot (funext fun e => grouped_apply _ s e)) _)

variable (m : (ℓ : Loc nD τ sig) → Buf (Elt Ideal) ℓ)

/-- The arguments as the plain program finds them. -/
def plainInputs (c : Dev nD) : Inputs :=
  ⟨m (c.tc.loc main_arg0), m (c.tc.loc main_arg1), m (c.tc.loc main_arg2), m (c.tc.loc main_arg3), m (c.tc.loc main_arg4), m (c.tc.loc main_arg5)⟩

theorem plain_result (c : Dev nD) : res_main_v50 m c = plain (plainInputs m c) := rfl

end Plain

/-- The output projection with its norm, of the latent tokens, is the plain one, with no condition on the arguments. -/
theorem output_agree : Cert.algebraic_OutputIdeal_PlainOutputIdeal := by
  intro m g m' g' _ hagree
  refine ⟨fun c => (inputs m c).result, ?_, ?_⟩
  · exact (θ_run (Cert.OutputIdeal.defs (F := Ideal)) _ _).mono (fun r h c => ⟨(h c).1.trans (final m c), (h c).2⟩) (Cert.OutputIdeal.Value.run_blocks m g)
  · refine (θ_run (Cert.PlainOutputIdeal.defs (F := Ideal)) _ _).mono (fun r h c => ?_) (Cert.PlainOutputIdeal.Value.run m' g')
    obtain ⟨e0, e1, e2, e3, e4, e5⟩ := hagree c
    have e : plainInputs m' c = inputs m c := by unfold plainInputs inputs; rw [e0, e1, e2, e3, e4, e5]
    exact ⟨(h c).1.trans ((plain_result m' c).trans ((plain_eq _).trans (by rw [e]))), (h c).2⟩

end Cert.Latent7

end
-- ==== Proof.ContextOutput.lean ====
/-
  Layer 1's output projection and residual norm of the context tokens: the call's result and the plain one's, row by row.
-/
module

public import proofs.«01_k».proof.Defs
public import proofs.«01_k».proof.Proof.ContextReference
public import proofs.«01_k».proof.Proof.ContextDense
public import proofs.«01_k».proof.Proof.Gen.ContextOutputIdeal.Value
public import proofs.«01_k».proof.Proof.Gen.PlainContextOutputIdeal.Run

@[expose] public section

set_option maxRecDepth 16384

noncomputable section

open Idealize.ShloMosaic Idealize.ShloMosaic.TcCoe Idealize.SL.Sem
open Idealize.ShloMosaic.Pipeline (Dat)

namespace Cert.Context8

open Cert.Context3 (normOf centered resid prod row2 row3 tokenHalf tokenNorm dot mean)

abbrev Rows : Shape := ⟨2, ![8192, 1024]⟩

/-- The arguments: the attention's result, the tokens, the modulations, gains, biases and the weight. -/
structure Inputs where
  attn : FVec Ideal Rows .bf16
  x : FVec Ideal Rows .f32
  mods : FVec Ideal Cert.ContextOutputIdeal.S6x8x1x1024 .f32
  gain : FVec Ideal Cert.ContextOutputIdeal.S2x1024 .f32
  bias : FVec Ideal Cert.ContextOutputIdeal.S2x1024 .f32
  w : FVec Ideal Cert.ContextOutputIdeal.S1x1024x1024 .f32

/-- Row `s` of the result. -/
def Inputs.row (I : Inputs) (s : Fin 8192) : Fin 1024 → EReal :=
  tokenHalf (fun k => I.attn (ix2 s k)) (fun k j => I.w (ix3 0 k j)) (fun k => I.x (ix2 s k)) (fun k => I.mods (ix4 2 0 0 k))
    (fun k => I.gain (ix2 1 k)) (fun k => I.bias (ix2 1 k))

def Inputs.result (I : Inputs) (i : Rows.Idx) : EReal := I.row (i 0) (i 1)

section Call

open Cert.ContextOutputIdeal Cert.ContextOutputIdeal.Gen

def body (x0 : Vec Ideal S512x1024 .bf16) (x1 : Vec Ideal S1024x1024 .bf16) (x2 : Vec Ideal S512x1024 .f32) (x3 : Vec Ideal S1x1x1024 .f32) (x4 x5 : Vec Ideal S1x1024 .f32) :
    FVec Ideal S512x1024 .f32 :=
  normOf (centered (resid x2 (row3 x3) (prod x0 x1))) (row2 x4) (row2 x5)

theorem body_eq (x0 : Vec Ideal S512x1024 .bf16) (x1 : Vec Ideal S1024x1024 .bf16) (x2 : Vec Ideal S512x1024 .f32) (x3 : Vec Ideal S1x1x1024 .f32) (x4 x5 : Vec Ideal S1x1024 .f32) :
    k0_pay1 x0 x1 x2 x3 x4 x5 = body x0 x1 x2 x3 x4 x5 := rfl

theorem body_apply (x0 : Vec Ideal S512x1024 .bf16) (x1 : Vec Ideal S1024x1024 .bf16) (x2 : Vec Ideal S512x1024 .f32) (x3 : Vec Ideal S1x1x1024 .f32) (x4 x5 : Vec Ideal S1x1024 .f32)
    (r : Fin 512) (j : Fin 1024) :
    body x0 x1 x2 x3 x4 x5 (ix2 r j) = tokenHalf (fun k => x0 (ix2 r k)) (fun k j => x1 (ix2 k j)) (fun k => x2 (ix2 r k)) (fun k => x3 (ix3 0 0 k))
      (fun k => x4 (ix2 0 k)) (fun k => x5 (ix2 0 k)) j := by
  unfold body tokenHalf dot
  simp only [Cert.Context3.norm_apply, Cert.Context3.resid_apply, Cert.Context3.prod_apply, Cert.Context3.row3_apply, Cert.Context3.row2_apply]

theorem out_apply (x0 : Vec Ideal S512x1024 .bf16) (x1 : Vec Ideal S1024x1024 .bf16) (x2 : Vec Ideal S512x1024 .f32) (x3 : Vec Ideal S1x1x1024 .f32) (x4 x5 : Vec Ideal S1x1024 .f32)
    (y : S512x1024.Idx) :
    out0_6 x0 x1 x2 x3 x4 x5 y = tokenHalf (fun k => x0 (ix2 (y 0) k)) (fun k j => x1 (ix2 k j)) (fun k => x2 (ix2 (y 0) k)) (fun k => x3 (ix3 0 0 k))
      (fun k => x4 (ix2 0 k)) (fun k => x5 (ix2 0 k)) (y 1) := by
  canon_tiles x h
  case piece0 =>
    idx_vars x
    have e : y 0 = x0 ∧ y 1 = x1 := ⟨Fin.ext h0, Fin.ext h1⟩
    rw [body_eq, body_apply]
    simp only [e]
    pointwise

variable (m : (ℓ : Loc nD τ sig) → Buf (Elt Ideal) ℓ)

/-- The arguments as the call's program finds them. -/
def inputs (c : Dev nD) : Inputs :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5)⟩

theorem idx : ∀ t : Fin cfg0.N, win0_0.index t = ![t.val, 0] ∧ win0_1.index t = ![0, 0] ∧ win0_2.index t = ![t.val, 0] ∧ win0_3.index t = ![0, 0, 0] ∧ win0_4.index t = ![0, 0] ∧ win0_5.index t = ![0, 0] ∧ win0_6.index t = ![t.val, 0] :=
  (by decide +kernel : ∀ t : Fin grid0.N, _)

theorem lt_points (t : Fin cfg0.N) : t.val < 16 := lt_of_lt_of_eq t.isLt (by decide +kernel)

theorem b0 (c : Dev nD) (t : Fin cfg0.N) (r : Fin 512) (k : Fin 1024) (s : Fin 8192) (hs : (s : ℕ) = t.val * 512 + r) :
    iblk m c 0 t (ix2 r k) = (m ((c : Thread nD τ).loc main_arg0) : Vec Ideal S8192x1024 .bf16) (ix2 s k) := by
  blk_simp [iblk, V, idx t]
  entry_read
  blk_ext [idx t]

theorem b1 (c : Dev nD) (t : Fin cfg0.N) (k j : Fin 1024) :
    iblk m c 1 t (ix2 k j) = (m ((c : Thread nD τ).loc main_arg5) : Vec Ideal S1x1024x1024 .f32) (ix3 0 k j) := by
  blk_simp [iblk, V, idx t]
  entry_read
  pointwise
  blk_ext [idx t]

theorem b2 (c : Dev nD) (t : Fin cfg0.N) (r : Fin 512) (k : Fin 1024) (s : Fin 8192) (hs : (s : ℕ) = t.val * 512 + r) :
    iblk m c 2 t (ix2 r k) = (m ((c : Thread nD τ).loc main_arg1) : Vec Ideal S8192x1024 .f32) (ix2 s k) := by
  blk_simp [iblk, V, idx t]
  entry_read
  blk_ext [idx t]

theorem b3 (c : Dev nD) (t : Fin cfg0.N) (k : Fin 1024) (u : Fin 8) (hu : (u : ℕ) = 0) :
    iblk m c 3 t (ix3 0 0 k) = (m ((c : Thread nD τ).loc main_arg2) : Vec Ideal S6x8x1x1024 .f32) (ix4 2 u 0 k) := by
  blk_simp [iblk, V, idx t]
  entry_read
  pointwise
  blk_ext [idx t]

theorem b4 (c : Dev nD) (t : Fin cfg0.N) (k : Fin 1024) :
    iblk m c 4 t (ix2 0 k) = (m ((c : Thread nD τ).loc main_arg3) : Vec Ideal S2x1024 .f32) (ix2 1 k) := by
  blk_simp [iblk, V, idx t]
  entry_read
  pointwise
  blk_ext [idx t]

theorem b5 (c : Dev nD) (t : Fin cfg0.N) (k : Fin 1024) :
    iblk m c 5 t (ix2 0 k) = (m ((c : Thread nD τ).loc main_arg4) : Vec Ideal S2x1024 .f32) (ix2 1 k) := by
  blk_simp [iblk, V, idx t]
  entry_read
  pointwise
  blk_ext [idx t]

theorem final (c : Dev nD) : (dats m 0 c).arrAt 6 (cfgs 0).N = (inputs m c).result := by
  refine (dats m 0 c).arrAt_eq_of_covers 6 _ (by decide +kernel) fun t _ y => ?_
  obtain ⟨r, e, rfl⟩ : ∃ (r : Fin 512) (e : Fin 1024), y = ix2 r e :=
    ⟨y (0 : Fin 2), y (1 : Fin 2), by funext a; fin_cases a <;> rfl⟩
  have lt := lt_points t
  have eR : ((cfg0.win 6).blk t).view.emb (ix2 r e) = (ix2 (⟨t.val * 512 + r, by omega⟩ : Fin 8192) e : S8192x1024.Idx) := by
    funext d
    refine Fin.ext (((cfg0.win 6).rect_emb_val t _ d rfl).trans ?_)
    rw [show (cfg0.win 6).index t = ![t.val, 0] from (idx t).2.2.2.2.2.2]
    fin_cases d
    · rfl
    · exact Nat.zero_add _
  rw [after0_6]
  refine Eq.trans ?_ (congrArg (inputs m c).result eR.symm)
  rw [out_apply]
  show tokenHalf (fun k => iblk m c 0 t (ix2 r k)) (fun k j => iblk m c 1 t (ix2 k j)) (fun k => iblk m c 2 t (ix2 r k)) (fun k => iblk m c 3 t (ix3 0 0 k))
    (fun k => iblk m c 4 t (ix2 0 k)) (fun k => iblk m c 5 t (ix2 0 k)) e = (inputs m c).row ⟨t.val * 512 + r, by omega⟩ e
  simp only [b0 m c t r _ ⟨t.val * 512 + r, by omega⟩ rfl, b1, b2 m c t r _ ⟨t.val * 512 + r, by omega⟩ rfl, b4, b5,
    b3 m c t _ 0 rfl]
  rfl

end Call

section Plain

open Idealize.ShloMosaic.StableHlo
open Cert.PlainContextOutputIdeal Cert.PlainContextOutputIdeal.Gen Cert.PlainContextOutputIdeal.Value

/-- The gate, from the modulations. -/
def gateOf (a : FVec Ideal S6x8x1x1024 .f32) : FVec Ideal S1x1x1024 .f32 :=
  shapeCast S1x1x1024 (extractStridedSlice S1x1x1x1024 ![2, 0, 0, 0] a slices_S6x8x1x1024_S1x1x1x1024_2_0_0_0) shapeCasts_S1x1x1x1024_S1x1x1024

def grouped (a : FVec Ideal S8192x1024 .f32) : FVec Ideal S32x256x1024 .f32 := shapeCast S32x256x1024 a shapeCasts_S8192x1024_S32x256x1024

def widened (a : FVec Ideal S8192x1024 .bf16) : FVec Ideal S8192x1024 .f32 := extf .f32 a bitsLt_bf16_f32

/-- Layer 1's row of the gains or biases. -/
def secondRow (a : FVec Ideal S2x1024 .f32) : FVec Ideal S1x1x1024 .f32 :=
  broadcastInDim S1x1x1024 ![2] bcast_S1024_S1x1x1024_2 (shapeCast S1024 (extractStridedSlice S1x1024 ![1, 0] a slices_S2x1024_S1x1024_1_0) shapeCasts_S1x1024_S1024)

def normed (x : FVec Ideal S32x256x1024 .f32) (g b : FVec Ideal S2x1024 .f32) : FVec Ideal S32x256x1024 .f32 :=
  addf (mulf (mulf (Cert.Context3.Plain.less x) (Cert.Context3.Plain.across (Host.rsqrt (addf (Cert.Context3.Plain.meanOf (mulf (Cert.Context3.Plain.less x) (Cert.Context3.Plain.less x)))
    (broadcastInDim S32x256x1 ![] bcast_S_S32x256x1 (constant S_ .f32 0x358637BD#32)))))) (Cert.Context3.Plain.over (secondRow g))) (Cert.Context3.Plain.over (secondRow b))

def toRows (a : FVec Ideal S32x256x1024 .f32) : FVec Ideal S8192x1024 .f32 := shapeCast S8192x1024 a shapeCasts_S32x256x1024_S8192x1024

theorem gateOf_apply (a : FVec Ideal S6x8x1x1024 .f32) (j : Fin 1024) : gateOf a (ix3 0 0 j) = a (ix4 2 0 0 j) := by
  unfold gateOf
  pointwise

theorem grouped_apply (a : FVec Ideal S8192x1024 .f32) (s : Fin 8192) (k : Fin 1024) :
    grouped a (ix3 ⟨s / 256, by omega⟩ ⟨s % 256, by omega⟩ k) = a (ix2 s k) := by
  unfold grouped
  pointwise
  try exact congrArg (fun i => a (ix2 i k)) (Fin.ext (by show (s : ℕ) / 256 * 256 + (s : ℕ) % 256 = s; omega))

theorem secondRow_apply (a : FVec Ideal S2x1024 .f32) (j : Fin 1024) : secondRow a (ix3 0 0 j) = a (ix2 1 j) := by
  unfold secondRow
  pointwise

theorem normed_apply (x : FVec Ideal S32x256x1024 .f32) (g b : FVec Ideal S2x1024 .f32) (i : Fin 32) (t : Fin 256) (j : Fin 1024) :
    normed x g b (ix3 i t j) = tokenNorm (fun k => x (ix3 i t k)) (fun k => g (ix2 1 k)) (fun k => b (ix2 1 k)) j := by
  unfold normed tokenNorm
  rw [Cert.Context3.Plain.combine_apply, Cert.Context3.Plain.less_apply, Cert.Context3.Plain.across_apply, Cert.Context3.Plain.root_apply, Cert.Context3.Plain.meanOf_apply, Cert.Context3.Plain.over_apply, Cert.Context3.Plain.over_apply, secondRow_apply, secondRow_apply]
  unfold mean
  simp only [ValueIdx.mulf_apply, Cert.Context3.Plain.less_apply]
  rfl

theorem toRows_apply (a : FVec Ideal S32x256x1024 .f32) (s : Fin 8192) (j : Fin 1024) :
    toRows a (ix2 s j) = a (ix3 ⟨s / 256, by omega⟩ ⟨s % 256, by omega⟩ j) := by
  unfold toRows
  pointwise

/-- The plain result, from the arguments. -/
def plain (I : Inputs) : FVec Ideal S8192x1024 .f32 :=
  toRows (normed (Cert.Context3.Plain.added (grouped I.x) (gateOf I.mods) (Cert.Context3.Plain.outProjected (grouped (widened I.attn)) I.w)) I.gain I.bias)

theorem plain_eq (I : Inputs) : plain I = I.result := by
  funext i
  obtain ⟨s, j, rfl⟩ : ∃ (s : Fin 8192) (j : Fin 1024), i = ix2 s j :=
    ⟨i (0 : Fin 2), i (1 : Fin 2), by funext a; fin_cases a <;> rfl⟩
  refine (toRows_apply _ s j).trans ((normed_apply _ _ _ _ _ j).trans ?_)
  show _ = I.row s j
  unfold Inputs.row tokenHalf
  refine congrFun (congrFun (congrFun (congrArg tokenNorm (funext fun k => ?_)) _) _) j
  refine (Cert.Context3.Plain.added_apply _ _ _ _ _ k).trans ?_
  refine congrFun (congr (congr (congrArg Cert.Context3.residual (funext fun k => grouped_apply _ s k)) (funext fun k => gateOf_apply _ k)) (funext fun k => ?_)) k
  exact (Cert.Context3.Plain.outProjected_apply _ _ _ _ k).trans (congrFun (congrArg dot (funext fun e => grouped_apply _ s e)) _)

variable (m : (ℓ : Loc nD τ sig) → Buf (Elt Ideal) ℓ)

/-- The arguments as the plain program finds them. -/
def plainInputs (c : Dev nD) : Inputs :=
  ⟨m (c.tc.loc main_arg0), m (c.tc.loc main_arg1), m (c.tc.loc main_arg2), m (c.tc.loc main_arg3), m (c.tc.loc main_arg4), m (c.tc.loc main_arg5)⟩

theorem plain_result (c : Dev nD) : res_main_v50 m c = plain (plainInputs m c) := rfl

end Plain

/-- The output projection with its norm, of the context tokens, is the plain one, with no condition on the arguments. -/
theorem output_agree : Cert.algebraic_ContextOutputIdeal_PlainContextOutputIdeal := by
  intro m g m' g' _ hagree
  refine ⟨fun c => (inputs m c).result, ?_, ?_⟩
  · exact (θ_run (Cert.ContextOutputIdeal.defs (F := Ideal)) _ _).mono (fun r h c => ⟨(h c).1.trans (final m c), (h c).2⟩) (Cert.ContextOutputIdeal.Value.run_blocks m g)
  · refine (θ_run (Cert.PlainContextOutputIdeal.defs (F := Ideal)) _ _).mono (fun r h c => ?_) (Cert.PlainContextOutputIdeal.Value.run m' g')
    obtain ⟨e0, e1, e2, e3, e4, e5⟩ := hagree c
    have e : plainInputs m' c = inputs m c := by unfold plainInputs inputs; rw [e0, e1, e2, e3, e4, e5]
    exact ⟨(h c).1.trans ((plain_result m' c).trans ((plain_eq _).trans (by rw [e]))), (h c).2⟩

end Cert.Context8

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.KernelIdeal.Value
public import proofs.«01_k».proof.Proof.Gen.Pre_finite
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.PlainExpertsIdeal.Run
public import proofs.«01_k».proof.Proof.Gen.Pre_expert_range
public import proofs.«01_k».proof.Proof.Gen.Context
public import proofs.«01_k».proof.Proof.Gen.Context.Skeleton
public import proofs.«01_k».proof.Proof.Gen.Context.Launch
public import proofs.«01_k».proof.Proof.Gen.Context.Points
public import proofs.«01_k».proof.Proof.Gen.Context.Frame
public import proofs.«01_k».proof.Proof.Gen.ContextIdeal
public import proofs.«01_k».proof.Proof.Gen.ContextIdeal.Skeleton
public import proofs.«01_k».proof.Proof.Gen.ContextIdeal.Launch
public import proofs.«01_k».proof.Proof.Gen.ContextIdeal.Points
public import proofs.«01_k».proof.Proof.Gen.ContextIdeal.Frame
public import proofs.«01_k».proof.Proof.Gen.PlainContextIdeal.Run
public import proofs.«01_k».proof.Proof.Gen.Pre_context_finite
public import proofs.«01_k».proof.Proof.Gen.Latent
public import proofs.«01_k».proof.Proof.Gen.Latent.Skeleton
public import proofs.«01_k».proof.Proof.Gen.Latent.Launch
public import proofs.«01_k».proof.Proof.Gen.Latent.Points
public import proofs.«01_k».proof.Proof.Gen.Latent.Frame
public import proofs.«01_k».proof.Proof.Gen.LatentIdeal
public import proofs.«01_k».proof.Proof.Gen.LatentIdeal.Skeleton
public import proofs.«01_k».proof.Proof.Gen.LatentIdeal.Launch
public import proofs.«01_k».proof.Proof.Gen.LatentIdeal.Points
public import proofs.«01_k».proof.Proof.Gen.LatentIdeal.Frame
public import proofs.«01_k».proof.Proof.Gen.LatentIdeal.Value
public import proofs.«01_k».proof.Proof.Gen.PlainLatentIdeal.Run
public import proofs.«01_k».proof.Proof.Gen.Projection
public import proofs.«01_k».proof.Proof.Gen.Projection.Skeleton
public import proofs.«01_k».proof.Proof.Gen.Projection.Launch
public import proofs.«01_k».proof.Proof.Gen.Projection.Points
public import proofs.«01_k».proof.Proof.Gen.Projection.Frame
public import proofs.«01_k».proof.Proof.Gen.ProjectionIdeal
public import proofs.«01_k».proof.Proof.Gen.ProjectionIdeal.Skeleton
public import proofs.«01_k».proof.Proof.Gen.ProjectionIdeal.Launch
public import proofs.«01_k».proof.Proof.Gen.ProjectionIdeal.Points
public import proofs.«01_k».proof.Proof.Gen.ProjectionIdeal.Frame
public import proofs.«01_k».proof.Proof.Gen.ProjectionIdeal.Value
public import proofs.«01_k».proof.Proof.Gen.PlainProjectionIdeal.Run
public import proofs.«01_k».proof.Proof.Gen.Rotary
public import proofs.«01_k».proof.Proof.Gen.Rotary.Skeleton
public import proofs.«01_k».proof.Proof.Gen.Rotary.Launch
public import proofs.«01_k».proof.Proof.Gen.Rotary.Points
public import proofs.«01_k».proof.Proof.Gen.Rotary.Frame
public import proofs.«01_k».proof.Proof.Gen.RotaryIdeal
public import proofs.«01_k».proof.Proof.Gen.RotaryIdeal.Skeleton
public import proofs.«01_k».proof.Proof.Gen.RotaryIdeal.Launch
public import proofs.«01_k».proof.Proof.Gen.RotaryIdeal.Points
public import proofs.«01_k».proof.Proof.Gen.RotaryIdeal.Frame
public import proofs.«01_k».proof.Proof.Gen.RotaryIdeal.Value
public import proofs.«01_k».proof.Proof.Gen.PlainRotaryIdeal.Run
public import proofs.«01_k».proof.Proof.Gen.Output
public import proofs.«01_k».proof.Proof.Gen.Output.Skeleton
public import proofs.«01_k».proof.Proof.Gen.Output.Launch
public import proofs.«01_k».proof.Proof.Gen.Output.Points
public import proofs.«01_k».proof.Proof.Gen.Output.Frame
public import proofs.«01_k».proof.Proof.Gen.OutputIdeal
public import proofs.«01_k».proof.Proof.Gen.OutputIdeal.Skeleton
public import proofs.«01_k».proof.Proof.Gen.OutputIdeal.Launch
public import proofs.«01_k».proof.Proof.Gen.OutputIdeal.Points
public import proofs.«01_k».proof.Proof.Gen.OutputIdeal.Frame
public import proofs.«01_k».proof.Proof.Gen.OutputIdeal.Value
public import proofs.«01_k».proof.Proof.Gen.PlainOutputIdeal.Run
public import proofs.«01_k».proof.Proof.Gen.ContextOutput
public import proofs.«01_k».proof.Proof.Gen.ContextOutput.Skeleton
public import proofs.«01_k».proof.Proof.Gen.ContextOutput.Launch
public import proofs.«01_k».proof.Proof.Gen.ContextOutput.Points
public import proofs.«01_k».proof.Proof.Gen.ContextOutput.Frame
public import proofs.«01_k».proof.Proof.Gen.ContextOutputIdeal
public import proofs.«01_k».proof.Proof.Gen.ContextOutputIdeal.Skeleton
public import proofs.«01_k».proof.Proof.Gen.ContextOutputIdeal.Launch
public import proofs.«01_k».proof.Proof.Gen.ContextOutputIdeal.Points
public import proofs.«01_k».proof.Proof.Gen.ContextOutputIdeal.Frame
public import proofs.«01_k».proof.Proof.Gen.ContextOutputIdeal.Value
public import proofs.«01_k».proof.Proof.Gen.PlainContextOutputIdeal.Run
public import proofs.«01_k».proof.Proof.AttnValue
public import proofs.«01_k».proof.Proof.GroupedBits
public import proofs.«01_k».proof.Proof.GroupedValue
public import proofs.«01_k».proof.Proof.ContextValue
public import proofs.«01_k».proof.Proof.LatentPlain
public import proofs.«01_k».proof.Proof.LatentProjection
public import proofs.«01_k».proof.Proof.RotaryPlain
public import proofs.«01_k».proof.Proof.LatentOutput
public import proofs.«01_k».proof.Proof.ContextOutput
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The plain attention runs and leaves its arguments; it has no semaphores. -/
theorem frame_reference : Cert.quiescent_ReferenceIdeal := fun m g _ =>
  (θ_run (Cert.ReferenceIdeal.defs (F := Ideal)) _ _).mono
    (fun r h => ⟨fun c => (h c).2, sem_eq_zero_of_no_sems rfl r.2⟩) (Cert.ReferenceIdeal.Value.run m g)

theorem attention : Cert.algebraic_KernelIdeal_ReferenceIdeal_pre_finite := by
  intro m g m' g' hpre hagree
  refine ⟨fun c => Cert.Attn.atResult (Cert.Attn.kernelRow (m (c.tc.loc Cert.KernelIdeal.main_arg0)) (m (c.tc.loc Cert.KernelIdeal.main_arg1))
    (m (c.tc.loc Cert.KernelIdeal.main_arg2)) (m (c.tc.loc Cert.KernelIdeal.main_arg3)) (m (c.tc.loc Cert.KernelIdeal.main_arg4))), ?_, ?_⟩
  · exact (θ_run (Cert.KernelIdeal.defs (F := Ideal)) _ _).mono (fun r h c => ⟨(h c).1.trans (Cert.Attn.final m c), (h c).2⟩) (Cert.KernelIdeal.Value.run_blocks m g)
  · refine (θ_run (Cert.ReferenceIdeal.defs (F := Ideal)) _ _).mono (fun r h c => ⟨(h c).1.trans ?_, (h c).2⟩) (Cert.ReferenceIdeal.Value.run m' g')
    obtain ⟨e0, e1, e2, e3, e4⟩ := hagree c
    exact Cert.AttnValue.result_eq m' c _ _ _ _ _ (hpre c) e0 e1 e2 e3 e4

/-- The plain experts run and leave their arguments; they have no semaphores. -/
theorem frame_experts_reference : Cert.quiescent_PlainExpertsIdeal := fun m g _ =>
  (θ_run (Cert.PlainExpertsIdeal.defs (F := Ideal)) _ _).mono
    (fun r h => ⟨fun c => (h c).2, sem_eq_zero_of_no_sems rfl r.2⟩) (Cert.PlainExpertsIdeal.Value.run m g)

/-- The plain context part runs and leaves its arguments; it has no semaphores. -/
theorem frame_context_reference : Cert.quiescent_PlainContextIdeal := fun m g _ =>
  (θ_run (Cert.PlainContextIdeal.defs (F := Ideal)) _ _).mono
    (fun r h => ⟨fun c => (h c).2.2.2.2, sem_eq_zero_of_no_sems rfl r.2⟩) (Cert.PlainContextIdeal.Value.run m g)

/-- The plain latent part runs and leaves its arguments; it has no semaphores. -/
theorem frame_latent_reference : Cert.quiescent_PlainLatentIdeal := fun m g _ =>
  (θ_run (Cert.PlainLatentIdeal.defs (F := Ideal)) _ _).mono
    (fun r h => ⟨fun c => (h c).2, sem_eq_zero_of_no_sems rfl r.2⟩) (Cert.PlainLatentIdeal.Value.run m g)

/-- The plain projection of the latents runs and leaves its arguments; it has no semaphores. -/
theorem frame_projection_reference : Cert.quiescent_PlainProjectionIdeal := fun m g _ =>
  (θ_run (Cert.PlainProjectionIdeal.defs (F := Ideal)) _ _).mono
    (fun r h => ⟨fun c => (h c).2.2.2, sem_eq_zero_of_no_sems rfl r.2⟩) (Cert.PlainProjectionIdeal.Value.run m g)

/-- The plain projection with norms and rotation runs and leaves its arguments; it has no semaphores. -/
theorem frame_rotary_reference : Cert.quiescent_PlainRotaryIdeal := fun m g _ =>
  (θ_run (Cert.PlainRotaryIdeal.defs (F := Ideal)) _ _).mono
    (fun r h => ⟨fun c => (h c).2.2.2, sem_eq_zero_of_no_sems rfl r.2⟩) (Cert.PlainRotaryIdeal.Value.run m g)

/-- The plain output projection of the latents runs and leaves its arguments; it has no semaphores. -/
theorem frame_output_reference : Cert.quiescent_PlainOutputIdeal := fun m g _ =>
  (θ_run (Cert.PlainOutputIdeal.defs (F := Ideal)) _ _).mono
    (fun r h => ⟨fun c => (h c).2, sem_eq_zero_of_no_sems rfl r.2⟩) (Cert.PlainOutputIdeal.Value.run m g)

/-- The plain output projection of the context runs and leaves its arguments; it has no semaphores. -/
theorem frame_context_output_reference : Cert.quiescent_PlainContextOutputIdeal := fun m g _ =>
  (θ_run (Cert.PlainContextOutputIdeal.defs (F := Ideal)) _ _).mono
    (fun r h => ⟨fun c => (h c).2, sem_eq_zero_of_no_sems rfl r.2⟩) (Cert.PlainContextOutputIdeal.Value.run m g)

theorem claim : Cert.Claim := ⟨Cert.Kernel.Gen.facts, Cert.KernelIdeal.Gen.facts, Cert.ReferenceIdeal.Gen.facts, Cert.Experts.Gen.facts,
  Cert.ExpertsIdeal.Gen.facts, Cert.PlainExpertsIdeal.Gen.facts, Cert.Context.Gen.facts,
  Cert.ContextIdeal.Gen.facts, Cert.PlainContextIdeal.Gen.facts, Cert.Latent.Gen.facts, Cert.LatentIdeal.Gen.facts,
  Cert.PlainLatentIdeal.Gen.facts, Cert.Projection.Gen.facts, Cert.ProjectionIdeal.Gen.facts, Cert.PlainProjectionIdeal.Gen.facts,
  Cert.Rotary.Gen.facts, Cert.RotaryIdeal.Gen.facts, Cert.PlainRotaryIdeal.Gen.facts,
  Cert.Output.Gen.facts, Cert.OutputIdeal.Gen.facts, Cert.PlainOutputIdeal.Gen.facts,
  Cert.ContextOutput.Gen.facts, Cert.ContextOutputIdeal.Gen.facts, Cert.PlainContextOutputIdeal.Gen.facts,
  Cert.Pre_finite.Gen.facts, Cert.Pre_expert_range.Gen.facts, Cert.Pre_context_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, Cert.Grouped.frame_bits, Cert.Grouped.frame_ideal,
  frame_experts_reference, fun m ρ _ => frame_experts_reference m ρ trivial,
  fun m ρ _ => Cert.Context.Gen.frame m ρ, fun m ρ _ => Cert.ContextIdeal.Gen.frame m ρ, fun m ρ _ => Cert.ContextIdeal.Gen.frame m ρ,
  frame_context_reference, fun m ρ _ => frame_context_reference m ρ trivial,
  fun m ρ _ => Cert.Latent.Gen.frame m ρ, fun m ρ _ => Cert.LatentIdeal.Gen.frame m ρ, frame_latent_reference,
  fun m ρ _ => Cert.Projection.Gen.frame m ρ, fun m ρ _ => Cert.ProjectionIdeal.Gen.frame m ρ, frame_projection_reference,
  fun m ρ _ => Cert.Rotary.Gen.frame m ρ, fun m ρ _ => Cert.RotaryIdeal.Gen.frame m ρ, frame_rotary_reference,
  fun m ρ _ => Cert.Output.Gen.frame m ρ, fun m ρ _ => Cert.OutputIdeal.Gen.frame m ρ, frame_output_reference,
  fun m ρ _ => Cert.ContextOutput.Gen.frame m ρ, fun m ρ _ => Cert.ContextOutputIdeal.Gen.frame m ρ, frame_context_output_reference,
  trivial, attention, trivial, Cert.Grouped.experts_agree, trivial, Cert.Context3.context_agree, trivial, Cert.Latent4.latent_agree,
  trivial, Cert.Latent5.projection_agree, trivial, Cert.Latent6.rotary_agree,
  trivial, Cert.Latent7.output_agree, trivial, Cert.Context8.output_agree⟩

end Cert.Proof

end
